-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSIdeal_mix_s_finite [hPre_mix_s_finite : Cert.Pre_mix_s_finite.Facts] (m : (ℓ : Loc Cert.MixSIdeal.nD Cert.MixSIdeal.τ Cert.MixSIdeal.sig) → Buf (Elt Ideal) ℓ) : Prop :=
  ∀ c : Dev Cert.MixSIdeal.nD,
    (Cert.Pre_mix_s_finite.fn (F := Ideal) (m ((c.tc : Thread Cert.MixSIdeal.nD Cert.MixSIdeal.τ).loc Cert.MixSIdeal.main_arg0)) (m ((c.tc : Thread Cert.MixSIdeal.nD Cert.MixSIdeal.τ).loc Cert.MixSIdeal.main_arg1)) (m ((c.tc : Thread Cert.MixSIdeal.nD Cert.MixSIdeal.τ).loc Cert.MixSIdeal.main_arg2)) (m ((c.tc : Thread Cert.MixSIdeal.nD Cert.MixSIdeal.τ).loc Cert.MixSIdeal.main_arg3)) (m ((c.tc : Thread Cert.MixSIdeal.nD Cert.MixSIdeal.τ).loc Cert.MixSIdeal.main_arg4)) (m ((c.tc : Thread Cert.MixSIdeal.nD Cert.MixSIdeal.τ).loc Cert.MixSIdeal.main_arg5)) (m ((c.tc : Thread Cert.MixSIdeal.nD Cert.MixSIdeal.τ).loc Cert.MixSIdeal.main_arg6))) = (fun _ => 1#1)

def Pre_MixSRefIdeal (m : (ℓ : Loc Cert.MixSRefIdeal.nD Cert.MixSRefIdeal.τ Cert.MixSRefIdeal.sig) → Buf (Elt Ideal) ℓ) : Prop :=
  True

def Pre_MixSRefIdeal_mix_s_finite [hPre_mix_s_finite : Cert.Pre_mix_s_finite.Facts] (m : (ℓ : Loc Cert.MixSRefIdeal.nD Cert.MixSRefIdeal.τ Cert.MixSRefIdeal.sig) → Buf (Elt Ideal) ℓ) : Prop :=
  ∀ c : Dev Cert.MixSRefIdeal.nD,
    (Cert.Pre_mix_s_finite.fn (F := Ideal) (m ((c.tc : Thread Cert.MixSRefIdeal.nD Cert.MixSRefIdeal.τ).loc Cert.MixSRefIdeal.main_arg0)) (m ((c.tc : Thread Cert.MixSRefIdeal.nD Cert.MixSRefIdeal.τ).loc Cert.MixSRefIdeal.main_arg1)) (m ((c.tc : Thread Cert.MixSRefIdeal.nD Cert.MixSRefIdeal.τ).loc Cert.MixSRefIdeal.main_arg2)) (m ((c.tc : Thread Cert.MixSRefIdeal.nD Cert.MixSRefIdeal.τ).loc Cert.MixSRefIdeal.main_arg3)) (m ((c.tc : Thread Cert.MixSRefIdeal.nD Cert.MixSRefIdeal.τ).loc Cert.MixSRefIdeal.main_arg4)) (m ((c.tc : Thread Cert.MixSRefIdeal.nD Cert.MixSRefIdeal.τ).loc Cert.MixSRefIdeal.main_arg5)) (m ((c.tc : Thread Cert.MixSRefIdeal.nD Cert.MixSRefIdeal.τ).loc Cert.MixSRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_proj_finite [hPre_in_proj_finite : Cert.Pre_in_proj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_proj_finite [hPre_in_proj_finite : Cert.Pre_in_proj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))) = (fun _ => 1#1)

def Pre_Wff2 (m : (ℓ : Loc Cert.Wff2.nD Cert.Wff2.τ Cert.Wff2.sig) → Buf (Elt Bits) ℓ) : Prop :=
  True

def Pre_Wff2Ideal (m : (ℓ : Loc Cert.Wff2Ideal.nD Cert.Wff2Ideal.τ Cert.Wff2Ideal.sig) → Buf (Elt Ideal) ℓ) : Prop :=
  True

def Pre_Wff2RefIdeal (m : (ℓ : Loc Cert.Wff2RefIdeal.nD Cert.Wff2RefIdeal.τ Cert.Wff2RefIdeal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFRefIdeal (m : (ℓ : Loc Cert.MixFRefIdeal.nD Cert.MixFRefIdeal.τ Cert.MixFRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_mix_out_finite [hPre_mix_out_finite : Cert.Pre_mix_out_finite.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_mix_out_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))) = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_mix_out_finite [hPre_mix_out_finite : Cert.Pre_mix_out_finite.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8))) = (fun _ => 1#1)

def Pre_MixA (m : (ℓ : Loc Cert.MixA.nD Cert.MixA.τ Cert.MixA.sig) → Buf (Elt Bits) ℓ) : Prop :=
  True

def Pre_MixAIdeal (m : (ℓ : Loc Cert.MixAIdeal.nD Cert.MixAIdeal.τ Cert.MixAIdeal.sig) → Buf (Elt Ideal) ℓ) : Prop :=
  True

def Pre_MixARefIdeal (m : (ℓ : Loc Cert.MixARefIdeal.nD Cert.MixARefIdeal.τ Cert.MixARefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6))
      ∧ r.2.sem = fun _ => 0)

def quiescent_MixSIdeal_pre_mix_s_finite [hMixSIdeal : Cert.MixSIdeal.Facts] [hPre_mix_s_finite : Cert.Pre_mix_s_finite.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal_mix_s_finite m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6))
      ∧ r.2.sem = fun _ => 0)

def quiescent_MixSRefIdeal_pre_mix_s_finite [hMixSRefIdeal : Cert.MixSRefIdeal.Facts] [hPre_mix_s_finite : Cert.Pre_mix_s_finite.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal_mix_s_finite m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjIdeal_pre_in_proj_finite [hInProjIdeal : Cert.InProjIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_proj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_InProjRefIdeal_pre_in_proj_finite [hInProjRefIdeal : Cert.InProjRefIdeal.Facts] [hPre_in_proj_finite : Cert.Pre_in_proj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_proj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Wff2 [hWff2 : Cert.Wff2.Facts] : Prop :=
  ∀ (m : (ℓ : Loc Cert.Wff2.nD Cert.Wff2.τ Cert.Wff2.sig) → Buf (Elt Bits) ℓ) (g : Dev Cert.Wff2.nD → PrngReg), Pre_Wff2 m →
    θ_run (Cert.Wff2.defs (F := Bits)) (onTc (τ := Cert.Wff2.τ) (Cert.Wff2.main (F := Bits))) ⟨m, fun _ => 0, g⟩ (fun r => (∀ c : Dev Cert.Wff2.nD,
      r.2.mem ((c.tc : Thread Cert.Wff2.nD Cert.Wff2.τ).loc Cert.Wff2.main_arg0) = m ((c.tc : Thread Cert.Wff2.nD Cert.Wff2.τ).loc Cert.Wff2.main_arg0)
      ∧ r.2.mem ((c.tc : Thread Cert.Wff2.nD Cert.Wff2.τ).loc Cert.Wff2.main_arg1) = m ((c.tc : Thread Cert.Wff2.nD Cert.Wff2.τ).loc Cert.Wff2.main_arg1))
      ∧ r.2.sem = fun _ => 0)

def quiescent_Wff2Ideal [hWff2Ideal : Cert.Wff2Ideal.Facts] : Prop :=
  ∀ (m : (ℓ : Loc Cert.Wff2Ideal.nD Cert.Wff2Ideal.τ Cert.Wff2Ideal.sig) → Buf (Elt Ideal) ℓ) (g : Dev Cert.Wff2Ideal.nD → PrngReg), Pre_Wff2Ideal m →
    θ_run (Cert.Wff2Ideal.defs (F := Ideal)) (onTc (τ := Cert.Wff2Ideal.τ) (Cert.Wff2Ideal.main (F := Ideal))) ⟨m, fun _ => 0, g⟩ (fun r => (∀ c : Dev Cert.Wff2Ideal.nD,
      r.2.mem ((c.tc : Thread Cert.Wff2Ideal.nD Cert.Wff2Ideal.τ).loc Cert.Wff2Ideal.main_arg0) = m ((c.tc : Thread Cert.Wff2Ideal.nD Cert.Wff2Ideal.τ).loc Cert.Wff2Ideal.main_arg0)
      ∧ r.2.mem ((c.tc : Thread Cert.Wff2Ideal.nD Cert.Wff2Ideal.τ).loc Cert.Wff2Ideal.main_arg1) = m ((c.tc : Thread Cert.Wff2Ideal.nD Cert.Wff2Ideal.τ).loc Cert.Wff2Ideal.main_arg1))
      ∧ r.2.sem = fun _ => 0)

def quiescent_Wff2RefIdeal [hWff2RefIdeal : Cert.Wff2RefIdeal.Facts] : Prop :=
  ∀ (m : (ℓ : Loc Cert.Wff2RefIdeal.nD Cert.Wff2RefIdeal.τ Cert.Wff2RefIdeal.sig) → Buf (Elt Ideal) ℓ) (g : Dev Cert.Wff2RefIdeal.nD → PrngReg), Pre_Wff2RefIdeal m →
    θ_run (Cert.Wff2RefIdeal.defs (F := Ideal)) (onTc (τ := Cert.Wff2RefIdeal.τ) (Cert.Wff2RefIdeal.main (F := Ideal))) ⟨m, fun _ => 0, g⟩ (fun r => (∀ c : Dev Cert.Wff2RefIdeal.nD,
      r.2.mem ((c.tc : Thread Cert.Wff2RefIdeal.nD Cert.Wff2RefIdeal.τ).loc Cert.Wff2RefIdeal.main_arg0) = m ((c.tc : Thread Cert.Wff2RefIdeal.nD Cert.Wff2RefIdeal.τ).loc Cert.Wff2RefIdeal.main_arg0)
      ∧ r.2.mem ((c.tc : Thread Cert.Wff2RefIdeal.nD Cert.Wff2RefIdeal.τ).loc Cert.Wff2RefIdeal.main_arg1) = m ((c.tc : Thread Cert.Wff2RefIdeal.nD Cert.Wff2RefIdeal.τ).loc Cert.Wff2RefIdeal.main_arg1))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4))
      ∧ r.2.sem = fun _ => 0)

def quiescent_MixFRefIdeal [hMixFRefIdeal : Cert.MixFRefIdeal.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutIdeal_pre_mix_out_finite [hMixOutIdeal : Cert.MixOutIdeal.Facts] [hPre_mix_out_finite : Cert.Pre_mix_out_finite.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_mix_out_finite m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8))
      ∧ r.2.sem = fun _ => 0)

def quiescent_MixOutRefIdeal_pre_mix_out_finite [hMixOutRefIdeal : Cert.MixOutRefIdeal.Facts] [hPre_mix_out_finite : Cert.Pre_mix_out_finite.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_mix_out_finite m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8))
      ∧ r.2.sem = fun _ => 0)

def quiescent_MixA [hMixA : Cert.MixA.Facts] : Prop :=
  ∀ (m : (ℓ : Loc Cert.MixA.nD Cert.MixA.τ Cert.MixA.sig) → Buf (Elt Bits) ℓ) (g : Dev Cert.MixA.nD → PrngReg), Pre_MixA m →
    θ_run (Cert.MixA.defs (F := Bits)) (onTc (τ := Cert.MixA.τ) (Cert.MixA.main (F := Bits))) ⟨m, fun _ => 0, g⟩ (fun r => (∀ c : Dev Cert.MixA.nD,
      r.2.mem ((c.tc : Thread Cert.MixA.nD Cert.MixA.τ).loc Cert.MixA.main_arg0) = m ((c.tc : Thread Cert.MixA.nD Cert.MixA.τ).loc Cert.MixA.main_arg0)
      ∧ r.2.mem ((c.tc : Thread Cert.MixA.nD Cert.MixA.τ).loc Cert.MixA.main_arg1) = m ((c.tc : Thread Cert.MixA.nD Cert.MixA.τ).loc Cert.MixA.main_arg1)
      ∧ r.2.mem ((c.tc : Thread Cert.MixA.nD Cert.MixA.τ).loc Cert.MixA.main_arg2) = m ((c.tc : Thread Cert.MixA.nD Cert.MixA.τ).loc Cert.MixA.main_arg2)
      ∧ r.2.mem ((c.tc : Thread Cert.MixA.nD Cert.MixA.τ).loc Cert.MixA.main_arg3) = m ((c.tc : Thread Cert.MixA.nD Cert.MixA.τ).loc Cert.MixA.main_arg3)
      ∧ r.2.mem ((c.tc : Thread Cert.MixA.nD Cert.MixA.τ).loc Cert.MixA.main_arg4) = m ((c.tc : Thread Cert.MixA.nD Cert.MixA.τ).loc Cert.MixA.main_arg4))
      ∧ r.2.sem = fun _ => 0)

def quiescent_MixAIdeal [hMixAIdeal : Cert.MixAIdeal.Facts] : Prop :=
  ∀ (m : (ℓ : Loc Cert.MixAIdeal.nD Cert.MixAIdeal.τ Cert.MixAIdeal.sig) → Buf (Elt Ideal) ℓ) (g : Dev Cert.MixAIdeal.nD → PrngReg), Pre_MixAIdeal m →
    θ_run (Cert.MixAIdeal.defs (F := Ideal)) (onTc (τ := Cert.MixAIdeal.τ) (Cert.MixAIdeal.main (F := Ideal))) ⟨m, fun _ => 0, g⟩ (fun r => (∀ c : Dev Cert.MixAIdeal.nD,
      r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
      ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
      ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
      ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3)
      ∧ r.2.mem ((c.tc : Thread Cert.MixAIdeal.nD Cert.MixAIdeal.τ).loc Cert.MixAIdeal.main_arg4) = m ((c.tc : Thread Cert.MixAIdeal.nD Cert.MixAIdeal.τ).loc Cert.MixAIdeal.main_arg4))
      ∧ r.2.sem = fun _ => 0)

def quiescent_MixARefIdeal [hMixARefIdeal : Cert.MixARefIdeal.Facts] : Prop :=
  ∀ (m : (ℓ : Loc Cert.MixARefIdeal.nD Cert.MixARefIdeal.τ Cert.MixARefIdeal.sig) → Buf (Elt Ideal) ℓ) (g : Dev Cert.MixARefIdeal.nD → PrngReg), Pre_MixARefIdeal m →
    θ_run (Cert.MixARefIdeal.defs (F := Ideal)) (onTc (τ := Cert.MixARefIdeal.τ) (Cert.MixARefIdeal.main (F := Ideal))) ⟨m, fun _ => 0, g⟩ (fun r => (∀ c : Dev Cert.MixARefIdeal.nD,
      r.2.mem ((c.tc : Thread Cert.MixARefIdeal.nD Cert.MixARefIdeal.τ).loc Cert.MixARefIdeal.main_arg0) = m ((c.tc : Thread Cert.MixARefIdeal.nD Cert.MixARefIdeal.τ).loc Cert.MixARefIdeal.main_arg0)
      ∧ r.2.mem ((c.tc : Thread Cert.MixARefIdeal.nD Cert.MixARefIdeal.τ).loc Cert.MixARefIdeal.main_arg1) = m ((c.tc : Thread Cert.MixARefIdeal.nD Cert.MixARefIdeal.τ).loc Cert.MixARefIdeal.main_arg1)
      ∧ r.2.mem ((c.tc : Thread Cert.MixARefIdeal.nD Cert.MixARefIdeal.τ).loc Cert.MixARefIdeal.main_arg2) = m ((c.tc : Thread Cert.MixARefIdeal.nD Cert.MixARefIdeal.τ).loc Cert.MixARefIdeal.main_arg2)
      ∧ r.2.mem ((c.tc : Thread Cert.MixARefIdeal.nD Cert.MixARefIdeal.τ).loc Cert.MixARefIdeal.main_arg3) = m ((c.tc : Thread Cert.MixARefIdeal.nD Cert.MixARefIdeal.τ).loc Cert.MixARefIdeal.main_arg3)
      ∧ r.2.mem ((c.tc : Thread Cert.MixARefIdeal.nD Cert.MixARefIdeal.τ).loc Cert.MixARefIdeal.main_arg4) = m ((c.tc : Thread Cert.MixARefIdeal.nD Cert.MixARefIdeal.τ).loc Cert.MixARefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_MixS_MixSIdeal : Prop :=
  IdealRules.named_const.Statement Cert.MixSIdeal.κ "gelu_c" .f32 0x3D372713#32 ((8943 / 200000 : ℝ) : EReal)
  ∧ IdealRules.named_const.Statement Cert.MixSIdeal.κ "gelu_3c" .f32 0x3E095D4F#32 ((26829 / 200000 : ℝ) : EReal)

def algebraic_MixSIdeal_MixSRefIdeal_pre_mix_s_finite [hMixSIdeal : Cert.MixSIdeal.Facts] [hMixSRefIdeal : Cert.MixSRefIdeal.Facts] [hPre_mix_s_finite : Cert.Pre_mix_s_finite.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal_mix_s_finite m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)
      ∧ m' ((c.tc : Thread Cert.MixSRefIdeal.nD Cert.MixSRefIdeal.τ).loc Cert.MixSRefIdeal.main_arg6) = m ((c.tc : Thread Cert.MixSIdeal.nD Cert.MixSIdeal.τ).loc Cert.MixSIdeal.main_arg6)) →
    ∃ (v0 : (c : Dev Cert.MixSIdeal.nD) → Buf (Elt Ideal) ((c.tc : Thread Cert.MixSIdeal.nD Cert.MixSIdeal.τ).loc Cert.MixSIdeal.main_v4_0)) (v1 : (c : Dev Cert.MixSIdeal.nD) → Buf (Elt Ideal) ((c.tc : Thread Cert.MixSIdeal.nD Cert.MixSIdeal.τ).loc Cert.MixSIdeal.main_v4_1)) (v2 : (c : Dev Cert.MixSIdeal.nD) → Buf (Elt Ideal) ((c.tc : Thread Cert.MixSIdeal.nD Cert.MixSIdeal.τ).loc Cert.MixSIdeal.main_v4_2)) (v3 : (c : Dev Cert.MixSIdeal.nD) → Buf (Elt Ideal) ((c.tc : Thread Cert.MixSIdeal.nD Cert.MixSIdeal.τ).loc Cert.MixSIdeal.main_v4_3)) (v4 : (c : Dev Cert.MixSIdeal.nD) → Buf (Elt Ideal) ((c.tc : Thread Cert.MixSIdeal.nD Cert.MixSIdeal.τ).loc Cert.MixSIdeal.main_v4_4)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v4_0) = v0 c
          ∧ r.2.mem ((c.tc : Thread Cert.MixSIdeal.nD Cert.MixSIdeal.τ).loc Cert.MixSIdeal.main_v4_1) = v1 c
          ∧ r.2.mem ((c.tc : Thread Cert.MixSIdeal.nD Cert.MixSIdeal.τ).loc Cert.MixSIdeal.main_v4_2) = v2 c
          ∧ r.2.mem ((c.tc : Thread Cert.MixSIdeal.nD Cert.MixSIdeal.τ).loc Cert.MixSIdeal.main_v4_3) = v3 c
          ∧ r.2.mem ((c.tc : Thread Cert.MixSIdeal.nD Cert.MixSIdeal.τ).loc Cert.MixSIdeal.main_v4_4) = v4 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v170) = v0 c
          ∧ r.2.mem ((c.tc : Thread Cert.MixSRefIdeal.nD Cert.MixSRefIdeal.τ).loc Cert.MixSRefIdeal.main_v105) = v1 c
          ∧ r.2.mem ((c.tc : Thread Cert.MixSRefIdeal.nD Cert.MixSRefIdeal.τ).loc Cert.MixSRefIdeal.main_v171) = v2 c
          ∧ r.2.mem ((c.tc : Thread Cert.MixSRefIdeal.nD Cert.MixSRefIdeal.τ).loc Cert.MixSRefIdeal.main_v172) = v3 c
          ∧ r.2.mem ((c.tc : Thread Cert.MixSRefIdeal.nD Cert.MixSRefIdeal.τ).loc Cert.MixSRefIdeal.main_v173) = v4 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5)
          ∧ r.2.mem ((c.tc : Thread Cert.MixSRefIdeal.nD Cert.MixSRefIdeal.τ).loc Cert.MixSRefIdeal.main_arg6) = m' ((c.tc : Thread Cert.MixSRefIdeal.nD Cert.MixSRefIdeal.τ).loc Cert.MixSRefIdeal.main_arg6))

def preserves_InProj_InProjIdeal : Prop :=
  True

def algebraic_InProjIdeal_InProjRefIdeal_pre_in_proj_finite [hInProjIdeal : Cert.InProjIdeal.Facts] [hInProjRefIdeal : Cert.InProjRefIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_proj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v39) = v0 c
          ∧ r.2.mem ((c.tc : Thread Cert.InProjRefIdeal.nD Cert.InProjRefIdeal.τ).loc Cert.InProjRefIdeal.main_v40) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Wff2_Wff2Ideal : Prop :=
  True

def algebraic_Wff2Ideal_Wff2RefIdeal [hWff2Ideal : Cert.Wff2Ideal.Facts] [hWff2RefIdeal : Cert.Wff2RefIdeal.Facts] : Prop :=
  ∀ (m : (ℓ : Loc Cert.Wff2Ideal.nD Cert.Wff2Ideal.τ Cert.Wff2Ideal.sig) → Buf (Elt Ideal) ℓ) (g : Dev Cert.Wff2Ideal.nD → PrngReg)
    (m' : (ℓ : Loc Cert.Wff2RefIdeal.nD Cert.Wff2RefIdeal.τ Cert.Wff2RefIdeal.sig) → Buf (Elt Ideal) ℓ) (g' : Dev Cert.Wff2RefIdeal.nD → PrngReg), Pre_Wff2Ideal m →
    (∀ c : Dev Cert.Wff2Ideal.nD,
      m' ((c.tc : Thread Cert.Wff2RefIdeal.nD Cert.Wff2RefIdeal.τ).loc Cert.Wff2RefIdeal.main_arg0) = m ((c.tc : Thread Cert.Wff2Ideal.nD Cert.Wff2Ideal.τ).loc Cert.Wff2Ideal.main_arg0)
      ∧ m' ((c.tc : Thread Cert.Wff2RefIdeal.nD Cert.Wff2RefIdeal.τ).loc Cert.Wff2RefIdeal.main_arg1) = m ((c.tc : Thread Cert.Wff2Ideal.nD Cert.Wff2Ideal.τ).loc Cert.Wff2Ideal.main_arg1)) →
    ∃ (v0 : (c : Dev Cert.Wff2Ideal.nD) → Buf (Elt Ideal) ((c.tc : Thread Cert.Wff2Ideal.nD Cert.Wff2Ideal.τ).loc Cert.Wff2Ideal.main_v0)),
      θ_run (Cert.Wff2Ideal.defs (F := Ideal)) (onTc (τ := Cert.Wff2Ideal.τ) (Cert.Wff2Ideal.main (F := Ideal))) ⟨m, fun _ => 0, g⟩ (fun r => ∀ c : Dev Cert.Wff2Ideal.nD,
          r.2.mem ((c.tc : Thread Cert.Wff2Ideal.nD Cert.Wff2Ideal.τ).loc Cert.Wff2Ideal.main_v0) = v0 c
          ∧ r.2.mem ((c.tc : Thread Cert.Wff2Ideal.nD Cert.Wff2Ideal.τ).loc Cert.Wff2Ideal.main_arg0) = m ((c.tc : Thread Cert.Wff2Ideal.nD Cert.Wff2Ideal.τ).loc Cert.Wff2Ideal.main_arg0)
          ∧ r.2.mem ((c.tc : Thread Cert.Wff2Ideal.nD Cert.Wff2Ideal.τ).loc Cert.Wff2Ideal.main_arg1) = m ((c.tc : Thread Cert.Wff2Ideal.nD Cert.Wff2Ideal.τ).loc Cert.Wff2Ideal.main_arg1))
      ∧ θ_run (Cert.Wff2RefIdeal.defs (F := Ideal)) (onTc (τ := Cert.Wff2RefIdeal.τ) (Cert.Wff2RefIdeal.main (F := Ideal))) ⟨m', fun _ => 0, g'⟩ (fun r => ∀ c : Dev Cert.Wff2RefIdeal.nD,
          r.2.mem ((c.tc : Thread Cert.Wff2RefIdeal.nD Cert.Wff2RefIdeal.τ).loc Cert.Wff2RefIdeal.main_v10) = v0 c
          ∧ r.2.mem ((c.tc : Thread Cert.Wff2RefIdeal.nD Cert.Wff2RefIdeal.τ).loc Cert.Wff2RefIdeal.main_arg0) = m' ((c.tc : Thread Cert.Wff2RefIdeal.nD Cert.Wff2RefIdeal.τ).loc Cert.Wff2RefIdeal.main_arg0)
          ∧ r.2.mem ((c.tc : Thread Cert.Wff2RefIdeal.nD Cert.Wff2RefIdeal.τ).loc Cert.Wff2RefIdeal.main_arg1) = m' ((c.tc : Thread Cert.Wff2RefIdeal.nD Cert.Wff2RefIdeal.τ).loc Cert.Wff2RefIdeal.main_arg1))

def preserves_MixF_MixFIdeal : Prop :=
  True

def algebraic_MixFIdeal_MixFRefIdeal [hMixFIdeal : Cert.MixFIdeal.Facts] [hMixFRefIdeal : Cert.MixFRefIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRefIdeal.nD Cert.MixFRefIdeal.τ Cert.MixFRefIdeal.sig) → Buf (Elt Ideal) ℓ) (g' : Dev Cert.MixFRefIdeal.nD → PrngReg), Pre_MixFIdeal m →
    (∀ c : Dev Cert.MixFIdeal.nD,
      m' ((c.tc : Thread Cert.MixFRefIdeal.nD Cert.MixFRefIdeal.τ).loc Cert.MixFRefIdeal.main_arg0) = m ((c.tc : Thread Cert.MixFIdeal.nD Cert.MixFIdeal.τ).loc Cert.MixFIdeal.main_arg0)
      ∧ m' ((c.tc : Thread Cert.MixFRefIdeal.nD Cert.MixFRefIdeal.τ).loc Cert.MixFRefIdeal.main_arg1) = m ((c.tc : Thread Cert.MixFIdeal.nD Cert.MixFIdeal.τ).loc Cert.MixFIdeal.main_arg1)
      ∧ m' ((c.tc : Thread Cert.MixFRefIdeal.nD Cert.MixFRefIdeal.τ).loc Cert.MixFRefIdeal.main_arg2) = m ((c.tc : Thread Cert.MixFIdeal.nD Cert.MixFIdeal.τ).loc Cert.MixFIdeal.main_arg2)
      ∧ m' ((c.tc : Thread Cert.MixFRefIdeal.nD Cert.MixFRefIdeal.τ).loc Cert.MixFRefIdeal.main_arg3) = m ((c.tc : Thread Cert.MixFIdeal.nD Cert.MixFIdeal.τ).loc Cert.MixFIdeal.main_arg3)
      ∧ m' ((c.tc : Thread Cert.MixFRefIdeal.nD Cert.MixFRefIdeal.τ).loc Cert.MixFRefIdeal.main_arg4) = m ((c.tc : Thread Cert.MixFIdeal.nD Cert.MixFIdeal.τ).loc Cert.MixFIdeal.main_arg4)) →
    ∃ (v0 : (c : Dev Cert.MixFIdeal.nD) → Buf (Elt Ideal) ((c.tc : Thread Cert.MixFIdeal.nD Cert.MixFIdeal.τ).loc Cert.MixFIdeal.main_v3)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v3) = v0 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4))
      ∧ θ_run (Cert.MixFRefIdeal.defs (F := Ideal)) (onTc (τ := Cert.MixFRefIdeal.τ) (Cert.MixFRefIdeal.main (F := Ideal))) ⟨m', fun _ => 0, g'⟩ (fun r => ∀ c : Dev Cert.MixFRefIdeal.nD,
          r.2.mem ((c.tc : Thread Cert.MixFRefIdeal.nD Cert.MixFRefIdeal.τ).loc Cert.MixFRefIdeal.main_v69) = v0 c
          ∧ r.2.mem ((c.tc : Thread Cert.MixFRefIdeal.nD Cert.MixFRefIdeal.τ).loc Cert.MixFRefIdeal.main_arg0) = m' ((c.tc : Thread Cert.MixFRefIdeal.nD Cert.MixFRefIdeal.τ).loc Cert.MixFRefIdeal.main_arg0)
          ∧ r.2.mem ((c.tc : Thread Cert.MixFRefIdeal.nD Cert.MixFRefIdeal.τ).loc Cert.MixFRefIdeal.main_arg1) = m' ((c.tc : Thread Cert.MixFRefIdeal.nD Cert.MixFRefIdeal.τ).loc Cert.MixFRefIdeal.main_arg1)
          ∧ r.2.mem ((c.tc : Thread Cert.MixFRefIdeal.nD Cert.MixFRefIdeal.τ).loc Cert.MixFRefIdeal.main_arg2) = m' ((c.tc : Thread Cert.MixFRefIdeal.nD Cert.MixFRefIdeal.τ).loc Cert.MixFRefIdeal.main_arg2)
          ∧ r.2.mem ((c.tc : Thread Cert.MixFRefIdeal.nD Cert.MixFRefIdeal.τ).loc Cert.MixFRefIdeal.main_arg3) = m' ((c.tc : Thread Cert.MixFRefIdeal.nD Cert.MixFRefIdeal.τ).loc Cert.MixFRefIdeal.main_arg3)
          ∧ r.2.mem ((c.tc : Thread Cert.MixFRefIdeal.nD Cert.MixFRefIdeal.τ).loc Cert.MixFRefIdeal.main_arg4) = m' ((c.tc : Thread Cert.MixFRefIdeal.nD Cert.MixFRefIdeal.τ).loc Cert.MixFRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v29_0)) (v1 : (c : Dev Cert.FfnIdeal.nD) → Buf (Elt Ideal) ((c.tc : Thread Cert.FfnIdeal.nD Cert.FfnIdeal.τ).loc Cert.FfnIdeal.main_v29_1)) (v2 : (c : Dev Cert.FfnIdeal.nD) → Buf (Elt Ideal) ((c.tc : Thread Cert.FfnIdeal.nD Cert.FfnIdeal.τ).loc Cert.FfnIdeal.main_v29_2)) (v3 : (c : Dev Cert.FfnIdeal.nD) → Buf (Elt Ideal) ((c.tc : Thread Cert.FfnIdeal.nD Cert.FfnIdeal.τ).loc Cert.FfnIdeal.main_v29_3)) (v4 : (c : Dev Cert.FfnIdeal.nD) → Buf (Elt Ideal) ((c.tc : Thread Cert.FfnIdeal.nD Cert.FfnIdeal.τ).loc Cert.FfnIdeal.main_v29_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v29_0) = v0 c
          ∧ r.2.mem ((c.tc : Thread Cert.FfnIdeal.nD Cert.FfnIdeal.τ).loc Cert.FfnIdeal.main_v29_1) = v1 c
          ∧ r.2.mem ((c.tc : Thread Cert.FfnIdeal.nD Cert.FfnIdeal.τ).loc Cert.FfnIdeal.main_v29_2) = v2 c
          ∧ r.2.mem ((c.tc : Thread Cert.FfnIdeal.nD Cert.FfnIdeal.τ).loc Cert.FfnIdeal.main_v29_3) = v3 c
          ∧ r.2.mem ((c.tc : Thread Cert.FfnIdeal.nD Cert.FfnIdeal.τ).loc Cert.FfnIdeal.main_v29_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v94) = v0 c
          ∧ r.2.mem ((c.tc : Thread Cert.FfnRefIdeal.nD Cert.FfnRefIdeal.τ).loc Cert.FfnRefIdeal.main_v95) = v1 c
          ∧ r.2.mem ((c.tc : Thread Cert.FfnRefIdeal.nD Cert.FfnRefIdeal.τ).loc Cert.FfnRefIdeal.main_v96) = v2 c
          ∧ r.2.mem ((c.tc : Thread Cert.FfnRefIdeal.nD Cert.FfnRefIdeal.τ).loc Cert.FfnRefIdeal.main_v97) = v3 c
          ∧ r.2.mem ((c.tc : Thread Cert.FfnRefIdeal.nD Cert.FfnRefIdeal.τ).loc Cert.FfnRefIdeal.main_v98) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_MixOut_MixOutIdeal : Prop :=
  True

def algebraic_MixOutIdeal_MixOutRefIdeal_pre_mix_out_finite [hMixOutIdeal : Cert.MixOutIdeal.Facts] [hMixOutRefIdeal : Cert.MixOutRefIdeal.Facts] [hPre_mix_out_finite : Cert.Pre_mix_out_finite.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_mix_out_finite m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)) →
    ∃ (v0 : (c : Dev Cert.MixOutIdeal.nD) → Buf (Elt Ideal) ((c.tc : Thread Cert.MixOutIdeal.nD Cert.MixOutIdeal.τ).loc Cert.MixOutIdeal.main_v54_0)) (v1 : (c : Dev Cert.MixOutIdeal.nD) → Buf (Elt Ideal) ((c.tc : Thread Cert.MixOutIdeal.nD Cert.MixOutIdeal.τ).loc Cert.MixOutIdeal.main_v54_1)) (v2 : (c : Dev Cert.MixOutIdeal.nD) → Buf (Elt Ideal) ((c.tc : Thread Cert.MixOutIdeal.nD Cert.MixOutIdeal.τ).loc Cert.MixOutIdeal.main_v54_2)) (v3 : (c : Dev Cert.MixOutIdeal.nD) → Buf (Elt Ideal) ((c.tc : Thread Cert.MixOutIdeal.nD Cert.MixOutIdeal.τ).loc Cert.MixOutIdeal.main_v55)) (v4 : (c : Dev Cert.MixOutIdeal.nD) → Buf (Elt Ideal) ((c.tc : Thread Cert.MixOutIdeal.nD Cert.MixOutIdeal.τ).loc Cert.MixOutIdeal.main_v54_4)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v54_0) = v0 c
          ∧ r.2.mem ((c.tc : Thread Cert.MixOutIdeal.nD Cert.MixOutIdeal.τ).loc Cert.MixOutIdeal.main_v54_1) = v1 c
          ∧ r.2.mem ((c.tc : Thread Cert.MixOutIdeal.nD Cert.MixOutIdeal.τ).loc Cert.MixOutIdeal.main_v54_2) = v2 c
          ∧ r.2.mem ((c.tc : Thread Cert.MixOutIdeal.nD Cert.MixOutIdeal.τ).loc Cert.MixOutIdeal.main_v55) = v3 c
          ∧ r.2.mem ((c.tc : Thread Cert.MixOutIdeal.nD Cert.MixOutIdeal.τ).loc Cert.MixOutIdeal.main_v54_4) = v4 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v100) = v0 c
          ∧ r.2.mem ((c.tc : Thread Cert.MixOutRefIdeal.nD Cert.MixOutRefIdeal.τ).loc Cert.MixOutRefIdeal.main_v105) = v1 c
          ∧ r.2.mem ((c.tc : Thread Cert.MixOutRefIdeal.nD Cert.MixOutRefIdeal.τ).loc Cert.MixOutRefIdeal.main_v110) = v2 c
          ∧ r.2.mem ((c.tc : Thread Cert.MixOutRefIdeal.nD Cert.MixOutRefIdeal.τ).loc Cert.MixOutRefIdeal.main_v112) = v3 c
          ∧ r.2.mem ((c.tc : Thread Cert.MixOutRefIdeal.nD Cert.MixOutRefIdeal.τ).loc Cert.MixOutRefIdeal.main_v113) = v4 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8))

def preserves_MixA_MixAIdeal : Prop :=
  True

def algebraic_MixAIdeal_MixARefIdeal [hMixAIdeal : Cert.MixAIdeal.Facts] [hMixARefIdeal : Cert.MixARefIdeal.Facts] : Prop :=
  ∀ (m : (ℓ : Loc Cert.MixAIdeal.nD Cert.MixAIdeal.τ Cert.MixAIdeal.sig) → Buf (Elt Ideal) ℓ) (g : Dev Cert.MixAIdeal.nD → PrngReg)
    (m' : (ℓ : Loc Cert.MixARefIdeal.nD Cert.MixARefIdeal.τ Cert.MixARefIdeal.sig) → Buf (Elt Ideal) ℓ) (g' : Dev Cert.MixARefIdeal.nD → PrngReg), Pre_MixAIdeal m →
    (∀ c : Dev Cert.MixAIdeal.nD,
      m' ((c.tc : Thread Cert.MixARefIdeal.nD Cert.MixARefIdeal.τ).loc Cert.MixARefIdeal.main_arg0) = m ((c.tc : Thread Cert.MixAIdeal.nD Cert.MixAIdeal.τ).loc Cert.MixAIdeal.main_arg0)
      ∧ m' ((c.tc : Thread Cert.MixARefIdeal.nD Cert.MixARefIdeal.τ).loc Cert.MixARefIdeal.main_arg1) = m ((c.tc : Thread Cert.MixAIdeal.nD Cert.MixAIdeal.τ).loc Cert.MixAIdeal.main_arg1)
      ∧ m' ((c.tc : Thread Cert.MixARefIdeal.nD Cert.MixARefIdeal.τ).loc Cert.MixARefIdeal.main_arg2) = m ((c.tc : Thread Cert.MixAIdeal.nD Cert.MixAIdeal.τ).loc Cert.MixAIdeal.main_arg2)
      ∧ m' ((c.tc : Thread Cert.MixARefIdeal.nD Cert.MixARefIdeal.τ).loc Cert.MixARefIdeal.main_arg3) = m ((c.tc : Thread Cert.MixAIdeal.nD Cert.MixAIdeal.τ).loc Cert.MixAIdeal.main_arg3)
      ∧ m' ((c.tc : Thread Cert.MixARefIdeal.nD Cert.MixARefIdeal.τ).loc Cert.MixARefIdeal.main_arg4) = m ((c.tc : Thread Cert.MixAIdeal.nD Cert.MixAIdeal.τ).loc Cert.MixAIdeal.main_arg4)) →
    ∃ (v0 : (c : Dev Cert.MixAIdeal.nD) → Buf (Elt Ideal) ((c.tc : Thread Cert.MixAIdeal.nD Cert.MixAIdeal.τ).loc Cert.MixAIdeal.main_v0_0)) (v1 : (c : Dev Cert.MixAIdeal.nD) → Buf (Elt Ideal) ((c.tc : Thread Cert.MixAIdeal.nD Cert.MixAIdeal.τ).loc Cert.MixAIdeal.main_v0_1)),
      θ_run (Cert.MixAIdeal.defs (F := Ideal)) (onTc (τ := Cert.MixAIdeal.τ) (Cert.MixAIdeal.main (F := Ideal))) ⟨m, fun _ => 0, g⟩ (fun r => ∀ c : Dev Cert.MixAIdeal.nD,
          r.2.mem ((c.tc : Thread Cert.MixAIdeal.nD Cert.MixAIdeal.τ).loc Cert.MixAIdeal.main_v0_0) = v0 c
          ∧ r.2.mem ((c.tc : Thread Cert.MixAIdeal.nD Cert.MixAIdeal.τ).loc Cert.MixAIdeal.main_v0_1) = v1 c
          ∧ r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
          ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
          ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
          ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3)
          ∧ r.2.mem ((c.tc : Thread Cert.MixAIdeal.nD Cert.MixAIdeal.τ).loc Cert.MixAIdeal.main_arg4) = m ((c.tc : Thread Cert.MixAIdeal.nD Cert.MixAIdeal.τ).loc Cert.MixAIdeal.main_arg4))
      ∧ θ_run (Cert.MixARefIdeal.defs (F := Ideal)) (onTc (τ := Cert.MixARefIdeal.τ) (Cert.MixARefIdeal.main (F := Ideal))) ⟨m', fun _ => 0, g'⟩ (fun r => ∀ c : Dev Cert.MixARefIdeal.nD,
          r.2.mem ((c.tc : Thread Cert.MixARefIdeal.nD Cert.MixARefIdeal.τ).loc Cert.MixARefIdeal.main_v83) = v0 c
          ∧ r.2.mem ((c.tc : Thread Cert.MixARefIdeal.nD Cert.MixARefIdeal.τ).loc Cert.MixARefIdeal.main_v72) = v1 c
          ∧ r.2.mem ((c.tc : Thread Cert.MixARefIdeal.nD Cert.MixARefIdeal.τ).loc Cert.MixARefIdeal.main_arg0) = m' ((c.tc : Thread Cert.MixARefIdeal.nD Cert.MixARefIdeal.τ).loc Cert.MixARefIdeal.main_arg0)
          ∧ r.2.mem ((c.tc : Thread Cert.MixARefIdeal.nD Cert.MixARefIdeal.τ).loc Cert.MixARefIdeal.main_arg1) = m' ((c.tc : Thread Cert.MixARefIdeal.nD Cert.MixARefIdeal.τ).loc Cert.MixARefIdeal.main_arg1)
          ∧ r.2.mem ((c.tc : Thread Cert.MixARefIdeal.nD Cert.MixARefIdeal.τ).loc Cert.MixARefIdeal.main_arg2) = m' ((c.tc : Thread Cert.MixARefIdeal.nD Cert.MixARefIdeal.τ).loc Cert.MixARefIdeal.main_arg2)
          ∧ r.2.mem ((c.tc : Thread Cert.MixARefIdeal.nD Cert.MixARefIdeal.τ).loc Cert.MixARefIdeal.main_arg3) = m' ((c.tc : Thread Cert.MixARefIdeal.nD Cert.MixARefIdeal.τ).loc Cert.MixARefIdeal.main_arg3)
          ∧ r.2.mem ((c.tc : Thread Cert.MixARefIdeal.nD Cert.MixARefIdeal.τ).loc Cert.MixARefIdeal.main_arg4) = m' ((c.tc : Thread Cert.MixARefIdeal.nD Cert.MixARefIdeal.τ).loc Cert.MixARefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)) (v2 : (c : Dev Cert.MergeIdeal.nD) → Buf (Elt Ideal) ((c.tc : Thread Cert.MergeIdeal.nD Cert.MergeIdeal.τ).loc Cert.MergeIdeal.main_v5_2)) (v3 : (c : Dev Cert.MergeIdeal.nD) → Buf (Elt Ideal) ((c.tc : Thread Cert.MergeIdeal.nD Cert.MergeIdeal.τ).loc Cert.MergeIdeal.main_v5_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_v5_2) = v2 c
          ∧ r.2.mem ((c.tc : Thread Cert.MergeIdeal.nD Cert.MergeIdeal.τ).loc Cert.MergeIdeal.main_v5_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_v47) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v62) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Adam_AdamIdeal : Prop :=
  IdealRules.named_const.Statement Cert.AdamIdeal.κ "inv_c1" .f32 0x3FC48605#32 ((8388608 / 5463681 : ℝ) : EReal)
  ∧ IdealRules.named_const.Statement Cert.AdamIdeal.κ "inv_c2" .f32 0x42C8E6D3#32 ((268435456 / 2672307 : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg1) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v8) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hKernel : Cert.Kernel.Facts) (hKernelIdeal : Cert.KernelIdeal.Facts) (hReferenceIdeal : Cert.ReferenceIdeal.Facts) (hMixS : Cert.MixS.Facts) (hMixSIdeal : Cert.MixSIdeal.Facts) (hMixSRefIdeal : Cert.MixSRefIdeal.Facts) (hInProj : Cert.InProj.Facts) (hInProjIdeal : Cert.InProjIdeal.Facts) (hInProjRefIdeal : Cert.InProjRefIdeal.Facts) (hWff2 : Cert.Wff2.Facts) (hWff2Ideal : Cert.Wff2Ideal.Facts) (hWff2RefIdeal : Cert.Wff2RefIdeal.Facts) (hMixF : Cert.MixF.Facts) (hMixFIdeal : Cert.MixFIdeal.Facts) (hMixFRefIdeal : Cert.MixFRefIdeal.Facts) (hFfn : Cert.Ffn.Facts) (hFfnIdeal : Cert.FfnIdeal.Facts) (hFfnRefIdeal : Cert.FfnRefIdeal.Facts) (hMixOut : Cert.MixOut.Facts) (hMixOutIdeal : Cert.MixOutIdeal.Facts) (hMixOutRefIdeal : Cert.MixOutRefIdeal.Facts) (hMixA : Cert.MixA.Facts) (hMixAIdeal : Cert.MixAIdeal.Facts) (hMixARefIdeal : Cert.MixARefIdeal.Facts) (hMerge : Cert.Merge.Facts) (hMergeIdeal : Cert.MergeIdeal.Facts) (hMergeRefIdeal : Cert.MergeRefIdeal.Facts) (hAdam : Cert.Adam.Facts) (hAdamIdeal : Cert.AdamIdeal.Facts) (hAdamRefIdeal : Cert.AdamRefIdeal.Facts) (hWin : Cert.Win.Facts) (hWinIdeal : Cert.WinIdeal.Facts) (hWinRefIdeal : Cert.WinRefIdeal.Facts) (hProj : Cert.Proj.Facts) (hProjIdeal : Cert.ProjIdeal.Facts) (hProjRefIdeal : Cert.ProjRefIdeal.Facts) (hPre_mix_s_finite : Cert.Pre_mix_s_finite.Facts) (hPre_in_proj_finite : Cert.Pre_in_proj_finite.Facts) (hPre_ffn_finite : Cert.Pre_ffn_finite.Facts) (hPre_mix_out_finite : Cert.Pre_mix_out_finite.Facts),
    quiescent_Kernel (hKernel := hKernel)
    ∧ quiescent_KernelIdeal (hKernelIdeal := hKernelIdeal)
    ∧ quiescent_ReferenceIdeal (hReferenceIdeal := hReferenceIdeal)
    ∧ quiescent_MixS (hMixS := hMixS)
    ∧ quiescent_MixSIdeal (hMixSIdeal := hMixSIdeal)
    ∧ quiescent_MixSIdeal_pre_mix_s_finite (hMixSIdeal := hMixSIdeal) (hPre_mix_s_finite := hPre_mix_s_finite)
    ∧ quiescent_MixSRefIdeal (hMixSRefIdeal := hMixSRefIdeal)
    ∧ quiescent_MixSRefIdeal_pre_mix_s_finite (hMixSRefIdeal := hMixSRefIdeal) (hPre_mix_s_finite := hPre_mix_s_finite)
    ∧ quiescent_InProj (hInProj := hInProj)
    ∧ quiescent_InProjIdeal (hInProjIdeal := hInProjIdeal)
    ∧ quiescent_InProjIdeal_pre_in_proj_finite (hInProjIdeal := hInProjIdeal) (hPre_in_proj_finite := hPre_in_proj_finite)
    ∧ quiescent_InProjRefIdeal (hInProjRefIdeal := hInProjRefIdeal)
    ∧ quiescent_InProjRefIdeal_pre_in_proj_finite (hInProjRefIdeal := hInProjRefIdeal) (hPre_in_proj_finite := hPre_in_proj_finite)
    ∧ quiescent_Wff2 (hWff2 := hWff2)
    ∧ quiescent_Wff2Ideal (hWff2Ideal := hWff2Ideal)
    ∧ quiescent_Wff2RefIdeal (hWff2RefIdeal := hWff2RefIdeal)
    ∧ quiescent_MixF (hMixF := hMixF)
    ∧ quiescent_MixFIdeal (hMixFIdeal := hMixFIdeal)
    ∧ quiescent_MixFRefIdeal (hMixFRefIdeal := hMixFRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_MixOut (hMixOut := hMixOut)
    ∧ quiescent_MixOutIdeal (hMixOutIdeal := hMixOutIdeal)
    ∧ quiescent_MixOutIdeal_pre_mix_out_finite (hMixOutIdeal := hMixOutIdeal) (hPre_mix_out_finite := hPre_mix_out_finite)
    ∧ quiescent_MixOutRefIdeal (hMixOutRefIdeal := hMixOutRefIdeal)
    ∧ quiescent_MixOutRefIdeal_pre_mix_out_finite (hMixOutRefIdeal := hMixOutRefIdeal) (hPre_mix_out_finite := hPre_mix_out_finite)
    ∧ quiescent_MixA (hMixA := hMixA)
    ∧ quiescent_MixAIdeal (hMixAIdeal := hMixAIdeal)
    ∧ quiescent_MixARefIdeal (hMixARefIdeal := hMixARefIdeal)
    ∧ quiescent_Merge (hMerge := hMerge)
    ∧ quiescent_MergeIdeal (hMergeIdeal := hMergeIdeal)
    ∧ quiescent_MergeRefIdeal (hMergeRefIdeal := hMergeRefIdeal)
    ∧ quiescent_Adam (hAdam := hAdam)
    ∧ quiescent_AdamIdeal (hAdamIdeal := hAdamIdeal)
    ∧ quiescent_AdamRefIdeal (hAdamRefIdeal := hAdamRefIdeal)
    ∧ quiescent_Win (hWin := hWin)
    ∧ quiescent_WinIdeal (hWinIdeal := hWinIdeal)
    ∧ quiescent_WinRefIdeal (hWinRefIdeal := hWinRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal (hKernelIdeal := hKernelIdeal) (hReferenceIdeal := hReferenceIdeal)
    ∧ preserves_MixS_MixSIdeal
    ∧ algebraic_MixSIdeal_MixSRefIdeal_pre_mix_s_finite (hMixSIdeal := hMixSIdeal) (hMixSRefIdeal := hMixSRefIdeal) (hPre_mix_s_finite := hPre_mix_s_finite)
    ∧ preserves_InProj_InProjIdeal
    ∧ algebraic_InProjIdeal_InProjRefIdeal_pre_in_proj_finite (hInProjIdeal := hInProjIdeal) (hInProjRefIdeal := hInProjRefIdeal) (hPre_in_proj_finite := hPre_in_proj_finite)
    ∧ preserves_Wff2_Wff2Ideal
    ∧ algebraic_Wff2Ideal_Wff2RefIdeal (hWff2Ideal := hWff2Ideal) (hWff2RefIdeal := hWff2RefIdeal)
    ∧ preserves_MixF_MixFIdeal
    ∧ algebraic_MixFIdeal_MixFRefIdeal (hMixFIdeal := hMixFIdeal) (hMixFRefIdeal := hMixFRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_MixOut_MixOutIdeal
    ∧ algebraic_MixOutIdeal_MixOutRefIdeal_pre_mix_out_finite (hMixOutIdeal := hMixOutIdeal) (hMixOutRefIdeal := hMixOutRefIdeal) (hPre_mix_out_finite := hPre_mix_out_finite)
    ∧ preserves_MixA_MixAIdeal
    ∧ algebraic_MixAIdeal_MixARefIdeal (hMixAIdeal := hMixAIdeal) (hMixARefIdeal := hMixARefIdeal)
    ∧ preserves_Merge_MergeIdeal
    ∧ algebraic_MergeIdeal_MergeRefIdeal (hMergeIdeal := hMergeIdeal) (hMergeRefIdeal := hMergeRefIdeal)
    ∧ preserves_Adam_AdamIdeal
    ∧ algebraic_AdamIdeal_AdamRefIdeal (hAdamIdeal := hAdamIdeal) (hAdamRefIdeal := hAdamRefIdeal)
    ∧ preserves_Win_WinIdeal
    ∧ algebraic_WinIdeal_WinRefIdeal (hWinIdeal := hWinIdeal) (hWinRefIdeal := hWinRefIdeal)
    ∧ preserves_Proj_ProjIdeal
    ∧ algebraic_ProjIdeal_ProjRefIdeal (hProjIdeal := hProjIdeal) (hProjRefIdeal := hProjRefIdeal)
-- ==== Pre_ffn_finite.lean ====
abbrev S4096x1024 : Shape := ⟨2, ![4096, 1024]⟩
abbrev S1024 : Shape := ⟨1, ![1024]⟩
abbrev S1024x4096 : Shape := ⟨2, ![1024, 4096]⟩
abbrev S8x128 : Shape := ⟨2, ![8, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x1024 .f32) (main_arg5 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1024 .f32) (main_arg3 : FVec F S1024x4096 .f32) (main_arg4 : FVec F S4096x1024 .f32) (main_arg5 : FVec F S1024 .f32) (main_arg6 : FVec F S8x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Pre_in_proj_finite.lean ====
abbrev S4096x1024 : Shape := ⟨2, ![4096, 1024]⟩
abbrev S4096x10240 : Shape := ⟨2, ![4096, 10240]⟩
abbrev S1024 : Shape := ⟨1, ![1024]⟩
abbrev S1024x10240 : Shape := ⟨2, ![1024, 10240]⟩
abbrev S8x128 : Shape := ⟨2, ![8, 128]⟩
abbrev S_ : Shape := ⟨0, ![]⟩

class Facts : Prop where
  bitsLt_bf16_f32 : FTy.bits .bf16 < FTy.bits .f32
  bcast_S_S4096x10240 : S_.BroadcastsInDim S4096x10240 (![] : Fin 0 → Fin S4096x10240.rank)
  reducesTo_S4096x10240_S_d0_1 : S4096x10240.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x10240 : S_.BroadcastsInDim S1024x10240 (![] : Fin 0 → Fin S1024x10240.rank)
  reducesTo_S1024x10240_S_d0_1 : S1024x10240.ReducesTo [0, 1] S_

variable [Facts]

def fn_part1 {F : FTy → Type} [FloatOps F] (main_v14 : IVec S_ 1) (main_v15 : FVec F S1024x10240 .f32) (main_v16 : FVec F S1024x10240 .f32) : IVec S_ 1 :=
  let main_v17 : IVec S1024x10240 1 := cmpf .olt main_v15 main_v16
  let main_c_5 : IVec S_ 1 := constantI S_ 1 1#1
  let main_v18 : IVec S_ 1 := (fun x v => Host.reduce IntOp.andi x v reducesTo_S1024x10240_S_d0_1 h_S_) main_v17 main_c_5
  let main_v19 : IVec S_ 1 := andi main_v14 main_v18
  main_v19

def fn {F : FTy → Type} [FloatOps F] (main_arg0 : FVec F S4096x1024 .f32) (main_arg1 : FVec F S4096x10240 .bf16) (main_arg2 : FVec F S4096x1024 .f32) (main_arg3 : FVec F S1024 .f32) (main_arg4 : FVec F S1024x10240 .f32) (main_arg5 : FVec F S8x128 .f32) : IVec S_ 1 :=
  let main_v0 : FVec F S4096x10240 .f32 := (extf .f32 · bitsLt_bf16_f32) main_arg1
  let main_v1 : FVec F S4096x10240 .f32 := Host.absf main_v0
  let main_cst : FVec F S_ .f32 := constant S_ .f32 0x7F800000#32
  let main_v2 : FVec F S4096x10240 .f32 := broadcastInDim S4096x10240 ![] bcast_S_S4096x10240 main_cst
  let main_v3 : IVec S4096x10240 1 := cmpf .olt main_v1 main_v2
  let main_c : IVec S_ 1 := constantI S_ 1 1#1
  let main_v4 : IVec S_ 1 := (fun x v => Host.reduce IntOp.andi x v reducesTo_S4096x10240_S_d0_1 h_S_) main_v3 main_c
  let main_v5 : FVec F S4096x1024 .f32 := Host.absf main_arg2
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024x10240 .f32 := Host.absf main_arg4
  let main_cst_4 : FVec F S_ .f32 := constant S_ .f32 0x7F800000#32
  let main_v16 : FVec F S1024x10240 .f32 := broadcastInDim S1024x10240 ![] bcast_S_S1024x10240 main_cst_4
  fn_part1 (F := F) main_v14 main_v15 main_v16
-- ==== Pre_mix_out_finite.lean ====
abbrev S4096x1024 : Shape := ⟨2, ![4096, 1024]⟩
abbrev S4096x10240 : Shape := ⟨2, ![4096, 10240]⟩
abbrev S1024 : Shape := ⟨1, ![1024]⟩
abbrev S3x1024x1024 : Shape := ⟨3, ![3, 1024, 1024]⟩
abbrev S1024x1024 : Shape := ⟨2, ![1024, 1024]⟩
abbrev S8x128 : Shape := ⟨2, ![8, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024 : S_.BroadcastsInDim S1024 (![] : Fin 0 → Fin S1024.rank)
  reducesTo_S1024_S_d0 : S1024.ReducesTo [0] S_
  bcast_S_S3x1024x1024 : S_.BroadcastsInDim S3x1024x1024 (![] : Fin 0 → Fin S3x1024x1024.rank)
  reducesTo_S3x1024x1024_S_d0_1_2 : S3x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v31 : IVec S_ 1) (main_v34 : IVec S1024x1024 1) : IVec S_ 1 :=
  let main_c_11 : IVec S_ 1 := constantI S_ 1 1#1
  let main_v35 : IVec S_ 1 := (fun x v => Host.reduce IntOp.andi x v reducesTo_S1024x1024_S_d0_1 h_S_) main_v34 main_c_11
  let main_v36 : IVec S_ 1 := andi main_v31 main_v35
  main_v36

def fn_part1 {F : FTy → Type} [FloatOps F] (main_arg5 : FVec F S1024 .f32) (main_arg6 : FVec F S3x1024x1024 .f32) (main_arg7 : FVec F S1024x1024 .f32) (main_v15 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v15 main_v20
  let main_v22 : FVec F S1024 .f32 := Host.absf main_arg5
  let main_cst_6 : FVec F S_ .f32 := constant S_ .f32 0x7F800000#32
  let main_v23 : FVec F S1024 .f32 := broadcastInDim S1024 ![] bcast_S_S1024 main_cst_6
  let main_v24 : IVec S1024 1 := cmpf .olt main_v22 main_v23
  let main_c_7 : IVec S_ 1 := constantI S_ 1 1#1
  let main_v25 : IVec S_ 1 := (fun x v => Host.reduce IntOp.andi x v reducesTo_S1024_S_d0 h_S_) main_v24 main_c_7
  let main_v26 : IVec S_ 1 := andi main_v21 main_v25
  let main_v27 : FVec F S3x1024x1024 .f32 := Host.absf main_arg6
  let main_cst_8 : FVec F S_ .f32 := constant S_ .f32 0x7F800000#32
  let main_v28 : FVec F S3x1024x1024 .f32 := broadcastInDim S3x1024x1024 ![] bcast_S_S3x1024x1024 main_cst_8
  let main_v29 : IVec S3x1024x1024 1 := cmpf .olt main_v27 main_v28
  let main_c_9 : IVec S_ 1 := constantI S_ 1 1#1
  let main_v30 : IVec S_ 1 := (fun x v => Host.reduce IntOp.andi x v reducesTo_S3x1024x1024_S_d0_1_2 h_S_) main_v29 main_c_9
  let main_v31 : IVec S_ 1 := andi main_v26 main_v30
  let main_v32 : FVec F S1024x1024 .f32 := Host.absf main_arg7
  let main_cst_10 : FVec F S_ .f32 := constant S_ .f32 0x7F800000#32
  let main_v33 : FVec F S1024x1024 .f32 := broadcastInDim S1024x1024 ![] bcast_S_S1024x1024 main_cst_10
  let main_v34 : IVec S1024x1024 1 := cmpf .olt main_v32 main_v33
  fn_part2 (F := F) main_v31 main_v34

def fn {F : FTy → Type} [FloatOps F] (main_arg0 : FVec F S4096x1024 .f32) (main_arg1 : FVec F S4096x1024 .bf16) (main_arg2 : FVec F S4096x1024 .bf16) (main_arg3 : FVec F S4096x1024 .bf16) (main_arg4 : FVec F S4096x10240 .bf16) (main_arg5 : FVec F S1024 .f32) (main_arg6 : FVec F S3x1024x1024 .f32) (main_arg7 : FVec F S1024x1024 .f32) (main_arg8 : FVec F S8x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  let main_v16 : FVec F S4096x1024 .f32 := (extf .f32 · bitsLt_bf16_f32) main_arg3
  let main_v17 : FVec F S4096x1024 .f32 := Host.absf main_v16
  fn_part1 (F := F) main_arg5 main_arg6 main_arg7 main_v15 main_v17
-- ==== Pre_mix_s_finite.lean ====
abbrev S4096x10240 : Shape := ⟨2, ![4096, 10240]⟩
abbrev S3x4096x1024 : Shape := ⟨3, ![3, 4096, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S3x4096x1024 : S_.BroadcastsInDim S3x4096x1024 (![] : Fin 0 → Fin S3x4096x1024.rank)
  reducesTo_S3x4096x1024_S_d0_1_2 : S3x4096x1024.ReducesTo [0, 1, 2] S_
  h_S_ : 0 < S_.numel
  bcast_S_S4096x10240 : S_.BroadcastsInDim S4096x10240 (![] : Fin 0 → Fin S4096x10240.rank)
  reducesTo_S4096x10240_S_d0_1 : S4096x10240.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg5 : FVec F S8x128x128 .f32) (main_arg6 : FVec F S8x128 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S8x128x128 .f32 := Host.absf main_arg5
  let main_cst_6 : FVec F S_ .f32 := constant S_ .f32 0x7F800000#32
  let main_v22 : FVec F S8x128x128 .f32 := broadcastInDim S8x128x128 ![] bcast_S_S8x128x128 main_cst_6
  let main_v23 : IVec S8x128x128 1 := cmpf .olt main_v21 main_v22
  let main_c_7 : IVec S_ 1 := constantI S_ 1 1#1
  let main_v24 : IVec S_ 1 := (fun x v => Host.reduce IntOp.andi x v reducesTo_S8x128x128_S_d0_1_2 h_S_) main_v23 main_c_7
  let main_v25 : IVec S_ 1 := andi main_v20 main_v24
  let main_v26 : FVec F S8x128 .f32 := Host.absf main_arg6
  let main_cst_8 : FVec F S_ .f32 := constant S_ .f32 0x7F800000#32
  let main_v27 : FVec F S8x128 .f32 := broadcastInDim S8x128 ![] bcast_S_S8x128 main_cst_8
  let main_v28 : IVec S8x128 1 := cmpf .olt main_v26 main_v27
  let main_c_9 : IVec S_ 1 := constantI S_ 1 1#1
  let main_v29 : IVec S_ 1 := (fun x v => Host.reduce IntOp.andi x v reducesTo_S8x128_S_d0_1 h_S_) main_v28 main_c_9
  let main_v30 : IVec S_ 1 := andi main_v25 main_v29
  main_v30

def fn {F : FTy → Type} [FloatOps F] (main_arg0 : FVec F S4096x10240 .bf16) (main_arg1 : FVec F S3x4096x1024 .bf16) (main_arg2 : FVec F S4096x10240 .bf16) (main_arg3 : FVec F S1024 .f32) (main_arg4 : FVec F S1024 .f32) (main_arg5 : FVec F S8x128x128 .f32) (main_arg6 : FVec F S8x128 .f32) : IVec S_ 1 :=
  let main_v0 : FVec F S3x4096x1024 .f32 := (extf .f32 · bitsLt_bf16_f32) main_arg1
  let main_v1 : FVec F S3x4096x1024 .f32 := Host.absf main_v0
  let main_cst : FVec F S_ .f32 := constant S_ .f32 0x7F800000#32
  let main_v2 : FVec F S3x4096x1024 .f32 := broadcastInDim S3x4096x1024 ![] bcast_S_S3x4096x1024 main_cst
  let main_v3 : IVec S3x4096x1024 1 := cmpf .olt main_v1 main_v2
  let main_c : IVec S_ 1 := constantI S_ 1 1#1
  let main_v4 : IVec S_ 1 := (fun x v => Host.reduce IntOp.andi x v reducesTo_S3x4096x1024_S_d0_1_2 h_S_) main_v3 main_c
  let main_v5 : FVec F S4096x10240 .f32 := (extf .f32 · bitsLt_bf16_f32) main_arg2
  let main_v6 : FVec F S4096x10240 .f32 := Host.absf main_v5
  let main_cst_0 : FVec F S_ .f32 := constant S_ .f32 0x7F800000#32
  let main_v7 : FVec F S4096x10240 .f32 := broadcastInDim S4096x10240 ![] bcast_S_S4096x10240 main_cst_0
  let main_v8 : IVec S4096x10240 1 := cmpf .olt main_v6 main_v7
  let main_c_1 : IVec S_ 1 := constantI S_ 1 1#1
  let main_v9 : IVec S_ 1 := (fun x v => Host.reduce IntOp.andi x v reducesTo_S4096x10240_S_d0_1 h_S_) main_v8 main_c_1
  let main_v10 : IVec S_ 1 := andi main_v4 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  let main_v16 : FVec F S1024 .f32 := Host.absf main_arg4
  let main_cst_4 : FVec F S_ .f32 := constant S_ .f32 0x7F800000#32
  fn_part1 (F := F) main_arg5 main_arg6 main_v15 main_v16 main_cst_4
-- ==== Kernel.lean ====
abbrev S4096x1024 : Shape := ⟨2, ![4096, 1024]⟩
abbrev S1x128 : Shape := ⟨2, ![1, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== MixS.lean ====
abbrev S4096x10240 : Shape := ⟨2, ![4096, 10240]⟩
abbrev S3x4096x1024 : Shape := ⟨3, ![3, 4096, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S1x512x1024 : Shape := ⟨3, ![1, 512, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 16
  | .vmem => 21
  | .smem => 0
  | _ => 0

abbrev bufTy : (tb : Table) → Fin (tcTables nBuf tb) → BufTy
  | .hbm, ⟨0, _⟩ => ⟨S4096x10240, .bf16⟩
  | .hbm, ⟨1, _⟩ => ⟨S3x4096x1024, .bf16⟩
  | .hbm, ⟨2, _⟩ => ⟨S4096x10240, .bf16⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1x1024, .f32⟩
  | .hbm, ⟨8, _⟩ => ⟨S1x1024, .f32⟩
  | .hbm, ⟨9, _⟩ => ⟨S8x128x128, .f32⟩
  | .hbm, ⟨10, _⟩ => ⟨S128x8, .f32⟩
  | .hbm, ⟨11, _⟩ => ⟨S4096x10240, .bf16⟩
  | .hbm, ⟨12, _⟩ => ⟨S8x128x128, .f32⟩
  | .hbm, ⟨13, _⟩ => ⟨S128x8, .f32⟩
  | .hbm, ⟨14, _⟩ => ⟨S1x1024, .f32⟩
  | .hbm, ⟨15, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x128, .f32⟩
  | .local _ .vmem, ⟨10, _⟩ => ⟨S128x8, .f32⟩
  | .local _ .vmem, ⟨11, _⟩ => ⟨S512x1024, .bf16⟩
  | .local _ .vmem, ⟨12, _⟩ => ⟨S512x1024, .bf16⟩
  | .local _ .vmem, ⟨13, _⟩ => ⟨S8x128x128, .f32⟩
  | .local _ .vmem, ⟨14, _⟩ => ⟨S128x8, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | .local _ .vmem, ⟨20, _⟩ => ⟨S2x512x1024, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨2, ![8, 2], ![false, false]⟩

def k0_off1 (i : grid0.Coords) : Fin 3 → Nat :=
  let arg1 : BitVec 32 := BitVec.ofNat 32 (i 1).val
  let v8 : Index := Scalar.indexCast arg1
  let c0 : Index := 0#32
  let c0_4 : Index := 0#32
  ![v8.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== MixSIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== MixSRefIdeal.lean ====
abbrev S4096x10240 : Shape := ⟨2, ![4096, 10240]⟩
abbrev S3x4096x1024 : Shape := ⟨3, ![3, 4096, 1024]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S1x4096x1024 : Shape := ⟨3, ![1, 4096, 1024]⟩
abbrev S_ : Shape := ⟨0, ![]⟩
abbrev S128x128 : Shape := ⟨2, ![128, 128]⟩
abbrev S1x128x128 : Shape := ⟨3, ![1, 128, 128]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩
abbrev S4096x5120 : Shape := ⟨2, ![4096, 5120]⟩
abbrev S4096x3072 : Shape := ⟨2, ![4096, 3072]⟩

abbrev nBuf : Space → Nat
  | .hbm => 233
  | .vmem => 0
  | .smem => 0
  | _ => 0

abbrev hbmTy0_0 (i : Nat) : BufTy := match i % 128 with
  | 0 => ⟨S4096x10240, .bf16⟩
  | 1 => ⟨S3x4096x1024, .bf16⟩
  | 2 => ⟨S4096x10240, .bf16⟩
  | 3 => ⟨S1024, .f32⟩
  | 4 => ⟨S1024, .f32⟩
  | 5 => ⟨S8x128x128, .f32⟩
  | 6 => ⟨S8x128, .f32⟩
  | 7 => ⟨S4096x1024, .bf16⟩
  | 8 => ⟨S4096x1024, .f32⟩
  | 9 => ⟨S4096x1024, .bf16⟩
  | 10 => ⟨S4096x1024, .f32⟩
  | 11 => ⟨S1x4096x1024, .bf16⟩
  | 12 => ⟨S4096x1024, .bf16⟩
  | 13 => ⟨S4096x1024, .f32⟩
  | 14 => ⟨S_, .i1⟩
  | 15 => ⟨S128x128, .i1⟩
  | 16 => ⟨S128x128, .i32⟩
  | 17 => ⟨S_, .i32⟩
  | 18 => ⟨S128x128, .i32⟩
  | 19 => ⟨S128x128, .i32⟩
  | 20 => ⟨S128x128, .i32⟩
  | 21 => ⟨S128x128, .i1⟩
  | 22 => ⟨S_, .i1⟩
  | 23 => ⟨S128x128, .i1⟩
  | 24 => ⟨S128x128, .i1⟩
  | 25 => ⟨S1x128x128, .i1⟩
  | 26 => ⟨S_, .f32⟩
  | 27 => ⟨S8x128x128, .f32⟩
  | 28 => ⟨S8x128x128, .i1⟩
  | 29 => ⟨S8x128x128, .f32⟩
  | 30 => ⟨S_, .f32⟩
  | 31 => ⟨S_, .f32⟩
  | 32 => ⟨S_, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S_, .f32⟩
  | 61 => ⟨S_, .f32⟩
  | 62 => ⟨S_, .f32⟩
  | 63 => ⟨S_, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S4096x1024, .f32⟩
  | 90 => ⟨S_, .f32⟩
  | 91 => ⟨S4096, .f32⟩
  | 92 => ⟨S4096x1, .f32⟩
  | 93 => ⟨S_, .f32⟩
  | 94 => ⟨S4096x1, .f32⟩
  | 95 => ⟨S4096x1, .f32⟩
  | 96 => ⟨S4096x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S_, .f32⟩
  | 103 => ⟨S4096, .f32⟩
  | 104 => ⟨S4096x1, .f32⟩
  | 105 => ⟨S_, .f32⟩
  | 106 => ⟨S4096x1, .f32⟩
  | 107 => ⟨S4096x1, .f32⟩
  | 108 => ⟨S4096x1024, .f32⟩
  | 109 => ⟨S4096x1024, .f32⟩
  | 110 => ⟨S_, .f32⟩
  | 111 => ⟨S4096x1, .f32⟩
  | 112 => ⟨S4096x1, .f32⟩
  | 113 => ⟨S4096x1, .f32⟩
  | 114 => ⟨S4096x1, .f32⟩
  | 115 => ⟨S_, .f32⟩
  | 116 => ⟨S4096x1, .f32⟩
  | 117 => ⟨S4096x1, .f32⟩
  | 118 => ⟨S4096x1024, .f32⟩
  | 119 => ⟨S4096x1024, .f32⟩
  | 120 => ⟨S1x1024, .f32⟩
  | 121 => ⟨S4096x1024, .f32⟩
  | 122 => ⟨S4096x1024, .f32⟩
  | 123 => ⟨S1x1024, .f32⟩
  | 124 => ⟨S4096x1024, .f32⟩
  | 125 => ⟨S4096x1024, .f32⟩
  | 126 => ⟨S32x128x8x128, .f32⟩
  | 127 => ⟨S8x32x128x128, .f32⟩
  | _ => ⟨S4096x10240, .bf16⟩

abbrev hbmTy0_1 (i : Nat) : BufTy := match i % 128 with
  | 0 => ⟨S32x128x8x128, .f32⟩
  | 1 => ⟨S128x8, .f32⟩
  | 2 => ⟨S128x8x1, .f32⟩
  | 3 => ⟨S1x128x8x1, .f32⟩
  | 4 => ⟨S32x128x8x128, .f32⟩
  | 5 => ⟨S32x128x8x128, .f32⟩
  | 6 => ⟨S4096x1024, .f32⟩
  | 7 => ⟨S4096x1024, .f32⟩
  | 8 => ⟨S4096x1024, .f32⟩
  | 9 => ⟨S4096x1024, .f32⟩
  | 10 => ⟨S32x128x8x128, .f32⟩
  | 11 => ⟨S_, .f32⟩
  | 12 => ⟨S128x8, .f32⟩
  | 13 => ⟨S1x128x8x1, .f32⟩
  | 14 => ⟨S_, .f32⟩
  | 15 => ⟨S128x8, .f32⟩
  | 16 => ⟨S128x8x1, .f32⟩
  | 17 => ⟨S_, .f32⟩
  | 18 => ⟨S128x8, .f32⟩
  | 19 => ⟨S8x128, .f32⟩
  | 20 => ⟨S8x32x128x128, .f32⟩
  | 21 => ⟨S8x128x128, .f32⟩
  | 22 => ⟨S8x32x128x128, .f32⟩
  | 23 => ⟨S32x128x8x128, .f32⟩
  | 24 => ⟨S4096x1024, .f32⟩
  | 25 => ⟨S_, .f32⟩
  | 26 => ⟨S1024, .f32⟩
  | 27 => ⟨S1x1024, .f32⟩
  | 28 => ⟨S_, .f32⟩
  | 29 => ⟨S1024, .f32⟩
  | 30 => ⟨S4096x1024, .f32⟩
  | 31 => ⟨S_, .f32⟩
  | 32 => ⟨S1024, .f32⟩
  | 33 => ⟨S1x1024, .f32⟩
  | 34 => ⟨S4096x1024, .f32⟩
  | 35 => ⟨S4096x1024, .f32⟩
  | 36 => ⟨S_, .f32⟩
  | 37 => ⟨S1024, .f32⟩
  | 38 => ⟨S4096x1024, .f32⟩
  | 39 => ⟨S_, .f32⟩
  | 40 => ⟨S4096, .f32⟩
  | 41 => ⟨S4096x1, .f32⟩
  | 42 => ⟨S4096x1024, .f32⟩
  | 43 => ⟨S4096x1024, .f32⟩
  | 44 => ⟨S4096x1, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S4096x1024, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S4096x1024, .f32⟩
  | 97 => ⟨S4096x10240, .f32⟩
  | 98 => ⟨S4096x5120, .f32⟩
  | 99 => ⟨S4096x3072, .f32⟩
  | 100 => ⟨S4096x10240, .f32⟩
  | 101 => ⟨S4096x10240, .bf16⟩
  | 102 => ⟨S128x8, .f32⟩
  | 103 => ⟨S1x1024, .f32⟩
  | 104 => ⟨S1x1024, .f32⟩
  | _ => ⟨S4096x10240, .bf16⟩

abbrev hbmTy (i : Nat) : BufTy := match i / 128 with
  | 0 => hbmTy0_0 i
  | 1 => hbmTy0_1 i
  | _ => ⟨S4096x10240, .bf16⟩

abbrev bufTy : (tb : Table) → Fin (tcTables nBuf tb) → BufTy
  | .hbm, ⟨i, _⟩ => hbmTy i
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_call1_v0 : Ref sig .tc := ⟨.hbm, 28, rfl⟩
abbrev main_v11 : Ref sig .tc := ⟨.hbm, 29, rfl⟩
abbrev main_cst_0 : Ref sig .tc := ⟨.hbm, 30, rfl⟩
abbrev main_cst_1 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_cst_9 : Ref sig .tc := ⟨.hbm, 61, rfl⟩
abbrev main_v34 : Ref sig .tc := ⟨.hbm, 62, rfl⟩
abbrev main_cst_10 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_11 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_12 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_13 : Ref sig .tc := ⟨.hbm, 79, rfl⟩
abbrev main_v48 : Ref sig .tc := ⟨.hbm, 80, rfl⟩
abbrev main_v49 : Ref sig .tc := ⟨.hbm, 81, rfl⟩
abbrev main_cst_14 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_15 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_16 : Ref sig .tc := ⟨.hbm, 90, rfl⟩
abbrev main_v56 : Ref sig .tc := ⟨.hbm, 91, rfl⟩
abbrev main_v57 : Ref sig .tc := ⟨.hbm, 92, rfl⟩
abbrev main_cst_17 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_18 : Ref sig .tc := ⟨.hbm, 99, rfl⟩
abbrev main_v63 : Ref sig .tc := ⟨.hbm, 100, rfl⟩
abbrev main_v64 : Ref sig .tc := ⟨.hbm, 101, rfl⟩
abbrev main_cst_19 : Ref sig .tc := ⟨.hbm, 102, rfl⟩
abbrev main_v65 : Ref sig .tc := ⟨.hbm, 103, rfl⟩
abbrev main_v66 : Ref sig .tc := ⟨.hbm, 104, rfl⟩
abbrev main_cst_20 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_21 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_22 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_23 : Ref sig .tc := ⟨.hbm, 139, rfl⟩
abbrev main_v98 : Ref sig .tc := ⟨.hbm, 140, rfl⟩
abbrev main_v99 : Ref sig .tc := ⟨.hbm, 141, rfl⟩
abbrev main_cst_24 : Ref sig .tc := ⟨.hbm, 142, rfl⟩
abbrev main_v100 : Ref sig .tc := ⟨.hbm, 143, rfl⟩
abbrev main_v101 : Ref sig .tc := ⟨.hbm, 144, rfl⟩
abbrev main_cst_25 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_26 : Ref sig .tc := ⟨.hbm, 153, rfl⟩
abbrev main_v109 : Ref sig .tc := ⟨.hbm, 154, rfl⟩
abbrev main_v110 : Ref sig .tc := ⟨.hbm, 155, rfl⟩
abbrev main_cst_27 : Ref sig .tc := ⟨.hbm, 156, rfl⟩
abbrev main_v111 : Ref sig .tc := ⟨.hbm, 157, rfl⟩
abbrev main_v112 : Ref sig .tc := ⟨.hbm, 158, rfl⟩
abbrev main_cst_28 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_29 : Ref sig .tc := ⟨.hbm, 164, rfl⟩
abbrev main_v117 : Ref sig .tc := ⟨.hbm, 165, rfl⟩
abbrev main_v118 : Ref sig .tc := ⟨.hbm, 166, rfl⟩
abbrev main_cst_30 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_31 : Ref sig .tc := ⟨.hbm, 174, rfl⟩
abbrev main_v125 : Ref sig .tc := ⟨.hbm, 175, rfl⟩
abbrev main_v126 : Ref sig .tc := ⟨.hbm, 176, rfl⟩
abbrev main_cst_32 : Ref sig .tc := ⟨.hbm, 177, rfl⟩
abbrev main_v127 : Ref sig .tc := ⟨.hbm, 178, rfl⟩
abbrev main_v128 : Ref sig .tc := ⟨.hbm, 179, rfl⟩
abbrev main_cst_33 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_34 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_35 : Ref sig .tc := ⟨.hbm, 190, rfl⟩
abbrev main_v137 : Ref sig .tc := ⟨.hbm, 191, rfl⟩
abbrev main_v138 : Ref sig .tc := ⟨.hbm, 192, rfl⟩
abbrev main_cst_36 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_37 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_38 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_39 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_cst_40 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩

abbrev nD : Nat := 1
abbrev τ : Topo := Topo.v7x

variable {F : FTy → Type} [FloatOps F]
-- ==== InProj.lean ====
abbrev S4096x1024 : Shape := ⟨2, ![4096, 1024]⟩
abbrev S4096x10240 : Shape := ⟨2, ![4096, 10240]⟩
abbrev S1024 : Shape := ⟨1, ![1024]⟩
abbrev S1024x10240 : Shape := ⟨2, ![1024, 10240]⟩
abbrev S8x128 : Shape := ⟨2, ![8, 128]⟩
abbrev S1024x4x2560 : Shape := ⟨3, ![1024, 4, 2560]⟩
abbrev S4x1024x2560 : Shape := ⟨3, ![4, 1024, 2560]⟩
abbrev S1x1024 : Shape := ⟨2, ![1, 1024]⟩
abbrev S1024x2560 : Shape := ⟨2, ![1024, 2560]⟩
abbrev S1x1024x2560 : Shape := ⟨3, ![1, 1024, 2560]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x10240, .bf16⟩
  | .hbm, ⟨2, _⟩ => ⟨S4096x1024, .f32⟩
  | .hbm, ⟨3, _⟩ => ⟨S1024, .f32⟩
  | .hbm, ⟨4, _⟩ => ⟨S1024x10240, .f32⟩
  | .hbm, ⟨5, _⟩ => ⟨S8x128, .f32⟩
  | .hbm, ⟨6, _⟩ => ⟨S1024x4x2560, .f32⟩
  | .hbm, ⟨7, _⟩ => ⟨S4x1024x2560, .f32⟩
  | .hbm, ⟨8, _⟩ => ⟨S4x1024x2560, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg1 : BitVec 32 := BitVec.ofNat 32 (i 1).val
  let c3_i32 : BitVec 32 := 3#32
  let v21 : BitVec 1 := Scalar.cmpi .eq arg1 c3_i32
  let arg2 : BitVec 32 := BitVec.ofNat 32 (i 2).val
  let c0_i32_14 : BitVec 32 := 0#32
  let v22 : BitVec 1 := Scalar.cmpi .eq arg2 c0_i32_14
  let v23 : BitVec 1 := Scalar.andi v21 v22
  let v24 : BitVec 32 := Scalar.extui v23
  let c0_i32_15 : BitVec 32 := 0#32
  let v25 : BitVec 1 := Scalar.cmpi .ne v24 c0_i32_15
  v25

@[reducible] def k0_t1_loop : Scf.Loop 32 :=
  let c0_i32_19 : BitVec 32 := 0#32
  let c8_i32 : BitVec 32 := 8#32
  let v29 : BitVec 32 := Scalar.addi c0_i32_19 c8_i32
  let c1_i32 : BitVec 32 := 1#32
  ⟨c0_i32_19, v29, c1_i32⟩
def k0_mult1 (k0_t1 : Fin k0_t1_loop.trips) : BitVec 32 :=
  let c0_i32_19 : BitVec 32 := 0#32
  let c1_i32 : BitVec 32 := 1#32
  let arg12 : BitVec 32 := Scf.iv c0_i32_19 c1_i32 k0_t1
  let c128_i32 : BitVec 32 := 128#32
  let v33 : BitVec 32 := Scalar.muli arg12 c128_i32
  v33
def k0_off1 (k0_t1 : Fin k0_t1_loop.trips) : Fin 2 → Nat :=
  let c0_i32_19 : BitVec 32 := 0#32
  let c1_i32 : BitVec 32 := 1#32
  let arg12 : BitVec 32 := Scf.iv c0_i32_19 c1_i32 k0_t1
  let c128_i32 : BitVec 32 := 128#32
  let v33 : BitVec 32 := Scalar.muli arg12 c128_i32
  let v34 : BitVec 32 := v33
  let v35 : Index := Scalar.indexCast v34
  let c0_23 : Index := 0#32
  ![v35.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InProjRefIdeal.lean ====
abbrev S4096x1024 : Shape := ⟨2, ![4096, 1024]⟩
abbrev S4096x10240 : Shape := ⟨2, ![4096, 10240]⟩
abbrev S1024 : Shape := ⟨1, ![1024]⟩
abbrev S1024x10240 : Shape := ⟨2, ![1024, 10240]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10240, .bf16⟩
  | .hbm, ⟨2, _⟩ => ⟨S4096x1024, .f32⟩
  | .hbm, ⟨3, _⟩ => ⟨S1024, .f32⟩
  | .hbm, ⟨4, _⟩ => ⟨S1024x10240, .f32⟩
  | .hbm, ⟨5, _⟩ => ⟨S8x128, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x10240, .f32⟩
  | .hbm, ⟨27, _⟩ => ⟨S4096x10240, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Wff2.lean ====
abbrev S4096x4096 : Shape := ⟨2, ![4096, 4096]⟩
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Wff2RefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4x1024x1024, .f32⟩
  | .hbm, ⟨14, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== MixF.lean ====
abbrev S4096x10240 : Shape := ⟨2, ![4096, 10240]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x10240, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFRefIdeal.lean ====
abbrev S4096x10240 : Shape := ⟨2, ![4096, 10240]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S128x128 : Shape := ⟨2, ![128, 128]⟩
abbrev S1x128x128 : Shape := ⟨3, ![1, 128, 128]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 99
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .i1⟩
  | .hbm, ⟨44, _⟩ => ⟨S128x128, .i1⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .i1⟩
  | .hbm, ⟨52, _⟩ => ⟨S128x128, .i1⟩
  | .hbm, ⟨53, _⟩ => ⟨S128x128, .i1⟩
  | .hbm, ⟨54, _⟩ => ⟨S1x128x128, .i1⟩
  | .hbm, ⟨55, _⟩ => ⟨S_, .f32⟩
  | .hbm, ⟨56, _⟩ => ⟨S8x128x128, .f32⟩
  | .hbm, ⟨57, _⟩ => ⟨S8x128x128, .i1⟩
  | .hbm, ⟨58, _⟩ => ⟨S8x128x128, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S32x128x8x128, .f32⟩
  | .hbm, ⟨89, _⟩ => ⟨S8x32x128x128, .f32⟩
  | .hbm, ⟨90, _⟩ => ⟨S32x128x8x128, .f32⟩
  | .hbm, ⟨91, _⟩ => ⟨S128x8, .f32⟩
  | .hbm, ⟨92, _⟩ => ⟨S128x8x1, .f32⟩
  | .hbm, ⟨93, _⟩ => ⟨S1x128x8x1, .f32⟩
  | .hbm, ⟨94, _⟩ => ⟨S32x128x8x128, .f32⟩
  | .hbm, ⟨95, _⟩ => ⟨S32x128x8x128, .f32⟩
  | .hbm, ⟨96, _⟩ => ⟨S4096x1024, .f32⟩
  | .hbm, ⟨97, _⟩ => ⟨S4096x1024, .f32⟩
  | .hbm, ⟨98, _⟩ => ⟨S4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_0 : Ref sig .tc := ⟨.hbm, 51, rfl⟩
abbrev main_call0_v5 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_call1_v0 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x4096 : Shape := ⟨2, ![1024, 4096]⟩
abbrev S8x128 : Shape := ⟨2, ![8, 128]⟩
abbrev S1024x4x1024 : Shape := ⟨3, ![1024, 4, 1024]⟩
abbrev S4x1024x1024 : Shape := ⟨3, ![4, 1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x1024 : Shape := ⟨2, ![1024, 1024]⟩
abbrev S1024x512 : Shape := ⟨2, ![1024, 512]⟩
abbrev S512x1024 : Shape := ⟨2, ![512, 1024]⟩
abbrev S1x1024x512 : Shape := ⟨3, ![1, 1024, 512]⟩
abbrev S1024x1 : Shape := ⟨2, ![1024, 1]⟩

abbrev nBuf : Space → Nat
  | .hbm => 45
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S8x128, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | .hbm, ⟨10, _⟩ => ⟨S4096x1024, .bf16⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024x4096, .bf16⟩
  | .hbm, ⟨29, _⟩ => ⟨S4096x4096, .f32⟩
  | .hbm, ⟨30, _⟩ => ⟨S4096x4096, .bf16⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .bf16⟩
  | .hbm, ⟨36, _⟩ => ⟨S4096x1024, .f32⟩
  | .hbm, ⟨37, _⟩ => ⟨S4096x1024, .bf16⟩
  | .hbm, ⟨38, _⟩ => ⟨S1x1024, .f32⟩
  | .hbm, ⟨39, _⟩ => ⟨S1x1024, .f32⟩
  | .hbm, ⟨40, _⟩ => ⟨S4096x1024, .bf16⟩
  | .hbm, ⟨41, _⟩ => ⟨S4096x4096, .bf16⟩
  | .hbm, ⟨42, _⟩ => ⟨S4096x1024, .f32⟩
  | .hbm, ⟨43, _⟩ => ⟨S1x1024, .f32⟩
  | .hbm, ⟨44, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | .local _ .vmem, ⟨21, _⟩ => ⟨S1x1024, .f32⟩
  | .local _ .vmem, ⟨22, _⟩ => ⟨S1024x1024, .bf16⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v29_3 : Ref sig .tc := ⟨.hbm, 43, rfl⟩
abbrev main_v29_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_21 : BitVec 32 := 0#32
  let v32 : BitVec 1 := Scalar.cmpi .ne v31 c0_i32_21
  v32

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnRefIdeal.lean ====
abbrev S4096x1024 : Shape := ⟨2, ![4096, 1024]⟩
abbrev S1024 : Shape := ⟨1, ![1024]⟩
abbrev S1024x4096 : Shape := ⟨2, ![1024, 4096]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024x4096, .f32⟩
  | 4 => ⟨S4096x1024, .f32⟩
  | 5 => ⟨S1024, .f32⟩
  | 6 => ⟨S8x128, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x4096, .f32⟩
  | 28 => ⟨S_, .f32⟩
  | 29 => ⟨S4096x4096, .f32⟩
  | 30 => ⟨S4096x4096, .f32⟩
  | 31 => ⟨S_, .f32⟩
  | 32 => ⟨S4096x4096, .f32⟩
  | 33 => ⟨S4096x4096, .i1⟩
  | 34 => ⟨S_, .f32⟩
  | 35 => ⟨S4096x4096, .f32⟩
  | 36 => ⟨S4096x4096, .i1⟩
  | 37 => ⟨S_, .f32⟩
  | 38 => ⟨S4096x4096, .f32⟩
  | 39 => ⟨S_, .f32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S4096x4096, .f32⟩
  | 46 => ⟨S_, .f32⟩
  | 47 => ⟨S4096x4096, .f32⟩
  | 48 => ⟨S4096x4096, .f32⟩
  | 49 => ⟨S4096x1024, .f32⟩
  | 50 => ⟨S4096x1024, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1024, .f32⟩
  | 66 => ⟨S4096x1024, .f32⟩
  | 67 => ⟨S1x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S1024, .f32⟩
  | 75 => ⟨S1x1024, .f32⟩
  | 76 => ⟨S4096x1024, .f32⟩
  | 77 => ⟨S4096x1024, .f32⟩
  | 78 => ⟨S_, .f32⟩
  | 79 => ⟨S1024, .f32⟩
  | 80 => ⟨S4096x1024, .f32⟩
  | 81 => ⟨S_, .f32⟩
  | 82 => ⟨S4096, .f32⟩
  | 83 => ⟨S4096x1, .f32⟩
  | 84 => ⟨S4096x1024, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x4096, .f32⟩
  | 98 => ⟨S4096x4096, .f32⟩
  | 99 => ⟨S4096x4096, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S4096x1024, .f32⟩
  | 107 => ⟨S_, .f32⟩
  | 108 => ⟨S1024, .f32⟩
  | 109 => ⟨S4096x1024, .f32⟩
  | 110 => ⟨S_, .f32⟩
  | 111 => ⟨S4096, .f32⟩
  | 112 => ⟨S4096x1, .f32⟩
  | 113 => ⟨S4096x1024, .f32⟩
  | 114 => ⟨S4096x1024, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .bf16⟩
  | 127 => ⟨S4096x4096, .bf16⟩
  | _ => ⟨S4096x1024, .f32⟩

abbrev hbmTy0_1 (i : Nat) : BufTy := match i % 128 with
  | 0 => ⟨S4096x1024, .f32⟩
  | 1 => ⟨S1x1024, .f32⟩
  | 2 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_13 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_17 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_19 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_20 : Ref sig .tc := ⟨.hbm, 107, rfl⟩
abbrev main_v79 : Ref sig .tc := ⟨.hbm, 108, rfl⟩
abbrev main_v80 : Ref sig .tc := ⟨.hbm, 109, rfl⟩
abbrev main_cst_21 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_22 : Ref sig .tc := ⟨.hbm, 116, rfl⟩
abbrev main_v86 : Ref sig .tc := ⟨.hbm, 117, rfl⟩
abbrev main_v87 : Ref sig .tc := ⟨.hbm, 118, rfl⟩
abbrev main_cst_23 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]
-- ==== MixOut.lean ====
abbrev S4096x1024 : Shape := ⟨2, ![4096, 1024]⟩
abbrev S4096x10240 : Shape := ⟨2, ![4096, 10240]⟩
abbrev S1024 : Shape := ⟨1, ![1024]⟩
abbrev S3x1024x1024 : Shape := ⟨3, ![3, 1024, 1024]⟩
abbrev S1024x1024 : Shape := ⟨2, ![1024, 1024]⟩
abbrev S8x128 : Shape := ⟨2, ![8, 128]⟩
abbrev S3x4x256x1024 : Shape := ⟨4, ![3, 4, 256, 1024]⟩
abbrev S4x3x256x1024 : Shape := ⟨4, ![4, 3, 256, 1024]⟩
abbrev S1x1024x1024 : Shape := ⟨3, ![1, 1024, 1024]⟩
abbrev S_ : Shape := ⟨0, ![]⟩
abbrev S1x1024 : Shape := ⟨2, ![1, 1024]⟩
abbrev S1x4096x1024 : Shape := ⟨3, ![1, 4096, 1024]⟩
abbrev S3x4096x1024 : Shape := ⟨3, ![3, 4096, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S1x1x256x1024 : Shape := ⟨4, ![1, 1, 256, 1024]⟩
abbrev S256x1024 : Shape := ⟨2, ![256, 1024]⟩
abbrev S512x256 : Shape := ⟨2, ![512, 256]⟩
abbrev S1x512x256 : Shape := ⟨3, ![1, 512, 256]⟩
abbrev S4096x3072 : Shape := ⟨2, ![4096, 3072]⟩

abbrev nBuf : Space → Nat
  | .hbm => 75
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x10240, .bf16⟩
  | .hbm, ⟨5, _⟩ => ⟨S1024, .f32⟩
  | .hbm, ⟨6, _⟩ => ⟨S3x1024x1024, .f32⟩
  | .hbm, ⟨7, _⟩ => ⟨S1024x1024, .f32⟩
  | .hbm, ⟨8, _⟩ => ⟨S8x128, .f32⟩
  | .hbm, ⟨9, _⟩ => ⟨S3x4x256x1024, .f32⟩
  | .hbm, ⟨10, _⟩ => ⟨S4x3x256x1024, .f32⟩
  | .hbm, ⟨11, _⟩ => ⟨S4x3x256x1024, .bf16⟩
  | .hbm, ⟨12, _⟩ => ⟨S1024x1024, .bf16⟩
  | .hbm, ⟨13, _⟩ => ⟨S1x1024x1024, .f32⟩
  | .hbm, ⟨14, _⟩ => ⟨S1024x1024, .f32⟩
  | .hbm, ⟨15, _⟩ => ⟨S1024x1024, .bf16⟩
  | .hbm, ⟨16, _⟩ => ⟨S4096x1024, .f32⟩
  | .hbm, ⟨17, _⟩ => ⟨S1x1024x1024, .f32⟩
  | .hbm, ⟨18, _⟩ => ⟨S1024x1024, .f32⟩
  | .hbm, ⟨19, _⟩ => ⟨S1024x1024, .bf16⟩
  | .hbm, ⟨20, _⟩ => ⟨S4096x1024, .f32⟩
  | .hbm, ⟨21, _⟩ => ⟨S1x1024x1024, .f32⟩
  | .hbm, ⟨22, _⟩ => ⟨S1024x1024, .f32⟩
  | .hbm, ⟨23, _⟩ => ⟨S1024x1024, .bf16⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S4096x1024, .f32⟩
  | .hbm, ⟨62, _⟩ => ⟨S4096x1024, .bf16⟩
  | .hbm, ⟨63, _⟩ => ⟨S1x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S3x4096x1024, .f32⟩
  | .hbm, ⟨68, _⟩ => ⟨S3x4096x1024, .bf16⟩
  | .hbm, ⟨69, _⟩ => ⟨S4096x1024, .bf16⟩
  | .hbm, ⟨70, _⟩ => ⟨S3x4096x1024, .bf16⟩
  | .hbm, ⟨71, _⟩ => ⟨S3x4096x1024, .bf16⟩
  | .hbm, ⟨72, _⟩ => ⟨S4096x10240, .bf16⟩
  | .hbm, ⟨73, _⟩ => ⟨S1x1024, .f32⟩
  | .hbm, ⟨74, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x3x256x1024, .bf16⟩
  | .local _ .vmem, ⟨11, _⟩ => ⟨S512x1024, .bf16⟩
  | .local _ .vmem, ⟨12, _⟩ => ⟨S512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54_0 : Ref sig .tc := ⟨.hbm, 69, rfl⟩
abbrev main_v54_1 : Ref sig .tc := ⟨.hbm, 70, rfl⟩
abbrev main_v54_2 : Ref sig .tc := ⟨.hbm, 71, rfl⟩
abbrev main_v54_3 : Ref sig .tc := ⟨.hbm, 72, rfl⟩
abbrev main_v54_4 : Ref sig .tc := ⟨.hbm, 73, rfl⟩
abbrev main_v55 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![8, 3], ![false, false]⟩

def k0_off1 (i : grid0.Coords) : Fin 4 → Nat :=
  let c0_18 : Index := 0#32
  let arg1 : BitVec 32 := BitVec.ofNat 32 (i 1).val
  let v33 : Index := Scalar.indexCast arg1
  let c0_19 : Index := 0#32
  let c0_20 : Index := 0#32
  ![0, v33.toNat, 0, 0]
def k0_off2 (i : grid0.Coords) : Fin 4 → Nat :=
  let c1 : Index := 1#32
  let arg1 : BitVec 32 := BitVec.ofNat 32 (i 1).val
  let v41 : Index := Scalar.indexCast arg1
  let c0_25 : Index := 0#32
  let c0_26 : Index := 0#32
  ![1, v41.toNat, 0, 0]
def k0_off3 (i : grid0.Coords) : Fin 4 → Nat :=
  let c2 : Index := 2#32
  let arg1 : BitVec 32 := BitVec.ofNat 32 (i 1).val
  let v49 : Index := Scalar.indexCast arg1
  let c0_30 : Index := 0#32
  let c0_31 : Index := 0#32
  ![2, v49.toNat, 0, 0]
def k0_off4 (i : grid0.Coords) : Fin 4 → Nat :=
  let c3 : Index := 3#32
  let arg1 : BitVec 32 := BitVec.ofNat 32 (i 1).val
  let v57 : Index := Scalar.indexCast arg1
  let c0_35 : Index := 0#32
  let c0_36 : Index := 0#32
  ![3, v57.toNat, 0, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x3x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== MixOutRefIdeal.lean ====
abbrev S4096x1024 : Shape := ⟨2, ![4096, 1024]⟩
abbrev S4096x10240 : Shape := ⟨2, ![4096, 10240]⟩
abbrev S1024 : Shape := ⟨1, ![1024]⟩
abbrev S3x1024x1024 : Shape := ⟨3, ![3, 1024, 1024]⟩
abbrev S1024x1024 : Shape := ⟨2, ![1024, 1024]⟩
abbrev S8x128 : Shape := ⟨2, ![8, 128]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x4096x1024 : Shape := ⟨3, ![1, 4096, 1024]⟩
abbrev S3x4096x1024 : Shape := ⟨3, ![3, 4096, 1024]⟩
abbrev S4096x3072 : Shape := ⟨2, ![4096, 3072]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x1024, .bf16⟩
  | 3 => ⟨S4096x1024, .bf16⟩
  | 4 => ⟨S4096x10240, .bf16⟩
  | 5 => ⟨S1024, .f32⟩
  | 6 => ⟨S3x1024x1024, .f32⟩
  | 7 => ⟨S1024x1024, .f32⟩
  | 8 => ⟨S8x128, .f32⟩
  | 9 => ⟨S4096x1024, .f32⟩
  | 10 => ⟨S4096x1024, .f32⟩
  | 11 => ⟨S4096x1024, .f32⟩
  | 12 => ⟨S4096x1024, .bf16⟩
  | 13 => ⟨S4096x1024, .f32⟩
  | 14 => ⟨S4096x1024, .bf16⟩
  | 15 => ⟨S4096x1024, .f32⟩
  | 16 => ⟨S4096x1024, .bf16⟩
  | 17 => ⟨S4096x1024, .f32⟩
  | 18 => ⟨S1x1024x1024, .f32⟩
  | 19 => ⟨S1024x1024, .f32⟩
  | 20 => ⟨S4096x1024, .f32⟩
  | 21 => ⟨S1x1024x1024, .f32⟩
  | 22 => ⟨S1024x1024, .f32⟩
  | 23 => ⟨S4096x1024, .f32⟩
  | 24 => ⟨S1x1024x1024, .f32⟩
  | 25 => ⟨S1024x1024, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1024, .f32⟩
  | 85 => ⟨S4096x1024, .f32⟩
  | 86 => ⟨S1x1024, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S1x1024, .f32⟩
  | 93 => ⟨S4096x1024, .f32⟩
  | 94 => ⟨S4096x1024, .f32⟩
  | 95 => ⟨S_, .f32⟩
  | 96 => ⟨S1024, .f32⟩
  | 97 => ⟨S4096x1024, .f32⟩
  | 98 => ⟨S_, .f32⟩
  | 99 => ⟨S4096, .f32⟩
  | 100 => ⟨S4096x1, .f32⟩
  | 101 => ⟨S4096x1024, .f32⟩
  | 102 => ⟨S4096x1024, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .bf16⟩
  | _ => ⟨S4096x1024, .f32⟩

abbrev hbmTy0_1 (i : Nat) : BufTy := match i % 128 with
  | 0 => ⟨S1x4096x1024, .f32⟩
  | 1 => ⟨S1x4096x1024, .f32⟩
  | 2 => ⟨S1x4096x1024, .f32⟩
  | 3 => ⟨S3x4096x1024, .f32⟩
  | 4 => ⟨S3x4096x1024, .bf16⟩
  | 5 => ⟨S1x4096x1024, .f32⟩
  | 6 => ⟨S1x4096x1024, .f32⟩
  | 7 => ⟨S1x4096x1024, .f32⟩
  | 8 => ⟨S3x4096x1024, .f32⟩
  | 9 => ⟨S3x4096x1024, .bf16⟩
  | 10 => ⟨S4096x3072, .f32⟩
  | 11 => ⟨S4096x3072, .bf16⟩
  | 12 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩

abbrev nD : Nat := 1
abbrev τ : Topo := Topo.v7x

variable {F : FTy → Type} [FloatOps F]
-- ==== MixA.lean ====
abbrev S4096x10240 : Shape := ⟨2, ![4096, 10240]⟩
abbrev S3x4096x1024 : Shape := ⟨3, ![3, 4096, 1024]⟩
abbrev S3x1024 : Shape := ⟨2, ![3, 1024]⟩
abbrev S8x128 : Shape := ⟨2, ![8, 128]⟩
abbrev S1x512x1024 : Shape := ⟨3, ![1, 512, 1024]⟩
abbrev S512x1024 : Shape := ⟨2, ![512, 1024]⟩
abbrev S32x1024 : Shape := ⟨2, ![32, 1024]⟩
abbrev S552x1024 : Shape := ⟨2, ![552, 1024]⟩
abbrev S3x544x1024 : Shape := ⟨3, ![3, 544, 1024]⟩
abbrev S24x1024 : Shape := ⟨2, ![24, 1024]⟩
abbrev S3x512x1024 : Shape := ⟨3, ![3, 512, 1024]⟩
abbrev S8x1024 : Shape := ⟨2, ![8, 1024]⟩
abbrev S1x1024 : Shape := ⟨2, ![1, 1024]⟩
abbrev S16x1024 : Shape := ⟨2, ![16, 1024]⟩
abbrev S544x1024 : Shape := ⟨2, ![544, 1024]⟩
abbrev S1x544x1024 : Shape := ⟨3, ![1, 544, 1024]⟩
abbrev S1x16x1024 : Shape := ⟨3, ![1, 16, 1024]⟩
abbrev S1x8x1024 : Shape := ⟨3, ![1, 8, 1024]⟩
abbrev S1024 : Shape := ⟨1, ![1024]⟩

abbrev nBuf : Space → Nat
  | .hbm => 7
  | .vmem => 21
  | .smem => 0
  | _ => 0

abbrev bufTy : (tb : Table) → Fin (tcTables nBuf tb) → BufTy
  | .hbm, ⟨0, _⟩ => ⟨S4096x10240, .bf16⟩
  | .hbm, ⟨1, _⟩ => ⟨S3x4096x1024, .bf16⟩
  | .hbm, ⟨2, _⟩ => ⟨S4096x10240, .bf16⟩
  | .hbm, ⟨3, _⟩ => ⟨S3x1024, .f32⟩
  | .hbm, ⟨4, _⟩ => ⟨S8x128, .f32⟩
  | .hbm, ⟨5, _⟩ => ⟨S4096x10240, .bf16⟩
  | .hbm, ⟨6, _⟩ => ⟨S3x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S32x1024, .bf16⟩
  | .local _ .vmem, ⟨9, _⟩ => ⟨S32x1024, .bf16⟩
  | .local _ .vmem, ⟨10, _⟩ => ⟨S32x1024, .bf16⟩
  | .local _ .vmem, ⟨11, _⟩ => ⟨S32x1024, .bf16⟩
  | .local _ .vmem, ⟨12, _⟩ => ⟨S3x1024, .f32⟩
  | .local _ .vmem, ⟨13, _⟩ => ⟨S512x1024, .bf16⟩
  | .local _ .vmem, ⟨14, _⟩ => ⟨S512x1024, .bf16⟩
  | .local _ .vmem, ⟨15, _⟩ => ⟨S3x1024, .f32⟩
  | .local _ .vmem, ⟨16, _⟩ => ⟨S552x1024, .f32⟩
  | .local _ .vmem, ⟨17, _⟩ => ⟨S552x1024, .f32⟩
  | .local _ .vmem, ⟨18, _⟩ => ⟨S3x544x1024, .f32⟩
  | .local _ .vmem, ⟨19, _⟩ => ⟨S24x1024, .f32⟩
  | .local _ .vmem, ⟨20, _⟩ => ⟨S3x512x1024, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_28 : BitVec 32 := 0#32
  let c16_i32 : BitVec 32 := 16#32
  let v51 : BitVec 32 := Scalar.addi c0_i32_28 c16_i32
  let c1_i32_29 : BitVec 32 := 1#32
  ⟨c0_i32_28, v51, c1_i32_29⟩
def k0_mult1 (k0_t1 : Fin k0_t1_loop.trips) : BitVec 32 :=
  let c0_i32_28 : BitVec 32 := 0#32
  let c1_i32_29 : BitVec 32 := 1#32
  let arg18 : BitVec 32 := Scf.iv c0_i32_28 c1_i32_29 k0_t1
  let c2_i32 : BitVec 32 := 2#32
  let v101 : BitVec 32 := Scalar.muli arg18 c2_i32
  let c0_i32_86 : BitVec 32 := 0#32
  let v102 : BitVec 32 := Scalar.addi v101 c0_i32_86
  let c16_i32_87 : BitVec 32 := 16#32
  let v103 : BitVec 32 := Scalar.muli v102 c16_i32_87
  v103
def k0_off1 (k0_t1 : Fin k0_t1_loop.trips) (c0_i32_86 : BitVec 32) : Fin 2 → Nat :=
  let c0_i32_28 : BitVec 32 := 0#32
  let c1_i32_29 : BitVec 32 := 1#32
  let arg18 : BitVec 32 := Scf.iv c0_i32_28 c1_i32_29 k0_t1
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let v105 : Index := Scalar.indexCast v104
  let c0_88 : Index := 0#32
  ![v105.toNat, 0]
def k0_off2 (k0_t1 : Fin k0_t1_loop.trips) (c0_i32_86 : BitVec 32) : Fin 2 → Nat :=
  let c32_i32_90 : BitVec 32 := 32#32
  let c0_i32_28 : BitVec 32 := 0#32
  let c1_i32_29 : BitVec 32 := 1#32
  let arg18 : BitVec 32 := Scf.iv c0_i32_28 c1_i32_29 k0_t1
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let v112 : BitVec 32 := Scalar.addi c32_i32_90 v104
  let v113 : Index := Scalar.indexCast v112
  let c0_91 : Index := 0#32
  ![v113.toNat, 0]
def k0_mult2 (k0_t1 : Fin k0_t1_loop.trips) : BitVec 32 :=
  let c0_i32_28 : BitVec 32 := 0#32
  let c1_i32_29 : BitVec 32 := 1#32
  let arg18 : BitVec 32 := Scf.iv c0_i32_28 c1_i32_29 k0_t1
  let c2_i32_92 : BitVec 32 := 2#32
  let v117 : BitVec 32 := Scalar.muli arg18 c2_i32_92
  let c1_i32_93 : BitVec 32 := 1#32
  let v118 : BitVec 32 := Scalar.addi v117 c1_i32_93
  let c16_i32_94 : BitVec 32 := 16#32
  let v119 : BitVec 32 := Scalar.muli v118 c16_i32_94
  v119
@[reducible] def k0_t2_loop : Scf.Loop 32 :=
  let c0_i32_42 : BitVec 32 := 0#32
  let c16_i32_43 : BitVec 32 := 16#32
  let v64 : BitVec 32 := Scalar.addi c0_i32_42 c16_i32_43
  let c1_i32_44 : BitVec 32 := 1#32
  ⟨c0_i32_42, v64, c1_i32_44⟩
def k0_mult3 (k0_t2 : Fin k0_t2_loop.trips) : BitVec 32 :=
  let c0_i32_42 : BitVec 32 := 0#32
  let c1_i32_44 : BitVec 32 := 1#32
  let arg18 : BitVec 32 := Scf.iv c0_i32_42 c1_i32_44 k0_t2
  let c2_i32 : BitVec 32 := 2#32
  let v101 : BitVec 32 := Scalar.muli arg18 c2_i32
  let c0_i32_86 : BitVec 32 := 0#32
  let v102 : BitVec 32 := Scalar.addi v101 c0_i32_86
  let c16_i32_87 : BitVec 32 := 16#32
  let v103 : BitVec 32 := Scalar.muli v102 c16_i32_87
  v103
def k0_off3 (k0_t2 : Fin k0_t2_loop.trips) (c0_i32_86 : BitVec 32) : Fin 3 → Nat :=
  let c1_90 : Index := 1#32
  let c0_i32_42 : BitVec 32 := 0#32
  let c1_i32_44 : BitVec 32 := 1#32
  let arg18 : BitVec 32 := Scf.iv c0_i32_42 c1_i32_44 k0_t2
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let c24_i32 : BitVec 32 := 24#32
  let v107 : BitVec 32 := Scalar.addi v104 c24_i32
  let v108 : Index := Scalar.indexCast v107
  let c0_91 : Index := 0#32
  ![1, v108.toNat, 0]
def k0_off4 (k0_t2 : Fin k0_t2_loop.trips) (c0_i32_86 : BitVec 32) : Fin 3 → Nat :=
  let c2_94 : Index := 2#32
  let c0_i32_42 : BitVec 32 := 0#32
  let c1_i32_44 : BitVec 32 := 1#32
  let arg18 : BitVec 32 := Scf.iv c0_i32_42 c1_i32_44 k0_t2
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let c24_i32_93 : BitVec 32 := 24#32
  let v114 : BitVec 32 := Scalar.addi v104 c24_i32_93
  let v115 : Index := Scalar.indexCast v114
  let c0_95 : Index := 0#32
  ![2, v115.toNat, 0]
def k0_off5 (k0_t2 : Fin k0_t2_loop.trips) (c0_i32_86 : BitVec 32) : Fin 3 → Nat :=
  let c0_98 : Index := 0#32
  let c0_i32_42 : BitVec 32 := 0#32
  let c1_i32_44 : BitVec 32 := 1#32
  let arg18 : BitVec 32 := Scf.iv c0_i32_42 c1_i32_44 k0_t2
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let c32_i32_97 : BitVec 32 := 32#32
  let v122 : BitVec 32 := Scalar.addi v104 c32_i32_97
  let v123 : Index := Scalar.indexCast v122
  let c0_99 : Index := 0#32
  ![0, v123.toNat, 0]
def k0_off6 (k0_t2 : Fin k0_t2_loop.trips) (c0_i32_86 : BitVec 32) : Fin 3 → Nat :=
  let c0_100 : Index := 0#32
  let c0_i32_42 : BitVec 32 := 0#32
  let c1_i32_44 : BitVec 32 := 1#32
  let arg18 : BitVec 32 := Scf.iv c0_i32_42 c1_i32_44 k0_t2
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let v128 : Index := Scalar.indexCast v104
  let c0_101 : Index := 0#32
  ![0, v128.toNat, 0]
def k0_off7 (k0_t2 : Fin k0_t2_loop.trips) (c0_i32_86 : BitVec 32) : Fin 3 → Nat :=
  let c1_102 : Index := 1#32
  let c0_i32_42 : BitVec 32 := 0#32
  let c1_i32_44 : BitVec 32 := 1#32
  let arg18 : BitVec 32 := Scf.iv c0_i32_42 c1_i32_44 k0_t2
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let v134 : Index := Scalar.indexCast v104
  let c0_103 : Index := 0#32
  ![1, v134.toNat, 0]
def k0_off8 (k0_t2 : Fin k0_t2_loop.trips) (c0_i32_86 : BitVec 32) : Fin 2 → Nat :=
  let c0_i32_42 : BitVec 32 := 0#32
  let c1_i32_44 : BitVec 32 := 1#32
  let arg18 : BitVec 32 := Scf.iv c0_i32_42 c1_i32_44 k0_t2
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let v138 : Index := Scalar.indexCast v104
  let c0_104 : Index := 0#32
  ![v138.toNat, 0]
def k0_off9 (k0_t2 : Fin k0_t2_loop.trips) (c0_i32_86 : BitVec 32) : Fin 2 → Nat :=
  let c0_i32_42 : BitVec 32 := 0#32
  let c1_i32_44 : BitVec 32 := 1#32
  let arg18 : BitVec 32 := Scf.iv c0_i32_42 c1_i32_44 k0_t2
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let v142 : Index := Scalar.indexCast v104
  let c0_105 : Index := 0#32
  ![v142.toNat, 0]
def k0_mult4 (k0_t2 : Fin k0_t2_loop.trips) : BitVec 32 :=
  let c0_i32_42 : BitVec 32 := 0#32
  let c1_i32_44 : BitVec 32 := 1#32
  let arg18 : BitVec 32 := Scf.iv c0_i32_42 c1_i32_44 k0_t2
  let c2_i32_106 : BitVec 32 := 2#32
  let v146 : BitVec 32 := Scalar.muli arg18 c2_i32_106
  let c1_i32_107 : BitVec 32 := 1#32
  let v147 : BitVec 32 := Scalar.addi v146 c1_i32_107
  let c16_i32_108 : BitVec 32 := 16#32
  let v148 : BitVec 32 := Scalar.muli v147 c16_i32_108
  v148
@[reducible] def k0_t3_loop : Scf.Loop 32 :=
  let c0_i32_49 : BitVec 32 := 0#32
  let c32_i32 : BitVec 32 := 32#32
  let v68 : BitVec 32 := Scalar.addi c0_i32_49 c32_i32
  let c1_i32_50 : BitVec 32 := 1#32
  ⟨c0_i32_49, v68, c1_i32_50⟩
def k0_mult5 (k0_t3 : Fin k0_t3_loop.trips) : BitVec 32 :=
  let c2_i32 : BitVec 32 := 2#32
  let c0_i32_49 : BitVec 32 := 0#32
  let c1_i32_50 : BitVec 32 := 1#32
  let arg18 : BitVec 32 := Scf.iv c0_i32_49 c1_i32_50 k0_t3
  let v101 : BitVec 32 := Scalar.muli c2_i32 arg18
  let c0_i32_86 : BitVec 32 := 0#32
  let v102 : BitVec 32 := Scalar.addi v101 c0_i32_86
  let c8_i32 : BitVec 32 := 8#32
  let v103 : BitVec 32 := Scalar.muli v102 c8_i32
  v103
def k0_off10 (k0_t3 : Fin k0_t3_loop.trips) (c0_i32_86 : BitVec 32) : Fin 2 → Nat :=
  let c2_i32 : BitVec 32 := 2#32
  let c0_i32_49 : BitVec 32 := 0#32
  let c1_i32_50 : BitVec 32 := 1#32
  let arg18 : BitVec 32 := Scf.iv c0_i32_49 c1_i32_50 k0_t3
  let v101 : BitVec 32 := Scalar.muli c2_i32 arg18
  let v102 : BitVec 32 := Scalar.addi v101 c0_i32_86
  let c8_i32 : BitVec 32 := 8#32
  let v103 : BitVec 32 := Scalar.muli v102 c8_i32
  let v104 : BitVec 32 := v103
  let v105 : Index := Scalar.indexCast v104
  let c0_87 : Index := 0#32
  ![v105.toNat, 0]
def k0_off11 (k0_t3 : Fin k0_t3_loop.trips) (c0_i32_86 : BitVec 32) : Fin 3 → Nat :=
  let c1_88 : Index := 1#32
  let c2_i32 : BitVec 32 := 2#32
  let c0_i32_49 : BitVec 32 := 0#32
  let c1_i32_50 : BitVec 32 := 1#32
  let arg18 : BitVec 32 := Scf.iv c0_i32_49 c1_i32_50 k0_t3
  let v101 : BitVec 32 := Scalar.muli c2_i32 arg18
  let v102 : BitVec 32 := Scalar.addi v101 c0_i32_86
  let c8_i32 : BitVec 32 := 8#32
  let v103 : BitVec 32 := Scalar.muli v102 c8_i32
  let v104 : BitVec 32 := v103
  let c24_i32 : BitVec 32 := 24#32
  let v107 : BitVec 32 := Scalar.addi v104 c24_i32
  let v108 : Index := Scalar.indexCast v107
  let c0_89 : Index := 0#32
  ![1, v108.toNat, 0]
def k0_off12 (k0_t3 : Fin k0_t3_loop.trips) (c0_i32_86 : BitVec 32) : Fin 3 → Nat :=
  let c2_91 : Index := 2#32
  let c2_i32 : BitVec 32 := 2#32
  let c0_i32_49 : BitVec 32 := 0#32
  let c1_i32_50 : BitVec 32 := 1#32
  let arg18 : BitVec 32 := Scf.iv c0_i32_49 c1_i32_50 k0_t3
  let v101 : BitVec 32 := Scalar.muli c2_i32 arg18
  let v102 : BitVec 32 := Scalar.addi v101 c0_i32_86
  let c8_i32 : BitVec 32 := 8#32
  let v103 : BitVec 32 := Scalar.muli v102 c8_i32
  let v104 : BitVec 32 := v103
  let c24_i32_90 : BitVec 32 := 24#32
  let v113 : BitVec 32 := Scalar.addi v104 c24_i32_90
  let v114 : Index := Scalar.indexCast v113
  let c0_92 : Index := 0#32
  ![2, v114.toNat, 0]
def k0_off13 (k0_t3 : Fin k0_t3_loop.trips) (c0_i32_86 : BitVec 32) : Fin 3 → Nat :=
  let c0_94 : Index := 0#32
  let c2_i32 : BitVec 32 := 2#32
  let c0_i32_49 : BitVec 32 := 0#32
  let c1_i32_50 : BitVec 32 := 1#32
  let arg18 : BitVec 32 := Scf.iv c0_i32_49 c1_i32_50 k0_t3
  let v101 : BitVec 32 := Scalar.muli c2_i32 arg18
  let v102 : BitVec 32 := Scalar.addi v101 c0_i32_86
  let c8_i32 : BitVec 32 := 8#32
  let v103 : BitVec 32 := Scalar.muli v102 c8_i32
  let v104 : BitVec 32 := v103
  let c32_i32_93 : BitVec 32 := 32#32
  let v119 : BitVec 32 := Scalar.addi v104 c32_i32_93
  let v120 : Index := Scalar.indexCast v119
  let c0_95 : Index := 0#32
  ![0, v120.toNat, 0]
def k0_mult6 (k0_t3 : Fin k0_t3_loop.trips) : BitVec 32 :=
  let c2_i32_96 : BitVec 32 := 2#32
  let c0_i32_49 : BitVec 32 := 0#32
  let c1_i32_50 : BitVec 32 := 1#32
  let arg18 : BitVec 32 := Scf.iv c0_i32_49 c1_i32_50 k0_t3
  let v125 : BitVec 32 := Scalar.muli c2_i32_96 arg18
  let c1_i32_97 : BitVec 32 := 1#32
  let v126 : BitVec 32 := Scalar.addi v125 c1_i32_97
  let c8_i32_98 : BitVec 32 := 8#32
  let v127 : BitVec 32 := Scalar.muli v126 c8_i32_98
  v127
@[reducible] def k0_t4_loop : Scf.Loop 32 :=
  let c0_i32_82 : BitVec 32 := 0#32
  let c16_i32_83 : BitVec 32 := 16#32
  let v100 : BitVec 32 := Scalar.addi c0_i32_82 c16_i32_83
  let c1_i32_84 : BitVec 32 := 1#32
  ⟨c0_i32_82, v100, c1_i32_84⟩
def k0_mult7 (k0_t4 : Fin k0_t4_loop.trips) : BitVec 32 :=
  let c0_i32_82 : BitVec 32 := 0#32
  let c1_i32_84 : BitVec 32 := 1#32
  let arg18 : BitVec 32 := Scf.iv c0_i32_82 c1_i32_84 k0_t4
  let c2_i32 : BitVec 32 := 2#32
  let v101 : BitVec 32 := Scalar.muli arg18 c2_i32
  let c0_i32_86 : BitVec 32 := 0#32
  let v102 : BitVec 32 := Scalar.addi v101 c0_i32_86
  let c16_i32_87 : BitVec 32 := 16#32
  let v103 : BitVec 32 := Scalar.muli v102 c16_i32_87
  v103
def k0_off14 (k0_t4 : Fin k0_t4_loop.trips) (c0_i32_86 : BitVec 32) : Fin 3 → Nat :=
  let c2_91 : Index := 2#32
  let c0_i32_82 : BitVec 32 := 0#32
  let c1_i32_84 : BitVec 32 := 1#32
  let arg18 : BitVec 32 := Scf.iv c0_i32_82 c1_i32_84 k0_t4
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let c0_i32_90 : BitVec 32 := 0#32
  let v107 : BitVec 32 := Scalar.addi v104 c0_i32_90
  let v108 : Index := Scalar.indexCast v107
  let c0_92 : Index := 0#32
  ![2, v108.toNat, 0]
def k0_off15 (k0_t4 : Fin k0_t4_loop.trips) (c0_i32_86 : BitVec 32) : Fin 3 → Nat :=
  let c1_95 : Index := 1#32
  let c0_i32_82 : BitVec 32 := 0#32
  let c1_i32_84 : BitVec 32 := 1#32
  let arg18 : BitVec 32 := Scf.iv c0_i32_82 c1_i32_84 k0_t4
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let c0_i32_94 : BitVec 32 := 0#32
  let v114 : BitVec 32 := Scalar.addi v104 c0_i32_94
  let v115 : Index := Scalar.indexCast v114
  let c0_96 : Index := 0#32
  ![1, v115.toNat, 0]
def k0_off16 (k0_t4 : Fin k0_t4_loop.trips) (c0_i32_86 : BitVec 32) : Fin 3 → Nat :=
  let c0_99 : Index := 0#32
  let c0_i32_82 : BitVec 32 := 0#32
  let c1_i32_84 : BitVec 32 := 1#32
  let arg18 : BitVec 32 := Scf.iv c0_i32_82 c1_i32_84 k0_t4
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let c0_i32_98 : BitVec 32 := 0#32
  let v122 : BitVec 32 := Scalar.addi v104 c0_i32_98
  let v123 : Index := Scalar.indexCast v122
  let c0_100 : Index := 0#32
  ![0, v123.toNat, 0]
def k0_off17 (k0_t4 : Fin k0_t4_loop.trips) (c0_i32_86 : BitVec 32) : Fin 2 → Nat :=
  let c0_i32_82 : BitVec 32 := 0#32
  let c1_i32_84 : BitVec 32 := 1#32
  let arg18 : BitVec 32 := Scf.iv c0_i32_82 c1_i32_84 k0_t4
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let v128 : Index := Scalar.indexCast v104
  let c0_101 : Index := 0#32
  ![v128.toNat, 0]
def k0_off18 (k0_t4 : Fin k0_t4_loop.trips) (c0_i32_86 : BitVec 32) : Fin 3 → Nat :=
  let c0_102 : Index := 0#32
  let c0_i32_82 : BitVec 32 := 0#32
  let c1_i32_84 : BitVec 32 := 1#32
  let arg18 : BitVec 32 := Scf.iv c0_i32_82 c1_i32_84 k0_t4
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let v133 : Index := Scalar.indexCast v104
  let c0_103 : Index := 0#32
  ![0, v133.toNat, 0]
def k0_off19 (k0_t4 : Fin k0_t4_loop.trips) (c0_i32_86 : BitVec 32) : Fin 3 → Nat :=
  let c2_105 : Index := 2#32
  let c0_i32_82 : BitVec 32 := 0#32
  let c1_i32_84 : BitVec 32 := 1#32
  let arg18 : BitVec 32 := Scf.iv c0_i32_82 c1_i32_84 k0_t4
  let c2_i32 : BitVec 32 := 2#32
  let v101 : BitVec 32 := Scalar.muli arg18 c2_i32
  let v102 : BitVec 32 := Scalar.addi v101 c0_i32_86
  let c16_i32_87 : BitVec 32 := 16#32
  let v103 : BitVec 32 := Scalar.muli v102 c16_i32_87
  let v104 : BitVec 32 := v103
  let v142 : Index := Scalar.indexCast v104
  let c0_106 : Index := 0#32
  ![2, v142.toNat, 0]
def k0_mult8 (k0_t4 : Fin k0_t4_loop.trips) : BitVec 32 :=
  let c0_i32_82 : BitVec 32 := 0#32
  let c1_i32_84 : BitVec 32 := 1#32
  let arg18 : BitVec 32 := Scf.iv c0_i32_82 c1_i32_84 k0_t4
  let c2_i32_107 : BitVec 32 := 2#32
  let v146 : BitVec 32 := Scalar.muli arg18 c2_i32_107
  let c1_i32_108 : BitVec 32 := 1#32
  let v147 : BitVec 32 := Scalar.addi v146 c1_i32_108
  let c16_i32_109 : BitVec 32 := 16#32
  let v148 : BitVec 32 := Scalar.muli v147 c16_i32_109
  v148
def k0_off20 (i : grid0.Coords) : Fin 3 → Nat :=
  let arg1 : BitVec 32 := BitVec.ofNat 32 (i 1).val
  let v9 : Index := Scalar.indexCast arg1
  let c0 : Index := 0#32
  let c0_4 : Index := 0#32
  ![v9.toNat, 0, 0]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== MixARefIdeal.lean ====
abbrev S4096x10240 : Shape := ⟨2, ![4096, 10240]⟩
abbrev S3x4096x1024 : Shape := ⟨3, ![3, 4096, 1024]⟩
abbrev S3x1024 : Shape := ⟨2, ![3, 1024]⟩
abbrev S8x128 : Shape := ⟨2, ![8, 128]⟩
abbrev S4096x1024 : Shape := ⟨2, ![4096, 1024]⟩
abbrev S2x2048x1024 : Shape := ⟨3, ![2, 2048, 1024]⟩
abbrev S1x4096x1024 : Shape := ⟨3, ![1, 4096, 1024]⟩
abbrev S_ : Shape := ⟨0, ![]⟩
abbrev S2x2x1024 : Shape := ⟨3, ![2, 2, 1024]⟩
abbrev S2x2050x1024 : Shape := ⟨3, ![2, 2050, 1024]⟩
abbrev S1x1024 : Shape := ⟨2, ![1, 1024]⟩
abbrev S1024 : Shape := ⟨1, ![1024]⟩
abbrev S1x1x1024 : Shape := ⟨3, ![1, 1, 1024]⟩
abbrev S4096x7168 : Shape := ⟨2, ![4096, 7168]⟩

abbrev nBuf : Space → Nat
  | .hbm => 104
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S3x4096x1024, .bf16⟩
  | .hbm, ⟨2, _⟩ => ⟨S4096x10240, .bf16⟩
  | .hbm, ⟨3, _⟩ => ⟨S3x1024, .f32⟩
  | .hbm, ⟨4, _⟩ => ⟨S8x128, .f32⟩
  | .hbm, ⟨5, _⟩ => ⟨S4096x1024, .bf16⟩
  | .hbm, ⟨6, _⟩ => ⟨S4096x1024, .f32⟩
  | .hbm, ⟨7, _⟩ => ⟨S2x2048x1024, .f32⟩
  | .hbm, ⟨8, _⟩ => ⟨S4096x1024, .bf16⟩
  | .hbm, ⟨9, _⟩ => ⟨S4096x1024, .f32⟩
  | .hbm, ⟨10, _⟩ => ⟨S2x2048x1024, .f32⟩
  | .hbm, ⟨11, _⟩ => ⟨S4096x1024, .bf16⟩
  | .hbm, ⟨12, _⟩ => ⟨S4096x1024, .f32⟩
  | .hbm, ⟨13, _⟩ => ⟨S2x2048x1024, .f32⟩
  | .hbm, ⟨14, _⟩ => ⟨S1x4096x1024, .bf16⟩
  | .hbm, ⟨15, _⟩ => ⟨S4096x1024, .bf16⟩
  | .hbm, ⟨16, _⟩ => ⟨S4096x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2x1024, .f32⟩
  | .hbm, ⟨21, _⟩ => ⟨S2x2050x1024, .f32⟩
  | .hbm, ⟨22, _⟩ => ⟨S_, .f32⟩
  | .hbm, ⟨23, _⟩ => ⟨S2x2x1024, .f32⟩
  | .hbm, ⟨24, _⟩ => ⟨S1x1024, .f32⟩
  | .hbm, ⟨25, _⟩ => ⟨S1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S1x1024, .f32⟩
  | .hbm, ⟨34, _⟩ => ⟨S1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S1x1024, .f32⟩
  | .hbm, ⟨41, _⟩ => ⟨S1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S2x2050x1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S2x2050x1024, .f32⟩
  | .hbm, ⟨73, _⟩ => ⟨S2x2050x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S_, .f32⟩
  | .hbm, ⟨82, _⟩ => ⟨S1024, .f32⟩
  | .hbm, ⟨83, _⟩ => ⟨S1x1x1024, .f32⟩
  | .hbm, ⟨84, _⟩ => ⟨S_, .f32⟩
  | .hbm, ⟨85, _⟩ => ⟨S1024, .f32⟩
  | .hbm, ⟨86, _⟩ => ⟨S_, .f32⟩
  | .hbm, ⟨87, _⟩ => ⟨S2x2050x1024, .f32⟩
  | .hbm, ⟨88, _⟩ => ⟨S2x2050x1024, .f32⟩
  | .hbm, ⟨89, _⟩ => ⟨S1x1024, .f32⟩
  | .hbm, ⟨90, _⟩ => ⟨S_, .f32⟩
  | .hbm, ⟨91, _⟩ => ⟨S3x1024, .f32⟩
  | .hbm, ⟨92, _⟩ => ⟨S3x1024, .f32⟩
  | .hbm, ⟨93, _⟩ => ⟨S2x2x1024, .f32⟩
  | .hbm, ⟨94, _⟩ => ⟨S2x2048x1024, .f32⟩
  | .hbm, ⟨95, _⟩ => ⟨S2x2048x1024, .f32⟩
  | .hbm, ⟨96, _⟩ => ⟨S2x2048x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x7168, .bf16⟩
  | .hbm, ⟨101, _⟩ => ⟨S4096x7168, .f32⟩
  | .hbm, ⟨102, _⟩ => ⟨S4096x10240, .f32⟩
  | .hbm, ⟨103, _⟩ => ⟨S4096x10240, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_cst_12 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== Merge.lean ====
abbrev S4096x1024 : Shape := ⟨2, ![4096, 1024]⟩
abbrev S4096x10240 : Shape := ⟨2, ![4096, 10240]⟩
abbrev S1024 : Shape := ⟨1, ![1024]⟩
abbrev S3x1024x1024 : Shape := ⟨3, ![3, 1024, 1024]⟩
abbrev S1024x1024 : Shape := ⟨2, ![1024, 1024]⟩
abbrev S8x128 : Shape := ⟨2, ![8, 128]⟩
abbrev S3x4x256x1024 : Shape := ⟨4, ![3, 4, 256, 1024]⟩
abbrev S4x3x256x1024 : Shape := ⟨4, ![4, 3, 256, 1024]⟩
abbrev S1x1024 : Shape := ⟨2, ![1, 1024]⟩
abbrev S3x4096x1024 : Shape := ⟨3, ![3, 4096, 1024]⟩
abbrev S512x1024 : Shape := ⟨2, ![512, 1024]⟩
abbrev S3x512x1024 : Shape := ⟨3, ![3, 512, 1024]⟩
abbrev S512x256 : Shape := ⟨2, ![512, 256]⟩
abbrev S1x1x256x1024 : Shape := ⟨4, ![1, 1, 256, 1024]⟩
abbrev S256x1024 : Shape := ⟨2, ![256, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 18
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x10240, .bf16⟩
  | .hbm, ⟨5, _⟩ => ⟨S1024, .f32⟩
  | .hbm, ⟨6, _⟩ => ⟨S3x1024x1024, .f32⟩
  | .hbm, ⟨7, _⟩ => ⟨S1024x1024, .f32⟩
  | .hbm, ⟨8, _⟩ => ⟨S8x128, .f32⟩
  | .hbm, ⟨9, _⟩ => ⟨S3x4x256x1024, .f32⟩
  | .hbm, ⟨10, _⟩ => ⟨S4x3x256x1024, .f32⟩
  | .hbm, ⟨11, _⟩ => ⟨S4x3x256x1024, .bf16⟩
  | .hbm, ⟨12, _⟩ => ⟨S1024x1024, .bf16⟩
  | .hbm, ⟨13, _⟩ => ⟨S1x1024, .f32⟩
  | .hbm, ⟨14, _⟩ => ⟨S3x4096x1024, .bf16⟩
  | .hbm, ⟨15, _⟩ => ⟨S4096x1024, .bf16⟩
  | .hbm, ⟨16, _⟩ => ⟨S4096x1024, .bf16⟩
  | .hbm, ⟨17, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S4x3x256x1024, .bf16⟩
  | .local _ .vmem, ⟨15, _⟩ => ⟨S1024x1024, .bf16⟩
  | .local _ .vmem, ⟨16, _⟩ => ⟨S1x1024, .f32⟩
  | .local _ .vmem, ⟨17, _⟩ => ⟨S3x512x1024, .bf16⟩
  | .local _ .vmem, ⟨18, _⟩ => ⟨S3x512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x3x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S4096x1024 : Shape := ⟨2, ![4096, 1024]⟩
abbrev S4096x10240 : Shape := ⟨2, ![4096, 10240]⟩
abbrev S1024 : Shape := ⟨1, ![1024]⟩
abbrev S3x1024x1024 : Shape := ⟨3, ![3, 1024, 1024]⟩
abbrev S1024x1024 : Shape := ⟨2, ![1024, 1024]⟩
abbrev S8x128 : Shape := ⟨2, ![8, 128]⟩
abbrev S1x1024x1024 : Shape := ⟨3, ![1, 1024, 1024]⟩
abbrev S_ : Shape := ⟨0, ![]⟩
abbrev S1x4096x1024 : Shape := ⟨3, ![1, 4096, 1024]⟩
abbrev S3x4096x1024 : Shape := ⟨3, ![3, 4096, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x10240, .bf16⟩
  | .hbm, ⟨5, _⟩ => ⟨S1024, .f32⟩
  | .hbm, ⟨6, _⟩ => ⟨S3x1024x1024, .f32⟩
  | .hbm, ⟨7, _⟩ => ⟨S1024x1024, .f32⟩
  | .hbm, ⟨8, _⟩ => ⟨S8x128, .f32⟩
  | .hbm, ⟨9, _⟩ => ⟨S4096x1024, .f32⟩
  | .hbm, ⟨10, _⟩ => ⟨S1x1024x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S1x1024x1024, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S1x1024x1024, .f32⟩
  | .hbm, ⟨19, _⟩ => ⟨S1024x1024, .f32⟩
  | .hbm, ⟨20, _⟩ => ⟨S4096x1024, .f32⟩
  | .hbm, ⟨21, _⟩ => ⟨S4096x1024, .bf16⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S3x4096x1024, .f32⟩
  | .hbm, ⟨61, _⟩ => ⟨S3x4096x1024, .bf16⟩
  | .hbm, ⟨62, _⟩ => ⟨S4096x1024, .bf16⟩
  | .hbm, ⟨63, _⟩ => ⟨S4096x1024, .bf16⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Adam.lean ====
abbrev S4x1024x2560 : Shape := ⟨3, ![4, 1024, 2560]⟩
abbrev S1x64x2560 : Shape := ⟨3, ![1, 64, 2560]⟩
abbrev S64x2560 : Shape := ⟨2, ![64, 2560]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x2560, .f32⟩
  | .hbm, ⟨1, _⟩ => ⟨S4x1024x2560, .f32⟩
  | .hbm, ⟨2, _⟩ => ⟨S4x1024x2560, .f32⟩
  | .hbm, ⟨3, _⟩ => ⟨S4x1024x2560, .f32⟩
  | .hbm, ⟨4, _⟩ => ⟨S4x1024x2560, .f32⟩
  | .hbm, ⟨5, _⟩ => ⟨S4x1024x2560, .f32⟩
  | .hbm, ⟨6, _⟩ => ⟨S4x1024x2560, .f32⟩
  | .hbm, ⟨7, _⟩ => ⟨S4x1024x2560, .f32⟩
  | .local _ .vmem, ⟨0, _⟩ => ⟨S1x64x2560, .f32⟩
  | .local _ .vmem, ⟨1, _⟩ => ⟨S1x64x2560, .f32⟩
  | .local _ .vmem, ⟨2, _⟩ => ⟨S1x64x2560, .f32⟩
  | .local _ .vmem, ⟨3, _⟩ => ⟨S1x64x2560, .f32⟩
  | .local _ .vmem, ⟨4, _⟩ => ⟨S1x64x2560, .f32⟩
  | .local _ .vmem, ⟨5, _⟩ => ⟨S1x64x2560, .f32⟩
  | .local _ .vmem, ⟨6, _⟩ => ⟨S1x64x2560, .f32⟩
  | .local _ .vmem, ⟨7, _⟩ => ⟨S1x64x2560, .f32⟩
  | .local _ .vmem, ⟨8, _⟩ => ⟨S1x64x2560, .f32⟩
  | .local _ .vmem, ⟨9, _⟩ => ⟨S1x64x2560, .f32⟩
  | .local _ .vmem, ⟨10, _⟩ => ⟨S1x64x2560, .f32⟩
  | .local _ .vmem, ⟨11, _⟩ => ⟨S1x64x2560, .f32⟩
  | .local _ .vmem, ⟨12, _⟩ => ⟨S1x64x2560, .f32⟩
  | .local _ .vmem, ⟨13, _⟩ => ⟨S1x64x2560, .f32⟩
  | .local _ .vmem, ⟨14, _⟩ => ⟨S1x64x2560, .f32⟩
  | .local _ .vmem, ⟨15, _⟩ => ⟨S1x64x2560, .f32⟩
  | _, _ => ⟨S4x1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdamRefIdeal.lean ====
abbrev S4x1024x2560 : Shape := ⟨3, ![4, 1024, 2560]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x2560, .f32⟩
  | .hbm, ⟨1, _⟩ => ⟨S4x1024x2560, .f32⟩
  | .hbm, ⟨2, _⟩ => ⟨S4x1024x2560, .f32⟩
  | .hbm, ⟨3, _⟩ => ⟨S4x1024x2560, .f32⟩
  | .hbm, ⟨4, _⟩ => ⟨S_, .f32⟩
  | .hbm, ⟨5, _⟩ => ⟨S4x1024x2560, .f32⟩
  | .hbm, ⟨6, _⟩ => ⟨S4x1024x2560, .f32⟩
  | .hbm, ⟨7, _⟩ => ⟨S_, .f32⟩
  | .hbm, ⟨8, _⟩ => ⟨S4x1024x2560, .f32⟩
  | .hbm, ⟨9, _⟩ => ⟨S4x1024x2560, .f32⟩
  | .hbm, ⟨10, _⟩ => ⟨S4x1024x2560, .f32⟩
  | .hbm, ⟨11, _⟩ => ⟨S_, .f32⟩
  | .hbm, ⟨12, _⟩ => ⟨S4x1024x2560, .f32⟩
  | .hbm, ⟨13, _⟩ => ⟨S4x1024x2560, .f32⟩
  | .hbm, ⟨14, _⟩ => ⟨S4x1024x2560, .f32⟩
  | .hbm, ⟨15, _⟩ => ⟨S_, .f32⟩
  | .hbm, ⟨16, _⟩ => ⟨S4x1024x2560, .f32⟩
  | .hbm, ⟨17, _⟩ => ⟨S4x1024x2560, .f32⟩
  | .hbm, ⟨18, _⟩ => ⟨S4x1024x2560, .f32⟩
  | .hbm, ⟨19, _⟩ => ⟨S_, .f32⟩
  | .hbm, ⟨20, _⟩ => ⟨S4x1024x2560, .f32⟩
  | .hbm, ⟨21, _⟩ => ⟨S4x1024x2560, .f32⟩
  | .hbm, ⟨22, _⟩ => ⟨S_, .f32⟩
  | .hbm, ⟨23, _⟩ => ⟨S4x1024x2560, .f32⟩
  | .hbm, ⟨24, _⟩ => ⟨S4x1024x2560, .f32⟩
  | .hbm, ⟨25, _⟩ => ⟨S4x1024x2560, .f32⟩
  | .hbm, ⟨26, _⟩ => ⟨S_, .f32⟩
  | .hbm, ⟨27, _⟩ => ⟨S4x1024x2560, .f32⟩
  | .hbm, ⟨28, _⟩ => ⟨S4x1024x2560, .f32⟩
  | .hbm, ⟨29, _⟩ => ⟨S4x1024x2560, .f32⟩
  | .hbm, ⟨30, _⟩ => ⟨S_, .f32⟩
  | .hbm, ⟨31, _⟩ => ⟨S4x1024x2560, .f32⟩
  | .hbm, ⟨32, _⟩ => ⟨S4x1024x2560, .f32⟩
  | .hbm, ⟨33, _⟩ => ⟨S4x1024x2560, .f32⟩
  | .hbm, ⟨34, _⟩ => ⟨S_, .f32⟩
  | .hbm, ⟨35, _⟩ => ⟨S4x1024x2560, .f32⟩
  | .hbm, ⟨36, _⟩ => ⟨S4x1024x2560, .f32⟩
  | _, _ => ⟨S4x1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Win.lean ====
abbrev S4096x1024 : Shape := ⟨2, ![4096, 1024]⟩
abbrev S4096x10240 : Shape := ⟨2, ![4096, 10240]⟩
abbrev S4x1024x2560 : Shape := ⟨3, ![4, 1024, 2560]⟩
abbrev S1024x1024 : Shape := ⟨2, ![1024, 1024]⟩
abbrev S1024x2560 : Shape := ⟨2, ![1024, 2560]⟩
abbrev S1x1024x2560 : Shape := ⟨3, ![1, 1024, 2560]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S4x1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1x1024x2560, .bf16⟩
  | .local _ .vmem, ⟨5, _⟩ => ⟨S1x1024x2560, .bf16⟩
  | .local _ .vmem, ⟨6, _⟩ => ⟨S1024x2560, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg1
  let c0_i32 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S4096x1024 : Shape := ⟨2, ![4096, 1024]⟩
abbrev S4096x10240 : Shape := ⟨2, ![4096, 10240]⟩
abbrev S_ : Shape := ⟨0, ![]⟩
abbrev S1024x10240 : Shape := ⟨2, ![1024, 10240]⟩
abbrev S10240x1024 : Shape := ⟨2, ![10240, 1024]⟩
abbrev S1024x4x2560 : Shape := ⟨3, ![1024, 4, 2560]⟩
abbrev S4x1024x2560 : Shape := ⟨3, ![4, 1024, 2560]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S_, .f32⟩
  | .hbm, ⟨3, _⟩ => ⟨S1024x10240, .f32⟩
  | .hbm, ⟨4, _⟩ => ⟨S4096x1024, .f32⟩
  | .hbm, ⟨5, _⟩ => ⟨S4096x10240, .f32⟩
  | .hbm, ⟨6, _⟩ => ⟨S4096x10240, .f32⟩
  | .hbm, ⟨7, _⟩ => ⟨S10240x1024, .f32⟩
  | .hbm, ⟨8, _⟩ => ⟨S1024x10240, .f32⟩
  | .hbm, ⟨9, _⟩ => ⟨S1024x4x2560, .f32⟩
  | .hbm, ⟨10, _⟩ => ⟨S4x1024x2560, .f32⟩
  | .hbm, ⟨11, _⟩ => ⟨S4x1024x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proj.lean ====
abbrev S4096x1024 : Shape := ⟨2, ![4096, 1024]⟩
abbrev S1024 : Shape := ⟨1, ![1024]⟩
abbrev S1024x10240 : Shape := ⟨2, ![1024, 10240]⟩
abbrev S8x128 : Shape := ⟨2, ![8, 128]⟩
abbrev S1024x4x2560 : Shape := ⟨3, ![1024, 4, 2560]⟩
abbrev S4x1024x2560 : Shape := ⟨3, ![4, 1024, 2560]⟩
abbrev S1x1024 : Shape := ⟨2, ![1, 1024]⟩
abbrev S4096x10240 : Shape := ⟨2, ![4096, 10240]⟩
abbrev S1024x1024 : Shape := ⟨2, ![1024, 1024]⟩
abbrev S1x1024x2560 : Shape := ⟨3, ![1, 1024, 2560]⟩
abbrev S1024x2560 : Shape := ⟨2, ![1024, 2560]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x10240, .f32⟩
  | .hbm, ⟨3, _⟩ => ⟨S8x128, .f32⟩
  | .hbm, ⟨4, _⟩ => ⟨S1024x4x2560, .f32⟩
  | .hbm, ⟨5, _⟩ => ⟨S4x1024x2560, .f32⟩
  | .hbm, ⟨6, _⟩ => ⟨S4x1024x2560, .bf16⟩
  | .hbm, ⟨7, _⟩ => ⟨S1x1024, .f32⟩
  | .hbm, ⟨8, _⟩ => ⟨S4096x1024, .bf16⟩
  | .hbm, ⟨9, _⟩ => ⟨S4096x10240, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2560, .bf16⟩
  | .local _ .vmem, ⟨4, _⟩ => ⟨S1x1024x2560, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2560, .bf16⟩
  | .local _ .vmem, ⟨8, _⟩ => ⟨S1024x2560, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ProjRefIdeal.lean ====
abbrev S4096x1024 : Shape := ⟨2, ![4096, 1024]⟩
abbrev S1024 : Shape := ⟨1, ![1024]⟩
abbrev S1024x10240 : Shape := ⟨2, ![1024, 10240]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x10240 : Shape := ⟨2, ![4096, 10240]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x10240, .f32⟩
  | .hbm, ⟨3, _⟩ => ⟨S8x128, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x10240, .f32⟩
  | .hbm, ⟨22, _⟩ => ⟨S4096x10240, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.LossKernel.lean ====
/- What the loss kernel leaves in its two result arrays: every element of the difference times 2⁻¹⁰, and the sum over the
   eight blocks of rows of the block's squared differences times 2⁻¹¹. -/
module

public import proofs.«01_k».proof.Proof.Gen.KernelIdeal.Value
public import Idealize.ShloMosaic.Lib.Pipeline.ValueKit

@[expose] public section

set_option maxRecDepth 16384

noncomputable section

namespace Cert.KernelIdeal.Loss

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The gradient array: the difference of the two arguments times 2⁻¹⁰. -/
def grad (y z : FVec Ideal S4096x1024 .f32) : FVec Ideal S4096x1024 .f32 :=
  fun i => (y i - z i) * Ideal.ofBits .f32 0x3A800000#32

/-- The loss, block of 512 rows by block of 512 rows. -/
def loss (y z : FVec Ideal S4096x1024 .f32) : EReal :=
  ∑ p : Fin 8, (∑ r : Fin 512, ∑ l : Fin 1024,
    (y (ix2 (⟨p.val * 512 + r.val, by omega⟩ : Fin 4096) l) - z (ix2 (⟨p.val * 512 + r.val, by omega⟩ : Fin 4096) l))
      * (y (ix2 (⟨p.val * 512 + r.val, by omega⟩ : Fin 4096) l) - z (ix2 (⟨p.val * 512 + r.val, by omega⟩ : Fin 4096) l)))
    * Ideal.ofBits .f32 0x3A000000#32

/-- The windows' block indices at a grid point. -/
theorem idx : ∀ t : Fin cfg0.N, win0_0.index t = ![t.val, 0] ∧ win0_1.index t = ![t.val, 0] ∧ win0_2.index t = ![t.val, 0] ∧ t.val < 8 :=
  (by decide +kernel : ∀ t : Fin grid0.N, _)

/-- The gradient payload at an index. -/
theorem pay_grad (x z : FVec Ideal S512x1024 .f32) (j) :
    k0_pay3 x z j = (x j - z j) * Ideal.ofBits .f32 0x3A800000#32 := by
  pointwise [k0_pay3, k0_pay2]

/-- The loss payload adds the block's sum of squares, scaled. -/
theorem pay_loss (x z : FVec Ideal S512x1024 .f32) (acc : FVec Ideal S1x128 .f32) (j) :
    k0_pay4 x z acc j = acc j + (∑ r : Fin 512, ∑ l : Fin 1024, (x (ix2 r l) - z (ix2 r l)) * (x (ix2 r l) - z (ix2 r l)))
      * Ideal.ofBits .f32 0x3A000000#32 := by
  pointwise [k0_pay4, k0_pay2]

/-- The loss block starts at zero. -/
theorem pay_zero (j) : k0_pay1 (F := Ideal) j = 0 := by
  pointwise [k0_pay1]

theorem final_grad (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 8 = 0
  · rw [outsAt0_A m c t h]
    frame_out
    rw [pay_grad, grad]
    blk_point [iblk, V, idx t]
  · rw [outsAt0_B m c t h]
    frame_out
    rw [pay_grad, grad]
    blk_point [iblk, V, idx t]

theorem final_loss (c : Dev nD) (j) : (dats m 0 c).arrAt 3 (cfgs 0).N j
    = loss (m ((c : Thread nD τ).loc main_arg0)) (m ((c : Thread nD τ).loc main_arg1)) := by
  refine congrFun ((dats m 0 c).arrAt_eq_of_after_last 3 t0_7 (by decide +kernel)
    (fun _ => loss (m ((c : Thread nD τ).loc main_arg0)) (m ((c : Thread nD τ).loc main_arg1))) fun j => ?_) j
  blk_simp
  rw [after0_3]
  refine (Pipeline.eq_sum_fin_of_reset_step_apply_last (M := EReal) (ι := S1x128.Idx) (fun n h => (outsAt0 m c n h).2) 8 (fun _ => 0) _
    (fun t h j => by rw [outsAt0_A m c t h]; frame_out; rw [pay_loss, pay_zero])
    (fun t h j => by rw [outsAt0_B m c t h]; frame_out; rw [pay_loss])
    (le_of_eq N_0) t0_7 rfl j).trans ?_
  rw [zero_add, loss]
  refine Finset.sum_congr rfl fun p _ => ?_
  blk_point [iblk, V, idx p]

end Cert.KernelIdeal.Loss

end
-- ==== Proof.Consts.lean ====
/- The float words that the programs' constants are, read as real numbers. -/
module

public import Idealize.ShloMosaic.PureOps.Ideal.Laws

@[expose] public section

noncomputable section

namespace Cert.Consts

open Idealize.ShloMosaic

/-- The word of 2⁻¹⁰. -/
theorem ofBits_inv1024 : Ideal.ofBits .f32 0x3A800000#32 = ((1 / 1024 : ℝ) : EReal) := by
  simp [Ideal.ofBits, Ideal.ieee]
  rw [← EReal.coe_mul]; norm_num

/-- The word of 2⁻¹¹. -/
theorem ofBits_inv2048 : Ideal.ofBits .f32 0x3A000000#32 = ((1 / 2048 : ℝ) : EReal) := by
  simp [Ideal.ofBits, Ideal.ieee]
  rw [← EReal.coe_mul]; norm_num

/-- The word of 1024. -/
theorem ofBits_1024 : Ideal.ofBits .f32 0x44800000#32 = ((1024 : ℝ) : EReal) := by
  simp [Ideal.ofBits, Ideal.ieee]
  rw [← EReal.coe_mul]; norm_num

/-- The word of 2. -/
theorem ofBits_two : Ideal.ofBits .f32 0x40000000#32 = ((2 : ℝ) : EReal) := by
  simp [Ideal.ofBits, Ideal.ieee]
  rw [← EReal.coe_mul]; norm_num

/-- The word of 1/2. -/
theorem ofBits_half : Ideal.ofBits .f32 0x3F000000#32 = ((1 / 2 : ℝ) : EReal) := by
  simp [Ideal.ofBits, Ideal.ieee]
  rw [← EReal.coe_mul]; norm_num

end Cert.Consts

end
-- ==== Proof.LossEq.lean ====
/- The derivative of the loss and the loss itself, as the plain program computes them, are the two arrays of the kernel. -/
module

public import proofs.«01_k».proof.Proof.LossKernel
public import proofs.«01_k».proof.Proof.Consts
public import proofs.«01_k».proof.Proof.Gen.ReferenceIdeal.Run

@[expose] public section

set_option maxRecDepth 16384

noncomputable section

namespace Cert.KernelIdeal.Loss

open Cert.KernelIdeal Idealize.ShloMosaic Idealize.ShloMosaic.TcCoe Idealize.SL.Sem

/-- A factor goes into a sum of nonnegative terms. -/
theorem sum_mul_nonneg {ι : Type} (s : Finset ι) (f : ι → EReal) (hf : ∀ i, 0 ≤ f i) (k : EReal) :
    (∑ i ∈ s, f i) * k = ∑ i ∈ s, f i * k := by
  classical
  induction s using Finset.induction_on with
  | empty => simp
  | insert a s ha ih =>
    rw [Finset.sum_insert ha, Finset.sum_insert ha, EReal.right_distrib_of_nonneg (hf a) (Finset.sum_nonneg fun i _ => hf i), ih]

/-- A square is nonnegative. -/
theorem sq_nonneg (e : EReal) : 0 ≤ e * e := by
  rcases le_total 0 e with h | h
  · exact mul_nonneg h h
  · have := mul_nonneg (EReal.neg_nonneg.mpr h) (EReal.neg_nonneg.mpr h)
    simpa using this

/-- The plain program's gradient. -/
def refGrad (y z : FVec Ideal S4096x1024 .f32) : FVec Ideal S4096x1024 .f32 :=
  mulf (broadcastInDim Cert.ReferenceIdeal.S4096x1024 ![0] Cert.ReferenceIdeal.Gen.bcast_S4096_S4096x1024_0 (Host.divf (broadcastInDim Cert.ReferenceIdeal.S4096 ![] Cert.ReferenceIdeal.Gen.bcast_S_S4096 (mulf (constant Cert.ReferenceIdeal.S_ .f32 0x3F000000#32) (constant Cert.ReferenceIdeal.S_ .f32 0x3F800000#32))) (broadcastInDim Cert.ReferenceIdeal.S4096 ![] Cert.ReferenceIdeal.Gen.bcast_S_S4096 (constant Cert.ReferenceIdeal.S_ .f32 0x44800000#32)))) (mulf (broadcastInDim Cert.ReferenceIdeal.S4096x1024 ![] Cert.ReferenceIdeal.Gen.bcast_S_S4096x1024 (constant Cert.ReferenceIdeal.S_ .f32 0x40000000#32)) (subf y z))

/-- The plain program's loss, in every lane of one row. -/
def refLoss (y z : FVec Ideal S4096x1024 .f32) : FVec Ideal S1x128 .f32 :=
  broadcastInDim Cert.ReferenceIdeal.S1x128 ![] Cert.ReferenceIdeal.Gen.bcast_S_S1x128 (mulf (constant Cert.ReferenceIdeal.S_ .f32 0x3F000000#32) (Host.reduceAdd (Host.divf (Host.reduceAdd (mulf (subf y z) (subf y z)) (constant Cert.ReferenceIdeal.S_ .f32 0x00000000#32) Cert.ReferenceIdeal.Gen.reducesTo_S4096x1024_S4096_d1 Cert.ReferenceIdeal.Gen.h_S_) (broadcastInDim Cert.ReferenceIdeal.S4096 ![] Cert.ReferenceIdeal.Gen.bcast_S_S4096 (constant Cert.ReferenceIdeal.S_ .f32 0x44800000#32))) (constant Cert.ReferenceIdeal.S_ .f32 0x00000000#32) Cert.ReferenceIdeal.Gen.reducesTo_S4096_S_d0 Cert.ReferenceIdeal.Gen.h_S_))

/-- The gradients agree: ½ · 2 / 1024 = 2⁻¹⁰. -/
theorem refGrad_eq (y z : FVec Ideal S4096x1024 .f32) : refGrad y z = grad y z := by
  funext i
  pointwise [refGrad, grad]
  rw [Consts.ofBits_half, Consts.ofBits_1024, Consts.ofBits_two, Consts.ofBits_inv1024, Ideal.div_coe (by norm_num)]
  rw [← mul_assoc, mul_comm, ← EReal.coe_mul, ← EReal.coe_mul]
  norm_num

/-- The losses agree. -/
theorem refLoss_eq (y z : FVec Ideal S4096x1024 .f32) (j) : refLoss y z j = loss y z := by
  have hsq : ∀ r : Fin 4096, 0 ≤ ∑ l : Fin 1024, (y (ix2 r l) - z (ix2 r l)) * (y (ix2 r l) - z (ix2 r l)) :=
    fun r => Finset.sum_nonneg fun l _ => sq_nonneg _
  pointwise [refLoss]
  rw [Consts.ofBits_half, Consts.ofBits_1024]
  simp only [Ideal.div_coe (show (1024 : ℝ) ≠ 0 by norm_num)]
  rw [← sum_mul_nonneg _ _ hsq, mul_comm, mul_assoc, ← EReal.coe_mul, Fin.sum_univ_tiles 8 512 rfl,
    sum_mul_nonneg _ _ fun p => Finset.sum_nonneg fun r _ => hsq _, loss, Consts.ofBits_inv2048]
  norm_num

end Cert.KernelIdeal.Loss

end
-- ==== Proof.MixSBody.lean ====
/- The kernel function of the spatial-mixing gradient as a short program: one step per (head, chunk) pair, written
   once over the two indices, in place of the printed text's thirty-two copies. -/
module

public import proofs.«01_k».proof.Proof.Gen.MixSIdeal.Skeleton
public import Idealize.ShloMosaic.Lib.Tactic

@[expose] public section

set_option maxRecDepth 65536

noncomputable section

namespace Cert.MixSIdeal.Body

open Idealize.ShloMosaic Idealize.SL.Sem
open Cert.MixSIdeal.Gen

variable {F : FTy → Type} [FloatOps F] [Named F]

/-- A kernel program of this certificate. -/
abbrev P (α : Type) : Type 1 := Prog (TpuEff nD τ sig (Elt F) Λ₀ .tc) α

/-! ## Where step (c, h) reads and writes -/

/-- The tile of chunk `c` and head `h` lies in the row block. -/
theorem inbT (c : Fin 4) (h : Fin 8) : ∀ a, (![c.val * 128, h.val * 128] : Fin 2 → ℕ) a + S128x128.size a ≤ S512x1024.size a := by
  revert c h; decide
/-- The same tile of the staged cotangent, which carries a leading axis of one. -/
theorem inbY (c : Fin 4) (h : Fin 8) : ∀ a, (![0, c.val * 128, h.val * 128] : Fin 3 → ℕ) a + S1x128x128.size a ≤ S1x512x1024.size a := by
  revert c h; decide
/-- Head `h`'s column of the bias. -/
theorem inbC (h : Fin 8) : ∀ a, (![0, h.val] : Fin 2 → ℕ) a + S128x1.size a ≤ S128x8.size a := by
  revert h; decide
/-- Head `h`'s weight. -/
theorem inbH (h : Fin 8) : ∀ a, (![h.val, 0, 0] : Fin 3 → ℕ) a + S1x128x128.size a ≤ S8x128x128.size a := by
  revert h; decide

abbrev rT (c : Fin 4) (h : Fin 8) : Rect S512x1024 := Rect.unit (s := S512x1024) ![c.val * 128, h.val * 128] S128x128.size (inbT c h)
abbrev rY (c : Fin 4) (h : Fin 8) : Rect S1x512x1024 := Rect.unit (s := S1x512x1024) ![0, c.val * 128, h.val * 128] S1x128x128.size (inbY c h)
abbrev rC (h : Fin 8) : Rect S128x8 := Rect.unit (s := S128x8) ![0, h.val] S128x1.size (inbC h)
abbrev rH (h : Fin 8) : Rect S8x128x128 := Rect.unit (s := S8x128x128) ![h.val, 0, 0] S1x128x128.size (inbH h)

section Program

variable (a3 : Memref sig .tc .vmem S1x512x1024 .bf16) (a8 : Memref sig .tc .vmem S8x128x128 .f32)
  (a9 : Memref sig .tc .vmem S8x128x128 .f32) (a10 : Memref sig .tc .vmem S128x8 .f32)
  (a12 : Memref sig .tc .vmem S8x128x128 .f32) (a13 : Memref sig .tc .vmem S128x8 .f32)
  (a16 : Memref sig .tc .vmem S512x1024 .f32) (a17 : Memref sig .tc .vmem S512x1024 .bf16)
  (a18 : Memref sig .tc .vmem S512x1024 .f32)

/-- Step (c, h): mix the normalised tile, and add the tile's share of every gradient. -/
noncomputable def iter (wm wmt : FVec F S128x128 .bf16) (c : Fin 4) (h : Fin 8) : P (F := F) PUnit := do
  let vb : Vec F S128x128 .bf16 ← Prog.lift (.load a17 (rT c h).toLoadRect (View.loadsAt_vmem h_S128x128))
  let b : Vec F S128x1 .f32 ← Prog.lift (.load a10 (rC h).toLoadRect (View.loadsAt_vmem h_S128x1))
  let dy : Vec F S1x128x128 .bf16 ← Prog.lift (.load a3 (rY c h).toLoadRect (View.loadsAt_vmem h_S1x128x128))
  let u : Vec F S128x128 .f32 ← Prog.lift (.load a16 (rT c h).toLoadRect (View.loadsAt_vmem h_S128x128))
  let _ : Vec F S128x128 .f32 ← Prog.lift (.load a16 (rT c h).toLoadRect (View.loadsAt_vmem h_S128x128))
  Prog.lift (.store a16 (rT c h) (k0_pay40 (k0_pay36 wm vb) (k0_pay37 b) dy) Finset.univ (View.stores_vmem_bits_univ h_S128x128 rfl) (.inl rfl))
  let g : Vec F S128x1 .f32 ← Prog.lift (.load a13 (rC h).toLoadRect (View.loadsAt_vmem h_S128x1))
  let _ : Vec F S128x1 .f32 ← Prog.lift (.load a13 (rC h).toLoadRect (View.loadsAt_vmem h_S128x1))
  Prog.lift (.store a13 (rC h) (k0_pay41 dy u g) Finset.univ (View.stores_vmem_bits_univ h_S128x1 rfl) (.inl rfl))
  let w : Vec F S1x128x128 .f32 ← Prog.lift (.load a12 (rH h).toLoadRect (View.loadsAt_vmem h_S1x128x128))
  let _ : Vec F S1x128x128 .f32 ← Prog.lift (.load a12 (rH h).toLoadRect (View.loadsAt_vmem h_S1x128x128))
  Prog.lift (.store a12 (rH h) (k0_pay43 vb dy u w) Finset.univ (View.stores_vmem_bits_univ h_S1x128x128 rfl) (.inl rfl))
  let _ : Vec F S128x128 .f32 ← Prog.lift (.load a18 (rT c h).toLoadRect (View.loadsAt_vmem h_S128x128))
  Prog.lift (.store a18 (rT c h) (k0_pay44 wmt dy u) Finset.univ (View.stores_vmem_bits_univ h_S128x128 rfl) (.inl rfl))

/-- The four chunks of head `h`, under its two masked weights. -/
noncomputable def four (wm wmt : FVec F S128x128 .bf16) (h : Fin 8) : P (F := F) PUnit := do
  iter a3 a10 a12 a13 a16 a17 a18 wm wmt 0 h
  iter a3 a10 a12 a13 a16 a17 a18 wm wmt 1 h
  iter a3 a10 a12 a13 a16 a17 a18 wm wmt 2 h
  iter a3 a10 a12 a13 a16 a17 a18 wm wmt 3 h

/-- Head `h`: its two masked weights, then its four chunks. -/
noncomputable def head (h : Fin 8) : P (F := F) PUnit := do
  let w : Vec F S1x128x128 .f32 ← Prog.lift (.load a8 (rH h).toLoadRect (View.loadsAt_vmem h_S1x128x128))
  let wt : Vec F S1x128x128 .f32 ← Prog.lift (.load a9 (rH h).toLoadRect (View.loadsAt_vmem h_S1x128x128))
  four a3 a10 a12 a13 a16 a17 a18 (k0_pay26 w) (k0_pay27 wt) h

/-- All heads in order. -/
noncomputable def heads : P (F := F) PUnit := do
  head a3 a8 a9 a10 a12 a13 a16 a17 a18 0
  head a3 a8 a9 a10 a12 a13 a16 a17 a18 1
  head a3 a8 a9 a10 a12 a13 a16 a17 a18 2
  head a3 a8 a9 a10 a12 a13 a16 a17 a18 3
  head a3 a8 a9 a10 a12 a13 a16 a17 a18 4
  head a3 a8 a9 a10 a12 a13 a16 a17 a18 5
  head a3 a8 a9 a10 a12 a13 a16 a17 a18 6
  head a3 a8 a9 a10 a12 a13 a16 a17 a18 7

variable (a4 a5 : Memref sig .tc .vmem S512x1024 .bf16) (a6 a7 : Memref sig .tc .vmem S1x1024 .f32)
  (a11 : Memref sig .tc .vmem S512x1024 .bf16) (ha11 : a11.IsWhole)
  (a14 a15 : Memref sig .tc .vmem S1x1024 .f32) (ha17 : a17.IsWhole)
  (a19 : Memref sig .tc .vmem S2x512x1024 .bf16) (ha19 : a19.IsWhole)

/-- The zero fills of the first point. -/
noncomputable def zeros : P (F := F) PUnit := do
  let _ : Vec F S8x128x128 .f32 ← Prog.lift (.load a12 (Rect.unit (s := S8x128x128) ![0, 0, 0] S8x128x128.size inb_S8x128x128_S8x128x128_0_0_0).toLoadRect (View.loadsAt_vmem h_S8x128x128))
  Prog.lift (.store a12 (Rect.unit (s := S8x128x128) ![0, 0, 0] S8x128x128.size inb_S8x128x128_S8x128x128_0_0_0) (k0_pay1 (F := F)) Finset.univ (View.stores_vmem_bits_univ h_S8x128x128 rfl) (.inl rfl))
  let _ : Vec F S128x8 .f32 ← Prog.lift (.load a13 (Rect.unit (s := S128x8) ![0, 0] S128x8.size inb_S128x8_S128x8_0_0).toLoadRect (View.loadsAt_vmem h_S128x8))
  Prog.lift (.store a13 (Rect.unit (s := S128x8) ![0, 0] S128x8.size inb_S128x8_S128x8_0_0) (k0_pay2 (F := F)) Finset.univ (View.stores_vmem_bits_univ h_S128x8 rfl) (.inl rfl))
  let _ : Vec F S1x1024 .f32 ← Prog.lift (.load a14 (Rect.unit (s := S1x1024) ![0, 0] S1x1024.size inb_S1x1024_S1x1024_0_0).toLoadRect (View.loadsAt_vmem h_S1x1024))
  Prog.lift (.store a14 (Rect.unit (s := S1x1024) ![0, 0] S1x1024.size inb_S1x1024_S1x1024_0_0) (k0_pay3 (F := F)) Finset.univ (View.stores_vmem_bits_univ h_S1x1024 rfl) (.inl rfl))
  let _ : Vec F S1x1024 .f32 ← Prog.lift (.load a15 (Rect.unit (s := S1x1024) ![0, 0] S1x1024.size inb_S1x1024_S1x1024_0_0).toLoadRect (View.loadsAt_vmem h_S1x1024))
  Prog.lift (.store a15 (Rect.unit (s := S1x1024) ![0, 0] S1x1024.size inb_S1x1024_S1x1024_0_0) (k0_pay4 (F := F)) Finset.univ (View.stores_vmem_bits_univ h_S1x1024 rfl) (.inl rfl))

/-- What comes before the heads: the gate's activations and the normalised gate go to scratch. -/
noncomputable def pre : P (F := F) (Vec F S512x1024 .bf16 × Vec F S512x1024 .bf16) := do
  let su : Vec F S512x1024 .bf16 ← Prog.lift (.load a4 (Rect.unit (s := S512x1024) ![0, 0] S512x1024.size inb_S512x1024_S512x1024_0_0).toLoadRect (View.loadsAt_vmem h_S512x1024))
  let sv : Vec F S512x1024 .bf16 ← Prog.lift (.load a5 (Rect.unit (s := S512x1024) ![0, 0] S512x1024.size inb_S512x1024_S512x1024_0_0).toLoadRect (View.loadsAt_vmem h_S512x1024))
  let _ : Vec F S512x1024 .f32 ← Prog.lift (.load a16 (Rect.unit (s := S512x1024) ![0, 0] S512x1024.size inb_S512x1024_S512x1024_0_0).toLoadRect (View.loadsAt_vmem h_S512x1024))
  Prog.lift (.store a16 (Rect.unit (s := S512x1024) ![0, 0] S512x1024.size inb_S512x1024_S512x1024_0_0) (k0_pay18 (k0_pay10 su)) Finset.univ (View.stores_vmem_bits_univ h_S512x1024 rfl) (.inl rfl))
  let lg : Vec F S1x1024 .f32 ← Prog.lift (.load a6 (Rect.unit (s := S1x1024) ![0, 0] S1x1024.size inb_S1x1024_S1x1024_0_0).toLoadRect (View.loadsAt_vmem h_S1x1024))
  let lb : Vec F S1x1024 .f32 ← Prog.lift (.load a7 (Rect.unit (s := S1x1024) ![0, 0] S1x1024.size inb_S1x1024_S1x1024_0_0).toLoadRect (View.loadsAt_vmem h_S1x1024))
  let _ : Vec F S512x1024 .bf16 ← Prog.lift (.load a17 (Rect.unit (s := S512x1024) ![0, 0] S512x1024.size inb_S512x1024_S512x1024_0_0).toLoadRect (View.loadsAt_vmem h_S512x1024))
  Prog.lift (.store a17 (Rect.unit (s := S512x1024) ![0, 0] S512x1024.size inb_S512x1024_S512x1024_0_0)
    (k0_pay23 (k0_pay19 (k0_pay12 sv) (k0_pay14 sv) (k0_pay15 sv) (Scalar.ofBits .f32 0x3F800000#32)) (k0_pay20 (k0_pay12 sv) (k0_pay14 sv) (k0_pay15 sv) (Scalar.ofBits .f32 0x3F800000#32)) lg lb)
    Finset.univ (View.stores_vmem h_S512x1024 (ha17.storeExact_slice rfl _ packedbf16_S512x1024_S512x1024_0_0) (fun _ => rfl)) (.inl rfl))
  pure (su, sv)

/-- The value the gelu derivative, the normalised gate and its root take from the gate's block. -/
noncomputable def v79 (sv : Vec F S512x1024 .bf16) : FVec F S512x1024 .f32 :=
  k0_pay17 (k0_pay12 sv) (k0_pay13 sv) (k0_pay14 sv) (k0_pay15 sv) (Scalar.ofBits .f32 0x3F800000#32)
noncomputable def v88 (sv : Vec F S512x1024 .bf16) : FVec F S512x1024 .f32 :=
  k0_pay19 (k0_pay12 sv) (k0_pay14 sv) (k0_pay15 sv) (Scalar.ofBits .f32 0x3F800000#32)
noncomputable def v95 (sv : Vec F S512x1024 .bf16) : FVec F S512x1 .f32 :=
  k0_pay20 (k0_pay12 sv) (k0_pay14 sv) (k0_pay15 sv) (Scalar.ofBits .f32 0x3F800000#32)

/-- What comes after the heads: the two input gradients go to the stage, the norm's to their sums. -/
noncomputable def post (su sv : Vec F S512x1024 .bf16) : P (F := F) PUnit := do
  let g : Vec F S512x1024 .f32 ← Prog.lift (.load a16 (Rect.unit (s := S512x1024) ![0, 0] S512x1024.size inb_S512x1024_S512x1024_0_0).toLoadRect (View.loadsAt_vmem h_S512x1024))
  let _ : Vec F S1x512x1024 .bf16 ← Prog.lift (.load a19 (Rect.unit (s := S2x512x1024) ![0, 0, 0] S1x512x1024.size inb_S2x512x1024_S1x512x1024_0_0_0).toLoadRect (View.loadsAt_vmem h_S1x512x1024))
  Prog.lift (.store a19 (Rect.unit (s := S2x512x1024) ![0, 0, 0] S1x512x1024.size inb_S2x512x1024_S1x512x1024_0_0_0) (k0_pay297 (k0_pay11 su) g) Finset.univ (View.stores_vmem h_S1x512x1024 (ha19.storeExact_slice rfl _ packedbf16_S2x512x1024_S1x512x1024_0_0_0) (fun _ => rfl)) (.inl rfl))
  let d : Vec F S512x1024 .f32 ← Prog.lift (.load a18 (Rect.unit (s := S512x1024) ![0, 0] S512x1024.size inb_S512x1024_S512x1024_0_0).toLoadRect (View.loadsAt_vmem h_S512x1024))
  let p : Vec F S1x1024 .f32 ← Prog.lift (.load a14 (Rect.unit (s := S1x1024) ![0, 0] S1x1024.size inb_S1x1024_S1x1024_0_0).toLoadRect (View.loadsAt_vmem h_S1x1024))
  let _ : Vec F S1x1024 .f32 ← Prog.lift (.load a14 (Rect.unit (s := S1x1024) ![0, 0] S1x1024.size inb_S1x1024_S1x1024_0_0).toLoadRect (View.loadsAt_vmem h_S1x1024))
  Prog.lift (.store a14 (Rect.unit (s := S1x1024) ![0, 0] S1x1024.size inb_S1x1024_S1x1024_0_0) (k0_pay298 (k0_pay22 (v88 sv) (v95 sv)) d p) Finset.univ (View.stores_vmem_bits_univ h_S1x1024 rfl) (.inl rfl))
  let q : Vec F S1x1024 .f32 ← Prog.lift (.load a15 (Rect.unit (s := S1x1024) ![0, 0] S1x1024.size inb_S1x1024_S1x1024_0_0).toLoadRect (View.loadsAt_vmem h_S1x1024))
  let _ : Vec F S1x1024 .f32 ← Prog.lift (.load a15 (Rect.unit (s := S1x1024) ![0, 0] S1x1024.size inb_S1x1024_S1x1024_0_0).toLoadRect (View.loadsAt_vmem h_S1x1024))
  Prog.lift (.store a15 (Rect.unit (s := S1x1024) ![0, 0] S1x1024.size inb_S1x1024_S1x1024_0_0) (k0_pay299 d q) Finset.univ (View.stores_vmem_bits_univ h_S1x1024 rfl) (.inl rfl))
  let lg : Vec F S1x1024 .f32 ← Prog.lift (.load a6 (Rect.unit (s := S1x1024) ![0, 0] S1x1024.size inb_S1x1024_S1x1024_0_0).toLoadRect (View.loadsAt_vmem h_S1x1024))
  let _ : Vec F S1x512x1024 .bf16 ← Prog.lift (.load a19 (Rect.unit (s := S2x512x1024) ![1, 0, 0] S1x512x1024.size inb_S2x512x1024_S1x512x1024_1_0_0).toLoadRect (View.loadsAt_vmem h_S1x512x1024))
  Prog.lift (.store a19 (Rect.unit (s := S2x512x1024) ![1, 0, 0] S1x512x1024.size inb_S2x512x1024_S1x512x1024_1_0_0)
    (k0_pay5 (v79 sv) (k0_pay21 (v95 sv)) (k0_pay22 (v88 sv) (v95 sv)) (k0_pay301 d lg) (k0_pay302 (k0_pay22 (v88 sv) (v95 sv)) d lg) (k0_pay303 (F := F)))
    Finset.univ (View.stores_vmem h_S1x512x1024 (ha19.storeExact_slice rfl _ packedbf16_S2x512x1024_S1x512x1024_1_0_0) (fun _ => rfl)) (.inl rfl))

/-- The row block's half of the stage goes out. -/
noncomputable def out (i : grid0.Coords) : P (F := F) PUnit := do
  let v9 : Vec F S1x512x1024 .bf16 ← Prog.lift (.load a19 (Rect.unit (s := S2x512x1024) (k0_off1 i) S1x512x1024.size (k0_off1_inb i)).toLoadRect (View.loadsAt_vmem h_S1x512x1024))
  let _ : Vec F S512x1024 .bf16 ← Prog.lift (.load a11 (Rect.unit (s := S512x1024) ![0, 0] S512x1024.size inb_S512x1024_S512x1024_0_0).toLoadRect (View.loadsAt_vmem h_S512x1024))
  Prog.lift (.store a11 (Rect.unit (s := S512x1024) ![0, 0] S512x1024.size inb_S512x1024_S512x1024_0_0) (k0_pay6 v9) Finset.univ (View.stores_vmem h_S512x1024 (ha11.storeExact_slice rfl _ packedbf16_S512x1024_S512x1024_0_0) (fun _ => rfl)) (.inl rfl))

/-- The work of a point whose second coordinate is zero, after the zero fills. -/
noncomputable def work : P (F := F) PUnit := do
  let (su, sv) ← pre a16 a17 a4 a5 a6 a7 ha17
  heads a3 a8 a9 a10 a12 a13 a16 a17 a18
  post a16 a18 a6 a14 a15 a19 ha19 su sv

/-- The whole body. -/
noncomputable def body (i : grid0.Coords) : P (F := F) PUnit := do
  if k0_cond1 i = 1#1 then zeros a12 a13 a14 a15 else pure ⟨⟩
  if k0_cond2 i = 1#1 then work a3 a8 a9 a10 a12 a13 a16 a17 a18 a4 a5 a6 a7 a14 a15 ha17 a19 ha19 else pure ⟨⟩
  out a11 ha11 a19 i

end Program

set_option maxHeartbeats 4000000 in
/-- The printed kernel function is this program. -/
theorem cc0_eq (i : grid0.Coords) (a2 : Memref sig .tc .hbm S4096x10240 .bf16) (ha2 : a2.IsWhole) (a3 : Memref sig .tc .vmem S1x512x1024 .bf16) (ha3 : a3.IsWhole) (a4 : Memref sig .tc .vmem S512x1024 .bf16) (ha4 : a4.IsWhole) (a5 : Memref sig .tc .vmem S512x1024 .bf16) (ha5 : a5.IsWhole) (a6 : Memref sig .tc .vmem S1x1024 .f32) (ha6 : a6.IsWhole) (a7 : Memref sig .tc .vmem S1x1024 .f32) (ha7 : a7.IsWhole) (a8 : Memref sig .tc .vmem S8x128x128 .f32) (ha8 : a8.IsWhole) (a9 : Memref sig .tc .vmem S8x128x128 .f32) (ha9 : a9.IsWhole) (a10 : Memref sig .tc .vmem S128x8 .f32) (ha10 : a10.IsWhole) (a11 : Memref sig .tc .vmem S512x1024 .bf16) (ha11 : a11.IsWhole) (a12 : Memref sig .tc .vmem S8x128x128 .f32) (ha12 : a12.IsWhole) (a13 : Memref sig .tc .vmem S128x8 .f32) (ha13 : a13.IsWhole) (a14 : Memref sig .tc .vmem S1x1024 .f32) (ha14 : a14.IsWhole) (a15 : Memref sig .tc .vmem S1x1024 .f32) (ha15 : a15.IsWhole) (a16 : Memref sig .tc .vmem S512x1024 .f32) (ha16 : a16.IsWhole) (a17 : Memref sig .tc .vmem S512x1024 .bf16) (ha17 : a17.IsWhole) (a18 : Memref sig .tc .vmem S512x1024 .f32) (ha18 : a18.IsWhole) (a19 : Memref sig .tc .vmem S2x512x1024 .bf16) (ha19 : a19.IsWhole) :
    cc0_mix_s_bwd (F := F) i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19
      = body a3 a8 a9 a10 a12 a13 a16 a17 a18 a4 a5 a6 a7 a11 ha11 a14 a15 ha17 a19 ha19 i := by
  sl_kernel_rfl

end Cert.MixSIdeal.Body

end
-- ==== Proof.MixSIter.lean ====
/- One step of the spatial-mixing gradient: what it leaves, and that the program's step leaves it. -/
module

public import proofs.«01_k».proof.Proof.MixSBody
public import Idealize.ShloMosaic.Lib.Pipeline.FrameBody
public import Idealize.ShloMosaic.Lib.VecWindow
public import proofs.«01_k».proof.Proof.Gen.MixSIdeal.Launch

@[expose] public section

set_option maxRecDepth 16384

noncomputable section

namespace Cert.MixSIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixSIdeal.Gen

variable {F : FTy → Type} [FloatOps F] [Named F]

local notation "𝕄" => MT nD τ sig Unit (Elt F) ℕ (UR sig nD τ) ℕ

/-- What the steps change: the activations' scratch (each tile replaced by the gradient at the activation), the
normalised gate's gradient, and the weight's and the bias' sums. -/
structure St (F : FTy → Type) where
  u : Vec F S512x1024 .f32
  dv : Vec F S512x1024 .f32
  dw : Vec F S8x128x128 .f32
  db : Vec F S128x8 .f32

/-- The state after step (c, h). -/
def step (dy : Vec F S1x512x1024 .bf16) (vn : Vec F S512x1024 .bf16) (b : Vec F S128x8 .f32) (wm wmt : FVec F S128x128 .bf16)
    (c : Fin 4) (h : Fin 8) (s : St F) : St F where
  u := VecWindow.put s.u ![c.val * 128, h.val * 128] S128x128.size
    (k0_pay40 (k0_pay36 wm (View.ld (Val := Elt F) vn (rT c h))) (k0_pay37 (View.ld (Val := Elt F) b (rC h))) (View.ld (Val := Elt F) dy (rY c h)))
  dv := VecWindow.put s.dv ![c.val * 128, h.val * 128] S128x128.size
    (k0_pay44 wmt (View.ld (Val := Elt F) dy (rY c h)) (View.ld (Val := Elt F) s.u (rT c h)))
  dw := VecWindow.put s.dw ![h.val, 0, 0] S1x128x128.size
    (k0_pay43 (View.ld (Val := Elt F) vn (rT c h)) (View.ld (Val := Elt F) dy (rY c h)) (View.ld (Val := Elt F) s.u (rT c h)) (View.ld (Val := Elt F) s.dw (rH h)))
  db := VecWindow.put s.db ![0, h.val] S128x1.size
    (k0_pay41 (View.ld (Val := Elt F) dy (rY c h)) (View.ld (Val := Elt F) s.u (rT c h)) (View.ld (Val := Elt F) s.db (rC h)))

section Triple

variable (t : Dev nD) (a3 : Memref sig .tc .vmem S1x512x1024 .bf16) (a8 a9 : Memref sig .tc .vmem S8x128x128 .f32)
  (a10 : Memref sig .tc .vmem S128x8 .f32)
  (a12 : Memref sig .tc .vmem S8x128x128 .f32) (a13 : Memref sig .tc .vmem S128x8 .f32)
  (a16 : Memref sig .tc .vmem S512x1024 .f32) (a17 : Memref sig .tc .vmem S512x1024 .bf16)
  (a18 : Memref sig .tc .vmem S512x1024 .f32)

/-- The buffers the steps change, at the state's contents. -/
def held (s : St F) : sProp 𝕄 :=
  iprop(owns t a12 fullShare s.dw ∗ owns t a13 fullShare s.db ∗
    owns t a16 fullShare s.u ∗ owns t a18 fullShare s.dv)

/-- The buffers the steps only read. -/
def fixed (dy : Vec F S1x512x1024 .bf16) (vn : Vec F S512x1024 .bf16) (b : Vec F S128x8 .f32) : sProp 𝕄 :=
  iprop(owns t a3 fullShare dy ∗ owns t a10 fullShare b ∗ owns t a17 fullShare vn)

/-- Step (c, h) of the program takes the state to `step`. -/
theorem iter_triple (dy : Vec F S1x512x1024 .bf16) (vn : Vec F S512x1024 .bf16) (b : Vec F S128x8 .f32) (wm wmt : FVec F S128x128 .bf16)
    (c : Fin 4) (h : Fin 8) (s : St F) (E : Set ℕ) (K : PUnit → sProp 𝕄) :
    iprop(fixed t a3 a10 a17 dy vn b ∗ held t a12 a13 a16 a18 s ∗
        (iprop(fixed t a3 a10 a17 dy vn b ∗ held t a12 a13 a16 a18 (step dy vn b wm wmt c h s)) -∗ K ⟨⟩))
      ⊢ wp frame (wpE (defs₀ (F := F)) Variants.none t none) E (iter a3 a10 a12 a13 a16 a17 a18 wm wmt c h) K := by
  unfold fixed held owns iter
  iintro ⟨⟨⟨%f3, %hf3, H3⟩, ⟨%f10, %hf10, H10⟩, ⟨%f17, %hf17, H17⟩⟩, ⟨⟨%f12, %hf12, H12⟩, ⟨%f13, %hf13, H13⟩, ⟨%f16, %hf16, H16⟩, ⟨%f18, %hf18, H18⟩⟩, Hk⟩
  obtain ⟨su, sdv, sdw, sdb⟩ := s
  subst hf3; subst hf10; subst hf17;
  dsimp only at hf12 hf13 hf16 hf18
  subst hf12; subst hf13; subst hf16; subst hf18
  sl_exec
  sl_step
  iapply Hk
  isplitl [H3 H10 H17]
  · isplitl [H3]
    · iexists _; isplitr; · ipureintro; exact rfl
      iexact H3
    isplitl [H10]
    · iexists _; isplitr; · ipureintro; exact rfl
      iexact H10
    · iexists _; isplitr; · ipureintro; exact rfl
      iexact H17
  · isplitl [H12]
    · iexists _; isplitr; rotate_left
      · iexact H12
      · ipureintro; exact View.read_writes_cons_put _ _ _ _ [] rfl
    isplitl [H13]
    · iexists _; isplitr; rotate_left
      · iexact H13
      · ipureintro; exact View.read_writes_cons_put _ _ _ _ [] rfl
    isplitl [H16]
    · iexists _; isplitr; rotate_left
      · iexact H16
      · ipureintro; exact View.read_writes_cons_put _ _ _ _ [] rfl
    · iexists _; isplitr; rotate_left
      · iexact H18
      · ipureintro; exact View.read_writes_cons_put _ _ _ _ [] rfl

end Triple

end Cert.MixSIdeal.Body

end
-- ==== Proof.MixSHeads.lean ====
/- The thirty-two steps of the spatial-mixing gradient: what they leave in closed form, tile by tile and head by head,
   and that the program leaves it. -/
module

public import proofs.«01_k».proof.Proof.MixSIter

@[expose] public section

set_option maxRecDepth 16384

noncomputable section

namespace Cert.MixSIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixSIdeal.Gen

variable {F : FTy → Type} [FloatOps F] [Named F]

local notation "𝕄" => MT nD τ sig Unit (Elt F) ℕ (UR sig nD τ) ℕ

/-! ## The closed form -/

section Closed

variable (dy : Vec F S1x512x1024 .bf16) (vn : Vec F S512x1024 .bf16) (b : Vec F S128x8 .f32) (w wt : Vec F S8x128x128 .f32)

/-- Head `h`'s masked weight and its transpose. -/
def wmOf (h : Fin 8) : FVec F S128x128 .bf16 := k0_pay26 (View.ld (Val := Elt F) w (rH h))
def wmtOf (h : Fin 8) : FVec F S128x128 .bf16 := k0_pay27 (View.ld (Val := Elt F) wt (rH h))

/-- The chunk and the head of step `k`. -/
def kc (k : ℕ) : Fin 4 := ⟨k % 4, Nat.mod_lt _ (by decide)⟩
def kh (k : ℕ) : Fin 8 := ⟨k / 4 % 8, Nat.mod_lt _ (by decide)⟩

/-- The first `k` steps. -/
def steps : ℕ → St F → St F
  | 0, s => s
  | k + 1, s => step dy vn b (wmOf w (kh k)) (wmtOf wt (kh k)) (kc k) (kh k) (steps k s)

/-- What step (c, h) puts in the activation's tile, -/
def tileU (c : Fin 4) (h : Fin 8) : FVec F S128x128 .f32 :=
  k0_pay40 (k0_pay36 (wmOf w h) (View.ld (Val := Elt F) vn (rT c h))) (k0_pay37 (View.ld (Val := Elt F) b (rC h))) (View.ld (Val := Elt F) dy (rY c h))
/-- and in the normalised gate's, from the activations `u`; -/
def tileV (u : Vec F S512x1024 .f32) (c : Fin 4) (h : Fin 8) : FVec F S128x128 .f32 :=
  k0_pay44 (wmtOf wt h) (View.ld (Val := Elt F) dy (rY c h)) (View.ld (Val := Elt F) u (rT c h))
/-- what the first `n` chunks make of head `h`'s weight sum -/
def sumW (u : Vec F S512x1024 .f32) (h : Fin 8) (x : FVec F S1x128x128 .f32) : ℕ → FVec F S1x128x128 .f32
  | 0 => x
  | n + 1 => if hn : n < 4 then k0_pay43 (View.ld (Val := Elt F) vn (rT ⟨n, hn⟩ h)) (View.ld (Val := Elt F) dy (rY ⟨n, hn⟩ h)) (View.ld (Val := Elt F) u (rT ⟨n, hn⟩ h)) (sumW u h x n)
      else sumW u h x n
/-- and of its bias sum. -/
def sumB (u : Vec F S512x1024 .f32) (h : Fin 8) (x : FVec F S128x1 .f32) : ℕ → FVec F S128x1 .f32
  | 0 => x
  | n + 1 => if hn : n < 4 then k0_pay41 (View.ld (Val := Elt F) dy (rY ⟨n, hn⟩ h)) (View.ld (Val := Elt F) u (rT ⟨n, hn⟩ h)) (sumB u h x n)
      else sumB u h x n

/-- What the first `k` steps leave, from `s₀`. -/
structure Inv (s₀ : St F) (k : ℕ) (s : St F) : Prop where
  uOld : ∀ (c : Fin 4) (h : Fin 8), k ≤ 4 * h.val + c.val → View.ld (Val := Elt F) s.u (rT c h) = View.ld (Val := Elt F) s₀.u (rT c h)
  uNew : ∀ (c : Fin 4) (h : Fin 8), 4 * h.val + c.val < k → View.ld (Val := Elt F) s.u (rT c h) = tileU dy vn b w c h
  vNew : ∀ (c : Fin 4) (h : Fin 8), 4 * h.val + c.val < k → View.ld (Val := Elt F) s.dv (rT c h) = tileV dy wt s₀.u c h
  dw : ∀ h : Fin 8, View.ld (Val := Elt F) s.dw (rH h) = sumW dy vn s₀.u h (View.ld (Val := Elt F) s₀.dw (rH h)) (k - 4 * h.val)
  db : ∀ h : Fin 8, View.ld (Val := Elt F) s.db (rC h) = sumB dy s₀.u h (View.ld (Val := Elt F) s₀.db (rC h)) (k - 4 * h.val)

/-- Two different tiles lie apart on some axis. -/
theorem apart (c c' : Fin 4) (h h' : Fin 8) (hne : ¬(c = c' ∧ h = h')) : ∃ a : Fin 2,
    (![c'.val * 128, h'.val * 128] : Fin 2 → ℕ) a + S128x128.size a ≤ (![c.val * 128, h.val * 128] : Fin 2 → ℕ) a ∨
    (![c.val * 128, h.val * 128] : Fin 2 → ℕ) a + S128x128.size a ≤ (![c'.val * 128, h'.val * 128] : Fin 2 → ℕ) a := by
  by_cases hc : c = c'
  · have hh : h ≠ h' := fun e => hne ⟨hc, e⟩
    refine ⟨1, ?_⟩
    show h'.val * 128 + 128 ≤ h.val * 128 ∨ h.val * 128 + 128 ≤ h'.val * 128
    have : h.val ≠ h'.val := fun e => hh (Fin.ext e)
    omega
  · refine ⟨0, ?_⟩
    show c'.val * 128 + 128 ≤ c.val * 128 ∨ c.val * 128 + 128 ≤ c'.val * 128
    have : c.val ≠ c'.val := fun e => hc (Fin.ext e)
    omega

theorem ld_put_tile_of_ne (x : Vec F S512x1024 .f32) (p : FVec F S128x128 .f32) (c c' : Fin 4) (h h' : Fin 8) (hne : ¬(c = c' ∧ h = h')) :
    View.ld (Val := Elt F) (e' := .f32) (VecWindow.put x ![c.val * 128, h.val * 128] S128x128.size p) (rT c' h') = View.ld (Val := Elt F) x (rT c' h') := by
  obtain ⟨a, ha⟩ := apart c c' h h' hne
  exact VecWindow.window_put_of_disjoint x _ S128x128.size _ S128x128.size (inbT c' h') p a ha

theorem ld_put_tile (x : Vec F S512x1024 .f32) (p : FVec F S128x128 .f32) (c : Fin 4) (h : Fin 8) :
    View.ld (Val := Elt F) (e' := .f32) (VecWindow.put x ![c.val * 128, h.val * 128] S128x128.size p) (rT c h) = p :=
  VecWindow.window_put_same x _ S128x128.size (inbT c h) p

theorem ld_put_head (x : Vec F S8x128x128 .f32) (p : FVec F S1x128x128 .f32) (h : Fin 8) :
    View.ld (Val := Elt F) (e' := .f32) (VecWindow.put x ![h.val, 0, 0] S1x128x128.size p) (rH h) = p :=
  VecWindow.window_put_same x _ S1x128x128.size (inbH h) p

theorem ld_put_head_of_ne (x : Vec F S8x128x128 .f32) (p : FVec F S1x128x128 .f32) (h h' : Fin 8) (hne : h ≠ h') :
    View.ld (Val := Elt F) (e' := .f32) (VecWindow.put x ![h.val, 0, 0] S1x128x128.size p) (rH h') = View.ld (Val := Elt F) x (rH h') :=
  VecWindow.window_put_of_disjoint x _ S1x128x128.size _ S1x128x128.size (inbH h') p 0 (by
    show h'.val + 1 ≤ h.val ∨ h.val + 1 ≤ h'.val
    have : h.val ≠ h'.val := fun e => hne (Fin.ext e)
    omega)

theorem ld_put_col (x : Vec F S128x8 .f32) (p : FVec F S128x1 .f32) (h : Fin 8) :
    View.ld (Val := Elt F) (e' := .f32) (VecWindow.put x ![0, h.val] S128x1.size p) (rC h) = p :=
  VecWindow.window_put_same x _ S128x1.size (inbC h) p

theorem ld_put_col_of_ne (x : Vec F S128x8 .f32) (p : FVec F S128x1 .f32) (h h' : Fin 8) (hne : h ≠ h') :
    View.ld (Val := Elt F) (e' := .f32) (VecWindow.put x ![0, h.val] S128x1.size p) (rC h') = View.ld (Val := Elt F) x (rC h') :=
  VecWindow.window_put_of_disjoint x _ S128x1.size _ S128x1.size (inbC h') p 1 (by
    show h'.val + 1 ≤ h.val ∨ h.val + 1 ≤ h'.val
    have : h.val ≠ h'.val := fun e => hne (Fin.ext e)
    omega)

/-- Past its four chunks a head's sums stay. -/
theorem sumW_of_le (u : Vec F S512x1024 .f32) (h : Fin 8) (x : FVec F S1x128x128 .f32) : ∀ n, 4 ≤ n → sumW dy vn u h x (n + 1) = sumW dy vn u h x n :=
  fun n hn => dif_neg (by omega)
theorem sumB_of_le (u : Vec F S512x1024 .f32) (h : Fin 8) (x : FVec F S128x1 .f32) : ∀ n, 4 ≤ n → sumB dy u h x (n + 1) = sumB dy u h x n :=
  fun n hn => dif_neg (by omega)

theorem sumW_succ (u : Vec F S512x1024 .f32) (h : Fin 8) (x : FVec F S1x128x128 .f32) (c : Fin 4) : sumW dy vn u h x (c.val + 1)
    = k0_pay43 (View.ld (Val := Elt F) vn (rT c h)) (View.ld (Val := Elt F) dy (rY c h)) (View.ld (Val := Elt F) u (rT c h)) (sumW dy vn u h x c.val) := by
  rw [sumW]; exact dif_pos c.isLt
theorem sumB_succ (u : Vec F S512x1024 .f32) (h : Fin 8) (x : FVec F S128x1 .f32) (c : Fin 4) : sumB dy u h x (c.val + 1)
    = k0_pay41 (View.ld (Val := Elt F) dy (rY c h)) (View.ld (Val := Elt F) u (rT c h)) (sumB dy u h x c.val) := by
  rw [sumB]; exact dif_pos c.isLt

theorem inv_step (s₀ s : St F) (k : ℕ) (hk : k < 32) (H : Inv dy vn b w wt s₀ k s) :
    Inv dy vn b w wt s₀ (k + 1) (step dy vn b (wmOf w (kh k)) (wmtOf wt (kh k)) (kc k) (kh k) s) := by
  have e : 4 * (kh k).val + (kc k).val = k := by
    show 4 * (k / 4 % 8) + k % 4 = k
    omega
  have hu := H.uOld (kc k) (kh k) (by omega)
  have ne : ∀ (c : Fin 4) (h : Fin 8), 4 * h.val + c.val ≠ k → ¬(kc k = c ∧ kh k = h) := by
    rintro c h hn ⟨rfl, rfl⟩
    exact hn e
  refine ⟨fun c h hc => ?_, fun c h hc => ?_, fun c h hc => ?_, fun h => ?_, fun h => ?_⟩
  · exact (ld_put_tile_of_ne _ _ _ _ _ _ (ne c h (by omega))).trans (H.uOld c h (by omega))
  · by_cases hq : 4 * h.val + c.val = k
    · have hc' : kc k = c := Fin.ext (by show k % 4 = c.val; omega)
      have hh' : kh k = h := Fin.ext (by show k / 4 % 8 = h.val; omega)
      subst hc'; subst hh'
      exact ld_put_tile _ _ _ _
    · exact (ld_put_tile_of_ne _ _ _ _ _ _ (ne c h hq)).trans (H.uNew c h (by omega))
  · by_cases hq : 4 * h.val + c.val = k
    · have hc' : kc k = c := Fin.ext (by show k % 4 = c.val; omega)
      have hh' : kh k = h := Fin.ext (by show k / 4 % 8 = h.val; omega)
      subst hc'; subst hh'
      refine (ld_put_tile _ _ _ _).trans ?_
      rw [hu]; rfl
    · exact (ld_put_tile_of_ne _ _ _ _ _ _ (ne c h hq)).trans (H.vNew c h (by omega))
  · by_cases hh : kh k = h
    · subst hh
      refine (ld_put_head _ _ _).trans ?_
      have en : k + 1 - 4 * (kh k).val = (kc k).val + 1 := by omega
      have en' : k - 4 * (kh k).val = (kc k).val := by omega
      rw [H.dw, hu, en, en']
      exact (sumW_succ ..).symm
    · refine (ld_put_head_of_ne _ _ _ _ hh).trans ((H.dw h).trans ?_)
      have hv : (kh k).val ≠ h.val := fun e => hh (Fin.ext e)
      have hc := (kc k).isLt
      rcases Nat.lt_or_ge k (4 * h.val) with hlt | hge
      · rw [show k + 1 - 4 * h.val = 0 by omega, show k - 4 * h.val = 0 by omega]
      · rw [show k + 1 - 4 * h.val = (k - 4 * h.val) + 1 by omega, sumW_of_le _ _ _ _ _ _ (by omega)]
  · by_cases hh : kh k = h
    · subst hh
      refine (ld_put_col _ _ _).trans ?_
      have en : k + 1 - 4 * (kh k).val = (kc k).val + 1 := by omega
      have en' : k - 4 * (kh k).val = (kc k).val := by omega
      rw [H.db, hu, en, en']
      exact (sumB_succ ..).symm
    · refine (ld_put_col_of_ne _ _ _ _ hh).trans ((H.db h).trans ?_)
      have hv : (kh k).val ≠ h.val := fun e => hh (Fin.ext e)
      have hc := (kc k).isLt
      rcases Nat.lt_or_ge k (4 * h.val) with hlt | hge
      · rw [show k + 1 - 4 * h.val = 0 by omega, show k - 4 * h.val = 0 by omega]
      · rw [show k + 1 - 4 * h.val = (k - 4 * h.val) + 1 by omega, sumB_of_le _ _ _ _ _ (by omega)]

theorem inv_steps (s₀ : St F) : ∀ k, k ≤ 32 → Inv dy vn b w wt s₀ k (steps dy vn b w wt k s₀)
  | 0, _ => ⟨fun _ _ _ => rfl, fun _ _ h => absurd h (Nat.not_lt_zero _), fun _ _ h => absurd h (Nat.not_lt_zero _),
      fun h => by rw [Nat.zero_sub]; rfl, fun h => by rw [Nat.zero_sub]; rfl⟩
  | k + 1, hk => inv_step dy vn b w wt s₀ _ k (by omega) (inv_steps s₀ k (by omega))

/-- The chunk, the head and the place within the tile of an index. -/
def ci (y : S512x1024.Idx) : Fin 4 := ⟨(y 0).val / 128, by have : (y 0).val < 512 := (y 0).isLt; omega⟩
def hi (y : S512x1024.Idx) : Fin 8 := ⟨(y 1).val / 128, by have : (y 1).val < 1024 := (y 1).isLt; omega⟩
def li (y : S512x1024.Idx) : S128x128.Idx := fun
  | 0 => ⟨(y 0).val % 128, Nat.mod_lt _ (by decide)⟩
  | 1 => ⟨(y 1).val % 128, Nat.mod_lt _ (by decide)⟩

theorem idx_li (y : S512x1024.Idx) : (rT (ci y) (hi y)).idx (li y) = y := by
  funext a
  refine Fin.ext ?_
  match a with
  | 0 =>
    show (y 0).val / 128 * 128 + 1 * ((y 0).val % 128) = (y 0).val
    omega
  | 1 =>
    show (y 1).val / 128 * 128 + 1 * ((y 1).val % 128) = (y 1).val
    omega

/-- A head's place in the weight sum, and in the bias'. -/
theorem idx_head (y : S8x128x128.Idx) : (rH (y 0)).idx (fun | 0 => (0 : Fin 1) | 1 => y 1 | 2 => y 2 : S1x128x128.Idx) = y := by
  funext a
  refine Fin.ext ?_
  match a with
  | 0 => show (y 0).val + 1 * 0 = (y 0).val; omega
  | 1 => show 0 + 1 * (y 1).val = (y 1).val; omega
  | 2 => show 0 + 1 * (y 2).val = (y 2).val; omega

theorem idx_col (y : S128x8.Idx) : (rC (y 1)).idx (fun | 0 => y 0 | 1 => (0 : Fin 1) : S128x1.Idx) = y := by
  funext a
  refine Fin.ext ?_
  match a with
  | 0 => show 0 + 1 * (y 0).val = (y 0).val; omega
  | 1 => show (y 1).val + 1 * 0 = (y 1).val; omega

/-- What all the steps leave in each buffer. -/
def finU : Vec F S512x1024 .f32 := fun y => tileU dy vn b w (ci y) (hi y) (li y)
def finV (u : Vec F S512x1024 .f32) : Vec F S512x1024 .f32 := fun y => tileV dy wt u (ci y) (hi y) (li y)
def finW (u : Vec F S512x1024 .f32) (x : Vec F S8x128x128 .f32) : Vec F S8x128x128 .f32 := fun y =>
  sumW dy vn u (y 0) (View.ld (Val := Elt F) x (rH (y 0))) 4 (fun | 0 => (0 : Fin 1) | 1 => y 1 | 2 => y 2 : S1x128x128.Idx)
def finB (u : Vec F S512x1024 .f32) (x : Vec F S128x8 .f32) : Vec F S128x8 .f32 := fun y =>
  sumB dy u (y 1) (View.ld (Val := Elt F) x (rC (y 1))) 4 (fun | 0 => y 0 | 1 => (0 : Fin 1) : S128x1.Idx)

theorem sumW_four (u : Vec F S512x1024 .f32) (h : Fin 8) (x : FVec F S1x128x128 .f32) : ∀ n, sumW dy vn u h x (4 + n) = sumW dy vn u h x 4
  | 0 => rfl
  | n + 1 => (sumW_of_le dy vn u h x (4 + n) (by omega)).trans (sumW_four u h x n)
theorem sumB_four (u : Vec F S512x1024 .f32) (h : Fin 8) (x : FVec F S128x1 .f32) : ∀ n, sumB dy u h x (4 + n) = sumB dy u h x 4
  | 0 => rfl
  | n + 1 => (sumB_of_le dy u h x (4 + n) (by omega)).trans (sumB_four u h x n)

theorem sumW_last (u : Vec F S512x1024 .f32) (h : Fin 8) (x : FVec F S1x128x128 .f32) : sumW dy vn u h x (32 - 4 * h.val) = sumW dy vn u h x 4 := by
  rw [show 32 - 4 * h.val = 4 + (28 - 4 * h.val) by have := h.isLt; omega]; exact sumW_four ..
theorem sumB_last (u : Vec F S512x1024 .f32) (h : Fin 8) (x : FVec F S128x1 .f32) : sumB dy u h x (32 - 4 * h.val) = sumB dy u h x 4 := by
  rw [show 32 - 4 * h.val = 4 + (28 - 4 * h.val) by have := h.isLt; omega]; exact sumB_four ..

/-- All the steps, in closed form. -/
theorem steps_eq (s₀ : St F) : steps dy vn b w wt 32 s₀
    = ⟨finU dy vn b w, finV dy wt s₀.u, finW dy vn s₀.u s₀.dw, finB dy s₀.u s₀.db⟩ := by
  have H := inv_steps dy vn b w wt s₀ 32 le_rfl
  generalize steps dy vn b w wt 32 s₀ = s at H
  obtain ⟨u, dv, dw, db⟩ := s
  congr 1
  · funext y
    have := congrFun (H.uNew (ci y) (hi y) (by have := (ci y).isLt; have := (hi y).isLt; omega)) (li y)
    exact (congrArg u (idx_li y)).symm.trans this
  · funext y
    have := congrFun (H.vNew (ci y) (hi y) (by have := (ci y).isLt; have := (hi y).isLt; omega)) (li y)
    exact (congrArg dv (idx_li y)).symm.trans this
  · funext y
    have := congrFun (H.dw (y 0)) (fun | 0 => (0 : Fin 1) | 1 => y 1 | 2 => y 2 : S1x128x128.Idx)
    exact (congrArg dw (idx_head y)).symm.trans (this.trans (congrFun (sumW_last ..) _))
  · funext y
    have := congrFun (H.db (y 1)) (fun | 0 => y 0 | 1 => (0 : Fin 1) : S128x1.Idx)
    exact (congrArg db (idx_col y)).symm.trans (this.trans (congrFun (sumB_last ..) _))

end Closed

/-! ## The program's steps -/

section Triple

/-- `p` takes `A` to `B`. -/
def Tr (t : Dev nD) (A B : sProp 𝕄) (p : P (F := F) PUnit) : Prop :=
  ∀ (E : Set ℕ) (K : PUnit → sProp 𝕄), iprop(A ∗ (B -∗ K ⟨⟩)) ⊢ wp frame (wpE (defs₀ (F := F)) Variants.none t none) E p K

theorem Tr.seq {t : Dev nD} {A B C : sProp 𝕄} {p q : P (F := F) PUnit} (hp : Tr t A B p) (hq : Tr t B C q) :
    Tr t A C (p >>= fun _ => q) := by
  intro E K
  rw [wp_bind]
  iintro ⟨HA, Hk⟩
  iapply (hp E _)
  isplitl [HA]
  · iexact HA
  iintro HB
  iapply (hq E K)
  isplitl [HB]
  · iexact HB
  iexact Hk

variable (t : Dev nD) (a3 : Memref sig .tc .vmem S1x512x1024 .bf16) (a8 a9 : Memref sig .tc .vmem S8x128x128 .f32)
  (a10 : Memref sig .tc .vmem S128x8 .f32)
  (a12 : Memref sig .tc .vmem S8x128x128 .f32) (a13 : Memref sig .tc .vmem S128x8 .f32)
  (a16 : Memref sig .tc .vmem S512x1024 .f32) (a17 : Memref sig .tc .vmem S512x1024 .bf16)
  (a18 : Memref sig .tc .vmem S512x1024 .f32)
  (dy : Vec F S1x512x1024 .bf16) (vn : Vec F S512x1024 .bf16) (b : Vec F S128x8 .f32) (w wt : Vec F S8x128x128 .f32)

/-- What the steps run over: the buffers they read and those they change. -/
def over (s : St F) : sProp 𝕄 :=
  iprop(fixed t a3 a10 a17 dy vn b ∗ held t a12 a13 a16 a18 s)

theorem iter_tr (wm wmt : FVec F S128x128 .bf16) (c : Fin 4) (h : Fin 8) (s : St F) :
    Tr t (over t a3 a10 a12 a13 a16 a17 a18 dy vn b s) (over t a3 a10 a12 a13 a16 a17 a18 dy vn b (step dy vn b wm wmt c h s))
      (iter a3 a10 a12 a13 a16 a17 a18 wm wmt c h) := by
  intro E K
  unfold over
  iintro ⟨⟨H1, H2⟩, Hk⟩
  iapply (iter_triple t a3 a10 a12 a13 a16 a17 a18 dy vn b wm wmt c h s E K)
  isplitl [H1]
  · iexact H1
  isplitl [H2]
  · iexact H2
  iexact Hk

theorem four_tr (h : Fin 8) (wm wmt : FVec F S128x128 .bf16) (s : St F) :
    Tr t (over t a3 a10 a12 a13 a16 a17 a18 dy vn b s)
      (over t a3 a10 a12 a13 a16 a17 a18 dy vn b
        (step dy vn b wm wmt 3 h (step dy vn b wm wmt 2 h (step dy vn b wm wmt 1 h (step dy vn b wm wmt 0 h s)))))
      (four a3 a10 a12 a13 a16 a17 a18 wm wmt h) :=
  (iter_tr t _ _ _ _ _ _ _ dy vn b wm wmt 0 h s).seq ((iter_tr t _ _ _ _ _ _ _ dy vn b wm wmt 1 h _).seq
    ((iter_tr t _ _ _ _ _ _ _ dy vn b wm wmt 2 h _).seq (iter_tr t _ _ _ _ _ _ _ dy vn b wm wmt 3 h _)))

/-- and the two weights. -/
def wover (s : St F) : sProp 𝕄 :=
  iprop(owns t a8 fullShare w ∗ owns t a9 fullShare wt ∗
    over t a3 a10 a12 a13 a16 a17 a18 dy vn b s)

/-- Reading one head of a weight, before anything. -/
theorem load_head (m : Memref sig .tc .vmem S8x128x128 .f32) (h : Fin 8) (x : Vec F S8x128x128 .f32) (k : Vec F S1x128x128 .f32 → P (F := F) PUnit)
    (E : Set ℕ) (K : PUnit → sProp 𝕄) :
    iprop(owns t m fullShare x ∗ (owns t m fullShare x
        -∗ wp frame (wpE (defs₀ (F := F)) Variants.none t none) E (k (View.ld (Val := Elt F) x (rH h))) K))
      ⊢ wp frame (wpE (defs₀ (F := F)) Variants.none t none) E (Prog.lift (.load m (rH h).toLoadRect (View.loadsAt_vmem h_S1x128x128)) >>= k) K := by
  unfold owns
  iintro ⟨⟨%f, %hf, H⟩, Hk⟩
  subst hf
  sl_exec
  iapply Hk
  iexists _
  isplitr
  · ipureintro; exact rfl
  iexact H

theorem head_tr (h : Fin 8) (s : St F) :
    Tr t (wover t a3 a8 a9 a10 a12 a13 a16 a17 a18 dy vn b w wt s)
      (wover t a3 a8 a9 a10 a12 a13 a16 a17 a18 dy vn b w wt
        (step dy vn b (wmOf w h) (wmtOf wt h) 3 h (step dy vn b (wmOf w h) (wmtOf wt h) 2 h
          (step dy vn b (wmOf w h) (wmtOf wt h) 1 h (step dy vn b (wmOf w h) (wmtOf wt h) 0 h s)))))
      (head a3 a8 a9 a10 a12 a13 a16 a17 a18 h) := by
  intro E K
  unfold wover head
  iintro ⟨⟨H8, H9, HO⟩, Hk⟩
  iapply (load_head t a8 h w _ E K)
  isplitl [H8]
  · iexact H8
  iintro H8
  iapply (load_head t a9 h wt _ E K)
  isplitl [H9]
  · iexact H9
  iintro H9
  iapply (four_tr t a3 a10 a12 a13 a16 a17 a18 dy vn b h _ _ s E K)
  isplitl [HO]
  · iexact HO
  iintro HO
  iapply Hk
  isplitl [H8]
  · iexact H8
  isplitl [H9]
  · iexact H9
  iexact HO

theorem heads_tr (s : St F) :
    Tr t (wover t a3 a8 a9 a10 a12 a13 a16 a17 a18 dy vn b w wt s)
      (wover t a3 a8 a9 a10 a12 a13 a16 a17 a18 dy vn b w wt (steps dy vn b w wt 32 s))
      (heads a3 a8 a9 a10 a12 a13 a16 a17 a18) :=
  (head_tr t _ _ _ _ _ _ _ _ _ dy vn b w wt 0 s).seq ((head_tr t _ _ _ _ _ _ _ _ _ dy vn b w wt 1 _).seq
    ((head_tr t _ _ _ _ _ _ _ _ _ dy vn b w wt 2 _).seq ((head_tr t _ _ _ _ _ _ _ _ _ dy vn b w wt 3 _).seq
    ((head_tr t _ _ _ _ _ _ _ _ _ dy vn b w wt 4 _).seq ((head_tr t _ _ _ _ _ _ _ _ _ dy vn b w wt 5 _).seq
    ((head_tr t _ _ _ _ _ _ _ _ _ dy vn b w wt 6 _).seq (head_tr t _ _ _ _ _ _ _ _ _ dy vn b w wt 7 _)))))))

end Triple

end Cert.MixSIdeal.Body

end
-- ==== Proof.MixSWork.lean ====
/- The spatial-mixing gradient's body at a grid point: the zero fills, the work of a first visit to a row block, and the
   half of the stage it writes out. -/
module

public import proofs.«01_k».proof.Proof.MixSHeads

@[expose] public section

set_option maxRecDepth 16384

noncomputable section

namespace Cert.MixSIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixSIdeal.Gen

variable {F : FTy → Type} [FloatOps F] [Named F]

local notation "𝕄" => MT nD τ sig Unit (Elt F) ℕ (UR sig nD τ) ℕ

/-! ## What a point computes -/

/-- The blocks a point reads. -/
structure In (F : FTy → Type) where
  dy : Vec F S1x512x1024 .bf16
  su : Vec F S512x1024 .bf16
  sv : Vec F S512x1024 .bf16
  lg : Vec F S1x1024 .f32
  lb : Vec F S1x1024 .f32
  w : Vec F S8x128x128 .f32
  wt : Vec F S8x128x128 .f32
  b : Vec F S128x8 .f32

/-- The four sums it adds to. -/
structure Acc (F : FTy → Type) where
  dw : Vec F S8x128x128 .f32
  db : Vec F S128x8 .f32
  dg : Vec F S1x1024 .f32
  dn : Vec F S1x1024 .f32

/-- The zero sums. -/
def Acc.zero : Acc F := ⟨k0_pay1, k0_pay2, k0_pay3, k0_pay4⟩

/-- The activations and the normalised gate of a block. -/
def In.u (x : In F) : Vec F S512x1024 .f32 := k0_pay18 (k0_pay10 x.su)
def vnOf (sv : Vec F S512x1024 .bf16) (lg lb : Vec F S1x1024 .f32) : Vec F S512x1024 .bf16 := k0_pay23 (v88 sv) (v95 sv) lg lb
def In.vn (x : In F) : Vec F S512x1024 .bf16 := vnOf x.sv x.lg x.lb
/-- The gradients of the mixed gate's two factors. -/
def In.g (x : In F) : Vec F S512x1024 .f32 := finU x.dy x.vn x.b x.w
def In.d (x : In F) : Vec F S512x1024 .f32 := finV x.dy x.wt x.u

/-- What the block adds to the sums. -/
def next (x : In F) (a : Acc F) : Acc F where
  dw := finW x.dy x.vn x.u a.dw
  db := finB x.dy x.u a.db
  dg := k0_pay298 (k0_pay22 (v88 x.sv) (v95 x.sv)) x.d a.dg
  dn := k0_pay299 x.d a.dn

/-- The two halves of the stage. -/
def half0 (x : In F) : Vec F S1x512x1024 .bf16 := k0_pay297 (k0_pay11 x.su) x.g
def half1 (x : In F) : Vec F S1x512x1024 .bf16 :=
  k0_pay5 (v79 x.sv) (k0_pay21 (v95 x.sv)) (k0_pay22 (v88 x.sv) (v95 x.sv)) (k0_pay301 x.d x.lg) (k0_pay302 (k0_pay22 (v88 x.sv) (v95 x.sv)) x.d x.lg) (k0_pay303 (F := F))

/-- A stage of two halves. -/
def stageOf (a b : Vec F S1x512x1024 .bf16) : Vec F S2x512x1024 .bf16 := fun y =>
  if (y 0).val = 0 then a (fun | 0 => (0 : Fin 1) | 1 => y 1 | 2 => y 2 : S1x512x1024.Idx) else b (fun | 0 => (0 : Fin 1) | 1 => y 1 | 2 => y 2 : S1x512x1024.Idx)

def stage (x : In F) : Vec F S2x512x1024 .bf16 := stageOf (half0 x) (half1 x)

/-- The half a point writes out. -/
def halfOut (i : grid0.Coords) (s : Vec F S2x512x1024 .bf16) : Vec F S512x1024 .bf16 :=
  k0_pay6 (View.ld (Val := Elt F) s (Rect.unit (s := S2x512x1024) (k0_off1 i) S1x512x1024.size (k0_off1_inb i)))

/-- Storing the two halves leaves the stage, whatever was in it. -/
theorem put_halves (s : Vec F S2x512x1024 .bf16) (a b : Vec F S1x512x1024 .bf16) :
    VecWindow.put (VecWindow.put s ![0, 0, 0] S1x512x1024.size a) ![1, 0, 0] S1x512x1024.size b = stageOf a b := by
  funext y
  have h0 : (y 0).val < 2 := (y 0).isLt
  have h1 : (y 1).val < 512 := (y 1).isLt
  have h2 : (y 2).val < 1024 := (y 2).isLt
  unfold stageOf
  by_cases hy : (y 0).val = 0
  · rw [if_pos hy]
    unfold VecWindow.put
    rw [dif_neg, dif_pos]
    · congr 1
      funext k
      refine Fin.ext ?_
      match k with
      | 0 => show (y 0).val - 0 = 0; omega
      | 1 => show (y 1).val - 0 = (y 1).val; omega
      | 2 => show (y 2).val - 0 = (y 2).val; omega
    · intro k
      match k with
      | 0 => exact ⟨Nat.zero_le _, by show (y 0).val < 0 + 1; omega⟩
      | 1 => exact ⟨Nat.zero_le _, by show (y 1).val < 0 + 512; omega⟩
      | 2 => exact ⟨Nat.zero_le _, by show (y 2).val < 0 + 1024; omega⟩
    · intro hk
      have := (hk 0).1
      have : 1 ≤ (y 0).val := this
      omega
  · rw [if_neg hy]
    unfold VecWindow.put
    rw [dif_pos]
    · congr 1
      funext k
      refine Fin.ext ?_
      match k with
      | 0 => show (y 0).val - 1 = 0; omega
      | 1 => show (y 1).val - 0 = (y 1).val; omega
      | 2 => show (y 2).val - 0 = (y 2).val; omega
    · intro k
      match k with
      | 0 => exact ⟨by show 1 ≤ (y 0).val; omega, by show (y 0).val < 1 + 1; omega⟩
      | 1 => exact ⟨Nat.zero_le _, by show (y 1).val < 0 + 512; omega⟩
      | 2 => exact ⟨Nat.zero_le _, by show (y 2).val < 0 + 1024; omega⟩

/-! ## The program's parts -/

/-- A load of a whole block, or of a whole row, reads the buffer. -/
theorem readAt_wide {κ : Kind} {sp : Space} {e : EltTy} (v : View sig κ sp S512x1024 e) (f : v.ty.Contents (Elt F)) (inb) :
    v.readAt (Elt F) (Rect.unit (s := S512x1024) ![0, 0] ![512, 1024] inb).toLoadRect f = v.read (Elt F) f := View.readAt_full v f inb
theorem readAt_row {κ : Kind} {sp : Space} {e : EltTy} (v : View sig κ sp S1x1024 e) (f : v.ty.Contents (Elt F)) (inb) :
    v.readAt (Elt F) (Rect.unit (s := S1x1024) ![0, 0] ![1, 1024] inb).toLoadRect f = v.read (Elt F) f := View.readAt_full v f inb

section Parts

variable (t : Dev nD) (a3 : Memref sig .tc .vmem S1x512x1024 .bf16) (a4 a5 : Memref sig .tc .vmem S512x1024 .bf16)
  (a6 a7 : Memref sig .tc .vmem S1x1024 .f32) (a8 a9 : Memref sig .tc .vmem S8x128x128 .f32)
  (a10 : Memref sig .tc .vmem S128x8 .f32) (a11 : Memref sig .tc .vmem S512x1024 .bf16) (ha11 : a11.IsWhole)
  (a12 : Memref sig .tc .vmem S8x128x128 .f32) (a13 : Memref sig .tc .vmem S128x8 .f32)
  (a14 a15 : Memref sig .tc .vmem S1x1024 .f32)
  (a16 : Memref sig .tc .vmem S512x1024 .f32) (a17 : Memref sig .tc .vmem S512x1024 .bf16) (ha17 : a17.IsWhole)
  (a18 : Memref sig .tc .vmem S512x1024 .f32) (a19 : Memref sig .tc .vmem S2x512x1024 .bf16) (ha19 : a19.IsWhole)

theorem zeros_triple (E : Set ℕ) (K : PUnit → sProp 𝕄) :
    iprop((∃ d, owns t a12 fullShare d) ∗ (∃ d, owns t a13 fullShare d)
        ∗ (∃ d, owns t a14 fullShare d) ∗ (∃ d, owns t a15 fullShare d)
        ∗ ((owns t a12 fullShare (k0_pay1 (F := F)) ∗ owns t a13 fullShare (k0_pay2 (F := F))
            ∗ owns t a14 fullShare (k0_pay3 (F := F)) ∗ owns t a15 fullShare (k0_pay4 (F := F))) -∗ K ⟨⟩))
      ⊢ wp frame (wpE (defs₀ (F := F)) Variants.none t none) E (zeros a12 a13 a14 a15) K := by
  unfold zeros owns
  iintro ⟨⟨%d12, %f12, %h12, H12⟩, ⟨%d13, %f13, %h13, H13⟩, ⟨%d14, %f14, %h14, H14⟩, ⟨%d15, %f15, %h15, H15⟩, Hk⟩
  sl_exec
  sl_step
  iapply Hk
  isplitl [H12]
  · iexists _; isplitr; rotate_left
    · iexact H12
    · ipureintro; exact View.read_writes_full _ _ _ _ _
  isplitl [H13]
  · iexists _; isplitr; rotate_left
    · iexact H13
    · ipureintro; exact View.read_writes_full _ _ _ _ _
  isplitl [H14]
  · iexists _; isplitr; rotate_left
    · iexact H14
    · ipureintro; exact View.read_writes_full _ _ _ _ _
  iexists _; isplitr; rotate_left
  · iexact H15
  · ipureintro; exact View.read_writes_full _ _ _ _ _

theorem pre_triple (su sv : Vec F S512x1024 .bf16) (lg lb : Vec F S1x1024 .f32) (E : Set ℕ) (K : Vec F S512x1024 .bf16 × Vec F S512x1024 .bf16 → sProp 𝕄) :
    iprop(owns t a4 fullShare su ∗ owns t a5 fullShare sv
        ∗ owns t a6 fullShare lg ∗ owns t a7 fullShare lb
        ∗ (∃ d, owns t a16 fullShare d) ∗ (∃ d, owns t a17 fullShare d)
        ∗ ((owns t a4 fullShare su ∗ owns t a5 fullShare sv
            ∗ owns t a6 fullShare lg ∗ owns t a7 fullShare lb
            ∗ owns t a16 fullShare (k0_pay18 (k0_pay10 su)) ∗ owns t a17 fullShare (vnOf sv lg lb)) -∗ K (su, sv)))
      ⊢ wp frame (wpE (defs₀ (F := F)) Variants.none t none) E (pre a16 a17 a4 a5 a6 a7 ha17) K := by
  unfold pre owns
  iintro ⟨⟨%f4, %h4, H4⟩, ⟨%f5, %h5, H5⟩, ⟨%f6, %h6, H6⟩, ⟨%f7, %h7, H7⟩, ⟨%d16, %f16, %h16, H16⟩, ⟨%d17, %f17, %h17, H17⟩, Hk⟩
  subst h4; subst h5; subst h6; subst h7
  sl_exec
  sl_step
  simp only [readAt_wide, readAt_row]
  iapply Hk
  isplitl [H4]
  · iexists _; isplitr; rotate_left
    · iexact H4
    · ipureintro; exact rfl
  isplitl [H5]
  · iexists _; isplitr; rotate_left
    · iexact H5
    · ipureintro; exact rfl
  isplitl [H6]
  · iexists _; isplitr; rotate_left
    · iexact H6
    · ipureintro; exact rfl
  isplitl [H7]
  · iexists _; isplitr; rotate_left
    · iexact H7
    · ipureintro; exact rfl
  isplitl [H16]
  · iexists _; isplitr; rotate_left
    · iexact H16
    · ipureintro; exact View.read_writes_full _ _ _ _ _
  iexists _; isplitr; rotate_left
  · iexact H17
  · ipureintro; exact View.read_writes_full _ _ _ _ _

theorem post_triple (su sv : Vec F S512x1024 .bf16) (lg p q : Vec F S1x1024 .f32) (g d : Vec F S512x1024 .f32) (E : Set ℕ) (K : PUnit → sProp 𝕄) :
    iprop(owns t a16 fullShare g ∗ owns t a18 fullShare d
        ∗ owns t a6 fullShare lg ∗ owns t a14 fullShare p ∗ owns t a15 fullShare q
        ∗ (∃ d, owns t a19 fullShare d)
        ∗ ((owns t a16 fullShare g ∗ owns t a18 fullShare d ∗ owns t a6 fullShare lg
            ∗ owns t a14 fullShare (k0_pay298 (k0_pay22 (v88 sv) (v95 sv)) d p) ∗ owns t a15 fullShare (k0_pay299 d q)
            ∗ owns t a19 fullShare (stageOf (k0_pay297 (k0_pay11 su) g)
                (k0_pay5 (v79 sv) (k0_pay21 (v95 sv)) (k0_pay22 (v88 sv) (v95 sv)) (k0_pay301 d lg) (k0_pay302 (k0_pay22 (v88 sv) (v95 sv)) d lg) (k0_pay303 (F := F))))) -∗ K ⟨⟩))
      ⊢ wp frame (wpE (defs₀ (F := F)) Variants.none t none) E (post a16 a18 a6 a14 a15 a19 ha19 su sv) K := by
  unfold post owns
  iintro ⟨⟨%f16, %h16, H16⟩, ⟨%f18, %h18, H18⟩, ⟨%f6, %h6, H6⟩, ⟨%f14, %h14, H14⟩, ⟨%f15, %h15, H15⟩, ⟨%d19, %f19, %h19, H19⟩, Hk⟩
  subst h16; subst h18; subst h6; subst h14; subst h15
  sl_exec
  sl_step
  simp only [readAt_wide, readAt_row]
  iapply Hk
  isplitl [H16]
  · iexists _; isplitr; rotate_left
    · iexact H16
    · ipureintro; exact rfl
  isplitl [H18]
  · iexists _; isplitr; rotate_left
    · iexact H18
    · ipureintro; exact rfl
  isplitl [H6]
  · iexists _; isplitr; rotate_left
    · iexact H6
    · ipureintro; exact rfl
  isplitl [H14]
  · iexists _; isplitr; rotate_left
    · iexact H14
    · ipureintro; exact View.read_writes_full _ _ _ _ _
  isplitl [H15]
  · iexists _; isplitr; rotate_left
    · iexact H15
    · ipureintro; exact View.read_writes_full _ _ _ _ _
  iexists _; isplitr; rotate_left
  · iexact H19
  · ipureintro
    refine (View.read_writes_cons_put _ _ _ _ _ rfl).trans ?_
    rw [View.read_writes_cons_put _ _ _ _ [] rfl]
    exact put_halves _ _ _

theorem out_triple (i : grid0.Coords) (s : Vec F S2x512x1024 .bf16) (E : Set ℕ) (K : PUnit → sProp 𝕄) :
    iprop(owns t a19 fullShare s ∗ (∃ d, owns t a11 fullShare d)
        ∗ ((owns t a19 fullShare s ∗ owns t a11 fullShare (halfOut i s)) -∗ K ⟨⟩))
      ⊢ wp frame (wpE (defs₀ (F := F)) Variants.none t none) E (out a11 ha11 a19 i) K := by
  unfold out owns
  iintro ⟨⟨%f19, %h19, H19⟩, ⟨%d11, %f11, %h11, H11⟩, Hk⟩
  subst h19
  sl_exec
  sl_step
  iapply Hk
  isplitl [H19]
  · iexists _; isplitr; rotate_left
    · iexact H19
    · ipureintro; exact rfl
  iexists _; isplitr; rotate_left
  · iexact H11
  · ipureintro; exact View.read_writes_full _ _ _ _ _

/-! ## A first visit's work -/

/-- The blocks read, -/
def ins (x : In F) : sProp 𝕄 :=
  iprop(owns t a3 fullShare x.dy ∗ owns t a4 fullShare x.su ∗ owns t a5 fullShare x.sv
    ∗ owns t a6 fullShare x.lg ∗ owns t a7 fullShare x.lb ∗ owns t a8 fullShare x.w
    ∗ owns t a9 fullShare x.wt ∗ owns t a10 fullShare x.b)
/-- the sums, -/
def sums (a : Acc F) : sProp 𝕄 :=
  iprop(owns t a12 fullShare a.dw ∗ owns t a13 fullShare a.db
    ∗ owns t a14 fullShare a.dg ∗ owns t a15 fullShare a.dn)
/-- the sums at some contents, -/
def anySums : sProp 𝕄 :=
  iprop((∃ d, owns t a12 fullShare d) ∗ (∃ d, owns t a13 fullShare d)
        ∗ (∃ d, owns t a14 fullShare d) ∗ (∃ d, owns t a15 fullShare d))
/-- and the scratch of the work, at some contents. -/
def scr : sProp 𝕄 :=
  iprop((∃ d, owns t a16 fullShare d) ∗ (∃ d, owns t a17 fullShare d) ∗ (∃ d, owns t a18 fullShare d))

theorem work_triple (x : In F) (a : Acc F) (E : Set ℕ) (K : PUnit → sProp 𝕄) :
    iprop(ins t a3 a4 a5 a6 a7 a8 a9 a10 x ∗ sums t a12 a13 a14 a15 a ∗ scr t a16 a17 a18
        ∗ (∃ d, owns t a19 fullShare d)
        ∗ ((ins t a3 a4 a5 a6 a7 a8 a9 a10 x ∗ sums t a12 a13 a14 a15 (next x a) ∗ scr t a16 a17 a18
            ∗ owns t a19 fullShare (stage x)) -∗ K ⟨⟩))
      ⊢ wp frame (wpE (defs₀ (F := F)) Variants.none t none) E
        (work a3 a8 a9 a10 a12 a13 a16 a17 a18 a4 a5 a6 a7 a14 a15 ha17 a19 ha19) K := by
  unfold work ins sums scr
  iintro ⟨⟨H3, H4, H5, H6, H7, H8, H9, H10⟩, ⟨H12, H13, H14, H15⟩, ⟨H16, H17, ⟨%dv, H18⟩⟩, H19, Hk⟩
  rw [wp_bind]
  iapply (pre_triple t a4 a5 a6 a7 a16 a17 ha17 x.su x.sv x.lg x.lb E _)
  iframe H4 H5 H6 H7 H16 H17
  iintro ⟨H4, H5, H6, H7, H16, H17⟩
  rw [wp_bind]
  iapply (heads_tr t a3 a8 a9 a10 a12 a13 a16 a17 a18 x.dy x.vn x.b x.w x.wt ⟨x.u, dv, a.dw, a.db⟩ E _)
  unfold wover over fixed held
  isplitl [H3 H8 H9 H10 H12 H13 H16 H17 H18]
  · iframe H8 H9
    isplitl [H3 H10 H17]
    · isplitl [H3]; · iexact H3
      isplitl [H10]; · iexact H10
      iexact H17
    isplitl [H12]; · iexact H12
    isplitl [H13]; · iexact H13
    isplitl [H16]; · iexact H16
    iexact H18
  rw [steps_eq]
  iintro ⟨H8, H9, ⟨H3, H10, H17⟩, H12, H13, H16, H18⟩
  iapply (post_triple t a6 a14 a15 a16 a18 a19 ha19 x.su x.sv x.lg a.dg a.dn x.g x.d E _)
  iframe H16 H18 H6 H14 H15 H19
  iintro ⟨H16, H18, H6, H14, H15, H19⟩
  iapply Hk
  isplitl [H3 H4 H5 H6 H7 H8 H9 H10]
  · iframe
  isplitl [H12 H13 H14 H15]
  · isplitl [H12]; · iexact H12
    isplitl [H13]; · iexact H13
    isplitl [H14]; · iexact H14
    iexact H15
  isplitl [H16 H17 H18]
  · isplitl [H16]; · iexists _; iexact H16
    isplitl [H17]; · iexists _; iexact H17
    iexists _; iexact H18
  iexact H19

/-! ## The body, case by case -/

/-- The first point of all: from zero sums. -/
theorem body_first (i : grid0.Coords) (h1 : k0_cond1 i = 1#1) (h2 : k0_cond2 i = 1#1) (x : In F) (E : Set ℕ) (K : PUnit → sProp 𝕄) :
    iprop(ins t a3 a4 a5 a6 a7 a8 a9 a10 x ∗ (∃ d, owns t a11 fullShare d) ∗ anySums t a12 a13 a14 a15
        ∗ scr t a16 a17 a18 ∗ (∃ d, owns t a19 fullShare d)
        ∗ ((ins t a3 a4 a5 a6 a7 a8 a9 a10 x ∗ owns t a11 fullShare (halfOut i (stage x))
            ∗ sums t a12 a13 a14 a15 (next x .zero) ∗ scr t a16 a17 a18
            ∗ owns t a19 fullShare (stage x)) -∗ K ⟨⟩))
      ⊢ wp frame (wpE (defs₀ (F := F)) Variants.none t none) E
        (body a3 a8 a9 a10 a12 a13 a16 a17 a18 a4 a5 a6 a7 a11 ha11 a14 a15 ha17 a19 ha19 i) K := by
  unfold body
  rw [if_pos h1, if_pos h2]
  unfold anySums
  iintro ⟨HI, H11, ⟨H12, H13, H14, H15⟩, HS, H19, Hk⟩
  rw [wp_bind]
  iapply (zeros_triple t a12 a13 a14 a15 E _)
  iframe H12 H13 H14 H15
  iintro HA
  rw [wp_bind]
  iapply (work_triple t a3 a4 a5 a6 a7 a8 a9 a10 a12 a13 a14 a15 a16 a17 ha17 a18 a19 ha19 x .zero E _)
  isplitl [HI]; · iexact HI
  isplitl [HA]; · unfold sums; iexact HA
  iframe HS H19
  iintro ⟨HI, HA, HS, H19⟩
  iapply (out_triple t a11 ha11 a19 i (stage x) E _)
  iframe H19 H11
  iintro ⟨H19, H11⟩
  iapply Hk
  iframe

/-- A later row block's first visit: from the sums so far. -/
theorem body_block (i : grid0.Coords) (h1 : ¬k0_cond1 i = 1#1) (h2 : k0_cond2 i = 1#1) (x : In F) (a : Acc F) (E : Set ℕ) (K : PUnit → sProp 𝕄) :
    iprop(ins t a3 a4 a5 a6 a7 a8 a9 a10 x ∗ (∃ d, owns t a11 fullShare d) ∗ sums t a12 a13 a14 a15 a
        ∗ scr t a16 a17 a18 ∗ (∃ d, owns t a19 fullShare d)
        ∗ ((ins t a3 a4 a5 a6 a7 a8 a9 a10 x ∗ owns t a11 fullShare (halfOut i (stage x))
            ∗ sums t a12 a13 a14 a15 (next x a) ∗ scr t a16 a17 a18
            ∗ owns t a19 fullShare (stage x)) -∗ K ⟨⟩))
      ⊢ wp frame (wpE (defs₀ (F := F)) Variants.none t none) E
        (body a3 a8 a9 a10 a12 a13 a16 a17 a18 a4 a5 a6 a7 a11 ha11 a14 a15 ha17 a19 ha19 i) K := by
  unfold body
  rw [if_neg h1, if_pos h2]
  iintro ⟨HI, H11, HA, HS, H19, Hk⟩
  rw [wp_bind]
  iapply (work_triple t a3 a4 a5 a6 a7 a8 a9 a10 a12 a13 a14 a15 a16 a17 ha17 a18 a19 ha19 x a E _)
  iframe HI HA HS H19
  iintro ⟨HI, HA, HS, H19⟩
  iapply (out_triple t a11 ha11 a19 i (stage x) E _)
  iframe H19 H11
  iintro ⟨H19, H11⟩
  iapply Hk
  iframe

/-- A second visit: the other half of the stage goes out. -/
theorem body_again (i : grid0.Coords) (h1 : ¬k0_cond1 i = 1#1) (h2 : ¬k0_cond2 i = 1#1) (s : Vec F S2x512x1024 .bf16) (E : Set ℕ) (K : PUnit → sProp 𝕄) :
    iprop((∃ d, owns t a11 fullShare d) ∗ owns t a19 fullShare s
        ∗ ((owns t a11 fullShare (halfOut i s) ∗ owns t a19 fullShare s) -∗ K ⟨⟩))
      ⊢ wp frame (wpE (defs₀ (F := F)) Variants.none t none) E
        (body a3 a8 a9 a10 a12 a13 a16 a17 a18 a4 a5 a6 a7 a11 ha11 a14 a15 ha17 a19 ha19 i) K := by
  unfold body
  rw [if_neg h1, if_neg h2]
  show _ ⊢ wp frame (wpE (defs₀ (F := F)) Variants.none t none) E (out a11 ha11 a19 i) K
  iintro ⟨H11, H19, Hk⟩
  iapply (out_triple t a11 ha11 a19 i s E _)
  iframe H19 H11
  iintro ⟨H19, H11⟩
  iapply Hk
  iframe

end Parts

end Cert.MixSIdeal.Body

end
-- ==== Proof.MixSRun.lean ====
/- The spatial-mixing gradient's run: what every point of the grid leaves, and the whole program's execution. -/
module

public import proofs.«01_k».proof.Proof.MixSWork
public import proofs.«01_k».proof.Proof.Gen.MixSIdeal.Frame
public import Idealize.ShloMosaic.Lib.Quiescent
public import Idealize.ShloMosaic.Lib.Claim

@[expose] public section

set_option maxRecDepth 16384

noncomputable section

namespace Cert.MixSIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.MixSIdeal.Gen Cert.MixSIdeal.Body

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave -/

theorem lt16 (t : Fin cfg0.N) : t.val < 16 := lt_of_lt_of_eq t.isLt (show cfg0.N = 16 from N_0)

/-- The blocks point `t` reads. -/
def insAt (c : Dev nD) (t : Fin cfg0.N) : In F :=
  ⟨iblk m c 0 t, iblk m c 1 t, iblk m c 2 t, iblk m c 3 t, iblk m c 4 t, iblk m c 5 t, iblk m c 6 t, iblk m c 7 t⟩

/-- The first point of row block `k`. -/
def pt (k : ℕ) : Fin cfg0.N := ⟨2 * (k % 8), lt_of_lt_of_eq (by omega) (show 16 = cfg0.N from N_0.symm)⟩

/-- The sums after the first `k` row blocks. -/
def accAt (c : Dev nD) : ℕ → Acc F
  | 0 => .zero
  | k + 1 => next (insAt m c (pt k)) (accAt c k)

/-- The stage over row block `k`'s points. -/
def stageAt (c : Dev nD) (k : ℕ) : Vec F S2x512x1024 .bf16 := stage (insAt m c (pt k))

theorem pt_half (t : Fin cfg0.N) (ht : t.val % 2 = 0) : pt (t.val / 2) = t :=
  Fin.ext (by have := lt16 t; show 2 * (t.val / 2 % 8) = t.val; omega)

/-- The scratch between points: after a first visit the stage holds the row block's halves. -/
def inv (c : Dev nD) (n : ℕ) : sProp 𝕄 :=
  iprop(iprop(scr c (Memref.whole cc0_scratch0) (Memref.whole cc0_scratch1) (Memref.whole cc0_scratch2)
      ∗ (∃ d, ⌜n % 2 = 1 → d = stageAt m c (n / 2)⌝ ∗ owns c (Memref.whole cc0_scratch3) fullShare d))
    ∗ (∃ r, prngReg c r))

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => halfOut (grid0.coords t) (stageAt m c (t.val / 2))
    | ⟨9, _⟩ => (accAt m c (t.val / 2 + 1)).dw
    | ⟨10, _⟩ => (accAt m c (t.val / 2 + 1)).db
    | ⟨11, _⟩ => (accAt m c (t.val / 2 + 1)).dg
    | ⟨12, _⟩ => (accAt m c (t.val / 2 + 1)).dn
  Φ t := inv m c t.val
  q w := Pipeline.shareOf spec0 w
  owed _ := 0

theorem A_eq (c : Dev nD) (w : Fin cfg0.W) : (dats m 0 c).A w = V m c (Pipeline.arrRef spec0 w) := by dsimp only [dats]

theorem after_in (c : Dev nD) (t : Fin cfg0.N) : (dats m 0 c).after 0 t = iblk m c 0 t
    ∧ (dats m 0 c).after 1 t = iblk m c 1 t
    ∧ (dats m 0 c).after 2 t = iblk m c 2 t
    ∧ (dats m 0 c).after 3 t = iblk m c 3 t
    ∧ (dats m 0 c).after 4 t = iblk m c 4 t
    ∧ (dats m 0 c).after 5 t = iblk m c 5 t
    ∧ (dats m 0 c).after 6 t = iblk m c 6 t
    ∧ (dats m 0 c).after 7 t = iblk m c 7 t := by
  and_intros <;> dsimp only [dats]
theorem after_8 (c : Dev nD) (t : Fin cfg0.N) : (dats m 0 c).after 8 t = halfOut (grid0.coords t) (stageAt m c (t.val / 2)) := by dsimp only [dats]
theorem after_9 (c : Dev nD) (t : Fin cfg0.N) : (dats m 0 c).after 9 t = (accAt m c (t.val / 2 + 1)).dw := by dsimp only [dats]
theorem after_10 (c : Dev nD) (t : Fin cfg0.N) : (dats m 0 c).after 10 t = (accAt m c (t.val / 2 + 1)).db := by dsimp only [dats]
theorem after_11 (c : Dev nD) (t : Fin cfg0.N) : (dats m 0 c).after 11 t = (accAt m c (t.val / 2 + 1)).dg := by dsimp only [dats]
theorem after_12 (c : Dev nD) (t : Fin cfg0.N) : (dats m 0 c).after 12 t = (accAt m c (t.val / 2 + 1)).dn := by dsimp only [dats]

theorem before_in (c : Dev nD) (t : Fin cfg0.N) : (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t) :=
  ⟨before0_0_of m _ (A_eq m c 0) (fun _ => rfl) t, before0_1_of m _ (A_eq m c 1) (fun _ => rfl) t, before0_2_of m _ (A_eq m c 2) (fun _ => rfl) t, before0_3_of m _ (A_eq m c 3) (fun _ => rfl) t, before0_4_of m _ (A_eq m c 4) (fun _ => rfl) t, before0_5_of m _ (A_eq m c 5) (fun _ => rfl) t, before0_6_of m _ (A_eq m c 6) (fun _ => rfl) t, before0_7_of m _ (A_eq m c 7) (fun _ => rfl) t⟩

/-! ## The cases of a point -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val % 2 = 0 :=
  (by decide +kernel : ∀ t : Fin grid0.N, k0_cond2 (grid0.coords t) = 1#1 ↔ t.val % 2 = 0)

/-- A sum's window: idle at the second visits, written back at the last point only. -/
structure IsSum (w : Fin cfg0.W) : Prop where
  nofetch : ∀ t : Fin cfg0.N, (cfg0.win w).fetch t = false
  flush : ∀ t : Fin cfg0.N, (cfg0.win w).flush t = true ↔ t.val % 16 = 15
  idle : ∀ t : Fin cfg0.N, cfg0.idle w (grid0.coords t) = decide (t.val % 2 = 1)

theorem idle_eq (t : Fin cfg0.N) : (!(k0_cond1 (grid0.coords t) == 1#1) && !(k0_cond2 (grid0.coords t) == 1#1)) = decide (t.val % 2 = 1) :=
  (by decide +kernel : ∀ t : Fin grid0.N, (!(k0_cond1 (grid0.coords t) == 1#1) && !(k0_cond2 (grid0.coords t) == 1#1)) = decide (t.val % 2 = 1)) t

theorem isSum_9 : IsSum 9 := ⟨fun _ => rfl, flush0_9, idle_eq⟩
theorem isSum_10 : IsSum 10 := ⟨fun _ => rfl, flush0_10, idle_eq⟩
theorem isSum_11 : IsSum 11 := ⟨fun _ => rfl, flush0_11, idle_eq⟩
theorem isSum_12 : IsSum 12 := ⟨fun _ => rfl, flush0_12, idle_eq⟩

section Sum

variable {c : Dev nD} (dat : Dat τ (Elt F) Unit ℕ (UR sig nD τ) ℕ cfg0 c) {w : Fin cfg0.W} (hw : IsSum w)
include hw

theorem noflush (t : Fin cfg0.N) (h : t.val % 16 ≠ 15) : (cfg0.win w).flush t = false := by
  cases e : (cfg0.win w).flush t
  · rfl
  · exact absurd ((hw.flush t).mp e) h

/-- At a second visit a sum's buffer holds what the first left; -/
theorem before_second (hk : ∀ t d, dat.kept w t d = dat.after w t) (t : Fin cfg0.N) (ht : t.val % 2 = 1) (d) :
    dat.before w t d = dat.after w ⟨t.val - 1, Nat.lt_of_le_of_lt (Nat.sub_le _ _) t.isLt⟩ := by
  rw [dat.before_of_pos w t (by omega) (hw.nofetch t)]
  rw [noflush hw _ (by have := lt16 t; show (t.val - 1) % 16 ≠ 15; omega), if_neg Bool.false_ne_true]
  unfold Dat.left
  rw [show cfg0.idle w (cfg0.grid.coords ⟨t.val - 1, Nat.lt_of_le_of_lt (Nat.sub_le _ _) t.isLt⟩) = false from
    (hw.idle _).trans (decide_eq_false (by show ¬(t.val - 1) % 2 = 1; omega))]
  exact hk _ _

/-- at a later first visit what the row block before left. -/
theorem before_first (hk : ∀ t d, dat.kept w t d = dat.after w t) (t : Fin cfg0.N) (ht : t.val % 2 = 0) (h0 : t.val ≠ 0) (d) :
    dat.before w t d = dat.after w ⟨t.val - 2, Nat.lt_of_le_of_lt (Nat.sub_le _ _) t.isLt⟩ := by
  rw [dat.before_of_pos w t h0 (hw.nofetch t)]
  rw [noflush hw _ (by have := lt16 t; show (t.val - 1) % 16 ≠ 15; omega), if_neg Bool.false_ne_true]
  unfold Dat.left
  rw [show cfg0.idle w (cfg0.grid.coords ⟨t.val - 1, Nat.lt_of_le_of_lt (Nat.sub_le _ _) t.isLt⟩) = true from
    (hw.idle _).trans (decide_eq_true (by show (t.val - 1) % 2 = 1; omega))]
  exact (before_second dat hw hk ⟨t.val - 1, Nat.lt_of_le_of_lt (Nat.sub_le _ _) t.isLt⟩ (by show (t.val - 1) % 2 = 1; omega) d)

/-- A first visit's buffer of the sum is handed over as left; -/
theorem leaves_first (t : Fin cfg0.N) (ht : t.val % 2 = 0) :
    dat.leavesExact w t = owns c ((cfg0.win w).stage (cfg0.slots t w)) fullShare (dat.after w t) := by
  unfold Dat.leavesExact
  rw [show cfg0.idle w (cfg0.grid.coords t) = false from (hw.idle t).trans (decide_eq_false (by omega))]

/-- a second visit's as found. -/
theorem leaves_second (t : Fin cfg0.N) (ht : t.val % 2 = 1) (hb : ∀ d, dat.before w t d = dat.after w t) :
    owns c ((cfg0.win w).stage (cfg0.slots t w)) fullShare (dat.after w t) ⊢ dat.leavesExact w t := by
  have hi : cfg0.idle w (cfg0.grid.coords t) = true := (hw.idle t).trans (decide_eq_true ht)
  by_cases hf : (cfg0.win w).flush t = true
  · unfold Dat.leavesExact
    rw [hi, hf]
  · rw [dat.leavesExact_idle w t hi (by simpa using hf)]
    iintro H
    iexists (dat.after w t)
    rw [hb]
    iexact H

end Sum

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d))
    ∗ (∃ d, owns c (st0_8 t) fullShare ((dats m 0 c).before 8 t d))
    ∗ (∃ d, owns c (st0_9 t) fullShare ((dats m 0 c).before 9 t d))
    ∗ (∃ d, owns c (st0_10 t) fullShare ((dats m 0 c).before 10 t d))
    ∗ (∃ d, owns c (st0_11 t) fullShare ((dats m 0 c).before 11 t d))
    ∗ (∃ d, owns c (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t
    ∗ (dats m 0 c).leavesExact 12 t)

/-- A window never idle is handed over as left. -/
theorem leaves_live {c : Dev nD} (dat : Dat τ (Elt F) Unit ℕ (UR sig nD τ) ℕ cfg0 c) {w : Fin cfg0.W} (t : Fin cfg0.N)
    (h : cfg0.idle w (cfg0.grid.coords t) = false) :
    dat.leavesExact w t = owns c ((cfg0.win w).stage (cfg0.slots t w)) fullShare (dat.after w t) := by
  unfold Dat.leavesExact; rw [h]

/-- The inputs' and the block output's buffers are handed over as left. -/
theorem post_eq (c : Dev nD) (t : Fin cfg0.N) : bodyPost m c t
    = iprop(inv m c (t.val + 1) ∗ (dats m 0 c).owesAt () t.castSucc
      ∗ owns c (st0_0 t) fullShare (iblk m c 0 t) ∗ owns c (st0_1 t) fullShare (iblk m c 1 t)
      ∗ owns c (st0_2 t) fullShare (iblk m c 2 t) ∗ owns c (st0_3 t) fullShare (iblk m c 3 t)
      ∗ owns c (st0_4 t) fullShare (iblk m c 4 t) ∗ owns c (st0_5 t) fullShare (iblk m c 5 t)
      ∗ owns c (st0_6 t) fullShare (iblk m c 6 t) ∗ owns c (st0_7 t) fullShare (iblk m c 7 t)
      ∗ owns c (st0_8 t) fullShare (halfOut (grid0.coords t) (stageAt m c (t.val / 2)))
      ∗ (dats m 0 c).leavesExact 9 t ∗ (dats m 0 c).leavesExact 10 t ∗ (dats m 0 c).leavesExact 11 t ∗ (dats m 0 c).leavesExact 12 t) := by
  unfold bodyPost
  rw [leaves_live (dats m 0 c) (w := 0) t rfl, leaves_live (dats m 0 c) (w := 1) t rfl, leaves_live (dats m 0 c) (w := 2) t rfl,
    leaves_live (dats m 0 c) (w := 3) t rfl, leaves_live (dats m 0 c) (w := 4) t rfl, leaves_live (dats m 0 c) (w := 5) t rfl,
    leaves_live (dats m 0 c) (w := 6) t rfl, leaves_live (dats m 0 c) (w := 7) t rfl, leaves_live (dats m 0 c) (w := 8) t rfl]
  simp only [after_in m c t]
  rw [after_8]
  rfl

theorem pre_eq (c : Dev nD) (t : Fin cfg0.N) : (dats m 0 c).Φ t.castSucc = inv m c t.val := rfl

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyAt0
  rw [cc0_eq, post_eq]
  unfold bodyPre
  rw [pre_eq]
  simp only [before_in m c t]
  have hN := lt16 t
  by_cases h1 : t.val % 2 = 0
  · have eI : insAt m c (pt (t.val / 2)) = insAt m c t := by rw [pt_half t h1]
    have eS : stageAt m c (t.val / 2) = stage (insAt m c t) := by unfold stageAt; rw [eI]
    have eA : accAt m c (t.val / 2 + 1) = next (insAt m c t) (accAt m c (t.val / 2)) := by rw [accAt, eI]
    rw [leaves_first _ isSum_9 t h1, leaves_first _ isSum_10 t h1, leaves_first _ isSum_11 t h1, leaves_first _ isSum_12 t h1,
      after_9, after_10, after_11, after_12, eS, eA]
    unfold inv
    by_cases h0 : t.val = 0
    · iintro ⟨⟨⟨HS, ⟨%ds, %hs, H19⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_first c (st0_0 t) (st0_1 t) (st0_2 t) (st0_3 t) (st0_4 t) (st0_5 t) (st0_6 t) (st0_7 t) (st0_8 t) _ (st0_9 t) (st0_10 t) (st0_11 t) (st0_12 t)
        (Memref.whole cc0_scratch0) (Memref.whole cc0_scratch1) _ (Memref.whole cc0_scratch2) (Memref.whole cc0_scratch3) _ (grid0.coords t)
        ((cond1_iff t).mpr h0) ((cond2_iff t).mpr h1) (insAt m c t) Set.univ _)
      unfold ins anySums
      dsimp only [insAt]
      isplitl [H0 H1 H2 H3 H4 H5 H6 H7]
      · iframe
      isplitl [H8]; · iexists _; iexact H8
      isplitl [H9 H10 H11 H12]
      · isplitl [H9]; · iexists _; iexact H9
        isplitl [H10]; · iexists _; iexact H10
        isplitl [H11]; · iexists _; iexact H11
        iexists _; iexact H12
      isplitl [HS]; · iexact HS
      isplitl [H19]; · iexists _; iexact H19
      rw [show accAt m c (t.val / 2) = .zero from by rw [h0]; rfl]
      unfold sums
      iintro ⟨⟨H0, H1, H2, H3, H4, H5, H6, H7⟩, H8, ⟨H9, H10, H11, H12⟩, HS, H19⟩
      isplitl [HS H19 Hg]
      · isplitl [HS H19]
        · isplitl [HS]; · iexact HS
          iexists _
          isplitr; rotate_left
          · iexact H19
          · ipureintro; intro _
            rw [show (t.val + 1) / 2 = t.val / 2 from by omega, eS]; rfl
        iexact Hg
      isplitl [Ho]; · iexact Ho
      iframe
    · have e2 : (t.val - 2) / 2 + 1 = t.val / 2 := by omega
      simp only [before_first (dats m 0 c) isSum_9 (fun _ _ => rfl) t h1 h0, before_first (dats m 0 c) isSum_10 (fun _ _ => rfl) t h1 h0,
        before_first (dats m 0 c) isSum_11 (fun _ _ => rfl) t h1 h0, before_first (dats m 0 c) isSum_12 (fun _ _ => rfl) t h1 h0,
        after_9, after_10, after_11, after_12, e2]
      iintro ⟨⟨⟨HS, ⟨%ds, %hs, H19⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_block c (st0_0 t) (st0_1 t) (st0_2 t) (st0_3 t) (st0_4 t) (st0_5 t) (st0_6 t) (st0_7 t) (st0_8 t) _ (st0_9 t) (st0_10 t) (st0_11 t) (st0_12 t)
        (Memref.whole cc0_scratch0) (Memref.whole cc0_scratch1) _ (Memref.whole cc0_scratch2) (Memref.whole cc0_scratch3) _ (grid0.coords t)
        (fun h => h0 ((cond1_iff t).mp h)) ((cond2_iff t).mpr h1) (insAt m c t) (accAt m c (t.val / 2)) Set.univ _)
      unfold ins sums
      dsimp only [insAt]
      isplitl [H0 H1 H2 H3 H4 H5 H6 H7]
      · iframe
      isplitl [H8]; · iexists _; iexact H8
      isplitl [H9 H10 H11 H12]
      · iframe
      isplitl [HS]; · iexact HS
      isplitl [H19]; · iexists _; iexact H19
      iintro ⟨⟨H0, H1, H2, H3, H4, H5, H6, H7⟩, H8, ⟨H9, H10, H11, H12⟩, HS, H19⟩
      isplitl [HS H19 Hg]
      · isplitl [HS H19]
        · isplitl [HS]; · iexact HS
          iexists _
          isplitr; rotate_left
          · iexact H19
          · ipureintro; intro _
            rw [show (t.val + 1) / 2 = t.val / 2 from by omega, eS]; rfl
        iexact Hg
      isplitl [Ho]; · iexact Ho
      iframe
  · have h2 : t.val % 2 = 1 := by omega
    have e9 : ∀ d, (dats m 0 c).before 9 t d = (dats m 0 c).after 9 t := fun d => by
      rw [before_second _ isSum_9 (fun _ _ => rfl) t h2, after_9, after_9, show (t.val - 1) / 2 + 1 = t.val / 2 + 1 from by omega]
    have e10 : ∀ d, (dats m 0 c).before 10 t d = (dats m 0 c).after 10 t := fun d => by
      rw [before_second _ isSum_10 (fun _ _ => rfl) t h2, after_10, after_10, show (t.val - 1) / 2 + 1 = t.val / 2 + 1 from by omega]
    have e11 : ∀ d, (dats m 0 c).before 11 t d = (dats m 0 c).after 11 t := fun d => by
      rw [before_second _ isSum_11 (fun _ _ => rfl) t h2, after_11, after_11, show (t.val - 1) / 2 + 1 = t.val / 2 + 1 from by omega]
    have e12 : ∀ d, (dats m 0 c).before 12 t d = (dats m 0 c).after 12 t := fun d => by
      rw [before_second _ isSum_12 (fun _ _ => rfl) t h2, after_12, after_12, show (t.val - 1) / 2 + 1 = t.val / 2 + 1 from by omega]
    simp only [e9, e10, e11, e12]
    unfold inv
    iintro ⟨⟨⟨HS, ⟨%ds, %hs, H19⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hs' := hs h2
    subst hs'
    iapply (body_again c (st0_0 t) (st0_1 t) (st0_2 t) (st0_3 t) (st0_4 t) (st0_5 t) (st0_6 t) (st0_7 t) (st0_8 t) _ (st0_9 t) (st0_10 t) (st0_11 t) (st0_12 t)
        (Memref.whole cc0_scratch0) (Memref.whole cc0_scratch1) _ (Memref.whole cc0_scratch2) (Memref.whole cc0_scratch3) _ (grid0.coords t)
        (fun h => absurd ((cond1_iff t).mp h) (by omega)) (fun h => h1 ((cond2_iff t).mp h)) (stageAt m c (t.val / 2)) Set.univ _)
    isplitl [H8]; · iexists _; iexact H8
    isplitl [H19]; · iexact H19
    iintro ⟨H8, H19⟩
    isplitl [HS H19 Hg]
    · isplitl [HS H19]
      · isplitl [HS]; · iexact HS
        iexists _
        isplitr; rotate_left
        · iexact H19
        · ipureintro; intro h; exfalso; omega
      iexact Hg
    iframe Ho H0 H1 H2 H3 H4 H5 H6 H7 H8
    isplitl [H9]; · iapply (leaves_second (dats m 0 c) isSum_9 t h2 e9); iexact H9
    isplitl [H10]; · iapply (leaves_second (dats m 0 c) isSum_10 t h2 e10); iexact H10
    isplitl [H11]; · iapply (leaves_second (dats m 0 c) isSum_11 t h2 e11); iexact H11
    iapply (leaves_second (dats m 0 c) isSum_12 t h2 e12); iexact H12

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scratch_eq (c : Dev nD) : (Pipeline.ΦA spec0 c : sProp 𝕄)
    = iprop(iprop((∃ d, owns c (Memref.whole cc0_scratch0) fullShare d) ∗ (∃ d, owns c (Memref.whole cc0_scratch1) fullShare d)
        ∗ (∃ d, owns c (Memref.whole cc0_scratch2) fullShare d) ∗ (∃ d, owns c (Memref.whole cc0_scratch3) fullShare d)) ∗ (∃ r, prngReg c r)) := by
  unfold Pipeline.ΦA; rw [scopedRest0_eq]; simp only [owns_whole]; try rfl

theorem hin (c : Dev nD) : (Pipeline.ΦA spec0 c : sProp 𝕄) ⊢ (dats m 0 c).Φ 0 := by
  rw [scratch_eq, show (dats m 0 c).Φ 0 = inv m c 0 from rfl]
  unfold inv scr
  iintro ⟨⟨H0, H1, H2, ⟨%d, H3⟩⟩, Hg⟩
  isplitl [H0 H1 H2 H3]
  · isplitl [H0 H1 H2]
    · iframe
    iexists d
    isplitr
    · ipureintro; intro h; omega
    iexact H3
  iexact Hg

theorem hout (c : Dev nD) : (dats m 0 c).Φ (Fin.last cfg0.N) ⊢ (Pipeline.ΦA spec0 c : sProp 𝕄) := by
  rw [scratch_eq, show (dats m 0 c).Φ (Fin.last cfg0.N) = inv m c cfg0.N from rfl]
  unfold inv scr
  iintro ⟨⟨⟨H0, H1, H2⟩, ⟨%d, %hd, H3⟩⟩, Hg⟩
  isplitl [H0 H1 H2 H3]
  · iframe H0 H1 H2
    iexists d; iexact H3
  iexact Hg

set_option backward.isDefEq.respectTransparency.types false in
/-- The launch: every array at what the points leave, every other buffer as the region finds it, every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments end as they began. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.MixSIdeal.Run

end
-- ==== Proof.MixSFrames.lean ====
/- The frames of the spatial-mixing gradient: the program over the extended reals and the one over the bits are one text. -/
module

public import proofs.«01_k».proof.Proof.MixSRun
public import proofs.«01_k».proof.Proof.Gen.MixS
public import proofs.«01_k».proof.Defs
public import Idealize.ShloMosaic.Lib.Tactic

@[expose] public section

set_option maxRecDepth 16384

noncomputable section

namespace Cert.MixSFrames

open Idealize.ShloMosaic Idealize.ShloMosaic.TcCoe
open Idealize.SL.Sem

/-- A named constant of the bit program is the literal it was printed as. -/
local instance literal : Named Bits := ⟨fun _ _ _ b => Scalar.ofBits _ b⟩

theorem defs_eq : Cert.MixSIdeal.defs (F := Bits) = Cert.MixS.defs (F := Bits) := by sl_kernel_rfl
theorem main_eq : Cert.MixSIdeal.main (F := Bits) = Cert.MixS.main (F := Bits) := by sl_kernel_rfl

variable [Cert.Pre_mix_s_finite.Facts]

theorem ideal : Cert.quiescent_MixSIdeal := fun m ρ _ => Cert.MixSIdeal.Run.frame_run (F := Ideal) m ρ

theorem ideal_pre : Cert.quiescent_MixSIdeal_pre_mix_s_finite := fun m ρ _ => Cert.MixSIdeal.Run.frame_run (F := Ideal) m ρ

theorem bits : Cert.quiescent_MixS := fun m ρ _ => by
  have h := Cert.MixSIdeal.Run.frame_run (F := Bits) m ρ
  rw [defs_eq, main_eq] at h
  exact h

end Cert.MixSFrames

end
-- ==== Proof.MixSModel.lean ====
/- The spatial-mixing gradient over the real numbers, and the rules that carry the extended reals' operations to it. -/
module

public import proofs.«01_k».proof.Proof.Consts

@[expose] public section

noncomputable section

namespace Cert.MixSModel

open Idealize.ShloMosaic

/-! ## Real numbers among the extended ones -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem mul_coe (a b : ℝ) : (a : EReal) * (b : EReal) = ((a * b : ℝ) : EReal) := (EReal.coe_mul a b).symm
theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem neg_coe (a : ℝ) : -(a : EReal) = ((-a : ℝ) : EReal) := (EReal.coe_neg a).symm
theorem zero_coe : (0 : EReal) = ((0 : ℝ) : EReal) := EReal.coe_zero.symm
theorem one_coe : (1 : EReal) = ((1 : ℝ) : EReal) := EReal.coe_one.symm
theorem div_coe (a b : ℝ) (h : b ≠ 0) : Ideal.div (a : EReal) (b : EReal) = ((a / b : ℝ) : EReal) := by
  rw [Ideal.div_coe h, mul_coe]; congr 1; ring
theorem rsqrt_coe (a : ℝ) (h : 0 < a) : Ideal.rsqrt (a : EReal) = (((Real.sqrt a)⁻¹ : ℝ) : EReal) := by
  rw [Ideal.rsqrt_coe, if_neg (not_lt.mpr h.le), if_neg h.ne']

/-- The slope √(2/π) and the norm's ε as their float words read. -/
def slope : ℝ := 13386282 / 16777216
def eps : ℝ := 8796093 / 8796093022208

theorem ofBits_slope : Ideal.ofBits .f32 0x3F4C422A#32 = (slope : EReal) := by
  simp [Ideal.ofBits, Ideal.ieee, slope]
  rw [← EReal.coe_mul]; norm_num
theorem ofBits_eps : Ideal.ofBits .f32 0x358637BD#32 = (eps : EReal) := by
  simp [Ideal.ofBits, Ideal.ieee, eps]
  rw [← EReal.coe_mul]; norm_num
theorem ofBits_one : Ideal.ofBits .f32 0x3F800000#32 = ((1 : ℝ) : EReal) := by
  simp [Ideal.ofBits, Ideal.ieee]
  rw [← EReal.coe_mul]; norm_num
theorem ofBits_zero : Ideal.ofBits .f32 0x00000000#32 = ((0 : ℝ) : EReal) := by
  simp [Ideal.ofBits, Ideal.ieee]
theorem ofBits_three : Ideal.ofBits .f32 0x40400000#32 = ((3 : ℝ) : EReal) := by
  simp [Ideal.ofBits, Ideal.ieee]
  rw [← EReal.coe_mul]; norm_num
theorem ofBits_neg_half : Ideal.ofBits .f32 0xBF000000#32 = ((-1 / 2 : ℝ) : EReal) := by
  simp [Ideal.ofBits, Ideal.ieee]
  rw [← EReal.coe_mul, ← EReal.coe_neg]; norm_num
theorem ofBits_num : Ideal.ofBits .f32 0x472EAB00#32 = ((44715 : ℝ) : EReal) := by
  simp [Ideal.ofBits, Ideal.ieee]
  rw [← EReal.coe_mul]; norm_num
theorem ofBits_den : Ideal.ofBits .f32 0x49742400#32 = ((1000000 : ℝ) : EReal) := by
  simp [Ideal.ofBits, Ideal.ieee]
  rw [← EReal.coe_mul]; norm_num

/-! ## The activation and its derivative -/

def act (x : ℝ) : ℝ := Real.tanh (slope * x * (1 + 8943 / 200000 * (x * x)))
def gelu (x : ℝ) : ℝ := 1 / 2 * x * (1 + act x)
def dgelu (x : ℝ) : ℝ := 1 / 2 * (1 + act x) + 1 / 2 * x * (1 - act x * act x) * slope * (1 + 26829 / 200000 * (x * x))

/-! ## The norm of one row -/

/-- A row's mean, its centred entries, its variance with ε, its root and its normalised entries. -/
def mean (f : Fin 1024 → ℝ) : ℝ := (∑ j, f j) / 1024
def centre (f : Fin 1024 → ℝ) (j : Fin 1024) : ℝ := f j - mean f
def spread (f : Fin 1024 → ℝ) : ℝ := mean (fun j => centre f j * centre f j) + eps
def root (f : Fin 1024 → ℝ) : ℝ := (Real.sqrt (spread f))⁻¹
def unit (f : Fin 1024 → ℝ) (j : Fin 1024) : ℝ := centre f j * root f
/-- The norm's gradient of a row `f` from the normalised entries' gradient `h`. -/
def back (f h : Fin 1024 → ℝ) (j : Fin 1024) : ℝ := root f * (h j - mean h - unit f j * mean (fun l => h l * unit f l))

theorem spread_pos (f : Fin 1024 → ℝ) : 0 < spread f := by
  unfold spread mean eps
  have : 0 ≤ ∑ j, centre f j * centre f j := Finset.sum_nonneg fun j _ => mul_self_nonneg _
  positivity

/-- The centred entries have no sum. -/
theorem sum_centre (f : Fin 1024 → ℝ) : ∑ j, centre f j = 0 := by
  unfold centre mean
  rw [Finset.sum_sub_distrib, Finset.sum_const, Finset.card_univ, Fintype.card_fin]
  simp only [nsmul_eq_mul]
  push_cast
  ring

/-- The root against the variance: r / (σ² + ε) = r³. -/
theorem root_div (f : Fin 1024 → ℝ) : root f / spread f = root f * (root f * root f) := by
  have h := spread_pos f
  have hs : Real.sqrt (spread f) * Real.sqrt (spread f) = spread f := Real.mul_self_sqrt h.le
  have hp : 0 < Real.sqrt (spread f) := Real.sqrt_pos.mpr h
  unfold root
  rw [div_eq_mul_inv]
  congr 1
  rw [← mul_inv, hs]

/-! ## The gate -/

/-- The arguments' rows and columns the gradient reads. -/
structure Data where
  dy : Fin 4096 → Fin 1024 → ℝ
  su : Fin 4096 → Fin 1024 → ℝ
  sv : Fin 4096 → Fin 1024 → ℝ
  lg : Fin 1024 → ℝ
  lb : Fin 1024 → ℝ
  w : Fin 8 → Fin 128 → Fin 128 → ℝ
  b : Fin 8 → Fin 128 → ℝ

/-- Row `i` of chunk `c`, lane `d` of head `h`, and back. -/
def row (c : Fin 32) (i : Fin 128) : Fin 4096 := ⟨128 * c.val + i.val, by omega⟩
def lane (h : Fin 8) (d : Fin 128) : Fin 1024 := ⟨128 * h.val + d.val, by omega⟩
def chunkOf (r : Fin 4096) : Fin 32 := ⟨r.val / 128, by omega⟩
def placeOf (r : Fin 4096) : Fin 128 := ⟨r.val % 128, by omega⟩
def headOf (j : Fin 1024) : Fin 8 := ⟨j.val / 128, by omega⟩

namespace Data

variable (A : Data)

def u (r : Fin 4096) (j : Fin 1024) : ℝ := gelu (A.su r j)
def v (r : Fin 4096) (j : Fin 1024) : ℝ := gelu (A.sv r j)
def n (r : Fin 4096) (j : Fin 1024) : ℝ := unit (A.v r) j
def vn (r : Fin 4096) (j : Fin 1024) : ℝ := A.n r j * A.lg j + A.lb j
/-- The causal weight. -/
def wm (h : Fin 8) (i s : Fin 128) : ℝ := if s ≤ i then A.w h i s else 0
def mixed (r : Fin 4096) (j : Fin 1024) : ℝ :=
  (∑ s, A.wm (headOf j) (placeOf r) s * A.vn (row (chunkOf r) s) j) + A.b (headOf j) (placeOf r)
def dmix (r : Fin 4096) (j : Fin 1024) : ℝ := A.dy r j * A.u r j
def dvn (r : Fin 4096) (j : Fin 1024) : ℝ := ∑ s, A.wm (headOf j) s (placeOf r) * A.dmix (row (chunkOf r) s) j
/-- The six gradients. -/
def du (r : Fin 4096) (j : Fin 1024) : ℝ := A.dy r j * A.mixed r j * dgelu (A.su r j)
def dv (r : Fin 4096) (j : Fin 1024) : ℝ := back (A.v r) (fun l => A.dvn r l * A.lg l) j * dgelu (A.sv r j)
def dw (h : Fin 8) (i s : Fin 128) : ℝ := ∑ c, ∑ d, A.dmix (row c i) (lane h d) * A.vn (row c s) (lane h d)
def db (h : Fin 8) (i : Fin 128) : ℝ := ∑ c, ∑ d, A.dmix (row c i) (lane h d)
def dg (j : Fin 1024) : ℝ := ∑ r, A.dvn r j * A.n r j
def dn (j : Fin 1024) : ℝ := ∑ r, A.dvn r j

end Data

end Cert.MixSModel

end
-- ==== Proof.MixSBlock.lean ====
/- What one row block of the spatial-mixing gradient computes, over the real numbers. -/
module

public import proofs.«01_k».proof.Proof.MixSModel
public import proofs.«01_k».proof.Proof.MixSWork
public import Idealize.ShloMosaic.Lib.Pipeline.ValueKit

@[expose] public section

set_option maxRecDepth 16384

noncomputable section

namespace Cert.MixSIdeal.Block

open Idealize.ShloMosaic Idealize.ShloMosaic.TcCoe
open Cert.MixSIdeal.Gen Cert.MixSIdeal.Body Cert.MixSModel

/-- Row `i` of row block `k`. -/
def brow (k : Fin 8) (i : Fin 512) : Fin 4096 := ⟨512 * k.val + i.val, by omega⟩

/-- Block `x` holds row block `k` of the data. -/
structure Holds (x : In Ideal) (A : Data) (k : Fin 8) : Prop where
  dy : ∀ i j, x.dy (ix3 0 i j) = (A.dy (brow k i) j : EReal)
  su : ∀ i j, x.su (ix2 i j) = (A.su (brow k i) j : EReal)
  sv : ∀ i j, x.sv (ix2 i j) = (A.sv (brow k i) j : EReal)
  lg : ∀ j, x.lg (ix2 0 j) = (A.lg j : EReal)
  lb : ∀ j, x.lb (ix2 0 j) = (A.lb j : EReal)
  w : ∀ h i s, x.w (ix3 h i s) = (A.w h i s : EReal)
  wt : ∀ h i s, x.wt (ix3 h i s) = (A.w h s i : EReal)
  b : ∀ i h, x.b (ix2 i h) = (A.b h i : EReal)

theorem named_c (b : BitVec 32) : (Named.named κ "gelu_c" (φ := .f32) b : Ideal .f32) = ((8943 / 200000 : ℝ) : EReal) := rfl
theorem named_3c (b : BitVec 32) : (Named.named κ "gelu_3c" (φ := .f32) b : Ideal .f32) = ((26829 / 200000 : ℝ) : EReal) := rfl

variable {x : In Ideal} {A : Data} {k : Fin 8} (H : Holds x A k)
include H

theorem act_eq (i : Fin 512) (j : Fin 1024) : k0_pay9 x.su (ix2 i j) = (act (A.su (brow k i) j) : EReal) := by
  pointwise [k0_pay9, k0_pay8, k0_pay7]
  simp only [H.su, ofBits_slope, named_c, one_coe, mul_coe, add_coe, Ideal.tanh_coe, act]

theorem u_eq (i : Fin 512) (j : Fin 1024) : x.u (ix2 i j) = (A.u (brow k i) j : EReal) := by
  pointwise [In.u, k0_pay18, k0_pay10, k0_pay7]
  simp only [H.su, act_eq H, Consts.ofBits_half, one_coe, mul_coe, add_coe, Data.u, gelu]

theorem du_eq (i : Fin 512) (j : Fin 1024) : k0_pay11 x.su (ix2 i j) = (dgelu (A.su (brow k i) j) : EReal) := by
  pointwise [k0_pay11, k0_pay8, k0_pay7]
  simp only [H.su, act_eq H, Consts.ofBits_half, ofBits_slope, named_3c, one_coe, mul_coe, add_coe, sub_coe, dgelu]

theorem act_eq' (i : Fin 512) (j : Fin 1024) :
    k0_pay16 (k0_pay14 x.sv) (k0_pay15 x.sv) (((1 : ℝ) : EReal) : Ideal .f32) (ix2 i j) = (act (A.sv (brow k i) j) : EReal) := by
  pointwise [k0_pay16, k0_pay14, k0_pay15, k0_pay13, k0_pay12]
  simp only [H.sv, ofBits_slope, named_c, one_coe, mul_coe, add_coe, Ideal.tanh_coe, act]

theorem dv_eq (i : Fin 512) (j : Fin 1024) : v79 x.sv (ix2 i j) = (dgelu (A.sv (brow k i) j) : EReal) := by
  pointwise [v79, k0_pay17, k0_pay13, k0_pay12]
  simp only [H.sv, act_eq' H, Consts.ofBits_half, ofBits_slope, named_3c, one_coe, mul_coe, add_coe, sub_coe, dgelu]

theorem centre_eq' (i : Fin 512) (j : Fin 1024) :
    k0_pay19 (k0_pay12 x.sv) (k0_pay14 x.sv) (k0_pay15 x.sv) (((1 : ℝ) : EReal) : Ideal .f32) (ix2 i j) = (centre (A.v (brow k i)) j : EReal) := by
  pointwise [k0_pay19, k0_pay12]
  simp only [H.sv, act_eq' H, Consts.ofBits_half, Consts.ofBits_1024, one_coe, mul_coe, add_coe, sub_coe, coe_sum,
    div_coe _ _ (show (1024 : ℝ) ≠ 0 by norm_num), centre, mean, Data.v, gelu]

theorem centre_eq (i : Fin 512) (j : Fin 1024) : v88 x.sv (ix2 i j) = (centre (A.v (brow k i)) j : EReal) := by
  rw [v88, show (Scalar.ofBits .f32 0x3F800000#32 : Ideal .f32) = (((1 : ℝ) : EReal) : Ideal .f32) from ofBits_one]
  exact centre_eq' H i j

theorem spread_eq (i : Fin 512) : v95 x.sv (ix2 i 0) = (spread (A.v (brow k i)) : EReal) := by
  pointwise [v95, k0_pay20]
  simp only [one_coe, centre_eq' H, Consts.ofBits_1024, ofBits_eps, mul_coe, add_coe, coe_sum, div_coe _ _ (show (1024 : ℝ) ≠ 0 by norm_num), spread, mean]

theorem root_eq (i : Fin 512) : k0_pay21 (v95 x.sv) (ix2 i 0) = (root (A.v (brow k i)) : EReal) := by
  pointwise [k0_pay21]
  rw [spread_eq H, rsqrt_coe _ (spread_pos _), root]

theorem n_eq (i : Fin 512) (j : Fin 1024) : k0_pay22 (v88 x.sv) (v95 x.sv) (ix2 i j) = (A.n (brow k i) j : EReal) := by
  pointwise [k0_pay22]
  simp only [centre_eq H, root_eq H, mul_coe, Data.n, unit]

theorem vn_eq (i : Fin 512) (j : Fin 1024) : x.vn (ix2 i j) = (A.vn (brow k i) j : EReal) := by
  pointwise [In.vn, vnOf, k0_pay23]
  simp only [n_eq H, H.lg, H.lb, mul_coe, add_coe, Data.vn]

/-! ## The tiles -/

/-- Row `s` of chunk `c` of the block. -/
def brl (c : Fin 4) (s : Fin 128) : Fin 512 := ⟨128 * c.val + s.val, by omega⟩

omit H in
theorem brl_mk (c : Fin 4) (s : Fin 128) (hh) : (⟨c.val * 128 + s.val, hh⟩ : Fin 512) = brl c s := Fin.ext (by show c.val * 128 + s.val = 128 * c.val + s.val; omega)
omit H in
theorem lane_mk (h : Fin 8) (d : Fin 128) (hh) : (⟨h.val * 128 + d.val, hh⟩ : Fin 1024) = lane h d := Fin.ext (by show h.val * 128 + d.val = 128 * h.val + d.val; omega)
omit H in
theorem headOf_lane (h : Fin 8) (d : Fin 128) : headOf (lane h d) = h := Fin.ext (by show (128 * h.val + d.val) / 128 = h.val; omega)
omit H in
theorem placeOf_brl (c : Fin 4) (s : Fin 128) : placeOf (brow k (brl c s)) = s := Fin.ext (by show (512 * k.val + (128 * c.val + s.val)) % 128 = s.val; omega)
omit H in
theorem row_brl (c : Fin 4) (s i : Fin 128) : row (chunkOf (brow k (brl c s))) i = brow k (brl c i) :=
  Fin.ext (by show 128 * ((512 * k.val + (128 * c.val + s.val)) / 128) + i.val = 512 * k.val + (128 * c.val + i.val); omega)

omit H in
/-- The causal mask on a pair of places. -/
theorem mask (i s : Fin 128) : (IntOp.cmpi .sge (BitVec.ofNat 32 i.val) (BitVec.ofNat 32 s.val) = 1) ↔ s ≤ i := by
  refine IntOp.cmpi_sge.trans ?_
  have h : ∀ a : Fin 128, (BitVec.ofNat 32 a.val).toInt = a.val := by decide +kernel
  rw [h, h]
  exact_mod_cast Iff.rfl

theorem wm_eq (h : Fin 8) (i s : Fin 128) : wmOf x.w h (ix2 i s) = (A.wm h i s : EReal) := by
  pointwise [wmOf, k0_pay26, k0_pay24]
  simp only [Scalar.select, H.w, Data.wm]
  by_cases hc : s ≤ i
  · rw [if_pos ((mask _ _).2 hc), if_pos hc]
  · rw [if_neg (mt (mask _ _).1 hc), if_neg hc]; rfl

theorem wmt_eq (h : Fin 8) (i s : Fin 128) : wmtOf x.wt h (ix2 i s) = (A.wm h s i : EReal) := by
  pointwise [wmtOf, k0_pay27, k0_pay25]
  simp only [Scalar.select, H.wt, Data.wm]
  by_cases hc : i ≤ s
  · rw [if_pos ((mask _ _).2 hc), if_pos hc]
  · rw [if_neg (mt (mask _ _).1 hc), if_neg hc]; rfl

theorem g_tile (c : Fin 4) (h : Fin 8) (p q : Fin 128) :
    tileU x.dy x.vn x.b x.w c h (ix2 p q) = ((A.dy (brow k (brl c p)) (lane h q) * A.mixed (brow k (brl c p)) (lane h q) : ℝ) : EReal) := by
  pointwise [tileU, k0_pay40, k0_pay36, k0_pay37, k0_pay38]
  simp only [brl_mk, lane_mk, wm_eq H, vn_eq H, H.dy, H.b, mul_coe, coe_sum, add_coe, Data.mixed, headOf_lane, placeOf_brl, row_brl]

theorem d_tile (c : Fin 4) (h : Fin 8) (p q : Fin 128) :
    tileV x.dy x.wt x.u c h (ix2 p q) = (A.dvn (brow k (brl c p)) (lane h q) : EReal) := by
  pointwise [tileV, k0_pay44, k0_pay42, k0_pay39, k0_pay38]
  simp only [brl_mk, lane_mk, wmt_eq H, u_eq H, H.dy, mul_coe, coe_sum, add_coe, Data.dvn, Data.dmix, headOf_lane, placeOf_brl, row_brl]

theorem w_tile (c : Fin 4) (h : Fin 8) (X : FVec Ideal S1x128x128 .f32) (i s : Fin 128) (a : ℝ) (hX : X (ix3 0 i s) = (a : EReal)) :
    k0_pay43 (View.ld (Val := Elt Ideal) x.vn (rT c h)) (View.ld (Val := Elt Ideal) x.dy (rY c h)) (View.ld (Val := Elt Ideal) x.u (rT c h)) X (ix3 0 i s)
      = ((a + ∑ d, A.dmix (brow k (brl c i)) (lane h d) * A.vn (brow k (brl c s)) (lane h d) : ℝ) : EReal) := by
  pointwise [k0_pay43, k0_pay39, k0_pay38, k0_pay42]
  simp only [hX, brl_mk, lane_mk, vn_eq H, u_eq H, H.dy, mul_coe, coe_sum, add_coe, Data.dmix]

theorem b_tile (c : Fin 4) (h : Fin 8) (X : FVec Ideal S128x1 .f32) (i : Fin 128) (a : ℝ) (hX : X (ix2 i 0) = (a : EReal)) :
    k0_pay41 (View.ld (Val := Elt Ideal) x.dy (rY c h)) (View.ld (Val := Elt Ideal) x.u (rT c h)) X (ix2 i 0)
      = ((a + ∑ d, A.dmix (brow k (brl c i)) (lane h d) : ℝ) : EReal) := by
  pointwise [k0_pay41, k0_pay39, k0_pay38]
  simp only [hX, brl_mk, lane_mk, u_eq H, H.dy, mul_coe, coe_sum, add_coe, Data.dmix]

/-! ## The block's results -/

omit H in
theorem split_row (i : Fin 512) : ∃ c s, i = brl c s := ⟨⟨i.val / 128, by omega⟩, ⟨i.val % 128, by omega⟩, Fin.ext (by show i.val = 128 * (i.val / 128) + i.val % 128; omega)⟩
omit H in
theorem split_lane (j : Fin 1024) : ∃ h d, j = lane h d := ⟨⟨j.val / 128, by omega⟩, ⟨j.val % 128, by omega⟩, Fin.ext (by show j.val = 128 * (j.val / 128) + j.val % 128; omega)⟩
omit H in
theorem ci_at (c : Fin 4) (s : Fin 128) (j : Fin 1024) : ci (ix2 (brl c s) j) = c := Fin.ext (by show (128 * c.val + s.val) / 128 = c.val; omega)
omit H in
theorem hi_at (h : Fin 8) (d : Fin 128) (i : Fin 512) : hi (ix2 i (lane h d)) = h := Fin.ext (by show (128 * h.val + d.val) / 128 = h.val; omega)
omit H in
theorem li_at (c : Fin 4) (s : Fin 128) (h : Fin 8) (d : Fin 128) : li (ix2 (brl c s) (lane h d)) = ix2 s d :=
  funext fun a => Fin.ext (match a with
    | ⟨0, _⟩ => by show (128 * c.val + s.val) % 128 = s.val; omega
    | ⟨1, _⟩ => by show (128 * h.val + d.val) % 128 = d.val; omega)

theorem g_eq (i : Fin 512) (j : Fin 1024) : x.g (ix2 i j) = ((A.dy (brow k i) j * A.mixed (brow k i) j : ℝ) : EReal) := by
  obtain ⟨c, s, rfl⟩ := split_row i
  obtain ⟨h, d, rfl⟩ := split_lane j
  rw [In.g, finU, ci_at, hi_at, li_at]
  exact g_tile H c h s d

theorem d_eq (i : Fin 512) (j : Fin 1024) : x.d (ix2 i j) = (A.dvn (brow k i) j : EReal) := by
  obtain ⟨c, s, rfl⟩ := split_row i
  obtain ⟨h, d, rfl⟩ := split_lane j
  rw [In.d, finV, ci_at, hi_at, li_at]
  exact d_tile H c h s d

theorem half0_eq (i : Fin 512) (j : Fin 1024) : half0 x (ix3 0 i j) = (A.du (brow k i) j : EReal) := by
  pointwise [half0, k0_pay297]
  simp only [g_eq H, du_eq H, mul_coe, Data.du]

theorem half1_eq (i : Fin 512) (j : Fin 1024) : half1 x (ix3 0 i j) = (A.dv (brow k i) j : EReal) := by
  pointwise [half1, k0_pay5, k0_pay301, k0_pay302, k0_pay300, k0_pay303]
  simp only [d_eq H, H.lg, dv_eq H, root_eq H, n_eq H, mul_coe, coe_sum, sub_coe, div_coe _ _ (show (1024 : ℝ) ≠ 0 by norm_num), Consts.ofBits_1024, Data.dv, back, mean, Data.n]

theorem next_dw (a : Acc Ideal) (h : Fin 8) (i s : Fin 128) (r : ℝ) (ha : a.dw (ix3 h i s) = (r : EReal)) :
    (next x a).dw (ix3 h i s) = ((r + ∑ c : Fin 4, ∑ d, A.dmix (brow k (brl c i)) (lane h d) * A.vn (brow k (brl c s)) (lane h d) : ℝ) : EReal) := by
  have h0 : View.ld (Val := Elt Ideal) a.dw (rH h) (ix3 0 i s) = (r : EReal) := by
    refine Eq.trans (congrArg a.dw (funext fun e => Fin.ext ?_)) ha
    match e with
    | ⟨0, _⟩ => show h.val + 1 * 0 = h.val; omega
    | ⟨1, _⟩ => show 0 + 1 * i.val = i.val; omega
    | ⟨2, _⟩ => show 0 + 1 * s.val = s.val; omega
  have e : (fun | 0 => (0 : Fin 1) | 1 => i | 2 => s : S1x128x128.Idx) = ix3 0 i s := funext fun e => match e with
    | ⟨0, _⟩ => rfl
    | ⟨1, _⟩ => rfl
    | ⟨2, _⟩ => rfl
  have key := w_tile H 3 h _ i s _ (w_tile H 2 h _ i s _ (w_tile H 1 h _ i s _ (w_tile H 0 h _ i s r h0)))
  refine Eq.trans (congrArg (sumW x.dy x.vn x.u h (View.ld (Val := Elt Ideal) a.dw (rH h)) 4) e) (key.trans ?_)
  rw [Fin.sum_univ_four]
  congr 1
  ring

theorem next_db (a : Acc Ideal) (h : Fin 8) (i : Fin 128) (r : ℝ) (ha : a.db (ix2 i h) = (r : EReal)) :
    (next x a).db (ix2 i h) = ((r + ∑ c : Fin 4, ∑ d, A.dmix (brow k (brl c i)) (lane h d) : ℝ) : EReal) := by
  have h0 : View.ld (Val := Elt Ideal) a.db (rC h) (ix2 i 0) = (r : EReal) := by
    refine Eq.trans (congrArg a.db (funext fun e => Fin.ext ?_)) ha
    match e with
    | ⟨0, _⟩ => show 0 + 1 * i.val = i.val; omega
    | ⟨1, _⟩ => show h.val + 1 * 0 = h.val; omega
  have e : (fun | 0 => i | 1 => (0 : Fin 1) : S128x1.Idx) = ix2 i 0 := funext fun e => match e with
    | ⟨0, _⟩ => rfl
    | ⟨1, _⟩ => rfl
  have key := b_tile H 3 h _ i _ (b_tile H 2 h _ i _ (b_tile H 1 h _ i _ (b_tile H 0 h _ i r h0)))
  refine Eq.trans (congrArg (sumB x.dy x.u h (View.ld (Val := Elt Ideal) a.db (rC h)) 4) e) (key.trans ?_)
  rw [Fin.sum_univ_four]
  congr 1
  ring

theorem next_dg (a : Acc Ideal) (j : Fin 1024) (r : ℝ) (ha : a.dg (ix2 0 j) = (r : EReal)) :
    (next x a).dg (ix2 0 j) = ((r + ∑ i : Fin 512, A.dvn (brow k i) j * A.n (brow k i) j : ℝ) : EReal) := by
  pointwise [next, k0_pay298]
  simp only [ha, d_eq H, n_eq H, mul_coe, coe_sum, add_coe]

theorem next_dn (a : Acc Ideal) (j : Fin 1024) (r : ℝ) (ha : a.dn (ix2 0 j) = (r : EReal)) :
    (next x a).dn (ix2 0 j) = ((r + ∑ i : Fin 512, A.dvn (brow k i) j : ℝ) : EReal) := by
  pointwise [next, k0_pay299]
  simp only [ha, d_eq H, coe_sum, add_coe]

end Cert.MixSIdeal.Block

end
-- ==== Proof.MixSSums.lean ====
/- The four sums of the spatial-mixing gradient over all row blocks. -/
module

public import proofs.«01_k».proof.Proof.MixSBlock
public import proofs.«01_k».proof.Proof.MixSRun

@[expose] public section

set_option maxRecDepth 16384

noncomputable section

namespace Cert.MixSIdeal.Sums

open Idealize.ShloMosaic Idealize.ShloMosaic.TcCoe
open Cert.MixSIdeal.Gen Cert.MixSIdeal.Body Cert.MixSIdeal.Run Cert.MixSIdeal.Block Cert.MixSModel

variable (m : (ℓ : Loc nD τ sig) → Buf (Elt Ideal) ℓ) (c : Dev nD)

/-- The row block a count stands at. -/
def kb (k : ℕ) : Fin 8 := ⟨k % 8, Nat.mod_lt _ (by decide)⟩

theorem kb_val (k : Fin 8) : kb k.val = k := Fin.ext (Nat.mod_eq_of_lt k.isLt)

/-- Every row block reads its part of the data. -/
def AllHold (A : Data) : Prop := ∀ k : ℕ, Holds (insAt m c (pt k)) A (kb k)

variable {m c} {A : Data} (H : AllHold m c A)
include H

/-- A quantity that grows by `f` a block stands at the sum of `f`. -/
theorem grow (f : Fin 8 → ℝ) (g : ℕ → EReal) (h0 : g 0 = ((0 : ℝ) : EReal)) (hs : ∀ n (r : ℝ), g n = (r : EReal) → g (n + 1) = ((r + f (kb n) : ℝ) : EReal)) :
    g 8 = ((∑ k, f k : ℝ) : EReal) := by
  have key : ∀ n, g n = ((∑ k ∈ Finset.range n, f (kb k) : ℝ) : EReal) := fun n => by
    induction n with
    | zero => rw [Finset.sum_range_zero]; exact h0
    | succ n ih => rw [Finset.sum_range_succ]; exact hs n _ ih
  rw [key 8, Finset.sum_range]
  simp only [kb_val]

theorem brow_row (k : Fin 8) (q : Fin 4) (s : Fin 128) : brow k (brl q s) = row ⟨k.val * 4 + q.val, by omega⟩ s :=
  Fin.ext (by show 512 * k.val + (128 * q.val + s.val) = 128 * (k.val * 4 + q.val) + s.val; omega)

theorem brow_tile (k : Fin 8) (i : Fin 512) : brow k i = ⟨k.val * 512 + i.val, by omega⟩ :=
  Fin.ext (by show 512 * k.val + i.val = k.val * 512 + i.val; omega)

theorem dw_eq (h : Fin 8) (i s : Fin 128) : (accAt m c 8).dw (ix3 h i s) = (A.dw h i s : EReal) := by
  refine (grow H (fun k => ∑ q : Fin 4, ∑ d, A.dmix (brow k (brl q i)) (lane h d) * A.vn (brow k (brl q s)) (lane h d))
    (fun n => (accAt m c n).dw (ix3 h i s)) ?_ fun n r hr => next_dw (H n) _ h i s r hr).trans ?_
  · show k0_pay1 (F := Ideal) (ix3 h i s) = _
    pointwise [k0_pay1]
    rfl
  · rw [Data.dw, Fin.sum_univ_tiles 8 4 rfl]
    simp only [brow_row H]

theorem db_eq (h : Fin 8) (i : Fin 128) : (accAt m c 8).db (ix2 i h) = (A.db h i : EReal) := by
  refine (grow H (fun k => ∑ q : Fin 4, ∑ d, A.dmix (brow k (brl q i)) (lane h d))
    (fun n => (accAt m c n).db (ix2 i h)) ?_ fun n r hr => next_db (H n) _ h i r hr).trans ?_
  · show k0_pay2 (F := Ideal) (ix2 i h) = _
    pointwise [k0_pay2]
    rfl
  · rw [Data.db, Fin.sum_univ_tiles 8 4 rfl]
    simp only [brow_row H]

theorem dg_eq (j : Fin 1024) : (accAt m c 8).dg (ix2 0 j) = (A.dg j : EReal) := by
  refine (grow H (fun k => ∑ i : Fin 512, A.dvn (brow k i) j * A.n (brow k i) j)
    (fun n => (accAt m c n).dg (ix2 0 j)) ?_ fun n r hr => next_dg (H n) _ j r hr).trans ?_
  · show k0_pay3 (F := Ideal) (ix2 0 j) = _
    pointwise [k0_pay3]
    rfl
  · rw [Data.dg, Fin.sum_univ_tiles 8 512 rfl]
    simp only [brow_tile H]

theorem dn_eq (j : Fin 1024) : (accAt m c 8).dn (ix2 0 j) = (A.dn j : EReal) := by
  refine (grow H (fun k => ∑ i : Fin 512, A.dvn (brow k i) j)
    (fun n => (accAt m c n).dn (ix2 0 j)) ?_ fun n r hr => next_dn (H n) _ j r hr).trans ?_
  · show k0_pay4 (F := Ideal) (ix2 0 j) = _
    pointwise [k0_pay4]
    rfl
  · rw [Data.dn, Fin.sum_univ_tiles 8 512 rfl]
    simp only [brow_tile H]

end Cert.MixSIdeal.Sums

end
-- ==== Proof.MixSArgs.lean ====
/- The arguments of the spatial-mixing gradient as real data: what the finiteness precondition gives. -/
module

public import proofs.«01_k».proof.Proof.MixSModel
public import proofs.«01_k».proof.Pre_mix_s_finite
public import Idealize.ShloMosaic.Lib.ReduceAll
public import Idealize.ShloMosaic.Lib.Affine
public import Idealize.ShloMosaic.Lib.Pipeline.ValueKit

@[expose] public section

set_option maxRecDepth 16384

noncomputable section

namespace Cert.MixSArgs

open Idealize.ShloMosaic Cert.MixSModel

/-- The gates' gradients at the columns of `z` they came from. -/
def gates (A : Data) (r : Fin 4096) (q : Fin 10240) : ℝ :=
  if q.val < 6144 then A.du r ⟨q.val % 1024, Nat.mod_lt _ (by decide)⟩ else A.dv r ⟨q.val % 1024, Nat.mod_lt _ (by decide)⟩

/-- A value below infinity in size is a real number. -/
theorem real_of_olt {x : EReal} (h : Ideal.cmp .olt (max x (-x)) ⊤ = 1#1) : x = ((x.toReal : ℝ) : EReal) := by
  refine (EReal.coe_toReal ?_ ?_).symm
  · rintro rfl; simp [Ideal.cmp] at h
  · rintro rfl; simp [Ideal.cmp] at h

theorem ofBits_inf : Ideal.ofBits .f32 0x7F800000#32 = ⊤ := by simp [Ideal.ofBits, Ideal.ieee]

/-- The arrays hold the data: the columns of `z` the layer's two gates come from, and the cotangent's third part. -/
structure Reads (x1 : FVec Ideal ⟨3, ![3, 4096, 1024]⟩ .bf16) (x2 : FVec Ideal ⟨2, ![4096, 10240]⟩ .bf16) (x3 x4 : FVec Ideal ⟨1, ![1024]⟩ .f32)
    (x5 : FVec Ideal ⟨3, ![8, 128, 128]⟩ .f32) (x6 : FVec Ideal ⟨2, ![8, 128]⟩ .f32) (A : Data) : Prop where
  dy : ∀ i j, x1 (ix3 2 i j) = (A.dy i j : EReal)
  su : ∀ i (j : Fin 1024), x2 (ix2 i ⟨5120 + j.val, by omega⟩) = (A.su i j : EReal)
  sv : ∀ i (j : Fin 1024), x2 (ix2 i ⟨6144 + j.val, by omega⟩) = (A.sv i j : EReal)
  lg : ∀ j, x3 (ix1 j) = (A.lg j : EReal)
  lb : ∀ j, x4 (ix1 j) = (A.lb j : EReal)
  w : ∀ h i s, x5 (ix3 h i s) = (A.w h i s : EReal)
  b : ∀ h i, x6 (ix2 h i) = (A.b h i : EReal)

/-- The data in the arrays. -/
def dataOf (x1 : FVec Ideal ⟨3, ![3, 4096, 1024]⟩ .bf16) (x2 : FVec Ideal ⟨2, ![4096, 10240]⟩ .bf16) (x3 x4 : FVec Ideal ⟨1, ![1024]⟩ .f32)
    (x5 : FVec Ideal ⟨3, ![8, 128, 128]⟩ .f32) (x6 : FVec Ideal ⟨2, ![8, 128]⟩ .f32) : Data where
  dy i j := EReal.toReal (x1 (ix3 2 i j))
  su i j := EReal.toReal (x2 (ix2 i ⟨5120 + j.val, by omega⟩))
  sv i j := EReal.toReal (x2 (ix2 i ⟨6144 + j.val, by omega⟩))
  lg j := EReal.toReal (x3 (ix1 j))
  lb j := EReal.toReal (x4 (ix1 j))
  w h i s := EReal.toReal (x5 (ix3 h i s))
  b h i := EReal.toReal (x6 (ix2 h i))

/-- Finite arrays hold real data. -/
theorem reads_of_pre [Cert.Pre_mix_s_finite.Facts] (x0 : FVec Ideal ⟨2, ![4096, 10240]⟩ .bf16) (x1 : FVec Ideal ⟨3, ![3, 4096, 1024]⟩ .bf16)
    (x2 : FVec Ideal ⟨2, ![4096, 10240]⟩ .bf16) (x3 x4 : FVec Ideal ⟨1, ![1024]⟩ .f32)
    (x5 : FVec Ideal ⟨3, ![8, 128, 128]⟩ .f32) (x6 : FVec Ideal ⟨2, ![8, 128]⟩ .f32)
    (h : Cert.Pre_mix_s_finite.fn (F := Ideal) x0 x1 x2 x3 x4 x5 x6 = fun _ => 1#1) : Reads x1 x2 x3 x4 x5 x6 (dataOf x1 x2 x3 x4 x5 x6) := by
  haveI : Subsingleton (Shape.Idx ⟨0, ![]⟩) := ⟨fun a b => funext fun i => i.elim0⟩
  have h := congrFun h (fun a => a.elim0)
  dsimp only [Cert.Pre_mix_s_finite.fn, Cert.Pre_mix_s_finite.fn_part1] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  have h1 := Host.reduce_andi_all _ _ _ _ _ h1
  have h2 := Host.reduce_andi_all _ _ _ _ _ h2
  have h3 := Host.reduce_andi_all _ _ _ _ _ h3
  have h4 := Host.reduce_andi_all _ _ _ _ _ h4
  have h5 := Host.reduce_andi_all _ _ _ _ _ h5
  have h6 := Host.reduce_andi_all _ _ _ _ _ h6
  exact ⟨fun i j => real_of_olt (ofBits_inf ▸ h1 (ix3 2 i j)), fun i j => real_of_olt (ofBits_inf ▸ h2 (ix2 i _)), fun i j => real_of_olt (ofBits_inf ▸ h2 (ix2 i _)),
    fun j => real_of_olt (ofBits_inf ▸ h3 (ix1 j)), fun j => real_of_olt (ofBits_inf ▸ h4 (ix1 j)), fun h i s => real_of_olt (ofBits_inf ▸ h5 (ix3 h i s)),
    fun h i => real_of_olt (ofBits_inf ▸ h6 (ix2 h i))⟩

end Cert.MixSArgs

end
-- ==== Proof.MixSArrays.lean ====
/- What the arrays of the spatial-mixing gradient hold at the end, over finite arguments. -/
module

public import proofs.«01_k».proof.Proof.MixSSums
public import proofs.«01_k».proof.Proof.MixSArgs

@[expose] public section

set_option maxRecDepth 16384

noncomputable section

namespace Cert.MixSIdeal.Arrays

open Idealize.ShloMosaic Idealize.ShloMosaic.TcCoe
open Cert.MixSIdeal.Gen Cert.MixSIdeal.Body Cert.MixSIdeal.Run Cert.MixSIdeal.Block Cert.MixSIdeal.Sums Cert.MixSModel Cert.MixSArgs

variable (m : (ℓ : Loc nD τ sig) → Buf (Elt Ideal) ℓ) (c : Dev nD)

/-- Which block each window stands at. -/
theorem idx : ∀ t : Fin cfg0.N, win0_0.index t = ![2, t.val / 2, 0] ∧ win0_1.index t = ![t.val / 2, 5] ∧ win0_2.index t = ![t.val / 2, 6]
    ∧ win0_3.index t = ![0, 0] ∧ win0_4.index t = ![0, 0] ∧ win0_5.index t = ![0, 0, 0] ∧ win0_6.index t = ![0, 0, 0] ∧ win0_7.index t = ![0, 0]
    ∧ win0_8.index t = ![t.val / 2, 5 + t.val % 2] ∧ win0_9.index t = ![0, 0, 0] ∧ win0_10.index t = ![0, 0] ∧ win0_11.index t = ![0, 0] ∧ win0_12.index t = ![0, 0] :=
  (by decide +kernel : ∀ t : Fin grid0.N, _)

theorem off : ∀ t : Fin cfg0.N, k0_off1 (grid0.coords t) = ![t.val % 2, 0, 0] := (by decide +kernel : ∀ t : Fin grid0.N, _)

/-- The half of a stage a point writes out. -/
theorem half_at (t : Fin cfg0.N) (a b : Vec Ideal S1x512x1024 .bf16) (i : Fin 512) (j : Fin 1024) :
    halfOut (grid0.coords t) (stageOf a b) (ix2 i j) = if t.val % 2 = 0 then a (ix3 0 i j) else b (ix3 0 i j) := by
  have e : (Rect.unit (s := S2x512x1024) (k0_off1 (grid0.coords t)) S1x512x1024.size (k0_off1_inb (grid0.coords t))).idx (ix3 (0 : Fin 1) i j)
      = ix3 (⟨t.val % 2, Nat.mod_lt _ (by decide)⟩ : Fin 2) i j := funext fun q => Fin.ext (by
    refine (congrArg (fun z => z + 1 * (ix3 (0 : Fin 1) i j q).val) (congrFun (off t) q)).trans ?_
    match q with
    | ⟨0, _⟩ => show t.val % 2 + 1 * 0 = t.val % 2; omega
    | ⟨1, _⟩ => show 0 + 1 * i.val = i.val; omega
    | ⟨2, _⟩ => show 0 + 1 * j.val = j.val; omega)
  have p : ∀ v : Vec Ideal S1x512x1024 .bf16, k0_pay6 v (ix2 i j) = v (ix3 0 i j) := fun v => by pointwise [k0_pay6]
  have f : (fun | 0 => (0 : Fin 1) | 1 => i | 2 => j : S1x512x1024.Idx) = ix3 0 i j := funext fun e => match e with
    | ⟨0, _⟩ => rfl
    | ⟨1, _⟩ => rfl
    | ⟨2, _⟩ => rfl
  refine (p _).trans ((congrArg (stageOf a b) e).trans ?_)
  rw [← f]
  rfl

variable {m c} {A : Data}
  (R : Reads (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) A)
include R

theorem brow_val (k : ℕ) (i : Fin 512) : (pt k).val / 2 * 512 + i.val = (brow (kb k) i).val := by
  show 2 * (k % 8) / 2 * 512 + i.val = 512 * (k % 8) + i.val
  omega

/-- Every row block reads its part of the arguments. -/
theorem holds : AllHold m c A := fun k => by
  refine ⟨fun i j => ?_, fun i j => ?_, fun i j => ?_, fun j => ?_, fun j => ?_, fun h i s => ?_, fun h i s => ?_, fun i h => ?_⟩
  · rw [← R.dy]
    show iblk m c 0 (pt k) (ix3 0 i j) = _
    blk_point [iblk, V, idx (pt k)]
    exact brow_val R k i
  · rw [← R.su]
    show iblk m c 1 (pt k) (ix2 i j) = _
    blk_point [iblk, V, idx (pt k)]
    exact brow_val R k i
  · rw [← R.sv]
    show iblk m c 2 (pt k) (ix2 i j) = _
    blk_point [iblk, V, idx (pt k)]
    exact brow_val R k i
  · rw [← R.lg]
    show iblk m c 3 (pt k) (ix2 0 j) = _
    blk_point [iblk, V, idx (pt k)]
  · rw [← R.lb]
    show iblk m c 4 (pt k) (ix2 0 j) = _
    blk_point [iblk, V, idx (pt k)]
  · rw [← R.w]
    show iblk m c 5 (pt k) (ix3 h i s) = _
    blk_point [iblk, V, idx (pt k)]
  · rw [← R.w]
    show iblk m c 6 (pt k) (ix3 h i s) = _
    blk_point [iblk, V, idx (pt k)]
  · rw [← R.b]
    show iblk m c 7 (pt k) (ix2 i h) = _
    blk_point [iblk, V, idx (pt k)]

/-! ## The sums -/

theorem final_dw : (dats m 0 c).arrAt 9 (cfgs 0).N = (fun y => (A.dw (y 0) (y 1) (y 2) : EReal)) := by
  refine (dats m 0 c).arrAt_eq_of_after_last 9 t0_15 (by decide +kernel) _ fun j => ?_
  blk_simp
  rw [after_9]
  idx_vars j
  exact dw_eq (holds R) j0 j1 j2

theorem final_db : (dats m 0 c).arrAt 10 (cfgs 0).N = (fun y => (A.db (y 1) (y 0) : EReal)) := by
  refine (dats m 0 c).arrAt_eq_of_after_last 10 t0_15 (by decide +kernel) _ fun j => ?_
  blk_simp
  rw [after_10]
  idx_vars j
  exact db_eq (holds R) j1 j0

theorem final_dg : (dats m 0 c).arrAt 11 (cfgs 0).N = (fun y => (A.dg (y 1) : EReal)) := by
  refine (dats m 0 c).arrAt_eq_of_after_last 11 t0_15 (by decide +kernel) _ fun j => ?_
  blk_simp
  rw [after_11]
  idx_vars j
  obtain rfl : j0 = 0 := Subsingleton.elim _ _
  exact dg_eq (holds R) j1

theorem final_dn : (dats m 0 c).arrAt 12 (cfgs 0).N = (fun y => (A.dn (y 1) : EReal)) := by
  refine (dats m 0 c).arrAt_eq_of_after_last 12 t0_15 (by decide +kernel) _ fun j => ?_
  blk_simp
  rw [after_12]
  idx_vars j
  obtain rfl : j0 = 0 := Subsingleton.elim _ _
  exact dn_eq (holds R) j1

theorem final_dz : (dats m 0 c).arrAt 8 (cfgs 0).N = fun i =>
    if 5120 ≤ (i 1).val ∧ (i 1).val < 7168 then (gates A (i 0) (i 1) : EReal) else m ((c : Thread nD τ).loc main_arg0) i := by
  have hV : V m c main_v4_0 = m ((c : Thread nD τ).loc main_arg0) := by unfold V; after_results; try rfl
  rw [← hV]
  refine (dats m 0 c).arrAt_eq_of_coversWhere 8 (fun i => (gates A (i 0) (i 1) : EReal)) (P := fun i => 5120 ≤ (i 1).val ∧ (i 1).val < 7168)
    (fun β => 5 ≤ β (1 : Fin 2) ∧ β (1 : Fin 2) < 7) (by decide +kernel) (fun t hf y => ?_) (fun j => by blk_simp [Pipeline.Window.cell_apply]; omega)
  blk_simp
  rw [after_8]
  have e := idx t
  idx_vars y
  have lt := lt16 t
  rw [stageAt, stage, half_at]
  have h0 : half0 (insAt m c (pt (t.val / 2))) (ix3 0 y0 y1) = _ := half0_eq (holds R (t.val / 2)) y0 y1
  have h1 : half1 (insAt m c (pt (t.val / 2))) (ix3 0 y0 y1) = _ := half1_eq (holds R (t.val / 2)) y0 y1
  have r : (brow (kb (t.val / 2)) y0).val = t.val / 2 * 512 + y0.val := by
    show 512 * (t.val / 2 % 8) + y0.val = _
    omega
  have E0 : ((win0_8.blk t).view.emb (ix2 y0 y1) 0) = brow (kb (t.val / 2)) y0 := Fin.ext (by
    rw [r]; blk_simp [idx t])
  have E1 : ((win0_8.blk t).view.emb (ix2 y0 y1) 1) = (⟨5120 + 1024 * (t.val % 2) + y1.val, by omega⟩ : Fin 10240) := Fin.ext (by
    show _ = 5120 + 1024 * (t.val % 2) + y1.val
    blk_simp [idx t]
    omega)
  refine Eq.trans ?_ (congrArg₂ (fun a b => ((gates A a b : ℝ) : EReal)) E0 E1).symm
  rw [h0, h1, gates]
  have q : (⟨(5120 + 1024 * (t.val % 2) + y1.val) % 1024, Nat.mod_lt _ (by decide)⟩ : Fin 1024) = y1 := Fin.ext (by
    show (5120 + 1024 * (t.val % 2) + y1.val) % 1024 = y1.val
    omega)
  simp only [q]
  by_cases ht : t.val % 2 = 0
  · rw [if_pos ht, if_pos (by omega)]
  · rw [if_neg ht, if_neg (by omega)]

end Cert.MixSIdeal.Arrays

end
-- ==== Proof.MixSRefVal.lean ====
/- What the spatial-mixing gradient's reference computes, over real data. -/
module

public import proofs.«01_k».proof.Proof.MixSArgs
public import proofs.«01_k».proof.Proof.Consts
public import proofs.«01_k».proof.Proof.Gen.MixSRefIdeal.Read
public import Idealize.ShloMosaic.Lib.TwoAxisContraction

@[expose] public section

set_option maxRecDepth 16384

noncomputable section

namespace Cert.MixSRefIdeal.Val

open Idealize.ShloMosaic Idealize.ShloMosaic.TcCoe
open Cert.MixSRefIdeal Cert.MixSRefIdeal.Gen Cert.MixSRefIdeal.Read Cert.MixSModel Cert.MixSArgs

variable {x1 : FVec Ideal ⟨3, ![3, 4096, 1024]⟩ .bf16} {x2 : FVec Ideal ⟨2, ![4096, 10240]⟩ .bf16} {x3 x4 : FVec Ideal ⟨1, ![1024]⟩ .f32}
    {x5 : FVec Ideal ⟨3, ![8, 128, 128]⟩ .f32} {x6 : FVec Ideal ⟨2, ![8, 128]⟩ .f32} {A : Data} (R : Reads x1 x2 x3 x4 x5 x6 A)
include R

theorem su_eq (r : Fin 4096) (j : Fin 1024) : val_main_v1 (F := Ideal) x2 (ix2 r j) = (A.su r j : EReal) := by
  rw [← R.su]
  pointwise [val_main_v1, val_main_v0]

theorem sv_eq (r : Fin 4096) (j : Fin 1024) : val_main_v3 (F := Ideal) x2 (ix2 r j) = (A.sv r j : EReal) := by
  rw [← R.sv]
  pointwise [val_main_v3, val_main_v2]

theorem dy_eq (r : Fin 4096) (j : Fin 1024) : val_main_v6 (F := Ideal) x1 (ix2 r j) = (A.dy r j : EReal) := by
  rw [← R.dy]
  pointwise [val_main_v6, val_main_v5, val_main_v4]

omit R in
theorem act_cube (x : ℝ) : Real.tanh (slope * (x + 44715 / 1000000 * (x * x * x))) = act x := by
  unfold act
  congr 1
  ring

theorem act_u (r : Fin 4096) (j : Fin 1024) : val_main_v25 (F := Ideal) x2 (ix2 r j) = (act (A.su r j) : EReal) := by
  pointwise [val_main_v25, val_main_v24, val_main_v23, val_main_v22, val_main_v21, val_main_v20, val_main_v16, val_main_v15, val_main_v12, val_main_cst_0, val_main_cst_1, val_main_cst_4]
  simp only [su_eq R, ofBits_slope, ofBits_num, ofBits_den, div_coe _ _ (show (1000000 : ℝ) ≠ 0 by norm_num), mul_coe, add_coe, Ideal.tanh_coe, act_cube]

theorem act_v (r : Fin 4096) (j : Fin 1024) : val_main_v47 (F := Ideal) x2 (ix2 r j) = (act (A.sv r j) : EReal) := by
  pointwise [val_main_v47, val_main_v46, val_main_v45, val_main_v44, val_main_v43, val_main_v42, val_main_v38, val_main_v37, val_main_v34, val_main_cst_8, val_main_cst_9, val_main_cst_12]
  simp only [sv_eq R, ofBits_slope, ofBits_num, ofBits_den, div_coe _ _ (show (1000000 : ℝ) ≠ 0 by norm_num), mul_coe, add_coe, Ideal.tanh_coe, act_cube]

theorem u_eq (r : Fin 4096) (j : Fin 1024) : val_main_v33 (F := Ideal) x2 (ix2 r j) = (A.u r j : EReal) := by
  pointwise [val_main_v33, val_main_v32, val_main_v31, val_main_v14, val_main_v13, val_main_cst_2, val_main_cst_7]
  simp only [su_eq R, act_u R, Consts.ofBits_half, one_coe, mul_coe, add_coe, Data.u, gelu]

theorem v_eq (r : Fin 4096) (j : Fin 1024) : val_main_v55 (F := Ideal) x2 (ix2 r j) = (A.v r j : EReal) := by
  pointwise [val_main_v55, val_main_v54, val_main_v53, val_main_v36, val_main_v35, val_main_cst_10, val_main_cst_15]
  simp only [sv_eq R, act_v R, Consts.ofBits_half, one_coe, mul_coe, add_coe, Data.v, gelu]

/-! ## The norm -/

theorem mean_eq (r : Fin 4096) : val_main_v59 (F := Ideal) x2 (ix2 r 0) = (mean (A.v r) : EReal) := by
  pointwise [val_main_v59, val_main_v58, val_main_v57, val_main_v56, val_main_cst_16, val_main_cst_17]
  simp only [v_eq R, coe_sum, Consts.ofBits_1024, div_coe _ _ (show (1024 : ℝ) ≠ 0 by norm_num), mean]

theorem centre_eq (r : Fin 4096) (j : Fin 1024) : val_main_v61 (F := Ideal) x2 (ix2 r j) = (centre (A.v r) j : EReal) := by
  pointwise [val_main_v61, val_main_v60]
  simp only [v_eq R, mean_eq R, sub_coe, centre]

theorem centre_eq' (r : Fin 4096) (j : Fin 1024) : val_main_v70 (F := Ideal) x2 (ix2 r j) = (centre (A.v r) j : EReal) := by
  pointwise [val_main_v70, val_main_v69]
  simp only [v_eq R, mean_eq R, sub_coe, centre]

theorem spread_eq (r : Fin 4096) : val_main_v72 (F := Ideal) x2 (ix2 r 0) = (spread (A.v r) : EReal) := by
  pointwise [val_main_v72, val_main_v71, val_main_v68, val_main_v67, val_main_v66, val_main_v65, val_main_v62, val_main_cst_19, val_main_cst_20, val_main_cst_21]
  simp only [centre_eq R, coe_sum, Consts.ofBits_1024, ofBits_eps, div_coe _ _ (show (1024 : ℝ) ≠ 0 by norm_num), mul_coe, add_coe, spread, mean]

theorem root_eq (r : Fin 4096) : val_main_v73 (F := Ideal) x2 (ix2 r 0) = (root (A.v r) : EReal) := by
  pointwise [val_main_v73]
  rw [spread_eq R, rsqrt_coe _ (spread_pos _), root]

theorem slopes_eq (r : Fin 4096) : val_main_v76 (F := Ideal) x2 (ix2 r 0) = ((-1 / 2 * (root (A.v r) / spread (A.v r)) : ℝ) : EReal) := by
  pointwise [val_main_v76, val_main_v75, val_main_v74, val_main_cst_22]
  rw [spread_eq R, root_eq R, div_coe _ _ (spread_pos _).ne', ofBits_neg_half, mul_coe]

theorem n_eq (r : Fin 4096) (j : Fin 1024) : val_main_v78 (F := Ideal) x2 (ix2 r j) = (A.n r j : EReal) := by
  pointwise [val_main_v78, val_main_v77]
  simp only [centre_eq' R, root_eq R, mul_coe, Data.n, unit]

theorem vn_eq (r : Fin 4096) (j : Fin 1024) : val_main_v84 (F := Ideal) x2 x3 x4 (ix2 r j) = (A.vn r j : EReal) := by
  pointwise [val_main_v84, val_main_v83, val_main_v82, val_main_v81, val_main_v80, val_main_v79]
  simp only [n_eq R, R.lg, R.lb, mul_coe, add_coe, Data.vn]

/-! ## The mixing -/

theorem vn_tile (q : Fin 32) (s : Fin 128) (h : Fin 8) (d : Fin 128) : val_main_v85 (F := Ideal) x2 x3 x4 (ix4 q s h d) = (A.vn (row q s) (lane h d) : EReal) := by
  rw [← vn_eq R]
  pointwise [val_main_v85]
  exact congrArg₂ (fun a b => val_main_v84 (F := Ideal) x2 x3 x4 (ix2 a b)) (Fin.ext (by show q.val * 128 + s.val = 128 * q.val + s.val; omega))
    (Fin.ext (by show h.val * 128 + d.val = 128 * h.val + d.val; omega))

theorem wm_eq (h : Fin 8) (i s : Fin 128) : val_main_v11 (F := Ideal) x5 (ix3 h i s) = (A.wm h i s : EReal) := by
  pointwise [val_main_v11, val_main_v10, val_main_v9, val_main_v8, val_main_v7, val_main_c, val_main_cst, val_main_call0_v0, val_main_call0_v1, val_main_call0_v2, val_main_call0_v3, val_main_call0_v4, val_main_call0_v5, val_main_call0_c, val_main_call0_c_0, val_main_call1_v0]
  have hm : IntOp.cmpi .sge (IntOp.addi (BitVec.ofNat 32 i.val) 0#32) (BitVec.ofNat 32 s.val) = 1 ↔ s ≤ i := by
    refine IntOp.cmpi_sge.trans ?_
    have h : ∀ a : Fin 128, (BitVec.ofNat 32 a.val).toInt = a.val := by decide +kernel
    have h' : ∀ a : Fin 128, (IntOp.addi (BitVec.ofNat 32 a.val) 0#32).toInt = a.val := by decide +kernel
    rw [h, h']
    exact_mod_cast Iff.rfl
  simp only [Scalar.select, R.w, Data.wm]
  by_cases hc : s ≤ i
  · rw [if_pos (hm.2 hc), if_pos (show (1#1 : BitVec 1) = 1 from rfl), if_pos hc]
  · rw [if_neg (mt hm.1 hc), if_neg (show ¬(0#1 : BitVec 1) = 1 by decide), if_neg hc]; rfl

omit R in
theorem lane_split (j : Fin 1024) (h1 h2) : lane ⟨j.val / 128, h1⟩ ⟨j.val % 128, h2⟩ = j := Fin.ext (by show 128 * (j.val / 128) + j.val % 128 = j.val; omega)

theorem mixed_eq (r : Fin 4096) (j : Fin 1024) : val_main_v93 (F := Ideal) x2 x3 x4 x5 x6 (ix2 r j) = (A.mixed r j : EReal) := by
  pointwise [val_main_v93, val_main_v92, val_main_v91, val_main_v90, val_main_v89, val_main_v88, val_main_v87, val_main_v86]
  simp only [vn_tile R, wm_eq R, R.b, lane_split, mul_coe, coe_sum, add_coe, Data.mixed, headOf, placeOf, chunkOf]
  exact congrArg (fun z : ℝ => ((z + A.b _ _ : ℝ) : EReal)) (Finset.sum_congr rfl fun s _ => mul_comm _ _)

theorem dmix_tile (q : Fin 32) (s : Fin 128) (h : Fin 8) (d : Fin 128) : val_main_v97 (F := Ideal) x1 x2 (ix4 q s h d) = (A.dmix (row q s) (lane h d) : EReal) := by
  have e : ∀ r j, val_main_v95 (F := Ideal) x1 x2 (ix2 r j) = (A.dmix r j : EReal) := fun r j => by
    pointwise [val_main_v95]
    rw [u_eq R, dy_eq R, mul_coe, mul_comm]
    rfl
  rw [← e]
  pointwise [val_main_v97]
  exact congrArg₂ (fun a b => val_main_v95 (F := Ideal) x1 x2 (ix2 a b)) (Fin.ext (by show q.val * 128 + s.val = 128 * q.val + s.val; omega))
    (Fin.ext (by show h.val * 128 + d.val = 128 * h.val + d.val; omega))

theorem dvn_eq (r : Fin 4096) (j : Fin 1024) : val_main_v108 (F := Ideal) x1 x2 x5 (ix2 r j) = (A.dvn r j : EReal) := by
  pointwise [val_main_v108, val_main_v107, val_main_v106, val_main_v104]
  simp only [dmix_tile R, wm_eq R, lane_split, mul_coe, coe_sum, Data.dvn, headOf, placeOf, chunkOf]
  exact congrArg (fun z : ℝ => (z : EReal)) (Finset.sum_congr rfl fun s _ => mul_comm _ _)

/-! ## The sums -/

theorem dn_eq (j : Fin 1024) : val_main_v173 (F := Ideal) x1 x2 x5 (ix2 0 j) = (A.dn j : EReal) := by
  pointwise [val_main_v173, val_main_v111, val_main_v110, val_main_v109, val_main_cst_26, val_main_cst_27]
  simp only [Fin.sum_univ_one, dvn_eq R, coe_sum, Data.dn]

theorem dg_eq (j : Fin 1024) : val_main_v172 (F := Ideal) x1 x2 x5 (ix2 0 j) = (A.dg j : EReal) := by
  pointwise [val_main_v172, val_main_v117, val_main_v114, val_main_v113, val_main_v112, val_main_cst_28, val_main_cst_29]
  simp only [Fin.sum_univ_one, dvn_eq R, n_eq R, coe_sum, mul_coe, Data.dg]
  exact congrArg (fun z : ℝ => (z : EReal)) (Finset.sum_congr rfl fun s _ => mul_comm _ _)

omit R in
/-- A sum over the first and the last of four axes, read at an index. -/
theorem sum_ends {n0 n1 n2 n3 : ℕ} (hR : Shape.ReducesTo ⟨4, ![n0, n1, n2, n3]⟩ [0, 3] ⟨2, ![n1, n2]⟩) (x : Shape.Idx ⟨4, ![n0, n1, n2, n3]⟩ → EReal) (z : EReal)
    (i : Fin n1) (h : Fin n2) : Ideal.hostReduceAdd hR x z (ix2 i h) = z + ∑ q : Fin n0, ∑ d : Fin n3, x (ix4 q i h d) := by
  unfold Ideal.hostReduceAdd
  rw [← Fintype.sum_prod_type']
  refine congrArg (fun w => z + w) (Finset.sum_bij (fun (p : Fin n0 × Fin n3) _ => ix4 p.1 i h p.2) ?_ ?_ ?_ fun _ _ => rfl).symm
  · intro p _
    refine Finset.mem_filter.2 ⟨Finset.mem_univ _, funext fun b => ?_⟩
    match b with
    | ⟨0, _⟩ => rfl
    | ⟨1, _⟩ => rfl
  · intro p _ p' _ e
    exact Prod.ext (congrFun e 0) (congrFun e 3)
  · intro y hy
    have e := (Finset.mem_filter.1 hy).2
    refine ⟨(y 0, y 3), Finset.mem_univ _, funext fun a => ?_⟩
    match a with
    | ⟨0, _⟩ => rfl
    | ⟨1, _⟩ => exact (Fin.ext (congrArg Fin.val (congrFun e 0) :)).symm
    | ⟨2, _⟩ => exact (Fin.ext (congrArg Fin.val (congrFun e 1) :)).symm
    | ⟨3, _⟩ => rfl

theorem db_sum (h : Fin 8) (i : Fin 128) : val_main_v98 (F := Ideal) x1 x2 (ix2 i h) = (A.db h i : EReal) := by
  refine (sum_ends reducesTo_S32x128x8x128_S128x8_d0_3 (val_main_v97 (F := Ideal) x1 x2) (Ideal.ofBits .f32 0x00000000#32) i h).trans ?_
  rw [ofBits_zero, EReal.coe_zero, zero_add]
  simp only [dmix_tile R, coe_sum, Data.db]

theorem db_sum' (h : Fin 8) (i : Fin 128) : val_main_v100 (F := Ideal) x1 x2 (ix2 i h) = (A.db h i : EReal) := by
  refine (sum_ends reducesTo_S1x128x8x1_S128x8_d0_3 (val_main_v99 (F := Ideal) x1 x2) (Ideal.ofBits .f32 0x00000000#32) i h).trans ?_
  rw [ofBits_zero, EReal.coe_zero, zero_add, Fin.sum_univ_one, Fin.sum_univ_one, ← db_sum R]
  pointwise [val_main_v99]

theorem db_eq (h : Fin 8) (i : Fin 128) : val_main_v171 (F := Ideal) x1 x2 (ix2 i h) = (A.db h i : EReal) := by
  rw [← db_sum' R]
  pointwise [val_main_v171, val_main_v103, val_main_v102, val_main_v101, val_main_cst_25]
  exact Fin.sum_univ_one _

theorem dw_eq (h : Fin 8) (i s : Fin 128) : val_main_v105 (F := Ideal) x1 x2 x3 x4 (ix3 h i s) = (A.dw h i s : EReal) := by
  pointwise [val_main_v105, val_main_v104]
  simp only [dmix_tile R, vn_tile R, mul_coe, coe_sum, Data.dw]

/-! ## The gates -/

omit R in
/-- The norm's gradient as the derivative of its mean, its variance and its root give it. -/
theorem back_eq (f g : Fin 1024 → ℝ) (j : Fin 1024) :
    g j * root f + (∑ l, centre f l * g l) * (-1 / 2 * (root f / spread f)) / 1024 * (2 * centre f j)
      + ((∑ l, -(g l * root f)) + ∑ l, -((∑ l, centre f l * g l) * (-1 / 2 * (root f / spread f)) / 1024 * (2 * centre f l))) / 1024 = back f g j := by
  have h1 : ∑ l, -(g l * root f) = -(root f * ∑ l, g l) := by
    rw [Finset.mul_sum, ← Finset.sum_neg_distrib]
    exact Finset.sum_congr rfl fun l _ => by ring
  have h2 : ∑ l, -((∑ l, centre f l * g l) * (-1 / 2 * (root f / spread f)) / 1024 * (2 * centre f l)) = 0 := by
    have : ∀ l, -((∑ l, centre f l * g l) * (-1 / 2 * (root f / spread f)) / 1024 * (2 * centre f l))
        = (∑ l, centre f l * g l) * (root f / spread f) / 1024 * centre f l := fun l => by ring
    rw [Finset.sum_congr rfl fun l _ => this l, ← Finset.mul_sum, sum_centre, mul_zero]
  have h3 : ∑ l, g l * unit f l = root f * ∑ l, centre f l * g l := by
    rw [Finset.mul_sum]
    exact Finset.sum_congr rfl fun l _ => by unfold unit; ring
  rw [h1, h2, root_div]
  unfold back mean
  rw [h3]
  unfold unit
  ring

theorem dh_eq (r : Fin 4096) (j : Fin 1024) : val_main_v116 (F := Ideal) x1 x2 x3 x5 (ix2 r j) = ((A.dvn r j * A.lg j : ℝ) : EReal) := by
  pointwise [val_main_v116, val_main_v115, val_main_v79]
  rw [dvn_eq R, R.lg, mul_coe]

theorem dspread_eq (r : Fin 4096) (j : Fin 1024) : val_main_v131 (F := Ideal) x1 x2 x3 x5 (ix2 r j)
    = (((∑ l, centre (A.v r) l * (A.dvn r l * A.lg l)) * (-1 / 2 * (root (A.v r) / spread (A.v r))) / 1024 * (2 * centre (A.v r) j) : ℝ) : EReal) := by
  pointwise [val_main_v131, val_main_v130, val_main_v129, val_main_v128, val_main_v127, val_main_v123, val_main_v120, val_main_v119, val_main_v118, val_main_v64, val_main_v63, val_main_cst_18, val_main_cst_30, val_main_cst_32, val_main_cst_33]
  simp only [Fin.sum_univ_one, dh_eq R, centre_eq R, centre_eq' R, slopes_eq R, Consts.ofBits_two, Consts.ofBits_1024, div_coe _ _ (show (1024 : ℝ) ≠ 0 by norm_num), mul_coe, coe_sum]

theorem dnorm_eq (r : Fin 4096) (j : Fin 1024) : val_main_v122 (F := Ideal) x1 x2 x3 x5 (ix2 r j) = ((A.dvn r j * A.lg j * root (A.v r) : ℝ) : EReal) := by
  pointwise [val_main_v122, val_main_v121]
  rw [dh_eq R, root_eq R, mul_coe]

theorem back_v (r : Fin 4096) (j : Fin 1024) : val_main_v141 (F := Ideal) x1 x2 x3 x5 (ix2 r j) = (back (A.v r) (fun l => A.dvn r l * A.lg l) j : EReal) := by
  rw [← back_eq]
  pointwise [val_main_v141, val_main_v140, val_main_v139, val_main_v138, val_main_v137, val_main_v136, val_main_v135, val_main_v134, val_main_v133, val_main_v132, val_main_v126, val_main_v125, val_main_v124, val_main_cst_31, val_main_cst_34, val_main_cst_35, val_main_cst_36]
  simp only [Fin.sum_univ_one, dnorm_eq R, dspread_eq R, neg_coe, coe_sum, Consts.ofBits_1024, div_coe _ _ (show (1024 : ℝ) ≠ 0 by norm_num), add_coe]

theorem dv_eq (r : Fin 4096) (j : Fin 1024) : val_main_v153 (F := Ideal) x1 x2 x3 x5 (ix2 r j) = (A.dv r j : EReal) := by
  pointwise [val_main_v153, val_main_v152, val_main_v151, val_main_v150, val_main_v149, val_main_v148, val_main_v147, val_main_v146, val_main_v145, val_main_v144, val_main_v143, val_main_v142, val_main_v54, val_main_v53, val_main_v52, val_main_v51, val_main_v50, val_main_v49, val_main_v48, val_main_v41, val_main_v40, val_main_v39, val_main_v36, val_main_v35, val_main_v34, val_main_cst_8, val_main_cst_9, val_main_cst_10, val_main_cst_11, val_main_cst_13, val_main_cst_14, val_main_cst_15, val_main_cst_37, val_main_cst_38]
  simp only [sv_eq R, act_v R, back_v R, Consts.ofBits_half, ofBits_slope, ofBits_num, ofBits_den, ofBits_three, div_coe _ _ (show (1000000 : ℝ) ≠ 0 by norm_num), one_coe, mul_coe, sub_coe, add_coe, Data.dv, dgelu]
  congr 1
  ring

theorem du_eq (r : Fin 4096) (j : Fin 1024) : val_main_v165 (F := Ideal) x1 x2 x3 x4 x5 x6 (ix2 r j) = (A.du r j : EReal) := by
  pointwise [val_main_v165, val_main_v164, val_main_v163, val_main_v162, val_main_v161, val_main_v160, val_main_v159, val_main_v158, val_main_v157, val_main_v156, val_main_v155, val_main_v154, val_main_v96, val_main_v32, val_main_v31, val_main_v30, val_main_v29, val_main_v28, val_main_v27, val_main_v26, val_main_v19, val_main_v18, val_main_v17, val_main_v14, val_main_v13, val_main_v12, val_main_cst_0, val_main_cst_1, val_main_cst_2, val_main_cst_3, val_main_cst_5, val_main_cst_6, val_main_cst_7, val_main_cst_39, val_main_cst_40]
  simp only [su_eq R, dy_eq R, mixed_eq R, act_u R, Consts.ofBits_half, ofBits_slope, ofBits_num, ofBits_den, ofBits_three, div_coe _ _ (show (1000000 : ℝ) ≠ 0 by norm_num), one_coe, mul_coe, sub_coe, add_coe, Data.du, dgelu]
  congr 1
  ring

theorem dz_at (x0 : FVec Ideal ⟨2, ![4096, 10240]⟩ .bf16) (r : Fin 4096) (q : Fin 10240) : val_main_v170 (F := Ideal) x0 x1 x2 x3 x4 x5 x6 (ix2 r q)
    = if 5120 ≤ q.val ∧ q.val < 7168 then (gates A r q : EReal) else x0 (ix2 r q) := by
  pointwise [val_main_v170, val_main_v169, val_main_v168, val_main_v167, val_main_v166]
  have l := q.isLt
  by_cases h1 : q.val < 5120
  · rw [dif_pos h1, if_neg (show ¬(5120 ≤ q.val ∧ q.val < 7168) by omega)]
  rw [dif_neg h1]
  by_cases h2 : q.val < 6144
  · rw [dif_pos (show q.val - 5120 < 1024 by omega), if_pos (show 5120 ≤ q.val ∧ q.val < 7168 by omega), du_eq R, gates, if_pos h2]
    exact congrArg (fun q => ((A.du r q : ℝ) : EReal)) (Fin.ext (by show q.val - 5120 = q.val % 1024; omega))
  rw [dif_neg (show ¬q.val - 5120 < 1024 by omega)]
  by_cases h3 : q.val < 7168
  · rw [dif_pos (show q.val - 5120 - 1024 < 1024 by omega), if_pos (show 5120 ≤ q.val ∧ q.val < 7168 by omega), dv_eq R, gates, if_neg h2]
    exact congrArg (fun q => ((A.dv r q : ℝ) : EReal)) (Fin.ext (by show q.val - 5120 - 1024 = q.val % 1024; omega))
  rw [dif_neg (show ¬q.val - 5120 - 1024 < 1024 by omega), if_neg (show ¬(5120 ≤ q.val ∧ q.val < 7168) by omega)]
  exact congrArg (fun q => x0 (ix2 r q)) (Fin.ext (by show 7168 + (q.val - 5120 - 1024 - 1024) = q.val; omega))

end Cert.MixSRefIdeal.Val

end
-- ==== Proof.MixSValue.lean ====
/- The spatial-mixing gradient: both programs end with the arrays of the closed form. -/
module

public import proofs.«01_k».proof.Proof.MixSFrames
public import proofs.«01_k».proof.Proof.MixSArrays
public import proofs.«01_k».proof.Proof.MixSRefVal
public import proofs.«01_k».proof.Proof.Gen.MixSRefIdeal.Read
public import proofs.«01_k».proof.Defs
public import Idealize.ShloMosaic.Lib.Quiescent

@[expose] public section

set_option maxRecDepth 16384

noncomputable section

namespace Cert.MixSValue

open Idealize.ShloMosaic Idealize.ShloMosaic.TcCoe Idealize.SL.Sem
open Cert.MixSArgs Cert.MixSModel

/-- The gradient's columns 5120 … 7167 are the two gates' gradients, the others what the array held. -/
abbrev dzOf (A : Data) (x0 : Shape.Idx ⟨2, ![4096, 10240]⟩ → EReal) : Shape.Idx ⟨2, ![4096, 10240]⟩ → EReal := fun i =>
  if 5120 ≤ (i 1).val ∧ (i 1).val < 7168 then (gates A (i 0) (i 1) : EReal) else x0 i

/-! ## The kernel -/

section kernel

open Cert.MixSIdeal

/-- The data of one device's arguments. -/
abbrev dataAt (m : (ℓ : Loc nD τ sig) → Buf (Elt Ideal) ℓ) (c : Dev nD) : Data :=
  dataOf (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

end kernel

/-! ## The plain program -/

section plain

open Cert.MixSRefIdeal Cert.MixSRefIdeal.Read Cert.MixSRefIdeal.Val

variable {x0 : (main_arg0).ty.Contents (Elt Ideal)} {x1 : (main_arg1).ty.Contents (Elt Ideal)} {x2 : (main_arg2).ty.Contents (Elt Ideal)}
  {x3 : (main_arg3).ty.Contents (Elt Ideal)} {x4 : (main_arg4).ty.Contents (Elt Ideal)} {x5 : (main_arg5).ty.Contents (Elt Ideal)}
  {x6 : (main_arg6).ty.Contents (Elt Ideal)} {A : Data}

theorem plain_dz (R : Reads x1 x2 x3 x4 x5 x6 A) : val_main_v170 (F := Ideal) x0 x1 x2 x3 x4 x5 x6 = dzOf A x0 := by
  funext i
  idx_vars i
  exact dz_at R x0 _ _

theorem plain_dw (R : Reads x1 x2 x3 x4 x5 x6 A) : val_main_v105 (F := Ideal) x1 x2 x3 x4 = fun y => (A.dw (y 0) (y 1) (y 2) : EReal) := by
  funext y
  idx_vars y
  exact dw_eq R _ _ _

theorem plain_db (R : Reads x1 x2 x3 x4 x5 x6 A) : val_main_v171 (F := Ideal) x1 x2 = fun y => (A.db (y 1) (y 0) : EReal) := by
  funext y
  idx_vars y
  exact db_eq R _ _

theorem plain_dg (R : Reads x1 x2 x3 x4 x5 x6 A) : val_main_v172 (F := Ideal) x1 x2 x5 = fun y => (A.dg (y 1) : EReal) := by
  funext y
  idx_vars y
  obtain rfl : y0 = 0 := Subsingleton.elim _ _
  exact dg_eq R _

theorem plain_dn (R : Reads x1 x2 x3 x4 x5 x6 A) : val_main_v173 (F := Ideal) x1 x2 x5 = fun y => (A.dn (y 1) : EReal) := by
  funext y
  idx_vars y
  obtain rfl : y0 = 0 := Subsingleton.elim _ _
  exact dn_eq R _

end plain

open Cert.MixSIdeal in
/-- The kernel over the reals computes the five gradients of the plain program. -/
theorem value [Cert.Pre_mix_s_finite.Facts] : Cert.algebraic_MixSIdeal_MixSRefIdeal_pre_mix_s_finite := fun m ρ m' ρ' hpre hag =>
  ⟨fun c => dzOf (dataAt m c) (m ((c.tc : Thread nD τ).loc main_arg0)),
   fun c y => ((dataAt m c).dw (y 0) (y 1) (y 2) : EReal), fun c y => ((dataAt m c).db (y 1) (y 0) : EReal),
   fun c y => ((dataAt m c).dg (y 1) : EReal), fun c y => ((dataAt m c).dn (y 1) : EReal),
   (θ_run _ _ _).mono (fun r h c =>
     have R := reads_of_pre _ _ _ _ _ _ _ (hpre c)
     ⟨((h.1.1 c).1 8).trans (Arrays.final_dz R), ((h.1.1 c).1 9).trans (Arrays.final_dw R), ((h.1.1 c).1 10).trans (Arrays.final_db R),
      ((h.1.1 c).1 11).trans (Arrays.final_dg R), ((h.1.1 c).1 12).trans (Arrays.final_dn R), h.2.1 c⟩)
     (θ_run_and (Run.run_quiescent m ρ) (Run.frame_run m ρ)),
   (θ_run _ _ _).mono (fun r h c => by
      have R := reads_of_pre _ _ _ _ _ _ _ (hpre c)
      obtain ⟨a0, a1, a2, a3, a4, a5, a6⟩ := hag c
      obtain ⟨h0, h1, h2, h3, h4, hargs⟩ := h c
      refine ⟨h0.trans ((Cert.MixSRefIdeal.Read.val_main_v170_eq _).trans ?_), h1.trans ((Cert.MixSRefIdeal.Read.val_main_v105_eq _).trans ?_),
        h2.trans ((Cert.MixSRefIdeal.Read.val_main_v171_eq _).trans ?_), h3.trans ((Cert.MixSRefIdeal.Read.val_main_v172_eq _).trans ?_),
        h4.trans ((Cert.MixSRefIdeal.Read.val_main_v173_eq _).trans ?_), hargs⟩
      · exact (congr (congr (congr (congr (congr (congr (congrArg _ a0) a1) a2) a3) a4) a5) a6).trans (plain_dz R)
      · exact (congr (congr (congr (congrArg _ a1) a2) a3) a4).trans (plain_dw R)
      · exact (congr (congrArg _ a1) a2).trans (plain_db R)
      · exact (congr (congr (congrArg _ a1) a2) a5).trans (plain_dg R)
      · exact (congr (congr (congrArg _ a1) a2) a5).trans (plain_dn R))
     (Cert.MixSRefIdeal.Value.run (F := Ideal) m' ρ')⟩

end Cert.MixSValue

end
-- ==== Proof.InProjBlock.lean ====
/- The input projection's gradient behind its norm: what one grid point's blocks hold. -/
module
public import proofs.«01_k».proof.Defs
public import proofs.«01_k».proof.Proof.Gen.InProjIdeal.Value
public import Idealize.ShloMosaic.Lib.Pipeline.ValueKit
public import Idealize.ShloMosaic.Lib.VecWindow
@[expose] public section
set_option maxRecDepth 2000
noncomputable section
namespace Cert.InProjValue
open Idealize.ShloMosaic Idealize.ShloMosaic.TcCoe Idealize.SL.Sem
open Cert.InProjIdeal Cert.InProjIdeal.Gen

/-! ## The row's gradient through the norm -/

/-- A row's reciprocal root mean square. -/
def rinv (x : Fin 1024 → EReal) : EReal := Ideal.rsqrt (Ideal.div (∑ k, x k * x k) (Ideal.ofBits .f32 0x44800000#32) + Ideal.ofBits .f32 0x358637BD#32)

/-- The gradient through the norm's row: `p` the cotangent, `x` the row, `g` the weights. -/
def dxRow (p x g : Fin 1024 → EReal) (j : Fin 1024) : EReal :=
  rinv x * (p j * g j - x j * rinv x * Ideal.div (∑ k, p k * g k * (x k * rinv x)) (Ideal.ofBits .f32 0x44800000#32))

theorem pay5_at (x : FVec Ideal S128x1024 .f32) (r : Fin 128) : (show EReal from k0_pay5 (F := Ideal) x (ix2 r 0)) = rinv fun k => x (ix2 r k) := by
  pointwise [k0_pay5, rinv]

theorem pay6_at (x : FVec Ideal S128x1024 .f32) (r : Fin 128) (j : Fin 1024) : k0_pay6 x (ix2 r j) = x (ix2 r j) * rinv fun k => x (ix2 r k) := by
  pointwise [k0_pay6, pay5_at]

theorem pay7_at (p x : FVec Ideal S128x1024 .f32) (g : FVec Ideal S1x1024 .f32) (d : FVec Ideal S128x1024 .f32) (r : Fin 128) (j : Fin 1024) :
    k0_pay7 p x g d (ix2 r j) = d (ix2 r j) + dxRow (fun k => p (ix2 r k)) (fun k => x (ix2 r k)) (fun k => g (ix2 0 k)) j := by
  pointwise [k0_pay7, pay5_at, pay6_at, dxRow]

theorem pay8_at (a : FVec Ideal S1x1024 .f32) (p x : FVec Ideal S128x1024 .f32) (j : Fin 1024) :
    k0_pay8 a p x (ix2 0 j) = a (ix2 0 j) + ∑ r : Fin 128, p (ix2 r j) * (x (ix2 r j) * rinv fun k => x (ix2 r k)) := by
  pointwise [k0_pay8, pay6_at]

theorem pay9_at (a b : FVec Ideal S1x1024 .f32) (j : Fin 1024) : k0_pay9 a b (ix2 0 j) = a (ix2 0 j) + b (ix2 0 j) := by
  pointwise [k0_pay9]

theorem pay4_at (j : Fin 1024) : k0_pay4 (F := Ideal) (ix2 0 j) = 0 := by pointwise [k0_pay4]
theorem pay1_at (j : Fin 1024) : k0_pay1 (F := Ideal) (ix2 0 j) = 0 := by pointwise [k0_pay1]
theorem pay2_at (r j : Fin 1024) : k0_pay2 (F := Ideal) (ix2 r j) = 0 := by pointwise [k0_pay2]

theorem pay3_at (a : FVec Ideal S1024x1024 .f32) (d : FVec Ideal S1024x2560 .bf16) (w : FVec Ideal S1x1024x2560 .bf16) (r j : Fin 1024) :
    k0_pay3 a d w (ix2 r j) = a (ix2 r j) + ∑ l : Fin 2560, d (ix2 r l) * w (ix3 0 j l) := by
  pointwise [k0_pay3]

/-! ## The loop over the block's row groups -/

theorem off : ∀ k : Fin k0_t1_loop.trips, k0_off1 k = ![k.val * 128, 0] := by decide +kernel
theorem trips_eq : k0_t1_loop.trips = 8 := by decide +kernel
theorem lt_eight (k : Fin k0_t1_loop.trips) : k.val < 8 := lt_of_lt_of_eq k.isLt trips_eq

section loop

variable (c : Dev nD) (i : grid0.Coords) (a3 : Memref sig .tc .vmem S1024x2560 .bf16) (ha3 : a3.IsWhole)
  (a4 : Memref sig .tc .vmem S1x1024x2560 .bf16) (ha4 : a4.IsWhole) (a5 : Memref sig .tc .vmem S1024x1024 .f32) (ha5 : a5.IsWhole)
  (a6 : Memref sig .tc .vmem S1x1024 .f32) (ha6 : a6.IsWhole) (a7 : Memref sig .tc .vmem S1024x1024 .f32) (ha7 : a7.IsWhole)
  (a8 : Memref sig .tc .hbm S8x128 .f32) (ha8 : a8.IsWhole) (a9 : Memref sig .tc .vmem S1024x1024 .f32) (ha9 : a9.IsWhole)
  (a10 : Memref sig .tc .vmem S1x1024 .f32) (ha10 : a10.IsWhole) (a11 : Memref sig .tc .vmem S1024x1024 .f32) (ha11 : a11.IsWhole)
  (h3 : k0_cond3 i = 1#1) (X5 : BufTy.Contents (Elt Ideal) a5.view.ty) (X6 : BufTy.Contents (Elt Ideal) a6.view.ty)
  (X7 : BufTy.Contents (Elt Ideal) a7.view.ty) (X11 : BufTy.Contents (Elt Ideal) a11.view.ty)

/-- The rows of trip `k`, of a block. -/
def rowsOf (k : Fin k0_t1_loop.trips) (v : S1024x1024.Idx → EReal) : FVec Ideal S128x1024 .f32 :=
  fun y => v ((Rect.unit (s := S1024x1024) (k0_off1 k) S128x1024.size (k0_off1_inb i k h3)).emb y)

/-- One trip's pieces. -/
theorem trip_pieces (k : Fin k0_t1_loop.trips) (acc : FVec Ideal S1x1024 .f32) :
    tripL_k0_t1 (F := Ideal) Variants.none c none i a3 ha3 a4 ha4 a5 ha5 a6 ha6 a7 ha7 a8 ha8 a9 ha9 a10 ha10 a11 ha11 h3 X5 X6 X7 X11 k acc
      = [⟨Rect.unit (s := S1024x1024) (k0_off1 k) S128x1024.size (k0_off1_inb i k h3),
          k0_pay7 (rowsOf i h3 k (a11.view.read (Elt Ideal) X11))
            (rowsOf i h3 k (a5.view.read (Elt Ideal) X5))
            (a6.view.readAt (Elt Ideal) (Rect.unit (s := S1x1024) ![0, 0] S1x1024.size inb_S1x1024_S1x1024_0_0).toLoadRect X6)
            (rowsOf i h3 k (a7.view.read (Elt Ideal) X7))⟩] := by
  unfold tripL_k0_t1 trip_k0_t1
  rfl

/-- One trip's result. -/
theorem trip_result (k : Fin k0_t1_loop.trips) (acc : FVec Ideal S1x1024 .f32) :
    tripR_k0_t1 (F := Ideal) Variants.none c none i a3 ha3 a4 ha4 a5 ha5 a6 ha6 a7 ha7 a8 ha8 a9 ha9 a10 ha10 a11 ha11 h3 X5 X6 X7 X11 k acc
      = k0_pay8 acc (rowsOf i h3 k (a11.view.read (Elt Ideal) X11)) (rowsOf i h3 k (a5.view.read (Elt Ideal) X5)) := by
  unfold tripR_k0_t1 trip_k0_t1
  rfl

/-- A row of trip `k` is the block's row `128 k + r`. -/
theorem emb_row (k : Fin k0_t1_loop.trips) (r : Fin 128) (j : Fin 1024) :
    (Rect.unit (s := S1024x1024) (k0_off1 k) S128x1024.size (k0_off1_inb i k h3)).emb (ix2 r j)
      = ix2 (⟨k.val * 128 + r.val, by have := lt_eight k; omega⟩ : Fin 1024) j := by
  funext a
  refine Fin.ext ((ValueKit.rect_emb_unit_val _ _ _ _ _).trans ?_)
  refine (congrArg (· + (ix2 r j a).val) (congrFun (off k) a)).trans ?_
  match a with
  | ⟨0, _⟩ => rfl
  | ⟨1, _⟩ => exact Nat.zero_add _

/-- The rows of trip `k`, at a place. -/
theorem rowsOf_at (k : Fin k0_t1_loop.trips) (v : S1024x1024.Idx → EReal) (r : Fin 128) (j : Fin 1024) :
    rowsOf i h3 k v (ix2 r j) = v (ix2 (⟨k.val * 128 + r.val, by have := lt_eight k; omega⟩ : Fin 1024) j) :=
  congrArg v (emb_row i h3 k r j)

/-- A load of the weights' row. -/
theorem gain_read (a : Memref sig .tc .vmem S1x1024 .f32) (X : BufTy.Contents (Elt Ideal) a.view.ty) :
    a.view.readAt (Elt Ideal) (Rect.unit (s := S1x1024) ![0, 0] S1x1024.size inb_S1x1024_S1x1024_0_0).toLoadRect X = a.view.read (Elt Ideal) X :=
  View.readAt_full _ _ _

/-- What the loop stores at a place of the block. -/
def stored (p x d : S1024x1024.Idx → EReal) (g : S1x1024.Idx → EReal) (y : S1024x1024.Idx) : EReal :=
  d y + dxRow (fun k => p (ix2 (y 0) k)) (fun k => x (ix2 (y 0) k)) (fun k => g (ix2 0 k)) (y 1)

/-- A row's part of the weights' gradient. -/
def part (p x : S1024x1024.Idx → EReal) (j : Fin 1024) (l : ℕ) : EReal :=
  if h : l < 1024 then p (ix2 ⟨l, h⟩ j) * (x (ix2 ⟨l, h⟩ j) * rinv fun k => x (ix2 ⟨l, h⟩ k)) else 0

variable {p x d : S1024x1024.Idx → EReal} {g : S1x1024.Idx → EReal} (hp : a11.view.read (Elt Ideal) X11 = p) (hx : a5.view.read (Elt Ideal) X5 = x)
  (hd : a7.view.read (Elt Ideal) X7 = d) (hg : a6.view.read (Elt Ideal) X6 = g)
include hp hx hd hg

/-- Every piece so far agrees with `stored`. -/
theorem pieces (init : FVec Ideal S1x1024 .f32) (n : ℕ) (hn : n ≤ 8) : ∀ q ∈ (st_k0_t1 (F := Ideal) Variants.none c none i a3 ha3 a4 ha4 a5 ha5 a6 ha6 a7 ha7 a8 ha8 a9 ha9 a10 ha10 a11 ha11 h3 X5 X6 X7 X11 init n).2,
    ∀ y, q.2 y = stored p x d g (q.1.emb y) := by
  induction n with
  | zero => exact fun q h => absurd h List.not_mem_nil
  | succ n ih =>
    have hk : n < k0_t1_loop.trips := lt_of_lt_of_eq hn trips_eq.symm
    intro q h
    rw [st_k0_t1_succ Variants.none c none i a3 ha3 a4 ha4 a5 ha5 a6 ha6 a7 ha7 a8 ha8 a9 ha9 a10 ha10 a11 ha11 h3 X5 X6 X7 X11 init ⟨n, hk⟩] at h
    rcases List.mem_append.mp h with h | h
    · rw [trip_pieces] at h
      rw [List.mem_singleton.mp h]
      intro y
      show k0_pay7 (F := Ideal) _ _ _ _ y = _
      idx_vars y
      rw [emb_row i h3 ⟨n, hk⟩ y0 y1, gain_read a6 X6, hg]
      refine (pay7_at _ _ _ _ _ _).trans ?_
      simp only [rowsOf_at, hp, hx, hd]
      rfl
    · exact ih (by omega) q h

omit hd hg in
/-- What the loop carries, after `n` trips. -/
theorem result (init : FVec Ideal S1x1024 .f32) (j : Fin 1024) (n : ℕ) (hn : n ≤ 8) :
    (st_k0_t1 (F := Ideal) Variants.none c none i a3 ha3 a4 ha4 a5 ha5 a6 ha6 a7 ha7 a8 ha8 a9 ha9 a10 ha10 a11 ha11 h3 X5 X6 X7 X11 init n).1 (ix2 0 j) = init (ix2 0 j) + ∑ l ∈ Finset.range (n * 128), part p x j l := by
  induction n with
  | zero => rw [Nat.zero_mul, Finset.range_zero, Finset.sum_empty, add_zero]; rfl
  | succ n ih =>
    have hk : n < k0_t1_loop.trips := lt_of_lt_of_eq hn trips_eq.symm
    rw [st_k0_t1_succ Variants.none c none i a3 ha3 a4 ha4 a5 ha5 a6 ha6 a7 ha7 a8 ha8 a9 ha9 a10 ha10 a11 ha11 h3 X5 X6 X7 X11 init ⟨n, hk⟩]
    refine (congrFun (trip_result c i a3 ha3 a4 ha4 a5 ha5 a6 ha6 a7 ha7 a8 ha8 a9 ha9 a10 ha10 a11 ha11 h3 X5 X6 X7 X11 ⟨n, hk⟩ _) (ix2 0 j)).trans ((pay8_at _ _ _ _).trans ?_)
    rw [ih (by omega), Nat.add_mul, Nat.one_mul, Finset.sum_range_add, add_assoc]
    congr 2
    rw [Finset.sum_range]
    refine Finset.sum_congr rfl fun r _ => ?_
    rw [part, dif_pos (by omega)]
    simp only [rowsOf_at, hp, hx]

omit hp hx hd hg in
/-- The trips so far cover their rows. -/
theorem cover (init : FVec Ideal S1x1024 .f32) (n : ℕ) (hn : n ≤ 8) (y0 y1 : Fin 1024) (hy : y0.val < n * 128) :
    ∃ q ∈ (st_k0_t1 (F := Ideal) Variants.none c none i a3 ha3 a4 ha4 a5 ha5 a6 ha6 a7 ha7 a8 ha8 a9 ha9 a10 ha10 a11 ha11 h3 X5 X6 X7 X11 init n).2, (ix2 y0 y1 : S1024x1024.Idx) ∈ q.1.set := by
  induction n with
  | zero => omega
  | succ n ih =>
    have hk : n < k0_t1_loop.trips := lt_of_lt_of_eq hn trips_eq.symm
    rw [st_k0_t1_succ Variants.none c none i a3 ha3 a4 ha4 a5 ha5 a6 ha6 a7 ha7 a8 ha8 a9 ha9 a10 ha10 a11 ha11 h3 X5 X6 X7 X11 init ⟨n, hk⟩]
    by_cases h : y0.val < n * 128
    · obtain ⟨q, hq, hy⟩ := ih (by omega) h
      exact ⟨q, List.mem_append_right _ hq, hy⟩
    · refine ⟨_, List.mem_append_left _ (by rw [trip_pieces]; exact List.mem_singleton_self _), ?_⟩
      have e := emb_row i h3 ⟨n, hk⟩ (⟨y0.val - n * 128, by omega⟩ : Fin 128) y1
      rw [show (ix2 y0 y1 : S1024x1024.Idx) = _ from (congrArg (fun z : Fin 1024 => ix2 z y1) (Fin.ext (by show y0.val = n * 128 + (y0.val - n * 128); omega))).trans e.symm]
      exact Rect.map_emb_univ _ ▸ Finset.mem_map_of_mem _ (Finset.mem_univ _)

/-- The block the loop leaves. -/
theorem block (init : FVec Ideal S1x1024 .f32) (y : S1024x1024.Idx) :
    View.canon (st_k0_t1 (F := Ideal) Variants.none c none i a3 ha3 a4 ha4 a5 ha5 a6 ha6 a7 ha7 a8 ha8 a9 ha9 a10 ha10 a11 ha11 h3 X5 X6 X7 X11 init 8).2 y = stored p x d g y := by
  idx_vars y
  exact View.canon_apply_of_pieces _ _ (pieces c i a3 ha3 a4 ha4 a5 ha5 a6 ha6 a7 ha7 a8 ha8 a9 ha9 a10 ha10 a11 ha11 h3 X5 X6 X7 X11 hp hx hd hg init 8 le_rfl) _ (cover c i a3 ha3 a4 ha4 a5 ha5 a6 ha6 a7 ha7 a8 ha8 a9 ha9 a10 ha10 a11 ha11 h3 X5 X6 X7 X11 init 8 le_rfl _ _ (by omega))

end loop

/-! ## The blocks -/

section blocks

variable (m : (ℓ : Loc nD τ sig) → Buf (Elt Ideal) ℓ) (c : Dev nD)

theorem dx_block (t : Fin cfg0.N) (h : t.val % 4 = 3) (y) : (outsAt0 m c t.val t.isLt).1 y
    = stored (outsAt0 m c t.val t.isLt).2.2 (iblk m c 2 t) (iblk m c 4 t) (iblk m c 3 t) y := by
  rw [outsAt0_C m c t (by omega) (by omega) h]
  frame_out
  exact block c (grid0.coords t) _ _ _ _ _ _ _ _ _ _ _ _ _ _ _ _ _ _ _ _ _ _ _ (View.read_writes_full _ _ _ _ _) (Memref.IsWhole.read_unread _ _)
    (Memref.IsWhole.read_unread _ _) (Memref.IsWhole.read_unread _ _) _ y

/-- The weights' gradient gains the block's rows. -/
theorem dg_block (t : Fin cfg0.N) (h : t.val % 4 = 3) (j : Fin 1024) : (outsAt0 m c t.val t.isLt).2.1 (ix2 0 j)
    = (outsAt0 m c (t.val - 1) (Nat.lt_of_le_of_lt (Nat.sub_le _ _) t.isLt)).2.1 (ix2 0 j)
      + ∑ l ∈ Finset.range (8 * 128), part (outsAt0 m c t.val t.isLt).2.2 (iblk m c 2 t) j l := by
  rw [outsAt0_C m c t (by omega) (by omega) h]
  frame_out
  refine (pay9_at _ _ _).trans (congrArg _ ((result c (grid0.coords t) _ _ _ _ _ _ _ _ _ _ _ _ _ _ _ _ _ _ _ _ _ _ _ (View.read_writes_full _ _ _ _ _)
    (Memref.IsWhole.read_unread _ _) _ j 8 le_rfl).trans ?_))
  rw [pay4_at, zero_add]

/-- The first point's row is zero; points inside a block's sum keep the row. -/
theorem dg_first (t : Fin cfg0.N) (h : t.val % 16 = 0) (j : Fin 1024) : (outsAt0 m c t.val t.isLt).2.1 (ix2 0 j) = 0 := by
  rw [outsAt0_A m c t h (by omega) (by omega)]
  frame_out
  exact pay1_at j

theorem dg_keep (t : Fin cfg0.N) (h0 : ¬t.val % 16 = 0) (h : ¬t.val % 4 = 3) : (outsAt0 m c t.val t.isLt).2.1
    = (outsAt0 m c (t.val - 1) (Nat.lt_of_le_of_lt (Nat.sub_le _ _) t.isLt)).2.1 := by
  by_cases h1 : t.val % 4 = 0
  · rw [outsAt0_D m c t h0 h1 h]
    rfl
  · rw [outsAt0_B m c t h0 h1 h]
    rfl

/-- The windows' block indices at a grid point. -/
theorem idx : ∀ t : Fin cfg0.N, win0_0.index t = ![t.val / 4, t.val % 4] ∧ win0_1.index t = ![t.val % 4, 0, 0] ∧ win0_2.index t = ![t.val / 4, 0]
    ∧ win0_3.index t = ![0, 0] ∧ win0_4.index t = ![t.val / 4, 0] ∧ win0_5.index t = ![t.val / 4, 0] ∧ win0_6.index t = ![0, 0] ∧ t.val < 16 :=
  (by decide +kernel : ∀ t : Fin grid0.N, _)

/-- The running sum a block of rows ends with: the cotangent's rows through the weights. -/
theorem sum_block (t : Fin cfg0.N) (h : t.val % 4 = 3) (r j : Fin 1024) : (outsAt0 m c t.val t.isLt).2.2 (ix2 r j)
    = ∑ s : Fin 4, ∑ l : Fin 2560, (show FVec Ideal S1024x2560 .bf16 from iblk m c 0 ⟨4 * (t.val / 4) + s.val, Pipeline.run_point_lt_of_flush t h s⟩) (ix2 r l)
      * (show FVec Ideal S1x1024x2560 .bf16 from iblk m c 1 ⟨4 * (t.val / 4) + s.val, Pipeline.run_point_lt_of_flush t h s⟩) (ix3 0 j l) := by
  refine (Pipeline.eq_sum_fin_of_reset_step_apply_of_flush (M := EReal) (ι := S1024x1024.Idx) (fun n h => (outsAt0 m c n h).2.2) 4 (fun _ => 0)
    (fun p y => ∑ l : Fin 2560, (show FVec Ideal S1024x2560 .bf16 from iblk m c 0 p) (ix2 (y 0) l) * (show FVec Ideal S1x1024x2560 .bf16 from iblk m c 1 p) (ix3 0 (y 1) l))
    (fun t h y => ?_) (fun t h y => ?_) t h _).trans (by rw [zero_add]; rfl)
  · by_cases h0 : t.val % 16 = 0
    · rw [outsAt0_A m c t h0 h (by omega)]; frame_out; idx_vars y; exact (pay3_at _ _ _ _ _).trans (by rw [pay2_at])
    · rw [outsAt0_D m c t h0 h (by omega)]; frame_out; idx_vars y; exact (pay3_at _ _ _ _ _).trans (by rw [pay2_at])
  · by_cases h1 : t.val % 4 = 3
    · rw [outsAt0_C m c t (by omega) h h1]; frame_out; idx_vars y
      exact (congrArg (fun A => k0_pay3 (F := Ideal) A _ _ (ix2 y0 y1)) (Memref.IsWhole.read_unread (Memref.isWhole_whole _) _)).trans (pay3_at _ _ _ _ _)
    · rw [outsAt0_B m c t (by omega) h h1]; frame_out; idx_vars y
      exact (congrArg (fun A => k0_pay3 (F := Ideal) A _ _ (ix2 y0 y1)) (Memref.IsWhole.read_unread (Memref.isWhole_whole _) _)).trans (pay3_at _ _ _ _ _)

end blocks

end Cert.InProjValue

end
-- ==== Proof.InProjValue.lean ====
/- The input projection's gradient behind its norm: kernel and plain program hold the same arrays. -/
module

public import proofs.«01_k».proof.Proof.InProjBlock
public import proofs.«01_k».proof.Proof.MixSArgs
public import proofs.«01_k».proof.Proof.Gen.InProjRefIdeal.Read
public import proofs.«01_k».proof.Pre_in_proj_finite

@[expose] public section

set_option maxRecDepth 16384

noncomputable section

namespace Cert.InProjValue

open Idealize.ShloMosaic Idealize.ShloMosaic.TcCoe Idealize.SL.Sem
open Cert.InProjIdeal Cert.InProjIdeal.Gen

/-! ## The arrays the kernel leaves -/

/-- The cotangent of the norm's output. -/
def wide (dz : FVec Ideal S4096x10240 .bf16) (w : FVec Ideal S1024x10240 .f32) (r : Fin 4096) (j : Fin 1024) : EReal :=
  ∑ l : Fin 10240, dz (ix2 r l) * w (ix2 j l)

/-- The gradient of the rows. -/
def dx (d1 : FVec Ideal S4096x1024 .f32) (dz : FVec Ideal S4096x10240 .bf16) (x : FVec Ideal S4096x1024 .f32) (g : FVec Ideal S1024 .f32)
    (w : FVec Ideal S1024x10240 .f32) (r : Fin 4096) (j : Fin 1024) : EReal :=
  d1 (ix2 r j) + dxRow (wide dz w r) (fun k => x (ix2 r k)) (fun k => g (ix1 k)) j

/-- The gradient of the norm's weights, and a row's part of it. -/
def dgTerm (dz : FVec Ideal S4096x10240 .bf16) (x : FVec Ideal S4096x1024 .f32) (w : FVec Ideal S1024x10240 .f32) (r : Fin 4096) (j : Fin 1024) : EReal :=
  wide dz w r j * (x (ix2 r j) * rinv fun k => x (ix2 r k))
def dg (dz : FVec Ideal S4096x10240 .bf16) (x : FVec Ideal S4096x1024 .f32) (w : FVec Ideal S1024x10240 .f32) (j : Fin 1024) : EReal :=
  ∑ r : Fin 4096, dgTerm dz x w r j

variable (m : (ℓ : Loc nD τ sig) → Buf (Elt Ideal) ℓ) (c : Dev nD)

/-- The running sum a block of rows ends with, in the arguments. -/
theorem sum_args (t : Fin cfg0.N) (h : t.val % 4 = 3) (r j : Fin 1024) : (outsAt0 m c t.val t.isLt).2.2 (ix2 r j)
    = wide (m ((c : Thread nD τ).loc main_arg1)) (m ((c : Thread nD τ).loc main_arg4)) ⟨t.val / 4 * 1024 + r.val, by have := (idx t).2.2.2.2.2.2.2; omega⟩ j := by
  refine (sum_block m c t h r j).trans ?_
  unfold wide
  refine Fin.sum_mul_add_congr fun s k hl => ?_
  have hp := idx ⟨_, Pipeline.run_point_lt_of_flush t h s⟩
  blk_point [iblk, V, idx t, hp]

theorem final_dx : (dats m 0 c).arrAt 5 (cfgs 0).N
    = fun i => dx (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  blk_simp
  have h3 := (flush0_5 t).mp hf
  rw [after0_5, dx_block m c t h3]
  idx_vars y
  have hx : ∀ k : Fin 1024, (show FVec Ideal S1024x1024 .f32 from iblk m c 2 t) (ix2 y0 k)
      = m ((c : Thread nD τ).loc main_arg2) (ix2 ⟨t.val / 4 * 1024 + y0.val, by have := (idx t).2.2.2.2.2.2.2; omega⟩ k) := fun k => by blk_point [iblk, V, idx t]
  have hg : ∀ k : Fin 1024, (show FVec Ideal S1x1024 .f32 from iblk m c 3 t) (ix2 0 k) = m ((c : Thread nD τ).loc main_arg3) (ix1 k) := fun k => by blk_point [iblk, V, idx t]
  have hd : (show FVec Ideal S1024x1024 .f32 from iblk m c 4 t) (ix2 y0 y1)
      = m ((c : Thread nD τ).loc main_arg0) (ix2 ⟨t.val / 4 * 1024 + y0.val, by have := (idx t).2.2.2.2.2.2.2; omega⟩ y1) := by blk_point [iblk, V, idx t]
  have E0 : ((win0_5.blk t).view.emb (ix2 y0 y1) 0) = (⟨t.val / 4 * 1024 + y0.val, by have := (idx t).2.2.2.2.2.2.2; omega⟩ : Fin 4096) := Fin.ext (by
    blk_simp [idx t])
  have E1 : ((win0_5.blk t).view.emb (ix2 y0 y1) 1) = y1 := Fin.ext (by blk_simp [idx t])
  rw [E0, E1]
  refine congr (congrArg HAdd.hAdd hd) ?_
  refine congrFun (congr (congr (congrArg dxRow (funext fun k => sum_args m c t h3 y0 k)) (funext hx)) (funext hg)) _

/-- A block's part of the weights' gradient. -/
theorem parts (t : Fin cfg0.N) (h : t.val % 4 = 3) (j : Fin 1024) :
    ∑ l ∈ Finset.range (8 * 128), part (outsAt0 m c t.val t.isLt).2.2 (iblk m c 2 t) j l
      = ∑ l : Fin 1024, dgTerm (m ((c : Thread nD τ).loc main_arg1)) (m ((c : Thread nD τ).loc main_arg2)) (m ((c : Thread nD τ).loc main_arg4)) ⟨t.val / 4 * 1024 + l.val, by have := (idx t).2.2.2.2.2.2.2; omega⟩ j := by
  rw [Finset.sum_range]
  refine Finset.sum_congr rfl fun l _ => ?_
  have hx : ∀ k : Fin 1024, (show FVec Ideal S1024x1024 .f32 from iblk m c 2 t) (ix2 l k)
      = m ((c : Thread nD τ).loc main_arg2) (ix2 ⟨t.val / 4 * 1024 + l.val, by have := (idx t).2.2.2.2.2.2.2; omega⟩ k) := fun k => by blk_point [iblk, V, idx t]
  rw [part, dif_pos l.isLt]
  exact congr (congrArg HMul.hMul (sum_args m c t h l j)) (congr (congrArg HMul.hMul (hx j)) (congrArg rinv (funext hx)))

/-- The part of the rows' block `i`. -/
def blockSum (j : Fin 1024) (i : Fin 4) : EReal := ∑ l : Fin 1024, dgTerm (m ((c : Thread nD τ).loc main_arg1)) (m ((c : Thread nD τ).loc main_arg2)) (m ((c : Thread nD τ).loc main_arg4)) ⟨i.val * 1024 + l.val, by omega⟩ j

theorem lt_points (n : ℕ) (h : n < 16) : n < cfg0.N := lt_of_lt_of_eq h N_0.symm

/-- The weights' gradient's row after a point. -/
def rowAt (j : Fin 1024) (n : ℕ) : EReal := if h : n < 16 then (outsAt0 m c n (lt_points n h)).2.1 (ix2 0 j) else 0

theorem rowAt_eq (j : Fin 1024) (n : ℕ) (h : n < 16) : rowAt m c j n = (outsAt0 m c n (lt_points n h)).2.1 (ix2 0 j) := dif_pos h

theorem row_keep (j : Fin 1024) (n : ℕ) (h : n + 1 < 16) (h0 : ¬(n + 1) % 16 = 0) (h3 : ¬(n + 1) % 4 = 3) : rowAt m c j (n + 1) = rowAt m c j n := by
  rw [rowAt_eq m c j (n + 1) h, rowAt_eq m c j n (by omega)]
  exact congrFun (dg_keep m c ⟨n + 1, lt_points _ h⟩ h0 h3) _

/-- The row after a block's last point, from the row after its first. -/
theorem row_step (j : Fin 1024) (i : Fin 4) : rowAt m c j (4 * i.val + 3) = rowAt m c j (4 * i.val) + blockSum m c j i := by
  rw [← row_keep m c j (4 * i.val) (by omega) (by omega) (by omega), ← row_keep m c j (4 * i.val + 1) (by omega) (by omega) (by omega),
    rowAt_eq m c j (4 * i.val + 3) (by omega), rowAt_eq m c j (4 * i.val + 1 + 1) (by omega)]
  refine (dg_block m c ⟨4 * i.val + 3, lt_points _ (by omega)⟩ (by show (4 * i.val + 3) % 4 = 3; omega) j).trans
    (congrArg (HAdd.hAdd _) ((parts m c ⟨4 * i.val + 3, lt_points _ (by omega)⟩ (by show (4 * i.val + 3) % 4 = 3; omega) j).trans ?_))
  unfold blockSum
  refine Finset.sum_congr rfl fun l _ => congrArg (fun r => dgTerm (m ((c : Thread nD τ).loc main_arg1)) (m ((c : Thread nD τ).loc main_arg2)) (m ((c : Thread nD τ).loc main_arg4)) r j) (Fin.ext ?_)
  show (4 * i.val + 3) / 4 * 1024 + l.val = i.val * 1024 + l.val
  omega

/-- The row after a block's last point: the parts of the blocks so far. -/
theorem row_sum (j : Fin 1024) (n : ℕ) (hn : n < 4) : rowAt m c j (4 * n + 3) = ∑ i ∈ Finset.range (n + 1), if h : i < 4 then blockSum m c j ⟨i, h⟩ else 0 := by
  induction n with
  | zero =>
    have z : rowAt m c j 0 = 0 := (rowAt_eq m c j 0 (by decide)).trans (dg_first m c ⟨0, lt_points _ (by decide)⟩ (Nat.zero_mod 16) j)
    have s := row_step m c j 0
    rw [show 4 * (0 : Fin 4).val = 0 from rfl, z] at s
    rw [Finset.sum_range_one, dif_pos (by decide)]
    exact s.trans (zero_add _)
  | succ n ih =>
    rw [Finset.sum_range_succ, ← ih (by omega), dif_pos hn, ← row_keep m c j (4 * n + 3) (by omega) (by omega) (by omega)]
    exact row_step m c j ⟨n + 1, hn⟩

/-- The weights' gradient after the last point. -/
theorem dg_last (j : Fin 1024) : (outsAt0 m c 15 t0_15.isLt).2.1 (ix2 0 j)
    = dg (m ((c : Thread nD τ).loc main_arg1)) (m ((c : Thread nD τ).loc main_arg2)) (m ((c : Thread nD τ).loc main_arg4)) j := by
  refine ((rowAt_eq m c j 15 (by decide)).symm.trans (row_sum m c j 3 (by decide))).trans ?_
  rw [Finset.sum_range]
  unfold dg
  refine Eq.trans (Finset.sum_congr rfl fun i _ => dif_pos i.isLt) ?_
  unfold blockSum
  exact Fin.sum_mul_add_congr fun s k hl => rfl

theorem final_dg : (dats m 0 c).arrAt 6 (cfgs 0).N
    = fun i => dg (m ((c : Thread nD τ).loc main_arg1)) (m ((c : Thread nD τ).loc main_arg2)) (m ((c : Thread nD τ).loc main_arg4)) (i 1) := by
  refine (dats m 0 c).arrAt_eq_of_after_last 6 t0_15 (by decide +kernel) _ fun j => ?_
  rw [after0_6]
  idx_vars j
  obtain rfl : j0 = 0 := Subsingleton.elim _ _
  exact dg_last m c j1

/-! ## The plain program's arrays -/

open Cert.InProjRefIdeal.Read in
/-- The plain program's cotangent of the norm's output. -/
theorem plain_wide (x1 : (⟨Cert.InProjRefIdeal.S4096x10240, .bf16⟩ : BufTy).Contents (Elt Ideal))
    (x4 : (⟨Cert.InProjRefIdeal.S1024x10240, .f32⟩ : BufTy).Contents (Elt Ideal)) (r : Fin 4096) (j : Fin 1024) :
    val_main_v18 (F := Ideal) x1 x4 (ix2 r j) = wide x1 x4 r j := by
  pointwise [val_main_v18, val_main_v17, wide]

open Cert.InProjRefIdeal.Read in
/-- The plain program's reciprocal root mean square. -/
theorem plain_rinv (x2 : (⟨Cert.InProjRefIdeal.S4096x1024, .f32⟩ : BufTy).Contents (Elt Ideal)) (r : Fin 4096) (k : Fin 1) :
    val_main_v7 (F := Ideal) x2 (ix2 r k) = rinv fun k => x2 (ix2 r k) := by
  pointwise [val_main_v7, val_main_v6, val_main_v5, val_main_v4, val_main_v3, val_main_v2, val_main_v1, val_main_v0, val_main_cst, val_main_cst_0, val_main_cst_1, rinv]

open Cert.InProjRefIdeal.Read in
/-- The plain program's weights' gradient. -/
theorem plain_dg (x1 : (⟨Cert.InProjRefIdeal.S4096x10240, .bf16⟩ : BufTy).Contents (Elt Ideal)) (x2 : (⟨Cert.InProjRefIdeal.S4096x1024, .f32⟩ : BufTy).Contents (Elt Ideal))
    (x4 : (⟨Cert.InProjRefIdeal.S1024x10240, .f32⟩ : BufTy).Contents (Elt Ideal)) :
    val_main_v40 (F := Ideal) x1 x2 x4 = fun i => dg x1 x2 x4 (i 1) := by
  funext i
  idx_vars i
  pointwise [val_main_v40, val_main_v24, val_main_v21, val_main_v20, val_main_v19, val_main_v12, val_main_v11, val_main_cst_3, val_main_cst_4, plain_wide, plain_rinv, dg, dgTerm]
  rw [Fin.sum_univ_one]
  exact Finset.sum_congr rfl fun _ _ => mul_comm _ _

open Cert.MixSModel in
/-- The norm's gradient in one formula is the gradient term by term, on real data. -/
theorem norm_back (d : EReal) (P X G : Fin 1024 → ℝ) (j : Fin 1024) :
    d + (P j : EReal) * (G j : EReal) * rinv (fun k => (X k : EReal))
        + (X j : EReal) * Ideal.div ((∑ k, (X k : EReal) * ((P k : EReal) * (G k : EReal))) * (Ideal.ofBits .f32 0xBF000000#32 * Ideal.div (rinv fun k => (X k : EReal))
            (Ideal.div (∑ k, (X k : EReal) * (X k : EReal)) (Ideal.ofBits .f32 0x44800000#32) + Ideal.ofBits .f32 0x358637BD#32))) (Ideal.ofBits .f32 0x44800000#32)
        + Ideal.div ((∑ k, (X k : EReal) * ((P k : EReal) * (G k : EReal))) * (Ideal.ofBits .f32 0xBF000000#32 * Ideal.div (rinv fun k => (X k : EReal))
            (Ideal.div (∑ k, (X k : EReal) * (X k : EReal)) (Ideal.ofBits .f32 0x44800000#32) + Ideal.ofBits .f32 0x358637BD#32))) (Ideal.ofBits .f32 0x44800000#32) * (X j : EReal)
      = d + dxRow (fun k => (P k : EReal)) (fun k => (X k : EReal)) (fun k => (G k : EReal)) j := by
  have hv : 0 < (∑ k, X k * X k) / 1024 + eps := add_pos_of_nonneg_of_pos (div_nonneg (Finset.sum_nonneg fun k _ => mul_self_nonneg _) (by norm_num)) (by norm_num [eps])
  have hK : Ideal.ofBits .f32 0x44800000#32 = ((1024 : ℝ) : EReal) := by
    simp [Ideal.ofBits, Ideal.ieee]
    rw [← EReal.coe_mul]; norm_num
  have hr : (Real.sqrt ((∑ k, X k * X k) / 1024 + eps))⁻¹ / ((∑ k, X k * X k) / 1024 + eps)
      = (Real.sqrt ((∑ k, X k * X k) / 1024 + eps))⁻¹ * ((Real.sqrt ((∑ k, X k * X k) / 1024 + eps))⁻¹ * (Real.sqrt ((∑ k, X k * X k) / 1024 + eps))⁻¹) := by
    rw [← mul_inv, Real.mul_self_sqrt hv.le, div_eq_mul_inv]
  simp only [dxRow, rinv, hK, ofBits_eps, ofBits_neg_half, mul_coe, coe_sum, div_coe _ _ (show (1024 : ℝ) ≠ 0 by norm_num), add_coe, rsqrt_coe _ hv, div_coe _ _ hv.ne', sub_coe, hr, add_assoc]
  refine congrArg (d + ·) ?_
  refine congrArg (fun a : ℝ => (a : EReal)) ?_
  generalize (Real.sqrt ((∑ k, X k * X k) / 1024 + eps))⁻¹ = q
  have e : ∑ k, P k * G k * (X k * q) = (∑ k, X k * (P k * G k)) * q := by
    rw [Finset.sum_mul]
    exact Finset.sum_congr rfl fun k _ => by ring
  rw [e]
  ring

open Cert.InProjRefIdeal.Read in
/-- The plain program's gradient of the rows, at a place. -/
theorem plain_dx (x0 : (⟨Cert.InProjRefIdeal.S4096x1024, .f32⟩ : BufTy).Contents (Elt Ideal)) (x1 : (⟨Cert.InProjRefIdeal.S4096x10240, .bf16⟩ : BufTy).Contents (Elt Ideal)) (x2 : (⟨Cert.InProjRefIdeal.S4096x1024, .f32⟩ : BufTy).Contents (Elt Ideal))
    (x3 : (⟨Cert.InProjRefIdeal.S1024, .f32⟩ : BufTy).Contents (Elt Ideal)) (x4 : (⟨Cert.InProjRefIdeal.S1024x10240, .f32⟩ : BufTy).Contents (Elt Ideal)) (r : Fin 4096) (j : Fin 1024)
    (h1 : ∀ k l, x1 (ix2 k l) = ((EReal.toReal (x1 (ix2 k l)) : ℝ) : EReal)) (h2 : ∀ k l, x2 (ix2 k l) = ((EReal.toReal (x2 (ix2 k l)) : ℝ) : EReal))
    (h3 : ∀ k, x3 (ix1 k) = ((EReal.toReal (x3 (ix1 k)) : ℝ) : EReal)) (h4 : ∀ k l, x4 (ix2 k l) = ((EReal.toReal (x4 (ix2 k l)) : ℝ) : EReal)) :
    val_main_v39 (F := Ideal) x0 x1 x2 x3 x4 (ix2 r j) = dx x0 x1 x2 x3 x4 r j := by
  pointwise [val_main_v39, val_main_v38, val_main_v37, val_main_v36, val_main_v35, val_main_v34, val_main_v33, val_main_v32, val_main_v31, val_main_v30, val_main_v29, val_main_v28, val_main_v27, val_main_v26, val_main_v25, val_main_v23, val_main_v22, val_main_v13, val_main_v10, val_main_v9, val_main_v8, val_main_v6, val_main_v5, val_main_v4, val_main_v3, val_main_v2, val_main_v1, val_main_v0, val_main_cst, val_main_cst_0, val_main_cst_1, val_main_cst_2, val_main_cst_5, val_main_cst_6, val_main_cst_7, plain_wide, plain_rinv]
  have hw : ∀ k, wide x1 x4 r k = ((∑ l : Fin 10240, EReal.toReal (x1 (ix2 r l)) * EReal.toReal (x4 (ix2 k l)) : ℝ) : EReal) := fun k => by
    rw [wide, ← Cert.MixSModel.coe_sum]
    exact Finset.sum_congr rfl fun l _ => by rw [h1 r l, h4 k l, Cert.MixSModel.mul_coe]; rfl
  simp only [Fin.sum_univ_one, plain_rinv]
  have e := norm_back (x0 (ix2 r j)) (fun k => ∑ l : Fin 10240, EReal.toReal (x1 (ix2 r l)) * EReal.toReal (x4 (ix2 k l))) (fun k => EReal.toReal (x2 (ix2 r k))) (fun k => EReal.toReal (x3 (ix1 k))) j
  simp only [← h2, ← h3, ← hw] at e
  exact e

/-! ## The precondition, and the claim -/

theorem finite [Cert.Pre_in_proj_finite.Facts] (x0 : FVec Ideal ⟨2, ![4096, 1024]⟩ .f32) (x1 : FVec Ideal ⟨2, ![4096, 10240]⟩ .bf16) (x2 : FVec Ideal ⟨2, ![4096, 1024]⟩ .f32)
    (x3 : FVec Ideal ⟨1, ![1024]⟩ .f32) (x4 : FVec Ideal ⟨2, ![1024, 10240]⟩ .f32) (x5 : FVec Ideal ⟨2, ![8, 128]⟩ .f32)
    (h : Cert.Pre_in_proj_finite.fn (F := Ideal) x0 x1 x2 x3 x4 x5 = fun _ => 1#1) :
    (∀ k l, x1 (ix2 k l) = ((EReal.toReal (x1 (ix2 k l)) : ℝ) : EReal)) ∧ (∀ k l, x2 (ix2 k l) = ((EReal.toReal (x2 (ix2 k l)) : ℝ) : EReal))
    ∧ (∀ k, x3 (ix1 k) = ((EReal.toReal (x3 (ix1 k)) : ℝ) : EReal)) ∧ (∀ k l, x4 (ix2 k l) = ((EReal.toReal (x4 (ix2 k l)) : ℝ) : EReal)) := by
  haveI : Subsingleton (Shape.Idx ⟨0, ![]⟩) := ⟨fun a b => funext fun i => i.elim0⟩
  have h := congrFun h (fun a => a.elim0)
  dsimp only [Cert.Pre_in_proj_finite.fn, Cert.Pre_in_proj_finite.fn_part1] at h
  obtain ⟨h, h4⟩ := IntOp.andi_eq_one.1 h
  obtain ⟨h, h3⟩ := IntOp.andi_eq_one.1 h
  obtain ⟨h1, h2⟩ := IntOp.andi_eq_one.1 h
  have h1 := Host.reduce_andi_all _ _ _ _ _ h1
  have h2 := Host.reduce_andi_all _ _ _ _ _ h2
  have h3 := Host.reduce_andi_all _ _ _ _ _ h3
  have h4 := Host.reduce_andi_all _ _ _ _ _ h4
  open Cert.MixSArgs in
  exact ⟨fun k l => real_of_olt (ofBits_inf ▸ h1 (ix2 k l)), fun k l => real_of_olt (ofBits_inf ▸ h2 (ix2 k l)), fun k => real_of_olt (ofBits_inf ▸ h3 (ix1 k)),
    fun k l => real_of_olt (ofBits_inf ▸ h4 (ix2 k l))⟩

/-- The kernel over the reals computes the plain program's arrays. -/
theorem value [Cert.Pre_in_proj_finite.Facts] : Cert.algebraic_InProjIdeal_InProjRefIdeal_pre_in_proj_finite := fun m ρ m' ρ' hpre hag =>
  ⟨fun c i => dx (m ((c : Thread nD τ).loc main_arg0)) (m ((c : Thread nD τ).loc main_arg1)) (m ((c : Thread nD τ).loc main_arg2)) (m ((c : Thread nD τ).loc main_arg3)) (m ((c : Thread nD τ).loc main_arg4)) (i 0) (i 1),
   fun c i => dg (m ((c : Thread nD τ).loc main_arg1)) (m ((c : Thread nD τ).loc main_arg2)) (m ((c : Thread nD τ).loc main_arg4)) (i 1),
   (θ_run _ _ _).mono (fun r h c => ⟨(h c).1.trans (final_dx m c), (h c).2.1.trans (final_dg m c), (h c).2.2⟩) (Cert.InProjIdeal.Value.run_blocks (F := Ideal) m ρ),
   (θ_run _ _ _).mono (fun r h c => by
      obtain ⟨f1, f2, f3, f4⟩ := finite _ _ _ _ _ _ (hpre c)
      obtain ⟨a0, a1, a2, a3, a4, a5⟩ := hag c
      obtain ⟨h0, h1, hargs⟩ := h c
      refine ⟨h0.trans ((Cert.InProjRefIdeal.Read.val_main_v39_eq _ _).trans ((congr (congr (congr (congr (congrArg _ a0) a1) a2) a3) a4).trans (funext fun i => ?_))),
        h1.trans ((Cert.InProjRefIdeal.Read.val_main_v40_eq _ _ _).trans ((congr (congr (congrArg _ a1) a2) a4).trans (plain_dg _ _ _))), hargs⟩
      idx_vars i
      exact plain_dx _ _ _ _ _ _ _ f1 f2 f3 f4)
     (Cert.InProjRefIdeal.Value.run (F := Ideal) m' ρ')⟩

end Cert.InProjValue

end
-- ==== Proof.Wff2Value.lean ====
/- The weight gradient behind the squared relu: kernel and plain program hold the same array. -/
module

public import proofs.«01_k».proof.Defs
public import proofs.«01_k».proof.Proof.Gen.Wff2Ideal.Value
public import proofs.«01_k».proof.Proof.Gen.Wff2RefIdeal.Read
public import Idealize.ShloMosaic.Lib.Pipeline.ValueKit

@[expose] public section

set_option maxRecDepth 16384

noncomputable section

namespace Cert.Wff2Value

open Idealize.ShloMosaic Idealize.ShloMosaic.TcCoe Idealize.SL.Sem
open Cert.Wff2Ideal Cert.Wff2Ideal.Gen

/-- The gradient: the squared relu of the hidden rows, transposed, times the cotangent. -/
def grad (a : FVec Ideal S4096x4096 .bf16) (d : FVec Ideal S4096x1024 .bf16) (q : Fin 4) (r j : Fin 1024) : EReal :=
  ∑ l : Fin 4096, (max (a (ix2 l (⟨q.val * 1024 + r.val, by omega⟩ : Fin 4096))) 0 * max (a (ix2 l (⟨q.val * 1024 + r.val, by omega⟩ : Fin 4096))) 0) * d (ix2 l j)

theorem pay_zero (j) : k0_pay1 (F := Ideal) j = 0 := by pointwise [k0_pay1]

theorem pay_add (a : FVec Ideal S1024x1024 .bf16) (acc : FVec Ideal S1024x1024 .f32) (d : FVec Ideal S1024x1024 .bf16) (r j : Fin 1024) :
    k0_pay2 a acc d (ix2 r j) = acc (ix2 r j) + ∑ l : Fin 1024, (max (a (ix2 l r)) 0 * max (a (ix2 l r)) 0) * d (ix2 l j) := by
  pointwise [k0_pay2]

theorem pay_out (acc : FVec Ideal S1024x1024 .f32) (r j : Fin 1024) : (show EReal from k0_pay3 (F := Ideal) acc (ix3 0 r j)) = acc (ix2 r j) := by
  pointwise [k0_pay3]

/-- The windows' block indices at a grid point. -/
theorem idx : ∀ t : Fin cfg0.N, win0_0.index t = ![t.val % 4, t.val / 4] ∧ win0_1.index t = ![t.val % 4, 0] ∧ win0_2.index t = ![t.val / 4, 0, 0] ∧ t.val < 16 :=
  (by decide +kernel : ∀ t : Fin grid0.N, _)

variable (m : (ℓ : Loc nD τ sig) → Buf (Elt Ideal) ℓ) (c : Dev nD)

/-- Where the block is written back it holds the running sum. -/
theorem block_out (t : Fin cfg0.N) (h : t.val % 4 = 3) : (outsAt0 m c t.val t.isLt).1 = k0_pay3 (outsAt0 m c t.val t.isLt).2 := by
  rw [outsAt0_C m c t (by omega) h]
  frame_out

theorem final (c : Dev nD) : (dats m 0 c).arrAt 2 (cfgs 0).N
    = fun i => grad (m ((c : Thread nD τ).loc main_arg0)) (m ((c : Thread nD τ).loc main_arg1)) (i 0) (i 1) (i 2) := by
  refine (dats m 0 c).arrAt_eq_of_covers 2 _ (by decide +kernel) fun t hf y => ?_
  blk_simp
  have h3 := (flush0_2 t).mp hf
  rw [after0_2, block_out m c t h3]
  idx_vars y
  obtain rfl : y0 = 0 := Subsingleton.elim _ _
  refine (pay_out _ _ _).trans ((Pipeline.eq_sum_fin_of_reset_step_apply_of_flush (M := EReal) (ι := S1024x1024.Idx) (fun n h => (outsAt0 m c n h).2) 4 (fun _ => 0)
    (fun p j => ∑ l : Fin 1024, (max ((show FVec Ideal S1024x1024 .bf16 from iblk m c 0 p) (ix2 l (j 0))) 0 * max ((show FVec Ideal S1024x1024 .bf16 from iblk m c 0 p) (ix2 l (j 0))) 0)
      * (show FVec Ideal S1024x1024 .bf16 from iblk m c 1 p) (ix2 l (j 1)))
    (fun t h j => by rw [outsAt0_A m c t h (by omega)]; frame_out; idx_vars j; exact (pay_add _ _ _ _ _).trans (by rw [pay_zero]))
    (fun t h j => by
      by_cases h1 : t.val % 4 = 3
      · rw [outsAt0_C m c t h h1]; frame_out; idx_vars j
        exact (congrArg (fun A => k0_pay2 (F := Ideal) _ A _ (ix2 j0 j1)) (Memref.IsWhole.read_unread (Memref.isWhole_whole _) _)).trans (pay_add _ _ _ _ _)
      · rw [outsAt0_B m c t h h1]; frame_out; idx_vars j
        exact (congrArg (fun A => k0_pay2 (F := Ideal) _ A _ (ix2 j0 j1)) (Memref.IsWhole.read_unread (Memref.isWhole_whole _) _)).trans (pay_add _ _ _ _ _))
    t h3 _).trans ?_)
  rw [zero_add]
  simp only [grad]
  refine Fin.sum_mul_add_congr fun s k hl => ?_
  have hp := idx ⟨_, Pipeline.run_point_lt_of_flush t h3 s⟩
  blk_point [iblk, V, idx t, hp]

/-- The reshaped array's entry, in the product before the reshape. -/
theorem plain_index (q : Fin 4) (r j : Fin 1024) :
    Cert.Wff2RefIdeal.Read.idx_main_v9 (ix3 q r j) = ix2 (⟨q.val * 1024 + r.val, by omega⟩ : Fin 4096) j := by
  funext a
  match a with
  | ⟨0, _⟩ => exact Fin.ext (show ((q.val * 1024 + r.val) * 1024 + j.val) / 1024 = q.val * 1024 + r.val by omega)
  | ⟨1, _⟩ => exact Fin.ext (show ((q.val * 1024 + r.val) * 1024 + j.val) % 1024 = j.val by omega)

open Cert.Wff2RefIdeal.Read in
/-- The plain program's array at an index. -/
theorem plain (a : (⟨Cert.Wff2RefIdeal.S4096x4096, .bf16⟩ : BufTy).Contents (Elt Ideal))
    (d : (⟨Cert.Wff2RefIdeal.S4096x1024, .bf16⟩ : BufTy).Contents (Elt Ideal)) :
    val_main_v10 (F := Ideal) a d = fun i => grad a d (i 0) (i 1) (i 2) := by
  funext i
  idx_vars i
  refine (val_main_v9_apply a d _).trans ?_
  rw [plain_index]
  pointwise [val_main_v8, val_main_v7, val_main_v6, val_main_v4, val_main_v3, val_main_v2, val_main_cst_0, val_main_v1, grad]
  exact Finset.sum_congr rfl fun l _ => mul_comm _ _

/-- The kernel over the reals computes the plain program's array. -/
theorem value : Cert.algebraic_Wff2Ideal_Wff2RefIdeal := fun m ρ m' ρ' _ hag =>
  ⟨fun c i => grad (m ((c : Thread nD τ).loc main_arg0)) (m ((c : Thread nD τ).loc main_arg1)) (i 0) (i 1) (i 2),
   (θ_run _ _ _).mono (fun r h c => ⟨(h c).1.trans (final m c), (h c).2⟩) (Cert.Wff2Ideal.Value.run_blocks (F := Ideal) m ρ),
   (θ_run _ _ _).mono (fun r h c => by
      obtain ⟨a0, a1⟩ := hag c
      obtain ⟨h0, hargs⟩ := h c
      exact ⟨h0.trans ((Cert.Wff2RefIdeal.Read.val_main_v10_eq _ _).trans ((congr (congrArg _ a0) a1).trans (plain _ _))), hargs⟩)
     (Cert.Wff2RefIdeal.Value.run (F := Ideal) m' ρ')⟩

end Cert.Wff2Value

end
-- ==== Proof.MixFBlock.lean ====
/- What one row block of the spatial-mixing gate computes, over the extended reals. -/
module

public import proofs.«01_k».proof.Proof.MixSModel
public import proofs.«01_k».proof.Proof.Gen.MixFIdeal.Value
public import Idealize.ShloMosaic.Lib.Pipeline.ValueKit
public import Idealize.ShloMosaic.Lib.Pipeline.ReadBack

@[expose] public section

set_option maxRecDepth 16384

noncomputable section

namespace Cert.MixFGate

open Idealize.ShloMosaic

/-! ## The gate of one row, at any extended reals -/

/-- The activation. -/
def gelu (x : EReal) : EReal :=
  Ideal.ofBits .f32 0x3F000000#32 * x * (1 + Ideal.tanh (Ideal.ofBits .f32 0x3F4C422A#32 * x * (1 + Ideal.ofBits .f32 0x3D372713#32 * (x * x))))

/-- A row's mean and its normalised entries. -/
def mean (f : Fin 1024 → EReal) : EReal := Ideal.div (∑ j, f j) (Ideal.ofBits .f32 0x44800000#32)
def unit (f : Fin 1024 → EReal) (j : Fin 1024) : EReal :=
  (f j - mean f) * Ideal.rsqrt (mean (fun l => (f l - mean f) * (f l - mean f)) + Ideal.ofBits .f32 0x358637BD#32)

/-- The normalised and scaled gate input. -/
def scaled (sv : Fin 1024 → EReal) (g b : Fin 1024 → EReal) (j : Fin 1024) : EReal := unit (fun l => gelu (sv l)) j * g j + b j

/-- One output entry: from the entry the gate multiplies, the head's weight row, the chunk's entries of the lane, and the bias. -/
def gated (i : Fin 128) (u : EReal) (w v : Fin 128 → EReal) (b : EReal) : EReal := u * ((∑ s, (if s ≤ i then w s else 0) * v s) + b)

end Cert.MixFGate

namespace Cert.MixFIdeal.Block

open Idealize.ShloMosaic Idealize.ShloMosaic.TcCoe
open Cert.MixFIdeal Cert.MixFIdeal.Gen Cert.MixFGate

/-- The causal mask on a pair of places. -/
theorem mask (i s : Fin 128) : (IntOp.cmpi .sge (BitVec.ofNat 32 i.val) (BitVec.ofNat 32 s.val) = 1) ↔ s ≤ i := by
  refine IntOp.cmpi_sge.trans ?_
  have h : ∀ a : Fin 128, (BitVec.ofNat 32 a.val).toInt = a.val := by decide +kernel
  rw [h, h]
  exact_mod_cast Iff.rfl

/-- A tile: the masked weight against the lane's chunk, the bias, the gate. -/
theorem tile (L : Vec Ideal S1x128x128 .f32) (V : Vec Ideal S128x128 .bf16) (b : Vec Ideal S128x1 .f32) (U : Vec Ideal S128x128 .f32) (i j : Fin 128) :
    k0_pay39 (F := Ideal) k0_pay7 L V b U (ix2 i j) = gated i (U (ix2 i j)) (fun s => L (ix3 0 i s)) (fun s => V (ix2 s j)) (b (ix2 i 0)) := by
  have hw : ∀ s : Fin 128, k0_pay37 (F := Ideal) k0_pay7 L (ix2 i s) = if s ≤ i then L (ix3 0 i s) else (0 : EReal) := fun s => by
    pointwise [k0_pay37, k0_pay7]
    simp only [Scalar.select]
    by_cases hc : s ≤ i
    · rw [if_pos ((mask _ _).2 hc), if_pos hc]
    · rw [if_neg (mt (mask _ _).1 hc), if_neg hc]
  pointwise [k0_pay39]
  simp only [hw]
  rfl

/-- What a block's point leaves, from its blocks. -/
def stored (A B : Vec Ideal S512x1024 .bf16) (C E : Vec Ideal S1x1024 .f32) (W : Vec Ideal S8x128x128 .f32) (G : Vec Ideal S128x8 .f32)
    (i : Fin 512) (j : Fin 1024) : EReal :=
  gated ⟨i.val % 128, by omega⟩ (gelu (A (ix2 i j))) (fun s => W (ix3 ⟨j.val / 128, by omega⟩ ⟨i.val % 128, by omega⟩ s))
    (fun s => scaled (fun l => B (ix2 ⟨128 * (i.val / 128) + s.val, by omega⟩ l)) (fun l => C (ix2 0 l)) (fun l => E (ix2 0 l)) j)
    (G (ix2 ⟨i.val % 128, by omega⟩ ⟨j.val / 128, by omega⟩))

theorem gelu_at (x : Vec Ideal S512x1024 .bf16) (i : Fin 512) (j : Fin 1024) : k0_pay3 (F := Ideal) x (ix2 i j) = gelu (x (ix2 i j)) := by
  pointwise [k0_pay3]
  rfl

theorem gelu_at' (x : Vec Ideal S512x1024 .bf16) (i : Fin 512) (j : Fin 1024) : k0_pay4 (F := Ideal) x (ix2 i j) = gelu (x (ix2 i j)) := by
  pointwise [k0_pay4]
  rfl

theorem scaled_at (x : Vec Ideal S512x1024 .bf16) (g b : Vec Ideal S1x1024 .f32) (i : Fin 512) (j : Fin 1024) :
    k0_pay6 (F := Ideal) (k0_pay4 x) (k0_pay5 x) g b (ix2 i j) = scaled (fun l => x (ix2 i l)) (fun l => g (ix2 0 l)) (fun l => b (ix2 0 l)) j := by
  have hm : ∀ l, k0_pay5 (F := Ideal) x (ix2 i l) = mean (fun l => gelu (x (ix2 i l))) := fun l => by
    pointwise [k0_pay5]
    simp only [gelu_at']
    rfl
  pointwise [k0_pay6]
  simp only [hm, gelu_at']
  rfl

variable (m : (ℓ : Loc nD τ sig) → Buf (Elt Ideal) ℓ)

/-- A tile of a scratch the point filled. -/
theorem filled {κ : Kind} {sp : Space} {e : EltTy} (v : View sig κ sp S512x1024 e) (inb : ∀ a : Fin 2, (![0, 0] : Fin 2 → ℕ) a + (![512, 1024] : Fin 2 → ℕ) a ≤ S512x1024.size a)
    (Z : Vec Ideal S512x1024 e) (r : Rect S512x1024) :
    v.readCov (Val := Elt Ideal) [⟨Rect.unit (s := S512x1024) ![0, 0] ![512, 1024] inb, Z⟩] r.toLoadRect = View.ld Z r :=
  View.readCov_fill (s := S512x1024) v (off := ![0, 0]) inb Z [] r (by decide)

/-- One tile of a point's block: row offset `q`, column offset `r`, head `p`. -/
theorem tile_at (A B : Vec Ideal S512x1024 .bf16) (C E : Vec Ideal S1x1024 .f32) (W : Vec Ideal S8x128x128 .f32) (G : Vec Ideal S128x8 .f32)
    (y : S512x1024.Idx) (x : S128x128.Idx) (p q r : ℕ) (hq : q % 128 = 0 ∧ q < 512) (hr : r = 128 * p ∧ p < 8)
    (h0 : (y 0).val = q + (x 0).val) (h1 : (y 1).val = r + (x 1).val) {i4 i5 i8 i9 iU iV} :
    k0_pay39 (F := Ideal) k0_pay7 (View.ld W (Rect.unit ![p, 0, 0] ![1, 128, 128] i4))
      ((View.whole cc0_scratch1).readCov [⟨Rect.unit ![0, 0] ![512, 1024] i9, k0_pay6 (F := Ideal) (k0_pay4 B) (k0_pay5 B) C E⟩]
        (Rect.unit ![q, r] ![128, 128] iV).toLoadRect)
      (View.ld G (Rect.unit ![0, p] ![128, 1] i5))
      ((View.whole cc0_scratch0).readCov [⟨Rect.unit ![0, 0] ![512, 1024] i8, k0_pay3 (F := Ideal) A⟩]
        (Rect.unit ![q, r] ![128, 128] iU).toLoadRect) x
    = stored A B C E W G (y 0) (y 1) := by
  have eV := filled (e := .bf16) (View.whole cc0_scratch1) i9 (k0_pay6 (F := Ideal) (k0_pay4 B) (k0_pay5 B) C E) (Rect.unit (s := S512x1024) ![q, r] ![128, 128] iV)
  have eU := filled (e := .f32) (View.whole cc0_scratch0) i8 (k0_pay3 (F := Ideal) A) (Rect.unit (s := S512x1024) ![q, r] ![128, 128] iU)
  refine (congrFun (congr (congrArg (fun V U => k0_pay39 (F := Ideal) k0_pay7 (View.ld W (Rect.unit ![p, 0, 0] ![1, 128, 128] i4)) V
    (View.ld G (Rect.unit ![0, p] ![128, 1] i5)) U) eV) eU) x).trans ?_
  obtain ⟨hq, hq'⟩ := hq
  obtain ⟨rfl, hp⟩ := hr
  idx_vars x
  idx_vars y
  have h0 : y0.val = q + x0.val := h0
  have h1 : y1.val = 128 * p + x1.val := h1
  have b0 : x0.val < 128 := x0.isLt
  have b1 : x1.val < 128 := x1.isLt
  have d0 : y0.val < 512 := y0.isLt
  have d1 : y1.val < 1024 := y1.isLt
  refine (tile _ _ _ _ _ _).trans ?_
  show _ = stored A B C E W G y0 y1
  unfold stored
  have r0 : (⟨y0.val % 128, by omega⟩ : Fin 128) = x0 := Fin.ext (by show y0.val % 128 = _; omega)
  have hU : View.ld (Val := Elt Ideal) (e' := .f32) (S := S512x1024) (k0_pay3 (F := Ideal) A) (Rect.unit ![q, 128 * p] ![128, 128] iU) (ix2 x0 x1) = gelu (A (ix2 y0 y1)) := by
    rw [View.ld_unit_apply_of _ _ _ _ _ (ix2 y0 y1) (by intro a; fin_cases a; exacts [h0, h1]), gelu_at]
  have hW : ∀ s : Fin 128, View.ld (Val := Elt Ideal) (e' := .f32) (S := S8x128x128) W (Rect.unit ![p, 0, 0] ![1, 128, 128] i4) (ix3 0 x0 s) = W (ix3 ⟨y1.val / 128, by omega⟩ x0 s) := fun s =>
    View.ld_unit_apply_of _ _ _ _ _ _ (by intro a; fin_cases a; exacts [show y1.val / 128 = p + 0 by omega, (Nat.zero_add _).symm, (Nat.zero_add _).symm])
  have hG : View.ld (Val := Elt Ideal) (e' := .f32) (S := S128x8) G (Rect.unit ![0, p] ![128, 1] i5) (ix2 x0 0) = G (ix2 x0 ⟨y1.val / 128, by omega⟩) :=
    View.ld_unit_apply_of _ _ _ _ _ _ (by intro a; fin_cases a; exacts [(Nat.zero_add _).symm, show y1.val / 128 = p + 0 by omega])
  have hV : ∀ s : Fin 128, View.ld (Val := Elt Ideal) (e' := .bf16) (S := S512x1024) (k0_pay6 (F := Ideal) (k0_pay4 B) (k0_pay5 B) C E) (Rect.unit ![q, 128 * p] ![128, 128] iV) (ix2 s x1)
      = scaled (fun l => B (ix2 ⟨128 * (y0.val / 128) + s.val, by omega⟩ l)) (fun l => C (ix2 0 l)) (fun l => E (ix2 0 l)) y1 := fun s => by
    rw [View.ld_unit_apply_of _ _ _ _ _ (ix2 ⟨128 * (y0.val / 128) + s.val, by omega⟩ y1)
      (by intro a; fin_cases a; exacts [show 128 * (y0.val / 128) + s.val = q + s.val by omega, h1]), scaled_at]
  simp only [r0]
  rw [hU, hG]
  simp only [hW, hV]

theorem point (c : Dev nD) (t : Fin cfg0.N) (y : S512x1024.Idx) :
    outsAt0 m c t y = stored (iblk m c 0 t) (iblk m c 1 t) (iblk m c 2 t) (iblk m c 3 t) (iblk m c 4 t) (iblk m c 5 t) (y 0) (y 1) := by
  unfold outsAt0
  frame_out
  canon_tiles x h
  all_goals
    refine (tile_at _ _ _ _ _ _ y x _ _ _ ?_ ?_ ?_ ?_)
    exacts [by decide, by decide,
      (by first | exact h0 | exact h0.trans (Nat.zero_add _).symm),
      (by first | exact h1 | exact h1.trans (Nat.zero_add _).symm)]

end Cert.MixFIdeal.Block

end
-- ==== Proof.MixFValue.lean ====
/- The spatial-mixing gate: the kernel's array and the plain program's array are the same closed form of the arguments. -/
module

public import proofs.«01_k».proof.Defs
public import proofs.«01_k».proof.Proof.MixFBlock
public import proofs.«01_k».proof.Proof.Gen.MixFRefIdeal.Read

@[expose] public section

set_option maxRecDepth 16384

noncomputable section

namespace Cert.MixFGate

open Idealize.ShloMosaic

/-- The result at a row and a lane, from the arguments. -/
def gate (x0 : FVec Ideal ⟨2, ![4096, 10240]⟩ .bf16) (x1 x2 : FVec Ideal ⟨1, ![1024]⟩ .f32) (x3 : FVec Ideal ⟨3, ![8, 128, 128]⟩ .f32)
    (x4 : FVec Ideal ⟨2, ![8, 128]⟩ .f32) (r : Fin 4096) (j : Fin 1024) : EReal :=
  gated ⟨r.val % 128, by omega⟩ (gelu (x0 (ix2 r ⟨5120 + j.val, by omega⟩))) (fun s => x3 (ix3 ⟨j.val / 128, by omega⟩ ⟨r.val % 128, by omega⟩ s))
    (fun s => scaled (fun l => x0 (ix2 ⟨128 * (r.val / 128) + s.val, by omega⟩ ⟨6144 + l.val, by omega⟩)) (fun l => x1 (ix1 l)) (fun l => x2 (ix1 l)) j)
    (x4 (ix2 ⟨j.val / 128, by omega⟩ ⟨r.val % 128, by omega⟩))

/-- The cubic term's factor. -/
theorem ofBits_cubic : Ideal.ofBits .f32 0x3D372713#32 = ((12003091 / 268435456 : ℝ) : EReal) := by
  simp [Ideal.ofBits, Ideal.ieee]
  rw [← EReal.coe_mul]
  norm_num

/-- The two ways of writing what the tangent is taken of agree, at the infinities too. -/
theorem arg_eq (x : EReal) :
    Ideal.ofBits .f32 0x3F4C422A#32 * x * (1 + Ideal.ofBits .f32 0x3D372713#32 * (x * x))
      = Ideal.ofBits .f32 0x3F4C422A#32 * (x + Ideal.ofBits .f32 0x3D372713#32 * (x * x * x)) := by
  have hs : (0 : ℝ) < MixSModel.slope := by unfold MixSModel.slope; norm_num
  have hc : (0 : ℝ) < 12003091 / 268435456 := by norm_num
  rw [ofBits_cubic, MixSModel.ofBits_slope]
  induction x with
  | bot =>
    rw [EReal.bot_mul_bot, EReal.coe_mul_top_of_pos hc, EReal.coe_mul_bot_of_pos hs, EReal.top_mul_bot, EReal.coe_mul_bot_of_pos hc, EReal.bot_add, EReal.coe_mul_bot_of_pos hs]
    rfl
  | top =>
    rw [EReal.top_mul_top, EReal.top_mul_top, EReal.coe_mul_top_of_pos hc, EReal.coe_mul_top_of_pos hs, EReal.top_add_top, EReal.coe_mul_top_of_pos hs, MixSModel.one_coe, EReal.coe_add_top, EReal.top_mul_top]
  | coe x =>
    simp only [MixSModel.one_coe, MixSModel.mul_coe, MixSModel.add_coe]
    congr 1
    ring

end Cert.MixFGate

namespace Cert.MixFRefIdeal.Val

open Idealize.ShloMosaic Idealize.ShloMosaic.TcCoe
open Cert.MixFRefIdeal Cert.MixFRefIdeal.Gen Cert.MixFRefIdeal.Read Cert.MixFGate

variable (x0 : FVec Ideal ⟨2, ![4096, 10240]⟩ .bf16) (x1 x2 : FVec Ideal ⟨1, ![1024]⟩ .f32) (x3 : FVec Ideal ⟨3, ![8, 128, 128]⟩ .f32)
    (x4 : FVec Ideal ⟨2, ![8, 128]⟩ .f32)

/-- The gate's two halves of a row. -/
def su (r : Fin 4096) (j : Fin 1024) : EReal := x0 (ix2 r ⟨5120 + j.val, by omega⟩)
def sv (r : Fin 4096) (j : Fin 1024) : EReal := x0 (ix2 r ⟨6144 + j.val, by omega⟩)

theorem su_eq (r : Fin 4096) (j : Fin 1024) : val_main_v1 (F := Ideal) x0 (ix2 r j) = su x0 r j := by
  pointwise [val_main_v1, val_main_v0, su]

theorem sv_eq (r : Fin 4096) (j : Fin 1024) : val_main_v3 (F := Ideal) x0 (ix2 r j) = sv x0 r j := by
  pointwise [val_main_v3, val_main_v2, sv]

theorem u_eq (r : Fin 4096) (j : Fin 1024) : val_main_v16 (F := Ideal) x0 (ix2 r j) = gelu (su x0 r j) := by
  pointwise [val_main_v16, val_main_v15, val_main_v14, val_main_v13, val_main_v12, val_main_v11, val_main_v10, val_main_v9, val_main_v8, val_main_v7, val_main_v6, val_main_v5, val_main_v4, val_main_cst, val_main_cst_0, val_main_cst_1, val_main_cst_2]
  simp only [su_eq]
  rw [← arg_eq, gelu]
  ac_rfl

theorem v_eq (r : Fin 4096) (j : Fin 1024) : val_main_v29 (F := Ideal) x0 (ix2 r j) = gelu (sv x0 r j) := by
  pointwise [val_main_v29, val_main_v28, val_main_v27, val_main_v26, val_main_v25, val_main_v24, val_main_v23, val_main_v22, val_main_v21, val_main_v20, val_main_v19, val_main_v18, val_main_v17, val_main_cst_3, val_main_cst_4, val_main_cst_5, val_main_cst_6]
  simp only [sv_eq]
  rw [← arg_eq, gelu]
  ac_rfl

theorem mean_eq (r : Fin 4096) : val_main_v38 (F := Ideal) x0 (ix2 r 0) = mean (fun l => gelu (sv x0 r l)) := by
  pointwise [val_main_v38, val_main_v37, val_main_v36, val_main_v35, val_main_cst_8, val_main_cst_9]
  simp only [v_eq]
  rfl

theorem vn_eq (r : Fin 4096) (j : Fin 1024) : val_main_v58 (F := Ideal) x0 x1 x2 (ix2 r j)
    = scaled (fun l => sv x0 r l) (fun l => x1 (ix1 l)) (fun l => x2 (ix1 l)) j := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst_10, val_main_cst_11, val_main_cst_12]
  simp only [v_eq, mean_eq]
  rfl

theorem vn_tile (q : Fin 32) (s : Fin 128) (h : Fin 8) (d : Fin 128) : val_main_v59 (F := Ideal) x0 x1 x2 (ix4 q s h d)
    = scaled (fun l => sv x0 ⟨128 * q.val + s.val, by omega⟩ l) (fun l => x1 (ix1 l)) (fun l => x2 (ix1 l)) ⟨128 * h.val + d.val, by omega⟩ := by
  rw [← vn_eq]
  pointwise [val_main_v59]
  exact congrArg₂ (fun a b => val_main_v58 (F := Ideal) x0 x1 x2 (ix2 a b)) (Fin.ext (by show q.val * 128 + s.val = 128 * q.val + s.val; omega))
    (Fin.ext (by show h.val * 128 + d.val = 128 * h.val + d.val; omega))

theorem w_eq (h : Fin 8) (i s : Fin 128) : val_main_v34 (F := Ideal) x3 (ix3 h i s) = if s ≤ i then x3 (ix3 h i s) else (0 : EReal) := by
  pointwise [val_main_v34, val_main_v33, val_main_v32, val_main_v31, val_main_v30, val_main_c, val_main_cst_7, val_main_call0_v0, val_main_call0_v1, val_main_call0_v2, val_main_call0_v3, val_main_call0_v4, val_main_call0_v5, val_main_call0_c, val_main_call0_c_0, val_main_call1_v0]
  have hm : IntOp.cmpi .sge (IntOp.addi (BitVec.ofNat 32 i.val) 0#32) (BitVec.ofNat 32 s.val) = 1 ↔ s ≤ i := by
    refine IntOp.cmpi_sge.trans ?_
    have h : ∀ a : Fin 128, (BitVec.ofNat 32 a.val).toInt = a.val := by decide +kernel
    have h' : ∀ a : Fin 128, (IntOp.addi (BitVec.ofNat 32 a.val) 0#32).toInt = a.val := by decide +kernel
    rw [h, h']
    exact_mod_cast Iff.rfl
  by_cases hc : s ≤ i
  · exact (if_pos (if_pos (hm.2 hc))).trans (if_pos hc).symm
  · exact (if_neg (fun h => (show ¬(0#1 : BitVec 1) = 1 by decide) ((if_neg (mt hm.1 hc)).symm.trans h))).trans (if_neg hc).symm

theorem plain : val_main_v69 (F := Ideal) x0 x1 x2 x3 x4 = fun i => gate x0 x1 x2 x3 x4 (i 0) (i 1) := by
  funext i
  idx_vars i
  show _ = gate x0 x1 x2 x3 x4 i0 i1
  pointwise [val_main_v69, val_main_v68, val_main_v67, val_main_v66, val_main_v65, val_main_v64, val_main_v63, val_main_v62, val_main_v61, val_main_v60]
  simp only [u_eq, vn_tile, w_eq]
  have e : (⟨128 * (i1.val / 128) + i1.val % 128, by omega⟩ : Fin 1024) = i1 := Fin.ext (Nat.div_add_mod _ _)
  simp only [e]
  unfold gate gated
  refine congrArg₂ (· * ·) rfl (congrArg (· + _) (Finset.sum_congr rfl fun s _ => mul_comm _ _))

end Cert.MixFRefIdeal.Val

namespace Cert.MixFValue

open Idealize.ShloMosaic Idealize.ShloMosaic.TcCoe
open Cert.MixFIdeal Cert.MixFIdeal.Gen Cert.MixFIdeal.Block Cert.MixFGate

/-- Where each window's block sits. -/
theorem idx : ∀ t : Fin cfg0.N, win0_0.index t = ![t.val, 5] ∧ win0_1.index t = ![t.val, 6] ∧ win0_2.index t = ![0, 0] ∧ win0_3.index t = ![0, 0]
    ∧ win0_4.index t = ![0, 0, 0] ∧ win0_5.index t = ![0, 0] ∧ win0_6.index t = ![t.val, 0] ∧ t.val < 8 :=
  (by decide +kernel : ∀ t : Fin grid0.N, _)

variable (m : (ℓ : Loc nD τ sig) → Buf (Elt Ideal) ℓ) (c : Dev nD)

/-- The final array, from the argument arrays. -/
def final (c : Dev nD) : S4096x1024.Idx → EReal := fun i =>
  gate (m ((c : Thread nD τ).loc main_arg0)) (m ((c : Thread nD τ).loc main_arg1)) (m ((c : Thread nD τ).loc main_arg2)) (m ((c : Thread nD τ).loc main_arg3))
    (m ((c : Thread nD τ).loc main_arg4)) (i 0) (i 1)

theorem arr : (dats m 0 c).arrAt 6 (cfgs 0).N = final m c := by
  refine (dats m 0 c).arrAt_eq_of_covers 6 _ (by decide +kernel) fun t hf y => ?_
  blk_simp
  rw [after0_6]
  refine (point m c t _).trans ?_
  idx_vars y
  have ht : t.val < 8 := (idx t).2.2.2.2.2.2.2
  have E0 : ((win0_6.blk t).view.emb (ix2 y0 y1) 0) = (⟨512 * t.val + y0.val, by omega⟩ : Fin 4096) := Fin.ext (by blk_simp [idx t]; exact congrArg (· + y0.val) (mul_comm _ _))
  have E1 : ((win0_6.blk t).view.emb (ix2 y0 y1) 1) = y1 := Fin.ext (by blk_simp [idx t])
  show stored _ _ _ _ _ _ y0 y1 = final m c ((win0_6.blk t).view.emb (ix2 y0 y1))
  unfold final
  rw [E0, E1]
  have d0 : y0.val < 512 := y0.isLt
  have q0 : ((512 * t.val + y0.val) % 128) = y0.val % 128 := by omega
  have q1 : 128 * ((512 * t.val + y0.val) / 128) = 512 * t.val + 128 * (y0.val / 128) := by omega
  unfold stored gate
  simp only [q0]
  have a0 : ∀ i j, (iblk m c 0 t : FVec Ideal S512x1024 .bf16) (ix2 i j)
      = (m ((c : Thread nD τ).loc main_arg0) : FVec Ideal S4096x10240 .bf16) (ix2 ⟨512 * t.val + i.val, by omega⟩ ⟨5120 + j.val, by omega⟩) := fun i j => by
    blk_point [iblk, V, idx t]
  have a1 : ∀ i j, (iblk m c 1 t : FVec Ideal S512x1024 .bf16) (ix2 i j)
      = (m ((c : Thread nD τ).loc main_arg0) : FVec Ideal S4096x10240 .bf16) (ix2 ⟨512 * t.val + i.val, by omega⟩ ⟨6144 + j.val, by omega⟩) := fun i j => by
    blk_point [iblk, V, idx t]
  have a2 : ∀ j, (iblk m c 2 t : FVec Ideal S1x1024 .f32) (ix2 0 j) = (m ((c : Thread nD τ).loc main_arg1) : FVec Ideal S1024 .f32) (ix1 j) := fun j => by
    blk_point [iblk, V, idx t]
  have a3 : ∀ j, (iblk m c 3 t : FVec Ideal S1x1024 .f32) (ix2 0 j) = (m ((c : Thread nD τ).loc main_arg2) : FVec Ideal S1024 .f32) (ix1 j) := fun j => by
    blk_point [iblk, V, idx t]
  have a4 : ∀ h i s, (iblk m c 4 t : FVec Ideal S8x128x128 .f32) (ix3 h i s) = (m ((c : Thread nD τ).loc main_arg3) : FVec Ideal S8x128x128 .f32) (ix3 h i s) := fun h i s => by
    blk_point [iblk, V, idx t]
  have a5 : ∀ i h, (iblk m c 5 t : FVec Ideal S128x8 .f32) (ix2 i h) = (m ((c : Thread nD τ).loc main_arg4) : FVec Ideal S8x128 .f32) (ix2 h i) := fun i h => by
    blk_point [iblk, V, idx t]
  have q2 : ∀ s : Fin 128, (⟨128 * ((512 * t.val + y0.val) / 128) + s.val, by omega⟩ : Fin 4096) = ⟨512 * t.val + (128 * (y0.val / 128) + s.val), by omega⟩ :=
    fun s => Fin.ext (by show 128 * ((512 * t.val + y0.val) / 128) + s.val = 512 * t.val + (128 * (y0.val / 128) + s.val); omega)
  simp only [q2, a0, a1, a2, a3, a4, a5]

/-- The kernel over the reals computes the plain program's array. -/
theorem value : Cert.algebraic_MixFIdeal_MixFRefIdeal := fun m ρ m' ρ' _ hag =>
  ⟨fun c => final m c,
   (θ_run _ _ _).mono (fun r h c => ⟨(h c).1.trans (arr m c), (h c).2⟩) (Cert.MixFIdeal.Value.run_blocks (F := Ideal) m ρ),
   (θ_run _ _ _).mono (fun r h c => by
      obtain ⟨a0, a1, a2, a3, a4⟩ := hag c
      obtain ⟨h0, hargs⟩ := h c
      exact ⟨h0.trans ((Cert.MixFRefIdeal.Read.val_main_v69_eq _ _).trans
        ((congr (congr (congr (congr (congrArg _ a0) a1) a2) a3) a4).trans (Cert.MixFRefIdeal.Val.plain _ _ _ _ _))), hargs⟩)
     (Cert.MixFRefIdeal.Value.run (F := Ideal) m' ρ')⟩

end Cert.MixFValue

end
-- ==== Proof.Carry.lean ====
/- What a window's buffer holds between points where the body does not store into it, and handing it back. -/
module

public import Idealize.ShloMosaic.Lib.Pipeline.FrameBody

@[expose] public section

noncomputable section

namespace Cert.Carry

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ₀ : Idealize.SL.Sem.Labels}
variable {Ix : Type} [DecidableEq Ix] {Name : Type} [DecidableEq Name] {U : Type} [URA U] {Lvl : Type} [Preorder Lvl]
variable {cfg : Cfg sig Λ₀} {c : Dev nD} (dat : Dat τ Val Ix Name U Lvl cfg c) (w : Fin cfg.W)

/-- A window never fetched, while its block is not written back: at a point where `good` holds its buffer holds
    `val` of the point, if each step keeps that, storing or not. -/
theorem carried (hn : ∀ t, (cfg.win w).fetch t = false) (hk : ∀ t d, dat.kept w t d = dat.after w t)
    (val : ℕ → (cfg.win w).block.Idx → Val (cfg.win w).elt) (good : ℕ → Prop) (h0 : ¬good 0)
    (hstep : ∀ t : Fin cfg.N, t.val + 1 < cfg.N → good (t.val + 1) → (cfg.win w).flush t = false
      ∧ (cfg.idle w (cfg.grid.coords t) = true → good t.val ∧ val (t.val + 1) = val t.val)
      ∧ (cfg.idle w (cfg.grid.coords t) = false → dat.after w t = val (t.val + 1))) :
    ∀ (n : ℕ) (h : n < cfg.N), good n → ∀ d, dat.before w ⟨n, h⟩ d = val n := by
  intro n
  induction n with
  | zero => intro _ hg; exact absurd hg h0
  | succ n ih =>
    intro h hg d
    have hs := hstep ⟨n, Nat.lt_of_succ_lt h⟩ h hg
    rw [dat.before_of_pos w ⟨n + 1, h⟩ (Nat.succ_ne_zero n) (hn _)]
    show (if (cfg.win w).flush ⟨n, Nat.lt_of_succ_lt h⟩ then d else dat.left w ⟨n, Nat.lt_of_succ_lt h⟩ d) = _
    rw [hs.1, if_neg Bool.false_ne_true]
    unfold Dat.left
    cases e : cfg.idle w (cfg.grid.coords ⟨n, Nat.lt_of_succ_lt h⟩) with
    | true => exact (ih (Nat.lt_of_succ_lt h) (hs.2.1 e).1 d).trans (hs.2.1 e).2.symm
    | false => exact (hk _ d).trans (hs.2.2 e)

/-- A buffer is handed back at contents `X` where these are what the window leaves, or what it was found with. -/
theorem hand (t : Fin cfg.N) (X : (cfg.win w).block.Idx → Val (cfg.win w).elt)
    (hl : cfg.idle w (cfg.grid.coords t) = false → X = dat.after w t)
    (hi : cfg.idle w (cfg.grid.coords t) = true → ((cfg.win w).flush t = true → X = dat.after w t) ∧ ∃ d, X = dat.before w t d) :
    owns c ((cfg.win w).stage (cfg.slots t w)) fullShare X ⊢ (dat.leavesExact w t : sProp (MT nD τ sig Ix Val Name U Lvl)) := by
  cases e : cfg.idle w (cfg.grid.coords t) with
  | false => unfold Dat.leavesExact; rw [e, hl e]
  | true =>
    cases ef : (cfg.win w).flush t with
    | true => unfold Dat.leavesExact; rw [e, ef, (hi e).1 ef]
    | false =>
      rw [dat.leavesExact_idle w t e ef]
      obtain ⟨d, hd⟩ := (hi e).2
      rw [hd]
      iintro H
      iexists d
      iexact H

/-- A window never idle is handed back as left. -/
theorem live (t : Fin cfg.N) (h : cfg.idle w (cfg.grid.coords t) = false) :
    (dat.leavesExact w t : sProp (MT nD τ sig Ix Val Name U Lvl)) = owns c ((cfg.win w).stage (cfg.slots t w)) fullShare (dat.after w t) := by
  unfold Dat.leavesExact; rw [h]

end Cert.Carry

end
-- ==== Proof.FfnBody.lean ====
/- The kernel function of the feed-forward gradient as four parts, and what each part does to the buffers. -/
module

public import proofs.«01_k».proof.Proof.Gen.FfnIdeal.Skeleton
public import proofs.«01_k».proof.Proof.Gen.FfnIdeal.Points
public import Idealize.ShloMosaic.Lib.Pipeline.FrameBody
public import Idealize.ShloMosaic.Lib.Tactic
public import Idealize.ShloMosaic.Lib.VecWindow

@[expose] public section

set_option maxRecDepth 65536

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

local notation "𝕄" => MT nD τ sig Unit (Elt F) ℕ (UR sig nD τ) ℕ

/-- A kernel program of this certificate. -/
abbrev P (α : Type) : Type 1 := Prog (TpuEff nD τ sig (Elt F) Λ₀ .tc) α

/-- The blocks a point reads. -/
structure In (F : FTy → Type) where
  ct : Vec F S1024x1024 .f32
  f : Vec F S1024x1024 .bf16
  g4 : Vec F S1x1024 .f32
  a : Vec F S1024x512 .bf16
  w2 : Vec F S512x1024 .bf16
  w1 : Vec F S1x1024x512 .bf16
  x : Vec F S1024x1024 .f32
  g3 : Vec F S1x1024 .f32

/-- The buffers it writes: the five results' and the two it keeps for itself. -/
structure St (F : FTy → Type) where
  df : Vec F S1024x1024 .bf16
  da : Vec F S1024x512 .bf16
  dx : Vec F S1024x1024 .f32
  d4 : Vec F S1x1024 .f32
  d3 : Vec F S1x1024 .f32
  dk : Vec F S1024x1024 .bf16
  acc : Vec F S1024x1024 .f32

/-- The sums start at zero; -/
def zeroS (s : St F) : St F := { s with d4 := k0_pay11, d3 := k0_pay12 }
/-- a row block's first point takes the gradient of the outer norm, and clears the product; -/
def firstS (x : In F) (s : St F) : St F :=
  { s with d4 := k0_pay8 x.ct x.f s.d4, dk := k0_pay10 x.ct x.f x.g4, df := k0_pay9 x.ct x.f x.g4, acc := k0_pay13 }
/-- every point takes a slice of the hidden gradient, and adds its product; -/
def midS (x : In F) (s : St F) : St F :=
  { s with da := k0_pay14 x.a s.dk x.w2, acc := k0_pay15 x.a s.dk x.w2 s.acc x.w1 }
/-- the last takes the inner norm's. -/
def lastS (x : In F) (s : St F) : St F :=
  { s with d3 := k0_pay3 s.acc x.x s.d3, dx := k0_pay4 s.acc x.x x.g3 x.ct }

/-- What a point does to the buffers. -/
def step (i : grid0.Coords) (x : In F) (s : St F) : St F :=
  let s1 := if k0_cond1 i = 1#1 then zeroS s else s
  let s2 := if k0_cond2 i = 1#1 then firstS x s1 else s1
  let s3 := midS x s2
  if k0_cond3 i = 1#1 then lastS x s3 else s3

section Program

variable (a2 : Memref sig .tc .vmem S1024x1024 .f32) (a3 : Memref sig .tc .vmem S1024x1024 .bf16) (a4 : Memref sig .tc .vmem S1x1024 .f32)
  (a5 : Memref sig .tc .vmem S1024x512 .bf16) (a6 : Memref sig .tc .vmem S512x1024 .bf16) (a7 : Memref sig .tc .vmem S1x1024x512 .bf16)
  (a8 : Memref sig .tc .vmem S1024x1024 .f32) (a9 : Memref sig .tc .vmem S1x1024 .f32)
  (a11 : Memref sig .tc .vmem S1024x1024 .bf16) (ha11 : a11.IsWhole) (a12 : Memref sig .tc .vmem S1024x512 .bf16) (ha12 : a12.IsWhole)
  (a13 : Memref sig .tc .vmem S1024x1024 .f32) (a14 a15 : Memref sig .tc .vmem S1x1024 .f32)
  (a16 : Memref sig .tc .vmem S1024x1024 .bf16) (ha16 : a16.IsWhole) (a17 : Memref sig .tc .vmem S1024x1024 .f32)

noncomputable def zeroP : P (F := F) PUnit := do
  let _ : Vec F S1x1024 .f32 ← Prog.lift (.load a14 (Rect.unit ![0, 0] S1x1024.size inb_S1x1024_S1x1024_0_0).toLoadRect (View.loadsAt_vmem h_S1x1024))
  Prog.lift (.store a14 (Rect.unit ![0, 0] S1x1024.size inb_S1x1024_S1x1024_0_0) (k0_pay11 (F := F)) Finset.univ (View.stores_vmem_bits_univ h_S1x1024 rfl) (.inl rfl))
  let _ : Vec F S1x1024 .f32 ← Prog.lift (.load a15 (Rect.unit ![0, 0] S1x1024.size inb_S1x1024_S1x1024_0_0).toLoadRect (View.loadsAt_vmem h_S1x1024))
  Prog.lift (.store a15 (Rect.unit ![0, 0] S1x1024.size inb_S1x1024_S1x1024_0_0) (k0_pay12 (F := F)) Finset.univ (View.stores_vmem_bits_univ h_S1x1024 rfl) (.inl rfl))

noncomputable def firstP : P (F := F) PUnit := do
  let y : Vec F S1024x1024 .f32 ← Prog.lift (.load a2 (Rect.unit ![0, 0] S1024x1024.size inb_S1024x1024_S1024x1024_0_0).toLoadRect (View.loadsAt_vmem h_S1024x1024))
  let f : Vec F S1024x1024 .bf16 ← Prog.lift (.load a3 (Rect.unit ![0, 0] S1024x1024.size inb_S1024x1024_S1024x1024_0_0).toLoadRect (View.loadsAt_vmem h_S1024x1024))
  let g : Vec F S1x1024 .f32 ← Prog.lift (.load a4 (Rect.unit ![0, 0] S1x1024.size inb_S1x1024_S1x1024_0_0).toLoadRect (View.loadsAt_vmem h_S1x1024))
  let s : Vec F S1x1024 .f32 ← Prog.lift (.load a14 (Rect.unit ![0, 0] S1x1024.size inb_S1x1024_S1x1024_0_0).toLoadRect (View.loadsAt_vmem h_S1x1024))
  let _ : Vec F S1x1024 .f32 ← Prog.lift (.load a14 (Rect.unit ![0, 0] S1x1024.size inb_S1x1024_S1x1024_0_0).toLoadRect (View.loadsAt_vmem h_S1x1024))
  Prog.lift (.store a14 (Rect.unit ![0, 0] S1x1024.size inb_S1x1024_S1x1024_0_0) (k0_pay8 y f s) Finset.univ (View.stores_vmem_bits_univ h_S1x1024 rfl) (.inl rfl))
  let _ : Vec F S1024x1024 .bf16 ← Prog.lift (.load a16 (Rect.unit ![0, 0] S1024x1024.size inb_S1024x1024_S1024x1024_0_0).toLoadRect (View.loadsAt_vmem h_S1024x1024))
  Prog.lift (.store a16 (Rect.unit ![0, 0] S1024x1024.size inb_S1024x1024_S1024x1024_0_0) (k0_pay10 y f g) Finset.univ (View.stores_vmem h_S1024x1024 (ha16.storeExact_slice rfl _ packedbf16_S1024x1024_S1024x1024_0_0) (fun _ => rfl)) (.inl rfl))
  let _ : Vec F S1024x1024 .bf16 ← Prog.lift (.load a11 (Rect.unit ![0, 0] S1024x1024.size inb_S1024x1024_S1024x1024_0_0).toLoadRect (View.loadsAt_vmem h_S1024x1024))
  Prog.lift (.store a11 (Rect.unit ![0, 0] S1024x1024.size inb_S1024x1024_S1024x1024_0_0) (k0_pay9 y f g) Finset.univ (View.stores_vmem h_S1024x1024 (ha11.storeExact_slice rfl _ packedbf16_S1024x1024_S1024x1024_0_0) (fun _ => rfl)) (.inl rfl))
  let _ : Vec F S1024x1024 .f32 ← Prog.lift (.load a17 (Rect.unit ![0, 0] S1024x1024.size inb_S1024x1024_S1024x1024_0_0).toLoadRect (View.loadsAt_vmem h_S1024x1024))
  Prog.lift (.store a17 (Rect.unit ![0, 0] S1024x1024.size inb_S1024x1024_S1024x1024_0_0) (k0_pay13 (F := F)) Finset.univ (View.stores_vmem_bits_univ h_S1024x1024 rfl) (.inl rfl))

noncomputable def midP : P (F := F) PUnit := do
  let a : Vec F S1024x512 .bf16 ← Prog.lift (.load a5 (Rect.unit ![0, 0] S1024x512.size inb_S1024x512_S1024x512_0_0).toLoadRect (View.loadsAt_vmem h_S1024x512))
  let k : Vec F S1024x1024 .bf16 ← Prog.lift (.load a16 (Rect.unit ![0, 0] S1024x1024.size inb_S1024x1024_S1024x1024_0_0).toLoadRect (View.loadsAt_vmem h_S1024x1024))
  let v : Vec F S512x1024 .bf16 ← Prog.lift (.load a6 (Rect.unit ![0, 0] S512x1024.size inb_S512x1024_S512x1024_0_0).toLoadRect (View.loadsAt_vmem h_S512x1024))
  let _ : Vec F S1024x512 .bf16 ← Prog.lift (.load a12 (Rect.unit ![0, 0] S1024x512.size inb_S1024x512_S1024x512_0_0).toLoadRect (View.loadsAt_vmem h_S1024x512))
  Prog.lift (.store a12 (Rect.unit ![0, 0] S1024x512.size inb_S1024x512_S1024x512_0_0) (k0_pay14 a k v) Finset.univ (View.stores_vmem h_S1024x512 (ha12.storeExact_slice rfl _ packedbf16_S1024x512_S1024x512_0_0) (fun _ => rfl)) (.inl rfl))
  let s : Vec F S1024x1024 .f32 ← Prog.lift (.load a17 (Rect.unit ![0, 0] S1024x1024.size inb_S1024x1024_S1024x1024_0_0).toLoadRect (View.loadsAt_vmem h_S1024x1024))
  let u : Vec F S1x1024x512 .bf16 ← Prog.lift (.load a7 (Rect.unit ![0, 0, 0] S1x1024x512.size inb_S1x1024x512_S1x1024x512_0_0_0).toLoadRect (View.loadsAt_vmem h_S1x1024x512))
  let _ : Vec F S1024x1024 .f32 ← Prog.lift (.load a17 (Rect.unit ![0, 0] S1024x1024.size inb_S1024x1024_S1024x1024_0_0).toLoadRect (View.loadsAt_vmem h_S1024x1024))
  Prog.lift (.store a17 (Rect.unit ![0, 0] S1024x1024.size inb_S1024x1024_S1024x1024_0_0) (k0_pay15 a k v s u) Finset.univ (View.stores_vmem_bits_univ h_S1024x1024 rfl) (.inl rfl))

noncomputable def lastP : P (F := F) PUnit := do
  let s : Vec F S1024x1024 .f32 ← Prog.lift (.load a17 (Rect.unit ![0, 0] S1024x1024.size inb_S1024x1024_S1024x1024_0_0).toLoadRect (View.loadsAt_vmem h_S1024x1024))
  let x : Vec F S1024x1024 .f32 ← Prog.lift (.load a8 (Rect.unit ![0, 0] S1024x1024.size inb_S1024x1024_S1024x1024_0_0).toLoadRect (View.loadsAt_vmem h_S1024x1024))
  let g : Vec F S1x1024 .f32 ← Prog.lift (.load a9 (Rect.unit ![0, 0] S1x1024.size inb_S1x1024_S1x1024_0_0).toLoadRect (View.loadsAt_vmem h_S1x1024))
  let d : Vec F S1x1024 .f32 ← Prog.lift (.load a15 (Rect.unit ![0, 0] S1x1024.size inb_S1x1024_S1x1024_0_0).toLoadRect (View.loadsAt_vmem h_S1x1024))
  let _ : Vec F S1x1024 .f32 ← Prog.lift (.load a15 (Rect.unit ![0, 0] S1x1024.size inb_S1x1024_S1x1024_0_0).toLoadRect (View.loadsAt_vmem h_S1x1024))
  Prog.lift (.store a15 (Rect.unit ![0, 0] S1x1024.size inb_S1x1024_S1x1024_0_0) (k0_pay3 s x d) Finset.univ (View.stores_vmem_bits_univ h_S1x1024 rfl) (.inl rfl))
  let y : Vec F S1024x1024 .f32 ← Prog.lift (.load a2 (Rect.unit ![0, 0] S1024x1024.size inb_S1024x1024_S1024x1024_0_0).toLoadRect (View.loadsAt_vmem h_S1024x1024))
  let _ : Vec F S1024x1024 .f32 ← Prog.lift (.load a13 (Rect.unit ![0, 0] S1024x1024.size inb_S1024x1024_S1024x1024_0_0).toLoadRect (View.loadsAt_vmem h_S1024x1024))
  Prog.lift (.store a13 (Rect.unit ![0, 0] S1024x1024.size inb_S1024x1024_S1024x1024_0_0) (k0_pay4 s x g y) Finset.univ (View.stores_vmem_bits_univ h_S1024x1024 rfl) (.inl rfl))

/-- The body as printed, up to the last condition: what follows a condition is written into both of its branches; -/
noncomputable def front (i : grid0.Coords) : P (F := F) (BitVec 32) := do
  if k0_cond1 i = 1#1 then zeroP a14 a15 else pure ⟨⟩
  if k0_cond2 i = 1#1 then firstP a2 a3 a4 a11 ha11 a14 a16 ha16 a17 else pure ⟨⟩
  midP a5 a6 a7 a12 ha12 a16 a17
  pure (BitVec.ofNat 32 (i 1).val)

/-- the whole of it; -/
noncomputable def branches (i : grid0.Coords) : P (F := F) PUnit := do
  let _ ← front a2 a3 a4 a5 a6 a7 a11 ha11 a12 ha12 a14 a15 a16 ha16 a17 i
  if k0_cond3 i = 1#1 then lastP a2 a8 a9 a13 a15 a17 else pure ⟨⟩
  pure ⟨⟩

/-- and as a sequence. -/
noncomputable def body (i : grid0.Coords) : P (F := F) PUnit :=
  (if k0_cond1 i = 1#1 then zeroP a14 a15 else pure ⟨⟩) >>= fun _ =>
  (if k0_cond2 i = 1#1 then firstP a2 a3 a4 a11 ha11 a14 a16 ha16 a17 else pure ⟨⟩) >>= fun _ =>
  midP a5 a6 a7 a12 ha12 a16 a17 >>= fun _ =>
  (if k0_cond3 i = 1#1 then lastP a2 a8 a9 a13 a15 a17 else pure ⟨⟩) >>= fun _ => pure ⟨⟩

theorem branches_eq (i : grid0.Coords) : branches (F := F) a2 a3 a4 a5 a6 a7 a8 a9 a11 ha11 a12 ha12 a13 a14 a15 a16 ha16 a17 i
    = body a2 a3 a4 a5 a6 a7 a8 a9 a11 ha11 a12 ha12 a13 a14 a15 a16 ha16 a17 i := by
  unfold branches front body
  by_cases h1 : k0_cond1 i = 1#1 <;> by_cases h2 : k0_cond2 i = 1#1 <;> by_cases h3 : k0_cond3 i = 1#1 <;>
    simp only [h1, h2, h3, if_true, if_false, ↓reduceIte] <;> rfl

end Program

set_option maxHeartbeats 4000000 in
/-- The printed kernel function is this program. -/
theorem cc0_eq (i : grid0.Coords) (a2 : Memref sig .tc .vmem S1024x1024 .f32) (ha2 : a2.IsWhole) (a3 : Memref sig .tc .vmem S1024x1024 .bf16) (ha3 : a3.IsWhole) (a4 : Memref sig .tc .vmem S1x1024 .f32) (ha4 : a4.IsWhole) (a5 : Memref sig .tc .vmem S1024x512 .bf16) (ha5 : a5.IsWhole) (a6 : Memref sig .tc .vmem S512x1024 .bf16) (ha6 : a6.IsWhole) (a7 : Memref sig .tc .vmem S1x1024x512 .bf16) (ha7 : a7.IsWhole) (a8 : Memref sig .tc .vmem S1024x1024 .f32) (ha8 : a8.IsWhole) (a9 : Memref sig .tc .vmem S1x1024 .f32) (ha9 : a9.IsWhole) (a10 : Memref sig .tc .hbm S8x128 .f32) (ha10 : a10.IsWhole) (a11 : Memref sig .tc .vmem S1024x1024 .bf16) (ha11 : a11.IsWhole) (a12 : Memref sig .tc .vmem S1024x512 .bf16) (ha12 : a12.IsWhole) (a13 : Memref sig .tc .vmem S1024x1024 .f32) (ha13 : a13.IsWhole) (a14 : Memref sig .tc .vmem S1x1024 .f32) (ha14 : a14.IsWhole) (a15 : Memref sig .tc .vmem S1x1024 .f32) (ha15 : a15.IsWhole) (a16 : Memref sig .tc .vmem S1024x1024 .bf16) (ha16 : a16.IsWhole) (a17 : Memref sig .tc .vmem S1024x1024 .f32) (ha17 : a17.IsWhole) :
    cc0_ffn_bwd (F := F) i a2 ha2 a3 ha3 a4 ha4 a5 ha5 a6 ha6 a7 ha7 a8 ha8 a9 ha9 a10 ha10 a11 ha11 a12 ha12 a13 ha13 a14 ha14 a15 ha15 a16 ha16 a17 ha17
      = body a2 a3 a4 a5 a6 a7 a8 a9 a11 ha11 a12 ha12 a13 a14 a15 a16 ha16 a17 i := by
  rw [← branches_eq]
  sl_kernel_rfl

/-! ## A load of a whole buffer reads it -/

section Whole

variable {κ : Kind} {sp : Space} {e : EltTy}

theorem readAt_wide (v : View sig κ sp S1024x1024 e) (f : v.ty.Contents (Elt F)) (inb) :
    v.readAt (Elt F) (Rect.unit ![0, 0] ![1024, 1024] inb).toLoadRect f = v.read (Elt F) f := View.readAt_full v f inb
theorem readAt_row (v : View sig κ sp S1x1024 e) (f : v.ty.Contents (Elt F)) (inb) :
    v.readAt (Elt F) (Rect.unit ![0, 0] ![1, 1024] inb).toLoadRect f = v.read (Elt F) f := View.readAt_full v f inb
theorem readAt_half (v : View sig κ sp S1024x512 e) (f : v.ty.Contents (Elt F)) (inb) :
    v.readAt (Elt F) (Rect.unit ![0, 0] ![1024, 512] inb).toLoadRect f = v.read (Elt F) f := View.readAt_full v f inb
theorem readAt_slab (v : View sig κ sp S512x1024 e) (f : v.ty.Contents (Elt F)) (inb) :
    v.readAt (Elt F) (Rect.unit ![0, 0] ![512, 1024] inb).toLoadRect f = v.read (Elt F) f := View.readAt_full v f inb
theorem readAt_tile (v : View sig κ sp S1x1024x512 e) (f : v.ty.Contents (Elt F)) (inb) :
    v.readAt (Elt F) (Rect.unit ![0, 0, 0] ![1, 1024, 512] inb).toLoadRect f = v.read (Elt F) f := View.readAt_full v f inb

end Whole

section Parts

variable (t : Dev nD) (a2 : Memref sig .tc .vmem S1024x1024 .f32) (a3 : Memref sig .tc .vmem S1024x1024 .bf16) (a4 : Memref sig .tc .vmem S1x1024 .f32)
  (a5 : Memref sig .tc .vmem S1024x512 .bf16) (a6 : Memref sig .tc .vmem S512x1024 .bf16) (a7 : Memref sig .tc .vmem S1x1024x512 .bf16)
  (a8 : Memref sig .tc .vmem S1024x1024 .f32) (a9 : Memref sig .tc .vmem S1x1024 .f32)
  (a11 : Memref sig .tc .vmem S1024x1024 .bf16) (ha11 : a11.IsWhole) (a12 : Memref sig .tc .vmem S1024x512 .bf16) (ha12 : a12.IsWhole)
  (a13 : Memref sig .tc .vmem S1024x1024 .f32) (a14 a15 : Memref sig .tc .vmem S1x1024 .f32)
  (a16 : Memref sig .tc .vmem S1024x1024 .bf16) (ha16 : a16.IsWhole) (a17 : Memref sig .tc .vmem S1024x1024 .f32)

/-- The blocks read, -/
def ins (x : In F) : sProp 𝕄 :=
  iprop(owns t a2 fullShare x.ct ∗ owns t a3 fullShare x.f ∗ owns t a4 fullShare x.g4 ∗ owns t a5 fullShare x.a ∗ owns t a6 fullShare x.w2 ∗ owns t a7 fullShare x.w1 ∗ owns t a8 fullShare x.x ∗ owns t a9 fullShare x.g3)
/-- and the buffers written. -/
def st (s : St F) : sProp 𝕄 :=
  iprop(owns t a11 fullShare s.df ∗ owns t a12 fullShare s.da ∗ owns t a13 fullShare s.dx ∗ owns t a14 fullShare s.d4 ∗ owns t a15 fullShare s.d3 ∗ owns t a16 fullShare s.dk ∗ owns t a17 fullShare s.acc)

/-- The zero fill. -/
theorem zero_triple (s : St F) (E : Set ℕ) (K : PUnit → sProp 𝕄) :
    iprop(owns t a14 fullShare s.d4 ∗ owns t a15 fullShare s.d3
        ∗ ((owns t a14 fullShare (zeroS s).d4 ∗ owns t a15 fullShare (zeroS s).d3) -∗ K ⟨⟩))
      ⊢ wp frame (wpE (defs₀ (F := F)) Variants.none t none) E (zeroP a14 a15) K := by
  unfold zeroP owns
  iintro ⟨⟨%f14, %h14, H14⟩, ⟨%f15, %h15, H15⟩, Hk⟩
  sl_exec
  sl_step
  simp only [readAt_wide, readAt_row, readAt_half, readAt_slab, readAt_tile, h14, h15]
  iapply Hk
  isplitl [H14]
  · iexists _; isplitr; rotate_left
    · iexact H14
    · ipureintro; exact View.read_writes_full _ _ _ _ _
  iexists _; isplitr; rotate_left
  · iexact H15
  · ipureintro; exact View.read_writes_full _ _ _ _ _

/-- The first point of a row block. -/
theorem first_triple (x : In F) (s : St F) (E : Set ℕ) (K : PUnit → sProp 𝕄) :
    iprop(owns t a2 fullShare x.ct ∗ owns t a3 fullShare x.f ∗ owns t a4 fullShare x.g4 ∗ owns t a14 fullShare s.d4 ∗ owns t a11 fullShare s.df ∗ owns t a16 fullShare s.dk ∗ owns t a17 fullShare s.acc
        ∗ ((owns t a2 fullShare x.ct ∗ owns t a3 fullShare x.f ∗ owns t a4 fullShare x.g4 ∗ owns t a14 fullShare (firstS x s).d4 ∗ owns t a11 fullShare (firstS x s).df ∗ owns t a16 fullShare (firstS x s).dk ∗ owns t a17 fullShare (firstS x s).acc) -∗ K ⟨⟩))
      ⊢ wp frame (wpE (defs₀ (F := F)) Variants.none t none) E (firstP a2 a3 a4 a11 ha11 a14 a16 ha16 a17) K := by
  unfold firstP owns
  iintro ⟨⟨%f2, %h2, H2⟩, ⟨%f3, %h3, H3⟩, ⟨%f4, %h4, H4⟩, ⟨%f14, %h14, H14⟩, ⟨%f11, %h11, H11⟩, ⟨%f16, %h16, H16⟩, ⟨%f17, %h17, H17⟩, Hk⟩
  sl_exec
  sl_step
  simp only [readAt_wide, readAt_row, readAt_half, readAt_slab, readAt_tile, h2, h3, h4, h14, h11, h16, h17]
  iapply Hk
  isplitl [H2]
  · iexists _; isplitr; rotate_left
    · iexact H2
    · ipureintro; exact h2
  isplitl [H3]
  · iexists _; isplitr; rotate_left
    · iexact H3
    · ipureintro; exact h3
  isplitl [H4]
  · iexists _; isplitr; rotate_left
    · iexact H4
    · ipureintro; exact h4
  isplitl [H14]
  · iexists _; isplitr; rotate_left
    · iexact H14
    · ipureintro; exact View.read_writes_full _ _ _ _ _
  isplitl [H11]
  · iexists _; isplitr; rotate_left
    · iexact H11
    · ipureintro; exact View.read_writes_full _ _ _ _ _
  isplitl [H16]
  · iexists _; isplitr; rotate_left
    · iexact H16
    · ipureintro; exact View.read_writes_full _ _ _ _ _
  iexists _; isplitr; rotate_left
  · iexact H17
  · ipureintro; exact View.read_writes_full _ _ _ _ _

/-- Every point. -/
theorem mid_triple (x : In F) (s : St F) (E : Set ℕ) (K : PUnit → sProp 𝕄) :
    iprop(owns t a5 fullShare x.a ∗ owns t a6 fullShare x.w2 ∗ owns t a7 fullShare x.w1 ∗ owns t a16 fullShare s.dk ∗ owns t a12 fullShare s.da ∗ owns t a17 fullShare s.acc
        ∗ ((owns t a5 fullShare x.a ∗ owns t a6 fullShare x.w2 ∗ owns t a7 fullShare x.w1 ∗ owns t a16 fullShare s.dk ∗ owns t a12 fullShare (midS x s).da ∗ owns t a17 fullShare (midS x s).acc) -∗ K ⟨⟩))
      ⊢ wp frame (wpE (defs₀ (F := F)) Variants.none t none) E (midP a5 a6 a7 a12 ha12 a16 a17) K := by
  unfold midP owns
  iintro ⟨⟨%f5, %h5, H5⟩, ⟨%f6, %h6, H6⟩, ⟨%f7, %h7, H7⟩, ⟨%f16, %h16, H16⟩, ⟨%f12, %h12, H12⟩, ⟨%f17, %h17, H17⟩, Hk⟩
  sl_exec
  sl_step
  simp only [readAt_wide, readAt_row, readAt_half, readAt_slab, readAt_tile, h5, h6, h7, h16, h12, h17]
  iapply Hk
  isplitl [H5]
  · iexists _; isplitr; rotate_left
    · iexact H5
    · ipureintro; exact h5
  isplitl [H6]
  · iexists _; isplitr; rotate_left
    · iexact H6
    · ipureintro; exact h6
  isplitl [H7]
  · iexists _; isplitr; rotate_left
    · iexact H7
    · ipureintro; exact h7
  isplitl [H16]
  · iexists _; isplitr; rotate_left
    · iexact H16
    · ipureintro; exact h16
  isplitl [H12]
  · iexists _; isplitr; rotate_left
    · iexact H12
    · ipureintro; exact View.read_writes_full _ _ _ _ _
  iexists _; isplitr; rotate_left
  · iexact H17
  · ipureintro; exact View.read_writes_full _ _ _ _ _

/-- The last point of a row block. -/
theorem last_triple (x : In F) (s : St F) (E : Set ℕ) (K : PUnit → sProp 𝕄) :
    iprop(owns t a2 fullShare x.ct ∗ owns t a8 fullShare x.x ∗ owns t a9 fullShare x.g3 ∗ owns t a17 fullShare s.acc ∗ owns t a15 fullShare s.d3 ∗ owns t a13 fullShare s.dx
        ∗ ((owns t a2 fullShare x.ct ∗ owns t a8 fullShare x.x ∗ owns t a9 fullShare x.g3 ∗ owns t a17 fullShare s.acc ∗ owns t a15 fullShare (lastS x s).d3 ∗ owns t a13 fullShare (lastS x s).dx) -∗ K ⟨⟩))
      ⊢ wp frame (wpE (defs₀ (F := F)) Variants.none t none) E (lastP a2 a8 a9 a13 a15 a17) K := by
  unfold lastP owns
  iintro ⟨⟨%f2, %h2, H2⟩, ⟨%f8, %h8, H8⟩, ⟨%f9, %h9, H9⟩, ⟨%f17, %h17, H17⟩, ⟨%f15, %h15, H15⟩, ⟨%f13, %h13, H13⟩, Hk⟩
  sl_exec
  sl_step
  simp only [readAt_wide, readAt_row, readAt_half, readAt_slab, readAt_tile, h2, h8, h9, h17, h15, h13]
  iapply Hk
  isplitl [H2]
  · iexists _; isplitr; rotate_left
    · iexact H2
    · ipureintro; exact h2
  isplitl [H8]
  · iexists _; isplitr; rotate_left
    · iexact H8
    · ipureintro; exact h8
  isplitl [H9]
  · iexists _; isplitr; rotate_left
    · iexact H9
    · ipureintro; exact h9
  isplitl [H17]
  · iexists _; isplitr; rotate_left
    · iexact H17
    · ipureintro; exact h17
  isplitl [H15]
  · iexists _; isplitr; rotate_left
    · iexact H15
    · ipureintro; exact View.read_writes_full _ _ _ _ _
  iexists _; isplitr; rotate_left
  · iexact H13
  · ipureintro; exact View.read_writes_full _ _ _ _ _

/-! ## The parts on all buffers -/

theorem zero_all (x : In F) (s : St F) (E : Set ℕ) (K : PUnit → sProp 𝕄) :
    iprop(ins t a2 a3 a4 a5 a6 a7 a8 a9 x ∗ st t a11 a12 a13 a14 a15 a16 a17 s ∗ ((ins t a2 a3 a4 a5 a6 a7 a8 a9 x ∗ st t a11 a12 a13 a14 a15 a16 a17 (zeroS s)) -∗ K ⟨⟩))
      ⊢ wp frame (wpE (defs₀ (F := F)) Variants.none t none) E (zeroP a14 a15) K := by
  have e := zero_triple t a14 a15 s E K
  dsimp only [ins, st, zeroS] at *
  iintro ⟨⟨H2, H3, H4, H5, H6, H7, H8, H9⟩, ⟨H11, H12, H13, H14, H15, H16, H17⟩, Hk⟩
  iapply e
  iframe H14 H15
  iintro ⟨H14, H15⟩
  iapply Hk
  iframe

theorem first_all (x : In F) (s : St F) (E : Set ℕ) (K : PUnit → sProp 𝕄) :
    iprop(ins t a2 a3 a4 a5 a6 a7 a8 a9 x ∗ st t a11 a12 a13 a14 a15 a16 a17 s ∗ ((ins t a2 a3 a4 a5 a6 a7 a8 a9 x ∗ st t a11 a12 a13 a14 a15 a16 a17 (firstS x s)) -∗ K ⟨⟩))
      ⊢ wp frame (wpE (defs₀ (F := F)) Variants.none t none) E (firstP a2 a3 a4 a11 ha11 a14 a16 ha16 a17) K := by
  have e := first_triple t a2 a3 a4 a11 ha11 a14 a16 ha16 a17 x s E K
  dsimp only [ins, st, firstS] at *
  iintro ⟨⟨H2, H3, H4, H5, H6, H7, H8, H9⟩, ⟨H11, H12, H13, H14, H15, H16, H17⟩, Hk⟩
  iapply e
  iframe H2 H3 H4 H14 H11 H16 H17
  iintro ⟨H2, H3, H4, H14, H11, H16, H17⟩
  iapply Hk
  iframe

theorem mid_all (x : In F) (s : St F) (E : Set ℕ) (K : PUnit → sProp 𝕄) :
    iprop(ins t a2 a3 a4 a5 a6 a7 a8 a9 x ∗ st t a11 a12 a13 a14 a15 a16 a17 s ∗ ((ins t a2 a3 a4 a5 a6 a7 a8 a9 x ∗ st t a11 a12 a13 a14 a15 a16 a17 (midS x s)) -∗ K ⟨⟩))
      ⊢ wp frame (wpE (defs₀ (F := F)) Variants.none t none) E (midP a5 a6 a7 a12 ha12 a16 a17) K := by
  have e := mid_triple t a5 a6 a7 a12 ha12 a16 a17 x s E K
  dsimp only [ins, st, midS] at *
  iintro ⟨⟨H2, H3, H4, H5, H6, H7, H8, H9⟩, ⟨H11, H12, H13, H14, H15, H16, H17⟩, Hk⟩
  iapply e
  iframe H5 H6 H7 H16 H12 H17
  iintro ⟨H5, H6, H7, H16, H12, H17⟩
  iapply Hk
  iframe

theorem last_all (x : In F) (s : St F) (E : Set ℕ) (K : PUnit → sProp 𝕄) :
    iprop(ins t a2 a3 a4 a5 a6 a7 a8 a9 x ∗ st t a11 a12 a13 a14 a15 a16 a17 s ∗ ((ins t a2 a3 a4 a5 a6 a7 a8 a9 x ∗ st t a11 a12 a13 a14 a15 a16 a17 (lastS x s)) -∗ K ⟨⟩))
      ⊢ wp frame (wpE (defs₀ (F := F)) Variants.none t none) E (lastP a2 a8 a9 a13 a15 a17) K := by
  have e := last_triple t a2 a8 a9 a13 a15 a17 x s E K
  dsimp only [ins, st, lastS] at *
  iintro ⟨⟨H2, H3, H4, H5, H6, H7, H8, H9⟩, ⟨H11, H12, H13, H14, H15, H16, H17⟩, Hk⟩
  iapply e
  iframe H2 H8 H9 H17 H15 H13
  iintro ⟨H2, H8, H9, H17, H15, H13⟩
  iapply Hk
  iframe

/-- A part run only where a condition holds. -/
theorem cond_all (p : Prop) [Decidable p] (prog : P (F := F) PUnit) (x : In F) (s s' : St F) (E : Set ℕ)
    (h : ∀ K : PUnit → sProp 𝕄, iprop(ins t a2 a3 a4 a5 a6 a7 a8 a9 x ∗ st t a11 a12 a13 a14 a15 a16 a17 s
        ∗ ((ins t a2 a3 a4 a5 a6 a7 a8 a9 x ∗ st t a11 a12 a13 a14 a15 a16 a17 s') -∗ K ⟨⟩))
      ⊢ wp frame (wpE (defs₀ (F := F)) Variants.none t none) E prog K) (K : PUnit → sProp 𝕄) :
    iprop(ins t a2 a3 a4 a5 a6 a7 a8 a9 x ∗ st t a11 a12 a13 a14 a15 a16 a17 s
        ∗ ((ins t a2 a3 a4 a5 a6 a7 a8 a9 x ∗ st t a11 a12 a13 a14 a15 a16 a17 (if p then s' else s)) -∗ K ⟨⟩))
      ⊢ wp frame (wpE (defs₀ (F := F)) Variants.none t none) E (if p then prog else pure ⟨⟩) K := by
  by_cases hp : p
  · rw [if_pos hp, if_pos hp]; exact h K
  · rw [if_neg hp, if_neg hp]
    iintro ⟨HI, HS, Hk⟩
    sl_step
    iapply Hk
    iframe

/-- The body at any point. -/
theorem body_triple (i : grid0.Coords) (x : In F) (s : St F) (E : Set ℕ) (K : PUnit → sProp 𝕄) :
    iprop(ins t a2 a3 a4 a5 a6 a7 a8 a9 x ∗ st t a11 a12 a13 a14 a15 a16 a17 s
        ∗ ((ins t a2 a3 a4 a5 a6 a7 a8 a9 x ∗ st t a11 a12 a13 a14 a15 a16 a17 (step i x s)) -∗ K ⟨⟩))
      ⊢ wp frame (wpE (defs₀ (F := F)) Variants.none t none) E
        (body a2 a3 a4 a5 a6 a7 a8 a9 a11 ha11 a12 ha12 a13 a14 a15 a16 ha16 a17 i) K := by
  unfold body step
  iintro ⟨HI, HS, Hk⟩
  rw [wp_bind]
  iapply (cond_all t a2 a3 a4 a5 a6 a7 a8 a9 a11 a12 a13 a14 a15 a16 a17 (k0_cond1 i = 1#1) _ x s (zeroS s) E
    (fun K => zero_all t a2 a3 a4 a5 a6 a7 a8 a9 a11 a12 a13 a14 a15 a16 a17 x s E K) _)
  iframe HI HS
  iintro ⟨HI, HS⟩
  rw [wp_bind]
  iapply (cond_all t a2 a3 a4 a5 a6 a7 a8 a9 a11 a12 a13 a14 a15 a16 a17 (k0_cond2 i = 1#1) _ x _ _ E
    (fun K => first_all t a2 a3 a4 a5 a6 a7 a8 a9 a11 ha11 a12 a13 a14 a15 a16 ha16 a17 x _ E K) _)
  iframe HI HS
  iintro ⟨HI, HS⟩
  rw [wp_bind]
  iapply (mid_all t a2 a3 a4 a5 a6 a7 a8 a9 a11 a12 ha12 a13 a14 a15 a16 a17 x _ E _)
  iframe HI HS
  iintro ⟨HI, HS⟩
  rw [wp_bind]
  iapply (cond_all t a2 a3 a4 a5 a6 a7 a8 a9 a11 a12 a13 a14 a15 a16 a17 (k0_cond3 i = 1#1) _ x _ _ E
    (fun K => last_all t a2 a3 a4 a5 a6 a7 a8 a9 a11 a12 a13 a14 a15 a16 a17 x _ E K) _)
  iframe HI HS
  iintro ⟨HI, HS⟩
  sl_step
  iapply Hk
  iframe

end Parts

end Cert.FfnIdeal.Body

end
-- ==== Proof.FfnRun.lean ====
/- The feed-forward gradient's run: what every point of the grid leaves, and the whole program's execution. -/
module

public import proofs.«01_k».proof.Proof.Carry
public import proofs.«01_k».proof.Proof.FfnBody
public import proofs.«01_k».proof.Proof.Gen.FfnIdeal.Frame
public import Idealize.ShloMosaic.Lib.Quiescent
public import Idealize.ShloMosaic.Lib.Claim

@[expose] public section

set_option maxRecDepth 16384

noncomputable section

namespace Cert.FfnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.FfnIdeal.Gen Cert.FfnIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

theorem lt32 (t : Fin cfg0.N) : t.val < 32 := lt_of_lt_of_eq t.isLt (show cfg0.N = 32 from N_0)

/-- The blocks point `t` reads. -/
def insAt (c : Dev nD) (t : Fin cfg0.N) : In F :=
  ⟨iblk m c 0 t, iblk m c 1 t, iblk m c 2 t, iblk m c 3 t, iblk m c 4 t, iblk m c 5 t, iblk m c 6 t, iblk m c 7 t⟩

/-- Point `j` of row block `r`. -/
def pt (r j : ℕ) : Fin cfg0.N := ⟨8 * (r % 4) + j % 8, lt_of_lt_of_eq (by omega) (show 32 = cfg0.N from N_0.symm)⟩

theorem pt_self (t : Fin cfg0.N) : pt (t.val / 8) (t.val % 8) = t :=
  Fin.ext (by have := lt32 t; show 8 * (t.val / 8 % 4) + t.val % 8 % 8 = t.val; omega)
theorem pt_of (t : Fin cfg0.N) (j : ℕ) (h : t.val % 8 = j) : pt (t.val / 8) j = t := h ▸ pt_self t

/-- The outer norm's gradient of row block `r`, as it goes out and as it is kept; -/
def dfAt (c : Dev nD) (r : ℕ) : Vec F S1024x1024 .bf16 :=
  k0_pay9 (insAt m c (pt r 0)).ct (insAt m c (pt r 0)).f (insAt m c (pt r 0)).g4
def dkAt (c : Dev nD) (r : ℕ) : Vec F S1024x1024 .bf16 :=
  k0_pay10 (insAt m c (pt r 0)).ct (insAt m c (pt r 0)).f (insAt m c (pt r 0)).g4
/-- the product after `j` of the row block's points; -/
def accAt (c : Dev nD) (r : ℕ) : ℕ → Vec F S1024x1024 .f32
  | 0 => k0_pay13
  | j + 1 => k0_pay15 (insAt m c (pt r j)).a (dkAt m c r) (insAt m c (pt r j)).w2 (accAt c r j) (insAt m c (pt r j)).w1
/-- the outer norm's sum after `r` row blocks; -/
def d4At (c : Dev nD) : ℕ → Vec F S1x1024 .f32
  | 0 => k0_pay11
  | r + 1 => k0_pay8 (insAt m c (pt r 0)).ct (insAt m c (pt r 0)).f (d4At c r)
/-- the inner norm's; -/
def d3At (c : Dev nD) : ℕ → Vec F S1x1024 .f32
  | 0 => k0_pay12
  | r + 1 => k0_pay3 (accAt m c r 8) (insAt m c (pt r 7)).x (d3At c r)
/-- the input gradient of row block `r`; -/
def dxAt (c : Dev nD) (r : ℕ) : Vec F S1024x1024 .f32 :=
  k0_pay4 (accAt m c r 8) (insAt m c (pt r 7)).x (insAt m c (pt r 7)).g3 (insAt m c (pt r 7)).ct
/-- and the hidden gradient's slice of point `t`. -/
def daAt (c : Dev nD) (t : Fin cfg0.N) : Vec F S1024x512 .bf16 :=
  k0_pay14 (insAt m c t).a (dkAt m c (t.val / 8)) (insAt m c t).w2

/-! ## The cases of a point -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val % 8 = 0 :=
  (by decide +kernel : ∀ t : Fin grid0.N, k0_cond2 (grid0.coords t) = 1#1 ↔ t.val % 8 = 0)
theorem cond3_iff : ∀ t : Fin cfg0.N, k0_cond3 (grid0.coords t) = 1#1 ↔ t.val % 8 = 7 :=
  (by decide +kernel : ∀ t : Fin grid0.N, k0_cond3 (grid0.coords t) = 1#1 ↔ t.val % 8 = 7)

theorem idle_8 : ∀ t : Fin cfg0.N, cfg0.idle 8 (cfg0.grid.coords t) = decide (t.val % 8 ≠ 0) :=
  (by decide +kernel : ∀ t : Fin grid0.N, (!(k0_cond2 (grid0.coords t) == 1#1)) = decide (t.val % 8 ≠ 0))
theorem idle_10 : ∀ t : Fin cfg0.N, cfg0.idle 10 (cfg0.grid.coords t) = decide (t.val % 8 ≠ 7) :=
  (by decide +kernel : ∀ t : Fin grid0.N, (!(k0_cond3 (grid0.coords t) == 1#1)) = decide (t.val % 8 ≠ 7))
theorem idle_11 : ∀ t : Fin cfg0.N, cfg0.idle 11 (cfg0.grid.coords t) = decide (t.val % 8 ≠ 0) :=
  (by decide +kernel : ∀ t : Fin grid0.N, (!(k0_cond1 (grid0.coords t) == 1#1) && !(k0_cond2 (grid0.coords t) == 1#1)) = decide (t.val % 8 ≠ 0))
theorem idle_12 : ∀ t : Fin cfg0.N, cfg0.idle 12 (cfg0.grid.coords t) = decide (t.val ≠ 0 ∧ t.val % 8 ≠ 7) :=
  (by decide +kernel : ∀ t : Fin grid0.N, (!(k0_cond1 (grid0.coords t) == 1#1) && !(k0_cond3 (grid0.coords t) == 1#1)) = decide (t.val ≠ 0 ∧ t.val % 8 ≠ 7))

/-- What the buffers hold when point `t` begins; -/
structure Found (c : Dev nD) (t : Fin cfg0.N) (s : St F) : Prop where
  df : t.val % 8 ≠ 0 → s.df = dfAt m c (t.val / 8)
  dk : t.val % 8 ≠ 0 → s.dk = dkAt m c (t.val / 8)
  acc : t.val % 8 ≠ 0 → s.acc = accAt m c (t.val / 8) (t.val % 8)
  d4 : t.val ≠ 0 → s.d4 = d4At m c ((t.val + 7) / 8)
  d3 : t.val ≠ 0 → s.d3 = d3At m c (t.val / 8)

/-- and when it ends. -/
structure Left (c : Dev nD) (t : Fin cfg0.N) (s s' : St F) : Prop where
  df : s'.df = dfAt m c (t.val / 8)
  dk : s'.dk = dkAt m c (t.val / 8)
  acc : s'.acc = accAt m c (t.val / 8) (t.val % 8 + 1)
  da : s'.da = daAt m c t
  d4 : s'.d4 = d4At m c (t.val / 8 + 1)
  d3 : s'.d3 = d3At m c ((t.val + 1) / 8)
  dx : t.val % 8 = 7 → s'.dx = dxAt m c (t.val / 8)
  dx_keep : t.val % 8 ≠ 7 → s'.dx = s.dx
  d4_keep : t.val % 8 ≠ 0 → s'.d4 = s.d4
  df_keep : t.val % 8 ≠ 0 → s'.df = s.df
  d3_keep : t.val ≠ 0 → t.val % 8 ≠ 7 → s'.d3 = s.d3

theorem step_left (c : Dev nD) (t : Fin cfg0.N) (s : St F) (h : Found m c t s) :
    Left m c t s (step (grid0.coords t) (insAt m c t) s) := by
  have hN := lt32 t
  have eJ : insAt m c (pt (t.val / 8) (t.val % 8)) = insAt m c t := by rw [pt_self]
  have eA : accAt m c (t.val / 8) (t.val % 8 + 1) = k0_pay15 (insAt m c t).a (dkAt m c (t.val / 8)) (insAt m c t).w2
      (accAt m c (t.val / 8) (t.val % 8)) (insAt m c t).w1 := by rw [accAt, eJ]
  unfold step
  by_cases h2 : t.val % 8 = 0
  · have h3 : ¬k0_cond3 (grid0.coords t) = 1#1 := fun e => by have := (cond3_iff t).mp e; omega
    have eI : insAt m c (pt (t.val / 8) 0) = insAt m c t := by rw [pt_of t 0 h2]
    have eK : dkAt m c (t.val / 8) = k0_pay10 (insAt m c t).ct (insAt m c t).f (insAt m c t).g4 := by unfold dkAt; rw [eI]
    have eF : dfAt m c (t.val / 8) = k0_pay9 (insAt m c t).ct (insAt m c t).f (insAt m c t).g4 := by unfold dfAt; rw [eI]
    have eD : ∀ r, r = t.val / 8 → d4At m c (r + 1) = k0_pay8 (insAt m c t).ct (insAt m c t).f (d4At m c r) := fun r e => by rw [d4At, e, eI]
    simp only [if_pos ((cond2_iff t).mpr h2), if_neg h3]
    by_cases h1 : t.val = 0
    · simp only [if_pos ((cond1_iff t).mpr h1)]
      constructor
      · rw [eF]; rfl
      · rw [eK]; rfl
      · rw [eA, eK, h2]; rfl
      · unfold daAt; rw [eK]; rfl
      · rw [eD _ rfl, show t.val / 8 = 0 from by omega]; rfl
      · rw [show (t.val + 1) / 8 = 0 from by omega]; rfl
      · intro e; omega
      · intro _; rfl
      · intro e; omega
      · intro e; omega
      · intro e; omega
    · simp only [if_neg (fun e => h1 ((cond1_iff t).mp e))]
      constructor
      · rw [eF]; rfl
      · rw [eK]; rfl
      · rw [eA, eK, h2]; rfl
      · unfold daAt; rw [eK]; rfl
      · rw [eD _ rfl, show t.val / 8 = (t.val + 7) / 8 from by omega, ← h.d4 h1]; rfl
      · rw [show (t.val + 1) / 8 = t.val / 8 from by omega, ← h.d3 h1]; rfl
      · intro e; omega
      · intro _; rfl
      · intro e; omega
      · intro e; omega
      · intro _ _; rfl
  · have h1 : t.val ≠ 0 := fun e => h2 (by rw [e])
    simp only [if_neg (fun e => h2 ((cond2_iff t).mp e)), if_neg (fun e => h1 ((cond1_iff t).mp e))]
    by_cases h3 : t.val % 8 = 7
    · have eI : insAt m c (pt (t.val / 8) 7) = insAt m c t := by rw [pt_of t 7 h3]
      have eX : dxAt m c (t.val / 8) = k0_pay4 (accAt m c (t.val / 8) 8) (insAt m c t).x (insAt m c t).g3 (insAt m c t).ct := by unfold dxAt; rw [eI]
      have eD : ∀ r, r = t.val / 8 → d3At m c (r + 1) = k0_pay3 (accAt m c r 8) (insAt m c t).x (d3At m c r) := fun r e => by rw [d3At, e, eI]
      have e8 : accAt m c (t.val / 8) 8 = k0_pay15 (insAt m c t).a s.dk (insAt m c t).w2 s.acc (insAt m c t).w1 := by
        rw [h.dk h2, h.acc h2, ← eA, h3]
      simp only [if_pos ((cond3_iff t).mpr h3)]
      constructor
      · exact h.df h2
      · exact h.dk h2
      · rw [eA, ← h.dk h2, ← h.acc h2]; rfl
      · unfold daAt; rw [← h.dk h2]; rfl
      · rw [show t.val / 8 + 1 = (t.val + 7) / 8 from by omega, ← h.d4 h1]; rfl
      · rw [show (t.val + 1) / 8 = t.val / 8 + 1 from by omega, eD _ rfl, e8, ← h.d3 h1]; rfl
      · intro _; rw [eX, e8]; rfl
      · intro e; omega
      · intro _; rfl
      · intro _; rfl
      · intro _ e; omega
    · simp only [if_neg (fun e => h3 ((cond3_iff t).mp e))]
      constructor
      · exact h.df h2
      · exact h.dk h2
      · rw [eA, ← h.dk h2, ← h.acc h2]; rfl
      · unfold daAt; rw [← h.dk h2]; rfl
      · rw [show t.val / 8 + 1 = (t.val + 7) / 8 from by omega, ← h.d4 h1]; rfl
      · rw [show (t.val + 1) / 8 = t.val / 8 from by omega, ← h.d3 h1]; rfl
      · intro e; omega
      · intro _; rfl
      · intro _; rfl
      · intro _; rfl
      · intro _ _; rfl

/-- The two kept buffers between points. -/
def inv (c : Dev nD) (n : ℕ) : sProp 𝕄 :=
  iprop((∃ dk acc, ⌜n % 8 ≠ 0 → dk = dkAt m c (n / 8) ∧ acc = accAt m c (n / 8) (n % 8)⌝
      ∗ owns c (Memref.whole cc0_scratch0) fullShare dk ∗ owns c (Memref.whole cc0_scratch1) fullShare acc)
    ∗ (∃ r, prngReg c r))

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dfAt m c (t.val / 8)
    | ⟨9, _⟩ => daAt m c t
    | ⟨10, _⟩ => dxAt m c (t.val / 8)
    | ⟨11, _⟩ => d4At m c (t.val / 8 + 1)
    | ⟨12, _⟩ => d3At m c ((t.val + 1) / 8)
  Φ t := inv m c t.val
  q w := Pipeline.shareOf spec0 w
  owed _ := 0

theorem A_eq (c : Dev nD) (w : Fin cfg0.W) : (dats m 0 c).A w = V m c (Pipeline.arrRef spec0 w) := by dsimp only [dats]

theorem after_in (c : Dev nD) (t : Fin cfg0.N) : (dats m 0 c).after 0 t = iblk m c 0 t
    ∧ (dats m 0 c).after 1 t = iblk m c 1 t
    ∧ (dats m 0 c).after 2 t = iblk m c 2 t
    ∧ (dats m 0 c).after 3 t = iblk m c 3 t
    ∧ (dats m 0 c).after 4 t = iblk m c 4 t
    ∧ (dats m 0 c).after 5 t = iblk m c 5 t
    ∧ (dats m 0 c).after 6 t = iblk m c 6 t
    ∧ (dats m 0 c).after 7 t = iblk m c 7 t := by
  and_intros <;> dsimp only [dats]
theorem after_8 (c : Dev nD) (t : Fin cfg0.N) : (dats m 0 c).after 8 t = dfAt m c (t.val / 8) := by dsimp only [dats]
theorem after_9 (c : Dev nD) (t : Fin cfg0.N) : (dats m 0 c).after 9 t = daAt m c t := by dsimp only [dats]
theorem after_10 (c : Dev nD) (t : Fin cfg0.N) : (dats m 0 c).after 10 t = dxAt m c (t.val / 8) := by dsimp only [dats]
theorem after_11 (c : Dev nD) (t : Fin cfg0.N) : (dats m 0 c).after 11 t = d4At m c (t.val / 8 + 1) := by dsimp only [dats]
theorem after_12 (c : Dev nD) (t : Fin cfg0.N) : (dats m 0 c).after 12 t = d3At m c ((t.val + 1) / 8) := by dsimp only [dats]

set_option maxHeartbeats 1000000 in
theorem before_in (c : Dev nD) (t : Fin cfg0.N) : (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t) :=
  ⟨before0_0_of m (dats m 0 c) (A_eq m c 0) (fun _ => rfl) t, before0_1_of m (dats m 0 c) (A_eq m c 1) (fun _ => rfl) t, before0_2_of m (dats m 0 c) (A_eq m c 2) (fun _ => rfl) t, before0_3_of m (dats m 0 c) (A_eq m c 3) (fun _ => rfl) t, before0_4_of m (dats m 0 c) (A_eq m c 4) (fun _ => rfl) t, before0_5_of m (dats m 0 c) (A_eq m c 5) (fun _ => rfl) t, before0_6_of m (dats m 0 c) (A_eq m c 6) (fun _ => rfl) t, before0_7_of m (dats m 0 c) (A_eq m c 7) (fun _ => rfl) t⟩

/-! ## What the results' buffers hold between their stores -/

theorem before_8 (c : Dev nD) (t : Fin cfg0.N) (h : t.val % 8 ≠ 0) (d) : (dats m 0 c).before 8 t d = dfAt m c (t.val / 8) :=
  Carry.carried (dats m 0 c) 8 (fun _ => rfl) (fun _ _ => rfl) (fun n => dfAt m c (n / 8)) (fun n => n % 8 ≠ 0) (by omega)
    (fun t _ hg => ⟨by rw [Bool.eq_false_iff, Ne, flush0_8]; omega,
      fun hi => by
        rw [idle_8, decide_eq_true_eq] at hi
        exact ⟨hi, by rw [show (t.val + 1) / 8 = t.val / 8 from by omega]⟩,
      fun _ => by rw [after_8, show (t.val + 1) / 8 = t.val / 8 from by omega]⟩) t.val t.isLt h d

theorem before_11 (c : Dev nD) (t : Fin cfg0.N) (h : t.val ≠ 0) (d) : (dats m 0 c).before 11 t d = d4At m c ((t.val + 7) / 8) :=
  Carry.carried (dats m 0 c) 11 (fun _ => rfl) (fun _ _ => rfl) (fun n => d4At m c ((n + 7) / 8)) (fun n => n ≠ 0) (by omega)
    (fun t hN _ => ⟨by rw [Bool.eq_false_iff, Ne, flush0_11]; have : cfg0.N = 32 := N_0; omega,
      fun hi => by
        rw [idle_11, decide_eq_true_eq] at hi
        exact ⟨by omega, by rw [show (t.val + 1 + 7) / 8 = (t.val + 7) / 8 from by omega]⟩,
      fun hi => by
        rw [idle_11, decide_eq_false_iff_not] at hi
        rw [after_11, show (t.val + 1 + 7) / 8 = t.val / 8 + 1 from by omega]⟩) t.val t.isLt h d

theorem before_12 (c : Dev nD) (t : Fin cfg0.N) (h : t.val ≠ 0) (d) : (dats m 0 c).before 12 t d = d3At m c (t.val / 8) :=
  Carry.carried (dats m 0 c) 12 (fun _ => rfl) (fun _ _ => rfl) (fun n => d3At m c (n / 8)) (fun n => n ≠ 0) (by omega)
    (fun t hN _ => ⟨by rw [Bool.eq_false_iff, Ne, flush0_12]; have : cfg0.N = 32 := N_0; omega,
      fun hi => by
        rw [idle_12, decide_eq_true_eq] at hi
        exact ⟨hi.1, by rw [show (t.val + 1) / 8 = t.val / 8 from by omega]⟩,
      fun _ => after_12 m c t⟩) t.val t.isLt h d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d))
    ∗ (∃ d, owns c (st0_8 t) fullShare ((dats m 0 c).before 8 t d))
    ∗ (∃ d, owns c (st0_9 t) fullShare ((dats m 0 c).before 9 t d))
    ∗ (∃ d, owns c (st0_10 t) fullShare ((dats m 0 c).before 10 t d))
    ∗ (∃ d, owns c (st0_11 t) fullShare ((dats m 0 c).before 11 t d))
    ∗ (∃ d, owns c (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)

/-- The inputs' buffers are handed over as left. -/
theorem post_eq (c : Dev nD) (t : Fin cfg0.N) : bodyPost m c t
    = iprop(inv m c (t.val + 1) ∗ (dats m 0 c).owesAt () t.castSucc
      ∗ owns c (st0_0 t) fullShare (iblk m c 0 t)
      ∗ owns c (st0_1 t) fullShare (iblk m c 1 t)
      ∗ owns c (st0_2 t) fullShare (iblk m c 2 t)
      ∗ owns c (st0_3 t) fullShare (iblk m c 3 t)
      ∗ owns c (st0_4 t) fullShare (iblk m c 4 t)
      ∗ owns c (st0_5 t) fullShare (iblk m c 5 t)
      ∗ owns c (st0_6 t) fullShare (iblk m c 6 t)
      ∗ owns c (st0_7 t) fullShare (iblk m c 7 t)
      ∗ (dats m 0 c).leavesExact 8 t ∗ (dats m 0 c).leavesExact 9 t ∗ (dats m 0 c).leavesExact 10 t ∗ (dats m 0 c).leavesExact 11 t
      ∗ (dats m 0 c).leavesExact 12 t) := by
  unfold bodyPost
  rw [Carry.live (dats m 0 c) 0 t rfl, Carry.live (dats m 0 c) 1 t rfl, Carry.live (dats m 0 c) 2 t rfl, Carry.live (dats m 0 c) 3 t rfl, Carry.live (dats m 0 c) 4 t rfl, Carry.live (dats m 0 c) 5 t rfl, Carry.live (dats m 0 c) 6 t rfl, Carry.live (dats m 0 c) 7 t rfl]
  simp only [after_in m c t]
  rfl

theorem pre_eq (c : Dev nD) (t : Fin cfg0.N) : (dats m 0 c).Φ t.castSucc = inv m c t.val := rfl

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyAt0
  rw [cc0_eq, post_eq]
  unfold bodyPre
  rw [pre_eq]
  simp only [before_in m c t]
  have hN := lt32 t
  unfold inv
  iintro ⟨⟨⟨%dk, %acc, %hs, H16, H17⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  have hL := step_left m c t ⟨(dats m 0 c).before 8 t e8, (dats m 0 c).before 9 t e9, (dats m 0 c).before 10 t e10,
      (dats m 0 c).before 11 t e11, (dats m 0 c).before 12 t e12, dk, acc⟩
    ⟨fun h => before_8 m c t h e8, fun h => (hs h).1, fun h => (hs h).2, fun h => before_11 m c t h e11, fun h => before_12 m c t h e12⟩
  iapply (body_triple c (st0_0 t) (st0_1 t) (st0_2 t) (st0_3 t) (st0_4 t) (st0_5 t) (st0_6 t) (st0_7 t) (st0_8 t) _ (st0_9 t) _ (st0_10 t) (st0_11 t) (st0_12 t)
    (Memref.whole cc0_scratch0) _ (Memref.whole cc0_scratch1) (grid0.coords t) (insAt m c t) ⟨(dats m 0 c).before 8 t e8, (dats m 0 c).before 9 t e9, (dats m 0 c).before 10 t e10,
      (dats m 0 c).before 11 t e11, (dats m 0 c).before 12 t e12, dk, acc⟩ Set.univ _)
  unfold ins st
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9 H10 H11 H12 H16 H17]
  · iframe
  iintro ⟨⟨H0, H1, H2, H3, H4, H5, H6, H7⟩, H8, H9, H10, H11, H12, H16, H17⟩
  isplitl [H16 H17 Hg]
  · isplitl [H16 H17]
    · iexists _, _
      isplitr; rotate_left
      · iframe
      · ipureintro; intro h
        rw [show (t.val + 1) / 8 = t.val / 8 from by omega, show (t.val + 1) % 8 = t.val % 8 + 1 from by omega]
        exact ⟨hL.dk, hL.acc⟩
    iexact Hg
  iframe Ho H0 H1 H2 H3 H4 H5 H6 H7
  isplitl [H8]
  · iapply (Carry.hand (dats m 0 c) 8 t _ (fun _ => hL.df.trans (after_8 m c t).symm)
      (fun hi => ⟨fun _ => hL.df.trans (after_8 m c t).symm, e8, hL.df_keep (by rw [idle_8, decide_eq_true_eq] at hi; exact hi)⟩)); iexact H8
  isplitl [H9]
  · iapply (Carry.hand (dats m 0 c) 9 t _ (fun _ => hL.da.trans (after_9 m c t).symm) (fun hi => absurd hi Bool.false_ne_true)); iexact H9
  isplitl [H10]
  · iapply (Carry.hand (dats m 0 c) 10 t _
      (fun hi => (hL.dx (by rw [idle_10, decide_eq_false_iff_not] at hi; omega)).trans (after_10 m c t).symm)
      (fun hi => ⟨fun hf => absurd ((flush0_10 t).mp hf) (by rw [idle_10, decide_eq_true_eq] at hi; exact hi), e10,
        hL.dx_keep (by rw [idle_10, decide_eq_true_eq] at hi; exact hi)⟩)); iexact H10
  isplitl [H11]
  · iapply (Carry.hand (dats m 0 c) 11 t _ (fun _ => hL.d4.trans (after_11 m c t).symm)
      (fun hi => ⟨fun _ => hL.d4.trans (after_11 m c t).symm, e11, hL.d4_keep (by rw [idle_11, decide_eq_true_eq] at hi; exact hi)⟩)); iexact H11
  · iapply (Carry.hand (dats m 0 c) 12 t _ (fun _ => hL.d3.trans (after_12 m c t).symm)
      (fun hi => ⟨fun _ => hL.d3.trans (after_12 m c t).symm, e12,
        hL.d3_keep (by rw [idle_12, decide_eq_true_eq] at hi; exact hi.1) (by rw [idle_12, decide_eq_true_eq] at hi; exact hi.2)⟩)); iexact H12

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scratch_eq (c : Dev nD) : (Pipeline.ΦA spec0 c : sProp 𝕄)
    = iprop(iprop((∃ d, owns c (Memref.whole cc0_scratch0) fullShare d) ∗ (∃ d, owns c (Memref.whole cc0_scratch1) fullShare d)) ∗ (∃ r, prngReg c r)) := by
  unfold Pipeline.ΦA; rw [scopedRest0_eq]; simp only [owns_whole]; try rfl

theorem hin (c : Dev nD) : (Pipeline.ΦA spec0 c : sProp 𝕄) ⊢ (dats m 0 c).Φ 0 := by
  rw [scratch_eq, show (dats m 0 c).Φ 0 = inv m c 0 from rfl]
  unfold inv
  iintro ⟨⟨⟨%a, H0⟩, ⟨%b, H1⟩⟩, Hg⟩
  isplitl [H0 H1]
  · iexists a, b
    isplitr
    · ipureintro; intro h; omega
    iframe
  iexact Hg

theorem hout (c : Dev nD) : (dats m 0 c).Φ (Fin.last cfg0.N) ⊢ (Pipeline.ΦA spec0 c : sProp 𝕄) := by
  rw [scratch_eq, show (dats m 0 c).Φ (Fin.last cfg0.N) = inv m c cfg0.N from rfl]
  unfold inv
  iintro ⟨⟨%a, %b, %h, H0, H1⟩, Hg⟩
  isplitl [H0 H1]
  · isplitl [H0]
    · iexists a; iexact H0
    iexists b; iexact H1
  iexact Hg

set_option backward.isDefEq.respectTransparency.types false in
/-- The launch: every array at what the points leave, every other buffer as the region finds it, every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments end as they began. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.FfnIdeal.Run

end
-- ==== Proof.FfnFrames.lean ====
/- The frames of the feed-forward gradient: the program over the extended reals and the one over the bits are one text. -/
module

public import proofs.«01_k».proof.Proof.FfnRun
public import proofs.«01_k».proof.Proof.Gen.Ffn
public import proofs.«01_k».proof.Defs
public import Idealize.ShloMosaic.Lib.Tactic

@[expose] public section

set_option maxRecDepth 16384

noncomputable section

namespace Cert.FfnFrames

open Idealize.ShloMosaic Idealize.ShloMosaic.TcCoe
open Idealize.SL.Sem

/-- A named constant of the bit program is the literal it was printed as. -/
local instance literal : Named Bits := ⟨fun _ _ _ b => Scalar.ofBits _ b⟩

theorem defs_eq : Cert.FfnIdeal.defs (F := Bits) = Cert.Ffn.defs (F := Bits) := by sl_kernel_rfl
theorem main_eq : Cert.FfnIdeal.main (F := Bits) = Cert.Ffn.main (F := Bits) := by sl_kernel_rfl

variable [Cert.Pre_ffn_finite.Facts]

theorem ideal : Cert.quiescent_FfnIdeal := fun m ρ _ => Cert.FfnIdeal.Run.frame_run (F := Ideal) m ρ

theorem ideal_pre : Cert.quiescent_FfnIdeal_pre_ffn_finite := fun m ρ _ => Cert.FfnIdeal.Run.frame_run (F := Ideal) m ρ

theorem bits : Cert.quiescent_Ffn := fun m ρ _ => by
  have h := Cert.FfnIdeal.Run.frame_run (F := Bits) m ρ
  rw [defs_eq, main_eq] at h
  exact h

end Cert.FfnFrames

end
-- ==== Proof.FfnBlock.lean ====
/- The feed-forward gradient over the extended reals: its arrays as formulas, and what one point's blocks hold. -/
module

public import proofs.«01_k».proof.Proof.FfnRun
public import proofs.«01_k».proof.Proof.InProjValue

@[expose] public section

set_option maxRecDepth 16384

noncomputable section

namespace Cert.FfnIdeal.Block

open Idealize.ShloMosaic Idealize.ShloMosaic.TcCoe
open Cert.FfnIdeal.Gen Cert.FfnIdeal.Body Cert.FfnIdeal.Run
open Cert.InProjValue (rinv dxRow)

/-! ## The arrays as formulas -/

/-- The arguments. -/
structure Data where
  ct : FVec Ideal S4096x1024 .f32
  x : FVec Ideal S4096x1024 .f32
  g3 : FVec Ideal S1024 .f32
  w1 : FVec Ideal S1024x4096 .f32
  w2 : FVec Ideal S4096x1024 .f32
  g4 : FVec Ideal S1024 .f32

namespace Data
variable (A : Data)

/-- A row of the block's input; -/
def xr (r : Fin 4096) (k : Fin 1024) : EReal := A.x (ix2 r k)
/-- of its cotangent; -/
def ctr (r : Fin 4096) (k : Fin 1024) : EReal := A.ct (ix2 r k)
/-- the norms' weights; -/
def g3r (k : Fin 1024) : EReal := A.g3 (ix1 k)
def g4r (k : Fin 1024) : EReal := A.g4 (ix1 k)
/-- the hidden layer before its nonlinearity; -/
def pre (r h : Fin 4096) : EReal := ∑ k : Fin 1024, A.x (ix2 r k) * rinv (A.xr r) * A.g3 (ix1 k) * A.w1 (ix2 k h)
/-- the layer's output before the outer norm; -/
def f (r : Fin 4096) (j : Fin 1024) : EReal := ∑ h : Fin 4096, max (A.pre r h) 0 * max (A.pre r h) 0 * A.w2 (ix2 h j)
/-- its gradient; -/
def df (r : Fin 4096) (j : Fin 1024) : EReal := dxRow (A.ctr r) (A.f r) A.g4r j
/-- the hidden layer's gradient; -/
def da (r h : Fin 4096) : EReal := (∑ j : Fin 1024, A.df r j * A.w2 (ix2 h j)) * (Ideal.ofBits .f32 0x40000000#32 * max (A.pre r h) 0)
/-- the gradient of the inner norm's output; -/
def dh (r : Fin 4096) (j : Fin 1024) : EReal := ∑ h : Fin 4096, A.da r h * A.w1 (ix2 j h)
/-- of the block's input; -/
def dx (r : Fin 4096) (j : Fin 1024) : EReal := A.ct (ix2 r j) + dxRow (A.dh r) (A.xr r) A.g3r j
/-- and of the norms' weights, with a row's part of each. -/
def t4 (r : Fin 4096) (j : Fin 1024) : EReal := A.ct (ix2 r j) * (A.f r j * rinv (A.f r))
def t3 (r : Fin 4096) (j : Fin 1024) : EReal := A.dh r j * (A.x (ix2 r j) * rinv (A.xr r))
def d4 (j : Fin 1024) : EReal := ∑ r : Fin 4096, A.t4 r j
def d3 (j : Fin 1024) : EReal := ∑ r : Fin 4096, A.t3 r j

end Data

/-! ## The host lines before the call -/

/-- The rows' reciprocal root mean squares, -/
def rows (x : FVec Ideal S4096x1024 .f32) : FVec Ideal S4096x1 .f32 :=
  Host.rsqrt (addf (Host.divf (broadcastInDim S4096x1 ![0] bcast_S4096_S4096x1_0
        (Host.reduceAdd (mulf x x) (constant S_ .f32 0x00000000#32) reducesTo_S4096x1024_S4096_d1 h_S_))
      (broadcastInDim S4096x1 ![] bcast_S_S4096x1 (constant S_ .f32 0x44800000#32)))
    (broadcastInDim S4096x1 ![] bcast_S_S4096x1 (constant S_ .f32 0x358637BD#32)))

/-- the hidden layer, -/
def hidden (x : FVec Ideal S4096x1024 .f32) (g : FVec Ideal S1024 .f32) (w : FVec Ideal S1024x4096 .f32) : FVec Ideal S4096x4096 .f32 :=
  Host.dotGeneral dot_S4096x1024_S1024x4096_S4096x4096_1_0_0_1_n_n none
    (truncf .bf16 (mulf (mulf x (broadcastInDim S4096x1024 ![0, 1] bcast_S4096x1_S4096x1024_0_1 (rows x)))
      (broadcastInDim S4096x1024 ![0, 1] bcast_S1x1024_S4096x1024_0_1 (broadcastInDim S1x1024 ![1] bcast_S1024_S1x1024_1 g))) bitsLt_bf16_f32)
    (truncf .bf16 w bitsLt_bf16_f32)

/-- and the output. -/
def out (a : FVec Ideal S4096x4096 .f32) (w : FVec Ideal S4096x1024 .f32) : FVec Ideal S4096x1024 .f32 :=
  Host.dotGeneral dot_S4096x4096_S4096x1024_S4096x1024_1_0_0_1_n_n none
    (truncf .bf16 (mulf (maximumf a (broadcastInDim S4096x4096 ![] bcast_S_S4096x4096 (constant S_ .f32 0x00000000#32)))
      (maximumf a (broadcastInDim S4096x4096 ![] bcast_S_S4096x4096 (constant S_ .f32 0x00000000#32)))) bitsLt_bf16_f32)
    (truncf .bf16 w bitsLt_bf16_f32)

theorem rows_at (x : FVec Ideal S4096x1024 .f32) (r : Fin 4096) : (show EReal from rows x (ix2 r 0)) = rinv fun k => x (ix2 r k) := by
  pointwise [rows, rinv]

theorem hidden_at (A : Data) (r h : Fin 4096) : hidden A.x A.g3 A.w1 (ix2 r h) = A.pre r h := by
  pointwise [hidden, rows_at, Data.pre]
  rfl

theorem out_at (A : Data) (r : Fin 4096) (j : Fin 1024) : out (hidden A.x A.g3 A.w1) A.w2 (ix2 r j) = A.f r j := by
  pointwise [out, hidden_at, Data.f]

section

variable (m : (ℓ : Loc nD τ sig) → Buf (Elt Ideal) ℓ) (c : Dev nD)

/-- The arguments as launched. -/
def data : Data := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5)⟩

theorem V_a : V m c main_v20 = truncf .bf16 (hidden (data m c).x (data m c).g3 (data m c).w1) bitsLt_bf16_f32 := rfl
theorem V_f : V m c main_v26 = truncf .bf16 (out (hidden (data m c).x (data m c).g3 (data m c).w1) (data m c).w2) bitsLt_bf16_f32 := rfl

/-! ## The blocks' reads -/

/-- Row `i` of row block `r`, column `l` of hidden slice `j`. -/
def row (r : ℕ) (i : Fin 1024) : Fin 4096 := ⟨r % 4 * 1024 + i.val, by omega⟩
def col (j : ℕ) (l : Fin 512) : Fin 4096 := ⟨j % 8 * 512 + l.val, by omega⟩

/-- The windows' block indices at a grid point. -/
theorem idx : ∀ t : Fin cfg0.N, win0_0.index t = ![t.val / 8, 0] ∧ win0_1.index t = ![t.val / 8, 0] ∧ win0_2.index t = ![0, 0]
    ∧ win0_3.index t = ![t.val / 8, t.val % 8] ∧ win0_4.index t = ![t.val % 8, 0] ∧ win0_5.index t = ![t.val % 8 / 2, 0, t.val % 2]
    ∧ win0_6.index t = ![t.val / 8, 0] ∧ win0_7.index t = ![0, 0] ∧ win0_8.index t = ![t.val / 8, 0] ∧ win0_9.index t = ![t.val / 8, t.val % 8]
    ∧ win0_10.index t = ![t.val / 8, 0] ∧ win0_11.index t = ![0, 0] ∧ win0_12.index t = ![0, 0] :=
  (by decide +kernel : ∀ t : Fin grid0.N, _)

theorem pt_div (r j : ℕ) : (pt r j).val / 8 = r % 4 := by show (8 * (r % 4) + j % 8) / 8 = r % 4; omega
theorem pt_mod (r j : ℕ) : (pt r j).val % 8 = j % 8 := by show (8 * (r % 4) + j % 8) % 8 = j % 8; omega
theorem pt_two (r j : ℕ) : (pt r j).val % 2 = j % 8 % 2 := by show (8 * (r % 4) + j % 8) % 2 = j % 8 % 2; omega

variable (r j : ℕ)

theorem ct_at (i k : Fin 1024) : (insAt m c (pt r j)).ct (ix2 i k) = (data m c).ct (ix2 (row r i) k) := by
  show iblk m c 0 (pt r j) (ix2 i k) = m ((c : Thread nD τ).loc main_arg0) (ix2 (row r i) k)
  blk_point [iblk, V, idx (pt r j), row, pt_div]

theorem f_at (i k : Fin 1024) : (insAt m c (pt r j)).f (ix2 i k) = (data m c).f (row r i) k := by
  rw [← out_at]
  have e := congrFun (V_f m c) (ix2 (row r i) k)
  refine Eq.trans ?_ e
  show iblk m c 1 (pt r j) (ix2 i k) = V m c main_v26 (ix2 (row r i) k)
  generalize hV : V m c main_v26 = v
  blk_simp [iblk]
  rw [hV]
  congr 1
  blk_ext [idx (pt r j), row, pt_div]

theorem a_at (i : Fin 1024) (l : Fin 512) : (insAt m c (pt r j)).a (ix2 i l) = (data m c).pre (row r i) (col j l) := by
  rw [← hidden_at]
  have e := congrFun (V_a m c) (ix2 (row r i) (col j l))
  refine Eq.trans ?_ e
  show iblk m c 3 (pt r j) (ix2 i l) = V m c main_v20 (ix2 (row r i) (col j l))
  generalize hV : V m c main_v20 = v
  blk_simp [iblk]
  rw [hV]
  congr 1
  blk_ext [idx (pt r j), row, col, pt_div, pt_mod]

theorem w2_at (l : Fin 512) (k : Fin 1024) : (insAt m c (pt r j)).w2 (ix2 l k) = (data m c).w2 (ix2 (col j l) k) := by
  show iblk m c 4 (pt r j) (ix2 l k) = m ((c : Thread nD τ).loc main_arg4) (ix2 (col j l) k)
  blk_point [iblk, V, idx (pt r j), col, pt_mod]

theorem w1_at (k : Fin 1024) (l : Fin 512) : (insAt m c (pt r j)).w1 (ix3 0 k l) = (data m c).w1 (ix2 k (col j l)) := by
  show iblk m c 5 (pt r j) (ix3 0 k l) = m ((c : Thread nD τ).loc main_arg3) (ix2 k (col j l))
  blk_point [iblk, V, idx (pt r j), col, pt_mod, pt_two]

theorem x_at (i k : Fin 1024) : (insAt m c (pt r j)).x (ix2 i k) = (data m c).x (ix2 (row r i) k) := by
  show iblk m c 6 (pt r j) (ix2 i k) = m ((c : Thread nD τ).loc main_arg1) (ix2 (row r i) k)
  blk_point [iblk, V, idx (pt r j), row, pt_div]

theorem g4_at (k : Fin 1024) : (insAt m c (pt r j)).g4 (ix2 0 k) = (data m c).g4 (ix1 k) := by
  show iblk m c 2 (pt r j) (ix2 0 k) = m ((c : Thread nD τ).loc main_arg5) (ix1 k)
  blk_point [iblk, V, idx (pt r j)]

theorem g3_at (k : Fin 1024) : (insAt m c (pt r j)).g3 (ix2 0 k) = (data m c).g3 (ix1 k) := by
  show iblk m c 7 (pt r j) (ix2 0 k) = m ((c : Thread nD τ).loc main_arg2) (ix1 k)
  blk_point [iblk, V, idx (pt r j)]

end

/-! ## One point's values -/

theorem pay1_at (x : FVec Ideal S1024x1024 .f32) (r : Fin 1024) : (show EReal from k0_pay1 (F := Ideal) x (ix2 r 0)) = rinv fun k => x (ix2 r k) := by
  pointwise [k0_pay1, rinv]
theorem pay2_at (x : FVec Ideal S1024x1024 .f32) (r j : Fin 1024) : k0_pay2 x (ix2 r j) = x (ix2 r j) * rinv fun k => x (ix2 r k) := by
  pointwise [k0_pay2, pay1_at]
theorem pay3_at (p x : FVec Ideal S1024x1024 .f32) (a : FVec Ideal S1x1024 .f32) (j : Fin 1024) :
    k0_pay3 p x a (ix2 0 j) = a (ix2 0 j) + ∑ r : Fin 1024, p (ix2 r j) * (x (ix2 r j) * rinv fun k => x (ix2 r k)) := by
  pointwise [k0_pay3, pay2_at]
theorem pay4_at (p x : FVec Ideal S1024x1024 .f32) (g : FVec Ideal S1x1024 .f32) (d : FVec Ideal S1024x1024 .f32) (r j : Fin 1024) :
    k0_pay4 p x g d (ix2 r j) = d (ix2 r j) + dxRow (fun k => p (ix2 r k)) (fun k => x (ix2 r k)) (fun k => g (ix2 0 k)) j := by
  pointwise [k0_pay4, pay1_at, pay2_at, dxRow]
theorem pay6_at (x : FVec Ideal S1024x1024 .bf16) (r : Fin 1024) : (show EReal from k0_pay6 (F := Ideal) x (ix2 r 0)) = rinv fun k => x (ix2 r k) := by
  pointwise [k0_pay6, k0_pay5, rinv]
theorem pay7_at (x : FVec Ideal S1024x1024 .bf16) (r j : Fin 1024) : k0_pay7 (F := Ideal) x (ix2 r j) = x (ix2 r j) * rinv fun k => x (ix2 r k) := by
  pointwise [k0_pay7, k0_pay5, pay6_at]
theorem pay8_at (p : FVec Ideal S1024x1024 .f32) (x : FVec Ideal S1024x1024 .bf16) (a : FVec Ideal S1x1024 .f32) (j : Fin 1024) :
    k0_pay8 (F := Ideal) p x a (ix2 0 j) = a (ix2 0 j) + ∑ r : Fin 1024, p (ix2 r j) * (x (ix2 r j) * rinv fun k => x (ix2 r k)) := by
  pointwise [k0_pay8, pay7_at]
theorem pay9_at (p : FVec Ideal S1024x1024 .f32) (x : FVec Ideal S1024x1024 .bf16) (g : FVec Ideal S1x1024 .f32) (r j : Fin 1024) :
    k0_pay9 (F := Ideal) p x g (ix2 r j) = dxRow (fun k => p (ix2 r k)) (fun k => x (ix2 r k)) (fun k => g (ix2 0 k)) j := by
  pointwise [k0_pay9, pay6_at, pay7_at, dxRow]
theorem pay10_at (p : FVec Ideal S1024x1024 .f32) (x : FVec Ideal S1024x1024 .bf16) (g : FVec Ideal S1x1024 .f32) (r j : Fin 1024) :
    k0_pay10 (F := Ideal) p x g (ix2 r j) = k0_pay9 (F := Ideal) p x g (ix2 r j) := by
  pointwise [k0_pay10]
theorem pay11_at (j : Fin 1024) : k0_pay11 (F := Ideal) (ix2 0 j) = 0 := by pointwise [k0_pay11]
theorem pay12_at (j : Fin 1024) : k0_pay12 (F := Ideal) (ix2 0 j) = 0 := by pointwise [k0_pay12]
theorem pay13_at (r j : Fin 1024) : k0_pay13 (F := Ideal) (ix2 r j) = 0 := by pointwise [k0_pay13]
theorem pay14_at (a : FVec Ideal S1024x512 .bf16) (d : FVec Ideal S1024x1024 .bf16) (w : FVec Ideal S512x1024 .bf16) (r : Fin 1024) (l : Fin 512) :
    k0_pay14 a d w (ix2 r l) = (∑ j : Fin 1024, d (ix2 r j) * w (ix2 l j)) * (Ideal.ofBits .f32 0x40000000#32 * max (a (ix2 r l)) 0) := by
  pointwise [k0_pay14]
theorem pay15_at (a : FVec Ideal S1024x512 .bf16) (d : FVec Ideal S1024x1024 .bf16) (w : FVec Ideal S512x1024 .bf16) (s : FVec Ideal S1024x1024 .f32)
    (v : FVec Ideal S1x1024x512 .bf16) (r j : Fin 1024) :
    k0_pay15 a d w s v (ix2 r j) = s (ix2 r j) + ∑ l : Fin 512, k0_pay14 a d w (ix2 r l) * v (ix3 0 j l) := by
  pointwise [k0_pay15]

/-! ## What the points leave -/

section

variable (m : (ℓ : Loc nD τ sig) → Buf (Elt Ideal) ℓ) (c : Dev nD) (r : ℕ)

theorem df_at (i k : Fin 1024) : dfAt m c r (ix2 i k) = (data m c).df (row r i) k := by
  unfold dfAt
  rw [pay9_at]
  simp only [ct_at, f_at, g4_at]
  rfl

theorem dk_at (i k : Fin 1024) : dkAt m c r (ix2 i k) = (data m c).df (row r i) k := by
  unfold dkAt
  rw [pay10_at]
  exact df_at m c r i k

theorem slice_at (j : ℕ) (i : Fin 1024) (l : Fin 512) :
    k0_pay14 (insAt m c (pt r j)).a (dkAt m c r) (insAt m c (pt r j)).w2 (ix2 i l) = (data m c).da (row r i) (col j l) := by
  rw [pay14_at]
  simp only [a_at, dk_at, w2_at]
  rfl

theorem acc_sum (i k : Fin 1024) (n : ℕ) : accAt m c r n (ix2 i k)
    = ∑ j ∈ Finset.range n, ∑ l : Fin 512, (data m c).da (row r i) (col j l) * (data m c).w1 (ix2 k (col j l)) := by
  induction n with
  | zero => exact pay13_at i k
  | succ n ih =>
    rw [Finset.sum_range_succ, ← ih, accAt, pay15_at]
    simp only [slice_at, w1_at]

theorem acc_at (i k : Fin 1024) : accAt m c r 8 (ix2 i k) = (data m c).dh (row r i) k := by
  rw [acc_sum, Finset.sum_range]
  unfold Data.dh
  exact Fin.sum_mul_add_congr fun s l hl => by
    have e : col s.val l = ⟨s.val * 512 + l.val, hl⟩ := Fin.ext (by show s.val % 8 * 512 + l.val = s.val * 512 + l.val; omega)
    rw [e]

theorem dx_at (i k : Fin 1024) : dxAt m c r (ix2 i k) = (data m c).dx (row r i) k := by
  unfold dxAt
  rw [pay4_at]
  simp only [ct_at, acc_at, x_at, g3_at]
  rfl

theorem row_val (k : Fin 4) (i : Fin 1024) (h : k.val * 1024 + i.val < 4096) : row k.val i = ⟨k.val * 1024 + i.val, h⟩ :=
  Fin.ext (by show k.val % 4 * 1024 + i.val = k.val * 1024 + i.val; omega)

theorem d4_sum (j : Fin 1024) (n : ℕ) : d4At m c n (ix2 0 j) = ∑ k ∈ Finset.range n, ∑ i : Fin 1024, (data m c).t4 (row k i) j := by
  induction n with
  | zero => exact pay11_at j
  | succ n ih =>
    rw [Finset.sum_range_succ, ← ih, d4At, pay8_at]
    simp only [ct_at, f_at]
    rfl

theorem d4_at (j : Fin 1024) : d4At m c 4 (ix2 0 j) = (data m c).d4 j := by
  rw [d4_sum, Finset.sum_range]
  unfold Data.d4
  exact Fin.sum_mul_add_congr fun s k hl => by rw [row_val]

theorem d3_sum (j : Fin 1024) (n : ℕ) : d3At m c n (ix2 0 j) = ∑ k ∈ Finset.range n, ∑ i : Fin 1024, (data m c).t3 (row k i) j := by
  induction n with
  | zero => exact pay12_at j
  | succ n ih =>
    rw [Finset.sum_range_succ, ← ih, d3At, pay3_at]
    simp only [acc_at, x_at]
    rfl

theorem d3_at (j : Fin 1024) : d3At m c 4 (ix2 0 j) = (data m c).d3 j := by
  rw [d3_sum, Finset.sum_range]
  unfold Data.d3
  exact Fin.sum_mul_add_congr fun s k hl => by rw [row_val]

/-! ## The arrays -/

theorem row_of (t : Fin cfg0.N) (i : Fin 1024) : (row (t.val / 8) i).val = t.val / 8 * 1024 + i.val := by
  have := lt32 t; show t.val / 8 % 4 * 1024 + i.val = _; omega

theorem final_df : (dats m 0 c).arrAt 8 (cfgs 0).N = fun i => (data m c).df (i 0) (i 1) := by
  refine (dats m 0 c).arrAt_eq_of_covers 8 _ (by decide +kernel) fun t hf y => ?_
  blk_simp
  rw [after_8]
  idx_vars y
  have E0 : ((win0_8.blk t).view.emb (ix2 y0 y1) 0) = row (t.val / 8) y0 := Fin.ext (by blk_simp [idx t]; rw [row_of])
  have E1 : ((win0_8.blk t).view.emb (ix2 y0 y1) 1) = y1 := Fin.ext (by blk_simp [idx t])
  rw [E0, E1]
  exact df_at m c _ _ _

theorem final_da : (dats m 0 c).arrAt 9 (cfgs 0).N = fun i => (data m c).da (i 0) (i 1) := by
  refine (dats m 0 c).arrAt_eq_of_covers 9 _ (by decide +kernel) fun t hf y => ?_
  blk_simp
  rw [after_9]
  idx_vars y
  have E0 : ((win0_9.blk t).view.emb (ix2 y0 y1) 0) = row (t.val / 8) y0 := Fin.ext (by blk_simp [idx t]; rw [row_of])
  have E1 : ((win0_9.blk t).view.emb (ix2 y0 y1) 1) = col (t.val % 8) y1 := Fin.ext (by
    blk_simp [idx t]; show _ = t.val % 8 % 8 * 512 + y1.val; omega)
  rw [E0, E1]
  have e := slice_at m c (t.val / 8) (t.val % 8) y0 y1
  rw [pt_self] at e
  exact e

theorem final_dx : (dats m 0 c).arrAt 10 (cfgs 0).N = fun i => (data m c).dx (i 0) (i 1) := by
  refine (dats m 0 c).arrAt_eq_of_covers 10 _ (by decide +kernel) fun t hf y => ?_
  blk_simp
  rw [after_10]
  idx_vars y
  have E0 : ((win0_10.blk t).view.emb (ix2 y0 y1) 0) = row (t.val / 8) y0 := Fin.ext (by blk_simp [idx t]; rw [row_of])
  have E1 : ((win0_10.blk t).view.emb (ix2 y0 y1) 1) = y1 := Fin.ext (by blk_simp [idx t])
  rw [E0, E1]
  exact dx_at m c _ _ _

/-- The last point. -/
def last : Fin cfg0.N := ⟨31, lt_of_lt_of_eq (by decide : 31 < 32) (show 32 = cfg0.N from N_0.symm)⟩

theorem final_d4 : (dats m 0 c).arrAt 11 (cfgs 0).N = fun i => (data m c).d4 (i 1) := by
  refine (dats m 0 c).arrAt_eq_of_after_last 11 last (by decide +kernel) _ fun j => ?_
  rw [after_11, show last.val / 8 + 1 = 4 from rfl]
  idx_vars j
  obtain rfl : j0 = 0 := Subsingleton.elim _ _
  exact d4_at m c j1

theorem final_d3 : (dats m 0 c).arrAt 12 (cfgs 0).N = fun i => (data m c).d3 (i 1) := by
  refine (dats m 0 c).arrAt_eq_of_after_last 12 last (by decide +kernel) _ fun j => ?_
  rw [after_12, show (last.val + 1) / 8 = 4 from rfl]
  idx_vars j
  obtain rfl : j0 = 0 := Subsingleton.elim _ _
  exact d3_at m c j1

end

end Cert.FfnIdeal.Block

end
-- ==== Proof.FfnValue.lean ====
/- The feed-forward gradient: kernel and plain program hold the same arrays. -/
module

public import proofs.«01_k».proof.Proof.FfnBlock
public import proofs.«01_k».proof.Proof.FfnFrames
public import proofs.«01_k».proof.Proof.Gen.FfnRefIdeal.Read
public import proofs.«01_k».proof.Pre_ffn_finite
public import Idealize.ShloMosaic.Lib.ReduceAll

@[expose] public section

set_option maxRecDepth 16384

noncomputable section

namespace Cert.FfnValue

open Idealize.ShloMosaic Idealize.ShloMosaic.TcCoe Idealize.SL.Sem
open Cert.FfnIdeal.Block Cert.MixSArgs
open Cert.MixSModel hiding Data
open Cert.InProjValue (rinv dxRow norm_back)

/-! ## Real numbers -/

/-- An extended real that is a real number. -/
def IsReal (a : EReal) : Prop := a = ((a.toReal : ℝ) : EReal)

theorem isReal_coe (a : ℝ) : IsReal (a : EReal) := by unfold IsReal; rw [EReal.toReal_coe]
theorem IsReal.mul {a b : EReal} (ha : IsReal a) (hb : IsReal b) : IsReal (a * b) := by rw [ha, hb, mul_coe]; exact isReal_coe _
theorem IsReal.add {a b : EReal} (ha : IsReal a) (hb : IsReal b) : IsReal (a + b) := by rw [ha, hb, add_coe]; exact isReal_coe _
theorem IsReal.sub {a b : EReal} (ha : IsReal a) (hb : IsReal b) : IsReal (a - b) := by rw [ha, hb, sub_coe]; exact isReal_coe _
theorem IsReal.sum {ι : Type} [Fintype ι] {f : ι → EReal} (h : ∀ i, IsReal (f i)) : IsReal (∑ i, f i) := by
  rw [Finset.sum_congr rfl fun i _ => h i, coe_sum]; exact isReal_coe _
theorem IsReal.pos {a : EReal} (ha : IsReal a) : IsReal (max a 0) := by
  rcases max_choice a 0 with h | h <;> rw [h]
  · exact ha
  · exact isReal_coe 0
theorem IsReal.mean {a : EReal} (ha : IsReal a) : IsReal (Ideal.div a (Ideal.ofBits .f32 0x44800000#32)) := by
  rw [Cert.Consts.ofBits_1024, ha, div_coe _ _ (by norm_num)]; exact isReal_coe _

theorem isReal_rinv {x : Fin 1024 → EReal} (h : ∀ k, IsReal (x k)) : IsReal (rinv x) := by
  have hv : 0 < (∑ k, (x k).toReal * (x k).toReal) / 1024 + eps :=
    add_pos_of_nonneg_of_pos (div_nonneg (Finset.sum_nonneg fun k _ => mul_self_nonneg _) (by norm_num)) (by norm_num [eps])
  unfold rinv
  rw [Finset.sum_congr rfl fun k _ => show x k * x k = (((x k).toReal * (x k).toReal : ℝ) : EReal) from by rw [← mul_coe, ← h k], coe_sum,
    Cert.Consts.ofBits_1024, ofBits_eps, div_coe _ _ (by norm_num), add_coe, rsqrt_coe _ hv]
  exact isReal_coe _

theorem isReal_dxRow {p x g : Fin 1024 → EReal} (hp : ∀ k, IsReal (p k)) (hx : ∀ k, IsReal (x k)) (hg : ∀ k, IsReal (g k)) (j : Fin 1024) : IsReal (dxRow p x g j) :=
  have hr := isReal_rinv hx
  hr.mul (((hp j).mul (hg j)).sub (((hx j).mul hr).mul (IsReal.sum fun k => ((hp k).mul (hg k)).mul ((hx k).mul hr)).mean))

/-- The arguments are real numbers. -/
structure Reals (A : Data) : Prop where
  ct : ∀ r k, IsReal (A.ct (ix2 r k))
  x : ∀ r k, IsReal (A.x (ix2 r k))
  g3 : ∀ k, IsReal (A.g3 (ix1 k))
  w1 : ∀ k h, IsReal (A.w1 (ix2 k h))
  w2 : ∀ h k, IsReal (A.w2 (ix2 h k))
  g4 : ∀ k, IsReal (A.g4 (ix1 k))

section
variable {A : Data} (H : Reals A)
include H

theorem real_pre (r h : Fin 4096) : IsReal (A.pre r h) := IsReal.sum fun k => (((H.x r k).mul (isReal_rinv fun k => H.x r k)).mul (H.g3 k)).mul (H.w1 k h)
theorem real_f (r : Fin 4096) (j : Fin 1024) : IsReal (A.f r j) := IsReal.sum fun h => ((real_pre H r h).pos.mul (real_pre H r h).pos).mul (H.w2 h j)
theorem real_df (r : Fin 4096) (j : Fin 1024) : IsReal (A.df r j) := isReal_dxRow (fun k => H.ct r k) (fun k => real_f H r k) (fun k => H.g4 k) j
theorem real_da (r h : Fin 4096) : IsReal (A.da r h) :=
  (IsReal.sum fun j => (real_df H r j).mul (H.w2 h j)).mul ((Cert.Consts.ofBits_two ▸ isReal_coe 2).mul (real_pre H r h).pos)
theorem real_dh (r : Fin 4096) (j : Fin 1024) : IsReal (A.dh r j) := IsReal.sum fun h => (real_da H r h).mul (H.w1 j h)

end

/-- The norm's gradient term by term, on real rows. -/
theorem norm_terms {p x g : Fin 1024 → EReal} (hp : ∀ k, IsReal (p k)) (hx : ∀ k, IsReal (x k)) (hg : ∀ k, IsReal (g k)) (j : Fin 1024) :
    p j * g j * rinv x
        + x j * Ideal.div ((∑ k, x k * (p k * g k)) * (Ideal.ofBits .f32 0xBF000000#32 * Ideal.div (rinv x)
            (Ideal.div (∑ k, x k * x k) (Ideal.ofBits .f32 0x44800000#32) + Ideal.ofBits .f32 0x358637BD#32))) (Ideal.ofBits .f32 0x44800000#32)
        + Ideal.div ((∑ k, x k * (p k * g k)) * (Ideal.ofBits .f32 0xBF000000#32 * Ideal.div (rinv x)
            (Ideal.div (∑ k, x k * x k) (Ideal.ofBits .f32 0x44800000#32) + Ideal.ofBits .f32 0x358637BD#32))) (Ideal.ofBits .f32 0x44800000#32) * x j
      = dxRow p x g j := by
  have e := norm_back 0 (fun k => (p k).toReal) (fun k => (x k).toReal) (fun k => (g k).toReal) j
  have ep : (fun k => (((p k).toReal : ℝ) : EReal)) = p := funext fun k => (hp k).symm
  have ex : (fun k => (((x k).toReal : ℝ) : EReal)) = x := funext fun k => (hx k).symm
  have eg : (fun k => (((g k).toReal : ℝ) : EReal)) = g := funext fun k => (hg k).symm
  rw [ep, ex, eg, zero_add, zero_add] at e
  have hp' : ∀ k, (((p k).toReal : ℝ) : EReal) = p k := fun k => (hp k).symm
  have hx' : ∀ k, (((x k).toReal : ℝ) : EReal) = x k := fun k => (hx k).symm
  have hg' : ∀ k, (((g k).toReal : ℝ) : EReal) = g k := fun k => (hg k).symm
  simp only [hp', hx', hg'] at e
  exact e

/-- The nonlinearity's derivative, where the sign is read as a factor. -/
theorem slope_factor (a b p : EReal) [Decidable (0 < p)] :
    a * (Ideal.ofBits .f32 0x40000000#32 * max p 0) * (if 0 < p then 1 else b)
      = a * (Ideal.ofBits .f32 0x40000000#32 * max p 0) := by
  by_cases h : 0 < p
  · rw [if_pos h, mul_one]
  · rw [max_eq_right (not_lt.mp h), mul_zero, mul_zero, zero_mul]

/-! ## The plain program's arrays -/

section plain

open Cert.FfnRefIdeal Cert.FfnRefIdeal.Read

variable (x0 x1 : (⟨S4096x1024, .f32⟩ : BufTy).Contents (Elt Ideal)) (x2 : (⟨S1024, .f32⟩ : BufTy).Contents (Elt Ideal))
  (x3 : (⟨S1024x4096, .f32⟩ : BufTy).Contents (Elt Ideal)) (x4 : (⟨S4096x1024, .f32⟩ : BufTy).Contents (Elt Ideal))
  (x5 : (⟨S1024, .f32⟩ : BufTy).Contents (Elt Ideal))

theorem plain_rx (r : Fin 4096) (k : Fin 1) : val_main_v7 (F := Ideal) x1 (ix2 r k) = rinv fun k => x1 (ix2 r k) := by
  pointwise [val_main_v7, val_main_v6, val_main_v5, val_main_cst_1, val_main_v4, val_main_v3, val_main_cst_0, val_main_v2, val_main_v1, val_main_cst, val_main_v0, rinv]

theorem plain_pre (r h : Fin 4096) : val_main_v16 (F := Ideal) x1 x2 x3 (ix2 r h) = (Data.mk x0 x1 x2 x3 x4 x5).pre r h := by
  pointwise [val_main_v16, val_main_v15, val_main_v14, val_main_v13, val_main_v12, val_main_v11, plain_rx, Data.pre]
  rfl

theorem plain_f (r : Fin 4096) (j : Fin 1024) : val_main_v31 (F := Ideal) x1 x2 x3 x4 (ix2 r j) = (Data.mk x0 x1 x2 x3 x4 x5).f r j := by
  pointwise [val_main_v31, val_main_v28, val_main_v18, val_main_v17, val_main_cst_3, plain_pre x0 x1 x2 x3 x4 x5, Data.f]

theorem plain_rf (r : Fin 4096) (k : Fin 1) : val_main_v39 (F := Ideal) x1 x2 x3 x4 (ix2 r k) = rinv ((Data.mk x0 x1 x2 x3 x4 x5).f r) := by
  pointwise [val_main_v39, val_main_v38, val_main_v37, val_main_cst_12, val_main_v36, val_main_v35, val_main_cst_11, val_main_v34, val_main_v33, val_main_cst_10, val_main_v32, plain_f x0 x1 x2 x3 x4 x5, rinv]

variable {x0 x1 x2 x3 x4 x5} (H : Reals (Data.mk x0 x1 x2 x3 x4 x5))
include H

theorem plain_df (r : Fin 4096) (j : Fin 1024) : val_main_v69 (F := Ideal) x0 x1 x2 x3 x4 x5 (ix2 r j) = (Data.mk x0 x1 x2 x3 x4 x5).df r j := by
  refine Eq.trans ?_ (norm_terms (fun k => H.ct r k) (fun k => real_f H r k) (fun k => H.g4 k) j)
  pointwise [val_main_v69, val_main_v68, val_main_v67, val_main_v66, val_main_v65, val_main_v64, val_main_cst_18, val_main_v63, val_main_v62, val_main_cst_17, val_main_v61, val_main_v60, val_main_v59, val_main_v58, val_main_v57, val_main_cst_16, val_main_v56, val_main_v54, val_main_v53, val_main_v49, val_main_v45, val_main_v42, val_main_v41, val_main_v40, val_main_cst_13, val_main_v38, val_main_v37, val_main_cst_12, val_main_v36, val_main_v35, val_main_cst_11, val_main_v34, val_main_v33, val_main_cst_10, val_main_v32, plain_rf x0 x1 x2 x3 x4 x5, plain_f x0 x1 x2 x3 x4 x5]
  simp only [Fin.sum_univ_one, plain_rf x0 x1 x2 x3 x4 x5]

theorem plain_da (r h : Fin 4096) : val_main_v72 (F := Ideal) x0 x1 x2 x3 x4 x5 (ix2 r h) = (Data.mk x0 x1 x2 x3 x4 x5).da r h := by
  pointwise [val_main_v72, val_main_v71, val_main_v70, val_main_v30, val_main_v29, val_main_cst_9, val_main_v27, val_main_v26, val_main_v25, val_main_cst_8, val_main_v24, val_main_cst_7, val_main_v23, val_main_cst_6, val_main_v22, val_main_v21, val_main_cst_5, val_main_v20, val_main_v19, val_main_cst_4, val_main_v18, val_main_v17, val_main_cst_3, plain_pre x0 x1 x2 x3 x4 x5, plain_df H]
  exact slope_factor _ _ _

theorem plain_dh (r : Fin 4096) (j : Fin 1024) : val_main_v73 (F := Ideal) x0 x1 x2 x3 x4 x5 (ix2 r j) = (Data.mk x0 x1 x2 x3 x4 x5).dh r j := by
  pointwise [val_main_v73, plain_da H, Data.dh]

theorem plain_dx (r : Fin 4096) (j : Fin 1024) : val_main_v96 (F := Ideal) x0 x1 x2 x3 x4 x5 (ix2 r j) = (Data.mk x0 x1 x2 x3 x4 x5).dx r j := by
  refine Eq.trans ?_ (congrArg (x0 (ix2 r j) + ·) (norm_terms (fun k => real_dh H r k) (fun k => H.x r k) (fun k => H.g3 k) j))
  pointwise [val_main_v96, val_main_v93, val_main_v92, val_main_v91, val_main_v90, val_main_v89, val_main_v88, val_main_cst_23, val_main_v87, val_main_v86, val_main_cst_22, val_main_v85, val_main_v84, val_main_v83, val_main_v82, val_main_v81, val_main_cst_21, val_main_v80, val_main_v78, val_main_v77, val_main_v13, val_main_v10, val_main_v9, val_main_v8, val_main_cst_2, val_main_v6, val_main_v5, val_main_cst_1, val_main_v4, val_main_v3, val_main_cst_0, val_main_v2, val_main_v1, val_main_cst, val_main_v0, plain_rx, plain_dh H]
  simp only [Fin.sum_univ_one, plain_rx]

theorem plain_d4 (j : Fin 1024) : val_main_v97 (F := Ideal) x0 x1 x2 x3 x4 (ix2 0 j) = (Data.mk x0 x1 x2 x3 x4 x5).d4 j := by
  pointwise [val_main_v97, val_main_v55, val_main_v52, val_main_v51, val_main_cst_14, val_main_v50, val_main_v49, val_main_v44, val_main_v43, val_main_cst_15, plain_f x0 x1 x2 x3 x4 x5, plain_rf x0 x1 x2 x3 x4 x5, Data.d4]
  rw [Fin.sum_univ_one]
  exact Finset.sum_congr rfl fun _ _ => mul_comm _ _

theorem plain_d3 (j : Fin 1024) : val_main_v98 (F := Ideal) x0 x1 x2 x3 x4 x5 (ix2 0 j) = (Data.mk x0 x1 x2 x3 x4 x5).d3 j := by
  pointwise [val_main_v98, val_main_v79, val_main_v76, val_main_v75, val_main_cst_19, val_main_v74, val_main_v12, val_main_v11, val_main_cst_20, plain_rx, plain_dh H, Data.d3]
  rw [Fin.sum_univ_one]
  exact Finset.sum_congr rfl fun _ _ => mul_comm _ _

end plain

/-! ## The precondition, and the claim -/

theorem isReal_of_olt {a : EReal} (h : Ideal.cmp .olt (max a (-a)) (Ideal.ofBits .f32 0x7F800000#32) = 1#1) : IsReal a :=
  real_of_olt (ofBits_inf ▸ h)

theorem finite_of [Cert.Pre_ffn_finite.Facts] (x0 x1 : FVec Ideal ⟨2, ![4096, 1024]⟩ .f32) (x2 : FVec Ideal ⟨1, ![1024]⟩ .f32)
    (x3 : FVec Ideal ⟨2, ![1024, 4096]⟩ .f32) (x4 : FVec Ideal ⟨2, ![4096, 1024]⟩ .f32) (x5 : FVec Ideal ⟨1, ![1024]⟩ .f32) (x6 : FVec Ideal ⟨2, ![8, 128]⟩ .f32)
    (h : Cert.Pre_ffn_finite.fn (F := Ideal) x0 x1 x2 x3 x4 x5 x6 = fun _ => 1#1) : Reals (Data.mk x0 x1 x2 x3 x4 x5) := by
  haveI : Subsingleton (Shape.Idx ⟨0, ![]⟩) := ⟨fun a b => funext fun i => i.elim0⟩
  have h := congrFun h (fun a => a.elim0)
  dsimp only [Cert.Pre_ffn_finite.fn, Cert.Pre_ffn_finite.fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have h0 := Host.reduce_andi_all _ _ _ _ _ h0
  have h1 := Host.reduce_andi_all _ _ _ _ _ h1
  have h2 := Host.reduce_andi_all _ _ _ _ _ h2
  have h3 := Host.reduce_andi_all _ _ _ _ _ h3
  have h4 := Host.reduce_andi_all _ _ _ _ _ h4
  have h5 := Host.reduce_andi_all _ _ _ _ _ h5
  exact ⟨fun k l => isReal_of_olt (h0 (ix2 k l)), fun k l => isReal_of_olt (h1 (ix2 k l)), fun k => isReal_of_olt (h2 (ix1 k)),
    fun k l => isReal_of_olt (h3 (ix2 k l)), fun k l => isReal_of_olt (h4 (ix2 k l)), fun k => isReal_of_olt (h5 (ix1 k))⟩

open Cert.FfnIdeal in
/-- The kernel over the reals computes the plain program's arrays. -/
theorem value [Cert.Pre_ffn_finite.Facts] : Cert.algebraic_FfnIdeal_FfnRefIdeal_pre_ffn_finite := fun m ρ m' ρ' hpre hag =>
  ⟨fun c i => (data m c).df (i 0) (i 1), fun c i => (data m c).da (i 0) (i 1), fun c i => (data m c).dx (i 0) (i 1),
   fun c i => (data m c).d4 (i 1), fun c i => (data m c).d3 (i 1),
   (θ_run _ _ _).mono (fun r h c =>
     ⟨((h.1.1 c).1 8).trans (final_df m c), ((h.1.1 c).1 9).trans (final_da m c), ((h.1.1 c).1 10).trans (final_dx m c),
      ((h.1.1 c).1 11).trans (final_d4 m c), ((h.1.1 c).1 12).trans (final_d3 m c), h.2.1 c⟩)
     (θ_run_and (Run.run_quiescent m ρ) (Run.frame_run m ρ)),
   (θ_run _ _ _).mono (fun r h c => by
      have H := finite_of _ _ _ _ _ _ _ (hpre c)
      obtain ⟨a0, a1, a2, a3, a4, a5, a6⟩ := hag c
      obtain ⟨h0, h1, h2, h3, h4, hargs⟩ := h c
      refine ⟨h0.trans ((Cert.FfnRefIdeal.Read.val_main_v94_eq _).trans ?_), h1.trans ((Cert.FfnRefIdeal.Read.val_main_v95_eq _).trans ?_),
        h2.trans ((Cert.FfnRefIdeal.Read.val_main_v96_eq _).trans ?_), h3.trans ((Cert.FfnRefIdeal.Read.val_main_v97_eq _).trans ?_),
        h4.trans ((Cert.FfnRefIdeal.Read.val_main_v98_eq _).trans ?_), hargs⟩
      · exact (congr (congr (congr (congr (congr (congrArg _ a0) a1) a2) a3) a4) a5).trans (funext fun i => by idx_vars i; exact plain_df H _ _)
      · exact (congr (congr (congr (congr (congr (congrArg _ a0) a1) a2) a3) a4) a5).trans (funext fun i => by idx_vars i; exact plain_da H _ _)
      · exact (congr (congr (congr (congr (congr (congrArg _ a0) a1) a2) a3) a4) a5).trans (funext fun i => by idx_vars i; exact plain_dx H _ _)
      · exact (congr (congr (congr (congr (congrArg _ a0) a1) a2) a3) a4).trans (funext fun i => by
          idx_vars i; obtain rfl : i0 = 0 := Subsingleton.elim _ _; exact plain_d4 H _)
      · exact (congr (congr (congr (congr (congr (congrArg _ a0) a1) a2) a3) a4) a5).trans (funext fun i => by
          idx_vars i; obtain rfl : i0 = 0 := Subsingleton.elim _ _; exact plain_d3 H _))
     (Cert.FfnRefIdeal.Value.run (F := Ideal) m' ρ')⟩

end Cert.FfnValue

end
-- ==== Proof.MixOutBody.lean ====
/- The kernel function of the branch mix's gradient as parts, and what each part does to the buffers. -/
module

public import proofs.«01_k».proof.Proof.Gen.MixOutIdeal.Skeleton
public import proofs.«01_k».proof.Proof.Gen.MixOutIdeal.Points
public import Idealize.ShloMosaic.Lib.Pipeline.FrameBody
public import Idealize.ShloMosaic.Lib.Tactic
public import Idealize.ShloMosaic.Lib.VecWindow

@[expose] public section

set_option maxRecDepth 65536

noncomputable section

namespace Cert.MixOutIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixOutIdeal.Gen

variable {F : FTy → Type} [FloatOps F]

local notation "𝕄" => MT nD τ sig Unit (Elt F) ℕ (UR sig nD τ) ℕ

/-- A kernel program of this certificate. -/
abbrev P (α : Type) : Type 1 := Prog (TpuEff nD τ sig (Elt F) Λ₀ .tc) α

/-- The blocks a point reads: the cotangent, the mixed rows, the norm's scale, the output weight, a branch's
product, its gate's columns and the branches' weights. -/
structure In (F : FTy → Type) where
  ct : Vec F S512x1024 .f32
  m : Vec F S512x1024 .bf16
  g : Vec F S1x1024 .f32
  wo : Vec F S1024x1024 .bf16
  p : Vec F S1x512x1024 .bf16
  z : Vec F S512x1024 .bf16
  wb : Vec F S4x3x256x1024 .bf16

/-- The buffers it writes: the five results' and the gradient at the merged rows. -/
structure St (F : FTy → Type) where
  dm : Vec F S512x1024 .bf16
  dp : Vec F S1x512x1024 .bf16
  dy : Vec F S1x512x1024 .bf16
  dz : Vec F S512x1024 .bf16
  dg : Vec F S1x1024 .f32
  acc : Vec F S512x1024 .f32

/-- A quarter of a branch's weight, as point `i` reads it. -/
def quarter (i : grid0.Coords) (wb : Vec F S4x3x256x1024 .bf16) : Fin 4 → Vec F S1x1x256x1024 .bf16 :=
  ![View.ld (Val := Elt F) wb (Rect.unit (s := S4x3x256x1024) (k0_off1 i) S1x1x256x1024.size (k0_off1_inb i)),
    View.ld (Val := Elt F) wb (Rect.unit (s := S4x3x256x1024) (k0_off2 i) S1x1x256x1024.size (k0_off2_inb i)),
    View.ld (Val := Elt F) wb (Rect.unit (s := S4x3x256x1024) (k0_off3 i) S1x1x256x1024.size (k0_off3_inb i)),
    View.ld (Val := Elt F) wb (Rect.unit (s := S4x3x256x1024) (k0_off4 i) S1x1x256x1024.size (k0_off4_inb i))]

/-- Four tiles side by side over `d`. -/
def tiles (d : Vec F S1x512x1024 .bf16) (w0 w1 w2 w3 : Vec F S1x512x256 .bf16) : Vec F S1x512x1024 .bf16 :=
  VecWindow.put (VecWindow.put (VecWindow.put (VecWindow.put d ![0, 0, 0] S1x512x256.size w0) ![0, 0, 256] S1x512x256.size w1)
    ![0, 0, 512] S1x512x256.size w2) ![0, 0, 768] S1x512x256.size w3

/-- The cells of the tile at column `o`. -/
theorem in_tile (y : S1x512x1024.Idx) (o : ℕ) (h : o ≤ (y 2).val) (h' : (y 2).val < o + 256) :
    ∀ a : Fin 3, (![0, 0, o] : Fin 3 → ℕ) a ≤ (y a).val ∧ (y a).val < (![0, 0, o] : Fin 3 → ℕ) a + S1x512x256.size a := fun a => by
  have y0 : (y 0).val < 0 + 1 := (y 0).isLt
  have y1 : (y 1).val < 0 + 512 := (y 1).isLt
  match a with
  | ⟨0, _⟩ => exact ⟨Nat.zero_le _, y0⟩
  | ⟨1, _⟩ => exact ⟨Nat.zero_le _, y1⟩
  | ⟨2, _⟩ => exact ⟨h, h'⟩

/-- They cover it. -/
theorem tiles_any (d d' : Vec F S1x512x1024 .bf16) (w0 w1 w2 w3 : Vec F S1x512x256 .bf16) : tiles d w0 w1 w2 w3 = tiles d' w0 w1 w2 w3 := by
  funext y
  have y2 : (y 2).val < 1024 := (y 2).isLt
  unfold tiles VecWindow.put
  by_cases h3 : 768 ≤ (y 2).val
  · have h := in_tile y 768 h3 (by omega)
    rw [dif_pos h, dif_pos h]
  by_cases h2 : 512 ≤ (y 2).val
  · have h := in_tile y 512 h2 (by omega)
    congr 1; funext _
    rw [dif_pos h, dif_pos h]
  by_cases h1 : 256 ≤ (y 2).val
  · have h := in_tile y 256 h1 (by omega)
    congr 1; funext _; congr 1; funext _
    rw [dif_pos h, dif_pos h]
  · have h := in_tile y 0 (Nat.zero_le _) (by omega)
    congr 1; funext _; congr 1; funext _; congr 1; funext _
    rw [dif_pos h, dif_pos h]

/-- A branch's input gradient: its product gradient `v` times the four quarters of its weight. -/
def spread (i : grid0.Coords) (wb : Vec F S4x3x256x1024 .bf16) (v : FVec F S512x1024 .bf16) (d : Vec F S1x512x1024 .bf16) : Vec F S1x512x1024 .bf16 :=
  tiles d (k0_pay13 v (quarter i wb 0)) (k0_pay14 v (quarter i wb 1)) (k0_pay15 v (quarter i wb 2)) (k0_pay1 (k0_pay16 v (quarter i wb 3)))

/-- The scale's sum starts at zero; -/
def zeroS (s : St F) : St F := { s with dg := k0_pay7 }
/-- a row block's first point takes the gradient of the norm and its product with the output weight; -/
def firstS (x : In F) (s : St F) : St F :=
  { s with dg := k0_pay5 x.ct x.m s.dg, dm := k0_pay6 x.ct x.m x.g, acc := k0_pay8 (k0_pay6 x.ct x.m x.g) x.wo }
/-- every point takes a branch's product gradient and its gate's; -/
def gateS (x : In F) (s : St F) : St F := { s with dp := k0_pay11 x.z s.acc, dz := k0_pay12 x.z s.acc x.p }
/-- and the branch's input gradient. -/
def spreadS (i : grid0.Coords) (x : In F) (v : FVec F S512x1024 .bf16) (s : St F) : St F := { s with dy := spread i x.wb v s.dy }

/-- What a point does to the buffers. -/
def step (i : grid0.Coords) (x : In F) (s : St F) : St F :=
  let s1 := if k0_cond1 i = 1#1 then zeroS s else s
  let s2 := if k0_cond2 i = 1#1 then firstS x s1 else s1
  spreadS i x (k0_pay10 x.z s2.acc) (gateS x s2)

section Program

variable (a2 : Memref sig .tc .vmem S512x1024 .f32) (a3 : Memref sig .tc .vmem S512x1024 .bf16) (a4 : Memref sig .tc .vmem S1x1024 .f32)
  (a5 : Memref sig .tc .vmem S1024x1024 .bf16) (a6 : Memref sig .tc .vmem S1x512x1024 .bf16) (a7 : Memref sig .tc .vmem S512x1024 .bf16)
  (a8 : Memref sig .tc .vmem S4x3x256x1024 .bf16)
  (a10 : Memref sig .tc .vmem S512x1024 .bf16) (ha10 : a10.IsWhole) (a11 : Memref sig .tc .vmem S1x512x1024 .bf16) (ha11 : a11.IsWhole)
  (a12 : Memref sig .tc .vmem S1x512x1024 .bf16) (ha12 : a12.IsWhole) (a13 : Memref sig .tc .vmem S512x1024 .bf16) (ha13 : a13.IsWhole)
  (a14 : Memref sig .tc .vmem S1x1024 .f32) (a15 : Memref sig .tc .vmem S512x1024 .f32)

noncomputable def zeroP : P (F := F) PUnit := do
  let _ : Vec F S1x1024 .f32 ← Prog.lift (.load a14 (Rect.unit (s := S1x1024) ![0, 0] S1x1024.size inb_S1x1024_S1x1024_0_0).toLoadRect (View.loadsAt_vmem h_S1x1024))
  Prog.lift (.store a14 (Rect.unit (s := S1x1024) ![0, 0] S1x1024.size inb_S1x1024_S1x1024_0_0) (k0_pay7 (F := F)) Finset.univ (View.stores_vmem_bits_univ h_S1x1024 rfl) (.inl rfl))

noncomputable def firstP : P (F := F) PUnit := do
  let y : Vec F S512x1024 .f32 ← Prog.lift (.load a2 (Rect.unit (s := S512x1024) ![0, 0] S512x1024.size inb_S512x1024_S512x1024_0_0).toLoadRect (View.loadsAt_vmem h_S512x1024))
  let m : Vec F S512x1024 .bf16 ← Prog.lift (.load a3 (Rect.unit (s := S512x1024) ![0, 0] S512x1024.size inb_S512x1024_S512x1024_0_0).toLoadRect (View.loadsAt_vmem h_S512x1024))
  let g : Vec F S1x1024 .f32 ← Prog.lift (.load a4 (Rect.unit (s := S1x1024) ![0, 0] S1x1024.size inb_S1x1024_S1x1024_0_0).toLoadRect (View.loadsAt_vmem h_S1x1024))
  let s : Vec F S1x1024 .f32 ← Prog.lift (.load a14 (Rect.unit (s := S1x1024) ![0, 0] S1x1024.size inb_S1x1024_S1x1024_0_0).toLoadRect (View.loadsAt_vmem h_S1x1024))
  let _ : Vec F S1x1024 .f32 ← Prog.lift (.load a14 (Rect.unit (s := S1x1024) ![0, 0] S1x1024.size inb_S1x1024_S1x1024_0_0).toLoadRect (View.loadsAt_vmem h_S1x1024))
  Prog.lift (.store a14 (Rect.unit (s := S1x1024) ![0, 0] S1x1024.size inb_S1x1024_S1x1024_0_0) (k0_pay5 y m s) Finset.univ (View.stores_vmem_bits_univ h_S1x1024 rfl) (.inl rfl))
  let _ : Vec F S512x1024 .bf16 ← Prog.lift (.load a10 (Rect.unit (s := S512x1024) ![0, 0] S512x1024.size inb_S512x1024_S512x1024_0_0).toLoadRect (View.loadsAt_vmem h_S512x1024))
  Prog.lift (.store a10 (Rect.unit (s := S512x1024) ![0, 0] S512x1024.size inb_S512x1024_S512x1024_0_0) (k0_pay6 y m g) Finset.univ (View.stores_vmem h_S512x1024 (ha10.storeExact_slice rfl _ packedbf16_S512x1024_S512x1024_0_0) (fun _ => rfl)) (.inl rfl))
  let w : Vec F S1024x1024 .bf16 ← Prog.lift (.load a5 (Rect.unit (s := S1024x1024) ![0, 0] S1024x1024.size inb_S1024x1024_S1024x1024_0_0).toLoadRect (View.loadsAt_vmem h_S1024x1024))
  let _ : Vec F S512x1024 .f32 ← Prog.lift (.load a15 (Rect.unit (s := S512x1024) ![0, 0] S512x1024.size inb_S512x1024_S512x1024_0_0).toLoadRect (View.loadsAt_vmem h_S512x1024))
  Prog.lift (.store a15 (Rect.unit (s := S512x1024) ![0, 0] S512x1024.size inb_S512x1024_S512x1024_0_0) (k0_pay8 (k0_pay6 y m g) w) Finset.univ (View.stores_vmem_bits_univ h_S512x1024 rfl) (.inl rfl))

noncomputable def gateP : P (F := F) (FVec F S512x1024 .bf16) := do
  let z : Vec F S512x1024 .bf16 ← Prog.lift (.load a7 (Rect.unit (s := S512x1024) ![0, 0] S512x1024.size inb_S512x1024_S512x1024_0_0).toLoadRect (View.loadsAt_vmem h_S512x1024))
  let s : Vec F S512x1024 .f32 ← Prog.lift (.load a15 (Rect.unit (s := S512x1024) ![0, 0] S512x1024.size inb_S512x1024_S512x1024_0_0).toLoadRect (View.loadsAt_vmem h_S512x1024))
  let _ : Vec F S1x512x1024 .bf16 ← Prog.lift (.load a11 (Rect.unit (s := S1x512x1024) ![0, 0, 0] S1x512x1024.size inb_S1x512x1024_S1x512x1024_0_0_0).toLoadRect (View.loadsAt_vmem h_S1x512x1024))
  Prog.lift (.store a11 (Rect.unit (s := S1x512x1024) ![0, 0, 0] S1x512x1024.size inb_S1x512x1024_S1x512x1024_0_0_0) (k0_pay11 z s) Finset.univ (View.stores_vmem h_S1x512x1024 (ha11.storeExact_slice rfl _ packedbf16_S1x512x1024_S1x512x1024_0_0_0) (fun _ => rfl)) (.inl rfl))
  let p : Vec F S1x512x1024 .bf16 ← Prog.lift (.load a6 (Rect.unit (s := S1x512x1024) ![0, 0, 0] S1x512x1024.size inb_S1x512x1024_S1x512x1024_0_0_0).toLoadRect (View.loadsAt_vmem h_S1x512x1024))
  let _ : Vec F S512x1024 .bf16 ← Prog.lift (.load a13 (Rect.unit (s := S512x1024) ![0, 0] S512x1024.size inb_S512x1024_S512x1024_0_0).toLoadRect (View.loadsAt_vmem h_S512x1024))
  Prog.lift (.store a13 (Rect.unit (s := S512x1024) ![0, 0] S512x1024.size inb_S512x1024_S512x1024_0_0) (k0_pay12 z s p) Finset.univ (View.stores_vmem h_S512x1024 (ha13.storeExact_slice rfl _ packedbf16_S512x1024_S512x1024_0_0) (fun _ => rfl)) (.inl rfl))
  pure (k0_pay10 z s)

noncomputable def spreadP (i : grid0.Coords) (v : FVec F S512x1024 .bf16) : P (F := F) PUnit := do
  let w0 : Vec F S1x1x256x1024 .bf16 ← Prog.lift (.load a8 (Rect.unit (s := S4x3x256x1024) (k0_off1 i) S1x1x256x1024.size (k0_off1_inb i)).toLoadRect (View.loadsAt_vmem h_S1x1x256x1024))
  let _ : Vec F S1x512x256 .bf16 ← Prog.lift (.load a12 (Rect.unit (s := S1x512x1024) ![0, 0, 0] S1x512x256.size inb_S1x512x1024_S1x512x256_0_0_0).toLoadRect (View.loadsAt_vmem h_S1x512x256))
  Prog.lift (.store a12 (Rect.unit (s := S1x512x1024) ![0, 0, 0] S1x512x256.size inb_S1x512x1024_S1x512x256_0_0_0) (k0_pay13 v w0) Finset.univ (View.stores_vmem h_S1x512x256 (ha12.storeExact_slice rfl _ packedbf16_S1x512x1024_S1x512x256_0_0_0) (fun _ => rfl)) (.inl rfl))
  let w1 : Vec F S1x1x256x1024 .bf16 ← Prog.lift (.load a8 (Rect.unit (s := S4x3x256x1024) (k0_off2 i) S1x1x256x1024.size (k0_off2_inb i)).toLoadRect (View.loadsAt_vmem h_S1x1x256x1024))
  let _ : Vec F S1x512x256 .bf16 ← Prog.lift (.load a12 (Rect.unit (s := S1x512x1024) ![0, 0, 256] S1x512x256.size inb_S1x512x1024_S1x512x256_0_0_256).toLoadRect (View.loadsAt_vmem h_S1x512x256))
  Prog.lift (.store a12 (Rect.unit (s := S1x512x1024) ![0, 0, 256] S1x512x256.size inb_S1x512x1024_S1x512x256_0_0_256) (k0_pay14 v w1) Finset.univ (View.stores_vmem h_S1x512x256 (ha12.storeExact_slice rfl _ packedbf16_S1x512x1024_S1x512x256_0_0_256) (fun _ => rfl)) (.inl rfl))
  let w2 : Vec F S1x1x256x1024 .bf16 ← Prog.lift (.load a8 (Rect.unit (s := S4x3x256x1024) (k0_off3 i) S1x1x256x1024.size (k0_off3_inb i)).toLoadRect (View.loadsAt_vmem h_S1x1x256x1024))
  let _ : Vec F S1x512x256 .bf16 ← Prog.lift (.load a12 (Rect.unit (s := S1x512x1024) ![0, 0, 512] S1x512x256.size inb_S1x512x1024_S1x512x256_0_0_512).toLoadRect (View.loadsAt_vmem h_S1x512x256))
  Prog.lift (.store a12 (Rect.unit (s := S1x512x1024) ![0, 0, 512] S1x512x256.size inb_S1x512x1024_S1x512x256_0_0_512) (k0_pay15 v w2) Finset.univ (View.stores_vmem h_S1x512x256 (ha12.storeExact_slice rfl _ packedbf16_S1x512x1024_S1x512x256_0_0_512) (fun _ => rfl)) (.inl rfl))
  let w3 : Vec F S1x1x256x1024 .bf16 ← Prog.lift (.load a8 (Rect.unit (s := S4x3x256x1024) (k0_off4 i) S1x1x256x1024.size (k0_off4_inb i)).toLoadRect (View.loadsAt_vmem h_S1x1x256x1024))
  let _ : Vec F S1x512x256 .bf16 ← Prog.lift (.load a12 (Rect.unit (s := S1x512x1024) ![0, 0, 768] S1x512x256.size inb_S1x512x1024_S1x512x256_0_0_768).toLoadRect (View.loadsAt_vmem h_S1x512x256))
  Prog.lift (.store a12 (Rect.unit (s := S1x512x1024) ![0, 0, 768] S1x512x256.size inb_S1x512x1024_S1x512x256_0_0_768) (k0_pay1 (k0_pay16 v w3)) Finset.univ (View.stores_vmem h_S1x512x256 (ha12.storeExact_slice rfl _ packedbf16_S1x512x1024_S1x512x256_0_0_768) (fun _ => rfl)) (.inl rfl))

/-- The body as printed, up to the branch's input gradient: what follows a condition is written into both of its branches; -/
noncomputable def front (i : grid0.Coords) : P (F := F) (Σ' (_ : BitVec 32), FVec F S512x1024 .bf16) := do
  if k0_cond1 i = 1#1 then zeroP a14 else pure ⟨⟩
  if k0_cond2 i = 1#1 then firstP a2 a3 a4 a5 a10 ha10 a14 a15 else pure ⟨⟩
  let v ← gateP a6 a7 a11 ha11 a13 ha13 a15
  pure ⟨BitVec.ofNat 32 (i 1).val, v⟩

/-- the whole of it; -/
noncomputable def branches (i : grid0.Coords) : P (F := F) PUnit := do
  let ⟨_, v⟩ ← front a2 a3 a4 a5 a6 a7 a10 ha10 a11 ha11 a13 ha13 a14 a15 i
  spreadP a8 a12 ha12 i v
  pure ⟨⟩

/-- and as a sequence. -/
noncomputable def body (i : grid0.Coords) : P (F := F) PUnit :=
  (if k0_cond1 i = 1#1 then zeroP a14 else pure ⟨⟩) >>= fun _ =>
  (if k0_cond2 i = 1#1 then firstP a2 a3 a4 a5 a10 ha10 a14 a15 else pure ⟨⟩) >>= fun _ =>
  gateP a6 a7 a11 ha11 a13 ha13 a15 >>= fun v => spreadP a8 a12 ha12 i v >>= fun _ => pure ⟨⟩

theorem branches_eq (i : grid0.Coords) : branches (F := F) a2 a3 a4 a5 a6 a7 a8 a10 ha10 a11 ha11 a12 ha12 a13 ha13 a14 a15 i = body a2 a3 a4 a5 a6 a7 a8 a10 ha10 a11 ha11 a12 ha12 a13 ha13 a14 a15 i := by
  unfold branches front body
  by_cases h1 : k0_cond1 i = 1#1 <;> by_cases h2 : k0_cond2 i = 1#1 <;>
    simp only [h1, h2, if_true, if_false, ↓reduceIte] <;> rfl

end Program

set_option maxHeartbeats 4000000 in
/-- The printed kernel function is this program. -/
theorem cc0_eq (i : grid0.Coords) (a2 : Memref sig .tc .vmem S512x1024 .f32) (ha2 : a2.IsWhole) (a3 : Memref sig .tc .vmem S512x1024 .bf16) (ha3 : a3.IsWhole) (a4 : Memref sig .tc .vmem S1x1024 .f32) (ha4 : a4.IsWhole) (a5 : Memref sig .tc .vmem S1024x1024 .bf16) (ha5 : a5.IsWhole) (a6 : Memref sig .tc .vmem S1x512x1024 .bf16) (ha6 : a6.IsWhole) (a7 : Memref sig .tc .vmem S512x1024 .bf16) (ha7 : a7.IsWhole) (a8 : Memref sig .tc .vmem S4x3x256x1024 .bf16) (ha8 : a8.IsWhole) (a9 : Memref sig .tc .hbm S8x128 .f32) (ha9 : a9.IsWhole) (a10 : Memref sig .tc .vmem S512x1024 .bf16) (ha10 : a10.IsWhole) (a11 : Memref sig .tc .vmem S1x512x1024 .bf16) (ha11 : a11.IsWhole) (a12 : Memref sig .tc .vmem S1x512x1024 .bf16) (ha12 : a12.IsWhole) (a13 : Memref sig .tc .vmem S512x1024 .bf16) (ha13 : a13.IsWhole) (a14 : Memref sig .tc .vmem S1x1024 .f32) (ha14 : a14.IsWhole) (a15 : Memref sig .tc .vmem S512x1024 .f32) (ha15 : a15.IsWhole) :
    cc0_mix_out_bwd (F := F) i a2 ha2 a3 ha3 a4 ha4 a5 ha5 a6 ha6 a7 ha7 a8 ha8 a9 ha9 a10 ha10 a11 ha11 a12 ha12 a13 ha13 a14 ha14 a15 ha15
      = body a2 a3 a4 a5 a6 a7 a8 a10 ha10 a11 ha11 a12 ha12 a13 ha13 a14 a15 i := by
  rw [← branches_eq]
  sl_kernel_rfl

/-! ## A load of a whole buffer reads it -/

section Whole

variable {κ : Kind} {sp : Space} {e : EltTy}

theorem readAt_block (v : View sig κ sp S512x1024 e) (f : v.ty.Contents (Elt F)) (inb) :
    v.readAt (Elt F) (Rect.unit (s := S512x1024) ![0, 0] ![512, 1024] inb).toLoadRect f = v.read (Elt F) f := View.readAt_full v f inb
theorem readAt_wide (v : View sig κ sp S1024x1024 e) (f : v.ty.Contents (Elt F)) (inb) :
    v.readAt (Elt F) (Rect.unit (s := S1024x1024) ![0, 0] ![1024, 1024] inb).toLoadRect f = v.read (Elt F) f := View.readAt_full v f inb
theorem readAt_row (v : View sig κ sp S1x1024 e) (f : v.ty.Contents (Elt F)) (inb) :
    v.readAt (Elt F) (Rect.unit (s := S1x1024) ![0, 0] ![1, 1024] inb).toLoadRect f = v.read (Elt F) f := View.readAt_full v f inb
theorem readAt_sheet (v : View sig κ sp S1x512x1024 e) (f : v.ty.Contents (Elt F)) (inb) :
    v.readAt (Elt F) (Rect.unit (s := S1x512x1024) ![0, 0, 0] ![1, 512, 1024] inb).toLoadRect f = v.read (Elt F) f := View.readAt_full v f inb

end Whole

section Parts

variable (t : Dev nD)
variable (a2 : Memref sig .tc .vmem S512x1024 .f32) (a3 : Memref sig .tc .vmem S512x1024 .bf16) (a4 : Memref sig .tc .vmem S1x1024 .f32)
  (a5 : Memref sig .tc .vmem S1024x1024 .bf16) (a6 : Memref sig .tc .vmem S1x512x1024 .bf16) (a7 : Memref sig .tc .vmem S512x1024 .bf16)
  (a8 : Memref sig .tc .vmem S4x3x256x1024 .bf16)
  (a10 : Memref sig .tc .vmem S512x1024 .bf16) (ha10 : a10.IsWhole) (a11 : Memref sig .tc .vmem S1x512x1024 .bf16) (ha11 : a11.IsWhole)
  (a12 : Memref sig .tc .vmem S1x512x1024 .bf16) (ha12 : a12.IsWhole) (a13 : Memref sig .tc .vmem S512x1024 .bf16) (ha13 : a13.IsWhole)
  (a14 : Memref sig .tc .vmem S1x1024 .f32) (a15 : Memref sig .tc .vmem S512x1024 .f32)

/-- The blocks read, -/
def ins (x : In F) : sProp 𝕄 :=
  iprop(owns t a2 fullShare x.ct ∗ owns t a3 fullShare x.m ∗ owns t a4 fullShare x.g ∗ owns t a5 fullShare x.wo ∗ owns t a6 fullShare x.p ∗ owns t a7 fullShare x.z ∗ owns t a8 fullShare x.wb)
/-- and the buffers written. -/
def st (s : St F) : sProp 𝕄 :=
  iprop(owns t a10 fullShare s.dm ∗ owns t a11 fullShare s.dp ∗ owns t a12 fullShare s.dy ∗ owns t a13 fullShare s.dz ∗ owns t a14 fullShare s.dg ∗ owns t a15 fullShare s.acc)

/-- The zero fill. -/
theorem zero_triple (x : In F) (s : St F) (E : Set ℕ) (K : PUnit → sProp 𝕄) :
    iprop(ins t a2 a3 a4 a5 a6 a7 a8 x ∗ st t a10 a11 a12 a13 a14 a15 s ∗ ((ins t a2 a3 a4 a5 a6 a7 a8 x ∗ st t a10 a11 a12 a13 a14 a15 (zeroS s)) -∗ K ⟨⟩))
      ⊢ wp frame (wpE (defs₀ (F := F)) Variants.none t none) E (zeroP a14) K := by
  obtain ⟨x2, x3, x4, x5, x6, x7, x8⟩ := x
  obtain ⟨s10, s11, s12, s13, s14, s15⟩ := s
  unfold zeroP ins st owns
  dsimp only
  iintro ⟨⟨H2, H3, H4, H5, H6, H7, H8⟩, ⟨H10, H11, H12, H13, ⟨%f14, %h14, H14⟩, H15⟩, Hk⟩
  subst h14
  sl_exec
  sl_step
  iapply Hk
  isplitl [H2 H3 H4 H5 H6 H7 H8]
  · iframe
  iframe H10 H11 H12 H13
  isplitl [H14]
  · iexists _; isplitr; rotate_left
    · iexact H14
    · ipureintro; exact View.read_writes_full _ _ _ _ _
  iexact H15

/-- The first point of a row block. -/
theorem first_triple (x : In F) (s : St F) (E : Set ℕ) (K : PUnit → sProp 𝕄) :
    iprop(ins t a2 a3 a4 a5 a6 a7 a8 x ∗ st t a10 a11 a12 a13 a14 a15 s ∗ ((ins t a2 a3 a4 a5 a6 a7 a8 x ∗ st t a10 a11 a12 a13 a14 a15 (firstS x s)) -∗ K ⟨⟩))
      ⊢ wp frame (wpE (defs₀ (F := F)) Variants.none t none) E (firstP a2 a3 a4 a5 a10 ha10 a14 a15) K := by
  obtain ⟨x2, x3, x4, x5, x6, x7, x8⟩ := x
  obtain ⟨s10, s11, s12, s13, s14, s15⟩ := s
  unfold firstP ins st owns
  dsimp only
  iintro ⟨⟨⟨%f2, %h2, H2⟩, ⟨%f3, %h3, H3⟩, ⟨%f4, %h4, H4⟩, ⟨%f5, %h5, H5⟩, H6, H7, H8⟩, ⟨⟨%f10, %h10, H10⟩, H11, H12, H13, ⟨%f14, %h14, H14⟩, ⟨%f15, %h15, H15⟩⟩, Hk⟩
  subst h2; subst h3; subst h4; subst h5; subst h10; subst h14; subst h15
  sl_exec
  sl_step
  simp only [readAt_block, readAt_wide, readAt_row, readAt_sheet]
  iapply Hk
  isplitl [H2 H3 H4 H5 H6 H7 H8]
  · isplitl [H2]
    · iexists _; isplitr; rotate_left
      · iexact H2
      · ipureintro; exact rfl
    isplitl [H3]
    · iexists _; isplitr; rotate_left
      · iexact H3
      · ipureintro; exact rfl
    isplitl [H4]
    · iexists _; isplitr; rotate_left
      · iexact H4
      · ipureintro; exact rfl
    isplitl [H5]
    · iexists _; isplitr; rotate_left
      · iexact H5
      · ipureintro; exact rfl
    iframe
  isplitl [H10]
  · iexists _; isplitr; rotate_left
    · iexact H10
    · ipureintro; exact View.read_writes_full _ _ _ _ _
  iframe H11 H12 H13
  isplitl [H14]
  · iexists _; isplitr; rotate_left
    · iexact H14
    · ipureintro; exact View.read_writes_full _ _ _ _ _
  iexists _; isplitr; rotate_left
  · iexact H15
  · ipureintro; exact View.read_writes_full _ _ _ _ _

/-- A branch's product gradient and its gate's. -/
theorem gate_triple (x : In F) (s : St F) (E : Set ℕ) (K : FVec F S512x1024 .bf16 → sProp 𝕄) :
    iprop(ins t a2 a3 a4 a5 a6 a7 a8 x ∗ st t a10 a11 a12 a13 a14 a15 s ∗ ((ins t a2 a3 a4 a5 a6 a7 a8 x ∗ st t a10 a11 a12 a13 a14 a15 (gateS x s)) -∗ K (k0_pay10 x.z s.acc)))
      ⊢ wp frame (wpE (defs₀ (F := F)) Variants.none t none) E (gateP a6 a7 a11 ha11 a13 ha13 a15) K := by
  obtain ⟨x2, x3, x4, x5, x6, x7, x8⟩ := x
  obtain ⟨s10, s11, s12, s13, s14, s15⟩ := s
  unfold gateP ins st owns
  dsimp only
  iintro ⟨⟨H2, H3, H4, H5, ⟨%f6, %h6, H6⟩, ⟨%f7, %h7, H7⟩, H8⟩, ⟨H10, ⟨%f11, %h11, H11⟩, H12, ⟨%f13, %h13, H13⟩, H14, ⟨%f15, %h15, H15⟩⟩, Hk⟩
  subst h6; subst h7; subst h11; subst h13; subst h15
  sl_exec
  sl_step
  simp only [readAt_block, readAt_wide, readAt_row, readAt_sheet]
  iapply Hk
  isplitl [H2 H3 H4 H5 H6 H7 H8]
  · iframe H2 H3 H4 H5
    isplitl [H6]
    · iexists _; isplitr; rotate_left
      · iexact H6
      · ipureintro; exact rfl
    isplitl [H7]
    · iexists _; isplitr; rotate_left
      · iexact H7
      · ipureintro; exact rfl
    iexact H8
  isplitl [H10]; · iexact H10
  isplitl [H11]
  · iexists _; isplitr; rotate_left
    · iexact H11
    · ipureintro; exact View.read_writes_full _ _ _ _ _
  isplitl [H12]; · iexact H12
  isplitl [H13]
  · iexists _; isplitr; rotate_left
    · iexact H13
    · ipureintro; exact View.read_writes_full _ _ _ _ _
  isplitl [H14]; · iexact H14
  iexists _; isplitr; rotate_left
  · iexact H15
  · ipureintro; exact rfl

/-- A branch's input gradient. -/
theorem spread_triple (i : grid0.Coords) (v : FVec F S512x1024 .bf16) (x : In F) (s : St F) (E : Set ℕ) (K : PUnit → sProp 𝕄) :
    iprop(ins t a2 a3 a4 a5 a6 a7 a8 x ∗ st t a10 a11 a12 a13 a14 a15 s ∗ ((ins t a2 a3 a4 a5 a6 a7 a8 x ∗ st t a10 a11 a12 a13 a14 a15 (spreadS i x v s)) -∗ K ⟨⟩))
      ⊢ wp frame (wpE (defs₀ (F := F)) Variants.none t none) E (spreadP a8 a12 ha12 i v) K := by
  obtain ⟨x2, x3, x4, x5, x6, x7, x8⟩ := x
  obtain ⟨s10, s11, s12, s13, s14, s15⟩ := s
  unfold spreadP ins st owns
  dsimp only
  iintro ⟨⟨H2, H3, H4, H5, H6, H7, ⟨%f8, %h8, H8⟩⟩, ⟨H10, H11, ⟨%f12, %h12, H12⟩, H13, H14, H15⟩, Hk⟩
  subst h8; subst h12
  sl_exec
  sl_step
  iapply Hk
  isplitl [H2 H3 H4 H5 H6 H7 H8]
  · iframe H2 H3 H4 H5 H6 H7
    iexists _; isplitr; rotate_left
    · iexact H8
    · ipureintro; exact rfl
  iframe H10 H11
  isplitl [H12]
  · iexists _; isplitr; rotate_left
    · iexact H12
    · ipureintro; exact (View.read_writes_cons_put _ _ _ _ _ rfl).trans (congrArg (fun d => VecWindow.put d _ _ _) ((View.read_writes_cons_put _ _ _ _ _ rfl).trans (congrArg (fun d => VecWindow.put d _ _ _) ((View.read_writes_cons_put _ _ _ _ _ rfl).trans (congrArg (fun d => VecWindow.put d _ _ _) (View.read_writes_cons_put _ _ _ _ [] rfl))))))
  isplitl [H13]; · iexact H13
  isplitl [H14]; · iexact H14
  iexact H15

/-- A part run only where a condition holds. -/
theorem cond_all (p : Prop) [Decidable p] (prog : P (F := F) PUnit) (x : In F) (s s' : St F) (E : Set ℕ)
    (h : ∀ K : PUnit → sProp 𝕄, iprop(ins t a2 a3 a4 a5 a6 a7 a8 x ∗ st t a10 a11 a12 a13 a14 a15 s ∗ ((ins t a2 a3 a4 a5 a6 a7 a8 x ∗ st t a10 a11 a12 a13 a14 a15 s') -∗ K ⟨⟩))
      ⊢ wp frame (wpE (defs₀ (F := F)) Variants.none t none) E prog K) (K : PUnit → sProp 𝕄) :
    iprop(ins t a2 a3 a4 a5 a6 a7 a8 x ∗ st t a10 a11 a12 a13 a14 a15 s ∗ ((ins t a2 a3 a4 a5 a6 a7 a8 x ∗ st t a10 a11 a12 a13 a14 a15 (if p then s' else s)) -∗ K ⟨⟩))
      ⊢ wp frame (wpE (defs₀ (F := F)) Variants.none t none) E (if p then prog else pure ⟨⟩) K := by
  by_cases hp : p
  · rw [if_pos hp, if_pos hp]; exact h K
  · rw [if_neg hp, if_neg hp]
    iintro ⟨HI, HS, Hk⟩
    sl_step
    iapply Hk
    iframe

/-- A point takes the buffers through `step`. -/
theorem body_triple (i : grid0.Coords) (x : In F) (s : St F) (E : Set ℕ) (K : PUnit → sProp 𝕄) :
    iprop(ins t a2 a3 a4 a5 a6 a7 a8 x ∗ st t a10 a11 a12 a13 a14 a15 s ∗ ((ins t a2 a3 a4 a5 a6 a7 a8 x ∗ st t a10 a11 a12 a13 a14 a15 (step i x s)) -∗ K ⟨⟩))
      ⊢ wp frame (wpE (defs₀ (F := F)) Variants.none t none) E (body a2 a3 a4 a5 a6 a7 a8 a10 ha10 a11 ha11 a12 ha12 a13 ha13 a14 a15 i) K := by
  unfold body step
  iintro ⟨HI, HS, Hk⟩
  rw [wp_bind]
  iapply (cond_all t a2 a3 a4 a5 a6 a7 a8 a10 a11 a12 a13 a14 a15 (k0_cond1 i = 1#1) _ x s (zeroS s) E (fun K => zero_triple t a2 a3 a4 a5 a6 a7 a8 a10 a11 a12 a13 a14 a15 x s E K) _)
  iframe HI HS
  iintro ⟨HI, HS⟩
  rw [wp_bind]
  iapply (cond_all t a2 a3 a4 a5 a6 a7 a8 a10 a11 a12 a13 a14 a15 (k0_cond2 i = 1#1) _ x _ _ E (fun K => first_triple t a2 a3 a4 a5 a6 a7 a8 a10 ha10 a11 a12 a13 a14 a15 x _ E K) _)
  iframe HI HS
  iintro ⟨HI, HS⟩
  rw [wp_bind]
  iapply (gate_triple t a2 a3 a4 a5 a6 a7 a8 a10 a11 ha11 a12 a13 ha13 a14 a15 x _ E _)
  iframe HI HS
  iintro ⟨HI, HS⟩
  rw [wp_bind]
  iapply (spread_triple t a2 a3 a4 a5 a6 a7 a8 a10 a11 a12 ha12 a13 a14 a15 i _ x _ E _)
  iframe HI HS
  iintro ⟨HI, HS⟩
  sl_step
  iapply Hk
  iframe

end Parts

end Cert.MixOutIdeal.Body

end
-- ==== Proof.MixOutRun.lean ====
/- The branch mix's gradient's run: what every point of the grid leaves, and the whole program's execution. -/
module

public import proofs.«01_k».proof.Proof.Carry
public import proofs.«01_k».proof.Proof.MixOutBody
public import proofs.«01_k».proof.Proof.Gen.MixOutIdeal.Frame
public import Idealize.ShloMosaic.Lib.Quiescent
public import Idealize.ShloMosaic.Lib.Claim

@[expose] public section

set_option maxRecDepth 16384

noncomputable section

namespace Cert.MixOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.MixOutIdeal.Gen Cert.MixOutIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

theorem lt24 (t : Fin cfg0.N) : t.val < 24 := lt_of_lt_of_eq t.isLt (show cfg0.N = 24 from N_0)

/-- The blocks point `t` reads. -/
def insAt (c : Dev nD) (t : Fin cfg0.N) : In F :=
  ⟨iblk m c 0 t, iblk m c 1 t, iblk m c 2 t, iblk m c 3 t, iblk m c 4 t, iblk m c 5 t, iblk m c 6 t⟩

/-- Branch `j`'s point of row block `r`. -/
def pt (r j : ℕ) : Fin cfg0.N := ⟨3 * (r % 8) + j % 3, lt_of_lt_of_eq (by omega) (show 24 = cfg0.N from N_0.symm)⟩

theorem pt_self (t : Fin cfg0.N) : pt (t.val / 3) (t.val % 3) = t :=
  Fin.ext (by have := lt24 t; show 3 * (t.val / 3 % 8) + t.val % 3 % 3 = t.val; omega)
theorem pt_of (t : Fin cfg0.N) (j : ℕ) (h : t.val % 3 = j) : pt (t.val / 3) j = t := h ▸ pt_self t

/-- The norm's gradient of row block `r`; -/
def dmAt (c : Dev nD) (r : ℕ) : Vec F S512x1024 .bf16 :=
  k0_pay6 (insAt m c (pt r 0)).ct (insAt m c (pt r 0)).m (insAt m c (pt r 0)).g
/-- its product with the output weight; -/
def accAt (c : Dev nD) (r : ℕ) : Vec F S512x1024 .f32 := k0_pay8 (dmAt m c r) (insAt m c (pt r 0)).wo
/-- the scale's sum after `r` row blocks; -/
def dgAt (c : Dev nD) : ℕ → Vec F S1x1024 .f32
  | 0 => k0_pay7
  | r + 1 => k0_pay5 (insAt m c (pt r 0)).ct (insAt m c (pt r 0)).m (dgAt c r)
/-- and at point `t` the branch's product gradient, -/
def dpAt (c : Dev nD) (t : Fin cfg0.N) : Vec F S1x512x1024 .bf16 := k0_pay11 (insAt m c t).z (accAt m c (t.val / 3))
/-- its gate's -/
def dzAt (c : Dev nD) (t : Fin cfg0.N) : Vec F S512x1024 .bf16 := k0_pay12 (insAt m c t).z (accAt m c (t.val / 3)) (insAt m c t).p
/-- and its input's. -/
def dyAt (c : Dev nD) (t : Fin cfg0.N) : Vec F S1x512x1024 .bf16 :=
  spread (grid0.coords t) (insAt m c t).wb (k0_pay10 (insAt m c t).z (accAt m c (t.val / 3))) (dpAt m c t)

/-! ## The cases of a point -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val % 3 = 0 :=
  (by decide +kernel : ∀ t : Fin grid0.N, k0_cond2 (grid0.coords t) = 1#1 ↔ t.val % 3 = 0)

theorem idle_7 : ∀ t : Fin cfg0.N, cfg0.idle 7 (cfg0.grid.coords t) = decide (t.val % 3 ≠ 0) :=
  (by decide +kernel : ∀ t : Fin grid0.N, (!(k0_cond2 (grid0.coords t) == 1#1)) = decide (t.val % 3 ≠ 0))
theorem idle_11 : ∀ t : Fin cfg0.N, cfg0.idle 11 (cfg0.grid.coords t) = decide (t.val % 3 ≠ 0) :=
  (by decide +kernel : ∀ t : Fin grid0.N, (!(k0_cond1 (grid0.coords t) == 1#1) && !(k0_cond2 (grid0.coords t) == 1#1)) = decide (t.val % 3 ≠ 0))

/-- What the buffers hold when point `t` begins; -/
structure Found (c : Dev nD) (t : Fin cfg0.N) (s : St F) : Prop where
  dm : t.val % 3 ≠ 0 → s.dm = dmAt m c (t.val / 3)
  acc : t.val % 3 ≠ 0 → s.acc = accAt m c (t.val / 3)
  dg : t.val ≠ 0 → s.dg = dgAt m c ((t.val + 2) / 3)

/-- and when it ends. -/
structure Left (c : Dev nD) (t : Fin cfg0.N) (s s' : St F) : Prop where
  dm : s'.dm = dmAt m c (t.val / 3)
  acc : s'.acc = accAt m c (t.val / 3)
  dp : s'.dp = dpAt m c t
  dy : s'.dy = dyAt m c t
  dz : s'.dz = dzAt m c t
  dg : s'.dg = dgAt m c (t.val / 3 + 1)
  dm_keep : t.val % 3 ≠ 0 → s'.dm = s.dm
  dg_keep : t.val % 3 ≠ 0 → s'.dg = s.dg

/-- What every point does, once the kept buffer holds the row block's product. -/
theorem tail_left (c : Dev nD) (t : Fin cfg0.N) (s : St F) (h : s.acc = accAt m c (t.val / 3)) :
    (spreadS (grid0.coords t) (insAt m c t) (k0_pay10 (insAt m c t).z s.acc) (gateS (insAt m c t) s)).dp = dpAt m c t
    ∧ (spreadS (grid0.coords t) (insAt m c t) (k0_pay10 (insAt m c t).z s.acc) (gateS (insAt m c t) s)).dy = dyAt m c t
    ∧ (spreadS (grid0.coords t) (insAt m c t) (k0_pay10 (insAt m c t).z s.acc) (gateS (insAt m c t) s)).dz = dzAt m c t := by
  unfold dpAt dyAt dzAt
  rw [← h]
  exact ⟨rfl, tiles_any _ _ _ _ _ _, rfl⟩

theorem step_left (c : Dev nD) (t : Fin cfg0.N) (s : St F) (h : Found m c t s) :
    Left m c t s (step (grid0.coords t) (insAt m c t) s) := by
  have hN := lt24 t
  unfold step
  by_cases h2 : t.val % 3 = 0
  · have eI : insAt m c (pt (t.val / 3) 0) = insAt m c t := by rw [pt_of t 0 h2]
    have eM : dmAt m c (t.val / 3) = k0_pay6 (insAt m c t).ct (insAt m c t).m (insAt m c t).g := by unfold dmAt; rw [eI]
    have eA : accAt m c (t.val / 3) = k0_pay8 (k0_pay6 (insAt m c t).ct (insAt m c t).m (insAt m c t).g) (insAt m c t).wo := by
      unfold accAt; rw [eI, eM]
    have eD : ∀ r, r = t.val / 3 → dgAt m c (r + 1) = k0_pay5 (insAt m c t).ct (insAt m c t).m (dgAt m c r) := fun r e => by rw [dgAt, e, eI]
    simp only [if_pos ((cond2_iff t).mpr h2)]
    by_cases h1 : t.val = 0
    · simp only [if_pos ((cond1_iff t).mpr h1)]
      have hT := tail_left m c t (firstS (insAt m c t) (zeroS s)) eA.symm
      exact ⟨eM.symm, eA.symm, hT.1, hT.2.1, hT.2.2, by rw [eD _ rfl, show t.val / 3 = 0 from by omega]; rfl,
        fun e => absurd h2 e, fun e => absurd h2 e⟩
    · simp only [if_neg (fun e => h1 ((cond1_iff t).mp e))]
      have hT := tail_left m c t (firstS (insAt m c t) s) eA.symm
      exact ⟨eM.symm, eA.symm, hT.1, hT.2.1, hT.2.2, by rw [eD _ rfl, show t.val / 3 = (t.val + 2) / 3 from by omega, ← h.dg h1]; rfl,
        fun e => absurd h2 e, fun e => absurd h2 e⟩
  · have h1 : t.val ≠ 0 := fun e => h2 (by rw [e])
    simp only [if_neg (fun e => h2 ((cond2_iff t).mp e)), if_neg (fun e => h1 ((cond1_iff t).mp e))]
    have hT := tail_left m c t s (h.acc h2)
    exact ⟨h.dm h2, h.acc h2, hT.1, hT.2.1, hT.2.2, by rw [show t.val / 3 + 1 = (t.val + 2) / 3 from by omega, ← h.dg h1]; rfl,
      fun _ => rfl, fun _ => rfl⟩

/-- The kept buffer between points. -/
def inv (c : Dev nD) (n : ℕ) : sProp 𝕄 :=
  iprop((∃ acc, ⌜n % 3 ≠ 0 → acc = accAt m c (n / 3)⌝ ∗ owns c (Memref.whole cc0_scratch0) fullShare acc) ∗ (∃ r, prngReg c r))

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dmAt m c (t.val / 3)
    | ⟨8, _⟩ => dpAt m c t
    | ⟨9, _⟩ => dyAt m c t
    | ⟨10, _⟩ => dzAt m c t
    | ⟨11, _⟩ => dgAt m c (t.val / 3 + 1)
  Φ t := inv m c t.val
  q w := Pipeline.shareOf spec0 w
  owed _ := 0

theorem A_eq (c : Dev nD) (w : Fin cfg0.W) : (dats m 0 c).A w = V m c (Pipeline.arrRef spec0 w) := by dsimp only [dats]

theorem after_in (c : Dev nD) (t : Fin cfg0.N) : (dats m 0 c).after 0 t = iblk m c 0 t
    ∧ (dats m 0 c).after 1 t = iblk m c 1 t
    ∧ (dats m 0 c).after 2 t = iblk m c 2 t
    ∧ (dats m 0 c).after 3 t = iblk m c 3 t
    ∧ (dats m 0 c).after 4 t = iblk m c 4 t
    ∧ (dats m 0 c).after 5 t = iblk m c 5 t
    ∧ (dats m 0 c).after 6 t = iblk m c 6 t := by
  and_intros <;> dsimp only [dats]
theorem after_7 (c : Dev nD) (t : Fin cfg0.N) : (dats m 0 c).after 7 t = dmAt m c (t.val / 3) := by dsimp only [dats]
theorem after_8 (c : Dev nD) (t : Fin cfg0.N) : (dats m 0 c).after 8 t = dpAt m c t := by dsimp only [dats]
theorem after_9 (c : Dev nD) (t : Fin cfg0.N) : (dats m 0 c).after 9 t = dyAt m c t := by dsimp only [dats]
theorem after_10 (c : Dev nD) (t : Fin cfg0.N) : (dats m 0 c).after 10 t = dzAt m c t := by dsimp only [dats]
theorem after_11 (c : Dev nD) (t : Fin cfg0.N) : (dats m 0 c).after 11 t = dgAt m c (t.val / 3 + 1) := by dsimp only [dats]

set_option maxHeartbeats 1000000 in
theorem before_in (c : Dev nD) (t : Fin cfg0.N) : (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t) :=
  ⟨before0_0_of m (dats m 0 c) (A_eq m c 0) (fun _ => rfl) t, before0_1_of m (dats m 0 c) (A_eq m c 1) (fun _ => rfl) t, before0_2_of m (dats m 0 c) (A_eq m c 2) (fun _ => rfl) t, before0_3_of m (dats m 0 c) (A_eq m c 3) (fun _ => rfl) t, before0_4_of m (dats m 0 c) (A_eq m c 4) (fun _ => rfl) t, before0_5_of m (dats m 0 c) (A_eq m c 5) (fun _ => rfl) t, before0_6_of m (dats m 0 c) (A_eq m c 6) (fun _ => rfl) t⟩

/-! ## What the results' buffers hold between their stores -/

theorem before_7 (c : Dev nD) (t : Fin cfg0.N) (h : t.val % 3 ≠ 0) (d) : (dats m 0 c).before 7 t d = dmAt m c (t.val / 3) :=
  Carry.carried (dats m 0 c) 7 (fun _ => rfl) (fun _ _ => rfl) (fun n => dmAt m c (n / 3)) (fun n => n % 3 ≠ 0) (by omega)
    (fun t _ hg => ⟨by rw [Bool.eq_false_iff, Ne, flush0_7]; omega,
      fun hi => by
        rw [idle_7, decide_eq_true_eq] at hi
        exact ⟨hi, by rw [show (t.val + 1) / 3 = t.val / 3 from by omega]⟩,
      fun _ => by rw [after_7, show (t.val + 1) / 3 = t.val / 3 from by omega]⟩) t.val t.isLt h d

theorem before_11 (c : Dev nD) (t : Fin cfg0.N) (h : t.val ≠ 0) (d) : (dats m 0 c).before 11 t d = dgAt m c ((t.val + 2) / 3) :=
  Carry.carried (dats m 0 c) 11 (fun _ => rfl) (fun _ _ => rfl) (fun n => dgAt m c ((n + 2) / 3)) (fun n => n ≠ 0) (by omega)
    (fun t hN _ => ⟨by rw [Bool.eq_false_iff, Ne, flush0_11]; have : cfg0.N = 24 := N_0; omega,
      fun hi => by
        rw [idle_11, decide_eq_true_eq] at hi
        exact ⟨by omega, by rw [show (t.val + 1 + 2) / 3 = (t.val + 2) / 3 from by omega]⟩,
      fun hi => by
        rw [idle_11, decide_eq_false_iff_not] at hi
        rw [after_11, show (t.val + 1 + 2) / 3 = t.val / 3 + 1 from by omega]⟩) t.val t.isLt h d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d))
    ∗ (∃ d, owns c (st0_8 t) fullShare ((dats m 0 c).before 8 t d))
    ∗ (∃ d, owns c (st0_9 t) fullShare ((dats m 0 c).before 9 t d))
    ∗ (∃ d, owns c (st0_10 t) fullShare ((dats m 0 c).before 10 t d))
    ∗ (∃ d, owns c (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

/-- The inputs' buffers are handed over as left. -/
theorem post_eq (c : Dev nD) (t : Fin cfg0.N) : bodyPost m c t
    = iprop(inv m c (t.val + 1) ∗ (dats m 0 c).owesAt () t.castSucc
      ∗ owns c (st0_0 t) fullShare (iblk m c 0 t)
      ∗ owns c (st0_1 t) fullShare (iblk m c 1 t)
      ∗ owns c (st0_2 t) fullShare (iblk m c 2 t)
      ∗ owns c (st0_3 t) fullShare (iblk m c 3 t)
      ∗ owns c (st0_4 t) fullShare (iblk m c 4 t)
      ∗ owns c (st0_5 t) fullShare (iblk m c 5 t)
      ∗ owns c (st0_6 t) fullShare (iblk m c 6 t)
      ∗ (dats m 0 c).leavesExact 7 t ∗ (dats m 0 c).leavesExact 8 t ∗ (dats m 0 c).leavesExact 9 t ∗ (dats m 0 c).leavesExact 10 t ∗ (dats m 0 c).leavesExact 11 t) := by
  unfold bodyPost
  rw [Carry.live (dats m 0 c) 0 t rfl, Carry.live (dats m 0 c) 1 t rfl, Carry.live (dats m 0 c) 2 t rfl, Carry.live (dats m 0 c) 3 t rfl, Carry.live (dats m 0 c) 4 t rfl, Carry.live (dats m 0 c) 5 t rfl, Carry.live (dats m 0 c) 6 t rfl]
  simp only [after_in m c t]
  rfl

theorem pre_eq (c : Dev nD) (t : Fin cfg0.N) : (dats m 0 c).Φ t.castSucc = inv m c t.val := rfl

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyAt0
  rw [cc0_eq, post_eq]
  unfold bodyPre
  rw [pre_eq]
  simp only [before_in m c t]
  have hN := lt24 t
  unfold inv
  iintro ⟨⟨⟨%acc, %hs, H15⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  have hL := step_left m c t ⟨(dats m 0 c).before 7 t e7, (dats m 0 c).before 8 t e8, (dats m 0 c).before 9 t e9, (dats m 0 c).before 10 t e10, (dats m 0 c).before 11 t e11, acc⟩
    ⟨fun h => before_7 m c t h e7, fun h => hs h, fun h => before_11 m c t h e11⟩
  iapply (body_triple c (st0_0 t) (st0_1 t) (st0_2 t) (st0_3 t) (st0_4 t) (st0_5 t) (st0_6 t) (st0_7 t) _ (st0_8 t) _ (st0_9 t) _ (st0_10 t) _ (st0_11 t)
    (Memref.whole cc0_scratch0) (grid0.coords t) (insAt m c t) ⟨(dats m 0 c).before 7 t e7, (dats m 0 c).before 8 t e8, (dats m 0 c).before 9 t e9, (dats m 0 c).before 10 t e10, (dats m 0 c).before 11 t e11, acc⟩ Set.univ _)
  unfold ins st
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8 H9 H10 H11 H15]
  · iframe
  iintro ⟨⟨H0, H1, H2, H3, H4, H5, H6⟩, H7, H8, H9, H10, H11, H15⟩
  isplitl [H15 Hg]
  · isplitl [H15]
    · iexists _
      isplitr; rotate_left
      · iexact H15
      · ipureintro; intro h
        rw [show (t.val + 1) / 3 = t.val / 3 from by omega]
        exact hL.acc
    iexact Hg
  iframe Ho H0 H1 H2 H3 H4 H5 H6
  isplitl [H7]
  · iapply (Carry.hand (dats m 0 c) 7 t _ (fun _ => hL.dm.trans (after_7 m c t).symm)
      (fun hi => ⟨fun _ => hL.dm.trans (after_7 m c t).symm, e7, hL.dm_keep (by rw [idle_7, decide_eq_true_eq] at hi; exact hi)⟩)); iexact H7
  isplitl [H8]
  · iapply (Carry.hand (dats m 0 c) 8 t _ (fun _ => hL.dp.trans (after_8 m c t).symm) (fun hi => absurd hi Bool.false_ne_true)); iexact H8
  isplitl [H9]
  · iapply (Carry.hand (dats m 0 c) 9 t _ (fun _ => hL.dy.trans (after_9 m c t).symm) (fun hi => absurd hi Bool.false_ne_true)); iexact H9
  isplitl [H10]
  · iapply (Carry.hand (dats m 0 c) 10 t _ (fun _ => hL.dz.trans (after_10 m c t).symm) (fun hi => absurd hi Bool.false_ne_true)); iexact H10
  · iapply (Carry.hand (dats m 0 c) 11 t _ (fun _ => hL.dg.trans (after_11 m c t).symm)
      (fun hi => ⟨fun _ => hL.dg.trans (after_11 m c t).symm, e11, hL.dg_keep (by rw [idle_11, decide_eq_true_eq] at hi; exact hi)⟩)); iexact H11

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scratch_eq (c : Dev nD) : (Pipeline.ΦA spec0 c : sProp 𝕄)
    = iprop((∃ d, owns c (Memref.whole cc0_scratch0) fullShare d) ∗ (∃ r, prngReg c r)) := by
  unfold Pipeline.ΦA; rw [scopedRest0_eq]; simp only [owns_whole]; try rfl

theorem hin (c : Dev nD) : (Pipeline.ΦA spec0 c : sProp 𝕄) ⊢ (dats m 0 c).Φ 0 := by
  rw [scratch_eq, show (dats m 0 c).Φ 0 = inv m c 0 from rfl]
  unfold inv
  iintro ⟨⟨%a, H0⟩, Hg⟩
  isplitl [H0]
  · iexists a
    isplitr
    · ipureintro; intro h; omega
    iexact H0
  iexact Hg

theorem hout (c : Dev nD) : (dats m 0 c).Φ (Fin.last cfg0.N) ⊢ (Pipeline.ΦA spec0 c : sProp 𝕄) := by
  rw [scratch_eq, show (dats m 0 c).Φ (Fin.last cfg0.N) = inv m c cfg0.N from rfl]
  unfold inv
  iintro ⟨⟨%a, %h, H0⟩, Hg⟩
  isplitl [H0]
  · iexists a; iexact H0
  iexact Hg

set_option backward.isDefEq.respectTransparency.types false in
/-- The launch: every array at what the points leave, every other buffer at what the host's lines before and after leave, every counter
at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch0.to₀ defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the arguments end as they began. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.MixOutIdeal.Run

end
-- ==== Proof.MixOutFrames.lean ====
/- The frames of the branch mix's gradient: the program over the extended reals and the one over the bits are one text. -/
module

public import proofs.«01_k».proof.Proof.MixOutRun
public import proofs.«01_k».proof.Proof.Gen.MixOut
public import proofs.«01_k».proof.Defs
public import Idealize.ShloMosaic.Lib.Tactic

@[expose] public section

set_option maxRecDepth 16384

noncomputable section

namespace Cert.MixOutFrames

open Idealize.ShloMosaic Idealize.ShloMosaic.TcCoe
open Idealize.SL.Sem

/-- A named constant of the bit program is the literal it was printed as. -/
local instance literal : Named Bits := ⟨fun _ _ _ b => Scalar.ofBits _ b⟩

theorem defs_eq : Cert.MixOutIdeal.defs (F := Bits) = Cert.MixOut.defs (F := Bits) := by sl_kernel_rfl
theorem main_eq : Cert.MixOutIdeal.main (F := Bits) = Cert.MixOut.main (F := Bits) := by sl_kernel_rfl

variable [Cert.Pre_mix_out_finite.Facts]

theorem ideal : Cert.quiescent_MixOutIdeal := fun m ρ _ => Cert.MixOutIdeal.Run.frame_run (F := Ideal) m ρ

theorem ideal_pre : Cert.quiescent_MixOutIdeal_pre_mix_out_finite := fun m ρ _ => Cert.MixOutIdeal.Run.frame_run (F := Ideal) m ρ

theorem bits : Cert.quiescent_MixOut := fun m ρ _ => by
  have h := Cert.MixOutIdeal.Run.frame_run (F := Bits) m ρ
  rw [defs_eq, main_eq] at h
  exact h

end Cert.MixOutFrames

end
-- ==== Proof.MixOutBlock.lean ====
/- The branch mix's gradient over the extended reals: its arrays as formulas, and what one point's blocks hold. -/
module

public import proofs.«01_k».proof.Proof.MixOutRun
public import proofs.«01_k».proof.Proof.InProjValue

@[expose] public section

set_option maxRecDepth 16384

noncomputable section

namespace Cert.MixOutIdeal.Block

open Idealize.ShloMosaic Idealize.ShloMosaic.TcCoe
open Cert.MixOutIdeal.Gen Cert.MixOutIdeal.Body Cert.MixOutIdeal.Run
open Cert.InProjValue (rinv dxRow)

/-! ## The arrays as formulas -/

/-- The arguments. -/
structure Data where
  ct : FVec Ideal S4096x1024 .f32
  ya : FVec Ideal S4096x1024 .bf16
  yc : FVec Ideal S4096x1024 .bf16
  ys : FVec Ideal S4096x1024 .bf16
  z : FVec Ideal S4096x10240 .bf16
  g : FVec Ideal S1024 .f32
  wb : FVec Ideal S3x1024x1024 .f32
  wo : FVec Ideal S1024x1024 .f32

/-- The column of a branch's gate. -/
def gcol (b : Fin 3) (j : Fin 1024) : Fin 10240 := ⟨(7 + b.val) * 1024 + j.val, by omega⟩

/-- The logistic function. -/
def sig1 (a : EReal) : EReal := Ideal.div 1 (1 + Ideal.exp (-a))

namespace Data
variable (A : Data)

/-- A branch's output; -/
def y : Fin 3 → FVec Ideal S4096x1024 .bf16 := ![A.ya, A.yc, A.ys]
/-- a row of the cotangent; -/
def ctr (r : Fin 4096) (k : Fin 1024) : EReal := A.ct (ix2 r k)
/-- the norm's weight; -/
def gr (k : Fin 1024) : EReal := A.g (ix1 k)
/-- a branch's product with its weight; -/
def p (b : Fin 3) (r : Fin 4096) (j : Fin 1024) : EReal := ∑ k : Fin 1024, A.y b (ix2 r k) * A.wb (ix3 b k j)
/-- its gate; -/
def s (b : Fin 3) (r : Fin 4096) (j : Fin 1024) : EReal := sig1 (A.z (ix2 r (gcol b j)))
/-- the gated branches' sum; -/
def mix (r : Fin 4096) (j : Fin 1024) : EReal := A.s 0 r j * A.p 0 r j + A.s 1 r j * A.p 1 r j + A.s 2 r j * A.p 2 r j
/-- its product with the output weight, which the norm takes; -/
def m (r : Fin 4096) (j : Fin 1024) : EReal := ∑ k : Fin 1024, A.mix r k * A.wo (ix2 k j)
/-- that product's gradient; -/
def dm (r : Fin 4096) (j : Fin 1024) : EReal := dxRow (A.ctr r) (A.m r) A.gr j
/-- the gradient of the sum; -/
def dmix (r : Fin 4096) (j : Fin 1024) : EReal := ∑ k : Fin 1024, A.dm r k * A.wo (ix2 j k)
/-- of a branch's product, -/
def dp (b : Fin 3) (r : Fin 4096) (j : Fin 1024) : EReal := A.dmix r j * A.s b r j
/-- of its gate's argument -/
def dz (b : Fin 3) (r : Fin 4096) (j : Fin 1024) : EReal := A.dmix r j * A.p b r j * A.s b r j * (1 - A.s b r j)
/-- and of its output; -/
def dy (b : Fin 3) (r : Fin 4096) (j : Fin 1024) : EReal := ∑ k : Fin 1024, A.dp b r k * A.wb (ix3 b j k)
/-- and of the norm's weight, with a row's part of it. -/
def t (r : Fin 4096) (j : Fin 1024) : EReal := A.ct (ix2 r j) * (A.m r j * rinv (A.m r))
def dg (j : Fin 1024) : EReal := ∑ r : Fin 4096, A.t r j

end Data

/-! ## The host lines before the call -/

/-- A branch's product, -/
def prod (y : FVec Ideal S4096x1024 .bf16) (w : FVec Ideal S1x1024x1024 .f32) : FVec Ideal S4096x1024 .f32 :=
  Host.dotGeneral dot_S4096x1024_S1024x1024_S4096x1024_1_0_0_1_n_n none y
    (truncf .bf16 (shapeCast S1024x1024 w shapeCasts_S1x1024x1024_S1024x1024) bitsLt_bf16_f32)

/-- its gate, -/
def gate (z : FVec Ideal S4096x1024 .bf16) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf (extf .f32 z bitsLt_bf16_f32))))

/-- the three products, -/
def p0 (A : Data) : FVec Ideal S4096x1024 .f32 := prod A.ya (extractStridedSlice S1x1024x1024 ![0, 0, 0] A.wb slices_S3x1024x1024_S1x1024x1024_0_0_0)
def p1 (A : Data) : FVec Ideal S4096x1024 .f32 := prod A.yc (extractStridedSlice S1x1024x1024 ![1, 0, 0] A.wb slices_S3x1024x1024_S1x1024x1024_1_0_0)
def p2 (A : Data) : FVec Ideal S4096x1024 .f32 := prod A.ys (extractStridedSlice S1x1024x1024 ![2, 0, 0] A.wb slices_S3x1024x1024_S1x1024x1024_2_0_0)

/-- one over the other, -/
def stack (A : Data) : FVec Ideal S3x4096x1024 .f32 :=
  concatenate S3x4096x1024 0 [⟨S1x4096x1024, broadcastInDim S1x4096x1024 ![1, 2] bcast_S4096x1024_S1x4096x1024_1_2 (p0 A)⟩,
    ⟨S1x4096x1024, broadcastInDim S1x4096x1024 ![1, 2] bcast_S4096x1024_S1x4096x1024_1_2 (p1 A)⟩,
    ⟨S1x4096x1024, broadcastInDim S1x4096x1024 ![1, 2] bcast_S4096x1024_S1x4096x1024_1_2 (p2 A)⟩]
    concatenates_S1x4096x1024_S1x4096x1024_S1x4096x1024_S3x4096x1024_d0

/-- and the norm's argument. -/
def normed (A : Data) : FVec Ideal S4096x1024 .f32 :=
  Host.dotGeneral dot_S4096x1024_S1024x1024_S4096x1024_1_0_0_1_n_n none
    (truncf .bf16 (addf (addf
      (mulf (gate (extractStridedSlice S4096x1024 ![0, 7168] A.z slices_S4096x10240_S4096x1024_0_7168)) (p0 A))
      (mulf (gate (extractStridedSlice S4096x1024 ![0, 8192] A.z slices_S4096x10240_S4096x1024_0_8192)) (p1 A)))
      (mulf (gate (extractStridedSlice S4096x1024 ![0, 9216] A.z slices_S4096x10240_S4096x1024_0_9216)) (p2 A))) bitsLt_bf16_f32)
    (truncf .bf16 A.wo bitsLt_bf16_f32)

/-- The branches' weights by quarters, and the norm's weight as a row. -/
def quarters (A : Data) : FVec Ideal S4x3x256x1024 .f32 :=
  transpose S4x3x256x1024 [1, 0, 2, 3] (shapeCast S3x4x256x1024 A.wb shapeCasts_S3x1024x1024_S3x4x256x1024) transposes_S3x4x256x1024_S4x3x256x1024_1_0_2_3

theorem scale_at (g : FVec Ideal S1024 .f32) (k : Fin 1024) : broadcastInDim S1x1024 ![1] bcast_S1024_S1x1024_1 g (ix2 0 k) = g (ix1 k) := by
  pointwise []

theorem p0_at (A : Data) (r : Fin 4096) (j : Fin 1024) : p0 A (ix2 r j) = A.p 0 r j := by
  pointwise [p0, prod, Data.p, Data.y]
theorem p1_at (A : Data) (r : Fin 4096) (j : Fin 1024) : p1 A (ix2 r j) = A.p 1 r j := by
  pointwise [p1, prod, Data.p, Data.y]
theorem p2_at (A : Data) (r : Fin 4096) (j : Fin 1024) : p2 A (ix2 r j) = A.p 2 r j := by
  pointwise [p2, prod, Data.p, Data.y]

theorem gate_at (z : FVec Ideal S4096x1024 .bf16) (r : Fin 4096) (j : Fin 1024) : gate z (ix2 r j) = sig1 (z (ix2 r j)) := by
  pointwise [gate, sig1]

theorem stack_at (A : Data) (b : Fin 3) (r : Fin 4096) (j : Fin 1024) : stack A (ix3 b r j) = A.p b r j := by
  match b with
  | 0 => pointwise [stack, p0_at]
  | 1 => pointwise [stack, p1_at]
  | 2 => pointwise [stack, p2_at]

theorem normed_at (A : Data) (r : Fin 4096) (j : Fin 1024) : normed A (ix2 r j) = A.m r j := by
  pointwise [normed, gate_at, p0_at, p1_at, p2_at, Data.m, Data.mix, Data.s, gcol]

section

variable (m : (ℓ : Loc nD τ sig) → Buf (Elt Ideal) ℓ) (c : Dev nD)

/-- The arguments as launched. -/
def data : Data := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), m ((c : Thread nD τ).loc main_arg6),
  m ((c : Thread nD τ).loc main_arg7)⟩

theorem V_m : V m c main_v47 = truncf .bf16 (normed (data m c)) bitsLt_bf16_f32 := rfl
theorem V_g : V m c main_v48 = broadcastInDim S1x1024 ![1] bcast_S1024_S1x1024_1 (data m c).g := rfl
theorem V_wb : V m c main_v2 = truncf .bf16 (quarters (data m c)) bitsLt_bf16_f32 := rfl
theorem V_p : V m c main_v53 = truncf .bf16 (stack (data m c)) bitsLt_bf16_f32 := rfl

/-! ## The blocks' reads -/

/-- Row `i` of row block `r`, and the branch of a point. -/
def row (r : ℕ) (i : Fin 512) : Fin 4096 := ⟨r % 8 * 512 + i.val, by omega⟩
def br (j : ℕ) : Fin 3 := ⟨j % 3, by omega⟩

/-- The windows' block indices at a grid point. -/
theorem idx : ∀ t : Fin cfg0.N, win0_0.index t = ![t.val / 3, 0] ∧ win0_1.index t = ![t.val / 3, 0] ∧ win0_2.index t = ![0, 0]
    ∧ win0_3.index t = ![0, 0] ∧ win0_4.index t = ![t.val % 3, t.val / 3, 0] ∧ win0_5.index t = ![t.val / 3, 7 + t.val % 3]
    ∧ win0_6.index t = ![0, 0, 0, 0] ∧ win0_7.index t = ![t.val / 3, 0] ∧ win0_8.index t = ![t.val % 3, t.val / 3, 0]
    ∧ win0_9.index t = ![t.val % 3, t.val / 3, 0] ∧ win0_10.index t = ![t.val / 3, 7 + t.val % 3] ∧ win0_11.index t = ![0, 0] :=
  (by decide +kernel : ∀ t : Fin grid0.N, _)

theorem coord : ∀ t : Fin cfg0.N, ((grid0.coords t) 1).val = t.val % 3 := (by decide +kernel : ∀ t : Fin grid0.N, _)

theorem pt_div (r j : ℕ) : (pt r j).val / 3 = r % 8 := by show (3 * (r % 8) + j % 3) / 3 = r % 8; omega
theorem pt_mod (r j : ℕ) : (pt r j).val % 3 = j % 3 := by show (3 * (r % 8) + j % 3) % 3 = j % 3; omega

variable (r j : ℕ)

theorem ct_at (i : Fin 512) (k : Fin 1024) : (insAt m c (pt r j)).ct (ix2 i k) = (data m c).ct (ix2 (row r i) k) := by
  show iblk m c 0 (pt r j) (ix2 i k) = m ((c : Thread nD τ).loc main_arg0) (ix2 (row r i) k)
  blk_point [iblk, V, idx (pt r j), row, pt_div]

theorem m_at (i : Fin 512) (k : Fin 1024) : (insAt m c (pt r j)).m (ix2 i k) = (data m c).m (row r i) k := by
  rw [← normed_at]
  have e := congrFun (V_m m c) (ix2 (row r i) k)
  refine Eq.trans ?_ e
  show iblk m c 1 (pt r j) (ix2 i k) = V m c main_v47 (ix2 (row r i) k)
  generalize hV : V m c main_v47 = v
  blk_simp [iblk]
  rw [hV]
  congr 1
  blk_ext [idx (pt r j), row, pt_div]

theorem p_at (i : Fin 512) (k : Fin 1024) : (insAt m c (pt r j)).p (ix3 0 i k) = (data m c).p (br j) (row r i) k := by
  rw [← stack_at]
  have e := congrFun (V_p m c) (ix3 (br j) (row r i) k)
  refine Eq.trans ?_ e
  show iblk m c 4 (pt r j) (ix3 0 i k) = V m c main_v53 (ix3 (br j) (row r i) k)
  generalize hV : V m c main_v53 = v
  blk_simp [iblk]
  rw [hV]
  congr 1
  blk_ext [idx (pt r j), row, br, pt_div, pt_mod]

theorem g_at (k : Fin 1024) : (insAt m c (pt r j)).g (ix2 0 k) = (data m c).g (ix1 k) := by
  refine Eq.trans ?_ ((congrFun (V_g m c) (ix2 0 k)).trans (scale_at (data m c).g k))
  show iblk m c 2 (pt r j) (ix2 0 k) = V m c main_v48 (ix2 0 k)
  generalize hV : V m c main_v48 = v
  blk_simp [iblk]
  rw [hV]
  congr 1
  blk_ext [idx (pt r j)]

theorem wo_at (k l : Fin 1024) : (insAt m c (pt r j)).wo (ix2 k l) = (data m c).wo (ix2 k l) := by
  show iblk m c 3 (pt r j) (ix2 k l) = m ((c : Thread nD τ).loc main_arg7) (ix2 k l)
  blk_point [iblk, V, idx (pt r j)]

theorem z_at (i : Fin 512) (k : Fin 1024) : (insAt m c (pt r j)).z (ix2 i k) = (data m c).z (ix2 (row r i) (gcol (br j) k)) := by
  show iblk m c 5 (pt r j) (ix2 i k) = m ((c : Thread nD τ).loc main_arg4) (ix2 (row r i) (gcol (br j) k))
  blk_point [iblk, V, idx (pt r j), row, gcol, br, pt_div, pt_mod]

/-- Row `l` of a weight's quarter `q`. -/
def qrow (q : Fin 4) (l : Fin 256) : Fin 1024 := ⟨q.val * 256 + l.val, by omega⟩

theorem quarters_at (A : Data) (q : Fin 4) (b : Fin 3) (l : Fin 256) (k : Fin 1024) : quarters A (ix4 q b l k) = A.wb (ix3 b (qrow q l) k) := by
  pointwise [quarters, qrow]

theorem wb_at (q : Fin 4) (b : Fin 3) (l : Fin 256) (k : Fin 1024) : (insAt m c (pt r j)).wb (ix4 q b l k) = (data m c).wb (ix3 b (qrow q l) k) := by
  rw [← quarters_at]
  have e := congrFun (V_wb m c) (ix4 q b l k)
  refine Eq.trans ?_ e
  show iblk m c 6 (pt r j) (ix4 q b l k) = V m c main_v2 (ix4 q b l k)
  generalize hV : V m c main_v2 = v
  blk_simp [iblk]
  rw [hV]
  congr 1
  blk_ext [idx (pt r j)]

end

/-! ## One point's values -/

theorem pay3_at (x : FVec Ideal S512x1024 .bf16) (r : Fin 512) : (show EReal from k0_pay3 (F := Ideal) x (ix2 r 0)) = rinv fun k => x (ix2 r k) := by
  pointwise [k0_pay3, k0_pay2, rinv]
theorem pay4_at (x : FVec Ideal S512x1024 .bf16) (r : Fin 512) (j : Fin 1024) : k0_pay4 (F := Ideal) x (ix2 r j) = x (ix2 r j) * rinv fun k => x (ix2 r k) := by
  pointwise [k0_pay4, k0_pay2, pay3_at]
theorem pay5_at (p : FVec Ideal S512x1024 .f32) (x : FVec Ideal S512x1024 .bf16) (a : FVec Ideal S1x1024 .f32) (j : Fin 1024) :
    k0_pay5 (F := Ideal) p x a (ix2 0 j) = a (ix2 0 j) + ∑ r : Fin 512, p (ix2 r j) * (x (ix2 r j) * rinv fun k => x (ix2 r k)) := by
  pointwise [k0_pay5, pay4_at]
theorem pay6_at (p : FVec Ideal S512x1024 .f32) (x : FVec Ideal S512x1024 .bf16) (g : FVec Ideal S1x1024 .f32) (r : Fin 512) (j : Fin 1024) :
    k0_pay6 (F := Ideal) p x g (ix2 r j) = dxRow (fun k => p (ix2 r k)) (fun k => x (ix2 r k)) (fun k => g (ix2 0 k)) j := by
  pointwise [k0_pay6, pay3_at, pay4_at, dxRow]
theorem pay7_at (j : Fin 1024) : k0_pay7 (F := Ideal) (ix2 0 j) = 0 := by pointwise [k0_pay7]
theorem pay8_at (d : FVec Ideal S512x1024 .bf16) (w : FVec Ideal S1024x1024 .bf16) (r : Fin 512) (k : Fin 1024) :
    k0_pay8 (F := Ideal) d w (ix2 r k) = ∑ j : Fin 1024, d (ix2 r j) * w (ix2 k j) := by
  pointwise [k0_pay8]
theorem pay9_at (z : FVec Ideal S512x1024 .bf16) (r : Fin 512) (j : Fin 1024) : k0_pay9 (F := Ideal) z (ix2 r j) = sig1 (z (ix2 r j)) := by
  pointwise [k0_pay9, sig1]
  rw [zero_sub]
theorem pay10_at (z : FVec Ideal S512x1024 .bf16) (s : FVec Ideal S512x1024 .f32) (r : Fin 512) (j : Fin 1024) :
    k0_pay10 (F := Ideal) z s (ix2 r j) = s (ix2 r j) * sig1 (z (ix2 r j)) := by
  pointwise [k0_pay10, pay9_at]
theorem pay11_at (z : FVec Ideal S512x1024 .bf16) (s : FVec Ideal S512x1024 .f32) (r : Fin 512) (j : Fin 1024) :
    k0_pay11 (F := Ideal) z s (ix3 0 r j) = s (ix2 r j) * sig1 (z (ix2 r j)) := by
  pointwise [k0_pay11, pay10_at]
theorem pay12_at (z : FVec Ideal S512x1024 .bf16) (s : FVec Ideal S512x1024 .f32) (p : FVec Ideal S1x512x1024 .bf16) (r : Fin 512) (j : Fin 1024) :
    k0_pay12 (F := Ideal) z s p (ix2 r j) = s (ix2 r j) * p (ix3 0 r j) * sig1 (z (ix2 r j)) * (1 - sig1 (z (ix2 r j))) := by
  pointwise [k0_pay12, pay9_at]
theorem pay13_at (v : FVec Ideal S512x1024 .bf16) (w : FVec Ideal S1x1x256x1024 .bf16) (r : Fin 512) (l : Fin 256) :
    k0_pay13 (F := Ideal) v w (ix3 0 r l) = ∑ k : Fin 1024, v (ix2 r k) * w (ix4 0 0 l k) := by
  pointwise [k0_pay13]
theorem pay14_at (v : FVec Ideal S512x1024 .bf16) (w : FVec Ideal S1x1x256x1024 .bf16) (r : Fin 512) (l : Fin 256) :
    k0_pay14 (F := Ideal) v w (ix3 0 r l) = ∑ k : Fin 1024, v (ix2 r k) * w (ix4 0 0 l k) := by
  pointwise [k0_pay14]
theorem pay15_at (v : FVec Ideal S512x1024 .bf16) (w : FVec Ideal S1x1x256x1024 .bf16) (r : Fin 512) (l : Fin 256) :
    k0_pay15 (F := Ideal) v w (ix3 0 r l) = ∑ k : Fin 1024, v (ix2 r k) * w (ix4 0 0 l k) := by
  pointwise [k0_pay15]
theorem pay16_at (v : FVec Ideal S512x1024 .bf16) (w : FVec Ideal S1x1x256x1024 .bf16) (r : Fin 512) (l : Fin 256) :
    k0_pay1 (k0_pay16 (F := Ideal) v w) (ix3 0 r l) = ∑ k : Fin 1024, v (ix2 r k) * w (ix4 0 0 l k) := by
  pointwise [k0_pay1, k0_pay16]

/-- A cell of the tile just put, -/
theorem put_same (x : Vec Ideal S1x512x1024 .bf16) (w : Vec Ideal S1x512x256 .bf16) (q : Fin 4) (r : Fin 512) (l : Fin 256) :
    VecWindow.put x ![0, 0, q.val * 256] S1x512x256.size w (ix3 0 r (qrow q l)) = w (ix3 0 r l) := by
  have hl := l.isLt
  unfold VecWindow.put
  rw [dif_pos (in_tile (ix3 0 r (qrow q l)) (q.val * 256) (Nat.le_add_right _ _) (Nat.add_lt_add_left hl _))]
  refine congrArg w (funext fun a => Fin.ext ?_)
  match a with
  | 0 => rfl
  | 1 => rfl
  | 2 => exact Nat.add_sub_cancel_left _ _

/-- and of another. -/
theorem put_other (x : Vec Ideal S1x512x1024 .bf16) (w : Vec Ideal S1x512x256 .bf16) (k q : Fin 4) (h : k ≠ q) (r : Fin 512) (l : Fin 256) :
    VecWindow.put x ![0, 0, k.val * 256] S1x512x256.size w (ix3 0 r (qrow q l)) = x (ix3 0 r (qrow q l)) := by
  have hl := l.isLt
  have hk : k.val ≠ q.val := fun e => h (Fin.ext e)
  unfold VecWindow.put
  refine dif_neg fun h' => ?_
  obtain ⟨h1, h2⟩ : k.val * 256 ≤ q.val * 256 + l.val ∧ q.val * 256 + l.val < k.val * 256 + 256 := h' 2
  omega

/-- A cell of four tiles side by side. -/
theorem tiles_at (d : Vec Ideal S1x512x1024 .bf16) (w0 w1 w2 w3 : Vec Ideal S1x512x256 .bf16) (q : Fin 4) (r : Fin 512) (l : Fin 256) :
    tiles d w0 w1 w2 w3 (ix3 0 r (qrow q l)) = (![w0, w1, w2, w3] : Fin 4 → Vec Ideal S1x512x256 .bf16) q (ix3 0 r l) := by
  have other := fun (x : Vec Ideal S1x512x1024 .bf16) w k q h => put_other x w k q h r l
  match q with
  | 0 => exact (other _ _ 3 0 (by decide)).trans ((other _ _ 2 0 (by decide)).trans ((other _ _ 1 0 (by decide)).trans (put_same _ _ 0 r l)))
  | 1 => exact (other _ _ 3 1 (by decide)).trans ((other _ _ 2 1 (by decide)).trans (put_same _ _ 1 r l))
  | 2 => exact (other _ _ 3 2 (by decide)).trans (put_same _ _ 2 r l)
  | 3 => exact put_same _ _ 3 r l

/-- A quarter's offsets, -/
theorem offs : ∀ t : Fin cfg0.N, k0_off1 (grid0.coords t) = ![0, t.val % 3, 0, 0] ∧ k0_off2 (grid0.coords t) = ![1, t.val % 3, 0, 0]
    ∧ k0_off3 (grid0.coords t) = ![2, t.val % 3, 0, 0] ∧ k0_off4 (grid0.coords t) = ![3, t.val % 3, 0, 0] :=
  (by decide +kernel : ∀ t : Fin grid0.N, _)

theorem ld_at (w : Vec Ideal S4x3x256x1024 .bf16) (q : Fin 4) (b : Fin 3) (off : Fin 4 → ℕ) (h : off = ![q.val, b.val, 0, 0]) (inb) (l : Fin 256) (k : Fin 1024) :
    View.ld (Val := Elt Ideal) w (Rect.unit (s := S4x3x256x1024) off S1x1x256x1024.size inb) (ix4 0 0 l k) = w (ix4 q b l k) := by
  subst h
  refine congrArg w (funext fun a => Fin.ext ?_)
  match a with
  | 0 => show q.val + 1 * 0 = q.val; omega
  | 1 => show b.val + 1 * 0 = b.val; omega
  | 2 => show 0 + 1 * l.val = l.val; omega
  | 3 => show 0 + 1 * k.val = k.val; omega

/-- and its cells. -/
theorem quarter_at (t : Fin cfg0.N) (w : Vec Ideal S4x3x256x1024 .bf16) (q : Fin 4) (l : Fin 256) (k : Fin 1024) :
    quarter (grid0.coords t) w q (ix4 0 0 l k) = w (ix4 q (br t.val) l k) := by
  obtain ⟨h0, h1, h2, h3⟩ := offs t
  match q with
  | 0 => exact ld_at w 0 (br t.val) _ h0 _ l k
  | 1 => exact ld_at w 1 (br t.val) _ h1 _ l k
  | 2 => exact ld_at w 2 (br t.val) _ h2 _ l k
  | 3 => exact ld_at w 3 (br t.val) _ h3 _ l k

/-- A branch's input gradient, a row of it at a row of the weight's quarter. -/
theorem spread_at (t : Fin cfg0.N) (w : Vec Ideal S4x3x256x1024 .bf16) (v : FVec Ideal S512x1024 .bf16) (d : Vec Ideal S1x512x1024 .bf16)
    (q : Fin 4) (r : Fin 512) (l : Fin 256) :
    spread (grid0.coords t) w v d (ix3 0 r (qrow q l)) = ∑ k : Fin 1024, v (ix2 r k) * w (ix4 q (br t.val) l k) := by
  unfold spread
  rw [tiles_at]
  simp only [← quarter_at t w q]
  match q with
  | 0 => exact pay13_at _ _ _ _
  | 1 => exact pay14_at _ _ _ _
  | 2 => exact pay15_at _ _ _ _
  | 3 => exact pay16_at _ _ _ _

/-! ## What the points leave -/

section

variable (m : (ℓ : Loc nD τ sig) → Buf (Elt Ideal) ℓ) (c : Dev nD) (r : ℕ)

theorem dm_at (i : Fin 512) (k : Fin 1024) : dmAt m c r (ix2 i k) = (data m c).dm (row r i) k := by
  unfold dmAt
  rw [pay6_at]
  simp only [ct_at, m_at, g_at]
  rfl

theorem acc_at (i : Fin 512) (k : Fin 1024) : accAt m c r (ix2 i k) = (data m c).dmix (row r i) k := by
  unfold accAt
  rw [pay8_at]
  simp only [dm_at, wo_at]
  rfl

theorem row_val (k : Fin 8) (i : Fin 512) (h : k.val * 512 + i.val < 4096) : row k.val i = ⟨k.val * 512 + i.val, h⟩ :=
  Fin.ext (by show k.val % 8 * 512 + i.val = k.val * 512 + i.val; omega)

theorem dg_sum (j : Fin 1024) (n : ℕ) : dgAt m c n (ix2 0 j) = ∑ k ∈ Finset.range n, ∑ i : Fin 512, (data m c).t (row k i) j := by
  induction n with
  | zero => exact pay7_at j
  | succ n ih =>
    rw [Finset.sum_range_succ, ← ih, dgAt, pay5_at]
    simp only [ct_at, m_at]
    rfl

theorem dg_at (j : Fin 1024) : dgAt m c 8 (ix2 0 j) = (data m c).dg j := by
  rw [dg_sum, Finset.sum_range]
  unfold Data.dg
  exact Fin.sum_mul_add_congr fun s k hl => by rw [row_val]

variable (t : Fin cfg0.N)

theorem z_pt (i : Fin 512) (k : Fin 1024) : (insAt m c t).z (ix2 i k) = (data m c).z (ix2 (row (t.val / 3) i) (gcol (br (t.val % 3)) k)) := by
  have e := z_at m c (t.val / 3) (t.val % 3) i k
  rwa [pt_self] at e
theorem p_pt (i : Fin 512) (k : Fin 1024) : (insAt m c t).p (ix3 0 i k) = (data m c).p (br (t.val % 3)) (row (t.val / 3) i) k := by
  have e := p_at m c (t.val / 3) (t.val % 3) i k
  rwa [pt_self] at e
theorem wb_pt (q : Fin 4) (b : Fin 3) (l : Fin 256) (k : Fin 1024) : (insAt m c t).wb (ix4 q b l k) = (data m c).wb (ix3 b (qrow q l) k) := by
  have e := wb_at m c (t.val / 3) (t.val % 3) q b l k
  rwa [pt_self] at e

theorem br_mod (n : ℕ) : br (n % 3) = br n := Fin.ext (Nat.mod_mod _ _)

theorem dp_at (i : Fin 512) (k : Fin 1024) : dpAt m c t (ix3 0 i k) = (data m c).dp (br (t.val % 3)) (row (t.val / 3) i) k := by
  unfold dpAt
  rw [pay11_at]
  simp only [acc_at, z_pt]
  rfl

theorem dz_at (i : Fin 512) (k : Fin 1024) : dzAt m c t (ix2 i k) = (data m c).dz (br (t.val % 3)) (row (t.val / 3) i) k := by
  unfold dzAt
  rw [pay12_at]
  simp only [acc_at, z_pt, p_pt]
  rfl

theorem dy_quarter (i : Fin 512) (q : Fin 4) (l : Fin 256) : dyAt m c t (ix3 0 i (qrow q l)) = (data m c).dy (br (t.val % 3)) (row (t.val / 3) i) (qrow q l) := by
  unfold dyAt
  rw [spread_at]
  simp only [pay10_at, acc_at, z_pt, wb_pt, ← br_mod t.val]
  rfl

theorem dy_at (i : Fin 512) (k : Fin 1024) : dyAt m c t (ix3 0 i k) = (data m c).dy (br (t.val % 3)) (row (t.val / 3) i) k := by
  have e : k = qrow ⟨k.val / 256, by omega⟩ ⟨k.val % 256, by omega⟩ := Fin.ext (by show k.val = k.val / 256 * 256 + k.val % 256; omega)
  rw [e]
  exact dy_quarter m c t i _ _

/-! ## The arrays -/

theorem row_of (i : Fin 512) : (row (t.val / 3) i).val = t.val / 3 * 512 + i.val := by
  have := lt24 t; show t.val / 3 % 8 * 512 + i.val = _; omega
theorem br_of : (br (t.val % 3)).val = t.val % 3 := Nat.mod_mod _ _

theorem final_dm : (dats m 0 c).arrAt 7 (cfgs 0).N = fun i => (data m c).dm (i 0) (i 1) := by
  refine (dats m 0 c).arrAt_eq_of_covers 7 _ (by decide +kernel) fun t hf y => ?_
  blk_simp
  rw [after_7]
  idx_vars y
  have E0 : ((win0_7.blk t).view.emb (ix2 y0 y1) 0) = row (t.val / 3) y0 := Fin.ext (by blk_simp [idx t]; rw [row_of])
  have E1 : ((win0_7.blk t).view.emb (ix2 y0 y1) 1) = y1 := Fin.ext (by blk_simp [idx t])
  rw [E0, E1]
  exact dm_at m c _ _ _

theorem final_dp : (dats m 0 c).arrAt 8 (cfgs 0).N = fun i => (data m c).dp (i 0) (i 1) (i 2) := by
  refine (dats m 0 c).arrAt_eq_of_covers 8 _ (by decide +kernel) fun t hf y => ?_
  blk_simp
  rw [after_8]
  idx_vars y
  obtain rfl : y0 = 0 := Subsingleton.elim _ _
  have E0 : ((win0_8.blk t).view.emb (ix3 0 y1 y2) 0) = br (t.val % 3) := Fin.ext (by blk_simp [idx t]; rw [br_of]; rfl)
  have E1 : ((win0_8.blk t).view.emb (ix3 0 y1 y2) 1) = row (t.val / 3) y1 := Fin.ext (by blk_simp [idx t]; rw [row_of])
  have E2 : ((win0_8.blk t).view.emb (ix3 0 y1 y2) 2) = y2 := Fin.ext (by blk_simp [idx t])
  rw [E0, E1, E2]
  exact dp_at m c _ _ _

theorem final_dy : (dats m 0 c).arrAt 9 (cfgs 0).N = fun i => (data m c).dy (i 0) (i 1) (i 2) := by
  refine (dats m 0 c).arrAt_eq_of_covers 9 _ (by decide +kernel) fun t hf y => ?_
  blk_simp
  rw [after_9]
  idx_vars y
  obtain rfl : y0 = 0 := Subsingleton.elim _ _
  have E0 : ((win0_9.blk t).view.emb (ix3 0 y1 y2) 0) = br (t.val % 3) := Fin.ext (by blk_simp [idx t]; rw [br_of]; rfl)
  have E1 : ((win0_9.blk t).view.emb (ix3 0 y1 y2) 1) = row (t.val / 3) y1 := Fin.ext (by blk_simp [idx t]; rw [row_of])
  have E2 : ((win0_9.blk t).view.emb (ix3 0 y1 y2) 2) = y2 := Fin.ext (by blk_simp [idx t])
  rw [E0, E1, E2]
  exact dy_at m c _ _ _

/-- The gates' columns are written, the others not. -/
def gateOf (n : ℕ) : Fin 3 := ⟨(n / 1024 - 7) % 3, Nat.mod_lt _ (by decide)⟩
def colOf (n : ℕ) : Fin 1024 := ⟨n % 1024, Nat.mod_lt _ (by decide)⟩

theorem final_dz (i : Fin 4096) (j : Fin 3072) :
    (dats m 0 c).arrAt 10 (cfgs 0).N (ix2 i ⟨7168 + j.val, by omega⟩) = (data m c).dz ⟨j.val / 1024, by omega⟩ i ⟨j.val % 1024, by omega⟩ := by
  refine ((dats m 0 c).arrAt_apply_of_coversWhere 10 (fun i => (data m c).dz (gateOf (i 1).val) (i 0) (colOf (i 1).val))
    (P := fun i => 7 ≤ (i 1).val / 1024) (fun β => 7 ≤ β 1) (by decide +kernel) (fun t hf y => ?_) (fun j => Iff.rfl) _).trans ?_
  · blk_simp
    rw [after_10]
    idx_vars y
    have E0 : ((win0_10.blk t).view.emb (ix2 y0 y1) 0) = row (t.val / 3) y0 := Fin.ext (by blk_simp [idx t]; rw [row_of])
    have E1 : win0_10.index t 1 = 7 + t.val % 3 := by blk_simp [idx t]
    have e1 : gateOf (win0_10.index t 1 * 1024 + y1.val) = br (t.val % 3) := by
      rw [E1]; exact Fin.ext (by show (((7 + t.val % 3) * 1024 + y1.val) / 1024 - 7) % 3 = t.val % 3 % 3; omega)
    have e2 : colOf (win0_10.index t 1 * 1024 + y1.val) = y1 := by
      rw [E1]; exact Fin.ext (by show ((7 + t.val % 3) * 1024 + y1.val) % 1024 = y1.val; omega)
    rw [E0]
    exact (dz_at m c t y0 y1).trans (congr (congrFun (congrArg (data m c).dz e1.symm) _) e2.symm)
  · refine (if_pos (show 7 ≤ (7168 + j.val) / 1024 by omega)).trans ?_
    have e1 : gateOf (7168 + j.val) = ⟨j.val / 1024, by omega⟩ := Fin.ext (by show ((7168 + j.val) / 1024 - 7) % 3 = j.val / 1024; omega)
    have e2 : colOf (7168 + j.val) = ⟨j.val % 1024, by omega⟩ := Fin.ext (by show (7168 + j.val) % 1024 = j.val % 1024; omega)
    show (data m c).dz (gateOf (7168 + j.val)) i (colOf (7168 + j.val)) = _
    rw [e1, e2]

/-- The last point. -/
def last : Fin cfg0.N := ⟨23, lt_of_lt_of_eq (by decide : 23 < 24) (show 24 = cfg0.N from N_0.symm)⟩

theorem final_dg : (dats m 0 c).arrAt 11 (cfgs 0).N = fun i => (data m c).dg (i 1) := by
  refine (dats m 0 c).arrAt_eq_of_after_last 11 last (by decide +kernel) _ fun j => ?_
  rw [after_11, show last.val / 3 + 1 = 8 from rfl]
  idx_vars j
  obtain rfl : j0 = 0 := Subsingleton.elim _ _
  exact dg_at m c j1

end

end Cert.MixOutIdeal.Block

end
-- ==== Proof.MixOutValue.lean ====
/- The branch mix's gradient: kernel and plain program hold the same arrays. -/
module

public import proofs.«01_k».proof.Proof.MixOutBlock
public import proofs.«01_k».proof.Proof.MixOutFrames
public import proofs.«01_k».proof.Proof.FfnValue
public import proofs.«01_k».proof.Proof.Gen.MixOutRefIdeal.Read
public import proofs.«01_k».proof.Pre_mix_out_finite

@[expose] public section

set_option maxRecDepth 16384

noncomputable section

namespace Cert.MixOutValue

open Idealize.ShloMosaic Idealize.ShloMosaic.TcCoe Idealize.SL.Sem
open Cert.MixOutIdeal.Block Cert.FfnValue
open Cert.InProjValue (rinv dxRow)

/-! ## Real numbers -/

/-- The logistic function is real, at the infinities too. -/
theorem isReal_sig (a : EReal) : IsReal (sig1 a) := by
  show IsReal (Ideal.logistic a)
  induction a with
  | bot => rw [Ideal.logistic_bot]; exact isReal_coe 0
  | coe a => rw [Ideal.logistic_coe]; exact isReal_coe _
  | top => rw [Ideal.logistic_top]; exact isReal_coe 1

/-- The arguments but the gates' are real numbers. -/
structure Reals (A : Data) : Prop where
  ct : ∀ r k, IsReal (A.ct (ix2 r k))
  ya : ∀ r k, IsReal (A.ya (ix2 r k))
  yc : ∀ r k, IsReal (A.yc (ix2 r k))
  ys : ∀ r k, IsReal (A.ys (ix2 r k))
  g : ∀ k, IsReal (A.g (ix1 k))
  wb : ∀ b k j, IsReal (A.wb (ix3 b k j))
  wo : ∀ k j, IsReal (A.wo (ix2 k j))

section
variable {A : Data} (H : Reals A)
include H

theorem real_y (b : Fin 3) (r : Fin 4096) (k : Fin 1024) : IsReal (A.y b (ix2 r k)) := by
  match b with
  | 0 => exact H.ya r k
  | 1 => exact H.yc r k
  | 2 => exact H.ys r k

theorem real_gated (b : Fin 3) (r : Fin 4096) (j : Fin 1024) : IsReal (A.s b r j * A.p b r j) :=
  (isReal_sig _).mul (IsReal.sum fun k => (real_y H b r k).mul (H.wb b k j))

theorem real_m (r : Fin 4096) (j : Fin 1024) : IsReal (A.m r j) :=
  IsReal.sum fun k => (((real_gated H 0 r k).add (real_gated H 1 r k)).add (real_gated H 2 r k)).mul (H.wo k j)

end

/-- The gates' gradient with the three branches' columns side by side. -/
def dzAt (A : Data) (r : Fin 4096) (j : Fin 3072) : EReal := A.dz ⟨j.val / 1024, by omega⟩ r ⟨j.val % 1024, by omega⟩

theorem dzAt_of (A : Data) (r : Fin 4096) (b : Fin 3) (l : Fin 1024) (j : Fin 3072) (h : j.val = b.val * 1024 + l.val) :
    dzAt A r j = A.dz b r l := by
  obtain ⟨j, hj⟩ := j
  obtain rfl : j = b.val * 1024 + l.val := h
  have hb : (⟨(b.val * 1024 + l.val) / 1024, by omega⟩ : Fin 3) = b := Fin.ext (by show (b.val * 1024 + l.val) / 1024 = b.val; omega)
  have hl : (⟨(b.val * 1024 + l.val) % 1024, by omega⟩ : Fin 1024) = l := Fin.ext (by show (b.val * 1024 + l.val) % 1024 = l.val; omega)
  show A.dz ⟨(b.val * 1024 + l.val) / 1024, _⟩ r ⟨(b.val * 1024 + l.val) % 1024, _⟩ = _
  rw [hb, hl]

/-! ## The plain program's arrays -/

section plain

open Cert.MixOutRefIdeal Cert.MixOutRefIdeal.Read

variable (x0 : (⟨S4096x1024, .f32⟩ : BufTy).Contents (Elt Ideal)) (x1 x2 x3 : (⟨S4096x1024, .bf16⟩ : BufTy).Contents (Elt Ideal))
  (x4 : (⟨S4096x10240, .bf16⟩ : BufTy).Contents (Elt Ideal)) (x5 : (⟨S1024, .f32⟩ : BufTy).Contents (Elt Ideal))
  (x6 : (⟨S3x1024x1024, .f32⟩ : BufTy).Contents (Elt Ideal)) (x7 : (⟨S1024x1024, .f32⟩ : BufTy).Contents (Elt Ideal))

theorem plain_p0 (r : Fin 4096) (j : Fin 1024) : val_main_v11 (F := Ideal) x1 x6 (ix2 r j) = (Data.mk x0 x1 x2 x3 x4 x5 x6 x7).p 0 r j := by
  pointwise [val_main_v11, val_main_v10, val_main_v9, val_main_v0, Data.p, Data.y]
theorem plain_p1 (r : Fin 4096) (j : Fin 1024) : val_main_v14 (F := Ideal) x2 x6 (ix2 r j) = (Data.mk x0 x1 x2 x3 x4 x5 x6 x7).p 1 r j := by
  pointwise [val_main_v14, val_main_v13, val_main_v12, val_main_v1, Data.p, Data.y]
theorem plain_p2 (r : Fin 4096) (j : Fin 1024) : val_main_v17 (F := Ideal) x3 x6 (ix2 r j) = (Data.mk x0 x1 x2 x3 x4 x5 x6 x7).p 2 r j := by
  pointwise [val_main_v17, val_main_v16, val_main_v15, val_main_v2, Data.p, Data.y]

theorem plain_s0 (r : Fin 4096) (j : Fin 1024) : val_main_v23 (F := Ideal) x4 (ix2 r j) = (Data.mk x0 x1 x2 x3 x4 x5 x6 x7).s 0 r j := by
  pointwise [val_main_v23, val_main_v22, val_main_cst_0, val_main_v21, val_main_v20, val_main_cst, val_main_v19, val_main_v18, val_main_v4, val_main_v3, Data.s, sig1, gcol]
theorem plain_s1 (r : Fin 4096) (j : Fin 1024) : val_main_v33 (F := Ideal) x4 (ix2 r j) = (Data.mk x0 x1 x2 x3 x4 x5 x6 x7).s 1 r j := by
  pointwise [val_main_v33, val_main_v32, val_main_cst_3, val_main_v31, val_main_v30, val_main_cst_2, val_main_v29, val_main_v28, val_main_v6, val_main_v5, Data.s, sig1, gcol]
theorem plain_s2 (r : Fin 4096) (j : Fin 1024) : val_main_v44 (F := Ideal) x4 (ix2 r j) = (Data.mk x0 x1 x2 x3 x4 x5 x6 x7).s 2 r j := by
  pointwise [val_main_v44, val_main_v43, val_main_cst_6, val_main_v42, val_main_v41, val_main_cst_5, val_main_v40, val_main_v39, val_main_v8, val_main_v7, Data.s, sig1, gcol]

theorem plain_m (r : Fin 4096) (j : Fin 1024) : val_main_v50 (F := Ideal) x1 x2 x3 x4 x6 x7 (ix2 r j) = (Data.mk x0 x1 x2 x3 x4 x5 x6 x7).m r j := by
  pointwise [val_main_v50, val_main_v49, val_main_v48, val_main_v38, val_main_v37, val_main_v27, plain_p0 x0 x1 x2 x3 x4 x5 x6 x7, plain_p1 x0 x1 x2 x3 x4 x5 x6 x7, plain_p2 x0 x1 x2 x3 x4 x5 x6 x7,
    plain_s0 x0 x1 x2 x3 x4 x5 x6 x7, plain_s1 x0 x1 x2 x3 x4 x5 x6 x7, plain_s2 x0 x1 x2 x3 x4 x5 x6 x7, Data.m, Data.mix]

theorem plain_r (r : Fin 4096) (k : Fin 1) : val_main_v58 (F := Ideal) x1 x2 x3 x4 x6 x7 (ix2 r k) = rinv ((Data.mk x0 x1 x2 x3 x4 x5 x6 x7).m r) := by
  pointwise [val_main_v58, val_main_v57, val_main_v56, val_main_cst_10, val_main_v55, val_main_v54, val_main_cst_9, val_main_v53, val_main_v52, val_main_cst_8, val_main_v51, plain_m x0 x1 x2 x3 x4 x5 x6 x7, rinv]

theorem plain_dg (j : Fin 1024) : val_main_v113 (F := Ideal) x0 x1 x2 x3 x4 x6 x7 (ix2 0 j) = (Data.mk x0 x1 x2 x3 x4 x5 x6 x7).dg j := by
  pointwise [val_main_v113, val_main_v72, val_main_cst_13, val_main_v69, val_main_v68, val_main_cst_12, val_main_v67, val_main_v63, val_main_v62, plain_m x0 x1 x2 x3 x4 x5 x6 x7, plain_r x0 x1 x2 x3 x4 x5 x6 x7, Data.dg]
  rw [Fin.sum_univ_one]
  exact Finset.sum_congr rfl fun _ _ => mul_comm _ _

variable {x0 x1 x2 x3 x4 x5 x6 x7} (H : Reals (Data.mk x0 x1 x2 x3 x4 x5 x6 x7))
include H

theorem plain_dm (r : Fin 4096) (j : Fin 1024) : val_main_v86 (F := Ideal) x0 x1 x2 x3 x4 x5 x6 x7 (ix2 r j) = (Data.mk x0 x1 x2 x3 x4 x5 x6 x7).dm r j := by
  refine Eq.trans ?_ (norm_terms (fun k => H.ct r k) (fun k => real_m H r k) (fun k => H.g k) j)
  pointwise [val_main_v86, val_main_v85, val_main_v84, val_main_v83, val_main_v82, val_main_v81, val_main_cst_16, val_main_v80, val_main_v79, val_main_cst_15, val_main_v78, val_main_v77, val_main_v76, val_main_v75, val_main_v74, val_main_cst_14, val_main_v73, val_main_v71, val_main_v70, val_main_v64, val_main_v61, val_main_v60, val_main_cst_11, val_main_v59, val_main_v57, val_main_v56, val_main_cst_10, val_main_v55, val_main_v54, val_main_cst_9, val_main_v53, val_main_v52, val_main_cst_8, val_main_v51, plain_r x0 x1 x2 x3 x4 x5 x6 x7, plain_m x0 x1 x2 x3 x4 x5 x6 x7]
  simp only [Fin.sum_univ_one, plain_r x0 x1 x2 x3 x4 x5 x6 x7]

theorem plain_dmix (r : Fin 4096) (j : Fin 1024) : val_main_v87 (F := Ideal) x0 x1 x2 x3 x4 x5 x6 x7 (ix2 r j) = (Data.mk x0 x1 x2 x3 x4 x5 x6 x7).dmix r j := by
  pointwise [val_main_v87, plain_dm H, Data.dmix]

theorem plain_dp0 (r : Fin 4096) (j : Fin 1024) : val_main_v94 (F := Ideal) x0 x1 x2 x3 x4 x5 x6 x7 (ix2 r j) = (Data.mk x0 x1 x2 x3 x4 x5 x6 x7).dp 0 r j := by
  pointwise [val_main_v94, plain_dmix H, plain_s0 x0 x1 x2 x3 x4 x5 x6 x7, Data.dp]
  exact mul_comm _ _
theorem plain_dp1 (r : Fin 4096) (j : Fin 1024) : val_main_v91 (F := Ideal) x0 x1 x2 x3 x4 x5 x6 x7 (ix2 r j) = (Data.mk x0 x1 x2 x3 x4 x5 x6 x7).dp 1 r j := by
  pointwise [val_main_v91, plain_dmix H, plain_s1 x0 x1 x2 x3 x4 x5 x6 x7, Data.dp]
  exact mul_comm _ _
theorem plain_dp2 (r : Fin 4096) (j : Fin 1024) : val_main_v88 (F := Ideal) x0 x1 x2 x3 x4 x5 x6 x7 (ix2 r j) = (Data.mk x0 x1 x2 x3 x4 x5 x6 x7).dp 2 r j := by
  pointwise [val_main_v88, plain_dmix H, plain_s2 x0 x1 x2 x3 x4 x5 x6 x7, Data.dp]
  exact mul_comm _ _

theorem plain_dp (b : Fin 3) (r : Fin 4096) (j : Fin 1024) : val_main_v105 (F := Ideal) x0 x1 x2 x3 x4 x5 x6 x7 (ix3 b r j) = (Data.mk x0 x1 x2 x3 x4 x5 x6 x7).dp b r j := by
  match b with
  | 0 => pointwise [val_main_v105, val_main_v104, val_main_v103, val_main_v102, val_main_v101, plain_dp0 H]
  | 1 => pointwise [val_main_v105, val_main_v104, val_main_v103, val_main_v102, val_main_v101, plain_dp1 H]
  | 2 => pointwise [val_main_v105, val_main_v104, val_main_v103, val_main_v102, val_main_v101, plain_dp2 H]

theorem plain_dy (b : Fin 3) (r : Fin 4096) (j : Fin 1024) : val_main_v110 (F := Ideal) x0 x1 x2 x3 x4 x5 x6 x7 (ix3 b r j) = (Data.mk x0 x1 x2 x3 x4 x5 x6 x7).dy b r j := by
  match b with
  | 0 => pointwise [val_main_v110, val_main_v109, val_main_v108, val_main_v107, val_main_v106, val_main_v97, val_main_v10, val_main_v9, plain_dp0 H, Data.dy]
  | 1 => pointwise [val_main_v110, val_main_v109, val_main_v108, val_main_v107, val_main_v106, val_main_v98, val_main_v13, val_main_v12, plain_dp1 H, Data.dy]
  | 2 => pointwise [val_main_v110, val_main_v109, val_main_v108, val_main_v107, val_main_v106, val_main_v99, val_main_v16, val_main_v15, plain_dp2 H, Data.dy]

theorem plain_dz0 (r : Fin 4096) (j : Fin 1024) : val_main_v96 (F := Ideal) x0 x1 x2 x3 x4 x5 x6 x7 (ix2 r j) = (Data.mk x0 x1 x2 x3 x4 x5 x6 x7).dz 0 r j := by
  pointwise [val_main_v96, val_main_v95, val_main_v26, val_main_v25, val_main_v24, val_main_cst_1, plain_dmix H, plain_p0 x0 x1 x2 x3 x4 x5 x6 x7, plain_s0 x0 x1 x2 x3 x4 x5 x6 x7, Data.dz]
  exact (mul_assoc (G := EReal) _ _ _).symm
theorem plain_dz1 (r : Fin 4096) (j : Fin 1024) : val_main_v93 (F := Ideal) x0 x1 x2 x3 x4 x5 x6 x7 (ix2 r j) = (Data.mk x0 x1 x2 x3 x4 x5 x6 x7).dz 1 r j := by
  pointwise [val_main_v93, val_main_v92, val_main_v36, val_main_v35, val_main_v34, val_main_cst_4, plain_dmix H, plain_p1 x0 x1 x2 x3 x4 x5 x6 x7, plain_s1 x0 x1 x2 x3 x4 x5 x6 x7, Data.dz]
  exact (mul_assoc (G := EReal) _ _ _).symm
theorem plain_dz2 (r : Fin 4096) (j : Fin 1024) : val_main_v90 (F := Ideal) x0 x1 x2 x3 x4 x5 x6 x7 (ix2 r j) = (Data.mk x0 x1 x2 x3 x4 x5 x6 x7).dz 2 r j := by
  pointwise [val_main_v90, val_main_v89, val_main_v47, val_main_v46, val_main_v45, val_main_cst_7, plain_dmix H, plain_p2 x0 x1 x2 x3 x4 x5 x6 x7, plain_s2 x0 x1 x2 x3 x4 x5 x6 x7, Data.dz]
  exact (mul_assoc (G := EReal) _ _ _).symm

theorem plain_dz (r : Fin 4096) (j : Fin 3072) : val_main_v112 (F := Ideal) x0 x1 x2 x3 x4 x5 x6 x7 (ix2 r j)
    = dzAt (Data.mk x0 x1 x2 x3 x4 x5 x6 x7) r j := by
  pointwise [val_main_v112, val_main_v111, plain_dz0 H, plain_dz1 H, plain_dz2 H]
  by_cases h : j.val < 1024
  · rw [dif_pos h, dzAt_of _ r 0 ⟨j.val, h⟩ j (by dsimp only; have : ((0 : Fin 3) : Nat) = 0 := rfl; omega)]
  · rw [dif_neg h]
    by_cases h' : j.val - 1024 < 1024
    · rw [dif_pos h', dzAt_of _ r 1 ⟨j.val - 1024, h'⟩ j (by dsimp only; have : ((1 : Fin 3) : Nat) = 1 := rfl; omega)]
    · rw [dif_neg h', dzAt_of _ r 2 ⟨j.val - 1024 - 1024, by omega⟩ j (by dsimp only; have : ((2 : Fin 3) : Nat) = 2 := rfl; omega)]

end plain

/-! ## The precondition, and the claim -/

theorem finite_of [Cert.Pre_mix_out_finite.Facts] (x0 : FVec Ideal ⟨2, ![4096, 1024]⟩ .f32) (x1 x2 x3 : FVec Ideal ⟨2, ![4096, 1024]⟩ .bf16)
    (x4 : FVec Ideal ⟨2, ![4096, 10240]⟩ .bf16) (x5 : FVec Ideal ⟨1, ![1024]⟩ .f32) (x6 : FVec Ideal ⟨3, ![3, 1024, 1024]⟩ .f32)
    (x7 : FVec Ideal ⟨2, ![1024, 1024]⟩ .f32) (x8 : FVec Ideal ⟨2, ![8, 128]⟩ .f32)
    (h : Cert.Pre_mix_out_finite.fn (F := Ideal) x0 x1 x2 x3 x4 x5 x6 x7 x8 = fun _ => 1#1) : Reals (Data.mk x0 x1 x2 x3 x4 x5 x6 x7) := by
  haveI : Subsingleton (Shape.Idx ⟨0, ![]⟩) := ⟨fun a b => funext fun i => i.elim0⟩
  have h := congrFun h (fun a => a.elim0)
  dsimp only [Cert.Pre_mix_out_finite.fn, Cert.Pre_mix_out_finite.fn_part1, Cert.Pre_mix_out_finite.fn_part2] at h
  obtain ⟨h, h7⟩ := IntOp.andi_eq_one.1 h
  obtain ⟨h, h6⟩ := IntOp.andi_eq_one.1 h
  obtain ⟨h, h5⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have h0 := Host.reduce_andi_all _ _ _ _ _ h0
  have h1 := Host.reduce_andi_all _ _ _ _ _ h1
  have h2 := Host.reduce_andi_all _ _ _ _ _ h2
  have h3 := Host.reduce_andi_all _ _ _ _ _ h3
  have h5 := Host.reduce_andi_all _ _ _ _ _ h5
  have h6 := Host.reduce_andi_all _ _ _ _ _ h6
  have h7 := Host.reduce_andi_all _ _ _ _ _ h7
  exact ⟨fun k l => isReal_of_olt (h0 (ix2 k l)), fun k l => isReal_of_olt (h1 (ix2 k l)), fun k l => isReal_of_olt (h2 (ix2 k l)),
    fun k l => isReal_of_olt (h3 (ix2 k l)), fun k => isReal_of_olt (h5 (ix1 k)), fun b k l => isReal_of_olt (h6 (ix3 b k l)),
    fun k l => isReal_of_olt (h7 (ix2 k l))⟩

section kernel

open Cert.MixOutIdeal Cert.MixOutIdeal.Gen

/-- The host's slice after the call: the columns the call wrote. -/
theorem slice_after (m : (ℓ : Loc nD τ sig) → Buf (Elt Ideal) ℓ) (c : Dev nD) :
    Pipeline.afterTail₀ cfgs (Run.dats m) 0 (V0 m) [hostOps1] c main_v55
      = fun i => dzAt (data m c) (i 0) (i 1) := by
  have e : Pipeline.withArrays (cfgs 0).spec c (V0 m c) (fun w => (Run.dats m 0 c).arrAt w (cfgs 0).N) (Proc.devRef .tc main_v54_3)
      = (Run.dats m 0 c).arrAt 10 (cfgs 0).N :=
    Pipeline.withArrays_arr (cfgs 0).spec (by decide : Function.Injective (Pipeline.arrRef spec0)) c (V0 m c) (fun w => (Run.dats m 0 c).arrAt w (cfgs 0).N) 10
  refine (congrArg (fun x : FVec Ideal S4096x10240 .bf16 => extractStridedSlice S4096x3072 ![0, 7168] x slices_S4096x10240_S4096x3072_0_7168) e).trans ?_
  funext i
  idx_vars i
  refine Eq.trans ?_ (final_dz m c i0 i1)
  generalize (Run.dats m 0 c).arrAt 10 (cfgs 0).N = x
  pointwise []

end kernel

set_option maxHeartbeats 1000000 in
open Cert.MixOutIdeal in
/-- The kernel over the reals computes the plain program's arrays. -/
theorem value [Cert.Pre_mix_out_finite.Facts] : Cert.algebraic_MixOutIdeal_MixOutRefIdeal_pre_mix_out_finite := fun m ρ m' ρ' hpre hag =>
  ⟨fun c i => (data m c).dm (i 0) (i 1), fun c i => (data m c).dp (i 0) (i 1) (i 2), fun c i => (data m c).dy (i 0) (i 1) (i 2),
   fun c i => dzAt (data m c) (i 0) (i 1),
   fun c i => (data m c).dg (i 1),
   (θ_run _ _ _).mono (fun r h c =>
     ⟨((h.1.1 c).1 7).trans (final_dm m c), ((h.1.1 c).1 8).trans (final_dp m c), ((h.1.1 c).1 9).trans (final_dy m c),
      ((h.1.1 c).2 main_v55 (Pipeline.mem_restRefs_of main_v55 (by decide) (by decide))).trans (slice_after m c),
      ((h.1.1 c).1 11).trans (final_dg m c), h.2.1 c⟩)
     (θ_run_and (Run.run_quiescent m ρ) (Run.frame_run m ρ)),
   (θ_run _ _ _).mono (fun r h c => by
      have H := finite_of _ _ _ _ _ _ _ _ _ (hpre c)
      obtain ⟨a0, a1, a2, a3, a4, a5, a6, a7, a8⟩ := hag c
      obtain ⟨h0, h1, h2, h3, h4, hargs⟩ := h c
      refine ⟨h0.trans ((Cert.MixOutRefIdeal.Read.val_main_v100_eq _).trans ?_), h1.trans ((Cert.MixOutRefIdeal.Read.val_main_v105_eq _).trans ?_),
        h2.trans ((Cert.MixOutRefIdeal.Read.val_main_v110_eq _).trans ?_), h3.trans ((Cert.MixOutRefIdeal.Read.val_main_v112_eq _).trans ?_),
        h4.trans ((Cert.MixOutRefIdeal.Read.val_main_v113_eq _).trans ?_), hargs⟩
      · exact (congr (congr (congr (congr (congr (congr (congr (congrArg _ a0) a1) a2) a3) a4) a5) a6) a7).trans (funext fun i => by
          idx_vars i; exact plain_dm H _ _)
      · exact (congr (congr (congr (congr (congr (congr (congr (congrArg _ a0) a1) a2) a3) a4) a5) a6) a7).trans (funext fun i => by
          idx_vars i; exact plain_dp H _ _ _)
      · exact (congr (congr (congr (congr (congr (congr (congr (congrArg _ a0) a1) a2) a3) a4) a5) a6) a7).trans (funext fun i => by
          idx_vars i; exact plain_dy H _ _ _)
      · exact (congr (congr (congr (congr (congr (congr (congr (congrArg _ a0) a1) a2) a3) a4) a5) a6) a7).trans (funext fun i => by
          idx_vars i; exact plain_dz H _ _)
      · exact (congr (congr (congr (congr (congr (congr (congrArg _ a0) a1) a2) a3) a4) a6) a7).trans (funext fun i => by
          idx_vars i; obtain rfl : i0 = 0 := Subsingleton.elim _ _; exact plain_dg _ _ _ _ _ _ _ _ _))
     (Cert.MixOutRefIdeal.Value.run (F := Ideal) m' ρ')⟩

end Cert.MixOutValue

end
-- ==== Proof.MixABody.lean ====
/- The kernel function of the short convolution's gradient: its four loops and the parts around them, and what each does to
the buffers. -/
module

public import proofs.«01_k».proof.Proof.Gen.MixAIdeal.Skeleton
public import proofs.«01_k».proof.Proof.Gen.MixAIdeal.Points
public import Idealize.ShloMosaic.Lib.Pipeline.FrameBody
public import Idealize.ShloMosaic.Lib.Tactic
public import Idealize.ShloMosaic.Lib.VecWindow

@[expose] public section

set_option maxRecDepth 65536

noncomputable section

namespace Cert.MixAIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixAIdeal.Gen

variable {F : FTy → Type} [FloatOps F]

local notation "𝕄" => MT nD τ sig Unit (Elt F) ℕ (UR sig nD τ) ℕ

/-- A kernel program of this certificate. -/
abbrev P (α : Type) : Type 1 := Prog (TpuEff nD τ sig (Elt F) Λ₀ .tc) α

/-- The first `k` trips of a loop over `n` of them. -/
def iter {n : ℕ} {σ : Type} (f : Fin n → σ → σ) (s : σ) : ℕ → σ
  | 0 => s
  | k + 1 => if h : k < n then f ⟨k, h⟩ (iter f s k) else iter f s k

theorem iter_succ {n : ℕ} {σ : Type} (f : Fin n → σ → σ) (s : σ) (k : Fin n) : iter f s (k.val + 1) = f k (iter f s k.val) := dif_pos k.isLt

/-! ## What the trips do -/

section Trips

variable (i : grid0.Coords) (h2 : k0_cond2 i = 1#1)

/-- Two chunks of rows of the product of the outer gates. -/
def prodT (ah ac : Vec F S512x1024 .bf16) (k : Fin k0_t1_loop.trips) (p : Vec F S552x1024 .f32) : Vec F S552x1024 .f32 :=
  VecWindow.put (VecWindow.put (p) (k0_off2 k 0#32) S16x1024.size (k0_pay25 (View.ld (Val := Elt F) ah (Rect.unit (k0_off1 k 0#32) S16x1024.size (k0_off1_inb i k h2 0))) (View.ld (Val := Elt F) ac (Rect.unit (k0_off1 k 0#32) S16x1024.size (k0_off1_inb i k h2 0))))) (k0_off2 k 1#32) S16x1024.size (k0_pay26 (View.ld (Val := Elt F) ah (Rect.unit (k0_off1 k 1#32) S16x1024.size (k0_off1_inb i k h2 1))) (View.ld (Val := Elt F) ac (Rect.unit (k0_off1 k 1#32) S16x1024.size (k0_off1_inb i k h2 1))))

/-- Two chunks of rows of the inner gate's gradient, into the stage; -/
def midStage (dy : Vec F S1x512x1024 .bf16) (sh : Vec F S3x544x1024 .f32) (wb : Vec F S24x1024 .f32) (k : Fin k0_t2_loop.trips) (sg : Vec F S3x512x1024 .bf16) : Vec F S3x512x1024 .bf16 :=
  VecWindow.put (VecWindow.put (sg) (k0_off7 k 0#32) S1x16x1024.size (k0_pay12 (View.ld (Val := Elt F) wb (Rect.unit ![0, 0] S8x1024.size inb_S24x1024_S8x1024_0_0)) (View.ld (Val := Elt F) sh (Rect.unit (k0_off3 k 0#32) S1x16x1024.size (k0_off3_inb i k h2 0))) (View.ld (Val := Elt F) wb (Rect.unit ![8, 0] S8x1024.size inb_S24x1024_S8x1024_8_0)) (View.ld (Val := Elt F) sh (Rect.unit (k0_off4 k 0#32) S1x16x1024.size (k0_off4_inb i k h2 0))) (View.ld (Val := Elt F) wb (Rect.unit ![16, 0] S8x1024.size inb_S24x1024_S8x1024_16_0)) (View.ld (Val := Elt F) sh (Rect.unit (k0_off5 k 0#32) S1x16x1024.size (k0_off5_inb i k h2 0))) (View.ld (Val := Elt F) dy (Rect.unit (k0_off6 k 0#32) S1x16x1024.size (k0_off6_inb i k h2 0))))) (k0_off7 k 1#32) S1x16x1024.size (k0_pay31 (k0_pay14 (View.ld (Val := Elt F) wb (Rect.unit ![0, 0] S8x1024.size inb_S24x1024_S8x1024_0_0)) (View.ld (Val := Elt F) sh (Rect.unit (k0_off3 k 1#32) S1x16x1024.size (k0_off3_inb i k h2 1))) (View.ld (Val := Elt F) wb (Rect.unit ![8, 0] S8x1024.size inb_S24x1024_S8x1024_8_0)) (View.ld (Val := Elt F) sh (Rect.unit (k0_off4 k 1#32) S1x16x1024.size (k0_off4_inb i k h2 1))) (View.ld (Val := Elt F) wb (Rect.unit ![16, 0] S8x1024.size inb_S24x1024_S8x1024_16_0)) (View.ld (Val := Elt F) sh (Rect.unit (k0_off5 k 1#32) S1x16x1024.size (k0_off5_inb i k h2 1)))) (View.ld (Val := Elt F) dy (Rect.unit (k0_off6 k 1#32) S1x16x1024.size (k0_off6_inb i k h2 1))))

/-- and of the cotangent times the inner gate. -/
def midCt (dy : Vec F S1x512x1024 .bf16) (ab : Vec F S512x1024 .bf16) (k : Fin k0_t2_loop.trips) (d : Vec F S552x1024 .f32) : Vec F S552x1024 .f32 :=
  VecWindow.put (VecWindow.put (d) (k0_off9 k 0#32) S16x1024.size (k0_pay13 (k0_pay11 (View.ld (Val := Elt F) dy (Rect.unit (k0_off6 k 0#32) S1x16x1024.size (k0_off6_inb i k h2 0)))) (View.ld (Val := Elt F) ab (Rect.unit (k0_off8 k 0#32) S16x1024.size (k0_off8_inb i k h2 0))))) (k0_off9 k 1#32) S16x1024.size (k0_pay32 (View.ld (Val := Elt F) dy (Rect.unit (k0_off6 k 1#32) S1x16x1024.size (k0_off6_inb i k h2 1))) (View.ld (Val := Elt F) ab (Rect.unit (k0_off8 k 1#32) S16x1024.size (k0_off8_inb i k h2 1))))

/-- Two chunks of rows added to the three taps' sums. -/
def wgT (d : Vec F S552x1024 .f32) (sh : Vec F S3x544x1024 .f32) (k : Fin k0_t3_loop.trips) (a : FVec F S8x1024 .f32 × FVec F S8x1024 .f32 × FVec F S8x1024 .f32) : FVec F S8x1024 .f32 × FVec F S8x1024 .f32 × FVec F S8x1024 .f32 :=
  (k0_pay17 a.1 (View.ld (Val := Elt F) d (Rect.unit (k0_off10 k 0#32) S8x1024.size (k0_off10_inb i k h2 0))) (View.ld (Val := Elt F) sh (Rect.unit (k0_off11 k 0#32) S1x8x1024.size (k0_off11_inb i k h2 0))) (View.ld (Val := Elt F) d (Rect.unit (k0_off10 k 1#32) S8x1024.size (k0_off10_inb i k h2 1))) (View.ld (Val := Elt F) sh (Rect.unit (k0_off11 k 1#32) S1x8x1024.size (k0_off11_inb i k h2 1))),
   k0_pay36 (k0_pay15 a.2.1 (View.ld (Val := Elt F) d (Rect.unit (k0_off10 k 0#32) S8x1024.size (k0_off10_inb i k h2 0))) (View.ld (Val := Elt F) sh (Rect.unit (k0_off12 k 0#32) S1x8x1024.size (k0_off12_inb i k h2 0)))) (View.ld (Val := Elt F) d (Rect.unit (k0_off10 k 1#32) S8x1024.size (k0_off10_inb i k h2 1))) (View.ld (Val := Elt F) sh (Rect.unit (k0_off12 k 1#32) S1x8x1024.size (k0_off12_inb i k h2 1))),
   k0_pay37 (k0_pay16 a.2.2 (View.ld (Val := Elt F) d (Rect.unit (k0_off10 k 0#32) S8x1024.size (k0_off10_inb i k h2 0))) (View.ld (Val := Elt F) sh (Rect.unit (k0_off13 k 0#32) S1x8x1024.size (k0_off13_inb i k h2 0)))) (View.ld (Val := Elt F) d (Rect.unit (k0_off10 k 1#32) S8x1024.size (k0_off10_inb i k h2 1))) (View.ld (Val := Elt F) sh (Rect.unit (k0_off13 k 1#32) S1x8x1024.size (k0_off13_inb i k h2 1))))

/-- Two chunks of rows of the outer gates' gradients. -/
def finT (ah ac : Vec F S512x1024 .bf16) (sh : Vec F S3x544x1024 .f32) (wb : Vec F S24x1024 .f32) (k : Fin k0_t4_loop.trips) (sg : Vec F S3x512x1024 .bf16) : Vec F S3x512x1024 .bf16 :=
  VecWindow.put (VecWindow.put (VecWindow.put (VecWindow.put (sg) (k0_off18 k 0#32) S1x16x1024.size (k0_pay19 (View.ld (Val := Elt F) wb (Rect.unit ![0, 0] S8x1024.size inb_S24x1024_S8x1024_0_0)) (View.ld (Val := Elt F) sh (Rect.unit (k0_off14 k 0#32) S1x16x1024.size (k0_off14_inb i k h2 0))) (View.ld (Val := Elt F) wb (Rect.unit ![8, 0] S8x1024.size inb_S24x1024_S8x1024_8_0)) (View.ld (Val := Elt F) sh (Rect.unit (k0_off15 k 0#32) S1x16x1024.size (k0_off15_inb i k h2 0))) (View.ld (Val := Elt F) wb (Rect.unit ![16, 0] S8x1024.size inb_S24x1024_S8x1024_16_0)) (View.ld (Val := Elt F) sh (Rect.unit (k0_off16 k 0#32) S1x16x1024.size (k0_off16_inb i k h2 0))) (View.ld (Val := Elt F) ac (Rect.unit (k0_off17 k 0#32) S16x1024.size (k0_off17_inb i k h2 0))))) (k0_off19 k 0#32) S1x16x1024.size (k0_pay20 (k0_pay18 (View.ld (Val := Elt F) wb (Rect.unit ![0, 0] S8x1024.size inb_S24x1024_S8x1024_0_0)) (View.ld (Val := Elt F) sh (Rect.unit (k0_off14 k 0#32) S1x16x1024.size (k0_off14_inb i k h2 0))) (View.ld (Val := Elt F) wb (Rect.unit ![8, 0] S8x1024.size inb_S24x1024_S8x1024_8_0)) (View.ld (Val := Elt F) sh (Rect.unit (k0_off15 k 0#32) S1x16x1024.size (k0_off15_inb i k h2 0))) (View.ld (Val := Elt F) wb (Rect.unit ![16, 0] S8x1024.size inb_S24x1024_S8x1024_16_0)) (View.ld (Val := Elt F) sh (Rect.unit (k0_off16 k 0#32) S1x16x1024.size (k0_off16_inb i k h2 0)))) (View.ld (Val := Elt F) ah (Rect.unit (k0_off17 k 0#32) S16x1024.size (k0_off17_inb i k h2 0))))) (k0_off18 k 1#32) S1x16x1024.size (k0_pay8 (k0_pay21 (View.ld (Val := Elt F) wb (Rect.unit ![0, 0] S8x1024.size inb_S24x1024_S8x1024_0_0)) (View.ld (Val := Elt F) sh (Rect.unit (k0_off14 k 1#32) S1x16x1024.size (k0_off14_inb i k h2 1))) (View.ld (Val := Elt F) wb (Rect.unit ![8, 0] S8x1024.size inb_S24x1024_S8x1024_8_0)) (View.ld (Val := Elt F) sh (Rect.unit (k0_off15 k 1#32) S1x16x1024.size (k0_off15_inb i k h2 1))) (View.ld (Val := Elt F) wb (Rect.unit ![16, 0] S8x1024.size inb_S24x1024_S8x1024_16_0)) (View.ld (Val := Elt F) sh (Rect.unit (k0_off16 k 1#32) S1x16x1024.size (k0_off16_inb i k h2 1)))) (View.ld (Val := Elt F) ac (Rect.unit (k0_off17 k 1#32) S16x1024.size (k0_off17_inb i k h2 1))))) (k0_off19 k 1#32) S1x16x1024.size (k0_pay9 (k0_pay21 (View.ld (Val := Elt F) wb (Rect.unit ![0, 0] S8x1024.size inb_S24x1024_S8x1024_0_0)) (View.ld (Val := Elt F) sh (Rect.unit (k0_off14 k 1#32) S1x16x1024.size (k0_off14_inb i k h2 1))) (View.ld (Val := Elt F) wb (Rect.unit ![8, 0] S8x1024.size inb_S24x1024_S8x1024_8_0)) (View.ld (Val := Elt F) sh (Rect.unit (k0_off15 k 1#32) S1x16x1024.size (k0_off15_inb i k h2 1))) (View.ld (Val := Elt F) wb (Rect.unit ![16, 0] S8x1024.size inb_S24x1024_S8x1024_16_0)) (View.ld (Val := Elt F) sh (Rect.unit (k0_off16 k 1#32) S1x16x1024.size (k0_off16_inb i k h2 1)))) (View.ld (Val := Elt F) ah (Rect.unit (k0_off17 k 1#32) S16x1024.size (k0_off17_inb i k h2 1))))

end Trips

/-! ## The loops -/

section Loops

variable (t : Dev nD) (i : grid0.Coords) (h2 : k0_cond2 i = 1#1)
  (a2 : Memref sig .tc .hbm S4096x10240 .bf16) (ha2 : a2.IsWhole)
  (a3 : Memref sig .tc .vmem S1x512x1024 .bf16) (ha3 : a3.IsWhole)
  (a4 : Memref sig .tc .vmem S512x1024 .bf16) (ha4 : a4.IsWhole)
  (a5 : Memref sig .tc .vmem S512x1024 .bf16) (ha5 : a5.IsWhole)
  (a6 : Memref sig .tc .vmem S512x1024 .bf16) (ha6 : a6.IsWhole)
  (a7 : Memref sig .tc .vmem S32x1024 .bf16) (ha7 : a7.IsWhole)
  (a8 : Memref sig .tc .vmem S32x1024 .bf16) (ha8 : a8.IsWhole)
  (a9 : Memref sig .tc .vmem S3x1024 .f32) (ha9 : a9.IsWhole)
  (a10 : Memref sig .tc .hbm S8x128 .f32) (ha10 : a10.IsWhole)
  (a11 : Memref sig .tc .vmem S512x1024 .bf16) (ha11 : a11.IsWhole)
  (a12 : Memref sig .tc .vmem S3x1024 .f32) (ha12 : a12.IsWhole)
  (a13 : Memref sig .tc .vmem S552x1024 .f32) (ha13 : a13.IsWhole)
  (a14 : Memref sig .tc .vmem S552x1024 .f32) (ha14 : a14.IsWhole)
  (a15 : Memref sig .tc .vmem S3x544x1024 .f32) (ha15 : a15.IsWhole)
  (a16 : Memref sig .tc .vmem S24x1024 .f32) (ha16 : a16.IsWhole)
  (a17 : Memref sig .tc .vmem S3x512x1024 .bf16) (ha17 : a17.IsWhole)

/-- A trip of the products. -/
theorem trip1 (v : FVec F S32x1024 .f32) (k : Fin k0_t1_loop.trips) (ah : Vec F S512x1024 .bf16) (ac : Vec F S512x1024 .bf16) (p : Vec F S552x1024 .f32) (E : Set ℕ) (K : PUnit → sProp 𝕄) :
    iprop(owns t a4 fullShare ah ∗ owns t a6 fullShare ac ∗ owns t a13 fullShare p ∗ ((owns t a4 fullShare ah ∗ owns t a6 fullShare ac ∗ owns t a13 fullShare (prodT i h2 ah ac k p)) -∗ K ⟨⟩))
      ⊢ wp frame (wpE (defs₀ (F := F)) Variants.none t none) E (k0_t1_body i a2 ha2 a3 ha3 a4 ha4 a5 ha5 a6 ha6 a7 ha7 a8 ha8 a9 ha9 a10 ha10 a11 ha11 a12 ha12 a13 ha13 a14 ha14 a15 ha15 a16 ha16 a17 ha17 h2 v k ⟨⟩) K := by
  unfold owns
  iintro ⟨⟨%f4, %h4, H4⟩, ⟨%f6, %h6, H6⟩, ⟨%f13, %h13, H13⟩, Hk⟩
  subst h4; subst h6; subst h13
  unfold k0_t1_body
  sl_exec
  sl_step
  iapply Hk
  isplitl [H4]
  · iexists _; isplitr; rotate_left
    · iexact H4
    · ipureintro; exact rfl
  isplitl [H6]
  · iexists _; isplitr; rotate_left
    · iexact H6
    · ipureintro; exact rfl
  iexists _; isplitr; rotate_left
  · iexact H13
  · ipureintro; exact (View.read_writes_cons_put _ _ _ _ _ rfl).trans (congrArg (fun d => VecWindow.put d _ _ _) (View.read_writes_cons_put _ _ _ _ _ rfl))

/-- The loop of the products. -/
theorem loop1 (v : FVec F S32x1024 .f32) (ah : Vec F S512x1024 .bf16) (ac : Vec F S512x1024 .bf16) (p : Vec F S552x1024 .f32) (E : Set ℕ) (K : PUnit → sProp 𝕄) :
    iprop(owns t a4 fullShare ah ∗ owns t a6 fullShare ac ∗ owns t a13 fullShare p ∗ ((owns t a4 fullShare ah ∗ owns t a6 fullShare ac ∗ owns t a13 fullShare (iter (prodT i h2 ah ac) p k0_t1_loop.trips)) -∗ K ⟨⟩))
      ⊢ wp frame (wpE (defs₀ (F := F)) Variants.none t none) E (Scf.Loop.for k0_t1_loop (k0_t1_ok i h2) ⟨⟩ (k0_t1_body i a2 ha2 a3 ha3 a4 ha4 a5 ha5 a6 ha6 a7 ha7 a8 ha8 a9 ha9 a10 ha10 a11 ha11 a12 ha12 a13 ha13 a14 ha14 a15 ha15 a16 ha16 a17 ha17 h2 v)) K := by
  refine BIBase.Entails.trans ?_ (Scf.wp_for frame (wpE (defs₀ (F := F)) Variants.none t none) E _ _ _ _ _ _ (fun k _ => iprop(owns t a4 fullShare ah ∗ owns t a6 fullShare ac ∗ owns t a13 fullShare (iter (prodT i h2 ah ac) p k))) ?_)
  · iintro ⟨H4, H6, H13, Hk⟩
    isplitl [H4 H6 H13]
    · isplitl [H4]; · iexact H4
      isplitl [H6]; · iexact H6
      iexact H13
    iintro %_ ⟨H4, H6, H13⟩
    iapply Hk
    iframe
  · intro k _
    iintro ⟨H4, H6, H13⟩
    iapply (trip1 t i h2 a2 ha2 a3 ha3 a4 ha4 a5 ha5 a6 ha6 a7 ha7 a8 ha8 a9 ha9 a10 ha10 a11 ha11 a12 ha12 a13 ha13 a14 ha14 a15 ha15 a16 ha16 a17 ha17 v k _ _ _ E _)
    iframe H4 H6 H13
    iintro ⟨H4, H6, H13⟩
    rw [iter_succ]
    iframe

/-- A trip of the inner gate. -/
theorem trip2 (v : FVec F S32x1024 .f32) (k : Fin k0_t2_loop.trips) (dy : Vec F S1x512x1024 .bf16) (ab : Vec F S512x1024 .bf16) (sh : Vec F S3x544x1024 .f32) (wb : Vec F S24x1024 .f32) (sg : Vec F S3x512x1024 .bf16) (d : Vec F S552x1024 .f32) (E : Set ℕ) (K : PUnit → sProp 𝕄) :
    iprop(owns t a3 fullShare dy ∗ owns t a5 fullShare ab ∗ owns t a15 fullShare sh ∗ owns t a16 fullShare wb ∗ owns t a17 fullShare sg ∗ owns t a14 fullShare d ∗ ((owns t a3 fullShare dy ∗ owns t a5 fullShare ab ∗ owns t a15 fullShare sh ∗ owns t a16 fullShare wb ∗ owns t a17 fullShare (midStage i h2 dy sh wb k sg) ∗ owns t a14 fullShare (midCt i h2 dy ab k d)) -∗ K ⟨⟩))
      ⊢ wp frame (wpE (defs₀ (F := F)) Variants.none t none) E (k0_t2_body i a2 ha2 a3 ha3 a4 ha4 a5 ha5 a6 ha6 a7 ha7 a8 ha8 a9 ha9 a10 ha10 a11 ha11 a12 ha12 a13 ha13 a14 ha14 a15 ha15 a16 ha16 a17 ha17 h2 v k ⟨⟩) K := by
  unfold owns
  iintro ⟨⟨%f3, %h3, H3⟩, ⟨%f5, %h5, H5⟩, ⟨%f15, %h15, H15⟩, ⟨%f16, %h16, H16⟩, ⟨%f17, %h17, H17⟩, ⟨%f14, %h14, H14⟩, Hk⟩
  subst h3; subst h5; subst h15; subst h16; subst h17; subst h14
  unfold k0_t2_body
  sl_exec
  sl_step
  iapply Hk
  isplitl [H3]
  · iexists _; isplitr; rotate_left
    · iexact H3
    · ipureintro; exact rfl
  isplitl [H5]
  · iexists _; isplitr; rotate_left
    · iexact H5
    · ipureintro; exact rfl
  isplitl [H15]
  · iexists _; isplitr; rotate_left
    · iexact H15
    · ipureintro; exact rfl
  isplitl [H16]
  · iexists _; isplitr; rotate_left
    · iexact H16
    · ipureintro; exact rfl
  isplitl [H17]
  · iexists _; isplitr; rotate_left
    · iexact H17
    · ipureintro; exact (View.read_writes_cons_put _ _ _ _ _ rfl).trans (congrArg (fun d => VecWindow.put d _ _ _) (View.read_writes_cons_put _ _ _ _ _ rfl))
  iexists _; isplitr; rotate_left
  · iexact H14
  · ipureintro; exact (View.read_writes_cons_put _ _ _ _ _ rfl).trans (congrArg (fun d => VecWindow.put d _ _ _) (View.read_writes_cons_put _ _ _ _ _ rfl))

/-- The loop of the inner gate. -/
theorem loop2 (v : FVec F S32x1024 .f32) (dy : Vec F S1x512x1024 .bf16) (ab : Vec F S512x1024 .bf16) (sh : Vec F S3x544x1024 .f32) (wb : Vec F S24x1024 .f32) (sg : Vec F S3x512x1024 .bf16) (d : Vec F S552x1024 .f32) (E : Set ℕ) (K : PUnit → sProp 𝕄) :
    iprop(owns t a3 fullShare dy ∗ owns t a5 fullShare ab ∗ owns t a15 fullShare sh ∗ owns t a16 fullShare wb ∗ owns t a17 fullShare sg ∗ owns t a14 fullShare d ∗ ((owns t a3 fullShare dy ∗ owns t a5 fullShare ab ∗ owns t a15 fullShare sh ∗ owns t a16 fullShare wb ∗ owns t a17 fullShare (iter (midStage i h2 dy sh wb) sg k0_t2_loop.trips) ∗ owns t a14 fullShare (iter (midCt i h2 dy ab) d k0_t2_loop.trips)) -∗ K ⟨⟩))
      ⊢ wp frame (wpE (defs₀ (F := F)) Variants.none t none) E (Scf.Loop.for k0_t2_loop (k0_t2_ok i h2) ⟨⟩ (k0_t2_body i a2 ha2 a3 ha3 a4 ha4 a5 ha5 a6 ha6 a7 ha7 a8 ha8 a9 ha9 a10 ha10 a11 ha11 a12 ha12 a13 ha13 a14 ha14 a15 ha15 a16 ha16 a17 ha17 h2 v)) K := by
  refine BIBase.Entails.trans ?_ (Scf.wp_for frame (wpE (defs₀ (F := F)) Variants.none t none) E _ _ _ _ _ _ (fun k _ => iprop(owns t a3 fullShare dy ∗ owns t a5 fullShare ab ∗ owns t a15 fullShare sh ∗ owns t a16 fullShare wb ∗ owns t a17 fullShare (iter (midStage i h2 dy sh wb) sg k) ∗ owns t a14 fullShare (iter (midCt i h2 dy ab) d k))) ?_)
  · iintro ⟨H3, H5, H15, H16, H17, H14, Hk⟩
    isplitl [H3 H5 H15 H16 H17 H14]
    · isplitl [H3]; · iexact H3
      isplitl [H5]; · iexact H5
      isplitl [H15]; · iexact H15
      isplitl [H16]; · iexact H16
      isplitl [H17]; · iexact H17
      iexact H14
    iintro %_ ⟨H3, H5, H15, H16, H17, H14⟩
    iapply Hk
    iframe
  · intro k _
    iintro ⟨H3, H5, H15, H16, H17, H14⟩
    iapply (trip2 t i h2 a2 ha2 a3 ha3 a4 ha4 a5 ha5 a6 ha6 a7 ha7 a8 ha8 a9 ha9 a10 ha10 a11 ha11 a12 ha12 a13 ha13 a14 ha14 a15 ha15 a16 ha16 a17 ha17 v k _ _ _ _ _ _ E _)
    iframe H3 H5 H15 H16 H17 H14
    iintro ⟨H3, H5, H15, H16, H17, H14⟩
    rw [iter_succ, iter_succ]
    iframe

/-- A trip of the outer gates. -/
theorem trip4 (k : Fin k0_t4_loop.trips) (ah : Vec F S512x1024 .bf16) (ac : Vec F S512x1024 .bf16) (sh : Vec F S3x544x1024 .f32) (wb : Vec F S24x1024 .f32) (sg : Vec F S3x512x1024 .bf16) (E : Set ℕ) (K : PUnit → sProp 𝕄) :
    iprop(owns t a4 fullShare ah ∗ owns t a6 fullShare ac ∗ owns t a15 fullShare sh ∗ owns t a16 fullShare wb ∗ owns t a17 fullShare sg ∗ ((owns t a4 fullShare ah ∗ owns t a6 fullShare ac ∗ owns t a15 fullShare sh ∗ owns t a16 fullShare wb ∗ owns t a17 fullShare (finT i h2 ah ac sh wb k sg)) -∗ K ⟨⟩))
      ⊢ wp frame (wpE (defs₀ (F := F)) Variants.none t none) E (k0_t4_body i a2 ha2 a3 ha3 a4 ha4 a5 ha5 a6 ha6 a7 ha7 a8 ha8 a9 ha9 a10 ha10 a11 ha11 a12 ha12 a13 ha13 a14 ha14 a15 ha15 a16 ha16 a17 ha17 h2 k ⟨⟩) K := by
  unfold owns
  iintro ⟨⟨%f4, %h4, H4⟩, ⟨%f6, %h6, H6⟩, ⟨%f15, %h15, H15⟩, ⟨%f16, %h16, H16⟩, ⟨%f17, %h17, H17⟩, Hk⟩
  subst h4; subst h6; subst h15; subst h16; subst h17
  unfold k0_t4_body
  sl_exec
  sl_step
  iapply Hk
  isplitl [H4]
  · iexists _; isplitr; rotate_left
    · iexact H4
    · ipureintro; exact rfl
  isplitl [H6]
  · iexists _; isplitr; rotate_left
    · iexact H6
    · ipureintro; exact rfl
  isplitl [H15]
  · iexists _; isplitr; rotate_left
    · iexact H15
    · ipureintro; exact rfl
  isplitl [H16]
  · iexists _; isplitr; rotate_left
    · iexact H16
    · ipureintro; exact rfl
  iexists _; isplitr; rotate_left
  · iexact H17
  · ipureintro; exact (View.read_writes_cons_put _ _ _ _ _ rfl).trans (congrArg (fun d => VecWindow.put d _ _ _) ((View.read_writes_cons_put _ _ _ _ _ rfl).trans (congrArg (fun d => VecWindow.put d _ _ _) ((View.read_writes_cons_put _ _ _ _ _ rfl).trans (congrArg (fun d => VecWindow.put d _ _ _) (View.read_writes_cons_put _ _ _ _ _ rfl))))))

/-- The loop of the outer gates. -/
theorem loop4 (ah : Vec F S512x1024 .bf16) (ac : Vec F S512x1024 .bf16) (sh : Vec F S3x544x1024 .f32) (wb : Vec F S24x1024 .f32) (sg : Vec F S3x512x1024 .bf16) (E : Set ℕ) (K : PUnit → sProp 𝕄) :
    iprop(owns t a4 fullShare ah ∗ owns t a6 fullShare ac ∗ owns t a15 fullShare sh ∗ owns t a16 fullShare wb ∗ owns t a17 fullShare sg ∗ ((owns t a4 fullShare ah ∗ owns t a6 fullShare ac ∗ owns t a15 fullShare sh ∗ owns t a16 fullShare wb ∗ owns t a17 fullShare (iter (finT i h2 ah ac sh wb) sg k0_t4_loop.trips)) -∗ K ⟨⟩))
      ⊢ wp frame (wpE (defs₀ (F := F)) Variants.none t none) E (Scf.Loop.for k0_t4_loop (k0_t4_ok i h2) ⟨⟩ (k0_t4_body i a2 ha2 a3 ha3 a4 ha4 a5 ha5 a6 ha6 a7 ha7 a8 ha8 a9 ha9 a10 ha10 a11 ha11 a12 ha12 a13 ha13 a14 ha14 a15 ha15 a16 ha16 a17 ha17 h2)) K := by
  refine BIBase.Entails.trans ?_ (Scf.wp_for frame (wpE (defs₀ (F := F)) Variants.none t none) E _ _ _ _ _ _ (fun k _ => iprop(owns t a4 fullShare ah ∗ owns t a6 fullShare ac ∗ owns t a15 fullShare sh ∗ owns t a16 fullShare wb ∗ owns t a17 fullShare (iter (finT i h2 ah ac sh wb) sg k))) ?_)
  · iintro ⟨H4, H6, H15, H16, H17, Hk⟩
    isplitl [H4 H6 H15 H16 H17]
    · isplitl [H4]; · iexact H4
      isplitl [H6]; · iexact H6
      isplitl [H15]; · iexact H15
      isplitl [H16]; · iexact H16
      iexact H17
    iintro %_ ⟨H4, H6, H15, H16, H17⟩
    iapply Hk
    iframe
  · intro k _
    iintro ⟨H4, H6, H15, H16, H17⟩
    iapply (trip4 t i h2 a2 ha2 a3 ha3 a4 ha4 a5 ha5 a6 ha6 a7 ha7 a8 ha8 a9 ha9 a10 ha10 a11 ha11 a12 ha12 a13 ha13 a14 ha14 a15 ha15 a16 ha16 a17 ha17 k _ _ _ _ _ E _)
    iframe H4 H6 H15 H16 H17
    iintro ⟨H4, H6, H15, H16, H17⟩
    rw [iter_succ]
    iframe

end Loops

end Cert.MixAIdeal.Body

end
-- ==== Proof.MixAWork.lean ====
/- The kernel function of the short convolution's gradient, put together from its loops: what one point of the grid does to
the buffers. -/
module

public import proofs.«01_k».proof.Proof.MixABody

@[expose] public section

set_option maxRecDepth 65536

noncomputable section

namespace Cert.MixAIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixAIdeal.Gen

variable {F : FTy → Type} [FloatOps F]

local notation "𝕄" => MT nD τ sig Unit (Elt F) ℕ (UR sig nD τ) ℕ

/-- The sums of the three taps. -/
abbrev Acc (F : FTy → Type) [FloatOps F] : Type := FVec F S8x1024 .f32 × FVec F S8x1024 .f32 × FVec F S8x1024 .f32

/-- The blocks a point reads: the cotangent, the three gates, the outer two's rows before, the taps. -/
structure In (F : FTy → Type) [FloatOps F] where
  dy : Vec F S1x512x1024 .bf16
  ah : Vec F S512x1024 .bf16
  ab : Vec F S512x1024 .bf16
  ac : Vec F S512x1024 .bf16
  hh : Vec F S32x1024 .bf16
  hc : Vec F S32x1024 .bf16
  w : Vec F S3x1024 .f32

/-! ## What the parts do -/

/-- Three shifted copies of a window's rows. -/
def copyP (p : Vec F S552x1024 .f32) (sh : Vec F S3x544x1024 .f32) : Vec F S3x544x1024 .f32 :=
  VecWindow.put (VecWindow.put (VecWindow.put (sh) ![0, 0, 0] S1x544x1024.size (k0_pay27 (View.ld (Val := Elt F) p (Rect.unit (s := S552x1024) ![0, 0] S544x1024.size inb_S552x1024_S544x1024_0_0)))) ![1, 0, 0] S1x544x1024.size (k0_pay28 (View.ld (Val := Elt F) p (Rect.unit (s := S552x1024) ![6, 0] S544x1024.size inb_S552x1024_S544x1024_6_0)))) ![2, 0, 0] S1x544x1024.size (k0_pay29 (View.ld (Val := Elt F) p (Rect.unit (s := S552x1024) ![7, 0] S544x1024.size inb_S552x1024_S544x1024_7_0)))

/-- The same, shifted by whole rows. -/
def copyD (d : Vec F S552x1024 .f32) (sh : Vec F S3x544x1024 .f32) : Vec F S3x544x1024 .f32 :=
  VecWindow.put (VecWindow.put (VecWindow.put (sh) ![0, 0, 0] S1x544x1024.size (k0_pay41 (View.ld (Val := Elt F) d (Rect.unit (s := S552x1024) ![0, 0] S544x1024.size inb_S552x1024_S544x1024_0_0)))) ![1, 0, 0] S1x544x1024.size (k0_pay42 (View.ld (Val := Elt F) d (Rect.unit (s := S552x1024) ![1, 0] S544x1024.size inb_S552x1024_S544x1024_1_0)))) ![2, 0, 0] S1x544x1024.size (k0_pay7 (View.ld (Val := Elt F) d (Rect.unit (s := S552x1024) ![2, 0] S544x1024.size inb_S552x1024_S544x1024_2_0)))

/-- The taps, each over eight equal rows. -/
def spread (w : Vec F S3x1024 .f32) (wb : Vec F S24x1024 .f32) : Vec F S24x1024 .f32 :=
  VecWindow.put (VecWindow.put (VecWindow.put (wb) ![0, 0] S8x1024.size (k0_pay4 (View.ld (Val := Elt F) w (Rect.unit (s := S3x1024) ![0, 0] S1x1024.size inb_S3x1024_S1x1024_0_0)))) ![8, 0] S8x1024.size (k0_pay5 (View.ld (Val := Elt F) w (Rect.unit (s := S3x1024) ![1, 0] S1x1024.size inb_S3x1024_S1x1024_1_0)))) ![16, 0] S8x1024.size (k0_pay6 (View.ld (Val := Elt F) w (Rect.unit (s := S3x1024) ![2, 0] S1x1024.size inb_S3x1024_S1x1024_2_0)))

/-- The zero rows after the window. -/
def tail (p : Vec F S552x1024 .f32) : Vec F S552x1024 .f32 := VecWindow.put (p) ![544, 0] S8x1024.size (k0_pay3 (F := F))

/-- The sums of a tile added to the taps' gradients. -/
def addDw (a : Acc F) (dw : Vec F S3x1024 .f32) : Vec F S3x1024 .f32 :=
  VecWindow.put (VecWindow.put (VecWindow.put (dw) ![0, 0] S1x1024.size (k0_pay38 a.1 (View.ld (Val := Elt F) dw (Rect.unit (s := S3x1024) ![0, 0] S1x1024.size inb_S3x1024_S1x1024_0_0)))) ![1, 0] S1x1024.size (k0_pay39 a.2.1 (View.ld (Val := Elt F) dw (Rect.unit (s := S3x1024) ![1, 0] S1x1024.size inb_S3x1024_S1x1024_1_0)))) ![2, 0] S1x1024.size (k0_pay40 a.2.2 (View.ld (Val := Elt F) dw (Rect.unit (s := S3x1024) ![2, 0] S1x1024.size inb_S3x1024_S1x1024_2_0)))

/-- The row tile of a point. -/
def tile (i : grid0.Coords) : BitVec 32 := Scalar.subi 7#32 (BitVec.ofNat 32 (i 0).val)

/-- The rows carried from the tile after. -/
def carry (i : grid0.Coords) (d : Vec F S552x1024 .f32) : FVec F S32x1024 .f32 := k0_pay23 (tile i) (View.ld (Val := Elt F) d (Rect.unit (s := S552x1024) ![0, 0] S32x1024.size inb_S552x1024_S32x1024_0_0))

/-- The window of the outer gates' product before its own rows are written, -/
def halo (i : grid0.Coords) (x : In F) (p : Vec F S552x1024 .f32) : Vec F S552x1024 .f32 := VecWindow.put (p) ![0, 0] S32x1024.size (k0_pay22 (tile i) x.hh x.hc)

/-- the window of the cotangent likewise, -/
def after32 (i : grid0.Coords) (d : Vec F S552x1024 .f32) : Vec F S552x1024 .f32 := VecWindow.put (d) ![512, 0] S32x1024.size (k0_pay24 (carry i d))

section Tile

variable (i : grid0.Coords) (h2 : k0_cond2 i = 1#1) (x : In F)

/-- and both after. -/
def prodS (p : Vec F S552x1024 .f32) : Vec F S552x1024 .f32 := iter (prodT i h2 x.ah x.ac) (halo i x p) k0_t1_loop.trips
def ctS (d : Vec F S552x1024 .f32) : Vec F S552x1024 .f32 := iter (midCt i h2 x.dy x.ab) (after32 i d) k0_t2_loop.trips
/-- The stage after the inner gate, -/
def stage1 (sh : Vec F S3x544x1024 .f32) (wb : Vec F S24x1024 .f32) (sg : Vec F S3x512x1024 .bf16) : Vec F S3x512x1024 .bf16 :=
  iter (midStage i h2 x.dy sh wb) sg k0_t2_loop.trips
/-- and after the outer two. -/
def stage2 (sh : Vec F S3x544x1024 .f32) (wb : Vec F S24x1024 .f32) (sg : Vec F S3x512x1024 .bf16) : Vec F S3x512x1024 .bf16 :=
  iter (finT i h2 x.ah x.ac sh wb) sg k0_t4_loop.trips
/-- A tile's sums. -/
def accS (d : Vec F S552x1024 .f32) (sh : Vec F S3x544x1024 .f32) : Acc F :=
  iter (wgT i h2 d sh) (k0_pay33 (F := F), k0_pay34 (F := F), k0_pay35 (F := F)) k0_t3_loop.trips
end Tile

/-- The block written: the stage's slab of the point. -/
def slab (i : grid0.Coords) (sg : Vec F S3x512x1024 .bf16) : Vec F S512x1024 .bf16 :=
  k0_pay10 (View.ld (Val := Elt F) sg (Rect.unit (s := S3x512x1024) (k0_off20 i) S1x512x1024.size (k0_off20_inb i)))

/-! ## The program -/

section Program

variable (i : grid0.Coords) (a2 : Memref sig .tc .hbm S4096x10240 .bf16) (ha2 : a2.IsWhole)
  (a3 : Memref sig .tc .vmem S1x512x1024 .bf16) (ha3 : a3.IsWhole)
  (a4 : Memref sig .tc .vmem S512x1024 .bf16) (ha4 : a4.IsWhole)
  (a5 : Memref sig .tc .vmem S512x1024 .bf16) (ha5 : a5.IsWhole)
  (a6 : Memref sig .tc .vmem S512x1024 .bf16) (ha6 : a6.IsWhole)
  (a7 : Memref sig .tc .vmem S32x1024 .bf16) (ha7 : a7.IsWhole)
  (a8 : Memref sig .tc .vmem S32x1024 .bf16) (ha8 : a8.IsWhole)
  (a9 : Memref sig .tc .vmem S3x1024 .f32) (ha9 : a9.IsWhole)
  (a10 : Memref sig .tc .hbm S8x128 .f32) (ha10 : a10.IsWhole)
  (a11 : Memref sig .tc .vmem S512x1024 .bf16) (ha11 : a11.IsWhole)
  (a12 : Memref sig .tc .vmem S3x1024 .f32) (ha12 : a12.IsWhole)
  (a13 : Memref sig .tc .vmem S552x1024 .f32) (ha13 : a13.IsWhole)
  (a14 : Memref sig .tc .vmem S552x1024 .f32) (ha14 : a14.IsWhole)
  (a15 : Memref sig .tc .vmem S3x544x1024 .f32) (ha15 : a15.IsWhole)
  (a16 : Memref sig .tc .vmem S24x1024 .f32) (ha16 : a16.IsWhole)
  (a17 : Memref sig .tc .vmem S3x512x1024 .bf16) (ha17 : a17.IsWhole)

noncomputable def initP : P (F := F) PUnit := do
  let _ : Vec F S3x1024 .f32 ← Prog.lift (.load a12 (Rect.unit (s := S3x1024) ![0, 0] S3x1024.size inb_S3x1024_S3x1024_0_0).toLoadRect (View.loadsAt_vmem h_S3x1024))
  Prog.lift (.store a12 (Rect.unit (s := S3x1024) ![0, 0] S3x1024.size inb_S3x1024_S3x1024_0_0) (k0_pay1 (F := F)) Finset.univ (View.stores_vmem_bits_univ h_S3x1024 rfl) (.inl rfl))
  let _ : Vec F S552x1024 .f32 ← Prog.lift (.load a14 (Rect.unit (s := S552x1024) ![0, 0] S552x1024.size inb_S552x1024_S552x1024_0_0).toLoadRect (View.loadsAt_vmem h_S552x1024))
  Prog.lift (.store a14 (Rect.unit (s := S552x1024) ![0, 0] S552x1024.size inb_S552x1024_S552x1024_0_0) (k0_pay2 (F := F)) Finset.univ (View.stores_vmem_bits_univ h_S552x1024 rfl) (.inl rfl))
  let _ : Vec F S8x1024 .f32 ← Prog.lift (.load a13 (Rect.unit (s := S552x1024) ![544, 0] S8x1024.size inb_S552x1024_S8x1024_544_0).toLoadRect (View.loadsAt_vmem h_S8x1024))
  Prog.lift (.store a13 (Rect.unit (s := S552x1024) ![544, 0] S8x1024.size inb_S552x1024_S8x1024_544_0) (k0_pay3 (F := F)) Finset.univ (View.stores_vmem_bits_univ h_S8x1024 rfl) (.inl rfl))
  let w0 : Vec F S1x1024 .f32 ← Prog.lift (.load a9 (Rect.unit (s := S3x1024) ![0, 0] S1x1024.size inb_S3x1024_S1x1024_0_0).toLoadRect (View.loadsAt_vmem h_S1x1024))
  let _ : Vec F S8x1024 .f32 ← Prog.lift (.load a16 (Rect.unit (s := S24x1024) ![0, 0] S8x1024.size inb_S24x1024_S8x1024_0_0).toLoadRect (View.loadsAt_vmem h_S8x1024))
  Prog.lift (.store a16 (Rect.unit (s := S24x1024) ![0, 0] S8x1024.size inb_S24x1024_S8x1024_0_0) (k0_pay4 w0) Finset.univ (View.stores_vmem_bits_univ h_S8x1024 rfl) (.inl rfl))
  let w1 : Vec F S1x1024 .f32 ← Prog.lift (.load a9 (Rect.unit (s := S3x1024) ![1, 0] S1x1024.size inb_S3x1024_S1x1024_1_0).toLoadRect (View.loadsAt_vmem h_S1x1024))
  let _ : Vec F S8x1024 .f32 ← Prog.lift (.load a16 (Rect.unit (s := S24x1024) ![8, 0] S8x1024.size inb_S24x1024_S8x1024_8_0).toLoadRect (View.loadsAt_vmem h_S8x1024))
  Prog.lift (.store a16 (Rect.unit (s := S24x1024) ![8, 0] S8x1024.size inb_S24x1024_S8x1024_8_0) (k0_pay5 w1) Finset.univ (View.stores_vmem_bits_univ h_S8x1024 rfl) (.inl rfl))
  let w2 : Vec F S1x1024 .f32 ← Prog.lift (.load a9 (Rect.unit (s := S3x1024) ![2, 0] S1x1024.size inb_S3x1024_S1x1024_2_0).toLoadRect (View.loadsAt_vmem h_S1x1024))
  let _ : Vec F S8x1024 .f32 ← Prog.lift (.load a16 (Rect.unit (s := S24x1024) ![16, 0] S8x1024.size inb_S24x1024_S8x1024_16_0).toLoadRect (View.loadsAt_vmem h_S8x1024))
  Prog.lift (.store a16 (Rect.unit (s := S24x1024) ![16, 0] S8x1024.size inb_S24x1024_S8x1024_16_0) (k0_pay6 w2) Finset.univ (View.stores_vmem_bits_univ h_S8x1024 rfl) (.inl rfl))

noncomputable def ctP (v : FVec F S32x1024 .f32) : P (F := F) PUnit := do
  let _ : Vec F S32x1024 .f32 ← Prog.lift (.load a14 (Rect.unit (s := S552x1024) ![512, 0] S32x1024.size inb_S552x1024_S32x1024_512_0).toLoadRect (View.loadsAt_vmem h_S32x1024))
  Prog.lift (.store a14 (Rect.unit (s := S552x1024) ![512, 0] S32x1024.size inb_S552x1024_S32x1024_512_0) (k0_pay24 v) Finset.univ (View.stores_vmem_bits_univ h_S32x1024 rfl) (.inl rfl))

noncomputable def copyPP : P (F := F) PUnit := do
  let v0 : Vec F S544x1024 .f32 ← Prog.lift (.load a13 (Rect.unit (s := S552x1024) ![0, 0] S544x1024.size inb_S552x1024_S544x1024_0_0).toLoadRect (View.loadsAt_vmem h_S544x1024))
  let _ : Vec F S1x544x1024 .f32 ← Prog.lift (.load a15 (Rect.unit (s := S3x544x1024) ![0, 0, 0] S1x544x1024.size inb_S3x544x1024_S1x544x1024_0_0_0).toLoadRect (View.loadsAt_vmem h_S1x544x1024))
  Prog.lift (.store a15 (Rect.unit (s := S3x544x1024) ![0, 0, 0] S1x544x1024.size inb_S3x544x1024_S1x544x1024_0_0_0) (k0_pay27 v0) Finset.univ (View.stores_vmem_bits_univ h_S1x544x1024 rfl) (.inl rfl))
  let v1 : Vec F S544x1024 .f32 ← Prog.lift (.load a13 (Rect.unit (s := S552x1024) ![6, 0] S544x1024.size inb_S552x1024_S544x1024_6_0).toLoadRect (View.loadsAt_vmem h_S544x1024))
  let _ : Vec F S1x544x1024 .f32 ← Prog.lift (.load a15 (Rect.unit (s := S3x544x1024) ![1, 0, 0] S1x544x1024.size inb_S3x544x1024_S1x544x1024_1_0_0).toLoadRect (View.loadsAt_vmem h_S1x544x1024))
  Prog.lift (.store a15 (Rect.unit (s := S3x544x1024) ![1, 0, 0] S1x544x1024.size inb_S3x544x1024_S1x544x1024_1_0_0) (k0_pay28 v1) Finset.univ (View.stores_vmem_bits_univ h_S1x544x1024 rfl) (.inl rfl))
  let v2 : Vec F S544x1024 .f32 ← Prog.lift (.load a13 (Rect.unit (s := S552x1024) ![7, 0] S544x1024.size inb_S552x1024_S544x1024_7_0).toLoadRect (View.loadsAt_vmem h_S544x1024))
  let _ : Vec F S1x544x1024 .f32 ← Prog.lift (.load a15 (Rect.unit (s := S3x544x1024) ![2, 0, 0] S1x544x1024.size inb_S3x544x1024_S1x544x1024_2_0_0).toLoadRect (View.loadsAt_vmem h_S1x544x1024))
  Prog.lift (.store a15 (Rect.unit (s := S3x544x1024) ![2, 0, 0] S1x544x1024.size inb_S3x544x1024_S1x544x1024_2_0_0) (k0_pay29 v2) Finset.univ (View.stores_vmem_bits_univ h_S1x544x1024 rfl) (.inl rfl))

noncomputable def lastP (v : Vec F S544x1024 .f32) : P (F := F) PUnit := do
  let _ : Vec F S1x544x1024 .f32 ← Prog.lift (.load a15 (Rect.unit (s := S3x544x1024) ![2, 0, 0] S1x544x1024.size inb_S3x544x1024_S1x544x1024_2_0_0).toLoadRect (View.loadsAt_vmem h_S1x544x1024))
  Prog.lift (.store a15 (Rect.unit (s := S3x544x1024) ![2, 0, 0] S1x544x1024.size inb_S3x544x1024_S1x544x1024_2_0_0) (k0_pay7 v) Finset.univ (View.stores_vmem_bits_univ h_S1x544x1024 rfl) (.inl rfl))

noncomputable def outP : P (F := F) PUnit := do
  let v : Vec F S1x512x1024 .bf16 ← Prog.lift (.load a17 (Rect.unit (s := S3x512x1024) (k0_off20 i) S1x512x1024.size (k0_off20_inb i)).toLoadRect (View.loadsAt_vmem h_S1x512x1024))
  let _ : Vec F S512x1024 .bf16 ← Prog.lift (.load a11 (Rect.unit (s := S512x1024) ![0, 0] S512x1024.size inb_S512x1024_S512x1024_0_0).toLoadRect (View.loadsAt_vmem h_S512x1024))
  Prog.lift (.store a11 (Rect.unit (s := S512x1024) ![0, 0] S512x1024.size inb_S512x1024_S512x1024_0_0) (k0_pay10 v) Finset.univ (View.stores_vmem h_S512x1024 (ha11.storeExact_slice rfl _ packedbf16_S512x1024_S512x1024_0_0) (fun _ => rfl)) (.inl rfl))

noncomputable def loopsP (h2 : k0_cond2 i = 1#1) (v : FVec F S32x1024 .f32) : P (F := F) (Σ' (_ : FVec F S8x1024 .f32) (_ : FVec F S8x1024 .f32), FVec F S8x1024 .f32) :=
  ctP a14 v >>= fun _ => Scf.Loop.for k0_t1_loop (k0_t1_ok i h2) ⟨⟩ (k0_t1_body i a2 ha2 a3 ha3 a4 ha4 a5 ha5 a6 ha6 a7 ha7 a8 ha8 a9 ha9 a10 ha10 a11 ha11 a12 ha12 a13 ha13 a14 ha14 a15 ha15 a16 ha16 a17 ha17 h2 v) >>= fun _ => copyPP a13 a15 >>= fun _ => Scf.Loop.for k0_t2_loop (k0_t2_ok i h2) ⟨⟩ (k0_t2_body i a2 ha2 a3 ha3 a4 ha4 a5 ha5 a6 ha6 a7 ha7 a8 ha8 a9 ha9 a10 ha10 a11 ha11 a12 ha12 a13 ha13 a14 ha14 a15 ha15 a16 ha16 a17 ha17 h2 v) >>= fun _ =>
  Scf.Loop.for k0_t3_loop (k0_t3_ok i h2) (k0_pay33 (F := F), k0_pay34 (F := F), k0_pay35 (F := F)) (k0_t3_body i a2 ha2 a3 ha3 a4 ha4 a5 ha5 a6 ha6 a7 ha7 a8 ha8 a9 ha9 a10 ha10 a11 ha11 a12 ha12 a13 ha13 a14 ha14 a15 ha15 a16 ha16 a17 ha17 h2 v) >>= fun a => pure ⟨a.1, a.2.1, a.2.2⟩

theorem part7_eq (h2 : k0_cond2 i = 1#1) (v : FVec F S32x1024 .f32) : k0_part7 (F := F) i a2 ha2 a3 ha3 a4 ha4 a5 ha5 a6 ha6 a7 ha7 a8 ha8 a9 ha9 a10 ha10 a11 ha11 a12 ha12 a13 ha13 a14 ha14 a15 ha15 a16 ha16 a17 ha17 h2 v = loopsP i a2 ha2 a3 ha3 a4 ha4 a5 ha5 a6 ha6 a7 ha7 a8 ha8 a9 ha9 a10 ha10 a11 ha11 a12 ha12 a13 ha13 a14 ha14 a15 ha15 a16 ha16 a17 ha17 h2 v := by
  rw [k0_part7_eq_skeleton]; rfl

/-- The first visit of a row tile. -/
noncomputable def firstP (h2 : k0_cond2 i = 1#1) : P (F := F) PUnit :=
  k0_part6 i a2 ha2 a3 ha3 a4 ha4 a5 ha5 a6 ha6 a7 ha7 a8 ha8 a9 ha9 a10 ha10 a11 ha11 a12 ha12 a13 ha13 a14 ha14 a15 ha15 a16 ha16 a17 ha17 (tile i) >>= fun v => k0_part7 i a2 ha2 a3 ha3 a4 ha4 a5 ha5 a6 ha6 a7 ha7 a8 ha8 a9 ha9 a10 ha10 a11 ha11 a12 ha12 a13 ha13 a14 ha14 a15 ha15 a16 ha16 a17 ha17 h2 v >>= fun a => k0_part8 i a2 ha2 a3 ha3 a4 ha4 a5 ha5 a6 ha6 a7 ha7 a8 ha8 a9 ha9 a10 ha10 a11 ha11 a12 ha12 a13 ha13 a14 ha14 a15 ha15 a16 ha16 a17 ha17 a.1 a.2.1 a.2.2 >>= fun v => lastP a15 v >>= fun _ =>
  Scf.Loop.for k0_t4_loop (k0_t4_ok i h2) ⟨⟩ (k0_t4_body i a2 ha2 a3 ha3 a4 ha4 a5 ha5 a6 ha6 a7 ha7 a8 ha8 a9 ha9 a10 ha10 a11 ha11 a12 ha12 a13 ha13 a14 ha14 a15 ha15 a16 ha16 a17 ha17 h2)

/-- A point. -/
noncomputable def body : P (F := F) PUnit :=
  (if k0_cond1 i = 1#1 then initP a9 a12 a13 a14 a16 else pure ⟨⟩) >>= fun _ =>
  (if h2 : k0_cond2 i = 1#1 then firstP i a2 ha2 a3 ha3 a4 ha4 a5 ha5 a6 ha6 a7 ha7 a8 ha8 a9 ha9 a10 ha10 a11 ha11 a12 ha12 a13 ha13 a14 ha14 a15 ha15 a16 ha16 a17 ha17 h2 else pure ⟨⟩) >>= fun _ => outP i a11 ha11 a17 >>= fun _ => pure ⟨⟩

/-- The printed kernel function is this program. -/
theorem cc0_eq : cc0_mix_a_bwd (F := F) i a2 ha2 a3 ha3 a4 ha4 a5 ha5 a6 ha6 a7 ha7 a8 ha8 a9 ha9 a10 ha10 a11 ha11 a12 ha12 a13 ha13 a14 ha14 a15 ha15 a16 ha16 a17 ha17 = body i a2 ha2 a3 ha3 a4 ha4 a5 ha5 a6 ha6 a7 ha7 a8 ha8 a9 ha9 a10 ha10 a11 ha11 a12 ha12 a13 ha13 a14 ha14 a15 ha15 a16 ha16 a17 ha17 := by
  rw [cc0_mix_a_bwd_eq_skeleton]
  unfold cc0_mix_a_bwd_skel body firstP initP outP lastP tile
  by_cases h1 : k0_cond1 i = 1#1 <;> by_cases h2 : k0_cond2 i = 1#1
  · rw [dif_pos h1, dif_pos h2, if_pos h1, dif_pos h2]
    simp only [bind_assoc, pure_bind]
  · rw [dif_pos h1, dif_neg h2, if_pos h1, dif_neg h2]
    simp only [bind_assoc, pure_bind]
  · rw [dif_neg h1, dif_pos h2, if_neg h1, dif_pos h2]
    simp only [bind_assoc, pure_bind]
  · rw [dif_neg h1, dif_neg h2, if_neg h1, dif_neg h2]
    simp only [bind_assoc, pure_bind]

end Program

/-! ## The parts -/

theorem readAt_rows {κ : Kind} {sp : Space} (v : View sig κ sp S32x1024 .bf16) (f : v.ty.Contents (Elt F)) (inb) :
    v.readAt (Elt F) (Rect.unit (s := S32x1024) ![0, 0] ![32, 1024] inb).toLoadRect f = v.read (Elt F) f := View.readAt_full v f inb

section Parts

variable (t : Dev nD) (i : grid0.Coords)
  (a2 : Memref sig .tc .hbm S4096x10240 .bf16) (ha2 : a2.IsWhole)
  (a3 : Memref sig .tc .vmem S1x512x1024 .bf16) (ha3 : a3.IsWhole)
  (a4 : Memref sig .tc .vmem S512x1024 .bf16) (ha4 : a4.IsWhole)
  (a5 : Memref sig .tc .vmem S512x1024 .bf16) (ha5 : a5.IsWhole)
  (a6 : Memref sig .tc .vmem S512x1024 .bf16) (ha6 : a6.IsWhole)
  (a7 : Memref sig .tc .vmem S32x1024 .bf16) (ha7 : a7.IsWhole)
  (a8 : Memref sig .tc .vmem S32x1024 .bf16) (ha8 : a8.IsWhole)
  (a9 : Memref sig .tc .vmem S3x1024 .f32) (ha9 : a9.IsWhole)
  (a10 : Memref sig .tc .hbm S8x128 .f32) (ha10 : a10.IsWhole)
  (a11 : Memref sig .tc .vmem S512x1024 .bf16) (ha11 : a11.IsWhole)
  (a12 : Memref sig .tc .vmem S3x1024 .f32) (ha12 : a12.IsWhole)
  (a13 : Memref sig .tc .vmem S552x1024 .f32) (ha13 : a13.IsWhole)
  (a14 : Memref sig .tc .vmem S552x1024 .f32) (ha14 : a14.IsWhole)
  (a15 : Memref sig .tc .vmem S3x544x1024 .f32) (ha15 : a15.IsWhole)
  (a16 : Memref sig .tc .vmem S24x1024 .f32) (ha16 : a16.IsWhole)
  (a17 : Memref sig .tc .vmem S3x512x1024 .bf16) (ha17 : a17.IsWhole)

/-- The first point's fills. -/
theorem init_triple (w : Vec F S3x1024 .f32) (dw : Vec F S3x1024 .f32) (d p : Vec F S552x1024 .f32) (wb : Vec F S24x1024 .f32) (E : Set ℕ) (K : PUnit → sProp 𝕄) :
    iprop(owns t a9 fullShare w ∗ owns t a12 fullShare dw ∗ owns t a14 fullShare d ∗ owns t a13 fullShare p ∗ owns t a16 fullShare wb ∗ ((owns t a9 fullShare w ∗ owns t a12 fullShare (k0_pay1 (F := F)) ∗ owns t a14 fullShare (k0_pay2 (F := F)) ∗ owns t a13 fullShare (tail p) ∗ owns t a16 fullShare (spread w wb)) -∗ K ⟨⟩))
      ⊢ wp frame (wpE (defs₀ (F := F)) Variants.none t none) E (initP a9 a12 a13 a14 a16) K := by
  unfold owns
  iintro ⟨⟨%f9, %h9, H9⟩, ⟨%f12, %h12, H12⟩, ⟨%f14, %h14, H14⟩, ⟨%f13, %h13, H13⟩, ⟨%f16, %h16, H16⟩, Hk⟩
  subst h9; subst h12; subst h14; subst h13; subst h16
  unfold initP
  sl_exec
  sl_step
  iapply Hk
  isplitl [H9]
  · iexists _; isplitr; rotate_left
    · iexact H9
    · ipureintro; exact rfl
  isplitl [H12]
  · iexists _; isplitr; rotate_left
    · iexact H12
    · ipureintro; exact View.read_writes_full _ _ _ _ _
  isplitl [H14]
  · iexists _; isplitr; rotate_left
    · iexact H14
    · ipureintro; exact View.read_writes_full _ _ _ _ _
  isplitl [H13]
  · iexists _; isplitr; rotate_left
    · iexact H13
    · ipureintro; exact View.read_writes_cons_put _ _ _ _ _ rfl
  iexists _; isplitr; rotate_left
  · iexact H16
  · ipureintro; exact (View.read_writes_cons_put _ _ _ _ _ rfl).trans (congrArg (fun d => VecWindow.put d _ _ _) ((View.read_writes_cons_put _ _ _ _ _ rfl).trans (congrArg (fun d => VecWindow.put d _ _ _) (View.read_writes_cons_put _ _ _ _ _ rfl))))

/-- The rows before a tile. -/
theorem part6_triple (hh hc : Vec F S32x1024 .bf16) (p d : Vec F S552x1024 .f32) (E : Set ℕ) (K : FVec F S32x1024 .f32 → sProp 𝕄) :
    iprop(owns t a7 fullShare hh ∗ owns t a8 fullShare hc ∗ owns t a13 fullShare p ∗ owns t a14 fullShare d ∗ (∀ r, (⌜r = (carry i d)⌝ ∗ owns t a7 fullShare hh ∗ owns t a8 fullShare hc ∗ owns t a13 fullShare (VecWindow.put p ![0, 0] S32x1024.size (k0_pay22 (tile i) hh hc)) ∗ owns t a14 fullShare d) -∗ K r))
      ⊢ wp frame (wpE (defs₀ (F := F)) Variants.none t none) E (k0_part6 i a2 ha2 a3 ha3 a4 ha4 a5 ha5 a6 ha6 a7 ha7 a8 ha8 a9 ha9 a10 ha10 a11 ha11 a12 ha12 a13 ha13 a14 ha14 a15 ha15 a16 ha16 a17 ha17 (tile i)) K := by
  unfold owns
  iintro ⟨⟨%f7, %h7, H7⟩, ⟨%f8, %h8, H8⟩, ⟨%f13, %h13, H13⟩, ⟨%f14, %h14, H14⟩, Hk⟩
  subst h7; subst h8; subst h13; subst h14
  rw [k0_part6_eq_skeleton]; unfold k0_part6_skel
  sl_exec
  sl_step
  simp only [readAt_rows]
  iapply Hk
  isplitr; · ipureintro; exact rfl
  isplitl [H7]
  · iexists _; isplitr; rotate_left
    · iexact H7
    · ipureintro; exact rfl
  isplitl [H8]
  · iexists _; isplitr; rotate_left
    · iexact H8
    · ipureintro; exact rfl
  isplitl [H13]
  · iexists _; isplitr; rotate_left
    · iexact H13
    · ipureintro; exact View.read_writes_cons_put _ _ _ _ _ rfl
  iexists _; isplitr; rotate_left
  · iexact H14
  · ipureintro; exact rfl

/-- The rows after it. -/
theorem ct_triple (v : FVec F S32x1024 .f32) (d : Vec F S552x1024 .f32) (E : Set ℕ) (K : PUnit → sProp 𝕄) :
    iprop(owns t a14 fullShare d ∗ ((owns t a14 fullShare (VecWindow.put d ![512, 0] S32x1024.size (k0_pay24 v))) -∗ K ⟨⟩))
      ⊢ wp frame (wpE (defs₀ (F := F)) Variants.none t none) E (ctP a14 v) K := by
  unfold owns
  iintro ⟨⟨%f14, %h14, H14⟩, Hk⟩
  subst h14
  unfold ctP
  sl_exec
  sl_step
  iapply Hk
  iexists _; isplitr; rotate_left
  · iexact H14
  · ipureintro; exact View.read_writes_cons_put _ _ _ _ _ rfl

/-- The shifted copies. -/
theorem copy_triple (p : Vec F S552x1024 .f32) (sh : Vec F S3x544x1024 .f32) (E : Set ℕ) (K : PUnit → sProp 𝕄) :
    iprop(owns t a13 fullShare p ∗ owns t a15 fullShare sh ∗ ((owns t a13 fullShare p ∗ owns t a15 fullShare (copyP p sh)) -∗ K ⟨⟩))
      ⊢ wp frame (wpE (defs₀ (F := F)) Variants.none t none) E (copyPP a13 a15) K := by
  unfold owns
  iintro ⟨⟨%f13, %h13, H13⟩, ⟨%f15, %h15, H15⟩, Hk⟩
  subst h13; subst h15
  unfold copyPP
  sl_exec
  sl_step
  iapply Hk
  isplitl [H13]
  · iexists _; isplitr; rotate_left
    · iexact H13
    · ipureintro; exact rfl
  iexists _; isplitr; rotate_left
  · iexact H15
  · ipureintro; exact (View.read_writes_cons_put _ _ _ _ _ rfl).trans (congrArg (fun d => VecWindow.put d _ _ _) ((View.read_writes_cons_put _ _ _ _ _ rfl).trans (congrArg (fun d => VecWindow.put d _ _ _) (View.read_writes_cons_put _ _ _ _ _ rfl))))

/-- A trip of the sums. -/
theorem trip3 (h2 : k0_cond2 i = 1#1) (v : FVec F S32x1024 .f32) (k : Fin k0_t3_loop.trips) (a : Acc F) (d : Vec F S552x1024 .f32) (sh : Vec F S3x544x1024 .f32) (E : Set ℕ) (K : Acc F → sProp 𝕄) :
    iprop(owns t a14 fullShare d ∗ owns t a15 fullShare sh ∗ (∀ r, (⌜r = (wgT i h2 d sh k a)⌝ ∗ owns t a14 fullShare d ∗ owns t a15 fullShare sh) -∗ K r))
      ⊢ wp frame (wpE (defs₀ (F := F)) Variants.none t none) E (k0_t3_body i a2 ha2 a3 ha3 a4 ha4 a5 ha5 a6 ha6 a7 ha7 a8 ha8 a9 ha9 a10 ha10 a11 ha11 a12 ha12 a13 ha13 a14 ha14 a15 ha15 a16 ha16 a17 ha17 h2 v k a) K := by
  obtain ⟨a0, a1, a2⟩ := a
  unfold owns
  iintro ⟨⟨%f14, %h14, H14⟩, ⟨%f15, %h15, H15⟩, Hk⟩
  subst h14; subst h15
  unfold k0_t3_body
  sl_exec
  sl_step
  iapply Hk
  isplitr; · ipureintro; exact rfl
  isplitl [H14]
  · iexists _; isplitr; rotate_left
    · iexact H14
    · ipureintro; exact rfl
  iexists _; isplitr; rotate_left
  · iexact H15
  · ipureintro; exact rfl

/-- The loop of the sums. -/
theorem loop3 (h2 : k0_cond2 i = 1#1) (v : FVec F S32x1024 .f32) (d : Vec F S552x1024 .f32) (sh : Vec F S3x544x1024 .f32) (E : Set ℕ) (K : Acc F → sProp 𝕄) :
    iprop(owns t a14 fullShare d ∗ owns t a15 fullShare sh ∗ (∀ r, (⌜r = (accS i h2 d sh)⌝ ∗ owns t a14 fullShare d ∗ owns t a15 fullShare sh) -∗ K r))
      ⊢ wp frame (wpE (defs₀ (F := F)) Variants.none t none) E (Scf.Loop.for k0_t3_loop (k0_t3_ok i h2) (k0_pay33 (F := F), k0_pay34 (F := F), k0_pay35 (F := F)) (k0_t3_body i a2 ha2 a3 ha3 a4 ha4 a5 ha5 a6 ha6 a7 ha7 a8 ha8 a9 ha9 a10 ha10 a11 ha11 a12 ha12 a13 ha13 a14 ha14 a15 ha15 a16 ha16 a17 ha17 h2 v)) K := by
  refine BIBase.Entails.trans ?_ (Scf.wp_for frame (wpE (defs₀ (F := F)) Variants.none t none) E _ _ _ _ _ _ (fun k a => iprop(⌜a = iter (wgT i h2 d sh) (k0_pay33 (F := F), k0_pay34 (F := F), k0_pay35 (F := F)) k⌝ ∗ owns t a14 fullShare d ∗ owns t a15 fullShare sh)) ?_)
  · iintro ⟨H14, H15, Hk⟩
    isplitl [H14 H15]
    · isplitr; · ipureintro; rfl
      isplitl [H14]; · iexact H14
      iexact H15
    iintro %a ⟨%ha, H14, H15⟩
    iapply Hk
    isplitr; · ipureintro; exact ha
    isplitl [H14]; · iexact H14
    iexact H15
  · intro k a
    iintro ⟨%ha, H14, H15⟩
    subst ha
    iapply (trip3 t i a2 ha2 a3 ha3 a4 ha4 a5 ha5 a6 ha6 a7 ha7 a8 ha8 a9 ha9 a10 ha10 a11 ha11 a12 ha12 a13 ha13 a14 ha14 a15 ha15 a16 ha16 a17 ha17 h2 v k _ _ _ E _)
    isplitl [H14]; · iexact H14
    isplitl [H15]; · iexact H15
    iintro %r ⟨%hr, H14, H15⟩
    isplitr; · ipureintro; rw [hr]; exact (iter_succ _ _ k).symm
    isplitl [H14]; · iexact H14
    iexact H15

/-- The taps' gradients, and the cotangent's copies. -/
theorem part8_triple (a : Acc F) (dw : Vec F S3x1024 .f32) (d : Vec F S552x1024 .f32) (sh : Vec F S3x544x1024 .f32) (E : Set ℕ) (K : Vec F S544x1024 .f32 → sProp 𝕄) :
    iprop(owns t a12 fullShare dw ∗ owns t a14 fullShare d ∗ owns t a15 fullShare sh ∗ (∀ r, (⌜r = (View.ld (Val := Elt F) d (Rect.unit (s := S552x1024) ![2, 0] S544x1024.size inb_S552x1024_S544x1024_2_0))⌝ ∗ owns t a12 fullShare (addDw a dw) ∗ owns t a14 fullShare d ∗ owns t a15 fullShare (VecWindow.put (VecWindow.put (sh) ![0, 0, 0] S1x544x1024.size (k0_pay41 (View.ld (Val := Elt F) d (Rect.unit (s := S552x1024) ![0, 0] S544x1024.size inb_S552x1024_S544x1024_0_0)))) ![1, 0, 0] S1x544x1024.size (k0_pay42 (View.ld (Val := Elt F) d (Rect.unit (s := S552x1024) ![1, 0] S544x1024.size inb_S552x1024_S544x1024_1_0))))) -∗ K r))
      ⊢ wp frame (wpE (defs₀ (F := F)) Variants.none t none) E (k0_part8 i a2 ha2 a3 ha3 a4 ha4 a5 ha5 a6 ha6 a7 ha7 a8 ha8 a9 ha9 a10 ha10 a11 ha11 a12 ha12 a13 ha13 a14 ha14 a15 ha15 a16 ha16 a17 ha17 a.1 a.2.1 a.2.2) K := by
  unfold owns
  iintro ⟨⟨%f12, %h12, H12⟩, ⟨%f14, %h14, H14⟩, ⟨%f15, %h15, H15⟩, Hk⟩
  subst h12; subst h14; subst h15
  rw [k0_part8_eq_skeleton]; unfold k0_part8_skel
  sl_exec
  sl_step
  iapply Hk
  isplitr; · ipureintro; exact rfl
  isplitl [H12]
  · iexists _; isplitr; rotate_left
    · iexact H12
    · ipureintro; exact (View.read_writes_cons_put _ _ _ _ _ rfl).trans (congrArg (fun d => VecWindow.put d _ _ _) ((View.read_writes_cons_put _ _ _ _ _ rfl).trans (congrArg (fun d => VecWindow.put d _ _ _) (View.read_writes_cons_put _ _ _ _ _ rfl))))
  isplitl [H14]
  · iexists _; isplitr; rotate_left
    · iexact H14
    · ipureintro; exact rfl
  iexists _; isplitr; rotate_left
  · iexact H15
  · ipureintro; exact (View.read_writes_cons_put _ _ _ _ _ rfl).trans (congrArg (fun d => VecWindow.put d _ _ _) (View.read_writes_cons_put _ _ _ _ _ rfl))

/-- The last of them. -/
theorem last_triple (v : Vec F S544x1024 .f32) (sh : Vec F S3x544x1024 .f32) (E : Set ℕ) (K : PUnit → sProp 𝕄) :
    iprop(owns t a15 fullShare sh ∗ ((owns t a15 fullShare (VecWindow.put sh ![2, 0, 0] S1x544x1024.size (k0_pay7 v))) -∗ K ⟨⟩))
      ⊢ wp frame (wpE (defs₀ (F := F)) Variants.none t none) E (lastP a15 v) K := by
  unfold owns
  iintro ⟨⟨%f15, %h15, H15⟩, Hk⟩
  subst h15
  unfold lastP
  sl_exec
  sl_step
  iapply Hk
  iexists _; isplitr; rotate_left
  · iexact H15
  · ipureintro; exact View.read_writes_cons_put _ _ _ _ _ rfl

/-- The block written. -/
theorem out_triple (dz : Vec F S512x1024 .bf16) (sg : Vec F S3x512x1024 .bf16) (E : Set ℕ) (K : PUnit → sProp 𝕄) :
    iprop(owns t a11 fullShare dz ∗ owns t a17 fullShare sg ∗ ((owns t a11 fullShare (slab i sg) ∗ owns t a17 fullShare sg) -∗ K ⟨⟩))
      ⊢ wp frame (wpE (defs₀ (F := F)) Variants.none t none) E (outP i a11 ha11 a17) K := by
  unfold owns
  iintro ⟨⟨%f11, %h11, H11⟩, ⟨%f17, %h17, H17⟩, Hk⟩
  subst h11; subst h17
  unfold outP
  sl_exec
  sl_step
  iapply Hk
  isplitl [H11]
  · iexists _; isplitr; rotate_left
    · iexact H11
    · ipureintro; exact View.read_writes_full _ _ _ _ _
  iexists _; isplitr; rotate_left
  · iexact H17
  · ipureintro; exact rfl

end Parts

end Cert.MixAIdeal.Body

end
-- ==== Proof.MixAPoint.lean ====
/- The kernel function of the short convolution's gradient at each kind of point; what it leaves does not depend on what the
scratch held before. -/
module

public import proofs.«01_k».proof.Proof.MixAWork
public import Idealize.ShloMosaic.Lib.Pipeline.ValueKit

@[expose] public section

set_option maxRecDepth 65536

noncomputable section

namespace Cert.MixAIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixAIdeal.Gen

variable {F : FTy → Type} [FloatOps F]

local notation "𝕄" => MT nD τ sig Unit (Elt F) ℕ (UR sig nD τ) ℕ

/-! ## Nothing old is left -/

variable {α : Type} {S : Shape}

theorem put_in {x x' : S.Idx → α} {off size : Fin S.rank → ℕ} {w : ((a : Fin S.rank) → Fin (size a)) → α} {y : S.Idx}
    (h : ∀ a, off a ≤ (y a).val ∧ (y a).val < off a + size a) : VecWindow.put x off size w y = VecWindow.put x' off size w y := by
  unfold VecWindow.put; rw [dif_pos h, dif_pos h]

theorem put_out {x : S.Idx → α} {off size : Fin S.rank → ℕ} {w : ((a : Fin S.rank) → Fin (size a)) → α} {y : S.Idx}
    (a : Fin S.rank) (h : (y a).val < off a ∨ off a + size a ≤ (y a).val) : VecWindow.put x off size w y = x y := by
  unfold VecWindow.put; rw [dif_neg (fun hall => by have := hall a; omega)]

theorem put_at {x x' : S.Idx → α} {off size : Fin S.rank → ℕ} {w : ((a : Fin S.rank) → Fin (size a)) → α} {y : S.Idx}
    (h : x y = x' y) : VecWindow.put x off size w y = VecWindow.put x' off size w y := by
  unfold VecWindow.put; by_cases hy : ∀ a, off a ≤ (y a).val ∧ (y a).val < off a + size a
  · rw [dif_pos hy, dif_pos hy]
  · rw [dif_neg hy, dif_neg hy, h]

/-- Loops whose trips act alike at an index stay alike there; -/
theorem iter_at {n : ℕ} {f : Fin n → (S.Idx → α) → S.Idx → α} {y : S.Idx} (hf : ∀ k a b, a y = b y → f k a y = f k b y)
    {a b : S.Idx → α} (h : a y = b y) (k : ℕ) : iter f a k y = iter f b k y := by
  induction k with
  | zero => exact h
  | succ k ih =>
    unfold iter
    by_cases hk : k < n
    · rw [dif_pos hk, dif_pos hk]; exact hf _ _ _ ih
    · rw [dif_neg hk, dif_neg hk]; exact ih

/-- become alike where a trip writes; -/
theorem iter_in {n : ℕ} {f : Fin n → (S.Idx → α) → S.Idx → α} {y : S.Idx} (hf : ∀ k a b, a y = b y → f k a y = f k b y)
    (j : Fin n) (hj : ∀ a b, f j a y = f j b y) (a b : S.Idx → α) (k : ℕ) (hk : j.val < k) : iter f a k y = iter f b k y := by
  induction k with
  | zero => omega
  | succ k ih =>
    by_cases h : j.val < k
    · unfold iter
      by_cases hk : k < n
      · rw [dif_pos hk, dif_pos hk]; exact hf _ _ _ (ih h)
      · rw [dif_neg hk, dif_neg hk]; exact ih h
    · obtain rfl : k = j.val := by omega
      rw [iter_succ, iter_succ]; exact hj _ _

/-- and keep what no trip writes. -/
theorem iter_out {n : ℕ} {f : Fin n → (S.Idx → α) → S.Idx → α} {y : S.Idx} (hf : ∀ k a, f k a y = a y) (a : S.Idx → α) (k : ℕ) :
    iter f a k y = a y := by
  induction k with
  | zero => rfl
  | succ k ih =>
    unfold iter
    by_cases hk : k < n
    · rw [dif_pos hk, hf, ih]
    · rw [dif_neg hk, ih]

/-! ## Where the trips write -/

theorem trips1 : k0_t1_loop.trips = 16 := by decide +kernel
theorem trips2 : k0_t2_loop.trips = 16 := by decide +kernel
theorem trips3 : k0_t3_loop.trips = 32 := by decide +kernel
theorem trips4 : k0_t4_loop.trips = 16 := by decide +kernel

theorem off1_eq : ∀ (k : Fin k0_t1_loop.trips) (u : Fin 2), k0_off1 k (BitVec.ofNat 32 u.val) = ![32 * k.val + 16 * u.val, 0] := by decide +kernel
theorem off2_eq : ∀ (k : Fin k0_t1_loop.trips) (u : Fin 2), k0_off2 k (BitVec.ofNat 32 u.val) = ![32 + (32 * k.val + 16 * u.val), 0] := by decide +kernel
theorem off3_eq : ∀ (k : Fin k0_t2_loop.trips) (u : Fin 2), k0_off3 k (BitVec.ofNat 32 u.val) = ![1, 24 + (32 * k.val + 16 * u.val), 0] := by decide +kernel
theorem off4_eq : ∀ (k : Fin k0_t2_loop.trips) (u : Fin 2), k0_off4 k (BitVec.ofNat 32 u.val) = ![2, 24 + (32 * k.val + 16 * u.val), 0] := by decide +kernel
theorem off5_eq : ∀ (k : Fin k0_t2_loop.trips) (u : Fin 2), k0_off5 k (BitVec.ofNat 32 u.val) = ![0, 32 + (32 * k.val + 16 * u.val), 0] := by decide +kernel
theorem off6_eq : ∀ (k : Fin k0_t2_loop.trips) (u : Fin 2), k0_off6 k (BitVec.ofNat 32 u.val) = ![0, 32 * k.val + 16 * u.val, 0] := by decide +kernel
theorem off7_eq : ∀ (k : Fin k0_t2_loop.trips) (u : Fin 2), k0_off7 k (BitVec.ofNat 32 u.val) = ![1, 32 * k.val + 16 * u.val, 0] := by decide +kernel
theorem off8_eq : ∀ (k : Fin k0_t2_loop.trips) (u : Fin 2), k0_off8 k (BitVec.ofNat 32 u.val) = ![32 * k.val + 16 * u.val, 0] := by decide +kernel
theorem off9_eq : ∀ (k : Fin k0_t2_loop.trips) (u : Fin 2), k0_off9 k (BitVec.ofNat 32 u.val) = ![32 * k.val + 16 * u.val, 0] := by decide +kernel
theorem off10_eq : ∀ (k : Fin k0_t3_loop.trips) (u : Fin 2), k0_off10 k (BitVec.ofNat 32 u.val) = ![16 * k.val + 8 * u.val, 0] := by decide +kernel
theorem off11_eq : ∀ (k : Fin k0_t3_loop.trips) (u : Fin 2), k0_off11 k (BitVec.ofNat 32 u.val) = ![1, 24 + (16 * k.val + 8 * u.val), 0] := by decide +kernel
theorem off12_eq : ∀ (k : Fin k0_t3_loop.trips) (u : Fin 2), k0_off12 k (BitVec.ofNat 32 u.val) = ![2, 24 + (16 * k.val + 8 * u.val), 0] := by decide +kernel
theorem off13_eq : ∀ (k : Fin k0_t3_loop.trips) (u : Fin 2), k0_off13 k (BitVec.ofNat 32 u.val) = ![0, 32 + (16 * k.val + 8 * u.val), 0] := by decide +kernel
theorem off14_eq : ∀ (k : Fin k0_t4_loop.trips) (u : Fin 2), k0_off14 k (BitVec.ofNat 32 u.val) = ![2, 32 * k.val + 16 * u.val, 0] := by decide +kernel
theorem off15_eq : ∀ (k : Fin k0_t4_loop.trips) (u : Fin 2), k0_off15 k (BitVec.ofNat 32 u.val) = ![1, 32 * k.val + 16 * u.val, 0] := by decide +kernel
theorem off16_eq : ∀ (k : Fin k0_t4_loop.trips) (u : Fin 2), k0_off16 k (BitVec.ofNat 32 u.val) = ![0, 32 * k.val + 16 * u.val, 0] := by decide +kernel
theorem off17_eq : ∀ (k : Fin k0_t4_loop.trips) (u : Fin 2), k0_off17 k (BitVec.ofNat 32 u.val) = ![32 * k.val + 16 * u.val, 0] := by decide +kernel
theorem off18_eq : ∀ (k : Fin k0_t4_loop.trips) (u : Fin 2), k0_off18 k (BitVec.ofNat 32 u.val) = ![0, 32 * k.val + 16 * u.val, 0] := by decide +kernel
theorem off19_eq : ∀ (k : Fin k0_t4_loop.trips) (u : Fin 2), k0_off19 k (BitVec.ofNat 32 u.val) = ![2, 32 * k.val + 16 * u.val, 0] := by decide +kernel

/-- A chunk of rows of a window, -/
theorem rows_in {off size : Fin 2 → ℕ} (o n : ℕ) (ho : off = ![o, 0]) (hs : size = ![n, 1024]) (y : S552x1024.Idx)
    (h : o ≤ (y 0).val ∧ (y 0).val < o + n) : ∀ a, off a ≤ (y a).val ∧ (y a).val < off a + size a := by
  subst ho hs
  intro a
  match a with
  | 0 => exact h
  | 1 => exact ⟨Nat.zero_le _, lt_of_lt_of_eq (y 1).isLt (Nat.zero_add 1024).symm⟩

/-- of a slab of the stage, -/
theorem slab_in {off size : Fin 3 → ℕ} (s o n : ℕ) (ho : off = ![s, o, 0]) (hs : size = ![1, n, 1024]) (y : S3x512x1024.Idx)
    (h0 : (y 0).val = s) (h : o ≤ (y 1).val ∧ (y 1).val < o + n) : ∀ a, off a ≤ (y a).val ∧ (y a).val < off a + size a := by
  subst ho hs
  intro a
  match a with
  | 0 => exact ⟨le_of_eq h0.symm, lt_of_eq_of_lt h0 (Nat.lt_succ_self s)⟩
  | 1 => exact h
  | 2 => exact ⟨Nat.zero_le _, lt_of_lt_of_eq (y 2).isLt (Nat.zero_add 1024).symm⟩

/-- and a whole copy. -/
theorem copy_in {off size : Fin 3 → ℕ} (s : ℕ) (ho : off = ![s, 0, 0]) (hs : size = ![1, 544, 1024]) (y : S3x544x1024.Idx)
    (h0 : (y 0).val = s) : ∀ a, off a ≤ (y a).val ∧ (y a).val < off a + size a := by
  subst ho hs
  intro a
  match a with
  | 0 => exact ⟨le_of_eq h0.symm, lt_of_eq_of_lt h0 (Nat.lt_succ_self s)⟩
  | 1 => exact ⟨Nat.zero_le _, lt_of_lt_of_eq (y 1).isLt (Nat.zero_add 544).symm⟩
  | 2 => exact ⟨Nat.zero_le _, lt_of_lt_of_eq (y 2).isLt (Nat.zero_add 1024).symm⟩

theorem taps_in {off size : Fin 2 → ℕ} (o : ℕ) (ho : off = ![o, 0]) (hs : size = ![8, 1024]) (y : S24x1024.Idx)
    (h : o ≤ (y 0).val ∧ (y 0).val < o + 8) : ∀ a, off a ≤ (y a).val ∧ (y a).val < off a + size a := by
  subst ho hs
  intro a
  match a with
  | 0 => exact h
  | 1 => exact ⟨Nat.zero_le _, lt_of_lt_of_eq (y 1).isLt (Nat.zero_add 1024).symm⟩

theorem three (n : ℕ) (h : n < 3) : n = 0 ∨ n = 1 ∨ n = 2 := by omega

/-- The copies are written whole; -/
theorem copyP_any (p : Vec F S552x1024 .f32) (sh sh' : Vec F S3x544x1024 .f32) : copyP p sh = copyP p sh' := by
  funext y
  unfold copyP
  rcases three (y 0).val (y 0).isLt with h | h | h
  · exact put_at (put_at (put_in (copy_in 0 rfl rfl y h)))
  · exact put_at (put_in (copy_in 1 rfl rfl y h))
  · exact put_in (copy_in 2 rfl rfl y h)

theorem copyD_any (d : Vec F S552x1024 .f32) (sh sh' : Vec F S3x544x1024 .f32) : copyD d sh = copyD d sh' := by
  funext y
  unfold copyD
  rcases three (y 0).val (y 0).isLt with h | h | h
  · exact put_at (put_at (put_in (copy_in 0 rfl rfl y h)))
  · exact put_at (put_in (copy_in 1 rfl rfl y h))
  · exact put_in (copy_in 2 rfl rfl y h)

/-- so are the taps; -/
theorem spread_any (w : Vec F S3x1024 .f32) (wb wb' : Vec F S24x1024 .f32) : spread w wb = spread w wb' := by
  funext y
  have hy : (y 0).val < 24 := (y 0).isLt
  unfold spread
  by_cases h : (y 0).val < 8
  · exact put_at (put_at (put_in (taps_in 0 rfl rfl y (by omega))))
  by_cases h : (y 0).val < 16
  · exact put_at (put_in (taps_in 8 rfl rfl y (by omega)))
  · exact put_in (taps_in 16 rfl rfl y (by omega))

section Any

variable (i : grid0.Coords) (h2 : k0_cond2 i = 1#1) (x : In F)

theorem prodT_at (ah ac : Vec F S512x1024 .bf16) (y : S552x1024.Idx) (k) (a b : Vec F S552x1024 .f32) (h : a y = b y) :
    prodT i h2 ah ac k a y = prodT i h2 ah ac k b y := put_at (put_at h)

theorem prodT_out (ah ac : Vec F S512x1024 .bf16) (y : S552x1024.Idx) (hy : 544 ≤ (y 0).val) (k) (a : Vec F S552x1024 .f32) :
    prodT i h2 ah ac k a y = a y := by
  have hk : k.val < 16 := lt_of_lt_of_eq k.isLt trips1
  refine (put_out 0 (.inr ?_)).trans (put_out 0 (.inr ?_))
  · rw [show k0_off2 k 1#32 = _ from off2_eq k 1]; show 32 + (32 * k.val + 16 * 1) + 16 ≤ _; omega
  · rw [show k0_off2 k 0#32 = _ from off2_eq k 0]; show 32 + (32 * k.val + 16 * 0) + 16 ≤ _; omega

/-- the product's window, given its zero rows; -/
theorem prodS_any (p p' : Vec F S552x1024 .f32) : prodS i h2 x (tail p) = prodS i h2 x (tail p') := by
  funext y
  have hy : (y 0).val < 552 := (y 0).isLt
  unfold prodS
  by_cases h : (y 0).val < 32
  · exact iter_at (prodT_at i h2 _ _ y) (put_in (rows_in 0 32 rfl rfl y (by omega))) _
  by_cases h' : (y 0).val < 544
  · have hj : ((y 0).val - 32) / 32 < k0_t1_loop.trips := by rw [trips1]; omega
    refine iter_in (prodT_at i h2 _ _ y) ⟨_, hj⟩ (fun a b => ?_) _ _ _ hj
    by_cases hu : ((y 0).val - 32) % 32 < 16
    · refine put_at (put_in (rows_in _ 16 (off2_eq _ 0) rfl y ?_))
      show 32 + (32 * (((y 0).val - 32) / 32) + 16 * 0) ≤ _ ∧ _ < 32 + (32 * (((y 0).val - 32) / 32) + 16 * 0) + 16
      omega
    · refine put_in (rows_in _ 16 (off2_eq _ 1) rfl y ?_)
      show 32 + (32 * (((y 0).val - 32) / 32) + 16 * 1) ≤ _ ∧ _ < 32 + (32 * (((y 0).val - 32) / 32) + 16 * 1) + 16
      omega
  · exact iter_at (prodT_at i h2 _ _ y) (put_at (put_in (rows_in 544 8 rfl rfl y (by omega)))) _

theorem tail_tail (p : Vec F S552x1024 .f32) : tail (tail p) = tail p := VecWindow.put_put_same _ _ _ _ _

theorem tail_prodS (p : Vec F S552x1024 .f32) (hp : tail p = p) : tail (prodS i h2 x p) = prodS i h2 x p := by
  funext y
  have hy : (y 0).val < 552 := (y 0).isLt
  by_cases h : (y 0).val < 544
  · exact put_out 0 (.inl h)
  · have e : prodS i h2 x p y = p y := by
      unfold prodS
      rw [iter_out (prodT_out i h2 _ _ y (by omega))]
      exact put_out 0 (.inr (by show 0 + 32 ≤ _; omega))
    rw [e]
    calc tail (prodS i h2 x p) y = tail p y := put_in (rows_in 544 8 rfl rfl y (by omega))
      _ = p y := congrFun hp y

theorem mid_at (dy : Vec F S1x512x1024 .bf16) (sh : Vec F S3x544x1024 .f32) (wb : Vec F S24x1024 .f32) (y : S3x512x1024.Idx) (k) (a b : Vec F S3x512x1024 .bf16)
    (h : a y = b y) : midStage i h2 dy sh wb k a y = midStage i h2 dy sh wb k b y := put_at (put_at h)

theorem fin_at (ah ac : Vec F S512x1024 .bf16) (sh : Vec F S3x544x1024 .f32) (wb : Vec F S24x1024 .f32) (y : S3x512x1024.Idx) (k) (a b : Vec F S3x512x1024 .bf16)
    (h : a y = b y) : finT i h2 ah ac sh wb k a y = finT i h2 ah ac sh wb k b y := put_at (put_at (put_at (put_at h)))

/-- and the stage. -/
theorem stage_any (sh sh' : Vec F S3x544x1024 .f32) (wb : Vec F S24x1024 .f32) (sg sg' : Vec F S3x512x1024 .bf16) :
    stage2 i h2 x sh' wb (stage1 i h2 x sh wb sg) = stage2 i h2 x sh' wb (stage1 i h2 x sh wb sg') := by
  funext y
  have hy : (y 1).val < 512 := (y 1).isLt
  have hj : (y 1).val / 32 < 16 := by omega
  unfold stage2
  rcases three (y 0).val (y 0).isLt with h | h | h
  · refine iter_in (fin_at i h2 _ _ _ _ y) ⟨_, lt_of_lt_of_eq hj trips4.symm⟩ (fun a b => ?_) _ _ _ (lt_of_lt_of_eq hj trips4.symm)
    by_cases hu : (y 1).val % 32 < 16
    · exact put_at (put_at (put_at (put_in (slab_in 0 _ 16 (off18_eq _ 0) rfl y h (by
        show 32 * ((y 1).val / 32) + 16 * 0 ≤ _ ∧ _ < 32 * ((y 1).val / 32) + 16 * 0 + 16; omega)))))
    · exact put_at (put_in (slab_in 0 _ 16 (off18_eq _ 1) rfl y h (by
        show 32 * ((y 1).val / 32) + 16 * 1 ≤ _ ∧ _ < 32 * ((y 1).val / 32) + 16 * 1 + 16; omega)))
  · refine iter_at (fin_at i h2 _ _ _ _ y) ?_ _
    unfold stage1
    refine iter_in (mid_at i h2 _ _ _ y) ⟨_, lt_of_lt_of_eq hj trips2.symm⟩ (fun a b => ?_) _ _ _ (lt_of_lt_of_eq hj trips2.symm)
    by_cases hu : (y 1).val % 32 < 16
    · exact put_at (put_in (slab_in 1 _ 16 (off7_eq _ 0) rfl y h (by
        show 32 * ((y 1).val / 32) + 16 * 0 ≤ _ ∧ _ < 32 * ((y 1).val / 32) + 16 * 0 + 16; omega)))
    · exact put_in (slab_in 1 _ 16 (off7_eq _ 1) rfl y h (by
        show 32 * ((y 1).val / 32) + 16 * 1 ≤ _ ∧ _ < 32 * ((y 1).val / 32) + 16 * 1 + 16; omega))
  · refine iter_in (fin_at i h2 _ _ _ _ y) ⟨_, lt_of_lt_of_eq hj trips4.symm⟩ (fun a b => ?_) _ _ _ (lt_of_lt_of_eq hj trips4.symm)
    by_cases hu : (y 1).val % 32 < 16
    · exact put_at (put_at (put_in (slab_in 2 _ 16 (off19_eq _ 0) rfl y h (by
        show 32 * ((y 1).val / 32) + 16 * 0 ≤ _ ∧ _ < 32 * ((y 1).val / 32) + 16 * 0 + 16; omega))))
    · exact put_in (slab_in 2 _ 16 (off19_eq _ 1) rfl y h (by
        show 32 * ((y 1).val / 32) + 16 * 1 ≤ _ ∧ _ < 32 * ((y 1).val / 32) + 16 * 1 + 16; omega))

/-! ## What a tile leaves -/

/-- A zero. -/
def zero : Elt F .f32 := k0_pay2 (F := F) (ix2 0 0)

/-- The product's window, -/
def pOf : Vec F S552x1024 .f32 := prodS i h2 x (tail (k0_pay2 (F := F)))
/-- its copies, -/
def shP : Vec F S3x544x1024 .f32 := copyP (pOf i h2 x) fun _ => zero
/-- the cotangent's, -/
def shD (d : Vec F S552x1024 .f32) : Vec F S3x544x1024 .f32 := copyD d fun _ => zero
/-- the taps over eight rows each, -/
def wbOf (w : Vec F S3x1024 .f32) : Vec F S24x1024 .f32 := spread w fun _ => zero
/-- the stage, -/
def stageOf (wb : Vec F S24x1024 .f32) (d : Vec F S552x1024 .f32) : Vec F S3x512x1024 .bf16 :=
  stage2 i h2 x (shD d) wb (stage1 i h2 x (shP i h2 x) wb fun _ => x.ah (ix2 0 0))
/-- and the taps' gradients so far. -/
def dwOf (d : Vec F S552x1024 .f32) (dw : Vec F S3x1024 .f32) : Vec F S3x1024 .f32 := addDw (accS i h2 d (shP i h2 x)) dw

theorem prodS_eq (p : Vec F S552x1024 .f32) (hp : tail p = p) : prodS i h2 x p = pOf i h2 x := by
  unfold pOf; conv_lhs => rw [← hp]
  exact prodS_any i h2 x _ _

theorem tail_pOf : tail (pOf i h2 x) = pOf i h2 x := tail_prodS i h2 x _ (tail_tail _)

theorem copyP_eq (sh : Vec F S3x544x1024 .f32) : copyP (pOf i h2 x) sh = shP i h2 x := copyP_any _ _ _
theorem copyD_eq (d : Vec F S552x1024 .f32) (sh : Vec F S3x544x1024 .f32) : copyD d sh = shD d := copyD_any _ _ _
theorem spread_eq (w : Vec F S3x1024 .f32) (wb : Vec F S24x1024 .f32) : spread w wb = wbOf w := spread_any _ _ _
theorem stage_eq (wb : Vec F S24x1024 .f32) (d : Vec F S552x1024 .f32) (sg : Vec F S3x512x1024 .bf16) :
    stage2 i h2 x (shD d) wb (stage1 i h2 x (shP i h2 x) wb sg) = stageOf i h2 x wb d := stage_any i h2 x _ _ _ _ _

end Any

/-! ## The points -/

section Points

variable (t : Dev nD) (i : grid0.Coords)
  (a2 : Memref sig .tc .hbm S4096x10240 .bf16) (ha2 : a2.IsWhole)
  (a3 : Memref sig .tc .vmem S1x512x1024 .bf16) (ha3 : a3.IsWhole)
  (a4 : Memref sig .tc .vmem S512x1024 .bf16) (ha4 : a4.IsWhole)
  (a5 : Memref sig .tc .vmem S512x1024 .bf16) (ha5 : a5.IsWhole)
  (a6 : Memref sig .tc .vmem S512x1024 .bf16) (ha6 : a6.IsWhole)
  (a7 : Memref sig .tc .vmem S32x1024 .bf16) (ha7 : a7.IsWhole)
  (a8 : Memref sig .tc .vmem S32x1024 .bf16) (ha8 : a8.IsWhole)
  (a9 : Memref sig .tc .vmem S3x1024 .f32) (ha9 : a9.IsWhole)
  (a10 : Memref sig .tc .hbm S8x128 .f32) (ha10 : a10.IsWhole)
  (a11 : Memref sig .tc .vmem S512x1024 .bf16) (ha11 : a11.IsWhole)
  (a12 : Memref sig .tc .vmem S3x1024 .f32) (ha12 : a12.IsWhole)
  (a13 : Memref sig .tc .vmem S552x1024 .f32) (ha13 : a13.IsWhole)
  (a14 : Memref sig .tc .vmem S552x1024 .f32) (ha14 : a14.IsWhole)
  (a15 : Memref sig .tc .vmem S3x544x1024 .f32) (ha15 : a15.IsWhole)
  (a16 : Memref sig .tc .vmem S24x1024 .f32) (ha16 : a16.IsWhole)
  (a17 : Memref sig .tc .vmem S3x512x1024 .bf16) (ha17 : a17.IsWhole)

/-- The blocks read. -/
def ins (x : In F) : sProp 𝕄 :=
  iprop(owns t a3 fullShare x.dy ∗ owns t a4 fullShare x.ah ∗ owns t a5 fullShare x.ab ∗ owns t a6 fullShare x.ac ∗ owns t a7 fullShare x.hh ∗ owns t a8 fullShare x.hc ∗ owns t a9 fullShare x.w)

/-- The first visit of a row tile. -/
theorem first_triple (h2 : k0_cond2 i = 1#1) (x : In F) (dw : Vec F S3x1024 .f32) (d p : Vec F S552x1024 .f32) (hp : tail p = p) (sh : Vec F S3x544x1024 .f32) (wb : Vec F S24x1024 .f32) (sg : Vec F S3x512x1024 .bf16) (E : Set ℕ) (K : PUnit → sProp 𝕄) :
    iprop(ins t a3 a4 a5 a6 a7 a8 a9 x ∗ owns t a12 fullShare dw ∗ owns t a14 fullShare d ∗ owns t a13 fullShare p ∗ owns t a15 fullShare sh ∗ owns t a16 fullShare wb ∗ owns t a17 fullShare sg ∗ ((ins t a3 a4 a5 a6 a7 a8 a9 x ∗ owns t a12 fullShare (dwOf i h2 x (ctS i h2 x d) dw) ∗ owns t a14 fullShare (ctS i h2 x d) ∗ owns t a13 fullShare (pOf i h2 x) ∗ owns t a15 fullShare (shD (ctS i h2 x d)) ∗ owns t a16 fullShare wb ∗ owns t a17 fullShare (stageOf i h2 x wb (ctS i h2 x d))) -∗ K ⟨⟩))
      ⊢ wp frame (wpE (defs₀ (F := F)) Variants.none t none) E (firstP i a2 ha2 a3 ha3 a4 ha4 a5 ha5 a6 ha6 a7 ha7 a8 ha8 a9 ha9 a10 ha10 a11 ha11 a12 ha12 a13 ha13 a14 ha14 a15 ha15 a16 ha16 a17 ha17 h2) K := by
  rw [← stage_eq i h2 x wb (ctS i h2 x d) sg, dwOf, ← copyD_eq (ctS i h2 x d) (shP i h2 x), ← copyP_eq i h2 x sh, ← prodS_eq i h2 x p hp]
  unfold firstP ins
  iintro ⟨⟨H3, H4, H5, H6, H7, H8, H9⟩, H12, H14, H13, H15, H16, H17, Hk⟩
  rw [wp_bind]
  iapply (part6_triple t i a2 ha2 a3 ha3 a4 ha4 a5 ha5 a6 ha6 a7 ha7 a8 ha8 a9 ha9 a10 ha10 a11 ha11 a12 ha12 a13 ha13 a14 ha14 a15 ha15 a16 ha16 a17 ha17 _ _ _ _ E _)
  iframe H7 H8 H13 H14
  iintro %v ⟨%hv, H7, H8, H13, H14⟩
  subst hv
  rw [wp_bind, part7_eq]
  unfold loopsP
  rw [wp_bind]
  iapply (ct_triple t a14 _ _ E _)
  isplitl [H14]; · iexact H14
  iintro H14
  rw [wp_bind]
  iapply (loop1 t i h2 a2 ha2 a3 ha3 a4 ha4 a5 ha5 a6 ha6 a7 ha7 a8 ha8 a9 ha9 a10 ha10 a11 ha11 a12 ha12 a13 ha13 a14 ha14 a15 ha15 a16 ha16 a17 ha17 _ _ _ _ E _)
  iframe H4 H6 H13
  iintro ⟨H4, H6, H13⟩
  rw [wp_bind]
  iapply (copy_triple t a13 a15 _ _ E _)
  iframe H13 H15
  iintro ⟨H13, H15⟩
  rw [wp_bind]
  iapply (loop2 t i h2 a2 ha2 a3 ha3 a4 ha4 a5 ha5 a6 ha6 a7 ha7 a8 ha8 a9 ha9 a10 ha10 a11 ha11 a12 ha12 a13 ha13 a14 ha14 a15 ha15 a16 ha16 a17 ha17 _ _ _ _ _ _ _ E _)
  iframe H3 H5 H15 H16 H17 H14
  iintro ⟨H3, H5, H15, H16, H17, H14⟩
  rw [wp_bind]
  iapply (loop3 t i a2 ha2 a3 ha3 a4 ha4 a5 ha5 a6 ha6 a7 ha7 a8 ha8 a9 ha9 a10 ha10 a11 ha11 a12 ha12 a13 ha13 a14 ha14 a15 ha15 a16 ha16 a17 ha17 h2 _ _ _ E _)
  iframe H14 H15
  iintro %a ⟨%ha, H14, H15⟩
  subst ha
  sl_step
  rw [wp_bind]
  iapply (part8_triple t i a2 ha2 a3 ha3 a4 ha4 a5 ha5 a6 ha6 a7 ha7 a8 ha8 a9 ha9 a10 ha10 a11 ha11 a12 ha12 a13 ha13 a14 ha14 a15 ha15 a16 ha16 a17 ha17 _ _ _ _ E _)
  iframe H12 H14 H15
  iintro %v ⟨%hv, H12, H14, H15⟩
  subst hv
  rw [wp_bind]
  iapply (last_triple t a15 _ _ E _)
  isplitl [H15]; · iexact H15
  iintro H15
  iapply (loop4 t i h2 a2 ha2 a3 ha3 a4 ha4 a5 ha5 a6 ha6 a7 ha7 a8 ha8 a9 ha9 a10 ha10 a11 ha11 a12 ha12 a13 ha13 a14 ha14 a15 ha15 a16 ha16 a17 ha17 _ _ _ _ _ E _)
  iframe H4 H6 H15 H16 H17
  iintro ⟨H4, H6, H15, H16, H17⟩
  iapply Hk
  isplitl [H3 H4 H5 H6 H7 H8 H9]
  · iframe
  isplitl [H12]; · iexact H12
  isplitl [H14]; · iexact H14
  isplitl [H13]; · iexact H13
  isplitl [H15]; · iexact H15
  isplitl [H16]; · iexact H16
  iexact H17

/-- A first visit after the first point. -/
theorem body_tile (h1 : ¬k0_cond1 i = 1#1) (h2 : k0_cond2 i = 1#1) (x : In F) (dw : Vec F S3x1024 .f32) (d p : Vec F S552x1024 .f32) (hp : tail p = p) (wb : Vec F S24x1024 .f32) (E : Set ℕ) (K : PUnit → sProp 𝕄) :
    iprop(ins t a3 a4 a5 a6 a7 a8 a9 x ∗ (∃ v, owns t a11 fullShare v) ∗ owns t a12 fullShare dw ∗ owns t a14 fullShare d ∗ owns t a13 fullShare p ∗ (∃ v, owns t a15 fullShare v) ∗ owns t a16 fullShare wb ∗ (∃ v, owns t a17 fullShare v) ∗ ((ins t a3 a4 a5 a6 a7 a8 a9 x ∗ owns t a11 fullShare (slab i (stageOf i h2 x wb (ctS i h2 x d))) ∗ owns t a12 fullShare (dwOf i h2 x (ctS i h2 x d) dw) ∗ owns t a14 fullShare (ctS i h2 x d) ∗ (∃ p, ⌜tail p = p⌝ ∗ owns t a13 fullShare p) ∗ (∃ v, owns t a15 fullShare v) ∗ owns t a16 fullShare wb ∗ owns t a17 fullShare (stageOf i h2 x wb (ctS i h2 x d))) -∗ K ⟨⟩))
      ⊢ wp frame (wpE (defs₀ (F := F)) Variants.none t none) E (body i a2 ha2 a3 ha3 a4 ha4 a5 ha5 a6 ha6 a7 ha7 a8 ha8 a9 ha9 a10 ha10 a11 ha11 a12 ha12 a13 ha13 a14 ha14 a15 ha15 a16 ha16 a17 ha17) K := by
  unfold body
  iintro ⟨HI, ⟨%v11, H11⟩, H12, H14, H13, ⟨%v15, H15⟩, H16, ⟨%v17, H17⟩, Hk⟩
  rw [wp_bind, if_neg h1]
  sl_step
  rw [wp_bind, dif_pos h2]
  iapply (first_triple t i a2 ha2 a3 ha3 a4 ha4 a5 ha5 a6 ha6 a7 ha7 a8 ha8 a9 ha9 a10 ha10 a11 ha11 a12 ha12 a13 ha13 a14 ha14 a15 ha15 a16 ha16 a17 ha17 h2 x dw d p hp v15 wb v17 E _)
  iframe HI H12 H14 H13 H15 H16 H17
  iintro ⟨HI, H12, H14, H13, H15, H16, H17⟩
  rw [wp_bind]
  iapply (out_triple t i a11 ha11 a17 _ _ E _)
  iframe H11 H17
  iintro ⟨H11, H17⟩
  sl_step
  iapply Hk
  iframe HI H11 H12 H14
  isplitl [H13]
  · iexists _; isplitr; rotate_left
    · iexact H13
    · ipureintro; exact tail_pOf i h2 x
  isplitl [H15]; · iexists _; iexact H15
  iframe

/-- The first point. -/
theorem body_first (h1 : k0_cond1 i = 1#1) (h2 : k0_cond2 i = 1#1) (x : In F) (E : Set ℕ) (K : PUnit → sProp 𝕄) :
    iprop(ins t a3 a4 a5 a6 a7 a8 a9 x ∗ (∃ v, owns t a11 fullShare v) ∗ (∃ v, owns t a12 fullShare v) ∗ (∃ v, owns t a14 fullShare v) ∗ (∃ v, owns t a13 fullShare v) ∗ (∃ v, owns t a15 fullShare v) ∗ (∃ v, owns t a16 fullShare v) ∗ (∃ v, owns t a17 fullShare v) ∗ ((ins t a3 a4 a5 a6 a7 a8 a9 x ∗ owns t a11 fullShare (slab i (stageOf i h2 x (wbOf x.w) (ctS i h2 x (k0_pay2 (F := F))))) ∗ owns t a12 fullShare (dwOf i h2 x (ctS i h2 x (k0_pay2 (F := F))) (k0_pay1 (F := F))) ∗ owns t a14 fullShare (ctS i h2 x (k0_pay2 (F := F))) ∗ (∃ p, ⌜tail p = p⌝ ∗ owns t a13 fullShare p) ∗ (∃ v, owns t a15 fullShare v) ∗ owns t a16 fullShare (wbOf x.w) ∗ owns t a17 fullShare (stageOf i h2 x (wbOf x.w) (ctS i h2 x (k0_pay2 (F := F))))) -∗ K ⟨⟩))
      ⊢ wp frame (wpE (defs₀ (F := F)) Variants.none t none) E (body i a2 ha2 a3 ha3 a4 ha4 a5 ha5 a6 ha6 a7 ha7 a8 ha8 a9 ha9 a10 ha10 a11 ha11 a12 ha12 a13 ha13 a14 ha14 a15 ha15 a16 ha16 a17 ha17) K := by
  unfold body
  iintro ⟨HI, ⟨%v11, H11⟩, ⟨%v12, H12⟩, ⟨%v14, H14⟩, ⟨%v13, H13⟩, ⟨%v15, H15⟩, ⟨%v16, H16⟩, ⟨%v17, H17⟩, Hk⟩
  rw [wp_bind, if_pos h1, ← spread_eq x.w v16]
  unfold ins
  icases HI with ⟨H3, H4, H5, H6, H7, H8, H9⟩
  iapply (init_triple t a9 a12 a13 a14 a16 x.w v12 v14 v13 v16 E _)
  iframe H9 H12 H14 H13 H16
  iintro ⟨H9, H12, H14, H13, H16⟩
  rw [wp_bind, dif_pos h2]
  iapply (first_triple t i a2 ha2 a3 ha3 a4 ha4 a5 ha5 a6 ha6 a7 ha7 a8 ha8 a9 ha9 a10 ha10 a11 ha11 a12 ha12 a13 ha13 a14 ha14 a15 ha15 a16 ha16 a17 ha17 h2 x _ _ _ (tail_tail v13) v15 _ v17 E _)
  unfold ins
  isplitl [H3 H4 H5 H6 H7 H8 H9]
  · iframe
  iframe H12 H14 H13 H15 H16 H17
  iintro ⟨HI, H12, H14, H13, H15, H16, H17⟩
  rw [wp_bind]
  iapply (out_triple t i a11 ha11 a17 _ _ E _)
  iframe H11 H17
  iintro ⟨H11, H17⟩
  sl_step
  iapply Hk
  iframe HI H11 H12 H14
  isplitl [H13]
  · iexists _; isplitr; rotate_left
    · iexact H13
    · ipureintro; exact tail_pOf i h2 x
  isplitl [H15]; · iexists _; iexact H15
  iframe

/-- A later visit. -/
theorem body_again (h1 : ¬k0_cond1 i = 1#1) (h2 : ¬k0_cond2 i = 1#1) (sg : Vec F S3x512x1024 .bf16) (E : Set ℕ) (K : PUnit → sProp 𝕄) :
    iprop((∃ v, owns t a11 fullShare v) ∗ owns t a17 fullShare sg ∗ ((owns t a11 fullShare (slab i sg) ∗ owns t a17 fullShare sg) -∗ K ⟨⟩))
      ⊢ wp frame (wpE (defs₀ (F := F)) Variants.none t none) E (body i a2 ha2 a3 ha3 a4 ha4 a5 ha5 a6 ha6 a7 ha7 a8 ha8 a9 ha9 a10 ha10 a11 ha11 a12 ha12 a13 ha13 a14 ha14 a15 ha15 a16 ha16 a17 ha17) K := by
  unfold body
  iintro ⟨⟨%v11, H11⟩, H17, Hk⟩
  rw [wp_bind, if_neg h1]
  sl_step
  rw [wp_bind, dif_neg h2]
  sl_step
  rw [wp_bind]
  iapply (out_triple t i a11 ha11 a17 _ _ E _)
  iframe H11 H17
  iintro ⟨H11, H17⟩
  sl_step
  iapply Hk
  iframe

end Points

end Cert.MixAIdeal.Body

end
-- ==== Proof.MixARun.lean ====
/- The short convolution's gradient's run: what every point of the grid leaves, and the whole program's execution. -/
module

public import proofs.«01_k».proof.Proof.MixAPoint
public import proofs.«01_k».proof.Proof.Gen.MixAIdeal.Frame
public import Idealize.ShloMosaic.Lib.Quiescent
public import Idealize.ShloMosaic.Lib.Claim

@[expose] public section

set_option maxRecDepth 16384

noncomputable section

namespace Cert.MixAIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.MixAIdeal.Gen Cert.MixAIdeal.Body

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The cases of a point -/

theorem lt24 (t : Fin cfg0.N) : t.val < 24 := lt_of_lt_of_eq t.isLt (show cfg0.N = 24 from N_0)

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val % 3 = 0 :=
  (by decide +kernel : ∀ t : Fin grid0.N, k0_cond2 (grid0.coords t) = 1#1 ↔ t.val % 3 = 0)

/-! ## What the points leave -/

/-- The blocks point `t` reads. -/
def insAt (c : Dev nD) (t : Fin cfg0.N) : In F :=
  ⟨iblk m c 0 t, iblk m c 1 t, iblk m c 2 t, iblk m c 3 t, iblk m c 4 t, iblk m c 5 t, iblk m c 6 t⟩

/-- The first point of row tile `k`. -/
def pt (k : ℕ) : Fin cfg0.N := ⟨3 * (k % 8), lt_of_lt_of_eq (by omega) (show 24 = cfg0.N from N_0.symm)⟩

theorem pt_first (k : ℕ) : k0_cond2 (grid0.coords (pt k)) = 1#1 := (cond2_iff (pt k)).mpr (Nat.mul_mod_right 3 _)

theorem pt_tile (t : Fin cfg0.N) (ht : t.val % 3 = 0) : pt (t.val / 3) = t :=
  Fin.ext (by have := lt24 t; show 3 * (t.val / 3 % 8) = t.val; omega)

/-- The cotangent's window after the first `k` row tiles, -/
def dAt (c : Dev nD) : ℕ → Vec F S552x1024 .f32
  | 0 => k0_pay2 (F := F)
  | k + 1 => ctS (grid0.coords (pt k)) (pt_first k) (insAt m c (pt k)) (dAt c k)

/-- the taps' gradients, -/
def dwAt (c : Dev nD) : ℕ → Vec F S3x1024 .f32
  | 0 => k0_pay1 (F := F)
  | k + 1 => dwOf (grid0.coords (pt k)) (pt_first k) (insAt m c (pt k)) (dAt m c (k + 1)) (dwAt c k)

/-- the taps over eight rows each, -/
def wbAt (c : Dev nD) : Vec F S24x1024 .f32 := wbOf (insAt m c (pt 0)).w

/-- and the stage over row tile `k`'s points. -/
def stageAt (c : Dev nD) (k : ℕ) : Vec F S3x512x1024 .bf16 :=
  stageOf (grid0.coords (pt k)) (pt_first k) (insAt m c (pt k)) (wbAt m c) (dAt m c (k + 1))

/-- The scratch between points. -/
def inv (c : Dev nD) (n : ℕ) : sProp 𝕄 :=
  iprop(iprop((∃ p, ⌜1 ≤ n → tail p = p⌝ ∗ owns c (Memref.whole cc0_scratch0) fullShare p) ∗ (∃ d, ⌜1 ≤ n → d = dAt m c ((n + 2) / 3)⌝ ∗ owns c (Memref.whole cc0_scratch1) fullShare d) ∗ (∃ v, owns c (Memref.whole cc0_scratch2) fullShare v)
      ∗ (∃ wb, ⌜1 ≤ n → wb = wbAt m c⌝ ∗ owns c (Memref.whole cc0_scratch3) fullShare wb) ∗ (∃ sg, ⌜1 ≤ n → sg = stageAt m c ((n - 1) / 3)⌝ ∗ owns c (Memref.whole cc0_scratch4) fullShare sg))
    ∗ (∃ r, prngReg c r))

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => slab (grid0.coords t) (stageAt m c (t.val / 3))
    | ⟨8, _⟩ => dwAt m c (t.val / 3 + 1)
  Φ t := inv m c t.val
  q w := Pipeline.shareOf spec0 w
  owed _ := 0

theorem A_eq (c : Dev nD) (w : Fin cfg0.W) : (dats m 0 c).A w = V m c (Pipeline.arrRef spec0 w) := by dsimp only [dats]

theorem after_in (c : Dev nD) (t : Fin cfg0.N) : (dats m 0 c).after 0 t = iblk m c 0 t
    ∧ (dats m 0 c).after 1 t = iblk m c 1 t
    ∧ (dats m 0 c).after 2 t = iblk m c 2 t
    ∧ (dats m 0 c).after 3 t = iblk m c 3 t
    ∧ (dats m 0 c).after 4 t = iblk m c 4 t
    ∧ (dats m 0 c).after 5 t = iblk m c 5 t
    ∧ (dats m 0 c).after 6 t = iblk m c 6 t := by
  and_intros <;> dsimp only [dats]
theorem after_7 (c : Dev nD) (t : Fin cfg0.N) : (dats m 0 c).after 7 t = slab (grid0.coords t) (stageAt m c (t.val / 3)) := by dsimp only [dats]
theorem after_8 (c : Dev nD) (t : Fin cfg0.N) : (dats m 0 c).after 8 t = dwAt m c (t.val / 3 + 1) := by dsimp only [dats]

theorem before_in (c : Dev nD) (t : Fin cfg0.N) : (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t) :=
  ⟨before0_0_of m _ (A_eq m c 0) (fun _ => rfl) t, before0_1_of m _ (A_eq m c 1) (fun _ => rfl) t, before0_2_of m _ (A_eq m c 2) (fun _ => rfl) t, before0_3_of m _ (A_eq m c 3) (fun _ => rfl) t, before0_4_of m _ (A_eq m c 4) (fun _ => rfl) t, before0_5_of m _ (A_eq m c 5) (fun _ => rfl) t, before0_6_of m _ (A_eq m c 6) (fun _ => rfl) t⟩

/-! ## The sums' window: written at the first visits, written back at the last point only -/

theorem nofetch_8 (t : Fin cfg0.N) : (cfg0.win 8).fetch t = false := rfl

theorem idle_8 : ∀ t : Fin cfg0.N, cfg0.idle 8 (grid0.coords t) = decide (¬t.val % 3 = 0) :=
  (by decide +kernel : ∀ t : Fin grid0.N, (!(k0_cond1 (grid0.coords t) == 1#1) && !(k0_cond2 (grid0.coords t) == 1#1)) = decide (¬t.val % 3 = 0))

theorem noflush_8 (t : Fin cfg0.N) (h : t.val % 24 ≠ 23) : (cfg0.win 8).flush t = false := by
  cases e : (cfg0.win 8).flush t
  · rfl
  · exact absurd ((flush0_8 t).mp e) h

section Sum

variable {c : Dev nD}

/-- The point before. -/
def prev (t : Fin cfg0.N) : Fin cfg0.N := ⟨t.val - 1, Nat.lt_of_le_of_lt (Nat.sub_le _ _) t.isLt⟩

/-- What the point before left is found again, if it was a first visit; -/
theorem before_of_first (t : Fin cfg0.N) (h0 : t.val ≠ 0) (hp : (t.val - 1) % 3 = 0) (d) :
    (dats m 0 c).before 8 t d = (dats m 0 c).after 8 (prev t) := by
  rw [(dats m 0 c).before_of_pos 8 t h0 (nofetch_8 t)]
  rw [noflush_8 _ (by have := lt24 t; show (t.val - 1) % 24 ≠ 23; omega), if_neg Bool.false_ne_true]
  unfold Dat.left
  rw [show cfg0.idle 8 (cfg0.grid.coords ⟨t.val - 1, Nat.lt_of_le_of_lt (Nat.sub_le _ _) t.isLt⟩) = false from (idle_8 _).trans (decide_eq_false (by show ¬¬(t.val - 1) % 3 = 0; omega))]
  rfl

/-- if not, what it found itself. -/
theorem before_of_again (t : Fin cfg0.N) (h0 : t.val ≠ 0) (hp : ¬(t.val - 1) % 3 = 0) (d) :
    (dats m 0 c).before 8 t d = (dats m 0 c).before 8 (prev t) d := by
  rw [(dats m 0 c).before_of_pos 8 t h0 (nofetch_8 t)]
  rw [noflush_8 _ (by have := lt24 t; show (t.val - 1) % 24 ≠ 23; omega), if_neg Bool.false_ne_true]
  unfold Dat.left
  rw [show cfg0.idle 8 (cfg0.grid.coords ⟨t.val - 1, Nat.lt_of_le_of_lt (Nat.sub_le _ _) t.isLt⟩) = true from (idle_8 _).trans (decide_eq_true (by show ¬(t.val - 1) % 3 = 0; omega))]
  rfl

/-- At a later visit the buffer holds what the first left, -/
theorem before_again (t : Fin cfg0.N) (ht : ¬t.val % 3 = 0) (d) : (dats m 0 c).before 8 t d = (dats m 0 c).after 8 t := by
  by_cases h1 : t.val % 3 = 1
  · rw [before_of_first m t (by omega) (by omega), after_8, after_8, show (prev t).val / 3 = t.val / 3 from (by show (t.val - 1) / 3 = t.val / 3; omega)]
  · rw [before_of_again m t (by omega) (by omega), before_of_first m (prev t) (by show t.val - 1 ≠ 0; omega) (by show (t.val - 1 - 1) % 3 = 0; omega),
      after_8, after_8, show (prev (prev t)).val / 3 = t.val / 3 from (by show (t.val - 1 - 1) / 3 = t.val / 3; omega)]

/-- at a later first visit what the tile before left. -/
theorem before_first (t : Fin cfg0.N) (ht : t.val % 3 = 0) (h0 : t.val ≠ 0) (d) : (dats m 0 c).before 8 t d = dwAt m c (t.val / 3) := by
  rw [before_of_again m t h0 (by omega), before_again m (prev t) (by show ¬(t.val - 1) % 3 = 0; omega), after_8,
    show (prev t).val / 3 + 1 = t.val / 3 from (by show (t.val - 1) / 3 + 1 = t.val / 3; omega)]

theorem leaves_first (t : Fin cfg0.N) (ht : t.val % 3 = 0) :
    (dats m 0 c).leavesExact 8 t = owns c ((cfg0.win 8).stage (cfg0.slots t 8)) fullShare ((dats m 0 c).after 8 t) := by
  unfold Dat.leavesExact
  rw [show cfg0.idle 8 (cfg0.grid.coords t) = false from (idle_8 t).trans (decide_eq_false (by omega))]

theorem leaves_again (t : Fin cfg0.N) (ht : ¬t.val % 3 = 0) :
    owns c ((cfg0.win 8).stage (cfg0.slots t 8)) fullShare ((dats m 0 c).after 8 t) ⊢ (dats m 0 c).leavesExact 8 t := by
  have hi : cfg0.idle 8 (cfg0.grid.coords t) = true := (idle_8 t).trans (decide_eq_true ht)
  by_cases hf : (cfg0.win 8).flush t = true
  · unfold Dat.leavesExact
    rw [hi, hf]
  · rw [(dats m 0 c).leavesExact_idle 8 t hi (by simpa using hf)]
    iintro H
    iexists ((dats m 0 c).after 8 t)
    rw [before_again m t ht]
    iexact H

end Sum

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d))
    ∗ (∃ d, owns c (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

/-- A window never idle is handed over as left. -/
theorem leaves_live {c : Dev nD} (dat : Dat τ (Elt F) Unit ℕ (UR sig nD τ) ℕ cfg0 c) {w : Fin cfg0.W} (t : Fin cfg0.N)
    (h : cfg0.idle w (cfg0.grid.coords t) = false) :
    dat.leavesExact w t = owns c ((cfg0.win w).stage (cfg0.slots t w)) fullShare (dat.after w t) := by
  unfold Dat.leavesExact; rw [h]

theorem post_eq (c : Dev nD) (t : Fin cfg0.N) : bodyPost m c t
    = iprop(inv m c (t.val + 1) ∗ (dats m 0 c).owesAt () t.castSucc
      ∗ owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ owns c (st0_6 t) fullShare (iblk m c 6 t) ∗ owns c (st0_7 t) fullShare (slab (grid0.coords t) (stageAt m c (t.val / 3))) ∗ (dats m 0 c).leavesExact 8 t) := by
  unfold bodyPost
  rw [leaves_live (dats m 0 c) (w := 0) t rfl, leaves_live (dats m 0 c) (w := 1) t rfl, leaves_live (dats m 0 c) (w := 2) t rfl, leaves_live (dats m 0 c) (w := 3) t rfl, leaves_live (dats m 0 c) (w := 4) t rfl, leaves_live (dats m 0 c) (w := 5) t rfl, leaves_live (dats m 0 c) (w := 6) t rfl, leaves_live (dats m 0 c) (w := 7) t rfl]
  simp only [after_in m c t]
  rw [after_7]
  rfl

theorem pre_eq (c : Dev nD) (t : Fin cfg0.N) : (dats m 0 c).Φ t.castSucc = inv m c t.val := rfl

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyAt0
  rw [cc0_eq, post_eq]
  unfold bodyPre
  rw [pre_eq]
  simp only [before_in m c t]
  have hN := lt24 t
  by_cases h1 : t.val % 3 = 0
  · have h2 : k0_cond2 (grid0.coords t) = 1#1 := (cond2_iff t).mpr h1
    have ep : pt (t.val / 3) = t := pt_tile t h1
    have eD : dAt m c (t.val / 3 + 1) = ctS (grid0.coords t) h2 (insAt m c t) (dAt m c (t.val / 3)) := by
      have e : ∀ q : Fin cfg0.N, ∀ hq : k0_cond2 (grid0.coords q) = 1#1, q = t → ∀ d, ctS (grid0.coords q) hq (insAt m c q) d = ctS (grid0.coords t) h2 (insAt m c t) d := by
        intro q hq e d; subst e; rfl
      exact e _ (pt_first _) ep _
    have eW : dwAt m c (t.val / 3 + 1) = dwOf (grid0.coords t) h2 (insAt m c t) (dAt m c (t.val / 3 + 1)) (dwAt m c (t.val / 3)) := by
      have e : ∀ q : Fin cfg0.N, ∀ hq : k0_cond2 (grid0.coords q) = 1#1, q = t → ∀ d w, dwOf (grid0.coords q) hq (insAt m c q) d w = dwOf (grid0.coords t) h2 (insAt m c t) d w := by
        intro q hq e d w; subst e; rfl
      exact e _ (pt_first _) ep _ _
    have eS : stageAt m c (t.val / 3) = stageOf (grid0.coords t) h2 (insAt m c t) (wbAt m c) (dAt m c (t.val / 3 + 1)) := by
      have e : ∀ q : Fin cfg0.N, ∀ hq : k0_cond2 (grid0.coords q) = 1#1, q = t → ∀ w d, stageOf (grid0.coords q) hq (insAt m c q) w d = stageOf (grid0.coords t) h2 (insAt m c t) w d := by
        intro q hq e w d; subst e; rfl
      exact e _ (pt_first _) ep _ _
    have n1 : (t.val + 1 + 2) / 3 = t.val / 3 + 1 := by omega
    have n2 : (t.val + 1 - 1) / 3 = t.val / 3 := by omega
    rw [leaves_first m t h1, after_8, eS, eW, eD]
    unfold inv
    by_cases h0 : t.val = 0
    · have eT : t = pt 0 := Fin.ext h0
      have eB : wbAt m c = wbOf (insAt m c t).w := by rw [eT]; rfl
      have e0 : t.val / 3 = 0 := by omega
      have eD0 : dAt m c (t.val / 3) = k0_pay2 (F := F) := by rw [e0]; rfl
      have eW0 : dwAt m c (t.val / 3) = k0_pay1 (F := F) := by rw [e0]; rfl
      rw [eD0] at eD
      rw [eD0, eW0, eB]
      rw [eB] at eS
      iintro ⟨⟨⟨⟨%p, %hp, S0⟩, ⟨%d, %hd, S1⟩, ⟨%v, S2⟩, ⟨%wb, %hwb, S3⟩, ⟨%sg, %hsg, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_first c (grid0.coords t) _ _ (st0_0 t) _ (st0_1 t) _ (st0_2 t) _ (st0_3 t) _ (st0_4 t) _ (st0_5 t) _ (st0_6 t) _ _ _ (st0_7 t) _ (st0_8 t) _ (Memref.whole cc0_scratch0) _ (Memref.whole cc0_scratch1) _ (Memref.whole cc0_scratch2) _ (Memref.whole cc0_scratch3) _ (Memref.whole cc0_scratch4) _ ((cond1_iff t).mpr h0) h2 (insAt m c t) Set.univ _)
      isplitl [H0 H1 H2 H3 H4 H5 H6]
      · unfold ins
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexists _; iexact H8
      isplitl [S1]; · iexists _; iexact S1
      isplitl [S0]; · iexists _; iexact S0
      isplitl [S2]; · iexists _; iexact S2
      isplitl [S3]; · iexists _; iexact S3
      isplitl [S4]; · iexists _; iexact S4
      unfold ins
      iintro ⟨⟨H0, H1, H2, H3, H4, H5, H6⟩, H7, H8, S1, ⟨%p', %hp', S0⟩, ⟨%v', S2⟩, S3, S4⟩
      isplitl [S0 S1 S2 S3 S4 Hg]
      · isplitl [S0 S1 S2 S3 S4]
        · isplitl [S0]
          · iexists p'; isplitr; · ipureintro; exact fun _ => hp'
            iexact S0
          isplitl [S1]
          · iexists _; isplitr; rotate_left
            · iexact S1
            · ipureintro; intro _; rw [n1, eD]
          isplitl [S2]; · iexists _; iexact S2
          isplitl [S3]
          · iexists _; isplitr; rotate_left
            · iexact S3
            · ipureintro; intro _; rfl
          iexists _; isplitr; rotate_left
          · iexact S4
          · ipureintro; intro _; rw [n2, eS, eD]
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · simp only [before_first m t h1 h0]
      iintro ⟨⟨⟨⟨%p, %hp, S0⟩, ⟨%d, %hd, S1⟩, ⟨%v, S2⟩, ⟨%wb, %hwb, S3⟩, ⟨%sg, %hsg, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have hp1 := hp (by omega)
      have hd1 : d = dAt m c (t.val / 3) := (hd (by omega)).trans (by rw [show (t.val + 2) / 3 = t.val / 3 from by omega])
      have hw1 := hwb (by omega)
      subst hd1; subst hw1
      iapply (body_tile c (grid0.coords t) _ _ (st0_0 t) _ (st0_1 t) _ (st0_2 t) _ (st0_3 t) _ (st0_4 t) _ (st0_5 t) _ (st0_6 t) _ _ _ (st0_7 t) _ (st0_8 t) _ (Memref.whole cc0_scratch0) _ (Memref.whole cc0_scratch1) _ (Memref.whole cc0_scratch2) _ (Memref.whole cc0_scratch3) _ (Memref.whole cc0_scratch4) _ (fun h => h0 ((cond1_iff t).mp h)) h2 (insAt m c t) (dwAt m c (t.val / 3)) (dAt m c (t.val / 3)) p hp1 (wbAt m c) Set.univ _)
      isplitl [H0 H1 H2 H3 H4 H5 H6]
      · unfold ins
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      iframe H8 S1 S0
      isplitl [S2]; · iexists _; iexact S2
      isplitl [S3]; · iexact S3
      isplitl [S4]; · iexists _; iexact S4
      unfold ins
      iintro ⟨⟨H0, H1, H2, H3, H4, H5, H6⟩, H7, H8, S1, ⟨%p', %hp', S0⟩, ⟨%v', S2⟩, S3, S4⟩
      isplitl [S0 S1 S2 S3 S4 Hg]
      · isplitl [S0 S1 S2 S3 S4]
        · isplitl [S0]
          · iexists p'; isplitr; · ipureintro; exact fun _ => hp'
            iexact S0
          isplitl [S1]
          · iexists _; isplitr; rotate_left
            · iexact S1
            · ipureintro; intro _; rw [n1, eD]
          isplitl [S2]; · iexists _; iexact S2
          isplitl [S3]
          · iexists _; isplitr; rotate_left
            · iexact S3
            · ipureintro; intro _; rfl
          iexists _; isplitr; rotate_left
          · iexact S4
          · ipureintro; intro _; rw [n2, eS, eD]
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · simp only [before_again m t h1]
    unfold inv
    iintro ⟨⟨⟨⟨%p, %hp, S0⟩, ⟨%d, %hd, S1⟩, ⟨%v, S2⟩, ⟨%wb, %hwb, S3⟩, ⟨%sg, %hsg, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hd1 : d = dAt m c (t.val / 3 + 1) := (hd (by omega)).trans (by rw [show (t.val + 2) / 3 = t.val / 3 + 1 from by omega])
    have hs1 : sg = stageAt m c (t.val / 3) := (hsg (by omega)).trans (by rw [show (t.val - 1) / 3 = t.val / 3 from by omega])
    subst hs1
    iapply (body_again c (grid0.coords t) _ _ (st0_0 t) _ (st0_1 t) _ (st0_2 t) _ (st0_3 t) _ (st0_4 t) _ (st0_5 t) _ (st0_6 t) _ _ _ (st0_7 t) _ (st0_8 t) _ (Memref.whole cc0_scratch0) _ (Memref.whole cc0_scratch1) _ (Memref.whole cc0_scratch2) _ (Memref.whole cc0_scratch3) _ (Memref.whole cc0_scratch4) _ (fun h => absurd ((cond1_iff t).mp h) (by omega)) (fun h => h1 ((cond2_iff t).mp h)) (stageAt m c (t.val / 3)) Set.univ _)
    isplitl [H7]; · iexists _; iexact H7
    isplitl [S4]; · iexact S4
    iintro ⟨H7, S4⟩
    isplitl [S0 S1 S2 S3 S4 Hg]
    · isplitl [S0 S1 S2 S3 S4]
      · isplitl [S0]
        · iexists p; isplitr; · ipureintro; exact fun _ => hp (by omega)
          iexact S0
        isplitl [S1]
        · iexists d; isplitr; · ipureintro; intro _; rw [hd1, show (t.val + 1 + 2) / 3 = t.val / 3 + 1 from by omega]
          iexact S1
        isplitl [S2]; · iexists _; iexact S2
        isplitl [S3]
        · iexists wb; isplitr; · ipureintro; exact fun _ => hwb (by omega)
          iexact S3
        iexists _; isplitr; rotate_left
        · iexact S4
        · ipureintro; intro _; rw [show (t.val + 1 - 1) / 3 = t.val / 3 from by omega]
      iexact Hg
    iframe Ho H0 H1 H2 H3 H4 H5 H6 H7
    iapply (leaves_again m t h1); iexact H8

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scratch_eq (c : Dev nD) : (Pipeline.ΦA spec0 c : sProp 𝕄)
    = iprop(iprop((∃ d, owns c (Memref.whole cc0_scratch0) fullShare d) ∗ (∃ d, owns c (Memref.whole cc0_scratch1) fullShare d) ∗ (∃ d, owns c (Memref.whole cc0_scratch2) fullShare d) ∗ (∃ d, owns c (Memref.whole cc0_scratch3) fullShare d) ∗ (∃ d, owns c (Memref.whole cc0_scratch4) fullShare d)) ∗ (∃ r, prngReg c r)) := by
  unfold Pipeline.ΦA; rw [scopedRest0_eq]; simp only [owns_whole]; try rfl

theorem hin (c : Dev nD) : (Pipeline.ΦA spec0 c : sProp 𝕄) ⊢ (dats m 0 c).Φ 0 := by
  rw [scratch_eq, show (dats m 0 c).Φ 0 = inv m c 0 from rfl]
  unfold inv
  iintro ⟨⟨⟨%d0, H0⟩, ⟨%d1, H1⟩, H2, ⟨%d3, H3⟩, ⟨%d4, H4⟩⟩, Hg⟩
  isplitl [H0 H1 H2 H3 H4]
  · isplitl [H0]
    · iexists d0; isplitr; · ipureintro; intro h; omega
      iexact H0
    isplitl [H1]
    · iexists d1; isplitr; · ipureintro; intro h; omega
      iexact H1
    isplitl [H2]; · iexact H2
    isplitl [H3]
    · iexists d3; isplitr; · ipureintro; intro h; omega
      iexact H3
    iexists d4; isplitr; · ipureintro; intro h; omega
    iexact H4
  iexact Hg

theorem hout (c : Dev nD) : (dats m 0 c).Φ (Fin.last cfg0.N) ⊢ (Pipeline.ΦA spec0 c : sProp 𝕄) := by
  rw [scratch_eq, show (dats m 0 c).Φ (Fin.last cfg0.N) = inv m c cfg0.N from rfl]
  unfold inv
  iintro ⟨⟨⟨%d0, %h0, H0⟩, ⟨%d1, %h1, H1⟩, H2, ⟨%d3, %h3, H3⟩, ⟨%d4, %h4, H4⟩⟩, Hg⟩
  isplitl [H0 H1 H2 H3 H4]
  · isplitl [H0]; · iexists d0; iexact H0
    isplitl [H1]; · iexists d1; iexact H1
    isplitl [H2]; · iexact H2
    isplitl [H3]; · iexists d3; iexact H3
    iexists d4; iexact H4
  iexact Hg

set_option backward.isDefEq.respectTransparency.types false in
/-- The launch: every array at what the points leave, every other buffer as the region finds it, every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments end as they began. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.MixAIdeal.Run

end
-- ==== Proof.MixAFrames.lean ====
/- The frames of the short convolution's gradient: the program over the extended reals and the one over the bits are one text. -/
module

public import proofs.«01_k».proof.Proof.MixARun
public import proofs.«01_k».proof.Proof.Gen.MixA
public import proofs.«01_k».proof.Defs
public import Idealize.ShloMosaic.Lib.Tactic

@[expose] public section

set_option maxRecDepth 16384

noncomputable section

namespace Cert.MixAFrames

open Idealize.ShloMosaic Idealize.ShloMosaic.TcCoe
open Idealize.SL.Sem

/-- A named constant of the bit program is the literal it was printed as. -/
local instance literal : Named Bits := ⟨fun _ _ _ b => Scalar.ofBits _ b⟩

theorem defs_eq : Cert.MixAIdeal.defs (F := Bits) = Cert.MixA.defs (F := Bits) := by sl_kernel_rfl
theorem main_eq : Cert.MixAIdeal.main (F := Bits) = Cert.MixA.main (F := Bits) := by sl_kernel_rfl

theorem ideal : Cert.quiescent_MixAIdeal := fun m ρ _ => Cert.MixAIdeal.Run.frame_run (F := Ideal) m ρ

theorem bits : Cert.quiescent_MixA := fun m ρ _ => by
  have h := Cert.MixAIdeal.Run.frame_run (F := Bits) m ρ
  rw [defs_eq, main_eq] at h
  exact h

end Cert.MixAFrames

end
-- ==== Proof.MixARead.lean ====
/- Windows of rows of 1024 numbers, read by the number of a row. -/
module

public import proofs.«01_k».proof.Proof.MixAPoint
public import Idealize.ShloMosaic.Lib.Pipeline.ValueKit

@[expose] public section

set_option maxRecDepth 16384

noncomputable section

namespace Cert.MixAIdeal.Rows

open Idealize.ShloMosaic Idealize.ShloMosaic.TcCoe
open Cert.MixAIdeal.Body

/-- Row `r` of a matrix, zero past its end; -/
def row {R : ℕ} (v : (⟨2, ![R, 1024]⟩ : Shape).Idx → EReal) (r : ℕ) (j : Fin 1024) : EReal := if h : r < R then v (ix2 ⟨r, h⟩ j) else 0
/-- of layer `b` of a stack of matrices. -/
def lay {B R : ℕ} (v : (⟨3, ![B, R, 1024]⟩ : Shape).Idx → EReal) (b r : ℕ) (j : Fin 1024) : EReal :=
  if h : b < B ∧ r < R then v (ix3 ⟨b, h.1⟩ ⟨r, h.2⟩ j) else 0

theorem row_at {R : ℕ} (v : (⟨2, ![R, 1024]⟩ : Shape).Idx → EReal) {r : ℕ} (h : r < R) (j : Fin 1024) : row v r j = v (ix2 ⟨r, h⟩ j) := dif_pos h
theorem row_val {R : ℕ} (v : (⟨2, ![R, 1024]⟩ : Shape).Idx → EReal) (r : Fin R) (j : Fin 1024) : v (ix2 r j) = row v r.val j := (row_at v r.isLt j).symm
theorem lay_at {B R : ℕ} (v : (⟨3, ![B, R, 1024]⟩ : Shape).Idx → EReal) {b r : ℕ} (hb : b < B) (hr : r < R) (j : Fin 1024) :
    lay v b r j = v (ix3 ⟨b, hb⟩ ⟨r, hr⟩ j) := dif_pos ⟨hb, hr⟩
theorem lay_val {B R : ℕ} (v : (⟨3, ![B, R, 1024]⟩ : Shape).Idx → EReal) (b : Fin B) (r : Fin R) (j : Fin 1024) :
    v (ix3 b r j) = lay v b.val r.val j := (lay_at v b.isLt r.isLt j).symm

/-! ## Loads -/

theorem row_window {R n o : ℕ} {off : Fin 2 → ℕ} (v : (⟨2, ![R, 1024]⟩ : Shape).Idx → EReal) (ho : off = ![o, 0]) (inb) {q : ℕ} (hq : q < n) (j : Fin 1024) :
    row (R := n) (VecWindow.window v off ![n, 1024] inb) q j = row v (o + q) j := by
  subst ho
  have hr : o + q < R := by have h : o + n ≤ R := inb 0; omega
  rw [row_at _ hq, row_at _ hr]
  refine congrArg v (funext fun a => Fin.ext ?_)
  match a with
  | ⟨0, _⟩ => show o + 1 * q = o + q; omega
  | ⟨1, _⟩ => show 0 + 1 * j.val = j.val; omega

theorem lay_window {B R n s o : ℕ} {off : Fin 3 → ℕ} (v : (⟨3, ![B, R, 1024]⟩ : Shape).Idx → EReal) (ho : off = ![s, o, 0]) (inb) {q : ℕ} (hq : q < n) (j : Fin 1024) :
    lay (B := 1) (R := n) (VecWindow.window v off ![1, n, 1024] inb) 0 q j = lay v s (o + q) j := by
  subst ho
  have hs : s < B := by have h : s + 1 ≤ B := inb 0; omega
  have hr : o + q < R := by have h : o + n ≤ R := inb 1; omega
  rw [lay_at _ Nat.one_pos hq, lay_at _ hs hr]
  refine congrArg v (funext fun a => Fin.ext ?_)
  match a with
  | ⟨0, _⟩ => show s + 1 * 0 = s; omega
  | ⟨1, _⟩ => show o + 1 * q = o + q; omega
  | ⟨2, _⟩ => show 0 + 1 * j.val = j.val; omega

theorem row_bf16 {R n o : ℕ} {off : Fin 2 → ℕ} (v : Vec Ideal ⟨2, ![R, 1024]⟩ .bf16) (ho : off = ![o, 0]) (inb) {q : ℕ} (hq : q < n) (j : Fin 1024) :
    row (R := n) (View.ld (Val := Elt Ideal) v (Rect.unit (s := ⟨2, ![R, 1024]⟩) off ![n, 1024] inb)) q j = row v (o + q) j := row_window v ho inb hq j
theorem lay_bf16 {B R n s o : ℕ} {off : Fin 3 → ℕ} (v : Vec Ideal ⟨3, ![B, R, 1024]⟩ .bf16) (ho : off = ![s, o, 0]) (inb) {q : ℕ} (hq : q < n) (j : Fin 1024) :
    lay (B := 1) (R := n) (View.ld (Val := Elt Ideal) v (Rect.unit (s := ⟨3, ![B, R, 1024]⟩) off ![1, n, 1024] inb)) 0 q j = lay v s (o + q) j := lay_window v ho inb hq j

theorem row_f32 {R n o : ℕ} {off : Fin 2 → ℕ} (v : Vec Ideal ⟨2, ![R, 1024]⟩ .f32) (ho : off = ![o, 0]) (inb) {q : ℕ} (hq : q < n) (j : Fin 1024) :
    row (R := n) (View.ld (Val := Elt Ideal) v (Rect.unit (s := ⟨2, ![R, 1024]⟩) off ![n, 1024] inb)) q j = row v (o + q) j := row_window v ho inb hq j
theorem lay_f32 {B R n s o : ℕ} {off : Fin 3 → ℕ} (v : Vec Ideal ⟨3, ![B, R, 1024]⟩ .f32) (ho : off = ![s, o, 0]) (inb) {q : ℕ} (hq : q < n) (j : Fin 1024) :
    lay (B := 1) (R := n) (View.ld (Val := Elt Ideal) v (Rect.unit (s := ⟨3, ![B, R, 1024]⟩) off ![1, n, 1024] inb)) 0 q j = lay v s (o + q) j := lay_window v ho inb hq j

/-! ## Stores -/

theorem row_in {R n o : ℕ} {off : Fin 2 → ℕ} (x : (⟨2, ![R, 1024]⟩ : Shape).Idx → EReal) (w : (⟨2, ![n, 1024]⟩ : Shape).Idx → EReal) (ho : off = ![o, 0])
    {r : ℕ} (hR : r < R) (h : o ≤ r ∧ r < o + n) (j : Fin 1024) : row (R := R) (VecWindow.put (s := ⟨2, ![R, 1024]⟩) x off ![n, 1024] w) r j = row w (r - o) j := by
  subst ho
  rw [row_at _ hR, row_at _ (by omega : r - o < n)]
  unfold VecWindow.put
  rw [dif_pos (fun a => match a with
    | ⟨0, _⟩ => h
    | ⟨1, _⟩ => ⟨Nat.zero_le _, lt_of_lt_of_eq j.isLt (Nat.zero_add 1024).symm⟩)]
  refine congrArg w (funext fun a => Fin.ext ?_)
  match a with
  | ⟨0, _⟩ => rfl
  | ⟨1, _⟩ => rfl

theorem row_out {R n o : ℕ} {off : Fin 2 → ℕ} (x : (⟨2, ![R, 1024]⟩ : Shape).Idx → EReal) (w : (⟨2, ![n, 1024]⟩ : Shape).Idx → EReal) (ho : off = ![o, 0])
    {r : ℕ} (h : r < o ∨ o + n ≤ r) (j : Fin 1024) : row (R := R) (VecWindow.put (s := ⟨2, ![R, 1024]⟩) x off ![n, 1024] w) r j = row x r j := by
  subst ho
  unfold row
  by_cases hR : r < R
  · rw [dif_pos hR, dif_pos hR]
    exact put_out (S := ⟨2, ![R, 1024]⟩) 0 h
  · rw [dif_neg hR, dif_neg hR]

theorem lay_in {B R n s o : ℕ} {off : Fin 3 → ℕ} (x : (⟨3, ![B, R, 1024]⟩ : Shape).Idx → EReal) (w : (⟨3, ![1, n, 1024]⟩ : Shape).Idx → EReal) (ho : off = ![s, o, 0])
    {r : ℕ} (hs : s < B) (hR : r < R) (h : o ≤ r ∧ r < o + n) (j : Fin 1024) :
    lay (B := B) (R := R) (VecWindow.put (s := ⟨3, ![B, R, 1024]⟩) x off ![1, n, 1024] w) s r j = lay w 0 (r - o) j := by
  subst ho
  rw [lay_at _ hs hR, lay_at _ Nat.one_pos (by omega : r - o < n)]
  unfold VecWindow.put
  rw [dif_pos (fun a => match a with
    | ⟨0, _⟩ => ⟨Nat.le_refl s, Nat.lt_succ_self s⟩
    | ⟨1, _⟩ => h
    | ⟨2, _⟩ => ⟨Nat.zero_le _, lt_of_lt_of_eq j.isLt (Nat.zero_add 1024).symm⟩)]
  refine congrArg w (funext fun a => Fin.ext ?_)
  match a with
  | ⟨0, _⟩ => show s - s = 0; omega
  | ⟨1, _⟩ => rfl
  | ⟨2, _⟩ => rfl

theorem lay_out {B R n s o : ℕ} {off : Fin 3 → ℕ} (x : (⟨3, ![B, R, 1024]⟩ : Shape).Idx → EReal) (w : (⟨3, ![1, n, 1024]⟩ : Shape).Idx → EReal) (ho : off = ![s, o, 0])
    {b r : ℕ} (h : b ≠ s ∨ r < o ∨ o + n ≤ r) (j : Fin 1024) :
    lay (B := B) (R := R) (VecWindow.put (s := ⟨3, ![B, R, 1024]⟩) x off ![1, n, 1024] w) b r j = lay x b r j := by
  subst ho
  unfold lay
  by_cases hR : b < B ∧ r < R
  · rw [dif_pos hR, dif_pos hR]
    rcases h with h | h
    · exact put_out (S := ⟨3, ![B, R, 1024]⟩) 0 (by show b < s ∨ s + 1 ≤ b; omega)
    · exact put_out (S := ⟨3, ![B, R, 1024]⟩) 1 h
  · rw [dif_neg hR, dif_neg hR]

/-! ## Loops -/

/-- What one trip alone writes is there at the end; -/
theorem iter_val {n : ℕ} {σ β : Type} {f : Fin n → σ → σ} (g : σ → β) {v : β} (l : Fin n) (hout : ∀ k, k ≠ l → ∀ a, g (f k a) = g a)
    (hin : ∀ a, g (f l a) = v) (a : σ) (k : ℕ) (hk : l.val < k) : g (iter f a k) = v := by
  induction k with
  | zero => omega
  | succ k ih =>
    unfold iter
    by_cases hn : k < n
    · rw [dif_pos hn]
      by_cases h : l.val < k
      · rw [hout _ (fun e => by have e : k = l.val := congrArg Fin.val e; omega), ih h]
      · have e : (⟨k, hn⟩ : Fin n) = l := Fin.ext (by show k = l.val; omega)
        rw [e]; exact hin _
    · rw [dif_neg hn]; exact ih (by have := l.isLt; omega)

/-- what none writes stays; -/
theorem iter_keep {n : ℕ} {σ β : Type} {f : Fin n → σ → σ} (g : σ → β) (hout : ∀ k a, g (f k a) = g a) (a : σ) (k : ℕ) : g (iter f a k) = g a := by
  induction k with
  | zero => rfl
  | succ k ih =>
    unfold iter
    by_cases hn : k < n
    · rw [dif_pos hn, hout, ih]
    · rw [dif_neg hn, ih]

/-- what each adds to is their sum. -/
theorem iter_sum {n : ℕ} {σ : Type} {f : Fin n → σ → σ} (g : σ → EReal) (t : ℕ → EReal) (hf : ∀ (k : Fin n) a, g (f k a) = g a + t k.val) (a : σ) (k : ℕ) (hk : k ≤ n) :
    g (iter f a k) = g a + ∑ l ∈ Finset.range k, t l := by
  induction k with
  | zero => rw [Finset.sum_range_zero, add_zero]; rfl
  | succ k ih =>
    rw [show iter f a (k + 1) = f ⟨k, by omega⟩ (iter f a k) from dif_pos (by omega), hf, ih (by omega), Finset.sum_range_succ, add_assoc]

/-- A sum in blocks. -/
theorem sum_blocks (t : ℕ → EReal) (b n : ℕ) : ∑ l ∈ Finset.range n, ∑ a ∈ Finset.range b, t (b * l + a) = ∑ r ∈ Finset.range (b * n), t r := by
  induction n with
  | zero => rw [Nat.mul_zero]; rfl
  | succ n ih => rw [Finset.sum_range_succ, ih, Nat.mul_succ, Finset.sum_range_add]

end Cert.MixAIdeal.Rows

end
-- ==== Proof.MixABlock.lean ====
/- What a row tile of the short convolution's gradient leaves, row by row. -/
module

public import proofs.«01_k».proof.Proof.MixARead

@[expose] public section

set_option maxRecDepth 16384

noncomputable section

namespace Cert.MixAIdeal.Block

open Idealize.ShloMosaic Idealize.ShloMosaic.TcCoe
open Cert.MixAIdeal.Gen Cert.MixAIdeal.Body Cert.MixAIdeal.Rows

/-! ## One vector's rows -/

/-- The place of a row tile in its sequence, as the body counts it. -/
def place (t : BitVec 32) : BitVec 32 :=
  Scalar.select (Scalar.andi (Scalar.xori (Scalar.cmpi .slt (Scalar.remsi t (Scalar.select (Scalar.cmpi .eq 4#32 0#32) 1#32 4#32)) 0#32) (Scalar.cmpi .slt (Scalar.select (Scalar.cmpi .eq 4#32 0#32) 1#32 4#32) 0#32)) (Scalar.cmpi .ne (Scalar.remsi t (Scalar.select (Scalar.cmpi .eq 4#32 0#32) 1#32 4#32)) 0#32))
    (Scalar.addi (Scalar.remsi t (Scalar.select (Scalar.cmpi .eq 4#32 0#32) 1#32 4#32)) (Scalar.select (Scalar.cmpi .eq 4#32 0#32) 1#32 4#32)) (Scalar.remsi t (Scalar.select (Scalar.cmpi .eq 4#32 0#32) 1#32 4#32))

theorem place_first : ∀ a : Fin 8, Scalar.cmpi .eq (place (Scalar.subi 7#32 (BitVec.ofNat 32 a.val))) 0#32 = if (7 - a.val) % 4 = 0 then 1#1 else 0#1 := by decide +kernel
theorem place_last : ∀ a : Fin 8, Scalar.cmpi .eq (place (Scalar.subi 7#32 (BitVec.ofNat 32 a.val))) 3#32 = if (7 - a.val) % 4 = 3 then 1#1 else 0#1 := by decide +kernel

theorem select_if {p : Prop} [Decidable p] {α : Type} {c : BitVec 1} (h : c = if p then 1#1 else 0#1) (a b : α) : Scalar.select c a b = if p then a else b := by
  subst h; by_cases hp : p
  · rw [if_pos hp, if_pos hp]; rfl
  · rw [if_neg hp, if_neg hp]; rfl

/-- The first row tile of a sequence has nothing before it, -/
theorem pay22_row (i : grid0.Coords) (a b : Vec Ideal S32x1024 .bf16) {q : ℕ} (hq : q < 32) (j : Fin 1024) :
    row (k0_pay22 (F := Ideal) (tile i) a b) q j = if (7 - (i 0).val) % 4 = 0 then 0 else row a q j * row b q j := by
  rw [row_at _ hq, row_at _ hq, row_at _ hq]
  pointwise [k0_pay22, tile]
  exact select_if (place_first (i 0)) _ _

/-- the last nothing after it. -/
theorem pay23_row (i : grid0.Coords) (a : Vec Ideal S32x1024 .f32) {q : ℕ} (hq : q < 32) (j : Fin 1024) :
    row (k0_pay24 (F := Ideal) (k0_pay23 (F := Ideal) (tile i) a)) q j = if (7 - (i 0).val) % 4 = 3 then 0 else row a q j := by
  rw [row_at _ hq, row_at _ hq]
  pointwise [k0_pay23, k0_pay24, tile]
  exact select_if (place_last (i 0)) _ _

theorem pay25_row (a b : Vec Ideal S16x1024 .bf16) {q : ℕ} (hq : q < 16) (j : Fin 1024) : row (k0_pay25 (F := Ideal) a b) q j = row a q j * row b q j := by
  rw [row_at _ hq, row_at _ hq, row_at _ hq]; pointwise [k0_pay25]
theorem pay26_row (a b : Vec Ideal S16x1024 .bf16) {q : ℕ} (hq : q < 16) (j : Fin 1024) : row (k0_pay26 (F := Ideal) a b) q j = row a q j * row b q j := by
  rw [row_at _ hq, row_at _ hq, row_at _ hq]; pointwise [k0_pay26]
theorem pay13_row (a : Vec Ideal S1x16x1024 .bf16) (b : Vec Ideal S16x1024 .bf16) {q : ℕ} (hq : q < 16) (j : Fin 1024) :
    row (k0_pay13 (F := Ideal) (k0_pay11 (F := Ideal) a) b) q j = lay a 0 q j * row b q j := by
  rw [row_at _ hq, lay_at _ Nat.one_pos hq, row_at _ hq]; pointwise [k0_pay13, k0_pay11]
theorem pay32_row (a : Vec Ideal S1x16x1024 .bf16) (b : Vec Ideal S16x1024 .bf16) {q : ℕ} (hq : q < 16) (j : Fin 1024) :
    row (k0_pay32 (F := Ideal) a b) q j = lay a 0 q j * row b q j := by
  rw [row_at _ hq, lay_at _ Nat.one_pos hq, row_at _ hq]; pointwise [k0_pay32, k0_pay30]
theorem pay3_row {q : ℕ} (hq : q < 8) (j : Fin 1024) : row (k0_pay3 (F := Ideal)) q j = 0 := by
  rw [row_at _ hq]; pointwise [k0_pay3]

/-- Three taps over sixteen rows. -/
def taps3 (a b c : Vec Ideal S8x1024 .f32) (p q s : Vec Ideal S1x16x1024 .f32) (r : ℕ) (j : Fin 1024) : EReal :=
  row a (r % 8) j * lay p 0 r j + row b (r % 8) j * lay q 0 r j + row c (r % 8) j * lay s 0 r j

section Taps

variable (a b c : Vec Ideal S8x1024 .f32) (p q s : Vec Ideal S1x16x1024 .f32) {r : ℕ} (hr : r < 16) (j : Fin 1024)
include hr

theorem pay14_row : row (k0_pay14 (F := Ideal) a p b q c s) r j = taps3 a b c p q s r j := by
  have h8 : r % 8 < 8 := Nat.mod_lt _ (by decide)
  unfold taps3
  rw [row_at _ hr, row_at _ h8, row_at _ h8, row_at _ h8, lay_at _ Nat.one_pos hr, lay_at _ Nat.one_pos hr, lay_at _ Nat.one_pos hr]
  pointwise [k0_pay14]
  by_cases h : r < 8
  · simp only [dif_pos h, Nat.mod_eq_of_lt h]
  · have e : (⟨r % 8, h8⟩ : Fin 8) = ⟨r - 8, by omega⟩ := Fin.ext (by show r % 8 = r - 8; omega)
    simp only [dif_neg h, e]

theorem pay18_row : row (k0_pay18 (F := Ideal) a p b q c s) r j = taps3 a b c p q s r j := pay14_row a b c p q s hr j
theorem pay21_row : row (k0_pay21 (F := Ideal) a p b q c s) r j = taps3 a b c p q s r j := pay14_row a b c p q s hr j

theorem pay12_row (v : Vec Ideal S1x16x1024 .bf16) : lay (k0_pay12 (F := Ideal) a p b q c s v) 0 r j = lay v 0 r j * taps3 a b c p q s r j := by
  rw [← pay18_row a b c p q s hr j, lay_at _ Nat.one_pos hr, lay_at _ Nat.one_pos hr, row_at _ hr]
  show _ = _ * k0_pay18 (F := Ideal) a p b q c s _
  pointwise [k0_pay12, k0_pay11, k0_pay18]

theorem pay31_row (v : Vec Ideal S1x16x1024 .bf16) : lay (k0_pay31 (F := Ideal) (k0_pay14 (F := Ideal) a p b q c s) v) 0 r j = lay v 0 r j * taps3 a b c p q s r j := by
  rw [← pay14_row a b c p q s hr j, lay_at _ Nat.one_pos hr, lay_at _ Nat.one_pos hr, row_at _ hr]
  generalize k0_pay14 (F := Ideal) a p b q c s = z
  pointwise [k0_pay31, k0_pay30]

theorem pay19_row (v : Vec Ideal S16x1024 .bf16) : lay (k0_pay19 (F := Ideal) a p b q c s v) 0 r j = taps3 a b c p q s r j * row v r j := by
  rw [← pay18_row a b c p q s hr j, lay_at _ Nat.one_pos hr, row_at _ hr, row_at _ hr]
  unfold k0_pay19
  generalize k0_pay18 (F := Ideal) a p b q c s = z
  pointwise []

theorem pay20_row (v : Vec Ideal S16x1024 .bf16) : lay (k0_pay20 (F := Ideal) (k0_pay18 (F := Ideal) a p b q c s) v) 0 r j = taps3 a b c p q s r j * row v r j := by
  rw [← pay18_row a b c p q s hr j, lay_at _ Nat.one_pos hr, row_at _ hr, row_at _ hr]
  generalize k0_pay18 (F := Ideal) a p b q c s = z
  pointwise [k0_pay20]

theorem pay8_row (v : Vec Ideal S16x1024 .bf16) : lay (k0_pay8 (F := Ideal) (k0_pay21 (F := Ideal) a p b q c s) v) 0 r j = taps3 a b c p q s r j * row v r j := by
  rw [← pay21_row a b c p q s hr j, lay_at _ Nat.one_pos hr, row_at _ hr, row_at _ hr]
  generalize k0_pay21 (F := Ideal) a p b q c s = z
  pointwise [k0_pay8]

theorem pay9_row (v : Vec Ideal S16x1024 .bf16) : lay (k0_pay9 (F := Ideal) (k0_pay21 (F := Ideal) a p b q c s) v) 0 r j = taps3 a b c p q s r j * row v r j := by
  rw [← pay21_row a b c p q s hr j, lay_at _ Nat.one_pos hr, row_at _ hr, row_at _ hr]
  generalize k0_pay21 (F := Ideal) a p b q c s = z
  pointwise [k0_pay9]

end Taps

/-! ## The copies -/

theorem pay_copy (v : Vec Ideal S544x1024 .f32) {r : ℕ} (hr : r < 544) (j : Fin 1024) : lay (k0_pay27 (F := Ideal) v) 0 r j = row v r j := by
  rw [lay_at _ Nat.one_pos hr, row_at _ hr]; pointwise [k0_pay27]

/-- Copy `s` of the product's rows starts at row 0, 6 or 7; -/
theorem copyP_row (p : Vec Ideal S552x1024 .f32) (sh : Vec Ideal S3x544x1024 .f32) (s : Fin 3) {r : ℕ} (hr : r < 544) (j : Fin 1024) :
    lay (copyP p sh) s.val r j = row p (![0, 6, 7] s + r) j := by
  unfold copyP
  match s with
  | 0 => exact ((lay_out _ _ rfl (.inl (by decide)) j).trans (lay_out _ _ rfl (.inl (by decide)) j)).trans ((lay_in _ _ rfl (by decide) hr ⟨Nat.zero_le _, by omega⟩ j).trans
      ((pay_copy _ (by omega) j).trans (row_f32 p rfl _ (by omega) j)))
  | 1 => exact (lay_out _ _ rfl (.inl (by decide)) j).trans ((lay_in _ _ rfl (by decide) hr ⟨Nat.zero_le _, by omega⟩ j).trans
      ((pay_copy _ (by omega) j).trans (row_f32 p rfl _ (by omega) j)))
  | 2 => exact (lay_in _ _ rfl (by decide) hr ⟨Nat.zero_le _, by omega⟩ j).trans ((pay_copy _ (by omega) j).trans (row_f32 p rfl _ (by omega) j))

/-- of the cotangent's at row 0, 1 or 2. -/
theorem copyD_row (p : Vec Ideal S552x1024 .f32) (sh : Vec Ideal S3x544x1024 .f32) (s : Fin 3) {r : ℕ} (hr : r < 544) (j : Fin 1024) :
    lay (copyD p sh) s.val r j = row p (s.val + r) j := by
  unfold copyD
  match s with
  | 0 => exact ((lay_out _ _ rfl (.inl (by decide)) j).trans (lay_out _ _ rfl (.inl (by decide)) j)).trans ((lay_in _ _ rfl (by decide) hr ⟨Nat.zero_le _, by omega⟩ j).trans
      ((pay_copy _ (by omega) j).trans (row_f32 p rfl _ (by omega) j)))
  | 1 => exact (lay_out _ _ rfl (.inl (by decide)) j).trans ((lay_in _ _ rfl (by decide) hr ⟨Nat.zero_le _, by omega⟩ j).trans
      ((pay_copy _ (by omega) j).trans (row_f32 p rfl _ (by omega) j)))
  | 2 => exact (lay_in _ _ rfl (by decide) hr ⟨Nat.zero_le _, by omega⟩ j).trans ((pay_copy _ (by omega) j).trans (row_f32 p rfl _ (by omega) j))

theorem pay_tap (v : Vec Ideal S1x1024 .f32) {q : ℕ} (hq : q < 8) (j : Fin 1024) : row (k0_pay4 (F := Ideal) v) q j = row v 0 j := by
  rw [row_at _ hq, row_at _ Nat.one_pos]; pointwise [k0_pay4]

/-- Eight rows of each tap. -/
theorem wbOf_row (w : Vec Ideal S3x1024 .f32) (s : Fin 3) {q : ℕ} (hq : q < 8) (j : Fin 1024) : row (wbOf w) (8 * s.val + q) j = row w s.val j := by
  unfold wbOf spread
  match s with
  | 0 => exact ((row_out _ _ rfl (.inl (by show 8 * 0 + q < 16; omega)) j).trans (row_out _ _ rfl (.inl (by show 8 * 0 + q < 8; omega)) j)).trans ((row_in _ _ rfl (by show 8 * 0 + q < 24; omega) (by show 0 ≤ 8 * 0 + q ∧ 8 * 0 + q < 0 + 8; omega) j).trans
      ((pay_tap _ (by show 8 * 0 + q - 0 < 8; omega) j).trans (row_f32 w rfl _ Nat.one_pos j)))
  | 1 => exact (row_out _ _ rfl (.inl (by show 8 * 1 + q < 16; omega)) j).trans ((row_in _ _ rfl (by show 8 * 1 + q < 24; omega) (by show 8 ≤ 8 * 1 + q ∧ 8 * 1 + q < 8 + 8; omega) j).trans
      ((pay_tap _ (by show 8 * 1 + q - 8 < 8; omega) j).trans (row_f32 w rfl _ Nat.one_pos j)))
  | 2 => exact (row_in _ _ rfl (by show 8 * 2 + q < 24; omega) (by show 16 ≤ 8 * 2 + q ∧ 8 * 2 + q < 16 + 8; omega) j).trans ((pay_tap _ (by show 8 * 2 + q - 16 < 8; omega) j).trans (row_f32 w rfl _ Nat.one_pos j))

/-! ## The windows -/

section Windows

variable (i : grid0.Coords) (h2 : k0_cond2 i = 1#1) (x : In Ideal)

theorem prodT_row (ah ac : Vec Ideal S512x1024 .bf16) (k : Fin k0_t1_loop.trips) (a : Vec Ideal S552x1024 .f32) {r : ℕ} (hR : r < 552) (h : 32 + 32 * k.val ≤ r ∧ r < 64 + 32 * k.val) (j : Fin 1024) :
    row (prodT i h2 ah ac k a) r j = row ah (r - 32) j * row ac (r - 32) j := by
  unfold prodT
  by_cases hu : r < 32 + (32 * k.val + 16 * 1)
  · refine (row_out _ _ (off2_eq k 1) (.inl hu) j).trans ((row_in _ _ (off2_eq k 0) hR (by show 32 + (32 * k.val + 16 * 0) ≤ r ∧ r < 32 + (32 * k.val + 16 * 0) + 16; omega) j).trans ?_)
    refine (pay25_row _ _ (by show r - (32 + (32 * k.val + 16 * 0)) < 16; omega) j).trans (congr (congrArg _ ?_) ?_) <;>
      exact (row_bf16 _ (off1_eq k 0) _ (by show r - (32 + (32 * k.val + 16 * 0)) < 16; omega) j).trans (congrArg (fun n => row _ n j) (by show 32 * k.val + 16 * 0 + (r - (32 + (32 * k.val + 16 * 0))) = r - 32; omega))
  · refine (row_in _ _ (off2_eq k 1) hR (by show 32 + (32 * k.val + 16 * 1) ≤ r ∧ r < 32 + (32 * k.val + 16 * 1) + 16; omega) j).trans ?_
    refine (pay26_row _ _ (by show r - (32 + (32 * k.val + 16 * 1)) < 16; omega) j).trans (congr (congrArg _ ?_) ?_) <;>
      exact (row_bf16 _ (off1_eq k 1) _ (by show r - (32 + (32 * k.val + 16 * 1)) < 16; omega) j).trans (congrArg (fun n => row _ n j) (by show 32 * k.val + 16 * 1 + (r - (32 + (32 * k.val + 16 * 1))) = r - 32; omega))

theorem prodT_other (ah ac : Vec Ideal S512x1024 .bf16) (k : Fin k0_t1_loop.trips) (a : Vec Ideal S552x1024 .f32) {r : ℕ} (h : r < 32 + 32 * k.val ∨ 64 + 32 * k.val ≤ r) (j : Fin 1024) :
    row (prodT i h2 ah ac k a) r j = row a r j :=
  (row_out _ _ (off2_eq k 1) (by show r < 32 + (32 * k.val + 16 * 1) ∨ 32 + (32 * k.val + 16 * 1) + 16 ≤ r; omega) j).trans
    (row_out _ _ (off2_eq k 0) (by show r < 32 + (32 * k.val + 16 * 0) ∨ 32 + (32 * k.val + 16 * 0) + 16 ≤ r; omega) j)

/-- The product's window, -/
def prodAt (r : ℕ) (j : Fin 1024) : EReal :=
  if r < 32 then (if (7 - (i 0).val) % 4 = 0 then 0 else row x.hh r j * row x.hc r j) else row x.ah (r - 32) j * row x.ac (r - 32) j

theorem pOf_row {r : ℕ} (hr : r < 544) (j : Fin 1024) : row (pOf i h2 x) r j = prodAt i x r j := by
  unfold pOf prodS prodAt
  by_cases h : r < 32
  · rw [if_pos h]
    refine (iter_keep (fun v => row v r j) (fun k a => prodT_other i h2 _ _ k a (.inl (by omega)) j) _ _).trans ?_
    exact (row_in _ _ rfl (by omega) ⟨Nat.zero_le _, by omega⟩ j).trans (pay22_row i _ _ h j)
  · rw [if_neg h]
    have hl : (r - 32) / 32 < k0_t1_loop.trips := by rw [trips1]; omega
    refine iter_val (fun v => row v r j) ⟨_, hl⟩ (fun k hk a => prodT_other i h2 _ _ k a ?_ j) (fun a => prodT_row i h2 _ _ _ a (by omega) ?_ j) _ _ hl
    · have e : k.val ≠ (r - 32) / 32 := fun e => hk (Fin.ext e)
      omega
    · show 32 + 32 * ((r - 32) / 32) ≤ r ∧ r < 64 + 32 * ((r - 32) / 32)
      omega

theorem midCt_row (dy : Vec Ideal S1x512x1024 .bf16) (ab : Vec Ideal S512x1024 .bf16) (k : Fin k0_t2_loop.trips) (a : Vec Ideal S552x1024 .f32) {r : ℕ} (hR : r < 552) (h : 32 * k.val ≤ r ∧ r < 32 + 32 * k.val) (j : Fin 1024) :
    row (midCt i h2 dy ab k a) r j = lay dy 0 r j * row ab r j := by
  unfold midCt
  by_cases hu : r < 32 * k.val + 16 * 1
  · refine (row_out _ _ (off9_eq k 1) (.inl hu) j).trans ((row_in _ _ (off9_eq k 0) hR (by show 32 * k.val + 16 * 0 ≤ r ∧ r < 32 * k.val + 16 * 0 + 16; omega) j).trans ?_)
    have hq : r - (32 * k.val + 16 * 0) < 16 := by omega
    have e : 32 * k.val + 16 * 0 + (r - (32 * k.val + 16 * 0)) = r := by omega
    exact (pay13_row _ _ hq j).trans (congr (congrArg _ ((lay_bf16 _ (off6_eq k 0) _ hq j).trans (congrArg (fun n => lay dy 0 n j) e)))
      ((row_bf16 _ (off8_eq k 0) _ hq j).trans (congrArg (fun n => row ab n j) e)))
  · refine (row_in _ _ (off9_eq k 1) hR (by show 32 * k.val + 16 * 1 ≤ r ∧ r < 32 * k.val + 16 * 1 + 16; omega) j).trans ?_
    have hq : r - (32 * k.val + 16 * 1) < 16 := by omega
    have e : 32 * k.val + 16 * 1 + (r - (32 * k.val + 16 * 1)) = r := by omega
    exact (pay32_row _ _ hq j).trans (congr (congrArg _ ((lay_bf16 _ (off6_eq k 1) _ hq j).trans (congrArg (fun n => lay dy 0 n j) e)))
      ((row_bf16 _ (off8_eq k 1) _ hq j).trans (congrArg (fun n => row ab n j) e)))

theorem midCt_other (dy : Vec Ideal S1x512x1024 .bf16) (ab : Vec Ideal S512x1024 .bf16) (k : Fin k0_t2_loop.trips) (a : Vec Ideal S552x1024 .f32) {r : ℕ} (h : r < 32 * k.val ∨ 32 + 32 * k.val ≤ r) (j : Fin 1024) :
    row (midCt i h2 dy ab k a) r j = row a r j :=
  (row_out _ _ (off9_eq k 1) (by show r < 32 * k.val + 16 * 1 ∨ 32 * k.val + 16 * 1 + 16 ≤ r; omega) j).trans
    (row_out _ _ (off9_eq k 0) (by show r < 32 * k.val + 16 * 0 ∨ 32 * k.val + 16 * 0 + 16 ≤ r; omega) j)

/-- the cotangent's: its own rows, -/
theorem ctS_row (d : Vec Ideal S552x1024 .f32) {r : ℕ} (hr : r < 512) (j : Fin 1024) : row (ctS i h2 x d) r j = lay x.dy 0 r j * row x.ab r j := by
  unfold ctS
  have hl : r / 32 < k0_t2_loop.trips := by rw [trips2]; omega
  refine iter_val (fun v => row v r j) ⟨_, hl⟩ (fun k hk a => midCt_other i h2 _ _ k a ?_ j) (fun a => midCt_row i h2 _ _ _ a (by omega) ?_ j) _ _ hl
  · have e : k.val ≠ r / 32 := fun e => hk (Fin.ext e)
    omega
  · show 32 * (r / 32) ≤ r ∧ r < 32 + 32 * (r / 32)
    omega

/-- and the carried ones. -/
theorem ctS_carried (d : Vec Ideal S552x1024 .f32) {r : ℕ} (hr : 512 ≤ r ∧ r < 544) (j : Fin 1024) :
    row (ctS i h2 x d) r j = if (7 - (i 0).val) % 4 = 3 then 0 else row d (r - 512) j := by
  unfold ctS
  refine (iter_keep (fun v => row v r j) (fun k a => midCt_other i h2 _ _ k a (.inr ?_) j) _ _).trans ?_
  · have : k.val < 16 := lt_of_lt_of_eq k.isLt trips2
    omega
  · have hq : r - 512 < 32 := by omega
    refine (row_in _ _ rfl (by omega) ⟨hr.1, by omega⟩ j).trans ((pay23_row i _ hq j).trans ?_)
    refine if_congr Iff.rfl rfl ((row_f32 d rfl _ hq j).trans (congrArg (fun n => row d n j) (Nat.zero_add _)))

end Windows

/-! ## The stage -/

section Stage

variable (i : grid0.Coords) (h2 : k0_cond2 i = 1#1) {sh : Vec Ideal S3x544x1024 .f32} {wb : Vec Ideal S24x1024 .f32} {W : ℕ → EReal} {j : Fin 1024}
  (hW : ∀ s q, s < 3 → q < 8 → row wb (8 * s + q) j = W s)
include hW

/-- The taps over rows of the copies. -/
theorem taps3_eq {o0 o1 o2 : Fin 3 → ℕ} {s0 s1 s2 p0 p1 p2 : ℕ} (e0 : o0 = ![s0, p0, 0]) (e1 : o1 = ![s1, p1, 0]) (e2 : o2 = ![s2, p2, 0]) (i0 i1 i2) {q : ℕ} (hq : q < 16) :
    taps3 (View.ld (Val := Elt Ideal) wb (Rect.unit ![0, 0] S8x1024.size inb_S24x1024_S8x1024_0_0))
      (View.ld (Val := Elt Ideal) wb (Rect.unit ![8, 0] S8x1024.size inb_S24x1024_S8x1024_8_0))
      (View.ld (Val := Elt Ideal) wb (Rect.unit ![16, 0] S8x1024.size inb_S24x1024_S8x1024_16_0))
      (View.ld (Val := Elt Ideal) sh (Rect.unit o0 S1x16x1024.size i0)) (View.ld (Val := Elt Ideal) sh (Rect.unit o1 S1x16x1024.size i1))
      (View.ld (Val := Elt Ideal) sh (Rect.unit o2 S1x16x1024.size i2)) q j
      = W 0 * lay sh s0 (p0 + q) j + W 1 * lay sh s1 (p1 + q) j + W 2 * lay sh s2 (p2 + q) j := by
  have h8 : q % 8 < 8 := Nat.mod_lt _ (by decide)
  unfold taps3
  exact congr (congrArg _ (congr (congrArg _ (congr (congrArg _ ((row_f32 wb rfl _ h8 j).trans (hW 0 _ (by decide) h8))) (lay_f32 sh e0 _ hq j)))
    (congr (congrArg _ ((row_f32 wb rfl _ h8 j).trans (hW 1 _ (by decide) h8))) (lay_f32 sh e1 _ hq j))))
    (congr (congrArg _ ((row_f32 wb rfl _ h8 j).trans (hW 2 _ (by decide) h8))) (lay_f32 sh e2 _ hq j))

theorem midStage_row (dy : Vec Ideal S1x512x1024 .bf16) (k : Fin k0_t2_loop.trips) (a : Vec Ideal S3x512x1024 .bf16) {r : ℕ} (hR : r < 512) (h : 32 * k.val ≤ r ∧ r < 32 + 32 * k.val) :
    lay (midStage i h2 dy sh wb k a) 1 r j = lay dy 0 r j * (W 0 * lay sh 1 (24 + r) j + W 1 * lay sh 2 (24 + r) j + W 2 * lay sh 0 (32 + r) j) := by
  unfold midStage
  by_cases hu : r < 32 * k.val + 16 * 1
  · refine (lay_out _ _ (off7_eq k 1) (.inr (.inl hu)) j).trans ((lay_in _ _ (off7_eq k 0) (by decide) hR (by show 32 * k.val + 16 * 0 ≤ r ∧ r < 32 * k.val + 16 * 0 + 16; omega) j).trans ?_)
    have hq : r - (32 * k.val + 16 * 0) < 16 := by omega
    have e : ∀ n, n + (32 * k.val + 16 * 0) + (r - (32 * k.val + 16 * 0)) = n + r := by omega
    refine (pay12_row _ _ _ _ _ _ hq j _).trans (congr (congrArg _ ((lay_bf16 _ (off6_eq k 0) _ hq j).trans (congrArg (fun n => lay dy 0 n j) (by show 32 * k.val + 16 * 0 + (r - (32 * k.val + 16 * 0)) = r; omega)))) ?_)
    refine (taps3_eq hW (off3_eq k 0) (off4_eq k 0) (off5_eq k 0) _ _ _ hq).trans ?_
    show W 0 * lay sh 1 (24 + (32 * k.val + 16 * 0) + _) j + W 1 * lay sh 2 (24 + (32 * k.val + 16 * 0) + _) j + W 2 * lay sh 0 (32 + (32 * k.val + 16 * 0) + _) j = _
    rw [e, e]
  · refine (lay_in _ _ (off7_eq k 1) (by decide) hR (by show 32 * k.val + 16 * 1 ≤ r ∧ r < 32 * k.val + 16 * 1 + 16; omega) j).trans ?_
    have hq : r - (32 * k.val + 16 * 1) < 16 := by omega
    have e : ∀ n, n + (32 * k.val + 16 * 1) + (r - (32 * k.val + 16 * 1)) = n + r := by omega
    refine (pay31_row _ _ _ _ _ _ hq j _).trans (congr (congrArg _ ((lay_bf16 _ (off6_eq k 1) _ hq j).trans (congrArg (fun n => lay dy 0 n j) (by show 32 * k.val + 16 * 1 + (r - (32 * k.val + 16 * 1)) = r; omega)))) ?_)
    refine (taps3_eq hW (off3_eq k 1) (off4_eq k 1) (off5_eq k 1) _ _ _ hq).trans ?_
    show W 0 * lay sh 1 (24 + (32 * k.val + 16 * 1) + _) j + W 1 * lay sh 2 (24 + (32 * k.val + 16 * 1) + _) j + W 2 * lay sh 0 (32 + (32 * k.val + 16 * 1) + _) j = _
    rw [e, e]

omit hW in
theorem midStage_other (dy : Vec Ideal S1x512x1024 .bf16) (k : Fin k0_t2_loop.trips) (a : Vec Ideal S3x512x1024 .bf16) {b r : ℕ} (h : b ≠ 1 ∨ r < 32 * k.val ∨ 32 + 32 * k.val ≤ r) :
    lay (midStage i h2 dy sh wb k a) b r j = lay a b r j :=
  (lay_out _ _ (off7_eq k 1) (by show b ≠ 1 ∨ r < 32 * k.val + 16 * 1 ∨ 32 * k.val + 16 * 1 + 16 ≤ r; omega) j).trans
    (lay_out _ _ (off7_eq k 0) (by show b ≠ 1 ∨ r < 32 * k.val + 16 * 0 ∨ 32 * k.val + 16 * 0 + 16 ≤ r; omega) j)

/-- The inner gate's gradient, -/
theorem stage1_row (x : In Ideal) (sg : Vec Ideal S3x512x1024 .bf16) {r : ℕ} (hr : r < 512) :
    lay (stage1 i h2 x sh wb sg) 1 r j = lay x.dy 0 r j * (W 0 * lay sh 1 (24 + r) j + W 1 * lay sh 2 (24 + r) j + W 2 * lay sh 0 (32 + r) j) := by
  unfold stage1
  have hl : r / 32 < k0_t2_loop.trips := by rw [trips2]; omega
  refine iter_val (fun v => lay v 1 r j) ⟨_, hl⟩ (fun k hk a => midStage_other i h2 _ k a ?_) (fun a => midStage_row i h2 hW _ _ a hr ?_) _ _ hl
  · have e : k.val ≠ r / 32 := fun e => hk (Fin.ext e)
    omega
  · show 32 * (r / 32) ≤ r ∧ r < 32 + 32 * (r / 32)
    omega

/-- The gradient of the product of the outer gates, before the other gate's factor. -/
def back (sh : Vec Ideal S3x544x1024 .f32) (W : ℕ → EReal) (r : ℕ) (j : Fin 1024) : EReal := W 0 * lay sh 2 r j + W 1 * lay sh 1 r j + W 2 * lay sh 0 r j

theorem fin_taps (k : Fin k0_t4_loop.trips) (u : Fin 2) (i0 i1 i2) {r : ℕ} (hr : 32 * k.val + 16 * u.val ≤ r ∧ r < 32 * k.val + 16 * u.val + 16) :
    taps3 (View.ld (Val := Elt Ideal) wb (Rect.unit ![0, 0] S8x1024.size inb_S24x1024_S8x1024_0_0))
      (View.ld (Val := Elt Ideal) wb (Rect.unit ![8, 0] S8x1024.size inb_S24x1024_S8x1024_8_0))
      (View.ld (Val := Elt Ideal) wb (Rect.unit ![16, 0] S8x1024.size inb_S24x1024_S8x1024_16_0))
      (View.ld (Val := Elt Ideal) sh (Rect.unit (k0_off14 k (BitVec.ofNat 32 u.val)) S1x16x1024.size i0)) (View.ld (Val := Elt Ideal) sh (Rect.unit (k0_off15 k (BitVec.ofNat 32 u.val)) S1x16x1024.size i1))
      (View.ld (Val := Elt Ideal) sh (Rect.unit (k0_off16 k (BitVec.ofNat 32 u.val)) S1x16x1024.size i2)) (r - (32 * k.val + 16 * u.val)) j = back sh W r j := by
  have e : 32 * k.val + 16 * u.val + (r - (32 * k.val + 16 * u.val)) = r := by omega
  refine (taps3_eq hW (off14_eq k u) (off15_eq k u) (off16_eq k u) _ _ _ (by omega)).trans ?_
  rw [e]; rfl

theorem finT_row (ah ac : Vec Ideal S512x1024 .bf16) (k : Fin k0_t4_loop.trips) (a : Vec Ideal S3x512x1024 .bf16) {r : ℕ} (hR : r < 512) (h : 32 * k.val ≤ r ∧ r < 32 + 32 * k.val) :
    lay (finT i h2 ah ac sh wb k a) 0 r j = back sh W r j * row ac r j ∧ lay (finT i h2 ah ac sh wb k a) 2 r j = back sh W r j * row ah r j := by
  unfold finT
  by_cases hu : r < 32 * k.val + 16 * 1
  · have hc : 32 * k.val + 16 * 0 ≤ r ∧ r < 32 * k.val + 16 * 0 + 16 := by omega
    have hq : r - (32 * k.val + 16 * 0) < 16 := by omega
    have e : 32 * k.val + 16 * 0 + (r - (32 * k.val + 16 * 0)) = r := by omega
    constructor
    · refine (lay_out _ _ (off19_eq k 1) (.inl (by decide)) j).trans ((lay_out _ _ (off18_eq k 1) (.inr (.inl hu)) j).trans ((lay_out _ _ (off19_eq k 0) (.inl (by decide)) j).trans ((lay_in _ _ (off18_eq k 0) (by decide) hR hc j).trans ?_)))
      exact (pay19_row _ _ _ _ _ _ hq j _).trans (congr (congrArg _ (fin_taps hW k 0 _ _ _ hc)) ((row_bf16 _ (off17_eq k 0) _ hq j).trans (congrArg (fun n => row ac n j) e)))
    · refine (lay_out _ _ (off19_eq k 1) (.inr (.inl hu)) j).trans ((lay_out _ _ (off18_eq k 1) (.inl (by decide)) j).trans ((lay_in _ _ (off19_eq k 0) (by decide) hR hc j).trans ?_))
      exact (pay20_row _ _ _ _ _ _ hq j _).trans (congr (congrArg _ (fin_taps hW k 0 _ _ _ hc)) ((row_bf16 _ (off17_eq k 0) _ hq j).trans (congrArg (fun n => row ah n j) e)))
  · have hc : 32 * k.val + 16 * 1 ≤ r ∧ r < 32 * k.val + 16 * 1 + 16 := by omega
    have hq : r - (32 * k.val + 16 * 1) < 16 := by omega
    have e : 32 * k.val + 16 * 1 + (r - (32 * k.val + 16 * 1)) = r := by omega
    constructor
    · refine (lay_out _ _ (off19_eq k 1) (.inl (by decide)) j).trans ((lay_in _ _ (off18_eq k 1) (by decide) hR hc j).trans ?_)
      exact (pay8_row _ _ _ _ _ _ hq j _).trans (congr (congrArg _ (fin_taps hW k 1 _ _ _ hc)) ((row_bf16 _ (off17_eq k 1) _ hq j).trans (congrArg (fun n => row ac n j) e)))
    · refine (lay_in _ _ (off19_eq k 1) (by decide) hR hc j).trans ?_
      exact (pay9_row _ _ _ _ _ _ hq j _).trans (congr (congrArg _ (fin_taps hW k 1 _ _ _ hc)) ((row_bf16 _ (off17_eq k 1) _ hq j).trans (congrArg (fun n => row ah n j) e)))

omit hW in
theorem finT_other (ah ac : Vec Ideal S512x1024 .bf16) (k : Fin k0_t4_loop.trips) (a : Vec Ideal S3x512x1024 .bf16) {b r : ℕ} (h : b = 1 ∨ r < 32 * k.val ∨ 32 + 32 * k.val ≤ r) :
    lay (finT i h2 ah ac sh wb k a) b r j = lay a b r j :=
  (lay_out _ _ (off19_eq k 1) (by show b ≠ 2 ∨ r < 32 * k.val + 16 * 1 ∨ 32 * k.val + 16 * 1 + 16 ≤ r; omega) j).trans
    ((lay_out _ _ (off18_eq k 1) (by show b ≠ 0 ∨ r < 32 * k.val + 16 * 1 ∨ 32 * k.val + 16 * 1 + 16 ≤ r; omega) j).trans
    ((lay_out _ _ (off19_eq k 0) (by show b ≠ 2 ∨ r < 32 * k.val + 16 * 0 ∨ 32 * k.val + 16 * 0 + 16 ≤ r; omega) j).trans
    (lay_out _ _ (off18_eq k 0) (by show b ≠ 0 ∨ r < 32 * k.val + 16 * 0 ∨ 32 * k.val + 16 * 0 + 16 ≤ r; omega) j)))

/-- the outer two's, -/
theorem stage2_outer (x : In Ideal) (sg : Vec Ideal S3x512x1024 .bf16) {r : ℕ} (hr : r < 512) :
    lay (stage2 i h2 x sh wb sg) 0 r j = back sh W r j * row x.ac r j ∧ lay (stage2 i h2 x sh wb sg) 2 r j = back sh W r j * row x.ah r j := by
  unfold stage2
  have hl : r / 32 < k0_t4_loop.trips := by rw [trips4]; omega
  have hc : 32 * (r / 32) ≤ r ∧ r < 32 + 32 * (r / 32) := by omega
  have ho : ∀ k : Fin k0_t4_loop.trips, k ≠ ⟨r / 32, hl⟩ → r < 32 * k.val ∨ 32 + 32 * k.val ≤ r := fun k hk => by
    have e : k.val ≠ r / 32 := fun e => hk (Fin.ext e)
    omega
  exact ⟨iter_val (fun v => lay v 0 r j) ⟨_, hl⟩ (fun k hk a => finT_other i h2 _ _ k a (.inr (ho k hk))) (fun a => (finT_row i h2 hW _ _ ⟨_, hl⟩ a hr hc).1) _ _ hl,
    iter_val (fun v => lay v 2 r j) ⟨_, hl⟩ (fun k hk a => finT_other i h2 _ _ k a (.inr (ho k hk))) (fun a => (finT_row i h2 hW _ _ ⟨_, hl⟩ a hr hc).2) _ _ hl⟩

omit hW in
/-- which leave the inner one's. -/
theorem stage2_inner (x : In Ideal) (sg : Vec Ideal S3x512x1024 .bf16) {r : ℕ} : lay (stage2 i h2 x sh wb sg) 1 r j = lay sg 1 r j :=
  iter_keep (fun v => lay v 1 r j) (fun k a => finT_other i h2 _ _ k a (.inl rfl)) _ _

end Stage

/-- The slab a point writes. -/
theorem off20_eq : ∀ i : grid0.Coords, k0_off20 i = ![(i 1).val, 0, 0] := by decide +kernel

theorem slab_row (i : grid0.Coords) (sg : Vec Ideal S3x512x1024 .bf16) {r : ℕ} (hr : r < 512) (j : Fin 1024) : row (slab i sg) r j = lay sg (i 1).val r j := by
  have e : ∀ v : Vec Ideal S1x512x1024 .bf16, row (k0_pay10 (F := Ideal) v) r j = lay v 0 r j := fun v => by
    rw [row_at _ hr, lay_at _ Nat.one_pos hr]; pointwise [k0_pay10]
  exact (e _).trans ((lay_bf16 sg (off20_eq i) _ hr j).trans (congrArg (fun n => lay sg _ n j) (Nat.zero_add r)))

/-! ## The taps' gradients -/

section Sums

variable (i : grid0.Coords) (h2 : k0_cond2 i = 1#1) (d : Vec Ideal S552x1024 .f32) (sh : Vec Ideal S3x544x1024 .f32)

theorem acc_row (v : FVec Ideal S8x1024 .f32) (a b : Vec Ideal S8x1024 .f32) (p q : Vec Ideal S1x8x1024 .f32) {r : ℕ} (hr : r < 8) (j : Fin 1024) :
    row (k0_pay17 (F := Ideal) v a p b q) r j = row v r j + (row a r j * lay p 0 r j + row b r j * lay q 0 r j) := by
  rw [row_at _ hr, row_at _ hr, row_at _ hr, row_at _ hr, lay_at _ Nat.one_pos hr, lay_at _ Nat.one_pos hr, ← add_assoc]
  pointwise [k0_pay17]

/-- A product of a row of the cotangent and one of copy `s`. -/
def term (s o : ℕ) (j : Fin 1024) (r : ℕ) : EReal := row d r j * lay sh s (o + r) j

theorem pair_row (v : FVec Ideal S8x1024 .f32) {s o l : ℕ} {o0 o1 : Fin 2 → ℕ} {p0 p1 : Fin 3 → ℕ} (e0 : o0 = ![16 * l + 8 * 0, 0]) (e1 : o1 = ![16 * l + 8 * 1, 0])
    (f0 : p0 = ![s, o + (16 * l + 8 * 0), 0]) (f1 : p1 = ![s, o + (16 * l + 8 * 1), 0]) (a0 a1 b0 b1) {r : ℕ} (hr : r < 8) (j : Fin 1024) :
    row (k0_pay17 (F := Ideal) v (View.ld (Val := Elt Ideal) d (Rect.unit o0 S8x1024.size a0)) (View.ld (Val := Elt Ideal) sh (Rect.unit p0 S1x8x1024.size b0))
      (View.ld (Val := Elt Ideal) d (Rect.unit o1 S8x1024.size a1)) (View.ld (Val := Elt Ideal) sh (Rect.unit p1 S1x8x1024.size b1))) r j
      = row v r j + (term d sh s o j (16 * l + r) + term d sh s o j (16 * l + (8 + r))) := by
  refine (acc_row v _ _ _ _ hr j).trans (congrArg _ (congr (congrArg _ ?_) ?_)) <;> unfold term
  · exact congr (congrArg _ ((row_f32 d e0 _ hr j).trans (congrArg (fun n => row d n j) (by omega)))) ((lay_f32 sh f0 _ hr j).trans (congrArg (fun n => lay sh s n j) (by omega)))
  · exact congr (congrArg _ ((row_f32 d e1 _ hr j).trans (congrArg (fun n => row d n j) (by omega)))) ((lay_f32 sh f1 _ hr j).trans (congrArg (fun n => lay sh s n j) (by omega)))

/-- A tile's products, summed by eights of rows, are summed over its rows. -/
theorem eights (t : ℕ → EReal) : ∑ r ∈ Finset.range 8, ∑ l ∈ Finset.range 32, (t (16 * l + r) + t (16 * l + (8 + r))) = ∑ r ∈ Finset.range 512, t r := by
  rw [Finset.sum_comm]
  refine Eq.trans (Finset.sum_congr rfl fun l _ => ?_) (sum_blocks t 16 32)
  rw [Finset.sum_add_distrib]
  exact (Finset.sum_range_add (fun a => t (16 * l + a)) 8 8).symm

theorem zero_row {r : ℕ} (hr : r < 8) (j : Fin 1024) : row (k0_pay33 (F := Ideal)) r j = 0 := by rw [row_at _ hr]; pointwise [k0_pay33]

theorem accS_row {r : ℕ} (hr : r < 8) (j : Fin 1024) :
    row (accS i h2 d sh).1 r j = ∑ l ∈ Finset.range 32, (term d sh 1 24 j (16 * l + r) + term d sh 1 24 j (16 * l + (8 + r)))
    ∧ row (accS i h2 d sh).2.1 r j = ∑ l ∈ Finset.range 32, (term d sh 2 24 j (16 * l + r) + term d sh 2 24 j (16 * l + (8 + r)))
    ∧ row (accS i h2 d sh).2.2 r j = ∑ l ∈ Finset.range 32, (term d sh 0 32 j (16 * l + r) + term d sh 0 32 j (16 * l + (8 + r))) := by
  unfold accS
  have hk : k0_t3_loop.trips ≤ k0_t3_loop.trips := Nat.le_refl _
  have e : ∀ t : ℕ → EReal, ∑ l ∈ Finset.range k0_t3_loop.trips, t l = ∑ l ∈ Finset.range 32, t l := fun t => by rw [trips3]
  refine ⟨(iter_sum (fun a : Acc Ideal => row a.1 r j) (fun l => term d sh 1 24 j (16 * l + r) + term d sh 1 24 j (16 * l + (8 + r))) (fun k a => ?_) _ _ hk).trans ?_,
    (iter_sum (fun a : Acc Ideal => row a.2.1 r j) (fun l => term d sh 2 24 j (16 * l + r) + term d sh 2 24 j (16 * l + (8 + r))) (fun k a => ?_) _ _ hk).trans ?_,
    (iter_sum (fun a : Acc Ideal => row a.2.2 r j) (fun l => term d sh 0 32 j (16 * l + r) + term d sh 0 32 j (16 * l + (8 + r))) (fun k a => ?_) _ _ hk).trans ?_⟩
  · exact pair_row d sh a.1 (off10_eq k 0) (off10_eq k 1) (off11_eq k 0) (off11_eq k 1) _ _ _ _ hr j
  · rw [e, zero_row hr, zero_add]
  · exact pair_row d sh a.2.1 (off10_eq k 0) (off10_eq k 1) (off12_eq k 0) (off12_eq k 1) _ _ _ _ hr j
  · rw [e]; exact (congrArg (· + _) (zero_row hr j)).trans (zero_add _)
  · exact pair_row d sh a.2.2 (off10_eq k 0) (off10_eq k 1) (off13_eq k 0) (off13_eq k 1) _ _ _ _ hr j
  · rw [e]; exact (congrArg (· + _) (zero_row hr j)).trans (zero_add _)

theorem pay38_row (a : FVec Ideal S8x1024 .f32) (v : Vec Ideal S1x1024 .f32) (j : Fin 1024) :
    row (k0_pay38 (F := Ideal) a v) 0 j = row v 0 j + ∑ r ∈ Finset.range 8, row a r j := by
  rw [row_at _ Nat.one_pos, row_at _ Nat.one_pos, Finset.sum_range]
  simp only [← row_val]
  pointwise [k0_pay38]

/-- The sums added to the taps' gradients. -/
theorem addDw_row (a : Acc Ideal) (dw : Vec Ideal S3x1024 .f32) (j : Fin 1024) :
    row (addDw a dw) 0 j = row dw 0 j + ∑ r ∈ Finset.range 8, row a.1 r j
    ∧ row (addDw a dw) 1 j = row dw 1 j + ∑ r ∈ Finset.range 8, row a.2.1 r j
    ∧ row (addDw a dw) 2 j = row dw 2 j + ∑ r ∈ Finset.range 8, row a.2.2 r j := by
  unfold addDw
  refine ⟨(row_out _ _ rfl (.inl (by decide)) j).trans ((row_out _ _ rfl (.inl (by decide)) j).trans ((row_in _ _ rfl (by decide) (by decide) j).trans ((pay38_row _ _ j).trans (congrArg (· + _) (row_f32 dw rfl _ Nat.one_pos j))))),
    (row_out _ _ rfl (.inl (by decide)) j).trans ((row_in _ _ rfl (by decide) (by decide) j).trans ((pay38_row _ _ j).trans (congrArg (· + _) (row_f32 dw rfl _ Nat.one_pos j)))),
    (row_in _ _ rfl (by decide) (by decide) j).trans ((pay38_row _ _ j).trans (congrArg (· + _) (row_f32 dw rfl _ Nat.one_pos j)))⟩

end Sums

/-! ## A tile -/

section Tile

variable (i : grid0.Coords) (h2 : k0_cond2 i = 1#1) (x : In Ideal) (d : Vec Ideal S552x1024 .f32)

/-- The taps' gradients gain the cotangent's rows times the product's, one and two rows before. -/
theorem dwOf_row (dw : Vec Ideal S3x1024 .f32) (s : Fin 3) (j : Fin 1024) :
    row (dwOf i h2 x d dw) s.val j = row dw s.val j + ∑ r ∈ Finset.range 512, row d r j * prodAt i x (30 + s.val + r) j := by
  have ha := fun r (hr : r ∈ Finset.range 8) => accS_row i h2 d (shP i h2 x) (Finset.mem_range.mp hr) j
  have hd := addDw_row (accS i h2 d (shP i h2 x)) dw j
  have ht : ∀ (k : Fin 3) (o e : ℕ), ![0, 6, 7] k + o = e → o ≤ 32 → e ≤ 32 → ∑ r ∈ Finset.range 512, term d (shP i h2 x) k.val o j r = ∑ r ∈ Finset.range 512, row d r j * prodAt i x (e + r) j :=
    fun k o e h ho he => Finset.sum_congr rfl fun r hr => by
      have hr := Finset.mem_range.mp hr
      unfold term
      rw [shP, copyP_row _ _ k (by omega), ← Nat.add_assoc, h, pOf_row i h2 x (by omega)]
  unfold dwOf
  match s with
  | 0 => exact hd.1.trans (congrArg _ ((Finset.sum_congr rfl fun r hr => (ha r hr).1).trans ((eights _).trans (ht 1 24 30 rfl (by decide) (by decide)))))
  | 1 => exact hd.2.1.trans (congrArg _ ((Finset.sum_congr rfl fun r hr => (ha r hr).2.1).trans ((eights _).trans (ht 2 24 31 rfl (by decide) (by decide)))))
  | 2 => exact hd.2.2.trans (congrArg _ ((Finset.sum_congr rfl fun r hr => (ha r hr).2.2).trans ((eights _).trans (ht 0 32 32 rfl (by decide) (by decide)))))

variable (w : Vec Ideal S3x1024 .f32) {r : ℕ} (hr : r < 512) (j : Fin 1024)
include hr

/-- The taps over the cotangent's rows. -/
def dpAt (r : ℕ) (j : Fin 1024) : EReal := row w 0 j * row d (2 + r) j + row w 1 j * row d (1 + r) j + row w 2 j * row d (0 + r) j

/-- The three gates' gradients. -/
theorem stage_row :
    lay (stageOf i h2 x (wbOf w) d) 0 r j = dpAt d w r j * row x.ac r j
    ∧ lay (stageOf i h2 x (wbOf w) d) 1 r j = lay x.dy 0 r j * (row w 0 j * prodAt i x (30 + r) j + row w 1 j * prodAt i x (31 + r) j + row w 2 j * prodAt i x (32 + r) j)
    ∧ lay (stageOf i h2 x (wbOf w) d) 2 r j = dpAt d w r j * row x.ah r j := by
  have hW : ∀ s q, s < 3 → q < 8 → row (wbOf w) (8 * s + q) j = row w s j := fun s q hs hq => wbOf_row w ⟨s, hs⟩ hq j
  have hb : back (shD d) (fun s => row w s j) r j = dpAt d w r j := by
    have e := fun s : Fin 3 => copyD_row d (fun _ => zero) s (show r < 544 by omega) j
    unfold back dpAt
    exact congr (congrArg _ (congr (congrArg _ (congrArg _ (e 2))) (congrArg _ (e 1)))) (congrArg _ (e 0))
  have ho := stage2_outer i h2 hW x (sh := shD d) (stage1 i h2 x (shP i h2 x) (wbOf w) fun _ => x.ah (ix2 0 0)) hr
  rw [hb] at ho
  refine ⟨ho.1, ?_, ho.2⟩
  refine (stage2_inner i h2 x _).trans ((stage1_row i h2 hW x _ hr).trans (congrArg _ ?_))
  have e : ∀ (k : Fin 3) (o f : ℕ), ![0, 6, 7] k + o = f → o ≤ 32 → f ≤ 32 → lay (shP i h2 x) k.val (o + r) j = prodAt i x (f + r) j := fun k o f h ho hf => by
    rw [shP, copyP_row _ _ k (by omega), ← Nat.add_assoc, h, pOf_row i h2 x (by omega)]
  exact congr (congrArg _ (congr (congrArg _ (congrArg _ (e 1 24 30 rfl (by decide) (by decide)))) (congrArg _ (e 2 24 31 rfl (by decide) (by decide))))) (congrArg _ (e 0 32 32 rfl (by decide) (by decide)))

end Tile

end Cert.MixAIdeal.Block

end
-- ==== Proof.MixAArrays.lean ====
/- What the short convolution's gradient's arrays hold at the end. -/
module

public import proofs.«01_k».proof.Proof.MixABlock
public import proofs.«01_k».proof.Proof.MixARun

@[expose] public section

set_option maxRecDepth 16384

noncomputable section

namespace Cert.MixAModel

open Idealize.ShloMosaic Cert.MixAIdeal.Rows

variable (y : Shape.Idx ⟨3, ![3, 4096, 1024]⟩ → EReal) (z : Shape.Idx ⟨2, ![4096, 10240]⟩ → EReal) (w : Shape.Idx ⟨2, ![3, 1024]⟩ → EReal) (R : ℕ) (j : Fin 1024)

/-- A row of one of the three gates. -/
def gateRow (b : Fin 3) : EReal := if h : R < 4096 then z (ix2 ⟨R, h⟩ ⟨1024 * b.val + j.val, by omega⟩) else 0

/-- The convolution's cotangent, -/
def ct : EReal := lay y 0 R j * gateRow z R j 1
/-- what it convolves, -/
def pr : EReal := gateRow z R j 0 * gateRow z R j 2
/-- the first some rows on and the second some rows back, within a sequence. -/
def ahead (e : ℕ) : EReal := if R % 2048 + e < 2048 then ct y z (e + R) j else 0
def behind (s : ℕ) : EReal := if 2 ≤ R % 2048 + s then pr z (R + s - 2) j else 0

/-- The convolution's transpose over the cotangent, -/
def back : EReal := row w 0 j * ahead y z R j 2 + row w 1 j * ahead y z R j 1 + row w 2 j * ahead y z R j 0

/-- the three gates' gradients, -/
def gate : ℕ → EReal
  | 0 => back y z w R j * gateRow z R j 2
  | 1 => lay y 0 R j * (row w 0 j * behind z R j 0 + row w 1 j * behind z R j 1 + row w 2 j * behind z R j 2)
  | _ => back y z w R j * gateRow z R j 0

/-- and the taps'. -/
def tapGrad (s : ℕ) : EReal := ∑ R ∈ Finset.range 4096, ct y z R j * behind z R j s

end Cert.MixAModel

namespace Cert.MixAIdeal.Arrays

open Idealize.ShloMosaic Idealize.ShloMosaic.TcCoe
open Cert.MixAIdeal.Gen Cert.MixAIdeal.Body Cert.MixAIdeal.Run Cert.MixAIdeal.Block Cert.MixAIdeal.Rows Cert.MixAModel

variable (m : (ℓ : Loc nD τ sig) → Buf (Elt Ideal) ℓ) (c : Dev nD)

/-- Which block each window stands at. -/
theorem idx : ∀ t : Fin cfg0.N, win0_0.index t = ![0, 7 - t.val / 3, 0] ∧ win0_1.index t = ![7 - t.val / 3, 0] ∧ win0_2.index t = ![7 - t.val / 3, 1]
    ∧ win0_3.index t = ![7 - t.val / 3, 2] ∧ win0_4.index t = ![16 * (7 - t.val / 3) - 1, 0] ∧ win0_5.index t = ![16 * (7 - t.val / 3) - 1, 2]
    ∧ win0_6.index t = ![0, 0] ∧ win0_7.index t = ![7 - t.val / 3, t.val % 3] ∧ win0_8.index t = ![0, 0] :=
  (by decide +kernel : ∀ t : Fin grid0.N, _)

theorem coord : ∀ t : Fin cfg0.N, (grid0.coords t 0).val = t.val / 3 ∧ (grid0.coords t 1).val = t.val % 3 := (by decide +kernel : ∀ t : Fin grid0.N, _)

theorem pt_div {k : ℕ} (hk : k < 8) : (pt k).val / 3 = k := by show 3 * (k % 8) / 3 = k; omega

/-! ## What the points read -/

section Reads

variable {k : ℕ} (hk : k < 8) {r : ℕ} (j : Fin 1024)
include hk

theorem dy_row (hr : r < 512) : lay (insAt m c (pt k)).dy 0 r j = lay (m ((c : Thread nD τ).loc main_arg1)) 0 (512 * (7 - k) + r) j := by
  have e := pt_div hk
  rw [lay_at _ Nat.one_pos hr, lay_at _ (by decide) (by omega)]
  show iblk m c 0 (pt k) (ix3 0 ⟨r, hr⟩ j) = _
  blk_point [iblk, V, idx (pt k)]
  all_goals omega

theorem ah_row (hr : r < 512) : row (insAt m c (pt k)).ah r j = gateRow (m ((c : Thread nD τ).loc main_arg2)) (512 * (7 - k) + r) j 0 := by
  have e := pt_div hk
  rw [row_at _ hr, gateRow, dif_pos (by omega)]
  show iblk m c 1 (pt k) (ix2 ⟨r, hr⟩ j) = _
  blk_point [iblk, V, idx (pt k)]
  all_goals omega

theorem ab_row (hr : r < 512) : row (insAt m c (pt k)).ab r j = gateRow (m ((c : Thread nD τ).loc main_arg2)) (512 * (7 - k) + r) j 1 := by
  have e := pt_div hk
  rw [row_at _ hr, gateRow, dif_pos (by omega)]
  show iblk m c 2 (pt k) (ix2 ⟨r, hr⟩ j) = _
  blk_point [iblk, V, idx (pt k)]
  all_goals omega

theorem ac_row (hr : r < 512) : row (insAt m c (pt k)).ac r j = gateRow (m ((c : Thread nD τ).loc main_arg2)) (512 * (7 - k) + r) j 2 := by
  have e := pt_div hk
  rw [row_at _ hr, gateRow, dif_pos (by omega)]
  show iblk m c 3 (pt k) (ix2 ⟨r, hr⟩ j) = _
  blk_point [iblk, V, idx (pt k)]
  all_goals omega

theorem hh_row (h7 : k < 7) (hr : r < 32) : row (insAt m c (pt k)).hh r j = gateRow (m ((c : Thread nD τ).loc main_arg2)) (512 * (7 - k) + r - 32) j 0 := by
  have e := pt_div hk
  rw [row_at _ hr, gateRow, dif_pos (by omega)]
  show iblk m c 4 (pt k) (ix2 ⟨r, hr⟩ j) = _
  blk_point [iblk, V, idx (pt k)]
  all_goals omega

theorem hc_row (h7 : k < 7) (hr : r < 32) : row (insAt m c (pt k)).hc r j = gateRow (m ((c : Thread nD τ).loc main_arg2)) (512 * (7 - k) + r - 32) j 2 := by
  have e := pt_div hk
  rw [row_at _ hr, gateRow, dif_pos (by omega)]
  show iblk m c 5 (pt k) (ix2 ⟨r, hr⟩ j) = _
  blk_point [iblk, V, idx (pt k)]
  all_goals omega

end Reads

theorem w_row (t : Fin cfg0.N) (s : Fin 3) (j : Fin 1024) : row (insAt m c t).w s.val j = row (m ((c : Thread nD τ).loc main_arg3)) s.val j := by
  rw [← row_val, ← row_val]
  show iblk m c 6 t (ix2 s j) = _
  blk_point [iblk, V, idx t]

/-! ## A tile -/

section Tiles

variable {k : ℕ} (hk : k < 8) {r : ℕ} (hr : r < 512) (j : Fin 1024)
include hk hr

/-- The product's window holds the rows before. -/
theorem prod_eq {s : ℕ} (hs : s < 3) : prodAt (grid0.coords (pt k)) (insAt m c (pt k)) (30 + s + r) j = behind (m ((c : Thread nD τ).loc main_arg2)) (512 * (7 - k) + r) j s := by
  have e : (grid0.coords (pt k) 0).val = k := (coord (pt k)).1.trans (pt_div hk)
  unfold prodAt behind pr
  rw [e]
  by_cases h : 30 + s + r < 32
  · rw [if_pos h]
    by_cases h0 : (7 - k) % 4 = 0
    · rw [if_pos h0, if_neg (by omega)]
    · have n : 512 * (7 - k) + (30 + s + r) - 32 = 512 * (7 - k) + r + s - 2 := by omega
      rw [if_neg h0, if_pos (by omega), hh_row m c hk j (by omega) h, hc_row m c hk j (by omega) h, n]
  · have n : 512 * (7 - k) + (30 + s + r - 32) = 512 * (7 - k) + r + s - 2 := by omega
    rw [if_neg h, if_pos (by omega), ah_row m c hk j (by omega), ac_row m c hk j (by omega), n]

/-- The cotangent's window holds the tile's own rows, -/
theorem d_own : row (dAt m c (k + 1)) r j = ct (m ((c : Thread nD τ).loc main_arg1)) (m ((c : Thread nD τ).loc main_arg2)) (512 * (7 - k) + r) j := by
  rw [dAt, ctS_row _ _ _ _ hr, dy_row m c hk j hr, ab_row m c hk j hr, ct]

/-- and the rows after. -/
theorem d_eq {e : ℕ} (he : e < 3) : row (dAt m c (k + 1)) (e + r) j = ahead (m ((c : Thread nD τ).loc main_arg1)) (m ((c : Thread nD τ).loc main_arg2)) (512 * (7 - k) + r) j e := by
  have hc : (grid0.coords (pt k) 0).val = k := (coord (pt k)).1.trans (pt_div hk)
  unfold ahead
  by_cases h : e + r < 512
  · rw [if_pos (by omega), d_own m c hk h j, Nat.add_left_comm]
  · rw [dAt, ctS_carried _ _ _ _ (by omega), hc]
    by_cases h3 : (7 - k) % 4 = 3
    · rw [if_pos h3, if_neg (by omega)]
    · obtain ⟨k', rfl⟩ : ∃ k', k = k' + 1 := ⟨k - 1, by omega⟩
      have n : 512 * (7 - k') + (e + r - 512) = e + (512 * (7 - (k' + 1)) + r) := by omega
      rw [if_neg h3, if_pos (by omega), d_own m c (by omega) (by omega) j, n]

/-- The stage holds the gates' gradients. -/
theorem stage_eq {b : ℕ} (hb : b < 3) : lay (stageAt m c k) b r j
    = gate (m ((c : Thread nD τ).loc main_arg1)) (m ((c : Thread nD τ).loc main_arg2)) (m ((c : Thread nD τ).loc main_arg3)) (512 * (7 - k) + r) j b := by
  have h := stage_row (grid0.coords (pt k)) (pt_first k) (insAt m c (pt k)) (dAt m c (k + 1)) (insAt m c (pt 0)).w hr j
  have e : dpAt (dAt m c (k + 1)) (insAt m c (pt 0)).w r j
      = back (m ((c : Thread nD τ).loc main_arg1)) (m ((c : Thread nD τ).loc main_arg2)) (m ((c : Thread nD τ).loc main_arg3)) (512 * (7 - k) + r) j := by
    unfold dpAt Cert.MixAModel.back
    rw [d_eq m c hk hr j (e := 2) (by decide), d_eq m c hk hr j (e := 1) (by decide), d_eq m c hk hr j (e := 0) (by decide)]
    exact congr (congrArg _ (congr (congrArg _ (congrArg (· * _) (w_row m c (pt 0) 0 j))) (congrArg (· * _) (w_row m c (pt 0) 1 j)))) (congrArg (· * _) (w_row m c (pt 0) 2 j))
  have p := fun {s : ℕ} (hs : s < 3) => prod_eq m c hk hr j hs
  match b, hb with
  | 0, _ => exact h.1.trans (congr (congrArg _ e) (ac_row m c hk j hr))
  | 1, _ =>
    refine h.2.1.trans (congr (congrArg _ (dy_row m c hk j hr)) ?_)
    exact congr (congrArg _ (congr (congrArg _ (congr (congrArg _ (w_row m c (pt 0) 0 j)) (p (s := 0) (by decide)))) (congr (congrArg _ (w_row m c (pt 0) 1 j)) (p (s := 1) (by decide)))))
      (congr (congrArg _ (w_row m c (pt 0) 2 j)) (p (s := 2) (by decide)))
  | 2, _ => exact h.2.2.trans (congr (congrArg _ e) (ah_row m c hk j hr))

end Tiles

/-- The sums after some tiles. -/
theorem dw_eq (s : Fin 3) (j : Fin 1024) : ∀ k ≤ 8, row (dwAt m c k) s.val j = ∑ l ∈ Finset.range k, ∑ r ∈ Finset.range 512,
    ct (m ((c : Thread nD τ).loc main_arg1)) (m ((c : Thread nD τ).loc main_arg2)) (512 * (8 - 1 - l) + r) j * behind (m ((c : Thread nD τ).loc main_arg2)) (512 * (8 - 1 - l) + r) j s.val
  | 0, _ => by rw [Finset.sum_range_zero, dwAt, ← row_val]; pointwise [k0_pay1]
  | k + 1, h => by
    rw [dwAt, dwOf_row, dw_eq s j k (by omega)]
    refine Eq.trans (congrArg _ (Finset.sum_congr rfl fun r hr => ?_)) (Finset.sum_range_succ _ k).symm
    have hr := Finset.mem_range.mp hr
    exact congr (congrArg _ (d_own m c (by omega) hr j)) (prod_eq m c (by omega) hr j s.isLt)

/-! ## The arrays -/

def last : Fin cfg0.N := ⟨23, lt_of_lt_of_eq (by decide) (show 24 = cfg0.N from N_0.symm)⟩

theorem final_dw : (dats m 0 c).arrAt 8 (cfgs 0).N = fun i => tapGrad (m ((c : Thread nD τ).loc main_arg1)) (m ((c : Thread nD τ).loc main_arg2)) (i 1) (i 0).val := by
  refine (dats m 0 c).arrAt_eq_of_after_last 8 last (by decide +kernel) _ fun j => ?_
  blk_simp
  rw [after_8]
  idx_vars j
  refine (row_val (dwAt m c 8) j0 j1).trans ((dw_eq m c j0 j1 8 (Nat.le_refl 8)).trans ?_)
  refine (Finset.sum_range_reflect (fun l => ∑ r ∈ Finset.range 512, ct (m ((c : Thread nD τ).loc main_arg1)) (m ((c : Thread nD τ).loc main_arg2)) (512 * l + r) j1
    * behind (m ((c : Thread nD τ).loc main_arg2)) (512 * l + r) j1 j0.val) 8).trans ?_
  exact sum_blocks (fun R => ct (m ((c : Thread nD τ).loc main_arg1)) (m ((c : Thread nD τ).loc main_arg2)) R j1 * behind (m ((c : Thread nD τ).loc main_arg2)) R j1 j0.val) 512 8

theorem final_dz : (dats m 0 c).arrAt 7 (cfgs 0).N = fun i =>
    if (i 1).val < 3072 then gate (m ((c : Thread nD τ).loc main_arg1)) (m ((c : Thread nD τ).loc main_arg2)) (m ((c : Thread nD τ).loc main_arg3)) (i 0).val
      ⟨(i 1).val % 1024, Nat.mod_lt _ (by decide)⟩ ((i 1).val / 1024) else m ((c : Thread nD τ).loc main_arg0) i := by
  have hV : V m c main_v0_0 = m ((c : Thread nD τ).loc main_arg0) := by unfold V; after_results; try rfl
  rw [← hV]
  refine (dats m 0 c).arrAt_eq_of_coversWhere 7 (fun i => gate (m ((c : Thread nD τ).loc main_arg1)) (m ((c : Thread nD τ).loc main_arg2)) (m ((c : Thread nD τ).loc main_arg3)) (i 0).val
      ⟨(i 1).val % 1024, Nat.mod_lt _ (by decide)⟩ ((i 1).val / 1024)) (P := fun i => (i 1).val < 3072)
    (fun β => β (1 : Fin 2) < 3) (by decide +kernel) (fun t hf y => ?_) (fun j => by blk_simp [Pipeline.Window.cell_apply]; omega)
  blk_simp
  rw [after_7]
  have e := idx t
  idx_vars y
  have lt := lt24 t
  have hk : t.val / 3 < 8 := by omega
  refine (row_val (slab (grid0.coords t) (stageAt m c (t.val / 3))) y0 y1).trans ((slab_row _ _ y0.isLt y1).trans ?_)
  rw [(coord t).2, stage_eq m c hk y0.isLt y1 (Nat.mod_lt _ (by decide))]
  have E0 : win0_7.index t 0 * 512 + y0.val = 512 * (7 - t.val / 3) + y0.val := by rw [e.2.2.2.2.2.2.2.1]; show (7 - t.val / 3) * 512 + _ = _; omega
  have E1 : win0_7.index t 1 * 1024 + y1.val = 1024 * (t.val % 3) + y1.val := by rw [e.2.2.2.2.2.2.2.1]; show t.val % 3 * 1024 + _ = _; omega
  have q : ∀ n (h : n = 1024 * (t.val % 3) + y1.val), (⟨n % 1024, Nat.mod_lt _ (by decide)⟩ : Fin 1024) = y1 ∧ n / 1024 = t.val % 3 := fun n h => ⟨Fin.ext (by show n % 1024 = y1.val; omega), by omega⟩
  exact (congr (congr (congrArg (gate _ _ _) E0) (q _ E1).1) (q _ E1).2).symm

end Cert.MixAIdeal.Arrays

end
-- ==== Proof.MixARefVal.lean ====
/- The short convolution's gradient as the plain program computes it. -/
module

public import proofs.«01_k».proof.Proof.MixAArrays
public import proofs.«01_k».proof.Proof.Gen.MixARefIdeal.Read
public import Idealize.ShloMosaic.Lib.Pipeline.ValueKit

@[expose] public section

set_option maxRecDepth 16384

noncomputable section

namespace Cert.MixARefIdeal.Val

open Idealize.ShloMosaic Idealize.ShloMosaic.TcCoe
open Cert.MixARefIdeal Cert.MixARefIdeal.Read Cert.MixAModel Cert.MixAIdeal.Rows

/-- A sum over the two leading axes. -/
theorem sum_leading {A B C : ℕ} (h : (⟨3, ![A, B, C]⟩ : Shape).ReducesTo [0, 1] ⟨1, ![C]⟩) (v : (⟨3, ![A, B, C]⟩ : Shape).Idx → EReal) (i : EReal) (j : Fin C) :
    Ideal.hostReduceAdd h v i (ix1 j) = i + ∑ a : Fin A, ∑ b : Fin B, v (ix3 a b j) := by
  have hd : ∀ x : (⟨3, ![A, B, C]⟩ : Shape).Idx, h.drop x = ix1 j ↔ ∃ p : Fin A × Fin B, ix3 p.1 p.2 j = x := fun x => by
    refine ⟨fun e => ⟨(x 0, x 1), funext fun a => Fin.ext ?_⟩, ?_⟩
    · match a with
      | ⟨0, _⟩ => rfl
      | ⟨1, _⟩ => rfl
      | ⟨2, _⟩ => exact (congrArg Fin.val (congrFun e 0)).symm
    · rintro ⟨p, rfl⟩
      refine funext fun a => Fin.ext ?_
      match a with
      | ⟨0, _⟩ => rfl
  refine congrArg (i + ·) ((Finset.sum_filter_eq_sum_of_fiber _ (fun p : Fin A × Fin B => ix3 p.1 p.2 j) (fun _ _ e => Prod.ext (congrFun e 0) (congrFun e 1)) hd v).trans ?_)
  rw [Fintype.sum_prod_type]

/-- The rows of two sequences are the rows of the array. -/
theorem sum_rows (t : ℕ → EReal) : ∑ b : Fin 2, ∑ s : Fin 2048, t (b.val * 2048 + s.val) = ∑ R ∈ Finset.range 4096, t R := by
  rw [← sum_blocks t 2048 2, Finset.sum_range]
  refine Finset.sum_congr rfl fun b _ => ?_
  rw [Finset.sum_range, Nat.mul_comm]

theorem behind_of (z : Shape.Idx ⟨2, ![4096, 10240]⟩ → EReal) (j : Fin 1024) {b s e n : ℕ} (hs : s < 2048) (hn : n = s + e) :
    (if n < 2 then 0 else pr z (b * 2048 + n - 2) j) = behind z (b * 2048 + s) j e := by
  unfold behind
  by_cases h : n < 2
  · rw [if_pos h, if_neg (by omega)]
  · have k : b * 2048 + n - 2 = b * 2048 + s + e - 2 := by omega
    rw [if_neg h, if_pos (by omega), k]

variable (x0 : (⟨S4096x10240, .bf16⟩ : BufTy).Contents (Elt Ideal)) (x1 : (⟨S3x4096x1024, .bf16⟩ : BufTy).Contents (Elt Ideal))
  (x2 : (⟨S4096x10240, .bf16⟩ : BufTy).Contents (Elt Ideal)) (x3 : (⟨S3x1024, .f32⟩ : BufTy).Contents (Elt Ideal))

section Rows

variable (b : Fin 2) (s : Fin 2048) (j : Fin 1024)

theorem ah_at : val_main_v2 (F := Ideal) x2 (ix3 b s j) = gateRow x2 (b.val * 2048 + s.val) j 0 := by
  rw [gateRow, dif_pos (by omega)]
  pointwise [val_main_v2, val_main_v1, val_main_v0]
theorem ab_at : val_main_v5 (F := Ideal) x2 (ix3 b s j) = gateRow x2 (b.val * 2048 + s.val) j 1 := by
  rw [gateRow, dif_pos (by omega)]
  pointwise [val_main_v5, val_main_v4, val_main_v3]
theorem ac_at : val_main_v8 (F := Ideal) x2 (ix3 b s j) = gateRow x2 (b.val * 2048 + s.val) j 2 := by
  rw [gateRow, dif_pos (by omega)]
  pointwise [val_main_v8, val_main_v7, val_main_v6]
theorem dy_at : val_main_v12 (F := Ideal) x1 (ix3 b s j) = lay x1 0 (b.val * 2048 + s.val) j := by
  rw [lay_at _ (by decide) (by omega)]
  pointwise [val_main_v12, val_main_v11, val_main_v10, val_main_v9]

theorem ct_at : val_main_v40 (F := Ideal) x1 x2 (ix3 b s j) = ct x1 x2 (b.val * 2048 + s.val) j := by
  pointwise [val_main_v40, ab_at, dy_at, ct]
  exact mul_comm _ _

theorem padded_at (n : Fin 2050) : val_main_v15 (F := Ideal) x2 (ix3 b n j) = if n.val < 2 then 0 else pr x2 (b.val * 2048 + n.val - 2) j := by
  pointwise [val_main_v15, val_main_v14, val_main_cst, val_main_v13]
  by_cases h : n.val < 2
  · rw [dif_pos h, if_pos h]
  · have e : b.val * 2048 + (n.val - 2) = b.val * 2048 + n.val - 2 := by omega
    rw [dif_neg h, if_neg h, ac_at, ah_at, pr, mul_comm]
    simp only [e]

theorem tap0_at : val_main_v19 (F := Ideal) x2 (ix3 b s j) = behind x2 (b.val * 2048 + s.val) j 0 := by
  rw [← behind_of x2 j s.isLt rfl]
  pointwise [val_main_v19, padded_at]
theorem tap1_at : val_main_v27 (F := Ideal) x2 (ix3 b s j) = behind x2 (b.val * 2048 + s.val) j 1 := by
  rw [← behind_of x2 j s.isLt (Nat.add_comm 1 _)]
  pointwise [val_main_v27, padded_at]
theorem tap2_at : val_main_v34 (F := Ideal) x2 (ix3 b s j) = behind x2 (b.val * 2048 + s.val) j 2 := by
  rw [← behind_of x2 j s.isLt (Nat.add_comm 2 _)]
  pointwise [val_main_v34, padded_at]

theorem mid_at : val_main_v41 (F := Ideal) x1 x2 x3 (ix3 b s j) = gate x1 x2 x3 (b.val * 2048 + s.val) j 1 := by
  rw [gate, row_at _ (by decide), row_at _ (by decide), row_at _ (by decide)]
  pointwise [val_main_v41, val_main_v38, val_main_v37, val_main_v31, val_main_v30, val_main_v24, val_main_v23, val_main_cst_1, val_main_v22, dy_at, tap0_at, tap1_at, tap2_at,
    val_main_v36, val_main_v35, val_main_v33, val_main_v32, val_main_v29, val_main_v28, val_main_v26, val_main_v25, val_main_v21, val_main_v20, val_main_v18, val_main_v17]

theorem back_at : val_main_v74 (F := Ideal) x1 x2 x3 (ix3 b s j) = back x1 x2 x3 (b.val * 2048 + s.val) j := by
  rw [back, row_at _ (by decide), row_at _ (by decide), row_at _ (by decide)]
  have e : ∀ n, (b.val * 2048 + s.val) % 2048 + n = s.val + n := by omega
  unfold ahead
  rw [e, e, e]
  pointwise [val_main_v74, val_main_v69, val_main_v58, val_main_v48, val_main_v57, val_main_v68, val_main_cst_4, val_main_cst_8, val_main_cst_12, val_main_v43, val_main_v52, val_main_v63,
    val_main_v42, val_main_v51, val_main_v62, val_main_v35, val_main_v28, val_main_v20, val_main_v33, val_main_v26, val_main_v18, val_main_v32, val_main_v25, val_main_v17, ct_at]
  have t1 : (if h : 1 ≤ 2 + s.val ∧ 2 + s.val - 1 < 2048 then x3 (ix2 1 j) * ct x1 x2 (b.val * 2048 + (2 + s.val - 1)) j else 0) = x3 (ix2 1 j) * if s.val + 1 < 2048 then ct x1 x2 (1 + (b.val * 2048 + s.val)) j else 0 := by
    by_cases h : s.val + 1 < 2048
    · have n : b.val * 2048 + (2 + s.val - 1) = 1 + (b.val * 2048 + s.val) := by omega
      rw [dif_pos (by omega), if_pos h, n]
    · rw [dif_neg (by omega), if_neg h, mul_zero]
  have t2 : (if h : 2 + s.val < 2048 then x3 (ix2 0 j) * ct x1 x2 (b.val * 2048 + (2 + s.val)) j else 0) = x3 (ix2 0 j) * if s.val + 2 < 2048 then ct x1 x2 (2 + (b.val * 2048 + s.val)) j else 0 := by
    by_cases h : s.val + 2 < 2048
    · have n : b.val * 2048 + (2 + s.val) = 2 + (b.val * 2048 + s.val) := by omega
      rw [dif_pos (by omega), if_pos h, n]
    · rw [dif_neg (by omega), if_neg h, mul_zero]
  exact (congr (congrArg _ (congrArg _ t1)) t2).trans ((add_comm _ _).trans ((congrArg _ (add_comm _ _)).trans (add_assoc _ _ _).symm))

theorem outer_at : val_main_v75 (F := Ideal) x1 x2 x3 (ix3 b s j) = gate x1 x2 x3 (b.val * 2048 + s.val) j 0 ∧ val_main_v76 (F := Ideal) x1 x2 x3 (ix3 b s j) = gate x1 x2 x3 (b.val * 2048 + s.val) j 2 := by
  constructor
  · pointwise [val_main_v75, ac_at, back_at, gate]
    exact mul_comm _ _
  · pointwise [val_main_v76, ah_at, back_at, gate]

end Rows

/-! ## The results -/

theorem dz_at (R : Fin 4096) (l : Fin 10240) : val_main_v83 (F := Ideal) x0 x1 x2 x3 (ix2 R l)
    = if l.val < 3072 then gate x1 x2 x3 R.val ⟨l.val % 1024, Nat.mod_lt _ (by decide)⟩ (l.val / 1024) else x0 (ix2 R l) := by
  have e : R.val / 2048 * 2048 + R.val % 2048 = R.val := by omega
  have g : ∀ (n k : ℕ) (hn : n < 1024), l.val = 1024 * k + n → ∀ v, v = gate x1 x2 x3 (R.val / 2048 * 2048 + R.val % 2048) ⟨n, hn⟩ k →
      v = gate x1 x2 x3 R.val ⟨l.val % 1024, Nat.mod_lt _ (by decide)⟩ (l.val / 1024) := fun n k hn h v hv => by
    have q : (⟨l.val % 1024, Nat.mod_lt _ (by decide)⟩ : Fin 1024) = ⟨n, hn⟩ := Fin.ext (by show l.val % 1024 = n; omega)
    have d : l.val / 1024 = k := by omega
    rw [hv, e, q, d]
  pointwise [val_main_v83, val_main_v82, val_main_v81, val_main_v80, val_main_v79, val_main_v78, val_main_v77]
  have b2 : R.val / 2048 < 2 := by omega
  have s2 : R.val % 2048 < 2048 := Nat.mod_lt _ (by decide)
  have hl : l.val - 1024 - 1024 < 1024 → l.val < 3072 := by omega
  by_cases h0 : l.val < 1024
  · rw [dif_pos h0]
    exact (g _ 0 h0 (by omega) _ (outer_at x1 x2 x3 ⟨_, b2⟩ ⟨_, s2⟩ ⟨_, h0⟩).1).trans (if_pos (hl (by omega))).symm
  · by_cases h1 : l.val - 1024 < 1024
    · rw [dif_neg h0, dif_pos h1]
      exact (g _ 1 h1 (by omega) _ (mid_at x1 x2 x3 ⟨_, b2⟩ ⟨_, s2⟩ ⟨_, h1⟩)).trans (if_pos (hl (by omega))).symm
    · by_cases h2 : l.val - 1024 - 1024 < 1024
      · rw [dif_neg h0, dif_neg h1, dif_pos h2]
        exact (g _ 2 h2 (by omega) _ (outer_at x1 x2 x3 ⟨_, b2⟩ ⟨_, s2⟩ ⟨_, h2⟩).2).trans (if_pos (hl h2)).symm
      · have h3 : ¬ l.val < 3072 := by omega
        rw [dif_neg h0, dif_neg h1, dif_neg h2]
        exact (congrArg (fun k => x0 (ix2 R k)) (Fin.ext (by show 3072 + (l.val - 1024 - 1024 - 1024) = l.val; omega))).trans (if_neg h3).symm

section Taps

variable (j : Fin 1024)

theorem grad2_at : val_main_v47 (F := Ideal) x1 x2 (ix1 j) = tapGrad x1 x2 j 2 := by
  refine (sum_leading _ _ _ j).trans ?_
  rw [tapGrad, ← sum_rows]
  pointwise [val_main_cst_3, val_main_v46]
  rw [Fin.sum_univ_one, Fin.sum_univ_one]
  refine (sum_leading _ _ _ j).trans ?_
  pointwise [val_main_cst_2, val_main_v44, ct_at, tap2_at]

theorem grad1_at : val_main_v56 (F := Ideal) x1 x2 (ix1 j) = tapGrad x1 x2 j 1 := by
  refine (sum_leading _ _ _ j).trans ?_
  rw [tapGrad, ← sum_rows]
  pointwise [val_main_cst_7, val_main_v55]
  rw [Fin.sum_univ_one, Fin.sum_univ_one]
  refine (sum_leading _ _ _ j).trans ?_
  pointwise [val_main_cst_6, val_main_v53, ct_at, tap1_at]

theorem grad0_at : val_main_v67 (F := Ideal) x1 x2 (ix1 j) = tapGrad x1 x2 j 0 := by
  refine (sum_leading _ _ _ j).trans ?_
  rw [tapGrad, ← sum_rows]
  pointwise [val_main_cst_11, val_main_v66]
  rw [Fin.sum_univ_one, Fin.sum_univ_one]
  refine (sum_leading _ _ _ j).trans ?_
  pointwise [val_main_cst_10, val_main_v64, ct_at, tap0_at]

theorem dw_at (s : Fin 3) : val_main_v72 (F := Ideal) x1 x2 (ix2 s j) = tapGrad x1 x2 j s.val := by
  match s with
  | 0 => pointwise [val_main_v72, val_main_v71, val_main_v70, val_main_v61, val_main_v60, val_main_v59, val_main_v50, val_main_v49, val_main_cst_5, val_main_cst_9, val_main_cst_13, grad0_at, grad1_at, grad2_at]
  | 1 => pointwise [val_main_v72, val_main_v71, val_main_v70, val_main_v61, val_main_v60, val_main_v59, val_main_v50, val_main_v49, val_main_cst_5, val_main_cst_9, val_main_cst_13, grad0_at, grad1_at, grad2_at]
  | 2 => pointwise [val_main_v72, val_main_v71, val_main_v70, val_main_v61, val_main_v60, val_main_v59, val_main_v50, val_main_v49, val_main_cst_5, val_main_cst_9, val_main_cst_13, grad0_at, grad1_at, grad2_at]

end Taps

end Cert.MixARefIdeal.Val

end
-- ==== Proof.MixAValue.lean ====
/- The short convolution's gradient: both programs end with the arrays of the closed form. -/
module

public import proofs.«01_k».proof.Proof.MixAFrames
public import proofs.«01_k».proof.Proof.MixARefVal
public import proofs.«01_k».proof.Defs
public import Idealize.ShloMosaic.Lib.Quiescent

@[expose] public section

set_option maxRecDepth 16384

noncomputable section

namespace Cert.MixAValue

open Idealize.ShloMosaic Idealize.ShloMosaic.TcCoe Idealize.SL.Sem
open Cert.MixAModel

/-- The gradient's first 3072 columns are the three gates', the others what the array held. -/
abbrev dzOf (x0 : Shape.Idx ⟨2, ![4096, 10240]⟩ → EReal) (y : Shape.Idx ⟨3, ![3, 4096, 1024]⟩ → EReal) (z : Shape.Idx ⟨2, ![4096, 10240]⟩ → EReal)
    (w : Shape.Idx ⟨2, ![3, 1024]⟩ → EReal) : Shape.Idx ⟨2, ![4096, 10240]⟩ → EReal := fun i =>
  if (i 1).val < 3072 then gate y z w (i 0).val ⟨(i 1).val % 1024, Nat.mod_lt _ (by decide)⟩ ((i 1).val / 1024) else x0 i

/-- The taps' gradient. -/
abbrev dwOf (y : Shape.Idx ⟨3, ![3, 4096, 1024]⟩ → EReal) (z : Shape.Idx ⟨2, ![4096, 10240]⟩ → EReal) : Shape.Idx ⟨2, ![3, 1024]⟩ → EReal := fun i =>
  tapGrad y z (i 1) (i 0).val

section plain

open Cert.MixARefIdeal Cert.MixARefIdeal.Read Cert.MixARefIdeal.Val

variable (x0 : (⟨S4096x10240, .bf16⟩ : BufTy).Contents (Elt Ideal)) (x1 : (⟨S3x4096x1024, .bf16⟩ : BufTy).Contents (Elt Ideal))
  (x2 : (⟨S4096x10240, .bf16⟩ : BufTy).Contents (Elt Ideal)) (x3 : (⟨S3x1024, .f32⟩ : BufTy).Contents (Elt Ideal))

theorem plain_dz : val_main_v83 (F := Ideal) x0 x1 x2 x3 = dzOf x0 x1 x2 x3 := by
  funext i
  idx_vars i
  exact dz_at x0 x1 x2 x3 _ _

theorem plain_dw : val_main_v72 (F := Ideal) x1 x2 = dwOf x1 x2 := by
  funext i
  idx_vars i
  exact dw_at x1 x2 _ _

end plain

open Cert.MixAIdeal in
/-- The kernel over the reals computes the two gradients of the plain program. -/
theorem value : Cert.algebraic_MixAIdeal_MixARefIdeal := fun m ρ m' ρ' _ hag =>
  ⟨fun c => dzOf (m ((c.tc : Thread nD τ).loc main_arg0)) (m ((c.tc : Thread nD τ).loc main_arg1))
      (m ((c.tc : Thread nD τ).loc main_arg2)) (m ((c.tc : Thread nD τ).loc main_arg3)),
   fun c => dwOf (m ((c.tc : Thread nD τ).loc main_arg1)) (m ((c.tc : Thread nD τ).loc main_arg2)),
   (θ_run _ _ _).mono (fun r h c => ⟨((h.1.1 c).1 7).trans (Arrays.final_dz m c), ((h.1.1 c).1 8).trans (Arrays.final_dw m c), h.2.1 c⟩)
     (θ_run_and (Run.run_quiescent m ρ) (Run.frame_run m ρ)),
   (θ_run _ _ _).mono (fun r h c => by
      obtain ⟨a0, a1, a2, a3, a4⟩ := hag c
      obtain ⟨h0, h1, hargs⟩ := h c
      refine ⟨h0.trans ((Cert.MixARefIdeal.Read.val_main_v83_eq _ _).trans ?_), h1.trans ((Cert.MixARefIdeal.Read.val_main_v72_eq _ _).trans ?_), hargs⟩
      · exact (congr (congr (congr (congrArg _ a0) a1) a2) a3).trans (plain_dz _ _ _ _)
      · exact (congr (congrArg _ a1) a2).trans (plain_dw _ _))
     (Cert.MixARefIdeal.Value.run (F := Ideal) m' ρ')⟩

end Cert.MixAValue

end
-- ==== Proof.MergeBlock.lean ====
/- What one row block of the branches' merge computes, and what its four arrays hold. -/
module

public import proofs.«01_k».proof.Proof.MixOutBlock
public import proofs.«01_k».proof.Proof.Gen.MergeIdeal.Value
public import Idealize.ShloMosaic.Lib.Pipeline.ValueKit
public import Idealize.ShloMosaic.Lib.Pipeline.ReadBack

@[expose] public section

set_option maxRecDepth 16384

noncomputable section

namespace Cert.MergeIdeal.Block

open Idealize.ShloMosaic Idealize.ShloMosaic.TcCoe
open Cert.MergeIdeal Cert.MergeIdeal.Gen
open Cert.MixOutIdeal.Block (Data sig1 gcol)
open Cert.InProjValue (rinv)

/-- The merge with its residual, from the merge's formulas (`ct` stands for the rows the residual adds). -/
def sum (A : Data) (r : Fin 4096) (j : Fin 1024) : EReal := A.ct (ix2 r j) + A.m r j * rinv (A.m r) * A.g (ix1 j)

/-! ## The body's values -/

/-- A sum over 1024 places by quarters. -/
theorem sum_quarters (f : Fin 1024 → EReal) : ((∑ l : Fin 256, f ⟨l.val, by omega⟩ + ∑ l : Fin 256, f ⟨256 + l.val, by omega⟩)
    + ∑ l : Fin 256, f ⟨512 + l.val, by omega⟩) + ∑ l : Fin 256, f ⟨768 + l.val, by omega⟩ = ∑ k, f k := by
  symm
  show ∑ k : Fin (256 + 256 + 256 + 256), f k = _
  rw [Fin.sum_univ_add, Fin.sum_univ_add, Fin.sum_univ_add]
  rfl

/-- A branch's product, the weight by quarters. -/
def part (y : Vec Ideal S512x1024 .bf16) (w : Vec Ideal S4x3x256x1024 .bf16) (b : Fin 3) (r : Fin 512) (j : Fin 1024) : EReal :=
  ∑ k : Fin 1024, y (ix2 r k) * w (ix4 ⟨k.val / 256, by omega⟩ b ⟨k.val % 256, by omega⟩ j)

theorem part_eq (y : Vec Ideal S512x1024 .bf16) (w : Vec Ideal S4x3x256x1024 .bf16) (b : Fin 3) (r : Fin 512) (j : Fin 1024) :
    ((∑ l : Fin 256, y (ix2 r ⟨l.val, by omega⟩) * w (ix4 0 b l j) + ∑ l : Fin 256, y (ix2 r ⟨256 + l.val, by omega⟩) * w (ix4 1 b l j))
      + ∑ l : Fin 256, y (ix2 r ⟨512 + l.val, by omega⟩) * w (ix4 2 b l j)) + ∑ l : Fin 256, y (ix2 r ⟨768 + l.val, by omega⟩) * w (ix4 3 b l j)
    = part y w b r j := by
  refine Eq.trans ?_ (sum_quarters _)
  have q : ∀ (n : ℕ) (hn : n < 1024) (p : Fin 4) (l : Fin 256), n = 256 * p.val + l.val →
      y (ix2 r ⟨n, hn⟩) * w (ix4 p b l j) = y (ix2 r ⟨n, hn⟩) * w (ix4 ⟨n / 256, by omega⟩ b ⟨n % 256, by omega⟩ j) := fun n hn p l h => by
    have e : (⟨n / 256, by omega⟩ : Fin 4) = p := Fin.ext (by show n / 256 = p.val; omega)
    have e' : (⟨n % 256, by omega⟩ : Fin 256) = l := Fin.ext (by show n % 256 = l.val; omega)
    rw [e, e']
  exact congr (congrArg _ (congr (congrArg _ (congr (congrArg _
    (Finset.sum_congr rfl fun l _ => q _ _ 0 l (by simp))) (Finset.sum_congr rfl fun l _ => q _ _ 1 l rfl)))
    (Finset.sum_congr rfl fun l _ => q _ _ 2 l rfl))) (Finset.sum_congr rfl fun l _ => q _ _ 3 l rfl)

section

variable (y : Vec Ideal S512x1024 .bf16) (w : Vec Ideal S4x3x256x1024 .bf16) {i0 i1 i2 i3 i4 i5 i6 i7}

/-- The three branches' products. -/
theorem pay2_at (r : Fin 512) (j : Fin 1024) : k0_pay2 (F := Ideal) (View.ld y (Rect.unit ![0, 0] ![512, 256] i0)) (View.ld w (Rect.unit ![0, 0, 0, 0] ![1, 1, 256, 1024] i1))
    (View.ld y (Rect.unit ![0, 256] ![512, 256] i2)) (View.ld w (Rect.unit ![1, 0, 0, 0] ![1, 1, 256, 1024] i3))
    (View.ld y (Rect.unit ![0, 512] ![512, 256] i4)) (View.ld w (Rect.unit ![2, 0, 0, 0] ![1, 1, 256, 1024] i5))
    (View.ld y (Rect.unit ![0, 768] ![512, 256] i6)) (View.ld w (Rect.unit ![3, 0, 0, 0] ![1, 1, 256, 1024] i7)) (ix2 r j) = part y w 0 r j := by
  rw [← part_eq]
  pointwise [k0_pay2]

theorem pay6_at (r : Fin 512) (j : Fin 1024) : k0_pay6 (F := Ideal) (View.ld y (Rect.unit ![0, 0] ![512, 256] i0)) (View.ld w (Rect.unit ![0, 1, 0, 0] ![1, 1, 256, 1024] i1))
    (View.ld y (Rect.unit ![0, 256] ![512, 256] i2)) (View.ld w (Rect.unit ![1, 1, 0, 0] ![1, 1, 256, 1024] i3))
    (View.ld y (Rect.unit ![0, 512] ![512, 256] i4)) (View.ld w (Rect.unit ![2, 1, 0, 0] ![1, 1, 256, 1024] i5))
    (View.ld y (Rect.unit ![0, 768] ![512, 256] i6)) (View.ld w (Rect.unit ![3, 1, 0, 0] ![1, 1, 256, 1024] i7)) (ix2 r j) = part y w 1 r j := by
  rw [← part_eq]
  pointwise [k0_pay6]

theorem pay11_at (r : Fin 512) (j : Fin 1024) : k0_pay11 (F := Ideal) (k0_pay10 (View.ld y (Rect.unit ![0, 0] ![512, 256] i0)) (View.ld w (Rect.unit ![0, 2, 0, 0] ![1, 1, 256, 1024] i1))
    (View.ld y (Rect.unit ![0, 256] ![512, 256] i2)) (View.ld w (Rect.unit ![1, 2, 0, 0] ![1, 1, 256, 1024] i3))
    (View.ld y (Rect.unit ![0, 512] ![512, 256] i4)) (View.ld w (Rect.unit ![2, 2, 0, 0] ![1, 1, 256, 1024] i5)))
    (View.ld y (Rect.unit ![0, 768] ![512, 256] i6)) (View.ld w (Rect.unit ![3, 2, 0, 0] ![1, 1, 256, 1024] i7)) (ix2 r j) = part y w 2 r j := by
  rw [← part_eq]
  pointwise [k0_pay11, k0_pay10]

end

theorem pay5_at (p s : FVec Ideal S512x1024 .f32) (r : Fin 512) (j : Fin 1024) : k0_pay5 (F := Ideal) p s (ix2 r j) = sig1 (s (ix2 r j)) * p (ix2 r j) := by
  pointwise [k0_pay5, sig1]
  rw [zero_sub]
theorem pay3_at (a e g n : Vec Ideal S512x256 .bf16) (b f h o : Vec Ideal S1x1x256x1024 .bf16) (r : Fin 512) (j : Fin 1024) :
    k0_pay3 (F := Ideal) a b e f g h n o (ix3 0 r j) = k0_pay2 (F := Ideal) a b e f g h n o (ix2 r j) := by
  pointwise [k0_pay3]
theorem pay8_at (a e g n : Vec Ideal S512x256 .bf16) (b f h o : Vec Ideal S1x1x256x1024 .bf16) (r : Fin 512) (j : Fin 1024) :
    k0_pay8 (F := Ideal) (k0_pay7 a b e f g h n o) (ix3 0 r j) = k0_pay6 (F := Ideal) a b e f g h n o (ix2 r j) := by
  pointwise [k0_pay8, k0_pay7]
theorem pay12_at (p : FVec Ideal S512x1024 .f32) (y : Vec Ideal S512x256 .bf16) (w : Vec Ideal S1x1x256x1024 .bf16) (r : Fin 512) (j : Fin 1024) :
    k0_pay12 (F := Ideal) p y w (ix3 0 r j) = k0_pay11 (F := Ideal) p y w (ix2 r j) := by
  pointwise [k0_pay12]
theorem pay4_at (z : FVec Ideal S512x1024 .bf16) (r : Fin 512) (j : Fin 1024) : k0_pay4 (F := Ideal) z (ix2 r j) = z (ix2 r j) := by
  pointwise [k0_pay4]
theorem pay9_at (a p : FVec Ideal S512x1024 .f32) (z : FVec Ideal S512x1024 .bf16) (r : Fin 512) (j : Fin 1024) :
    k0_pay9 (F := Ideal) a p z (ix2 r j) = a (ix2 r j) + sig1 (z (ix2 r j)) * p (ix2 r j) := by
  pointwise [k0_pay9, sig1]
  rw [zero_sub]
theorem pay13_at (a p : FVec Ideal S512x1024 .f32) (y : Vec Ideal S512x256 .bf16) (w : Vec Ideal S1x1x256x1024 .bf16) (z : FVec Ideal S512x1024 .bf16)
    (r : Fin 512) (j : Fin 1024) : k0_pay13 (F := Ideal) a p y w z (ix2 r j) = a (ix2 r j) + sig1 (z (ix2 r j)) * k0_pay11 p y w (ix2 r j) := by
  pointwise [k0_pay13, sig1]
  rw [zero_sub]
theorem pay14_at (a p : FVec Ideal S512x1024 .f32) (y : Vec Ideal S512x256 .bf16) (w : Vec Ideal S1x1x256x1024 .bf16) (z : FVec Ideal S512x1024 .bf16)
    (o : FVec Ideal S1024x1024 .bf16) (r : Fin 512) (j : Fin 1024) :
    k0_pay14 (F := Ideal) a p y w z o (ix2 r j) = ∑ k, k0_pay13 (F := Ideal) a p y w z (ix2 r k) * o (ix2 k j) := by
  pointwise [k0_pay14]
theorem pay15_at (a p : FVec Ideal S512x1024 .f32) (y : Vec Ideal S512x256 .bf16) (w : Vec Ideal S1x1x256x1024 .bf16) (z : FVec Ideal S512x1024 .bf16)
    (o : FVec Ideal S1024x1024 .bf16) (r : Fin 512) (j : Fin 1024) : k0_pay15 (F := Ideal) a p y w z o (ix2 r j) = k0_pay14 (F := Ideal) a p y w z o (ix2 r j) := by
  pointwise [k0_pay15]
theorem pay17_at (a p : FVec Ideal S512x1024 .f32) (y : Vec Ideal S512x256 .bf16) (w : Vec Ideal S1x1x256x1024 .bf16) (z : FVec Ideal S512x1024 .bf16)
    (o : FVec Ideal S1024x1024 .bf16) (r : Fin 512) : k0_pay17 (F := Ideal) a p y w z o (ix2 r 0)
      = ∑ k, k0_pay14 (F := Ideal) a p y w z o (ix2 r k) * k0_pay14 (F := Ideal) a p y w z o (ix2 r k) := by
  pointwise [k0_pay17]
theorem pay1_at (n x : FVec Ideal S512x1024 .f32) (g : FVec Ideal S1x1024 .f32) (s : FVec Ideal S512x1 .f32) (r : Fin 512) (j : Fin 1024) :
    k0_pay1 (F := Ideal) n x (k0_pay16 g) s (ix2 r j) = x (ix2 r j)
      + n (ix2 r j) * Ideal.rsqrt (Ideal.div (s (ix2 r 0)) (Ideal.ofBits .f32 0x44800000#32) + Ideal.ofBits .f32 0x358637BD#32) * g (ix2 0 j) := by
  pointwise [k0_pay1, k0_pay16]

/-! ## The blocks' reads -/

variable (m : (ℓ : Loc nD τ sig) → Buf (Elt Ideal) ℓ) (c : Dev nD) (t : Fin cfg0.N)

/-- The arguments as launched. -/
def data : Data := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), m ((c : Thread nD τ).loc main_arg6),
  m ((c : Thread nD τ).loc main_arg7)⟩

theorem lt8 : t.val < 8 := t.isLt

/-- Row `i` of a point's block. -/
def row (i : Fin 512) : Fin 4096 := ⟨t.val * 512 + i.val, by have := lt8 t; omega⟩

/-- The windows' block indices at a grid point. -/
theorem idx : ∀ t : Fin cfg0.N, win0_0.index t = ![t.val, 0] ∧ win0_1.index t = ![t.val, 0] ∧ win0_2.index t = ![t.val, 0]
    ∧ win0_3.index t = ![t.val, 7] ∧ win0_4.index t = ![t.val, 8] ∧ win0_5.index t = ![t.val, 9] ∧ win0_6.index t = ![t.val, 0]
    ∧ win0_7.index t = ![0, 0, 0, 0] ∧ win0_8.index t = ![0, 0] ∧ win0_9.index t = ![0, 0] ∧ win0_10.index t = ![0, t.val, 0]
    ∧ win0_11.index t = ![t.val, 0] ∧ win0_12.index t = ![t.val, 0] ∧ win0_13.index t = ![t.val, 0] :=
  (by decide +kernel : ∀ t : Fin grid0.N, _)

theorem y0_at (i : Fin 512) (k : Fin 1024) : (iblk m c 0 t : FVec Ideal S512x1024 .bf16) (ix2 i k) = (data m c).ya (ix2 (row t i) k) := by
  show _ = (m ((c : Thread nD τ).loc main_arg1) : FVec Ideal S4096x1024 .bf16) (ix2 (row t i) k)
  blk_point [iblk, V, idx t, row]
theorem y1_at (i : Fin 512) (k : Fin 1024) : (iblk m c 1 t : FVec Ideal S512x1024 .bf16) (ix2 i k) = (data m c).yc (ix2 (row t i) k) := by
  show _ = (m ((c : Thread nD τ).loc main_arg2) : FVec Ideal S4096x1024 .bf16) (ix2 (row t i) k)
  blk_point [iblk, V, idx t, row]
theorem y2_at (i : Fin 512) (k : Fin 1024) : (iblk m c 2 t : FVec Ideal S512x1024 .bf16) (ix2 i k) = (data m c).ys (ix2 (row t i) k) := by
  show _ = (m ((c : Thread nD τ).loc main_arg3) : FVec Ideal S4096x1024 .bf16) (ix2 (row t i) k)
  blk_point [iblk, V, idx t, row]
theorem z0_at (i : Fin 512) (k : Fin 1024) : (iblk m c 3 t : FVec Ideal S512x1024 .bf16) (ix2 i k) = (data m c).z (ix2 (row t i) (gcol 0 k)) := by
  show _ = (m ((c : Thread nD τ).loc main_arg4) : FVec Ideal S4096x10240 .bf16) (ix2 (row t i) (gcol 0 k))
  blk_point [iblk, V, idx t, row, gcol]
theorem z1_at (i : Fin 512) (k : Fin 1024) : (iblk m c 4 t : FVec Ideal S512x1024 .bf16) (ix2 i k) = (data m c).z (ix2 (row t i) (gcol 1 k)) := by
  show _ = (m ((c : Thread nD τ).loc main_arg4) : FVec Ideal S4096x10240 .bf16) (ix2 (row t i) (gcol 1 k))
  blk_point [iblk, V, idx t, row, gcol]
theorem z2_at (i : Fin 512) (k : Fin 1024) : (iblk m c 5 t : FVec Ideal S512x1024 .bf16) (ix2 i k) = (data m c).z (ix2 (row t i) (gcol 2 k)) := by
  show _ = (m ((c : Thread nD τ).loc main_arg4) : FVec Ideal S4096x10240 .bf16) (ix2 (row t i) (gcol 2 k))
  blk_point [iblk, V, idx t, row, gcol]
theorem x_at (i : Fin 512) (k : Fin 1024) : (iblk m c 6 t : FVec Ideal S512x1024 .f32) (ix2 i k) = (data m c).ct (ix2 (row t i) k) := by
  show _ = (m ((c : Thread nD τ).loc main_arg0) : FVec Ideal S4096x1024 .f32) (ix2 (row t i) k)
  blk_point [iblk, V, idx t, row]
theorem g_at (k : Fin 1024) : (iblk m c 9 t : FVec Ideal S1x1024 .f32) (ix2 0 k) = (data m c).g (ix1 k) := by
  show _ = (m ((c : Thread nD τ).loc main_arg5) : FVec Ideal S1024 .f32) (ix1 k)
  blk_point [iblk, V, idx t]
theorem wo_at (k l : Fin 1024) : (iblk m c 8 t : FVec Ideal S1024x1024 .bf16) (ix2 k l) = (data m c).wo (ix2 k l) := by
  show _ = (m ((c : Thread nD τ).loc main_arg7) : FVec Ideal S1024x1024 .f32) (ix2 k l)
  blk_point [iblk, V, idx t]
theorem wb_at (b : Fin 3) (k l : Fin 1024) : (iblk m c 7 t : FVec Ideal S4x3x256x1024 .bf16) (ix4 ⟨k.val / 256, by omega⟩ b ⟨k.val % 256, by omega⟩ l)
    = (data m c).wb (ix3 b k l) := by
  show _ = (m ((c : Thread nD τ).loc main_arg6) : FVec Ideal S3x1024x1024 .f32) (ix3 b k l)
  blk_point [iblk, V, idx t]

theorem part0 (r : Fin 512) (j : Fin 1024) : part (iblk m c 0 t) (iblk m c 7 t) 0 r j = (data m c).p 0 (row t r) j :=
  Finset.sum_congr rfl fun k _ => congr (congrArg _ (y0_at m c t r k)) (wb_at m c t 0 k j)
theorem part1 (r : Fin 512) (j : Fin 1024) : part (iblk m c 1 t) (iblk m c 7 t) 1 r j = (data m c).p 1 (row t r) j :=
  Finset.sum_congr rfl fun k _ => congr (congrArg _ (y1_at m c t r k)) (wb_at m c t 1 k j)
theorem part2 (r : Fin 512) (j : Fin 1024) : part (iblk m c 2 t) (iblk m c 7 t) 2 r j = (data m c).p 2 (row t r) j :=
  Finset.sum_congr rfl fun k _ => congr (congrArg _ (y2_at m c t r k)) (wb_at m c t 2 k j)

/-! ## What a point leaves -/

theorem left1 (r : Fin 512) (j : Fin 1024) : (outsAt0 m c t).2.1 (ix2 r j) = (data m c).mix (row t r) j := by
  unfold outsAt0
  frame_out
  simp only [pay13_at, pay9_at, pay5_at, pay4_at, pay2_at, pay6_at, pay11_at, part0, part1, part2, z0_at, z1_at, z2_at]
  rfl

theorem left2 (r : Fin 512) (j : Fin 1024) : (outsAt0 m c t).2.2.1 (ix2 r j) = (data m c).m (row t r) j := by
  unfold outsAt0
  frame_out
  simp only [pay15_at, pay14_at, pay13_at, pay9_at, pay5_at, pay4_at, pay2_at, pay6_at, pay11_at, part0, part1, part2, z0_at, z1_at, z2_at, wo_at]
  rfl

theorem left3 (r : Fin 512) (j : Fin 1024) : (outsAt0 m c t).2.2.2 (ix2 r j) = sum (data m c) (row t r) j := by
  unfold outsAt0
  frame_out
  simp only [pay1_at, pay17_at, pay14_at, pay13_at, pay9_at, pay5_at, pay4_at, pay2_at, pay6_at, pay11_at, part0, part1, part2, z0_at, z1_at, z2_at, wo_at, x_at, g_at]
  rfl

theorem left0 (b : Fin 3) (r : Fin 512) (j : Fin 1024) : (outsAt0 m c t).1 (ix3 b r j) = (data m c).p b (row t r) j := by
  unfold outsAt0
  frame_out
  canon_tiles x h
  all_goals
    idx_vars x
    obtain rfl : x0 = 0 := Subsingleton.elim _ _
    obtain rfl : r = x1 := Fin.ext h1
    obtain rfl : j = x2 := Fin.ext h2
  · obtain rfl : b = 2 := Fin.ext h0
    rw [pay12_at, pay11_at, part2]
  · obtain rfl : b = 1 := Fin.ext h0
    rw [pay8_at, pay6_at, part1]
  · obtain rfl : b = 0 := Fin.ext h0
    rw [pay3_at, pay2_at, part0]

/-! ## The arrays the call leaves -/

/-- Where each output window's block sits. -/
theorem out0 (b : Fin 3) (r : Fin 512) (j : Fin 1024) : (win0_10.blk t).view.emb (ix3 b r j) = ix3 b (row t r) j := by
  blk_ext [idx t, row]
theorem out1 (r : Fin 512) (j : Fin 1024) : (win0_11.blk t).view.emb (ix2 r j) = ix2 (row t r) j := by
  blk_ext [idx t, row]
theorem out2 (r : Fin 512) (j : Fin 1024) : (win0_12.blk t).view.emb (ix2 r j) = ix2 (row t r) j := by
  blk_ext [idx t, row]
theorem out3 (r : Fin 512) (j : Fin 1024) : (win0_13.blk t).view.emb (ix2 r j) = ix2 (row t r) j := by
  blk_ext [idx t, row]

omit t

theorem arr0 : (dats m 0 c).arrAt 10 (cfgs 0).N = fun i => (data m c).p (i 0) (i 1) (i 2) := by
  refine (dats m 0 c).arrAt_eq_of_covers 10 _ (by decide +kernel) fun t hf y => ?_
  blk_simp
  rw [after0_10]
  idx_vars y
  rw [out0]
  exact left0 m c t y0 y1 y2

theorem arr1 : (dats m 0 c).arrAt 11 (cfgs 0).N = fun i => (data m c).mix (i 0) (i 1) := by
  refine (dats m 0 c).arrAt_eq_of_covers 11 _ (by decide +kernel) fun t hf y => ?_
  blk_simp
  rw [after0_11]
  idx_vars y
  rw [out1]
  exact left1 m c t y0 y1

theorem arr2 : (dats m 0 c).arrAt 12 (cfgs 0).N = fun i => (data m c).m (i 0) (i 1) := by
  refine (dats m 0 c).arrAt_eq_of_covers 12 _ (by decide +kernel) fun t hf y => ?_
  blk_simp
  rw [after0_12]
  idx_vars y
  rw [out2]
  exact left2 m c t y0 y1

theorem arr3 : (dats m 0 c).arrAt 13 (cfgs 0).N = fun i => sum (data m c) (i 0) (i 1) := by
  refine (dats m 0 c).arrAt_eq_of_covers 13 _ (by decide +kernel) fun t hf y => ?_
  blk_simp
  rw [after0_13]
  idx_vars y
  rw [out3]
  exact left3 m c t y0 y1

end Cert.MergeIdeal.Block

end
-- ==== Proof.MergeValue.lean ====
/- The branches' merge: kernel and plain program hold the same arrays. -/
module

public import proofs.«01_k».proof.Defs
public import proofs.«01_k».proof.Proof.MergeBlock
public import proofs.«01_k».proof.Proof.Gen.MergeRefIdeal.Read

@[expose] public section

set_option maxRecDepth 16384

noncomputable section

namespace Cert.MergeValue

open Idealize.ShloMosaic Idealize.ShloMosaic.TcCoe
open Cert.MergeIdeal.Block Cert.MergeRefIdeal.Read
open Cert.MixOutIdeal.Block (Data sig1 gcol)
open Cert.InProjValue (rinv)

variable (A : Data)

/-! ## The plain program's arrays -/

theorem plain_p0 (r : Fin 4096) (j : Fin 1024) : val_main_v3 (F := Ideal) A.ya A.wb (ix2 r j) = A.p 0 r j := by
  pointwise [val_main_v3, val_main_v2, val_main_v1, val_main_v0, Data.p, Data.y]
theorem plain_p1 (r : Fin 4096) (j : Fin 1024) : val_main_v7 (F := Ideal) A.yc A.wb (ix2 r j) = A.p 1 r j := by
  pointwise [val_main_v7, val_main_v6, val_main_v5, val_main_v4, Data.p, Data.y]
theorem plain_p2 (r : Fin 4096) (j : Fin 1024) : val_main_v11 (F := Ideal) A.ys A.wb (ix2 r j) = A.p 2 r j := by
  pointwise [val_main_v11, val_main_v10, val_main_v9, val_main_v8, Data.p, Data.y]

theorem plain_p (b : Fin 3) (r : Fin 4096) (j : Fin 1024) : val_main_v46 (F := Ideal) A.ya A.yc A.ys A.wb (ix3 b r j) = A.p b r j := by
  match b with
  | 0 => pointwise [val_main_v46, val_main_v45, val_main_v44, val_main_v43, val_main_v42, plain_p0]
  | 1 => pointwise [val_main_v46, val_main_v45, val_main_v44, val_main_v43, val_main_v42, plain_p1]
  | 2 => pointwise [val_main_v46, val_main_v45, val_main_v44, val_main_v43, val_main_v42, plain_p2]

theorem plain_s0 (r : Fin 4096) (j : Fin 1024) : val_main_v23 (F := Ideal) A.z (ix2 r j) = A.s 0 r j := by
  pointwise [val_main_v23, val_main_v22, val_main_cst_0, val_main_v21, val_main_v20, val_main_cst, val_main_v19, val_main_v18, val_main_v13, val_main_v12, Data.s, sig1, gcol]
theorem plain_s1 (r : Fin 4096) (j : Fin 1024) : val_main_v30 (F := Ideal) A.z (ix2 r j) = A.s 1 r j := by
  pointwise [val_main_v30, val_main_v29, val_main_cst_2, val_main_v28, val_main_v27, val_main_cst_1, val_main_v26, val_main_v25, val_main_v15, val_main_v14, Data.s, sig1, gcol]
theorem plain_s2 (r : Fin 4096) (j : Fin 1024) : val_main_v38 (F := Ideal) A.z (ix2 r j) = A.s 2 r j := by
  pointwise [val_main_v38, val_main_v37, val_main_cst_4, val_main_v36, val_main_v35, val_main_cst_3, val_main_v34, val_main_v33, val_main_v17, val_main_v16, Data.s, sig1, gcol]

theorem plain_mix (r : Fin 4096) (j : Fin 1024) : val_main_v40 (F := Ideal) A.ya A.yc A.ys A.z A.wb (ix2 r j) = A.mix r j := by
  pointwise [val_main_v40, val_main_v39, val_main_v32, val_main_v31, val_main_v24, plain_p0, plain_p1, plain_p2, plain_s0, plain_s1, plain_s2, Data.mix]

theorem plain_m (r : Fin 4096) (j : Fin 1024) : val_main_v41 (F := Ideal) A.ya A.yc A.ys A.z A.wb A.wo (ix2 r j) = A.m r j := by
  pointwise [val_main_v41, plain_mix, Data.m]

theorem plain_sum (r : Fin 4096) (j : Fin 1024) : val_main_v62 (F := Ideal) A.ct A.ya A.yc A.ys A.z A.g A.wb A.wo (ix2 r j) = sum A r j := by
  pointwise [val_main_v62, val_main_v61, val_main_v60, val_main_v59, val_main_v58, val_main_v57, val_main_v56, val_main_v55, val_main_v54, val_main_cst_7, val_main_v53, val_main_v52,
    val_main_cst_6, val_main_v51, val_main_v50, val_main_cst_5, val_main_v49, plain_m, sum, rinv]

theorem plain_mix' (r : Fin 4096) (j : Fin 1024) : val_main_v47 (F := Ideal) A.ya A.yc A.ys A.z A.wb (ix2 r j) = A.mix r j := by
  pointwise [val_main_v47, plain_mix]
theorem plain_m' (r : Fin 4096) (j : Fin 1024) : val_main_v48 (F := Ideal) A.ya A.yc A.ys A.z A.wb A.wo (ix2 r j) = A.m r j := by
  pointwise [val_main_v48, plain_m]

/-- The kernel over the reals computes the plain program's arrays. -/
theorem value : Cert.algebraic_MergeIdeal_MergeRefIdeal := fun m ρ m' ρ' _ hag =>
  ⟨fun c i => (data m c).p (i 0) (i 1) (i 2), fun c i => (data m c).mix (i 0) (i 1), fun c i => (data m c).m (i 0) (i 1), fun c i => sum (data m c) (i 0) (i 1),
   (θ_run _ _ _).mono (fun r h c => ⟨(h c).1.trans (arr0 m c), (h c).2.1.trans (arr1 m c), (h c).2.2.1.trans (arr2 m c), (h c).2.2.2.1.trans (arr3 m c), (h c).2.2.2.2⟩)
     (Cert.MergeIdeal.Value.run_blocks (F := Ideal) m ρ),
   (θ_run _ _ _).mono (fun r h c => by
      obtain ⟨a0, a1, a2, a3, a4, a5, a6, a7, a8⟩ := hag c
      obtain ⟨h0, h1, h2, h3, hargs⟩ := h c
      refine ⟨h0.trans ((val_main_v46_eq _ _ _ _).trans ?_), h1.trans ((val_main_v47_eq _ _ _ _ _).trans ?_), h2.trans ((val_main_v48_eq _ _ _ _ _ _).trans ?_),
        h3.trans ((val_main_v62_eq _ _).trans ?_), hargs⟩
      · exact (congr (congr (congr (congrArg _ a1) a2) a3) a6).trans (funext fun i => by idx_vars i; exact plain_p (data m c) _ _ _)
      · exact (congr (congr (congr (congr (congrArg _ a1) a2) a3) a4) a6).trans (funext fun i => by idx_vars i; exact plain_mix' (data m c) _ _)
      · exact (congr (congr (congr (congr (congr (congrArg _ a1) a2) a3) a4) a6) a7).trans (funext fun i => by idx_vars i; exact plain_m' (data m c) _ _)
      · exact (congr (congr (congr (congr (congr (congr (congr (congrArg _ a0) a1) a2) a3) a4) a5) a6) a7).trans (funext fun i => by
          idx_vars i; exact plain_sum (data m c) _ _))
     (Cert.MergeRefIdeal.Value.run (F := Ideal) m' ρ')⟩

end Cert.MergeValue

end
-- ==== Proof.AdamValue.lean ====
/- The optimiser's update of one weight: kernel and plain program hold the same gradient, change and moments. -/
module

public import proofs.«01_k».proof.Defs
public import proofs.«01_k».proof.Proof.Gen.AdamIdeal.Value
public import proofs.«01_k».proof.Proof.Gen.AdamRefIdeal.Read
public import Idealize.ShloMosaic.Lib.Pipeline.ValueKit

@[expose] public section

set_option maxRecDepth 16384

noncomputable section

namespace Cert.AdamValue

open Idealize.ShloMosaic Idealize.ShloMosaic.TcCoe Idealize.SL.Sem
open Cert.AdamIdeal Cert.AdamIdeal.Gen
open Cert.AdamRefIdeal.Read (val_main_v4 val_main_v10 val_main_v23 val_main_v4_eq val_main_v10_eq val_main_v23_eq)

/-- The word the first moment is divided by. -/
theorem ofBits_c1 : Ideal.ofBits .f32 0x3F26BD02#32 = ((5463681 / 8388608 : ℝ) : EReal) := by
  simp [Ideal.ofBits, Ideal.ieee]
  rw [← EReal.coe_mul]; norm_num

/-- The word the second moment is divided by. -/
theorem ofBits_c2 : Ideal.ofBits .f32 0x3C231ACC#32 = ((2672307 / 268435456 : ℝ) : EReal) := by
  simp [Ideal.ofBits, Ideal.ieee]
  rw [← EReal.coe_mul]; norm_num

theorem named_c1 (b : BitVec 32) : (Named.named κ "inv_c1" (φ := .f32) b : Ideal .f32) = ((8388608 / 5463681 : ℝ) : EReal) := rfl
theorem named_c2 (b : BitVec 32) : (Named.named κ "inv_c2" (φ := .f32) b : Ideal .f32) = ((268435456 / 2672307 : ℝ) : EReal) := rfl

/-- Dividing by the first word is multiplying by its named reciprocal. -/
theorem div_c1 (x : EReal) : Ideal.div x (Ideal.ofBits .f32 0x3F26BD02#32) = x * ((8388608 / 5463681 : ℝ) : EReal) := by
  rw [ofBits_c1, Ideal.div_coe (by norm_num)]; norm_num

/-- Dividing by the second word is multiplying by its named reciprocal. -/
theorem div_c2 (x : EReal) : Ideal.div x (Ideal.ofBits .f32 0x3C231ACC#32) = x * ((268435456 / 2672307 : ℝ) : EReal) := by
  rw [ofBits_c2, Ideal.div_coe (by norm_num)]; norm_num

/-- The moments and the change of one entry. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def change (w g m v : EReal) : EReal :=
  Ideal.ofBits .f32 0xBA83126F#32 * (Ideal.div (first g m * ((8388608 / 5463681 : ℝ) : EReal))
    (Ideal.sqrt (second g v * ((268435456 / 2672307 : ℝ) : EReal)) + Ideal.ofBits .f32 0x322BCC77#32) + Ideal.ofBits .f32 0x3C23D70A#32 * w)

/-! ## What the body computes of its blocks -/

variable (bw bg bm bv : FVec Ideal S1x64x2560 .f32) (r : Fin 64) (j : Fin 2560)

theorem pay_g : k0_pay3 bg (ix3 0 r j) = bg (ix3 0 r j) := by pointwise [k0_pay3, k0_pay2]
theorem pay_first : k0_pay4 (F := Ideal) bg bm (ix2 r j) = first (bg (ix3 0 r j)) (bm (ix3 0 r j)) := by pointwise [k0_pay4, k0_pay2, first]
theorem pay_second : k0_pay5 (F := Ideal) bg bv (ix2 r j) = second (bg (ix3 0 r j)) (bv (ix3 0 r j)) := by pointwise [k0_pay5, k0_pay2, second]
theorem pay_m : k0_pay6 (F := Ideal) bg bm (ix3 0 r j) = first (bg (ix3 0 r j)) (bm (ix3 0 r j)) := by pointwise [k0_pay6, pay_first]
theorem pay_v : k0_pay7 (F := Ideal) bg bv (ix3 0 r j) = second (bg (ix3 0 r j)) (bv (ix3 0 r j)) := by pointwise [k0_pay7, pay_second]
theorem pay_d : k0_pay1 (F := Ideal) (k0_pay8 bg bm) (k0_pay9 bg bv) bw (ix3 0 r j) = change (bw (ix3 0 r j)) (bg (ix3 0 r j)) (bm (ix3 0 r j)) (bv (ix3 0 r j)) := by
  pointwise [k0_pay1, k0_pay8, k0_pay9, pay_first, pay_second, named_c1, named_c2, change]

/-! ## The plain program's arrays -/

section Plain

open Cert.AdamRefIdeal.Read

variable (w g m v : FVec Ideal S4x1024x2560 .f32) (q : Fin 4) (r : Fin 1024) (j : Fin 2560)

theorem plain_m : val_main_v4 (F := Ideal) g m (ix3 q r j) = first (g (ix3 q r j)) (m (ix3 q r j)) := by
  pointwise [val_main_v4, val_main_v3, val_main_v2, val_main_v1, val_main_v0, val_main_cst, val_main_cst_0, first]
theorem plain_v : val_main_v10 (F := Ideal) g v (ix3 q r j) = second (g (ix3 q r j)) (v (ix3 q r j)) := by
  pointwise [val_main_v10, val_main_v9, val_main_v8, val_main_v7, val_main_v6, val_main_v5, val_main_cst_1, val_main_cst_2, second]
theorem plain_d : val_main_v23 (F := Ideal) w g m v (ix3 q r j) = change (w (ix3 q r j)) (g (ix3 q r j)) (m (ix3 q r j)) (v (ix3 q r j)) := by
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3, plain_m, plain_v, div_c1, div_c2, change]

end Plain

/-! ## The arrays the kernel leaves -/

variable (m : (ℓ : Loc nD τ sig) → Buf (Elt Ideal) ℓ) (c : Dev nD) (t : Fin cfg0.N)

/-- An argument as launched: weight, gradient, first and second moment. -/
abbrev w : FVec Ideal S4x1024x2560 .f32 := m ((c : Thread nD τ).loc main_arg0)
abbrev g : FVec Ideal S4x1024x2560 .f32 := m ((c : Thread nD τ).loc main_arg1)
abbrev mo : FVec Ideal S4x1024x2560 .f32 := m ((c : Thread nD τ).loc main_arg2)
abbrev va : FVec Ideal S4x1024x2560 .f32 := m ((c : Thread nD τ).loc main_arg3)

theorem lt64 : t.val < 64 := t.isLt

/-- The array's index of a block's entry. -/
def at3 (r : Fin 64) (j : Fin 2560) : S4x1024x2560.Idx :=
  ix3 (⟨t.val / 16, by have := lt64 t; omega⟩ : Fin 4) (⟨t.val % 16 * 64 + r.val, by omega⟩ : Fin 1024) j

/-- The windows' block indices at a grid point. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![t.val / 16, t.val % 16, 0] ∧ win0_5.index t = ![t.val / 16, t.val % 16, 0]
    ∧ win0_6.index t = ![t.val / 16, t.val % 16, 0] ∧ win0_7.index t = ![t.val / 16, t.val % 16, 0] :=
  (by decide +kernel : ∀ t : Fin grid0.N, _)

theorem w_at (r : Fin 64) (j : Fin 2560) : (iblk m c 0 t : FVec Ideal S1x64x2560 .f32) (ix3 0 r j) = w m c (at3 t r j) := by
  blk_point [iblk, V, idx t, at3]
theorem g_at (r : Fin 64) (j : Fin 2560) : (iblk m c 1 t : FVec Ideal S1x64x2560 .f32) (ix3 0 r j) = g m c (at3 t r j) := by
  blk_point [iblk, V, idx t, at3]
theorem mo_at (r : Fin 64) (j : Fin 2560) : (iblk m c 2 t : FVec Ideal S1x64x2560 .f32) (ix3 0 r j) = mo m c (at3 t r j) := by
  blk_point [iblk, V, idx t, at3]
theorem va_at (r : Fin 64) (j : Fin 2560) : (iblk m c 3 t : FVec Ideal S1x64x2560 .f32) (ix3 0 r j) = va m c (at3 t r j) := by
  blk_point [iblk, V, idx t, at3]

theorem emb4 (r : Fin 64) (j : Fin 2560) : (win0_4.blk t).view.emb (ix3 0 r j) = at3 t r j := by blk_ext [idx t, at3]
theorem emb5 (r : Fin 64) (j : Fin 2560) : (win0_5.blk t).view.emb (ix3 0 r j) = at3 t r j := by blk_ext [idx t, at3]
theorem emb6 (r : Fin 64) (j : Fin 2560) : (win0_6.blk t).view.emb (ix3 0 r j) = at3 t r j := by blk_ext [idx t, at3]
theorem emb7 (r : Fin 64) (j : Fin 2560) : (win0_7.blk t).view.emb (ix3 0 r j) = at3 t r j := by blk_ext [idx t, at3]

theorem arr4 : (dats m 0 c).arrAt 4 (cfgs 0).N = g m c := by
  refine (dats m 0 c).arrAt_eq_of_covers 4 _ (by decide +kernel) fun t hf y => ?_
  blk_simp
  rw [after0_4]
  idx_vars y
  obtain rfl : y0 = 0 := Subsingleton.elim _ _
  rw [emb4]
  frame_out
  refine (pay_g _ _ _).trans ?_
  rw [g_at]

theorem arr5 : (dats m 0 c).arrAt 5 (cfgs 0).N = val_main_v23 (F := Ideal) (w m c) (g m c) (mo m c) (va m c) := by
  refine (dats m 0 c).arrAt_eq_of_covers 5 _ (by decide +kernel) fun t hf y => ?_
  blk_simp
  rw [after0_5]
  idx_vars y
  obtain rfl : y0 = 0 := Subsingleton.elim _ _
  rw [emb5]
  frame_out
  refine (pay_d _ _ _ _ _ _).trans ?_
  rw [w_at, g_at, mo_at, va_at]
  exact (plain_d _ _ _ _ _ _ _).symm

theorem arr6 : (dats m 0 c).arrAt 6 (cfgs 0).N = val_main_v4 (F := Ideal) (g m c) (mo m c) := by
  refine (dats m 0 c).arrAt_eq_of_covers 6 _ (by decide +kernel) fun t hf y => ?_
  blk_simp
  rw [after0_6]
  idx_vars y
  obtain rfl : y0 = 0 := Subsingleton.elim _ _
  rw [emb6]
  frame_out
  refine (pay_m _ _ _ _).trans ?_
  rw [g_at, mo_at]
  exact (plain_m _ _ _ _ _).symm

theorem arr7 : (dats m 0 c).arrAt 7 (cfgs 0).N = val_main_v10 (F := Ideal) (g m c) (va m c) := by
  refine (dats m 0 c).arrAt_eq_of_covers 7 _ (by decide +kernel) fun t hf y => ?_
  blk_simp
  rw [after0_7]
  idx_vars y
  obtain rfl : y0 = 0 := Subsingleton.elim _ _
  rw [emb7]
  frame_out
  refine (pay_v _ _ _ _).trans ?_
  rw [g_at, va_at]
  exact (plain_v _ _ _ _ _).symm

/-- The kernel over the reals computes the plain program's arrays. -/
theorem value : Cert.algebraic_AdamIdeal_AdamRefIdeal := fun m ρ m' ρ' _ hag =>
  ⟨fun c => g m c, fun c => val_main_v23 (F := Ideal) (w m c) (g m c) (mo m c) (va m c), fun c => val_main_v4 (F := Ideal) (g m c) (mo m c),
   fun c => val_main_v10 (F := Ideal) (g m c) (va m c),
   (θ_run _ _ _).mono (fun r h c => ⟨(h c).1.trans (arr4 m c), (h c).2.1.trans (arr5 m c), (h c).2.2.1.trans (arr6 m c), (h c).2.2.2.1.trans (arr7 m c), (h c).2.2.2.2⟩)
     (Cert.AdamIdeal.Value.run_blocks (F := Ideal) m ρ),
   (θ_run _ _ _).mono (fun r h c => by
      obtain ⟨a0, a1, a2, a3⟩ := hag c
      obtain ⟨h0, h1, h2, h3, hargs⟩ := h c
      exact ⟨h0.trans a1, h1.trans ((val_main_v23_eq _ _ _ _).trans (congr (congr (congr (congrArg _ a0) a1) a2) a3)),
        h2.trans ((val_main_v4_eq _ _).trans (congr (congrArg _ a1) a2)), h3.trans ((val_main_v10_eq _ _).trans (congr (congrArg _ a1) a3)), hargs⟩)
     (Cert.AdamRefIdeal.Value.run (F := Ideal) m' ρ')⟩

end Cert.AdamValue

end
-- ==== Proof.WinValue.lean ====
/- The weight gradient of the input projection: kernel and plain program hold the same array. -/
module

public import proofs.«01_k».proof.Defs
public import proofs.«01_k».proof.Proof.Gen.WinIdeal.Value
public import proofs.«01_k».proof.Proof.Gen.WinRefIdeal.Read
public import Idealize.ShloMosaic.Lib.Pipeline.ValueKit

@[expose] public section

set_option maxRecDepth 16384

noncomputable section

namespace Cert.WinValue

open Idealize.ShloMosaic Idealize.ShloMosaic.TcCoe Idealize.SL.Sem
open Cert.WinIdeal Cert.WinIdeal.Gen
open Cert.WinRefIdeal.Read

/-- The gradient: the normed rows, transposed, times a quarter of the cotangent's columns. -/
def grad (h : FVec Ideal S4096x1024 .bf16) (d : FVec Ideal S4096x10240 .bf16) (q : Fin 4) (r : Fin 1024) (j : Fin 2560) : EReal :=
  ∑ l : Fin 4096, h (ix2 l r) * d (ix2 l (⟨q.val * 2560 + j.val, by omega⟩ : Fin 10240))

theorem pay_zero (i) : k0_pay1 (F := Ideal) i = 0 := by pointwise [k0_pay1]

theorem pay_add (h : FVec Ideal S1024x1024 .bf16) (acc : FVec Ideal S1024x2560 .f32) (d : FVec Ideal S1024x2560 .bf16) (r : Fin 1024) (j : Fin 2560) :
    k0_pay2 h acc d (ix2 r j) = acc (ix2 r j) + ∑ l : Fin 1024, h (ix2 l r) * d (ix2 l j) := by
  pointwise [k0_pay2]

theorem pay_out (acc : FVec Ideal S1024x2560 .f32) (r : Fin 1024) (j : Fin 2560) : (show EReal from k0_pay3 (F := Ideal) acc (ix3 0 r j)) = acc (ix2 r j) := by
  pointwise [k0_pay3]

/-- The windows' block indices at a grid point. -/
theorem idx : ∀ t : Fin cfg0.N, win0_0.index t = ![t.val % 4, 0] ∧ win0_1.index t = ![t.val % 4, t.val / 4] ∧ win0_2.index t = ![t.val / 4, 0, 0] ∧ t.val < 16 :=
  (by decide +kernel : ∀ t : Fin grid0.N, _)

variable (m : (ℓ : Loc nD τ sig) → Buf (Elt Ideal) ℓ) (c : Dev nD)

/-- A point's product, at an entry of the running sum. -/
def term (t : Fin cfg0.N) (i : S1024x2560.Idx) : EReal :=
  ∑ l : Fin 1024, (show FVec Ideal S1024x1024 .bf16 from iblk m c 0 t) (ix2 l (i 0)) * (show FVec Ideal S1024x2560 .bf16 from iblk m c 1 t) (ix2 l (i 1))

theorem start (t : Fin cfg0.N) (h : t.val % 4 = 0) (i : S1024x2560.Idx) : (outsAt0 m c t.val t.isLt).2 i = 0 + term m c t i := by
  rw [outsAt0_A m c t h (by omega)]
  frame_out
  idx_vars i
  exact (pay_add _ _ _ _ _).trans (by rw [pay_zero]; rfl)

theorem step (t : Fin cfg0.N) (h : ¬t.val % 4 = 0) (i : S1024x2560.Idx) :
    (outsAt0 m c t.val t.isLt).2 i = (outsAt0 m c (t.val - 1) (Nat.lt_of_le_of_lt (Nat.sub_le _ _) t.isLt)).2 i + term m c t i := by
  by_cases h3 : t.val % 4 = 3
  · rw [outsAt0_C m c t h h3]
    frame_out
    idx_vars i
    exact (congrArg (fun A => k0_pay2 (F := Ideal) _ A _ (ix2 i0 i1)) (Memref.IsWhole.read_unread (Memref.isWhole_whole _) _)).trans (pay_add _ _ _ _ _)
  · rw [outsAt0_B m c t h h3]
    frame_out
    idx_vars i
    exact (congrArg (fun A => k0_pay2 (F := Ideal) _ A _ (ix2 i0 i1)) (Memref.IsWhole.read_unread (Memref.isWhole_whole _) _)).trans (pay_add _ _ _ _ _)

/-- Where the block is written back it holds the running sum. -/
theorem block_out (t : Fin cfg0.N) (h : t.val % 4 = 3) : (outsAt0 m c t.val t.isLt).1 = k0_pay3 (outsAt0 m c t.val t.isLt).2 := by
  rw [outsAt0_C m c t (by omega) h]
  frame_out

theorem final : (dats m 0 c).arrAt 2 (cfgs 0).N
    = fun i => grad (m ((c : Thread nD τ).loc main_arg0)) (m ((c : Thread nD τ).loc main_arg1)) (i 0) (i 1) (i 2) := by
  refine (dats m 0 c).arrAt_eq_of_covers 2 _ (by decide +kernel) fun t hf y => ?_
  blk_simp
  have h3 := (flush0_2 t).mp hf
  rw [after0_2, block_out m c t h3]
  idx_vars y
  obtain rfl : y0 = 0 := Subsingleton.elim _ _
  refine (pay_out _ _ _).trans ((Pipeline.eq_sum_fin_of_reset_step_apply_of_flush (M := EReal) (ι := S1024x2560.Idx) (fun n h => (outsAt0 m c n h).2) 4 (fun _ => 0)
    (term m c) (start m c) (step m c) t h3 _).trans ?_)
  rw [zero_add]
  simp only [grad, term]
  refine Fin.sum_mul_add_congr fun s k hl => ?_
  have hp := idx ⟨_, Pipeline.run_point_lt_of_flush t h3 s⟩
  blk_point [iblk, V, idx t, hp]

/-- The reshaped array's entry, in the product before the reshape. -/
theorem plain_index (r : Fin 1024) (q : Fin 4) (j : Fin 2560) :
    idx_main_v6 (ix3 r q j) = ix2 r (⟨q.val * 2560 + j.val, by omega⟩ : Fin 10240) := by
  funext a
  match a with
  | ⟨0, _⟩ => exact Fin.ext (show ((r.val * 4 + q.val) * 2560 + j.val) / 10240 = r.val by omega)
  | ⟨1, _⟩ => exact Fin.ext (show ((r.val * 4 + q.val) * 2560 + j.val) % 10240 = q.val * 2560 + j.val by omega)

/-- The plain program's array at an index. -/
theorem plain (h : FVec Ideal S4096x1024 .bf16) (d : FVec Ideal S4096x10240 .bf16) :
    val_main_v8 (F := Ideal) h d = fun i => grad h d (i 0) (i 1) (i 2) := by
  funext i
  idx_vars i
  have h6 (r : Fin 1024) (q : Fin 4) (j : Fin 2560) : val_main_v6 (F := Ideal) h d (ix3 r q j) = grad h d q r j := by
    refine (val_main_v6_apply (F := Ideal) h d _).trans ?_
    rw [plain_index]
    pointwise [val_main_v5, val_main_v4, val_main_v3, val_main_v1, grad]
    exact Finset.sum_congr rfl fun l _ => mul_comm _ _
  pointwise [val_main_v8, val_main_v7, h6]

/-- The kernel over the reals computes the plain program's array. -/
theorem value : Cert.algebraic_WinIdeal_WinRefIdeal := fun m ρ m' ρ' _ hag =>
  ⟨fun c i => grad (m ((c : Thread nD τ).loc main_arg0)) (m ((c : Thread nD τ).loc main_arg1)) (i 0) (i 1) (i 2),
   (θ_run _ _ _).mono (fun r h c => ⟨(h c).1.trans (final m c), (h c).2⟩) (Cert.WinIdeal.Value.run_blocks (F := Ideal) m ρ),
   (θ_run _ _ _).mono (fun r h c => by
      obtain ⟨a0, a1⟩ := hag c
      obtain ⟨h0, hargs⟩ := h c
      exact ⟨h0.trans ((val_main_v8_eq _ _).trans ((congr (congrArg _ a0) a1).trans (plain _ _))), hargs⟩)
     (Cert.WinRefIdeal.Value.run (F := Ideal) m' ρ')⟩

end Cert.WinValue

end
-- ==== Proof.ProjRun.lean ====
/- The input projection behind its norm: what every point of the grid leaves, and the whole program's execution. -/
module

public import proofs.«01_k».proof.Proof.Carry
public import proofs.«01_k».proof.Proof.Gen.ProjIdeal.Skeleton
public import proofs.«01_k».proof.Proof.Gen.ProjIdeal.Frame
public import Idealize.ShloMosaic.Lib.VecWindow
public import Idealize.ShloMosaic.Lib.Quiescent
public import Idealize.ShloMosaic.Lib.Claim

@[expose] public section

set_option maxRecDepth 16384

noncomputable section

namespace Cert.ProjIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.ProjIdeal.Gen

variable {F : FTy → Type} [FloatOps F]

local notation "𝕄" => MT nD τ sig Unit (Elt F) ℕ (UR sig nD τ) ℕ

/-! ## One point -/

/-- What a point reads and writes: the rows, the norm's weights, the product's; the normed rows' block, the product's, the kept rows. -/
def bufs (t : Dev nD) (a3 : Memref sig .tc .vmem S1024x1024 .f32) (a4 : Memref sig .tc .vmem S1x1024 .f32) (a5 : Memref sig .tc .vmem S1x1024x2560 .bf16)
    (a7 : Memref sig .tc .vmem S1024x1024 .bf16) (a8 : Memref sig .tc .vmem S1024x2560 .bf16) (a9 : Memref sig .tc .vmem S1024x1024 .bf16)
    (x : Vec F S1024x1024 .f32) (g : Vec F S1x1024 .f32) (w : Vec F S1x1024x2560 .bf16) (h : Vec F S1024x1024 .bf16) (z : Vec F S1024x2560 .bf16)
    (s : Vec F S1024x1024 .bf16) : sProp 𝕄 :=
  iprop(owns t a3 fullShare x ∗ owns t a4 fullShare g ∗ owns t a5 fullShare w ∗ owns t a7 fullShare h ∗ owns t a8 fullShare z ∗ owns t a9 fullShare s)

section Point

variable (t : Dev nD) (i : grid0.Coords) (a3 : Memref sig .tc .vmem S1024x1024 .f32) (h3 : a3.IsWhole) (a4 : Memref sig .tc .vmem S1x1024 .f32) (h4 : a4.IsWhole)
  (a5 : Memref sig .tc .vmem S1x1024x2560 .bf16) (h5 : a5.IsWhole) (a6 : Memref sig .tc .hbm S8x128 .f32) (h6 : a6.IsWhole)
  (a7 : Memref sig .tc .vmem S1024x1024 .bf16) (h7 : a7.IsWhole) (a8 : Memref sig .tc .vmem S1024x2560 .bf16) (h8 : a8.IsWhole)
  (a9 : Memref sig .tc .vmem S1024x1024 .bf16) (h9 : a9.IsWhole)
  (x : Vec F S1024x1024 .f32) (g : Vec F S1x1024 .f32) (w : Vec F S1x1024x2560 .bf16) (h : Vec F S1024x1024 .bf16) (z : Vec F S1024x2560 .bf16)
  (s : Vec F S1024x1024 .bf16)

/-- A row block's first point norms its rows; -/
theorem first_triple (E : Set ℕ) (K : PUnit → sProp 𝕄) (hc : k0_cond1 i = 1#1) :
    iprop(bufs t a3 a4 a5 a7 a8 a9 x g w h z s ∗ (bufs t a3 a4 a5 a7 a8 a9 x g w (k0_pay1 x g) (k0_pay3 (k0_pay2 x g) w) (k0_pay2 x g) -∗ K ⟨⟩))
      ⊢ wp frame (wpE (defs₀ (F := F)) Variants.none t none) E (cc0_in_proj (F := F) i a3 h3 a4 h4 a5 h5 a6 h6 a7 h7 a8 h8 a9 h9) K := by
  rw [cc0_in_proj_eq_skeleton]
  unfold cc0_in_proj_skel bufs owns
  simp only [dif_pos hc]
  iintro ⟨⟨⟨%f3, %e3, H3⟩, ⟨%f4, %e4, H4⟩, ⟨%f5, %e5, H5⟩, ⟨%f7, %e7, H7⟩, ⟨%f8, %e8, H8⟩, ⟨%f9, %e9, H9⟩⟩, Hk⟩
  subst e3; subst e4; subst e5; subst e7; subst e8; subst e9
  sl_exec
  sl_step
  iapply Hk
  isplitl [H3]; · iexists _; isplitr; rotate_left; · iexact H3
                  · ipureintro; rfl
  isplitl [H4]; · iexists _; isplitr; rotate_left; · iexact H4
                  · ipureintro; rfl
  isplitl [H5]; · iexists _; isplitr; rotate_left; · iexact H5
                  · ipureintro; rfl
  isplitl [H7]
  · iexists _; isplitr; rotate_left
    · iexact H7
    · ipureintro; exact (View.read_writes_full _ _ _ _ _).trans (congr (congrArg _ (View.readAt_full _ _ _)) (View.readAt_full _ _ _))
  isplitl [H8]
  · iexists _; isplitr; rotate_left
    · iexact H8
    · ipureintro; exact (View.read_writes_full _ _ _ _ _).trans (congr (congrArg _ ((View.readAt_full _ _ _).trans ((View.read_writes_full _ _ _ _ _).trans (congr (congrArg _ (View.readAt_full _ _ _)) (View.readAt_full _ _ _))))) (View.readAt_full _ _ _))
  iexists _; isplitr; rotate_left
  · iexact H9
  · ipureintro; exact (View.read_writes_full _ _ _ _ _).trans (congr (congrArg _ (View.readAt_full _ _ _)) (View.readAt_full _ _ _))

/-- every point multiplies the kept rows with its block of the weight. -/
theorem next_triple (E : Set ℕ) (K : PUnit → sProp 𝕄) (hc : ¬k0_cond1 i = 1#1) :
    iprop(bufs t a3 a4 a5 a7 a8 a9 x g w h z s ∗ (bufs t a3 a4 a5 a7 a8 a9 x g w h (k0_pay3 s w) s -∗ K ⟨⟩))
      ⊢ wp frame (wpE (defs₀ (F := F)) Variants.none t none) E (cc0_in_proj (F := F) i a3 h3 a4 h4 a5 h5 a6 h6 a7 h7 a8 h8 a9 h9) K := by
  rw [cc0_in_proj_eq_skeleton]
  unfold cc0_in_proj_skel bufs owns
  simp only [dif_neg hc]
  iintro ⟨⟨H3, H4, ⟨%f5, %e5, H5⟩, H7, ⟨%f8, %e8, H8⟩, ⟨%f9, %e9, H9⟩⟩, Hk⟩
  subst e5; subst e8; subst e9
  sl_exec
  sl_step
  iapply Hk
  iframe H3 H4
  isplitl [H5]; · iexists _; isplitr; rotate_left; · iexact H5
                  · ipureintro; rfl
  isplitl [H7]; · iexact H7
  isplitl [H8]
  · iexists _; isplitr; rotate_left
    · iexact H8
    · ipureintro; exact (View.read_writes_full _ _ _ _ _).trans (congr (congrArg _ (View.readAt_full _ _ _)) (View.readAt_full _ _ _))
  iexists _; isplitr; rotate_left
  · iexact H9
  · ipureintro; rfl

/-- A point, in one statement. -/
theorem body_triple (E : Set ℕ) (K : PUnit → sProp 𝕄) :
    iprop(bufs t a3 a4 a5 a7 a8 a9 x g w h z s ∗ (bufs t a3 a4 a5 a7 a8 a9 x g w (if k0_cond1 i = 1#1 then k0_pay1 x g else h)
        (k0_pay3 (if k0_cond1 i = 1#1 then k0_pay2 x g else s) w) (if k0_cond1 i = 1#1 then k0_pay2 x g else s) -∗ K ⟨⟩))
      ⊢ wp frame (wpE (defs₀ (F := F)) Variants.none t none) E (cc0_in_proj (F := F) i a3 h3 a4 h4 a5 h5 a6 h6 a7 h7 a8 h8 a9 h9) K := by
  by_cases hc : k0_cond1 i = 1#1
  · simp only [if_pos hc]
    exact first_triple t i a3 h3 a4 h4 a5 h5 a6 h6 a7 h7 a8 h8 a9 h9 x g w h z s E K hc
  · simp only [if_neg hc]
    exact next_triple t i a3 h3 a4 h4 a5 h5 a6 h6 a7 h7 a8 h8 a9 h9 x g w h z s E K hc

end Point

/-! ## What the points leave -/

variable (m : (ℓ : Loc nD τ sig) → Buf (Elt F) ℓ) (ρ : Dev nD → PrngReg)

theorem lt16 (t : Fin cfg0.N) : t.val < 16 := lt_of_lt_of_eq t.isLt (show cfg0.N = 16 from N_0)

/-- The first point of row block `r`. -/
def pt (r : ℕ) : Fin cfg0.N := ⟨4 * (r % 4), lt_of_lt_of_eq (by omega) (show 16 = cfg0.N from N_0.symm)⟩

theorem pt_of (t : Fin cfg0.N) (h : t.val % 4 = 0) : pt (t.val / 4) = t :=
  Fin.ext (by have := lt16 t; show 4 * (t.val / 4 % 4) = t.val; omega)

/-- The normed rows of row block `r`, as the result takes them; -/
def hAt (c : Dev nD) (r : ℕ) : Vec F S1024x1024 .bf16 := k0_pay1 (iblk m c 0 (pt r)) (iblk m c 1 (pt r))
/-- as the next points take them; -/
def sAt (c : Dev nD) (r : ℕ) : Vec F S1024x1024 .bf16 := k0_pay2 (iblk m c 0 (pt r)) (iblk m c 1 (pt r))
/-- and point `t`'s columns of their product. -/
def zAt (c : Dev nD) (t : Fin cfg0.N) : Vec F S1024x2560 .bf16 := k0_pay3 (sAt m c (t.val / 4)) (iblk m c 2 t)

theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)

theorem idle_3 : ∀ t : Fin cfg0.N, cfg0.idle 3 (cfg0.grid.coords t) = decide (t.val % 4 ≠ 0) :=
  (by decide +kernel : ∀ t : Fin grid0.N, (!(k0_cond1 (grid0.coords t) == 1#1)) = decide (t.val % 4 ≠ 0))

/-- The kept rows between points. -/
def inv (c : Dev nD) (n : ℕ) : sProp 𝕄 :=
  iprop((∃ s, ⌜n % 4 ≠ 0 → s = sAt m c (n / 4)⌝ ∗ owns c (Memref.whole cc0_scratch0) fullShare s) ∗ (∃ r, prngReg c r))

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hAt m c (t.val / 4)
    | ⟨4, _⟩ => zAt m c t
  Φ t := inv m c t.val
  q w := Pipeline.shareOf spec0 w
  owed _ := 0

theorem A_eq (c : Dev nD) (w : Fin cfg0.W) : (dats m 0 c).A w = V m c (Pipeline.arrRef spec0 w) := by dsimp only [dats]

theorem after_in (c : Dev nD) (t : Fin cfg0.N) : (dats m 0 c).after 0 t = iblk m c 0 t ∧ (dats m 0 c).after 1 t = iblk m c 1 t
    ∧ (dats m 0 c).after 2 t = iblk m c 2 t := by
  and_intros <;> dsimp only [dats]
theorem after_3 (c : Dev nD) (t : Fin cfg0.N) : (dats m 0 c).after 3 t = hAt m c (t.val / 4) := by dsimp only [dats]
theorem after_4 (c : Dev nD) (t : Fin cfg0.N) : (dats m 0 c).after 4 t = zAt m c t := by dsimp only [dats]

theorem before_in (c : Dev nD) (t : Fin cfg0.N) : (∀ d, (dats m 0 c).before 0 t d = iblk m c 0 t)
    ∧ (∀ d, (dats m 0 c).before 1 t d = iblk m c 1 t)
    ∧ (∀ d, (dats m 0 c).before 2 t d = iblk m c 2 t) :=
  ⟨before0_0_of m _ (A_eq m c 0) (fun _ => rfl) t, before0_1_of m _ (A_eq m c 1) (fun _ => rfl) t, before0_2_of m _ (A_eq m c 2) (fun _ => rfl) t⟩

/-- The normed rows' block keeps its contents to the end of its row block. -/
theorem before_3 (c : Dev nD) (t : Fin cfg0.N) (h : t.val % 4 ≠ 0) (d) : (dats m 0 c).before 3 t d = hAt m c (t.val / 4) :=
  Carry.carried (dats m 0 c) 3 (fun _ => rfl) (fun _ _ => rfl) (fun n => hAt m c (n / 4)) (fun n => n % 4 ≠ 0) (by omega)
    (fun t _ hg => ⟨by rw [Bool.eq_false_iff, Ne, flush0_3]; omega,
      fun hi => by
        rw [idle_3, decide_eq_true_eq] at hi
        exact ⟨hi, by rw [show (t.val + 1) / 4 = t.val / 4 from by omega]⟩,
      fun _ => by rw [after_3, show (t.val + 1) / 4 = t.val / 4 from by omega]⟩) t.val t.isLt h d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d)) ∗ (∃ d, owns c (st0_1 t) fullShare ((dats m 0 c).before 1 t d))
    ∗ (∃ d, owns c (st0_2 t) fullShare ((dats m 0 c).before 2 t d)) ∗ (∃ d, owns c (st0_3 t) fullShare ((dats m 0 c).before 3 t d))
    ∗ (∃ d, owns c (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

/-- The inputs' buffers are handed over as left. -/
theorem post_eq (c : Dev nD) (t : Fin cfg0.N) : bodyPost m c t
    = iprop(inv m c (t.val + 1) ∗ (dats m 0 c).owesAt () t.castSucc ∗ owns c (st0_0 t) fullShare (iblk m c 0 t)
      ∗ owns c (st0_1 t) fullShare (iblk m c 1 t) ∗ owns c (st0_2 t) fullShare (iblk m c 2 t)
      ∗ (dats m 0 c).leavesExact 3 t ∗ (dats m 0 c).leavesExact 4 t) := by
  unfold bodyPost
  rw [Carry.live (dats m 0 c) 0 t rfl, Carry.live (dats m 0 c) 1 t rfl, Carry.live (dats m 0 c) 2 t rfl]
  simp only [after_in m c t]
  rfl

theorem pre_eq (c : Dev nD) (t : Fin cfg0.N) : (dats m 0 c).Φ t.castSucc = inv m c t.val := rfl

/-- What the point leaves, found either way. -/
theorem left_h (c : Dev nD) (t : Fin cfg0.N) (h : Vec F S1024x1024 .bf16) (e : t.val % 4 ≠ 0 → h = hAt m c (t.val / 4)) :
    (if k0_cond1 (grid0.coords t) = 1#1 then k0_pay1 (iblk m c 0 t) (iblk m c 1 t) else h) = hAt m c (t.val / 4) := by
  by_cases h0 : t.val % 4 = 0
  · rw [if_pos ((cond1_iff t).mpr h0), hAt, pt_of t h0]
  · rw [if_neg (fun k => h0 ((cond1_iff t).mp k)), e h0]
theorem left_s (c : Dev nD) (t : Fin cfg0.N) (s : Vec F S1024x1024 .bf16) (e : t.val % 4 ≠ 0 → s = sAt m c (t.val / 4)) :
    (if k0_cond1 (grid0.coords t) = 1#1 then k0_pay2 (iblk m c 0 t) (iblk m c 1 t) else s) = sAt m c (t.val / 4) := by
  by_cases h0 : t.val % 4 = 0
  · rw [if_pos ((cond1_iff t).mpr h0), sAt, pt_of t h0]
  · rw [if_neg (fun k => h0 ((cond1_iff t).mp k)), e h0]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyAt0
  rw [post_eq]
  unfold bodyPre
  rw [pre_eq]
  simp only [before_in m c t]
  have hN := lt16 t
  unfold inv
  iintro ⟨⟨⟨%s, %hs, H9⟩, Hg⟩, Ho, ⟨%d0, H0⟩, ⟨%d1, H1⟩, ⟨%d2, H2⟩, ⟨%d3, H3⟩, ⟨%d4, H4⟩⟩
  have eh := left_h m c t ((dats m 0 c).before 3 t d3) (fun h => before_3 m c t h d3)
  have es := left_s m c t s hs
  iapply (body_triple c (grid0.coords t) (st0_0 t) _ (st0_1 t) _ (st0_2 t) _ _ _ (st0_3 t) _ (st0_4 t) _ (Memref.whole cc0_scratch0) _
    (iblk m c 0 t) (iblk m c 1 t) (iblk m c 2 t) ((dats m 0 c).before 3 t d3) ((dats m 0 c).before 4 t d4) s Set.univ _)
  rw [eh, es]
  unfold bufs
  isplitl [H0 H1 H2 H3 H4 H9]
  · iframe
  iintro ⟨H0, H1, H2, H3, H4, H9⟩
  isplitl [H9 Hg]
  · isplitl [H9]
    · iexists _
      isplitr; rotate_left
      · iexact H9
      · ipureintro; intro h
        rw [show (t.val + 1) / 4 = t.val / 4 from by omega]
    iexact Hg
  iframe Ho H0 H1 H2
  isplitl [H3]
  · iapply (Carry.hand (dats m 0 c) 3 t _ (fun _ => (after_3 m c t).symm) (fun hi => ⟨fun _ => (after_3 m c t).symm, d3,
      (before_3 m c t (by rw [idle_3, decide_eq_true_eq] at hi; exact hi) d3).symm⟩)); iexact H3
  · iapply (Carry.hand (dats m 0 c) 4 t _ (fun _ => (after_4 m c t).symm) (fun hi => absurd hi Bool.false_ne_true)); iexact H4

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scratch_eq (c : Dev nD) : (Pipeline.ΦA spec0 c : sProp 𝕄)
    = iprop((∃ d, owns c (Memref.whole cc0_scratch0) fullShare d) ∗ (∃ r, prngReg c r)) := by
  unfold Pipeline.ΦA; rw [scopedRest0_eq]; simp only [owns_whole]; try rfl

theorem hin (c : Dev nD) : (Pipeline.ΦA spec0 c : sProp 𝕄) ⊢ (dats m 0 c).Φ 0 := by
  rw [scratch_eq, show (dats m 0 c).Φ 0 = inv m c 0 from rfl]
  unfold inv
  iintro ⟨⟨%a, H0⟩, Hg⟩
  isplitl [H0]
  · iexists a
    isplitr
    · ipureintro; intro h; omega
    iexact H0
  iexact Hg

theorem hout (c : Dev nD) : (dats m 0 c).Φ (Fin.last cfg0.N) ⊢ (Pipeline.ΦA spec0 c : sProp 𝕄) := by
  rw [scratch_eq, show (dats m 0 c).Φ (Fin.last cfg0.N) = inv m c cfg0.N from rfl]
  unfold inv
  iintro ⟨⟨%a, %h, H0⟩, Hg⟩
  isplitl [H0]
  · iexists a; iexact H0
  iexact Hg

set_option backward.isDefEq.respectTransparency.types false in
/-- The launch: every array at what the points leave, every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments end as they began. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.ProjIdeal.Run

end
-- ==== Proof.ProjFrames.lean ====
/- The frames of the input projection: the program over the extended reals and the one over the bits are one text. -/
module

public import proofs.«01_k».proof.Proof.ProjRun
public import proofs.«01_k».proof.Proof.Gen.Proj
public import proofs.«01_k».proof.Defs
public import Idealize.ShloMosaic.Lib.Tactic

@[expose] public section

set_option maxRecDepth 16384

noncomputable section

namespace Cert.ProjFrames

open Idealize.ShloMosaic Idealize.ShloMosaic.TcCoe
open Idealize.SL.Sem

/-- A named constant of the bit program is the literal it was printed as. -/
local instance literal : Named Bits := ⟨fun _ _ _ b => Scalar.ofBits _ b⟩

theorem defs_eq : Cert.ProjIdeal.defs (F := Bits) = Cert.Proj.defs (F := Bits) := by sl_kernel_rfl
theorem main_eq : Cert.ProjIdeal.main (F := Bits) = Cert.Proj.main (F := Bits) := by sl_kernel_rfl

theorem ideal : Cert.quiescent_ProjIdeal := fun m ρ _ => Cert.ProjIdeal.Run.frame_run (F := Ideal) m ρ

theorem bits : Cert.quiescent_Proj := fun m ρ _ => by
  have h := Cert.ProjIdeal.Run.frame_run (F := Bits) m ρ
  rw [defs_eq, main_eq] at h
  exact h

end Cert.ProjFrames

end
-- ==== Proof.ProjValue.lean ====
/- The input projection behind its norm: kernel and plain program hold the same arrays. -/
module

public import proofs.«01_k».proof.Proof.ProjFrames
public import proofs.«01_k».proof.Proof.InProjBlock
public import proofs.«01_k».proof.Proof.Gen.ProjRefIdeal.Read
public import Idealize.ShloMosaic.Lib.Pipeline.ValueKit

@[expose] public section

set_option maxRecDepth 16384

noncomputable section

namespace Cert.ProjValue

open Idealize.ShloMosaic Idealize.ShloMosaic.TcCoe Idealize.SL.Sem
open Cert.InProjValue (rinv)

/-- A normed row, -/
def normed (x : FVec Ideal ⟨2, ![4096, 1024]⟩ .f32) (g : FVec Ideal ⟨1, ![1024]⟩ .f32) (r : Fin 4096) (j : Fin 1024) : EReal :=
  x (ix2 r j) * rinv (fun k => x (ix2 r k)) * g (ix1 j)
/-- and its product with the weight. -/
def product (x : FVec Ideal ⟨2, ![4096, 1024]⟩ .f32) (g : FVec Ideal ⟨1, ![1024]⟩ .f32) (w : FVec Ideal ⟨2, ![1024, 10240]⟩ .f32) (r : Fin 4096) (j : Fin 10240) : EReal :=
  ∑ k, normed x g r k * w (ix2 k j)

section kernel

open Cert.ProjIdeal Cert.ProjIdeal.Gen Cert.ProjIdeal.Run

theorem pay1_at (x : FVec Ideal S1024x1024 .f32) (g : FVec Ideal S1x1024 .f32) (r j : Fin 1024) :
    k0_pay1 (F := Ideal) x g (ix2 r j) = x (ix2 r j) * rinv (fun k => x (ix2 r k)) * g (ix2 0 j) := by
  pointwise [k0_pay1, rinv]
theorem pay2_at (x : FVec Ideal S1024x1024 .f32) (g : FVec Ideal S1x1024 .f32) (r j : Fin 1024) :
    k0_pay2 (F := Ideal) x g (ix2 r j) = x (ix2 r j) * rinv (fun k => x (ix2 r k)) * g (ix2 0 j) := by
  pointwise [k0_pay2, pay1_at]
theorem pay3_at (s : FVec Ideal S1024x1024 .bf16) (w : FVec Ideal S1x1024x2560 .bf16) (r : Fin 1024) (j : Fin 2560) :
    k0_pay3 (F := Ideal) s w (ix2 r j) = ∑ k : Fin 1024, s (ix2 r k) * w (ix3 0 k j) := by
  pointwise [k0_pay3]

variable (m : (ℓ : Loc nD τ sig) → Buf (Elt Ideal) ℓ) (c : Dev nD) (t : Fin cfg0.N)

/-- The windows' block indices at a grid point. -/
theorem idx : ∀ t : Fin cfg0.N, win0_0.index t = ![t.val / 4, 0] ∧ win0_1.index t = ![0, 0] ∧ win0_2.index t = ![t.val % 4, 0, 0]
    ∧ win0_3.index t = ![t.val / 4, 0] ∧ win0_4.index t = ![t.val / 4, t.val % 4] ∧ (pt (t.val / 4)).val / 4 = t.val / 4 :=
  (by decide +kernel : ∀ t : Fin grid0.N, _)

/-- Row `i` of a point's block and column `j` of its product's. -/
def row (i : Fin 1024) : Fin 4096 := ⟨t.val / 4 * 1024 + i.val, by have := lt16 t; omega⟩
def col (j : Fin 2560) : Fin 10240 := ⟨t.val % 4 * 2560 + j.val, by omega⟩

theorem row_first (i : Fin 1024) : row (pt (t.val / 4)) i = row t i :=
  Fin.ext (congrArg (· * 1024 + i.val) (idx t).2.2.2.2.2)

theorem x_at (i k : Fin 1024) : (iblk m c 0 t : FVec Ideal S1024x1024 .f32) (ix2 i k) = m ((c : Thread nD τ).loc main_arg0) (ix2 (row t i) k) := by
  blk_point [iblk, V, idx t, row]
theorem g_at (k : Fin 1024) : (iblk m c 1 t : FVec Ideal S1x1024 .f32) (ix2 0 k) = m ((c : Thread nD τ).loc main_arg1) (ix1 k) := by
  blk_point [iblk, V, idx t]
theorem w_at (k : Fin 1024) (j : Fin 2560) : (iblk m c 2 t : FVec Ideal S1x1024x2560 .bf16) (ix3 0 k j) = m ((c : Thread nD τ).loc main_arg2) (ix2 k (col t j)) := by
  blk_point [iblk, V, idx t, col]

theorem left_h (r j : Fin 1024) : hAt m c (t.val / 4) (ix2 r j)
    = normed (m ((c : Thread nD τ).loc main_arg0)) (m ((c : Thread nD τ).loc main_arg1)) (row t r) j := by
  unfold hAt normed
  refine (pay1_at _ _ _ _).trans ?_
  simp only [x_at, g_at, row_first]
theorem left_s (r j : Fin 1024) : sAt m c (t.val / 4) (ix2 r j)
    = normed (m ((c : Thread nD τ).loc main_arg0)) (m ((c : Thread nD τ).loc main_arg1)) (row t r) j := by
  unfold sAt normed
  refine (pay2_at _ _ _ _).trans ?_
  simp only [x_at, g_at, row_first]
theorem left_z (r : Fin 1024) (j : Fin 2560) : zAt m c t (ix2 r j)
    = product (m ((c : Thread nD τ).loc main_arg0)) (m ((c : Thread nD τ).loc main_arg1)) (m ((c : Thread nD τ).loc main_arg2)) (row t r) (col t j) := by
  unfold zAt product
  refine (pay3_at _ _ _ _).trans (Finset.sum_congr rfl fun k _ => ?_)
  rw [left_s, w_at]

/-- Where each output window's block sits. -/
theorem out_h (r j : Fin 1024) : (win0_3.blk t).view.emb (ix2 r j) = ix2 (row t r) j := by
  blk_ext [idx t, row]
theorem out_z (r : Fin 1024) (j : Fin 2560) : (win0_4.blk t).view.emb (ix2 r j) = ix2 (row t r) (col t j) := by
  blk_ext [idx t, row, col]

omit t

theorem final_h : (dats m 0 c).arrAt 3 (cfgs 0).N
    = fun i => normed (m ((c : Thread nD τ).loc main_arg0)) (m ((c : Thread nD τ).loc main_arg1)) (i 0) (i 1) := by
  refine (dats m 0 c).arrAt_eq_of_covers 3 _ (by decide +kernel) fun t hf y => ?_
  blk_simp
  rw [after_3]
  idx_vars y
  rw [out_h]
  exact left_h m c t y0 y1

theorem final_z : (dats m 0 c).arrAt 4 (cfgs 0).N
    = fun i => product (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after_4]
  idx_vars y
  rw [out_z]
  exact left_z m c t y0 y1

end kernel

section plain

open Cert.ProjRefIdeal.Read

variable (x : FVec Ideal ⟨2, ![4096, 1024]⟩ .f32) (g : FVec Ideal ⟨1, ![1024]⟩ .f32) (w : FVec Ideal ⟨2, ![1024, 10240]⟩ .f32) (r : Fin 4096)

theorem plain_rows (j : Fin 1024) : val_main_v12 (F := Ideal) x g (ix2 r j) = normed x g r j := by
  pointwise [val_main_v12, val_main_v11, val_main_v10, val_main_v9, val_main_v8, val_main_v7, val_main_v6, val_main_v5, val_main_v4, val_main_v3, val_main_v2, val_main_v1,
    val_main_v0, val_main_cst, val_main_cst_0, val_main_cst_1, normed, rinv]
theorem plain_h (j : Fin 1024) : val_main_v13 (F := Ideal) x g (ix2 r j) = normed x g r j := by
  pointwise [val_main_v13, plain_rows]
theorem plain_z (j : Fin 10240) : val_main_v15 (F := Ideal) x g w (ix2 r j) = product x g w r j := by
  pointwise [val_main_v15, val_main_v14, plain_rows, product]

end plain

open Cert.ProjIdeal in
/-- The kernel over the reals computes the plain program's arrays. -/
theorem value : Cert.algebraic_ProjIdeal_ProjRefIdeal := fun m ρ m' ρ' _ hag =>
  ⟨fun c i => normed (m ((c.tc : Thread nD τ).loc main_arg0)) (m ((c.tc : Thread nD τ).loc main_arg1)) (i 0) (i 1),
   fun c i => product (m ((c.tc : Thread nD τ).loc main_arg0)) (m ((c.tc : Thread nD τ).loc main_arg1)) (m ((c.tc : Thread nD τ).loc main_arg2)) (i 0) (i 1),
   (θ_run _ _ _).mono (fun r h c => ⟨((h.1.1 c).1 3).trans (final_h m c), ((h.1.1 c).1 4).trans (final_z m c), h.2.1 c⟩)
     (θ_run_and (Run.run_quiescent m ρ) (Run.frame_run m ρ)),
   (θ_run _ _ _).mono (fun r h c => by
      obtain ⟨a0, a1, a2, a3⟩ := hag c
      obtain ⟨h0, h1, hargs⟩ := h c
      refine ⟨h0.trans ((Cert.ProjRefIdeal.Read.val_main_v13_eq _ _).trans ?_), h1.trans ((Cert.ProjRefIdeal.Read.val_main_v15_eq _ _ _).trans ?_), hargs⟩
      · exact (congr (congrArg _ a0) a1).trans (funext fun i => by idx_vars i; exact plain_h _ _ _ _)
      · exact (congr (congr (congrArg _ a0) a1) a2).trans (funext fun i => by idx_vars i; exact plain_z _ _ _ _ _))
     (Cert.ProjRefIdeal.Value.run (F := Ideal) m' ρ')⟩

end Cert.ProjValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.LossEq
public import proofs.«01_k».proof.Proof.MixSFrames
public import proofs.«01_k».proof.Proof.MixSValue
public import proofs.«01_k».proof.Proof.InProjValue
public import proofs.«01_k».proof.Proof.Wff2Value
public import proofs.«01_k».proof.Proof.MixFValue
public import proofs.«01_k».proof.Proof.FfnFrames
public import proofs.«01_k».proof.Proof.FfnValue
public import proofs.«01_k».proof.Proof.MixOutFrames
public import proofs.«01_k».proof.Proof.MixOutValue
public import proofs.«01_k».proof.Proof.MixAValue
public import proofs.«01_k».proof.Proof.MergeValue
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixS.Frame
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSIdeal.Frame
public import proofs.«01_k».proof.Proof.Gen.MixSRefIdeal
public import proofs.«01_k».proof.Proof.Gen.MixSRefIdeal.Read
public import proofs.«01_k».proof.Proof.Gen.Pre_mix_s_finite
public import proofs.«01_k».proof.Proof.Gen.InProj.Frame
public import proofs.«01_k».proof.Proof.Gen.InProjIdeal.Value
public import proofs.«01_k».proof.Proof.Gen.InProjRefIdeal.Read
public import proofs.«01_k».proof.Proof.Gen.Pre_in_proj_finite
public import proofs.«01_k».proof.Proof.Gen.Wff2.Frame
public import proofs.«01_k».proof.Proof.Gen.Wff2Ideal.Value
public import proofs.«01_k».proof.Proof.Gen.Wff2RefIdeal.Read
public import proofs.«01_k».proof.Proof.Gen.MixF.Frame
public import proofs.«01_k».proof.Proof.Gen.MixFIdeal.Value
public import proofs.«01_k».proof.Proof.Gen.MixFRefIdeal.Read
public import proofs.«01_k».proof.Proof.Gen.Ffn.Frame
public import proofs.«01_k».proof.Proof.Gen.FfnIdeal.Skeleton
public import proofs.«01_k».proof.Proof.Gen.FfnIdeal.Frame
public import proofs.«01_k».proof.Proof.Gen.FfnRefIdeal.Read
public import proofs.«01_k».proof.Proof.Gen.Pre_ffn_finite
public import proofs.«01_k».proof.Proof.Gen.MixOut.Frame
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Read
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Read
public import proofs.«01_k».proof.Proof.Gen.Win.Frame
public import proofs.«01_k».proof.Proof.Gen.WinIdeal.Frame
public import proofs.«01_k».proof.Proof.Gen.WinIdeal.Value
public import proofs.«01_k».proof.Proof.Gen.WinRefIdeal.Read
public import proofs.«01_k».proof.Proof.Gen.Proj.Frame
public import proofs.«01_k».proof.Proof.Gen.ProjIdeal.Skeleton
public import proofs.«01_k».proof.Proof.Gen.ProjIdeal.Points
public import proofs.«01_k».proof.Proof.Gen.ProjIdeal.Frame
public import proofs.«01_k».proof.Proof.Gen.ProjRefIdeal.Read
public import proofs.«01_k».proof.Proof.AdamValue
public import proofs.«01_k».proof.Proof.WinValue
public import proofs.«01_k».proof.Proof.ProjValue
public import proofs.«01_k».proof.Proof.Gen.MixOutIdeal.Skeleton
public import proofs.«01_k».proof.Proof.Gen.MixOutIdeal.Frame
public import proofs.«01_k».proof.Proof.Gen.MixOutRefIdeal.Read
public import proofs.«01_k».proof.Proof.Gen.Pre_mix_out_finite
public import proofs.«01_k».proof.Proof.Gen.MixA.Frame
public import proofs.«01_k».proof.Proof.Gen.MixA.Loops
public import proofs.«01_k».proof.Proof.Gen.MixAIdeal.Skeleton
public import proofs.«01_k».proof.Proof.Gen.MixAIdeal.Loops
public import proofs.«01_k».proof.Proof.Gen.MixAIdeal.Points
public import proofs.«01_k».proof.Proof.Gen.MixAIdeal.Frame
public import proofs.«01_k».proof.Proof.Gen.MixARefIdeal.Read
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The plain program ends with its argument arrays unchanged and no counter raised. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The loss kernel over the reals computes the loss and its gradient. -/
theorem value_loss : Cert.algebraic_KernelIdeal_ReferenceIdeal := fun m ρ m' ρ' _ hag =>
  ⟨fun c => Cert.KernelIdeal.Loss.grad (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
   fun c _ => Cert.KernelIdeal.Loss.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
   (θ_run _ _ _).mono (fun r h c => ⟨(h c).1.trans (Cert.KernelIdeal.Loss.final_grad m c),
      (h c).2.1.trans (funext (Cert.KernelIdeal.Loss.final_loss m c)), (h c).2.2⟩) (Cert.KernelIdeal.Value.run_blocks (F := Ideal) m ρ),
   (θ_run _ _ _).mono (fun r h c => ⟨(h c).1.trans (by rw [(hag c).1, (hag c).2]; exact Cert.KernelIdeal.Loss.refGrad_eq _ _),
      (h c).2.1.trans (by rw [(hag c).1, (hag c).2]; exact funext (Cert.KernelIdeal.Loss.refLoss_eq _ _)), (h c).2.2⟩)
      (Cert.ReferenceIdeal.Value.run (F := Ideal) m' ρ')⟩

/-- The plain program of the spatial mixing ends with its argument arrays unchanged and no counter raised. -/
theorem frame_mix_s_plain : Cert.quiescent_MixSRefIdeal := fun m ρ _ =>
  (θ_run Cert.MixSRefIdeal.defs _ _).mono (fun r h => ⟨fun c => (h c).2.2.2.2.2, sem_eq_zero_of_no_sems (by decide) r.2⟩)
    (Cert.MixSRefIdeal.Value.run (F := Ideal) m ρ)

/-- The plain program of the input projection's gradient ends with its argument arrays unchanged and no counter raised. -/
theorem frame_in_proj_plain : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-- The plain program of the weight gradient ends with its argument arrays unchanged and no counter raised. -/
theorem frame_wff2_plain : Cert.quiescent_Wff2RefIdeal := fun m ρ _ =>
  (θ_run Cert.Wff2RefIdeal.defs _ _).mono (fun r h => ⟨fun c => (h c).2, sem_eq_zero_of_no_sems (by decide) r.2⟩)
    (Cert.Wff2RefIdeal.Value.run (F := Ideal) m ρ)

/-- The plain program of the spatial-mixing gate ends with its argument arrays unchanged and no counter raised. -/
theorem frame_mix_f_plain : Cert.quiescent_MixFRefIdeal := fun m ρ _ =>
  (θ_run Cert.MixFRefIdeal.defs _ _).mono (fun r h => ⟨fun c => (h c).2, sem_eq_zero_of_no_sems (by decide) r.2⟩)
    (Cert.MixFRefIdeal.Value.run (F := Ideal) m ρ)

/-- The plain program of the feed-forward gradient ends with its argument arrays unchanged and no counter raised. -/
theorem frame_ffn_plain : Cert.quiescent_FfnRefIdeal := fun m ρ _ =>
  (θ_run Cert.FfnRefIdeal.defs _ _).mono (fun r h => ⟨fun c => (h c).2.2.2.2.2, sem_eq_zero_of_no_sems (by decide) r.2⟩)
    (Cert.FfnRefIdeal.Value.run (F := Ideal) m ρ)

/-- The plain program of the branch mix's gradient ends with its argument arrays unchanged and no counter raised. -/
theorem frame_mix_out_plain : Cert.quiescent_MixOutRefIdeal := fun m ρ _ =>
  (θ_run Cert.MixOutRefIdeal.defs _ _).mono (fun r h => ⟨fun c => (h c).2.2.2.2.2, sem_eq_zero_of_no_sems (by decide) r.2⟩)
    (Cert.MixOutRefIdeal.Value.run (F := Ideal) m ρ)

/-- The plain program of the short convolution's gradient ends with its argument arrays unchanged and no counter raised. -/
theorem frame_mix_a_plain : Cert.quiescent_MixARefIdeal := fun m ρ _ =>
  (θ_run Cert.MixARefIdeal.defs _ _).mono (fun r h => ⟨fun c => (h c).2.2, sem_eq_zero_of_no_sems (by decide) r.2⟩)
    (Cert.MixARefIdeal.Value.run (F := Ideal) m ρ)

/-- The plain program of the forward branch mix ends with its argument arrays unchanged and no counter raised. -/
theorem frame_merge_plain : Cert.quiescent_MergeRefIdeal := fun m ρ _ =>
  (θ_run Cert.MergeRefIdeal.defs _ _).mono (fun r h => ⟨fun c => (h c).2.2.2.2, sem_eq_zero_of_no_sems (by decide) r.2⟩)
    (Cert.MergeRefIdeal.Value.run (F := Ideal) m ρ)

/-- The plain program of the optimiser's update ends with its argument arrays unchanged and no counter raised. -/
theorem frame_adam_plain : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

/-- The plain program of the input projection's weight gradient ends with its argument arrays unchanged and no counter raised. -/
theorem frame_win_plain : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

/-- The plain program of the input projection ends with its argument arrays unchanged and no counter raised. -/
theorem frame_proj_plain : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

/-- The two reciprocals of the optimiser are those of the words the plain program divides by. -/
theorem preserves_adam : Cert.preserves_Adam_AdamIdeal :=
  ⟨IdealRules.named_const.statement Cert.AdamIdeal.κ "inv_c1" .f32 0x3FC48605#32 _ rfl,
   IdealRules.named_const.statement Cert.AdamIdeal.κ "inv_c2" .f32 0x42C8E6D3#32 _ rfl⟩

/-- The two constants of the tanh polynomial are the numbers their literals round. -/
theorem preserves_mix_s : Cert.preserves_MixS_MixSIdeal :=
  ⟨IdealRules.named_const.statement Cert.MixSIdeal.κ "gelu_c" .f32 0x3D372713#32 _ rfl,
   IdealRules.named_const.statement Cert.MixSIdeal.κ "gelu_3c" .f32 0x3E095D4F#32 _ rfl⟩

theorem claim : Cert.Claim := ⟨Cert.Kernel.Gen.facts, Cert.KernelIdeal.Gen.facts, Cert.ReferenceIdeal.Gen.facts,
  Cert.MixS.Gen.facts, Cert.MixSIdeal.Gen.facts, Cert.MixSRefIdeal.Gen.facts, Cert.InProj.Gen.facts, Cert.InProjIdeal.Gen.facts, Cert.InProjRefIdeal.Gen.facts,
  Cert.Wff2.Gen.facts, Cert.Wff2Ideal.Gen.facts, Cert.Wff2RefIdeal.Gen.facts,
  Cert.MixF.Gen.facts, Cert.MixFIdeal.Gen.facts, Cert.MixFRefIdeal.Gen.facts,
  Cert.Ffn.Gen.facts, Cert.FfnIdeal.Gen.facts, Cert.FfnRefIdeal.Gen.facts,
  Cert.MixOut.Gen.facts, Cert.MixOutIdeal.Gen.facts, Cert.MixOutRefIdeal.Gen.facts,
  Cert.MixA.Gen.facts, Cert.MixAIdeal.Gen.facts, Cert.MixARefIdeal.Gen.facts,
  Cert.Merge.Gen.facts, Cert.MergeIdeal.Gen.facts, Cert.MergeRefIdeal.Gen.facts,
  Cert.Adam.Gen.facts, Cert.AdamIdeal.Gen.facts, Cert.AdamRefIdeal.Gen.facts, Cert.Win.Gen.facts, Cert.WinIdeal.Gen.facts, Cert.WinRefIdeal.Gen.facts,
  Cert.Proj.Gen.facts, Cert.ProjIdeal.Gen.facts, Cert.ProjRefIdeal.Gen.facts, Cert.Pre_mix_s_finite.Gen.facts, Cert.Pre_in_proj_finite.Gen.facts, Cert.Pre_ffn_finite.Gen.facts,
  Cert.Pre_mix_out_finite.Gen.facts,
  fun m ρ _ => Cert.Kernel.Gen.frame m ρ, fun m ρ _ => Cert.KernelIdeal.Gen.frame m ρ, frame_reference,
  Cert.MixSFrames.bits, Cert.MixSFrames.ideal, Cert.MixSFrames.ideal_pre, frame_mix_s_plain, fun m ρ _ => frame_mix_s_plain m ρ trivial,
  fun m ρ _ => Cert.InProj.Gen.frame m ρ, fun m ρ _ => Cert.InProjIdeal.Gen.frame m ρ, fun m ρ _ => Cert.InProjIdeal.Gen.frame m ρ,
  frame_in_proj_plain, fun m ρ _ => frame_in_proj_plain m ρ trivial,
  fun m ρ _ => Cert.Wff2.Gen.frame m ρ, fun m ρ _ => Cert.Wff2Ideal.Gen.frame m ρ, frame_wff2_plain,
  fun m ρ _ => Cert.MixF.Gen.frame m ρ, fun m ρ _ => Cert.MixFIdeal.Gen.frame m ρ, frame_mix_f_plain,
  Cert.FfnFrames.bits, Cert.FfnFrames.ideal, Cert.FfnFrames.ideal_pre, frame_ffn_plain, fun m ρ _ => frame_ffn_plain m ρ trivial,
  Cert.MixOutFrames.bits, Cert.MixOutFrames.ideal, Cert.MixOutFrames.ideal_pre, frame_mix_out_plain, fun m ρ _ => frame_mix_out_plain m ρ trivial,
  Cert.MixAFrames.bits, Cert.MixAFrames.ideal, frame_mix_a_plain,
  fun m ρ _ => Cert.Merge.Gen.frame m ρ, fun m ρ _ => Cert.MergeIdeal.Gen.frame m ρ, frame_merge_plain,
  fun m ρ _ => Cert.Adam.Gen.frame m ρ, fun m ρ _ => Cert.AdamIdeal.Gen.frame m ρ, frame_adam_plain,
  fun m ρ _ => Cert.Win.Gen.frame m ρ, fun m ρ _ => Cert.WinIdeal.Gen.frame m ρ, frame_win_plain,
  Cert.ProjFrames.bits, Cert.ProjFrames.ideal, frame_proj_plain,
  trivial, value_loss, preserves_mix_s, Cert.MixSValue.value, trivial, Cert.InProjValue.value, trivial, Cert.Wff2Value.value,
  trivial, Cert.MixFValue.value, trivial, Cert.FfnValue.value, trivial, Cert.MixOutValue.value,
  trivial, Cert.MixAValue.value, trivial, Cert.MergeValue.value, preserves_adam, Cert.AdamValue.value, trivial, Cert.WinValue.value, trivial, Cert.ProjValue.value⟩

end Cert.Proof

end
